-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_InWide (m : (ℓ : Loc Cert.InWide.nD Cert.InWide.τ Cert.InWide.sig) → Buf (Elt Bits) ℓ) : Prop :=
  True

def Pre_InWideIdeal (m : (ℓ : Loc Cert.InWideIdeal.nD Cert.InWideIdeal.τ Cert.InWideIdeal.sig) → Buf (Elt Ideal) ℓ) : Prop :=
  True

def Pre_InWideRefIdeal (m : (ℓ : Loc Cert.InWideRefIdeal.nD Cert.InWideRefIdeal.τ Cert.InWideRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxRefIdeal (m : (ℓ : Loc Cert.SquareDxRefIdeal.nD Cert.SquareDxRefIdeal.τ Cert.SquareDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_ResidualDx (m : (ℓ : Loc Cert.ResidualDx.nD Cert.ResidualDx.τ Cert.ResidualDx.sig) → Buf (Elt Bits) ℓ) : Prop :=
  True

def Pre_ResidualDxIdeal (m : (ℓ : Loc Cert.ResidualDxIdeal.nD Cert.ResidualDxIdeal.τ Cert.ResidualDxIdeal.sig) → Buf (Elt Ideal) ℓ) : Prop :=
  True

def Pre_ResidualDxRefIdeal (m : (ℓ : Loc Cert.ResidualDxRefIdeal.nD Cert.ResidualDxRefIdeal.τ Cert.ResidualDxRefIdeal.sig) → Buf (Elt Ideal) ℓ) : Prop :=
  True

def Pre_ResidualDw (m : (ℓ : Loc Cert.ResidualDw.nD Cert.ResidualDw.τ Cert.ResidualDw.sig) → Buf (Elt Bits) ℓ) : Prop :=
  True

def Pre_ResidualDwIdeal (m : (ℓ : Loc Cert.ResidualDwIdeal.nD Cert.ResidualDwIdeal.τ Cert.ResidualDwIdeal.sig) → Buf (Elt Ideal) ℓ) : Prop :=
  True

def Pre_ResidualDwRefIdeal (m : (ℓ : Loc Cert.ResidualDwRefIdeal.nD Cert.ResidualDwRefIdeal.τ Cert.ResidualDwRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_MlaOutDw (m : (ℓ : Loc Cert.MlaOutDw.nD Cert.MlaOutDw.τ Cert.MlaOutDw.sig) → Buf (Elt Bits) ℓ) : Prop :=
  True

def Pre_MlaOutDwIdeal (m : (ℓ : Loc Cert.MlaOutDwIdeal.nD Cert.MlaOutDwIdeal.τ Cert.MlaOutDwIdeal.sig) → Buf (Elt Ideal) ℓ) : Prop :=
  True

def Pre_MlaOutDwRefIdeal (m : (ℓ : Loc Cert.MlaOutDwRefIdeal.nD Cert.MlaOutDwRefIdeal.τ Cert.MlaOutDwRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_QbDx (m : (ℓ : Loc Cert.QbDx.nD Cert.QbDx.τ Cert.QbDx.sig) → Buf (Elt Bits) ℓ) : Prop :=
  True

def Pre_QbDxIdeal (m : (ℓ : Loc Cert.QbDxIdeal.nD Cert.QbDxIdeal.τ Cert.QbDxIdeal.sig) → Buf (Elt Ideal) ℓ) : Prop :=
  True

def Pre_QbDxRefIdeal (m : (ℓ : Loc Cert.QbDxRefIdeal.nD Cert.QbDxRefIdeal.τ Cert.QbDxRefIdeal.sig) → Buf (Elt Ideal) ℓ) : Prop :=
  True

def Pre_QbDw (m : (ℓ : Loc Cert.QbDw.nD Cert.QbDw.τ Cert.QbDw.sig) → Buf (Elt Bits) ℓ) : Prop :=
  True

def Pre_QbDwIdeal (m : (ℓ : Loc Cert.QbDwIdeal.nD Cert.QbDwIdeal.τ Cert.QbDwIdeal.sig) → Buf (Elt Ideal) ℓ) : Prop :=
  True

def Pre_QbDwRefIdeal (m : (ℓ : Loc Cert.QbDwRefIdeal.nD Cert.QbDwRefIdeal.τ Cert.QbDwRefIdeal.sig) → Buf (Elt Ideal) ℓ) : Prop :=
  True

def Pre_KvbDx (m : (ℓ : Loc Cert.KvbDx.nD Cert.KvbDx.τ Cert.KvbDx.sig) → Buf (Elt Bits) ℓ) : Prop :=
  True

def Pre_KvbDxIdeal (m : (ℓ : Loc Cert.KvbDxIdeal.nD Cert.KvbDxIdeal.τ Cert.KvbDxIdeal.sig) → Buf (Elt Ideal) ℓ) : Prop :=
  True

def Pre_KvbDxRefIdeal (m : (ℓ : Loc Cert.KvbDxRefIdeal.nD Cert.KvbDxRefIdeal.τ Cert.KvbDxRefIdeal.sig) → Buf (Elt Ideal) ℓ) : Prop :=
  True

def Pre_KvbDw (m : (ℓ : Loc Cert.KvbDw.nD Cert.KvbDw.τ Cert.KvbDw.sig) → Buf (Elt Bits) ℓ) : Prop :=
  True

def Pre_KvbDwIdeal (m : (ℓ : Loc Cert.KvbDwIdeal.nD Cert.KvbDwIdeal.τ Cert.KvbDwIdeal.sig) → Buf (Elt Ideal) ℓ) : Prop :=
  True

def Pre_KvbDwRefIdeal (m : (ℓ : Loc Cert.KvbDwRefIdeal.nD Cert.KvbDwRefIdeal.τ Cert.KvbDwRefIdeal.sig) → Buf (Elt Ideal) ℓ) : Prop :=
  True

def Pre_CrossDx (m : (ℓ : Loc Cert.CrossDx.nD Cert.CrossDx.τ Cert.CrossDx.sig) → Buf (Elt Bits) ℓ) : Prop :=
  True

def Pre_CrossDxIdeal (m : (ℓ : Loc Cert.CrossDxIdeal.nD Cert.CrossDxIdeal.τ Cert.CrossDxIdeal.sig) → Buf (Elt Ideal) ℓ) : Prop :=
  True

def Pre_CrossDxRefIdeal (m : (ℓ : Loc Cert.CrossDxRefIdeal.nD Cert.CrossDxRefIdeal.τ Cert.CrossDxRefIdeal.sig) → Buf (Elt Ideal) ℓ) : Prop :=
  True

def Pre_CrossDw (m : (ℓ : Loc Cert.CrossDw.nD Cert.CrossDw.τ Cert.CrossDw.sig) → Buf (Elt Bits) ℓ) : Prop :=
  True

def Pre_CrossDwIdeal (m : (ℓ : Loc Cert.CrossDwIdeal.nD Cert.CrossDwIdeal.τ Cert.CrossDwIdeal.sig) → Buf (Elt Ideal) ℓ) : Prop :=
  True

def Pre_CrossDwRefIdeal (m : (ℓ : Loc Cert.CrossDwRefIdeal.nD Cert.CrossDwRefIdeal.τ Cert.CrossDwRefIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbRefIdeal (m : (ℓ : Loc Cert.QbRefIdeal.nD Cert.QbRefIdeal.τ Cert.QbRefIdeal.sig) → Buf (Elt Ideal) ℓ) : Prop :=
  True

def Pre_Kvb (m : (ℓ : Loc Cert.Kvb.nD Cert.Kvb.τ Cert.Kvb.sig) → Buf (Elt Bits) ℓ) : Prop :=
  True

def Pre_KvbIdeal (m : (ℓ : Loc Cert.KvbIdeal.nD Cert.KvbIdeal.τ Cert.KvbIdeal.sig) → Buf (Elt Ideal) ℓ) : Prop :=
  True

def Pre_KvbRefIdeal (m : (ℓ : Loc Cert.KvbRefIdeal.nD Cert.KvbRefIdeal.τ Cert.KvbRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_InLatent (m : (ℓ : Loc Cert.InLatent.nD Cert.InLatent.τ Cert.InLatent.sig) → Buf (Elt Bits) ℓ) : Prop :=
  True

def Pre_InLatentIdeal (m : (ℓ : Loc Cert.InLatentIdeal.nD Cert.InLatentIdeal.τ Cert.InLatentIdeal.sig) → Buf (Elt Ideal) ℓ) : Prop :=
  True

def Pre_InLatentRefIdeal (m : (ℓ : Loc Cert.InLatentRefIdeal.nD Cert.InLatentRefIdeal.τ Cert.InLatentRefIdeal.sig) → Buf (Elt Ideal) ℓ) : Prop :=
  True

def Pre_InKv (m : (ℓ : Loc Cert.InKv.nD Cert.InKv.τ Cert.InKv.sig) → Buf (Elt Bits) ℓ) : Prop :=
  True

def Pre_InKvIdeal (m : (ℓ : Loc Cert.InKvIdeal.nD Cert.InKvIdeal.τ Cert.InKvIdeal.sig) → Buf (Elt Ideal) ℓ) : Prop :=
  True

def Pre_InKvRefIdeal (m : (ℓ : Loc Cert.InKvRefIdeal.nD Cert.InKvRefIdeal.τ Cert.InKvRefIdeal.sig) → Buf (Elt Ideal) ℓ) : Prop :=
  True

def Pre_InNarrow (m : (ℓ : Loc Cert.InNarrow.nD Cert.InNarrow.τ Cert.InNarrow.sig) → Buf (Elt Bits) ℓ) : Prop :=
  True

def Pre_InNarrowIdeal (m : (ℓ : Loc Cert.InNarrowIdeal.nD Cert.InNarrowIdeal.τ Cert.InNarrowIdeal.sig) → Buf (Elt Ideal) ℓ) : Prop :=
  True

def Pre_InNarrowRefIdeal (m : (ℓ : Loc Cert.InNarrowRefIdeal.nD Cert.InNarrowRefIdeal.τ Cert.InNarrowRefIdeal.sig) → Buf (Elt Ideal) ℓ) : Prop :=
  True

def Pre_XattnOut (m : (ℓ : Loc Cert.XattnOut.nD Cert.XattnOut.τ Cert.XattnOut.sig) → Buf (Elt Bits) ℓ) : Prop :=
  True

def Pre_XattnOutIdeal (m : (ℓ : Loc Cert.XattnOutIdeal.nD Cert.XattnOutIdeal.τ Cert.XattnOutIdeal.sig) → Buf (Elt Ideal) ℓ) : Prop :=
  True

def Pre_XattnOutRefIdeal (m : (ℓ : Loc Cert.XattnOutRefIdeal.nD Cert.XattnOutRefIdeal.τ Cert.XattnOutRefIdeal.sig) → Buf (Elt Ideal) ℓ) : Prop :=
  True

def Pre_XattnOutDw (m : (ℓ : Loc Cert.XattnOutDw.nD Cert.XattnOutDw.τ Cert.XattnOutDw.sig) → Buf (Elt Bits) ℓ) : Prop :=
  True

def Pre_XattnOutDwIdeal (m : (ℓ : Loc Cert.XattnOutDwIdeal.nD Cert.XattnOutDwIdeal.τ Cert.XattnOutDwIdeal.sig) → Buf (Elt Ideal) ℓ) : Prop :=
  True

def Pre_XattnOutDwRefIdeal (m : (ℓ : Loc Cert.XattnOutDwRefIdeal.nD Cert.XattnOutDwRefIdeal.τ Cert.XattnOutDwRefIdeal.sig) → Buf (Elt Ideal) ℓ) : Prop :=
  True

def Pre_InDwLayer1 (m : (ℓ : Loc Cert.InDwLayer1.nD Cert.InDwLayer1.τ Cert.InDwLayer1.sig) → Buf (Elt Bits) ℓ) : Prop :=
  True

def Pre_InDwLayer1Ideal (m : (ℓ : Loc Cert.InDwLayer1Ideal.nD Cert.InDwLayer1Ideal.τ Cert.InDwLayer1Ideal.sig) → Buf (Elt Ideal) ℓ) : Prop :=
  True

def Pre_InDwLayer1RefIdeal (m : (ℓ : Loc Cert.InDwLayer1RefIdeal.nD Cert.InDwLayer1RefIdeal.τ Cert.InDwLayer1RefIdeal.sig) → Buf (Elt Ideal) ℓ) : Prop :=
  True

def Pre_FfnInDwLayer1 (m : (ℓ : Loc Cert.FfnInDwLayer1.nD Cert.FfnInDwLayer1.τ Cert.FfnInDwLayer1.sig) → Buf (Elt Bits) ℓ) : Prop :=
  True

def Pre_FfnInDwLayer1Ideal (m : (ℓ : Loc Cert.FfnInDwLayer1Ideal.nD Cert.FfnInDwLayer1Ideal.τ Cert.FfnInDwLayer1Ideal.sig) → Buf (Elt Ideal) ℓ) : Prop :=
  True

def Pre_FfnInDwLayer1RefIdeal (m : (ℓ : Loc Cert.FfnInDwLayer1RefIdeal.nD Cert.FfnInDwLayer1RefIdeal.τ Cert.FfnInDwLayer1RefIdeal.sig) → Buf (Elt Ideal) ℓ) : Prop :=
  True

def Pre_FfnOutDwLayer1 (m : (ℓ : Loc Cert.FfnOutDwLayer1.nD Cert.FfnOutDwLayer1.τ Cert.FfnOutDwLayer1.sig) → Buf (Elt Bits) ℓ) : Prop :=
  True

def Pre_FfnOutDwLayer1Ideal (m : (ℓ : Loc Cert.FfnOutDwLayer1Ideal.nD Cert.FfnOutDwLayer1Ideal.τ Cert.FfnOutDwLayer1Ideal.sig) → Buf (Elt Ideal) ℓ) : Prop :=
  True

def Pre_FfnOutDwLayer1RefIdeal (m : (ℓ : Loc Cert.FfnOutDwLayer1RefIdeal.nD Cert.FfnOutDwLayer1RefIdeal.τ Cert.FfnOutDwLayer1RefIdeal.sig) → Buf (Elt Ideal) ℓ) : Prop :=
  True

def Pre_InDwLayer2 (m : (ℓ : Loc Cert.InDwLayer2.nD Cert.InDwLayer2.τ Cert.InDwLayer2.sig) → Buf (Elt Bits) ℓ) : Prop :=
  True

def Pre_InDwLayer2Ideal (m : (ℓ : Loc Cert.InDwLayer2Ideal.nD Cert.InDwLayer2Ideal.τ Cert.InDwLayer2Ideal.sig) → Buf (Elt Ideal) ℓ) : Prop :=
  True

def Pre_InDwLayer2RefIdeal (m : (ℓ : Loc Cert.InDwLayer2RefIdeal.nD Cert.InDwLayer2RefIdeal.τ Cert.InDwLayer2RefIdeal.sig) → Buf (Elt Ideal) ℓ) : Prop :=
  True

def Pre_FfnInDwLayer2 (m : (ℓ : Loc Cert.FfnInDwLayer2.nD Cert.FfnInDwLayer2.τ Cert.FfnInDwLayer2.sig) → Buf (Elt Bits) ℓ) : Prop :=
  True

def Pre_FfnInDwLayer2Ideal (m : (ℓ : Loc Cert.FfnInDwLayer2Ideal.nD Cert.FfnInDwLayer2Ideal.τ Cert.FfnInDwLayer2Ideal.sig) → Buf (Elt Ideal) ℓ) : Prop :=
  True

def Pre_FfnInDwLayer2RefIdeal (m : (ℓ : Loc Cert.FfnInDwLayer2RefIdeal.nD Cert.FfnInDwLayer2RefIdeal.τ Cert.FfnInDwLayer2RefIdeal.sig) → Buf (Elt Ideal) ℓ) : Prop :=
  True

def Pre_FfnOutDwLayer2 (m : (ℓ : Loc Cert.FfnOutDwLayer2.nD Cert.FfnOutDwLayer2.τ Cert.FfnOutDwLayer2.sig) → Buf (Elt Bits) ℓ) : Prop :=
  True

def Pre_FfnOutDwLayer2Ideal (m : (ℓ : Loc Cert.FfnOutDwLayer2Ideal.nD Cert.FfnOutDwLayer2Ideal.τ Cert.FfnOutDwLayer2Ideal.sig) → Buf (Elt Ideal) ℓ) : Prop :=
  True

def Pre_FfnOutDwLayer2RefIdeal (m : (ℓ : Loc Cert.FfnOutDwLayer2RefIdeal.nD Cert.FfnOutDwLayer2RefIdeal.τ Cert.FfnOutDwLayer2RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamCross (m : (ℓ : Loc Cert.AdamCross.nD Cert.AdamCross.τ Cert.AdamCross.sig) → Buf (Elt Bits) ℓ) : Prop :=
  True

def Pre_AdamCrossIdeal (m : (ℓ : Loc Cert.AdamCrossIdeal.nD Cert.AdamCrossIdeal.τ Cert.AdamCrossIdeal.sig) → Buf (Elt Ideal) ℓ) : Prop :=
  True

def Pre_AdamCrossRefIdeal (m : (ℓ : Loc Cert.AdamCrossRefIdeal.nD Cert.AdamCrossRefIdeal.τ Cert.AdamCrossRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamSsdConv (m : (ℓ : Loc Cert.AdamSsdConv.nD Cert.AdamSsdConv.τ Cert.AdamSsdConv.sig) → Buf (Elt Bits) ℓ) : Prop :=
  True

def Pre_AdamSsdConvIdeal (m : (ℓ : Loc Cert.AdamSsdConvIdeal.nD Cert.AdamSsdConvIdeal.τ Cert.AdamSsdConvIdeal.sig) → Buf (Elt Ideal) ℓ) : Prop :=
  True

def Pre_AdamSsdConvRefIdeal (m : (ℓ : Loc Cert.AdamSsdConvRefIdeal.nD Cert.AdamSsdConvRefIdeal.τ Cert.AdamSsdConvRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamVectors (m : (ℓ : Loc Cert.AdamVectors.nD Cert.AdamVectors.τ Cert.AdamVectors.sig) → Buf (Elt Bits) ℓ) : Prop :=
  True

def Pre_AdamVectorsIdeal (m : (ℓ : Loc Cert.AdamVectorsIdeal.nD Cert.AdamVectorsIdeal.τ Cert.AdamVectorsIdeal.sig) → Buf (Elt Ideal) ℓ) : Prop :=
  True

def Pre_AdamVectorsRefIdeal (m : (ℓ : Loc Cert.AdamVectorsRefIdeal.nD Cert.AdamVectorsRefIdeal.τ Cert.AdamVectorsRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxIdeal_finite_gate [hPre_finite_gate : Cert.Pre_finite_gate.Facts] (m : (ℓ : Loc Cert.GluDxIdeal.nD Cert.GluDxIdeal.τ Cert.GluDxIdeal.sig) → Buf (Elt Ideal) ℓ) : Prop :=
  ∀ c : Dev Cert.GluDxIdeal.nD,
    (Cert.Pre_finite_gate.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1))).1 = (fun _ => 1#1)
    ∧ (Cert.Pre_finite_gate.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1))).2 = (fun _ => 1#1)

def Pre_GluDxRefIdeal (m : (ℓ : Loc Cert.GluDxRefIdeal.nD Cert.GluDxRefIdeal.τ Cert.GluDxRefIdeal.sig) → Buf (Elt Ideal) ℓ) : Prop :=
  True

def Pre_GluDxRefIdeal_finite_gate [hPre_finite_gate : Cert.Pre_finite_gate.Facts] (m : (ℓ : Loc Cert.GluDxRefIdeal.nD Cert.GluDxRefIdeal.τ Cert.GluDxRefIdeal.sig) → Buf (Elt Ideal) ℓ) : Prop :=
  ∀ c : Dev Cert.GluDxRefIdeal.nD,
    (Cert.Pre_finite_gate.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1))).1 = (fun _ => 1#1)
    ∧ (Cert.Pre_finite_gate.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1))).2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2)
      ∧ r.2.mem ((c.tc : Thread Cert.FfnInDw.nD Cert.FfnInDw.τ).loc Cert.FfnInDw.main_arg3) = m ((c.tc : Thread Cert.FfnInDw.nD Cert.FfnInDw.τ).loc Cert.FfnInDw.main_arg3))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2)
      ∧ r.2.mem ((c.tc : Thread Cert.FfnInDwIdeal.nD Cert.FfnInDwIdeal.τ).loc Cert.FfnInDwIdeal.main_arg3) = m ((c.tc : Thread Cert.FfnInDwIdeal.nD Cert.FfnInDwIdeal.τ).loc Cert.FfnInDwIdeal.main_arg3))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2)
      ∧ r.2.mem ((c.tc : Thread Cert.FfnInDwRefIdeal.nD Cert.FfnInDwRefIdeal.τ).loc Cert.FfnInDwRefIdeal.main_arg3) = m ((c.tc : Thread Cert.FfnInDwRefIdeal.nD Cert.FfnInDwRefIdeal.τ).loc Cert.FfnInDwRefIdeal.main_arg3))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1)
      ∧ r.2.mem ((c.tc : Thread Cert.FfnOutDw.nD Cert.FfnOutDw.τ).loc Cert.FfnOutDw.main_arg2) = m ((c.tc : Thread Cert.FfnOutDw.nD Cert.FfnOutDw.τ).loc Cert.FfnOutDw.main_arg2)
      ∧ r.2.mem ((c.tc : Thread Cert.FfnOutDw.nD Cert.FfnOutDw.τ).loc Cert.FfnOutDw.main_arg3) = m ((c.tc : Thread Cert.FfnOutDw.nD Cert.FfnOutDw.τ).loc Cert.FfnOutDw.main_arg3))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1)
      ∧ r.2.mem ((c.tc : Thread Cert.FfnOutDwIdeal.nD Cert.FfnOutDwIdeal.τ).loc Cert.FfnOutDwIdeal.main_arg2) = m ((c.tc : Thread Cert.FfnOutDwIdeal.nD Cert.FfnOutDwIdeal.τ).loc Cert.FfnOutDwIdeal.main_arg2)
      ∧ r.2.mem ((c.tc : Thread Cert.FfnOutDwIdeal.nD Cert.FfnOutDwIdeal.τ).loc Cert.FfnOutDwIdeal.main_arg3) = m ((c.tc : Thread Cert.FfnOutDwIdeal.nD Cert.FfnOutDwIdeal.τ).loc Cert.FfnOutDwIdeal.main_arg3))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1)
      ∧ r.2.mem ((c.tc : Thread Cert.FfnOutDwRefIdeal.nD Cert.FfnOutDwRefIdeal.τ).loc Cert.FfnOutDwRefIdeal.main_arg2) = m ((c.tc : Thread Cert.FfnOutDwRefIdeal.nD Cert.FfnOutDwRefIdeal.τ).loc Cert.FfnOutDwRefIdeal.main_arg2)
      ∧ r.2.mem ((c.tc : Thread Cert.FfnOutDwRefIdeal.nD Cert.FfnOutDwRefIdeal.τ).loc Cert.FfnOutDwRefIdeal.main_arg3) = m ((c.tc : Thread Cert.FfnOutDwRefIdeal.nD Cert.FfnOutDwRefIdeal.τ).loc Cert.FfnOutDwRefIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_InWide [hInWide : Cert.InWide.Facts] : Prop :=
  ∀ (m : (ℓ : Loc Cert.InWide.nD Cert.InWide.τ Cert.InWide.sig) → Buf (Elt Bits) ℓ) (g : Dev Cert.InWide.nD → PrngReg), Pre_InWide m →
    θ_run (Cert.InWide.defs (F := Bits)) (onTc (τ := Cert.InWide.τ) (Cert.InWide.main (F := Bits))) ⟨m, fun _ => 0, g⟩ (fun r => (∀ c : Dev Cert.InWide.nD,
      r.2.mem ((c.tc : Thread Cert.InWide.nD Cert.InWide.τ).loc Cert.InWide.main_arg0) = m ((c.tc : Thread Cert.InWide.nD Cert.InWide.τ).loc Cert.InWide.main_arg0)
      ∧ r.2.mem ((c.tc : Thread Cert.InWide.nD Cert.InWide.τ).loc Cert.InWide.main_arg1) = m ((c.tc : Thread Cert.InWide.nD Cert.InWide.τ).loc Cert.InWide.main_arg1))
      ∧ r.2.sem = fun _ => 0)

def quiescent_InWideIdeal [hInWideIdeal : Cert.InWideIdeal.Facts] : Prop :=
  ∀ (m : (ℓ : Loc Cert.InWideIdeal.nD Cert.InWideIdeal.τ Cert.InWideIdeal.sig) → Buf (Elt Ideal) ℓ) (g : Dev Cert.InWideIdeal.nD → PrngReg), Pre_InWideIdeal m →
    θ_run (Cert.InWideIdeal.defs (F := Ideal)) (onTc (τ := Cert.InWideIdeal.τ) (Cert.InWideIdeal.main (F := Ideal))) ⟨m, fun _ => 0, g⟩ (fun r => (∀ c : Dev Cert.InWideIdeal.nD,
      r.2.mem ((c.tc : Thread Cert.InWideIdeal.nD Cert.InWideIdeal.τ).loc Cert.InWideIdeal.main_arg0) = m ((c.tc : Thread Cert.InWideIdeal.nD Cert.InWideIdeal.τ).loc Cert.InWideIdeal.main_arg0)
      ∧ r.2.mem ((c.tc : Thread Cert.InWideIdeal.nD Cert.InWideIdeal.τ).loc Cert.InWideIdeal.main_arg1) = m ((c.tc : Thread Cert.InWideIdeal.nD Cert.InWideIdeal.τ).loc Cert.InWideIdeal.main_arg1))
      ∧ r.2.sem = fun _ => 0)

def quiescent_InWideRefIdeal [hInWideRefIdeal : Cert.InWideRefIdeal.Facts] : Prop :=
  ∀ (m : (ℓ : Loc Cert.InWideRefIdeal.nD Cert.InWideRefIdeal.τ Cert.InWideRefIdeal.sig) → Buf (Elt Ideal) ℓ) (g : Dev Cert.InWideRefIdeal.nD → PrngReg), Pre_InWideRefIdeal m →
    θ_run (Cert.InWideRefIdeal.defs (F := Ideal)) (onTc (τ := Cert.InWideRefIdeal.τ) (Cert.InWideRefIdeal.main (F := Ideal))) ⟨m, fun _ => 0, g⟩ (fun r => (∀ c : Dev Cert.InWideRefIdeal.nD,
      r.2.mem ((c.tc : Thread Cert.InWideRefIdeal.nD Cert.InWideRefIdeal.τ).loc Cert.InWideRefIdeal.main_arg0) = m ((c.tc : Thread Cert.InWideRefIdeal.nD Cert.InWideRefIdeal.τ).loc Cert.InWideRefIdeal.main_arg0)
      ∧ r.2.mem ((c.tc : Thread Cert.InWideRefIdeal.nD Cert.InWideRefIdeal.τ).loc Cert.InWideRefIdeal.main_arg1) = m ((c.tc : Thread Cert.InWideRefIdeal.nD Cert.InWideRefIdeal.τ).loc Cert.InWideRefIdeal.main_arg1))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1)
      ∧ r.2.mem ((c.tc : Thread Cert.SquareDx.nD Cert.SquareDx.τ).loc Cert.SquareDx.main_arg2) = m ((c.tc : Thread Cert.SquareDx.nD Cert.SquareDx.τ).loc Cert.SquareDx.main_arg2))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1)
      ∧ r.2.mem ((c.tc : Thread Cert.SquareDxIdeal.nD Cert.SquareDxIdeal.τ).loc Cert.SquareDxIdeal.main_arg2) = m ((c.tc : Thread Cert.SquareDxIdeal.nD Cert.SquareDxIdeal.τ).loc Cert.SquareDxIdeal.main_arg2))
      ∧ r.2.sem = fun _ => 0)

def quiescent_SquareDxRefIdeal [hSquareDxRefIdeal : Cert.SquareDxRefIdeal.Facts] : Prop :=
  ∀ (m : (ℓ : Loc Cert.SquareDxRefIdeal.nD Cert.SquareDxRefIdeal.τ Cert.SquareDxRefIdeal.sig) → Buf (Elt Ideal) ℓ) (g : Dev Cert.SquareDxRefIdeal.nD → PrngReg), Pre_SquareDxRefIdeal m →
    θ_run (Cert.SquareDxRefIdeal.defs (F := Ideal)) (onTc (τ := Cert.SquareDxRefIdeal.τ) (Cert.SquareDxRefIdeal.main (F := Ideal))) ⟨m, fun _ => 0, g⟩ (fun r => (∀ c : Dev Cert.SquareDxRefIdeal.nD,
      r.2.mem ((c.tc : Thread Cert.SquareDxRefIdeal.nD Cert.SquareDxRefIdeal.τ).loc Cert.SquareDxRefIdeal.main_arg0) = m ((c.tc : Thread Cert.SquareDxRefIdeal.nD Cert.SquareDxRefIdeal.τ).loc Cert.SquareDxRefIdeal.main_arg0)
      ∧ r.2.mem ((c.tc : Thread Cert.SquareDxRefIdeal.nD Cert.SquareDxRefIdeal.τ).loc Cert.SquareDxRefIdeal.main_arg1) = m ((c.tc : Thread Cert.SquareDxRefIdeal.nD Cert.SquareDxRefIdeal.τ).loc Cert.SquareDxRefIdeal.main_arg1)
      ∧ r.2.mem ((c.tc : Thread Cert.SquareDxRefIdeal.nD Cert.SquareDxRefIdeal.τ).loc Cert.SquareDxRefIdeal.main_arg2) = m ((c.tc : Thread Cert.SquareDxRefIdeal.nD Cert.SquareDxRefIdeal.τ).loc Cert.SquareDxRefIdeal.main_arg2))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1)
      ∧ r.2.mem ((c.tc : Thread Cert.SquareDw.nD Cert.SquareDw.τ).loc Cert.SquareDw.main_arg2) = m ((c.tc : Thread Cert.SquareDw.nD Cert.SquareDw.τ).loc Cert.SquareDw.main_arg2)
      ∧ r.2.mem ((c.tc : Thread Cert.SquareDw.nD Cert.SquareDw.τ).loc Cert.SquareDw.main_arg3) = m ((c.tc : Thread Cert.SquareDw.nD Cert.SquareDw.τ).loc Cert.SquareDw.main_arg3))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
      ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2)
      ∧ r.2.mem ((c.tc : Thread Cert.SquareDwIdeal.nD Cert.SquareDwIdeal.τ).loc Cert.SquareDwIdeal.main_arg3) = m ((c.tc : Thread Cert.SquareDwIdeal.nD Cert.SquareDwIdeal.τ).loc Cert.SquareDwIdeal.main_arg3))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1)
      ∧ r.2.mem ((c.tc : Thread Cert.SquareDwRefIdeal.nD Cert.SquareDwRefIdeal.τ).loc Cert.SquareDwRefIdeal.main_arg2) = m ((c.tc : Thread Cert.SquareDwRefIdeal.nD Cert.SquareDwRefIdeal.τ).loc Cert.SquareDwRefIdeal.main_arg2)
      ∧ r.2.mem ((c.tc : Thread Cert.SquareDwRefIdeal.nD Cert.SquareDwRefIdeal.τ).loc Cert.SquareDwRefIdeal.main_arg3) = m ((c.tc : Thread Cert.SquareDwRefIdeal.nD Cert.SquareDwRefIdeal.τ).loc Cert.SquareDwRefIdeal.main_arg3))
      ∧ r.2.sem = fun _ => 0)

def quiescent_ResidualDx [hResidualDx : Cert.ResidualDx.Facts] : Prop :=
  ∀ (m : (ℓ : Loc Cert.ResidualDx.nD Cert.ResidualDx.τ Cert.ResidualDx.sig) → Buf (Elt Bits) ℓ) (g : Dev Cert.ResidualDx.nD → PrngReg), Pre_ResidualDx m →
    θ_run (Cert.ResidualDx.defs (F := Bits)) (onTc (τ := Cert.ResidualDx.τ) (Cert.ResidualDx.main (F := Bits))) ⟨m, fun _ => 0, g⟩ (fun r => (∀ c : Dev Cert.ResidualDx.nD,
      r.2.mem ((c.tc : Thread Cert.ResidualDx.nD Cert.ResidualDx.τ).loc Cert.ResidualDx.main_arg0) = m ((c.tc : Thread Cert.ResidualDx.nD Cert.ResidualDx.τ).loc Cert.ResidualDx.main_arg0)
      ∧ r.2.mem ((c.tc : Thread Cert.ResidualDx.nD Cert.ResidualDx.τ).loc Cert.ResidualDx.main_arg1) = m ((c.tc : Thread Cert.ResidualDx.nD Cert.ResidualDx.τ).loc Cert.ResidualDx.main_arg1)
      ∧ r.2.mem ((c.tc : Thread Cert.ResidualDx.nD Cert.ResidualDx.τ).loc Cert.ResidualDx.main_arg2) = m ((c.tc : Thread Cert.ResidualDx.nD Cert.ResidualDx.τ).loc Cert.ResidualDx.main_arg2))
      ∧ r.2.sem = fun _ => 0)

def quiescent_ResidualDxIdeal [hResidualDxIdeal : Cert.ResidualDxIdeal.Facts] : Prop :=
  ∀ (m : (ℓ : Loc Cert.ResidualDxIdeal.nD Cert.ResidualDxIdeal.τ Cert.ResidualDxIdeal.sig) → Buf (Elt Ideal) ℓ) (g : Dev Cert.ResidualDxIdeal.nD → PrngReg), Pre_ResidualDxIdeal m →
    θ_run (Cert.ResidualDxIdeal.defs (F := Ideal)) (onTc (τ := Cert.ResidualDxIdeal.τ) (Cert.ResidualDxIdeal.main (F := Ideal))) ⟨m, fun _ => 0, g⟩ (fun r => (∀ c : Dev Cert.ResidualDxIdeal.nD,
      r.2.mem ((c.tc : Thread Cert.ResidualDxIdeal.nD Cert.ResidualDxIdeal.τ).loc Cert.ResidualDxIdeal.main_arg0) = m ((c.tc : Thread Cert.ResidualDxIdeal.nD Cert.ResidualDxIdeal.τ).loc Cert.ResidualDxIdeal.main_arg0)
      ∧ r.2.mem ((c.tc : Thread Cert.ResidualDxIdeal.nD Cert.ResidualDxIdeal.τ).loc Cert.ResidualDxIdeal.main_arg1) = m ((c.tc : Thread Cert.ResidualDxIdeal.nD Cert.ResidualDxIdeal.τ).loc Cert.ResidualDxIdeal.main_arg1)
      ∧ r.2.mem ((c.tc : Thread Cert.ResidualDxIdeal.nD Cert.ResidualDxIdeal.τ).loc Cert.ResidualDxIdeal.main_arg2) = m ((c.tc : Thread Cert.ResidualDxIdeal.nD Cert.ResidualDxIdeal.τ).loc Cert.ResidualDxIdeal.main_arg2))
      ∧ r.2.sem = fun _ => 0)

def quiescent_ResidualDxRefIdeal [hResidualDxRefIdeal : Cert.ResidualDxRefIdeal.Facts] : Prop :=
  ∀ (m : (ℓ : Loc Cert.ResidualDxRefIdeal.nD Cert.ResidualDxRefIdeal.τ Cert.ResidualDxRefIdeal.sig) → Buf (Elt Ideal) ℓ) (g : Dev Cert.ResidualDxRefIdeal.nD → PrngReg), Pre_ResidualDxRefIdeal m →
    θ_run (Cert.ResidualDxRefIdeal.defs (F := Ideal)) (onTc (τ := Cert.ResidualDxRefIdeal.τ) (Cert.ResidualDxRefIdeal.main (F := Ideal))) ⟨m, fun _ => 0, g⟩ (fun r => (∀ c : Dev Cert.ResidualDxRefIdeal.nD,
      r.2.mem ((c.tc : Thread Cert.ResidualDxRefIdeal.nD Cert.ResidualDxRefIdeal.τ).loc Cert.ResidualDxRefIdeal.main_arg0) = m ((c.tc : Thread Cert.ResidualDxRefIdeal.nD Cert.ResidualDxRefIdeal.τ).loc Cert.ResidualDxRefIdeal.main_arg0)
      ∧ r.2.mem ((c.tc : Thread Cert.ResidualDxRefIdeal.nD Cert.ResidualDxRefIdeal.τ).loc Cert.ResidualDxRefIdeal.main_arg1) = m ((c.tc : Thread Cert.ResidualDxRefIdeal.nD Cert.ResidualDxRefIdeal.τ).loc Cert.ResidualDxRefIdeal.main_arg1)
      ∧ r.2.mem ((c.tc : Thread Cert.ResidualDxRefIdeal.nD Cert.ResidualDxRefIdeal.τ).loc Cert.ResidualDxRefIdeal.main_arg2) = m ((c.tc : Thread Cert.ResidualDxRefIdeal.nD Cert.ResidualDxRefIdeal.τ).loc Cert.ResidualDxRefIdeal.main_arg2))
      ∧ r.2.sem = fun _ => 0)

def quiescent_ResidualDw [hResidualDw : Cert.ResidualDw.Facts] : Prop :=
  ∀ (m : (ℓ : Loc Cert.ResidualDw.nD Cert.ResidualDw.τ Cert.ResidualDw.sig) → Buf (Elt Bits) ℓ) (g : Dev Cert.ResidualDw.nD → PrngReg), Pre_ResidualDw m →
    θ_run (Cert.ResidualDw.defs (F := Bits)) (onTc (τ := Cert.ResidualDw.τ) (Cert.ResidualDw.main (F := Bits))) ⟨m, fun _ => 0, g⟩ (fun r => (∀ c : Dev Cert.ResidualDw.nD,
      r.2.mem ((c.tc : Thread Cert.ResidualDw.nD Cert.ResidualDw.τ).loc Cert.ResidualDw.main_arg0) = m ((c.tc : Thread Cert.ResidualDw.nD Cert.ResidualDw.τ).loc Cert.ResidualDw.main_arg0)
      ∧ r.2.mem ((c.tc : Thread Cert.ResidualDw.nD Cert.ResidualDw.τ).loc Cert.ResidualDw.main_arg1) = m ((c.tc : Thread Cert.ResidualDw.nD Cert.ResidualDw.τ).loc Cert.ResidualDw.main_arg1)
      ∧ r.2.mem ((c.tc : Thread Cert.ResidualDw.nD Cert.ResidualDw.τ).loc Cert.ResidualDw.main_arg2) = m ((c.tc : Thread Cert.ResidualDw.nD Cert.ResidualDw.τ).loc Cert.ResidualDw.main_arg2)
      ∧ r.2.mem ((c.tc : Thread Cert.ResidualDw.nD Cert.ResidualDw.τ).loc Cert.ResidualDw.main_arg3) = m ((c.tc : Thread Cert.ResidualDw.nD Cert.ResidualDw.τ).loc Cert.ResidualDw.main_arg3))
      ∧ r.2.sem = fun _ => 0)

def quiescent_ResidualDwIdeal [hResidualDwIdeal : Cert.ResidualDwIdeal.Facts] : Prop :=
  ∀ (m : (ℓ : Loc Cert.ResidualDwIdeal.nD Cert.ResidualDwIdeal.τ Cert.ResidualDwIdeal.sig) → Buf (Elt Ideal) ℓ) (g : Dev Cert.ResidualDwIdeal.nD → PrngReg), Pre_ResidualDwIdeal m →
    θ_run (Cert.ResidualDwIdeal.defs (F := Ideal)) (onTc (τ := Cert.ResidualDwIdeal.τ) (Cert.ResidualDwIdeal.main (F := Ideal))) ⟨m, fun _ => 0, g⟩ (fun r => (∀ c : Dev Cert.ResidualDwIdeal.nD,
      r.2.mem ((c.tc : Thread Cert.ResidualDwIdeal.nD Cert.ResidualDwIdeal.τ).loc Cert.ResidualDwIdeal.main_arg0) = m ((c.tc : Thread Cert.ResidualDwIdeal.nD Cert.ResidualDwIdeal.τ).loc Cert.ResidualDwIdeal.main_arg0)
      ∧ r.2.mem ((c.tc : Thread Cert.ResidualDwIdeal.nD Cert.ResidualDwIdeal.τ).loc Cert.ResidualDwIdeal.main_arg1) = m ((c.tc : Thread Cert.ResidualDwIdeal.nD Cert.ResidualDwIdeal.τ).loc Cert.ResidualDwIdeal.main_arg1)
      ∧ r.2.mem ((c.tc : Thread Cert.ResidualDwIdeal.nD Cert.ResidualDwIdeal.τ).loc Cert.ResidualDwIdeal.main_arg2) = m ((c.tc : Thread Cert.ResidualDwIdeal.nD Cert.ResidualDwIdeal.τ).loc Cert.ResidualDwIdeal.main_arg2)
      ∧ r.2.mem ((c.tc : Thread Cert.ResidualDwIdeal.nD Cert.ResidualDwIdeal.τ).loc Cert.ResidualDwIdeal.main_arg3) = m ((c.tc : Thread Cert.ResidualDwIdeal.nD Cert.ResidualDwIdeal.τ).loc Cert.ResidualDwIdeal.main_arg3))
      ∧ r.2.sem = fun _ => 0)

def quiescent_ResidualDwRefIdeal [hResidualDwRefIdeal : Cert.ResidualDwRefIdeal.Facts] : Prop :=
  ∀ (m : (ℓ : Loc Cert.ResidualDwRefIdeal.nD Cert.ResidualDwRefIdeal.τ Cert.ResidualDwRefIdeal.sig) → Buf (Elt Ideal) ℓ) (g : Dev Cert.ResidualDwRefIdeal.nD → PrngReg), Pre_ResidualDwRefIdeal m →
    θ_run (Cert.ResidualDwRefIdeal.defs (F := Ideal)) (onTc (τ := Cert.ResidualDwRefIdeal.τ) (Cert.ResidualDwRefIdeal.main (F := Ideal))) ⟨m, fun _ => 0, g⟩ (fun r => (∀ c : Dev Cert.ResidualDwRefIdeal.nD,
      r.2.mem ((c.tc : Thread Cert.ResidualDwRefIdeal.nD Cert.ResidualDwRefIdeal.τ).loc Cert.ResidualDwRefIdeal.main_arg0) = m ((c.tc : Thread Cert.ResidualDwRefIdeal.nD Cert.ResidualDwRefIdeal.τ).loc Cert.ResidualDwRefIdeal.main_arg0)
      ∧ r.2.mem ((c.tc : Thread Cert.ResidualDwRefIdeal.nD Cert.ResidualDwRefIdeal.τ).loc Cert.ResidualDwRefIdeal.main_arg1) = m ((c.tc : Thread Cert.ResidualDwRefIdeal.nD Cert.ResidualDwRefIdeal.τ).loc Cert.ResidualDwRefIdeal.main_arg1)
      ∧ r.2.mem ((c.tc : Thread Cert.ResidualDwRefIdeal.nD Cert.ResidualDwRefIdeal.τ).loc Cert.ResidualDwRefIdeal.main_arg2) = m ((c.tc : Thread Cert.ResidualDwRefIdeal.nD Cert.ResidualDwRefIdeal.τ).loc Cert.ResidualDwRefIdeal.main_arg2)
      ∧ r.2.mem ((c.tc : Thread Cert.ResidualDwRefIdeal.nD Cert.ResidualDwRefIdeal.τ).loc Cert.ResidualDwRefIdeal.main_arg3) = m ((c.tc : Thread Cert.ResidualDwRefIdeal.nD Cert.ResidualDwRefIdeal.τ).loc Cert.ResidualDwRefIdeal.main_arg3))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2))
      ∧ r.2.sem = fun _ => 0)

def quiescent_MlaOutDw [hMlaOutDw : Cert.MlaOutDw.Facts] : Prop :=
  ∀ (m : (ℓ : Loc Cert.MlaOutDw.nD Cert.MlaOutDw.τ Cert.MlaOutDw.sig) → Buf (Elt Bits) ℓ) (g : Dev Cert.MlaOutDw.nD → PrngReg), Pre_MlaOutDw m →
    θ_run (Cert.MlaOutDw.defs (F := Bits)) (onTc (τ := Cert.MlaOutDw.τ) (Cert.MlaOutDw.main (F := Bits))) ⟨m, fun _ => 0, g⟩ (fun r => (∀ c : Dev Cert.MlaOutDw.nD,
      r.2.mem ((c.tc : Thread Cert.MlaOutDw.nD Cert.MlaOutDw.τ).loc Cert.MlaOutDw.main_arg0) = m ((c.tc : Thread Cert.MlaOutDw.nD Cert.MlaOutDw.τ).loc Cert.MlaOutDw.main_arg0)
      ∧ r.2.mem ((c.tc : Thread Cert.MlaOutDw.nD Cert.MlaOutDw.τ).loc Cert.MlaOutDw.main_arg1) = m ((c.tc : Thread Cert.MlaOutDw.nD Cert.MlaOutDw.τ).loc Cert.MlaOutDw.main_arg1)
      ∧ r.2.mem ((c.tc : Thread Cert.MlaOutDw.nD Cert.MlaOutDw.τ).loc Cert.MlaOutDw.main_arg2) = m ((c.tc : Thread Cert.MlaOutDw.nD Cert.MlaOutDw.τ).loc Cert.MlaOutDw.main_arg2)
      ∧ r.2.mem ((c.tc : Thread Cert.MlaOutDw.nD Cert.MlaOutDw.τ).loc Cert.MlaOutDw.main_arg3) = m ((c.tc : Thread Cert.MlaOutDw.nD Cert.MlaOutDw.τ).loc Cert.MlaOutDw.main_arg3))
      ∧ r.2.sem = fun _ => 0)

def quiescent_MlaOutDwIdeal [hMlaOutDwIdeal : Cert.MlaOutDwIdeal.Facts] : Prop :=
  ∀ (m : (ℓ : Loc Cert.MlaOutDwIdeal.nD Cert.MlaOutDwIdeal.τ Cert.MlaOutDwIdeal.sig) → Buf (Elt Ideal) ℓ) (g : Dev Cert.MlaOutDwIdeal.nD → PrngReg), Pre_MlaOutDwIdeal m →
    θ_run (Cert.MlaOutDwIdeal.defs (F := Ideal)) (onTc (τ := Cert.MlaOutDwIdeal.τ) (Cert.MlaOutDwIdeal.main (F := Ideal))) ⟨m, fun _ => 0, g⟩ (fun r => (∀ c : Dev Cert.MlaOutDwIdeal.nD,
      r.2.mem ((c.tc : Thread Cert.MlaOutDwIdeal.nD Cert.MlaOutDwIdeal.τ).loc Cert.MlaOutDwIdeal.main_arg0) = m ((c.tc : Thread Cert.MlaOutDwIdeal.nD Cert.MlaOutDwIdeal.τ).loc Cert.MlaOutDwIdeal.main_arg0)
      ∧ r.2.mem ((c.tc : Thread Cert.MlaOutDwIdeal.nD Cert.MlaOutDwIdeal.τ).loc Cert.MlaOutDwIdeal.main_arg1) = m ((c.tc : Thread Cert.MlaOutDwIdeal.nD Cert.MlaOutDwIdeal.τ).loc Cert.MlaOutDwIdeal.main_arg1)
      ∧ r.2.mem ((c.tc : Thread Cert.MlaOutDwIdeal.nD Cert.MlaOutDwIdeal.τ).loc Cert.MlaOutDwIdeal.main_arg2) = m ((c.tc : Thread Cert.MlaOutDwIdeal.nD Cert.MlaOutDwIdeal.τ).loc Cert.MlaOutDwIdeal.main_arg2)
      ∧ r.2.mem ((c.tc : Thread Cert.MlaOutDwIdeal.nD Cert.MlaOutDwIdeal.τ).loc Cert.MlaOutDwIdeal.main_arg3) = m ((c.tc : Thread Cert.MlaOutDwIdeal.nD Cert.MlaOutDwIdeal.τ).loc Cert.MlaOutDwIdeal.main_arg3))
      ∧ r.2.sem = fun _ => 0)

def quiescent_MlaOutDwRefIdeal [hMlaOutDwRefIdeal : Cert.MlaOutDwRefIdeal.Facts] : Prop :=
  ∀ (m : (ℓ : Loc Cert.MlaOutDwRefIdeal.nD Cert.MlaOutDwRefIdeal.τ Cert.MlaOutDwRefIdeal.sig) → Buf (Elt Ideal) ℓ) (g : Dev Cert.MlaOutDwRefIdeal.nD → PrngReg), Pre_MlaOutDwRefIdeal m →
    θ_run (Cert.MlaOutDwRefIdeal.defs (F := Ideal)) (onTc (τ := Cert.MlaOutDwRefIdeal.τ) (Cert.MlaOutDwRefIdeal.main (F := Ideal))) ⟨m, fun _ => 0, g⟩ (fun r => (∀ c : Dev Cert.MlaOutDwRefIdeal.nD,
      r.2.mem ((c.tc : Thread Cert.MlaOutDwRefIdeal.nD Cert.MlaOutDwRefIdeal.τ).loc Cert.MlaOutDwRefIdeal.main_arg0) = m ((c.tc : Thread Cert.MlaOutDwRefIdeal.nD Cert.MlaOutDwRefIdeal.τ).loc Cert.MlaOutDwRefIdeal.main_arg0)
      ∧ r.2.mem ((c.tc : Thread Cert.MlaOutDwRefIdeal.nD Cert.MlaOutDwRefIdeal.τ).loc Cert.MlaOutDwRefIdeal.main_arg1) = m ((c.tc : Thread Cert.MlaOutDwRefIdeal.nD Cert.MlaOutDwRefIdeal.τ).loc Cert.MlaOutDwRefIdeal.main_arg1)
      ∧ r.2.mem ((c.tc : Thread Cert.MlaOutDwRefIdeal.nD Cert.MlaOutDwRefIdeal.τ).loc Cert.MlaOutDwRefIdeal.main_arg2) = m ((c.tc : Thread Cert.MlaOutDwRefIdeal.nD Cert.MlaOutDwRefIdeal.τ).loc Cert.MlaOutDwRefIdeal.main_arg2)
      ∧ r.2.mem ((c.tc : Thread Cert.MlaOutDwRefIdeal.nD Cert.MlaOutDwRefIdeal.τ).loc Cert.MlaOutDwRefIdeal.main_arg3) = m ((c.tc : Thread Cert.MlaOutDwRefIdeal.nD Cert.MlaOutDwRefIdeal.τ).loc Cert.MlaOutDwRefIdeal.main_arg3))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1))
      ∧ r.2.sem = fun _ => 0)

def quiescent_QbDx [hQbDx : Cert.QbDx.Facts] : Prop :=
  ∀ (m : (ℓ : Loc Cert.QbDx.nD Cert.QbDx.τ Cert.QbDx.sig) → Buf (Elt Bits) ℓ) (g : Dev Cert.QbDx.nD → PrngReg), Pre_QbDx m →
    θ_run (Cert.QbDx.defs (F := Bits)) (onTc (τ := Cert.QbDx.τ) (Cert.QbDx.main (F := Bits))) ⟨m, fun _ => 0, g⟩ (fun r => (∀ c : Dev Cert.QbDx.nD,
      r.2.mem ((c.tc : Thread Cert.QbDx.nD Cert.QbDx.τ).loc Cert.QbDx.main_arg0) = m ((c.tc : Thread Cert.QbDx.nD Cert.QbDx.τ).loc Cert.QbDx.main_arg0)
      ∧ r.2.mem ((c.tc : Thread Cert.QbDx.nD Cert.QbDx.τ).loc Cert.QbDx.main_arg1) = m ((c.tc : Thread Cert.QbDx.nD Cert.QbDx.τ).loc Cert.QbDx.main_arg1)
      ∧ r.2.mem ((c.tc : Thread Cert.QbDx.nD Cert.QbDx.τ).loc Cert.QbDx.main_arg2) = m ((c.tc : Thread Cert.QbDx.nD Cert.QbDx.τ).loc Cert.QbDx.main_arg2))
      ∧ r.2.sem = fun _ => 0)

def quiescent_QbDxIdeal [hQbDxIdeal : Cert.QbDxIdeal.Facts] : Prop :=
  ∀ (m : (ℓ : Loc Cert.QbDxIdeal.nD Cert.QbDxIdeal.τ Cert.QbDxIdeal.sig) → Buf (Elt Ideal) ℓ) (g : Dev Cert.QbDxIdeal.nD → PrngReg), Pre_QbDxIdeal m →
    θ_run (Cert.QbDxIdeal.defs (F := Ideal)) (onTc (τ := Cert.QbDxIdeal.τ) (Cert.QbDxIdeal.main (F := Ideal))) ⟨m, fun _ => 0, g⟩ (fun r => (∀ c : Dev Cert.QbDxIdeal.nD,
      r.2.mem ((c.tc : Thread Cert.QbDxIdeal.nD Cert.QbDxIdeal.τ).loc Cert.QbDxIdeal.main_arg0) = m ((c.tc : Thread Cert.QbDxIdeal.nD Cert.QbDxIdeal.τ).loc Cert.QbDxIdeal.main_arg0)
      ∧ r.2.mem ((c.tc : Thread Cert.QbDxIdeal.nD Cert.QbDxIdeal.τ).loc Cert.QbDxIdeal.main_arg1) = m ((c.tc : Thread Cert.QbDxIdeal.nD Cert.QbDxIdeal.τ).loc Cert.QbDxIdeal.main_arg1)
      ∧ r.2.mem ((c.tc : Thread Cert.QbDxIdeal.nD Cert.QbDxIdeal.τ).loc Cert.QbDxIdeal.main_arg2) = m ((c.tc : Thread Cert.QbDxIdeal.nD Cert.QbDxIdeal.τ).loc Cert.QbDxIdeal.main_arg2))
      ∧ r.2.sem = fun _ => 0)

def quiescent_QbDxRefIdeal [hQbDxRefIdeal : Cert.QbDxRefIdeal.Facts] : Prop :=
  ∀ (m : (ℓ : Loc Cert.QbDxRefIdeal.nD Cert.QbDxRefIdeal.τ Cert.QbDxRefIdeal.sig) → Buf (Elt Ideal) ℓ) (g : Dev Cert.QbDxRefIdeal.nD → PrngReg), Pre_QbDxRefIdeal m →
    θ_run (Cert.QbDxRefIdeal.defs (F := Ideal)) (onTc (τ := Cert.QbDxRefIdeal.τ) (Cert.QbDxRefIdeal.main (F := Ideal))) ⟨m, fun _ => 0, g⟩ (fun r => (∀ c : Dev Cert.QbDxRefIdeal.nD,
      r.2.mem ((c.tc : Thread Cert.QbDxRefIdeal.nD Cert.QbDxRefIdeal.τ).loc Cert.QbDxRefIdeal.main_arg0) = m ((c.tc : Thread Cert.QbDxRefIdeal.nD Cert.QbDxRefIdeal.τ).loc Cert.QbDxRefIdeal.main_arg0)
      ∧ r.2.mem ((c.tc : Thread Cert.QbDxRefIdeal.nD Cert.QbDxRefIdeal.τ).loc Cert.QbDxRefIdeal.main_arg1) = m ((c.tc : Thread Cert.QbDxRefIdeal.nD Cert.QbDxRefIdeal.τ).loc Cert.QbDxRefIdeal.main_arg1)
      ∧ r.2.mem ((c.tc : Thread Cert.QbDxRefIdeal.nD Cert.QbDxRefIdeal.τ).loc Cert.QbDxRefIdeal.main_arg2) = m ((c.tc : Thread Cert.QbDxRefIdeal.nD Cert.QbDxRefIdeal.τ).loc Cert.QbDxRefIdeal.main_arg2))
      ∧ r.2.sem = fun _ => 0)

def quiescent_QbDw [hQbDw : Cert.QbDw.Facts] : Prop :=
  ∀ (m : (ℓ : Loc Cert.QbDw.nD Cert.QbDw.τ Cert.QbDw.sig) → Buf (Elt Bits) ℓ) (g : Dev Cert.QbDw.nD → PrngReg), Pre_QbDw m →
    θ_run (Cert.QbDw.defs (F := Bits)) (onTc (τ := Cert.QbDw.τ) (Cert.QbDw.main (F := Bits))) ⟨m, fun _ => 0, g⟩ (fun r => (∀ c : Dev Cert.QbDw.nD,
      r.2.mem ((c.tc : Thread Cert.QbDw.nD Cert.QbDw.τ).loc Cert.QbDw.main_arg0) = m ((c.tc : Thread Cert.QbDw.nD Cert.QbDw.τ).loc Cert.QbDw.main_arg0)
      ∧ r.2.mem ((c.tc : Thread Cert.QbDw.nD Cert.QbDw.τ).loc Cert.QbDw.main_arg1) = m ((c.tc : Thread Cert.QbDw.nD Cert.QbDw.τ).loc Cert.QbDw.main_arg1)
      ∧ r.2.mem ((c.tc : Thread Cert.QbDw.nD Cert.QbDw.τ).loc Cert.QbDw.main_arg2) = m ((c.tc : Thread Cert.QbDw.nD Cert.QbDw.τ).loc Cert.QbDw.main_arg2)
      ∧ r.2.mem ((c.tc : Thread Cert.QbDw.nD Cert.QbDw.τ).loc Cert.QbDw.main_arg3) = m ((c.tc : Thread Cert.QbDw.nD Cert.QbDw.τ).loc Cert.QbDw.main_arg3))
      ∧ r.2.sem = fun _ => 0)

def quiescent_QbDwIdeal [hQbDwIdeal : Cert.QbDwIdeal.Facts] : Prop :=
  ∀ (m : (ℓ : Loc Cert.QbDwIdeal.nD Cert.QbDwIdeal.τ Cert.QbDwIdeal.sig) → Buf (Elt Ideal) ℓ) (g : Dev Cert.QbDwIdeal.nD → PrngReg), Pre_QbDwIdeal m →
    θ_run (Cert.QbDwIdeal.defs (F := Ideal)) (onTc (τ := Cert.QbDwIdeal.τ) (Cert.QbDwIdeal.main (F := Ideal))) ⟨m, fun _ => 0, g⟩ (fun r => (∀ c : Dev Cert.QbDwIdeal.nD,
      r.2.mem ((c.tc : Thread Cert.QbDwIdeal.nD Cert.QbDwIdeal.τ).loc Cert.QbDwIdeal.main_arg0) = m ((c.tc : Thread Cert.QbDwIdeal.nD Cert.QbDwIdeal.τ).loc Cert.QbDwIdeal.main_arg0)
      ∧ r.2.mem ((c.tc : Thread Cert.QbDwIdeal.nD Cert.QbDwIdeal.τ).loc Cert.QbDwIdeal.main_arg1) = m ((c.tc : Thread Cert.QbDwIdeal.nD Cert.QbDwIdeal.τ).loc Cert.QbDwIdeal.main_arg1)
      ∧ r.2.mem ((c.tc : Thread Cert.QbDwIdeal.nD Cert.QbDwIdeal.τ).loc Cert.QbDwIdeal.main_arg2) = m ((c.tc : Thread Cert.QbDwIdeal.nD Cert.QbDwIdeal.τ).loc Cert.QbDwIdeal.main_arg2)
      ∧ r.2.mem ((c.tc : Thread Cert.QbDwIdeal.nD Cert.QbDwIdeal.τ).loc Cert.QbDwIdeal.main_arg3) = m ((c.tc : Thread Cert.QbDwIdeal.nD Cert.QbDwIdeal.τ).loc Cert.QbDwIdeal.main_arg3))
      ∧ r.2.sem = fun _ => 0)

def quiescent_QbDwRefIdeal [hQbDwRefIdeal : Cert.QbDwRefIdeal.Facts] : Prop :=
  ∀ (m : (ℓ : Loc Cert.QbDwRefIdeal.nD Cert.QbDwRefIdeal.τ Cert.QbDwRefIdeal.sig) → Buf (Elt Ideal) ℓ) (g : Dev Cert.QbDwRefIdeal.nD → PrngReg), Pre_QbDwRefIdeal m →
    θ_run (Cert.QbDwRefIdeal.defs (F := Ideal)) (onTc (τ := Cert.QbDwRefIdeal.τ) (Cert.QbDwRefIdeal.main (F := Ideal))) ⟨m, fun _ => 0, g⟩ (fun r => (∀ c : Dev Cert.QbDwRefIdeal.nD,
      r.2.mem ((c.tc : Thread Cert.QbDwRefIdeal.nD Cert.QbDwRefIdeal.τ).loc Cert.QbDwRefIdeal.main_arg0) = m ((c.tc : Thread Cert.QbDwRefIdeal.nD Cert.QbDwRefIdeal.τ).loc Cert.QbDwRefIdeal.main_arg0)
      ∧ r.2.mem ((c.tc : Thread Cert.QbDwRefIdeal.nD Cert.QbDwRefIdeal.τ).loc Cert.QbDwRefIdeal.main_arg1) = m ((c.tc : Thread Cert.QbDwRefIdeal.nD Cert.QbDwRefIdeal.τ).loc Cert.QbDwRefIdeal.main_arg1)
      ∧ r.2.mem ((c.tc : Thread Cert.QbDwRefIdeal.nD Cert.QbDwRefIdeal.τ).loc Cert.QbDwRefIdeal.main_arg2) = m ((c.tc : Thread Cert.QbDwRefIdeal.nD Cert.QbDwRefIdeal.τ).loc Cert.QbDwRefIdeal.main_arg2)
      ∧ r.2.mem ((c.tc : Thread Cert.QbDwRefIdeal.nD Cert.QbDwRefIdeal.τ).loc Cert.QbDwRefIdeal.main_arg3) = m ((c.tc : Thread Cert.QbDwRefIdeal.nD Cert.QbDwRefIdeal.τ).loc Cert.QbDwRefIdeal.main_arg3))
      ∧ r.2.sem = fun _ => 0)

def quiescent_KvbDx [hKvbDx : Cert.KvbDx.Facts] : Prop :=
  ∀ (m : (ℓ : Loc Cert.KvbDx.nD Cert.KvbDx.τ Cert.KvbDx.sig) → Buf (Elt Bits) ℓ) (g : Dev Cert.KvbDx.nD → PrngReg), Pre_KvbDx m →
    θ_run (Cert.KvbDx.defs (F := Bits)) (onTc (τ := Cert.KvbDx.τ) (Cert.KvbDx.main (F := Bits))) ⟨m, fun _ => 0, g⟩ (fun r => (∀ c : Dev Cert.KvbDx.nD,
      r.2.mem ((c.tc : Thread Cert.KvbDx.nD Cert.KvbDx.τ).loc Cert.KvbDx.main_arg0) = m ((c.tc : Thread Cert.KvbDx.nD Cert.KvbDx.τ).loc Cert.KvbDx.main_arg0)
      ∧ r.2.mem ((c.tc : Thread Cert.KvbDx.nD Cert.KvbDx.τ).loc Cert.KvbDx.main_arg1) = m ((c.tc : Thread Cert.KvbDx.nD Cert.KvbDx.τ).loc Cert.KvbDx.main_arg1)
      ∧ r.2.mem ((c.tc : Thread Cert.KvbDx.nD Cert.KvbDx.τ).loc Cert.KvbDx.main_arg2) = m ((c.tc : Thread Cert.KvbDx.nD Cert.KvbDx.τ).loc Cert.KvbDx.main_arg2))
      ∧ r.2.sem = fun _ => 0)

def quiescent_KvbDxIdeal [hKvbDxIdeal : Cert.KvbDxIdeal.Facts] : Prop :=
  ∀ (m : (ℓ : Loc Cert.KvbDxIdeal.nD Cert.KvbDxIdeal.τ Cert.KvbDxIdeal.sig) → Buf (Elt Ideal) ℓ) (g : Dev Cert.KvbDxIdeal.nD → PrngReg), Pre_KvbDxIdeal m →
    θ_run (Cert.KvbDxIdeal.defs (F := Ideal)) (onTc (τ := Cert.KvbDxIdeal.τ) (Cert.KvbDxIdeal.main (F := Ideal))) ⟨m, fun _ => 0, g⟩ (fun r => (∀ c : Dev Cert.KvbDxIdeal.nD,
      r.2.mem ((c.tc : Thread Cert.KvbDxIdeal.nD Cert.KvbDxIdeal.τ).loc Cert.KvbDxIdeal.main_arg0) = m ((c.tc : Thread Cert.KvbDxIdeal.nD Cert.KvbDxIdeal.τ).loc Cert.KvbDxIdeal.main_arg0)
      ∧ r.2.mem ((c.tc : Thread Cert.KvbDxIdeal.nD Cert.KvbDxIdeal.τ).loc Cert.KvbDxIdeal.main_arg1) = m ((c.tc : Thread Cert.KvbDxIdeal.nD Cert.KvbDxIdeal.τ).loc Cert.KvbDxIdeal.main_arg1)
      ∧ r.2.mem ((c.tc : Thread Cert.KvbDxIdeal.nD Cert.KvbDxIdeal.τ).loc Cert.KvbDxIdeal.main_arg2) = m ((c.tc : Thread Cert.KvbDxIdeal.nD Cert.KvbDxIdeal.τ).loc Cert.KvbDxIdeal.main_arg2))
      ∧ r.2.sem = fun _ => 0)

def quiescent_KvbDxRefIdeal [hKvbDxRefIdeal : Cert.KvbDxRefIdeal.Facts] : Prop :=
  ∀ (m : (ℓ : Loc Cert.KvbDxRefIdeal.nD Cert.KvbDxRefIdeal.τ Cert.KvbDxRefIdeal.sig) → Buf (Elt Ideal) ℓ) (g : Dev Cert.KvbDxRefIdeal.nD → PrngReg), Pre_KvbDxRefIdeal m →
    θ_run (Cert.KvbDxRefIdeal.defs (F := Ideal)) (onTc (τ := Cert.KvbDxRefIdeal.τ) (Cert.KvbDxRefIdeal.main (F := Ideal))) ⟨m, fun _ => 0, g⟩ (fun r => (∀ c : Dev Cert.KvbDxRefIdeal.nD,
      r.2.mem ((c.tc : Thread Cert.KvbDxRefIdeal.nD Cert.KvbDxRefIdeal.τ).loc Cert.KvbDxRefIdeal.main_arg0) = m ((c.tc : Thread Cert.KvbDxRefIdeal.nD Cert.KvbDxRefIdeal.τ).loc Cert.KvbDxRefIdeal.main_arg0)
      ∧ r.2.mem ((c.tc : Thread Cert.KvbDxRefIdeal.nD Cert.KvbDxRefIdeal.τ).loc Cert.KvbDxRefIdeal.main_arg1) = m ((c.tc : Thread Cert.KvbDxRefIdeal.nD Cert.KvbDxRefIdeal.τ).loc Cert.KvbDxRefIdeal.main_arg1)
      ∧ r.2.mem ((c.tc : Thread Cert.KvbDxRefIdeal.nD Cert.KvbDxRefIdeal.τ).loc Cert.KvbDxRefIdeal.main_arg2) = m ((c.tc : Thread Cert.KvbDxRefIdeal.nD Cert.KvbDxRefIdeal.τ).loc Cert.KvbDxRefIdeal.main_arg2))
      ∧ r.2.sem = fun _ => 0)

def quiescent_KvbDw [hKvbDw : Cert.KvbDw.Facts] : Prop :=
  ∀ (m : (ℓ : Loc Cert.KvbDw.nD Cert.KvbDw.τ Cert.KvbDw.sig) → Buf (Elt Bits) ℓ) (g : Dev Cert.KvbDw.nD → PrngReg), Pre_KvbDw m →
    θ_run (Cert.KvbDw.defs (F := Bits)) (onTc (τ := Cert.KvbDw.τ) (Cert.KvbDw.main (F := Bits))) ⟨m, fun _ => 0, g⟩ (fun r => (∀ c : Dev Cert.KvbDw.nD,
      r.2.mem ((c.tc : Thread Cert.KvbDw.nD Cert.KvbDw.τ).loc Cert.KvbDw.main_arg0) = m ((c.tc : Thread Cert.KvbDw.nD Cert.KvbDw.τ).loc Cert.KvbDw.main_arg0)
      ∧ r.2.mem ((c.tc : Thread Cert.KvbDw.nD Cert.KvbDw.τ).loc Cert.KvbDw.main_arg1) = m ((c.tc : Thread Cert.KvbDw.nD Cert.KvbDw.τ).loc Cert.KvbDw.main_arg1)
      ∧ r.2.mem ((c.tc : Thread Cert.KvbDw.nD Cert.KvbDw.τ).loc Cert.KvbDw.main_arg2) = m ((c.tc : Thread Cert.KvbDw.nD Cert.KvbDw.τ).loc Cert.KvbDw.main_arg2)
      ∧ r.2.mem ((c.tc : Thread Cert.KvbDw.nD Cert.KvbDw.τ).loc Cert.KvbDw.main_arg3) = m ((c.tc : Thread Cert.KvbDw.nD Cert.KvbDw.τ).loc Cert.KvbDw.main_arg3))
      ∧ r.2.sem = fun _ => 0)

def quiescent_KvbDwIdeal [hKvbDwIdeal : Cert.KvbDwIdeal.Facts] : Prop :=
  ∀ (m : (ℓ : Loc Cert.KvbDwIdeal.nD Cert.KvbDwIdeal.τ Cert.KvbDwIdeal.sig) → Buf (Elt Ideal) ℓ) (g : Dev Cert.KvbDwIdeal.nD → PrngReg), Pre_KvbDwIdeal m →
    θ_run (Cert.KvbDwIdeal.defs (F := Ideal)) (onTc (τ := Cert.KvbDwIdeal.τ) (Cert.KvbDwIdeal.main (F := Ideal))) ⟨m, fun _ => 0, g⟩ (fun r => (∀ c : Dev Cert.KvbDwIdeal.nD,
      r.2.mem ((c.tc : Thread Cert.KvbDwIdeal.nD Cert.KvbDwIdeal.τ).loc Cert.KvbDwIdeal.main_arg0) = m ((c.tc : Thread Cert.KvbDwIdeal.nD Cert.KvbDwIdeal.τ).loc Cert.KvbDwIdeal.main_arg0)
      ∧ r.2.mem ((c.tc : Thread Cert.KvbDwIdeal.nD Cert.KvbDwIdeal.τ).loc Cert.KvbDwIdeal.main_arg1) = m ((c.tc : Thread Cert.KvbDwIdeal.nD Cert.KvbDwIdeal.τ).loc Cert.KvbDwIdeal.main_arg1)
      ∧ r.2.mem ((c.tc : Thread Cert.KvbDwIdeal.nD Cert.KvbDwIdeal.τ).loc Cert.KvbDwIdeal.main_arg2) = m ((c.tc : Thread Cert.KvbDwIdeal.nD Cert.KvbDwIdeal.τ).loc Cert.KvbDwIdeal.main_arg2)
      ∧ r.2.mem ((c.tc : Thread Cert.KvbDwIdeal.nD Cert.KvbDwIdeal.τ).loc Cert.KvbDwIdeal.main_arg3) = m ((c.tc : Thread Cert.KvbDwIdeal.nD Cert.KvbDwIdeal.τ).loc Cert.KvbDwIdeal.main_arg3))
      ∧ r.2.sem = fun _ => 0)

def quiescent_KvbDwRefIdeal [hKvbDwRefIdeal : Cert.KvbDwRefIdeal.Facts] : Prop :=
  ∀ (m : (ℓ : Loc Cert.KvbDwRefIdeal.nD Cert.KvbDwRefIdeal.τ Cert.KvbDwRefIdeal.sig) → Buf (Elt Ideal) ℓ) (g : Dev Cert.KvbDwRefIdeal.nD → PrngReg), Pre_KvbDwRefIdeal m →
    θ_run (Cert.KvbDwRefIdeal.defs (F := Ideal)) (onTc (τ := Cert.KvbDwRefIdeal.τ) (Cert.KvbDwRefIdeal.main (F := Ideal))) ⟨m, fun _ => 0, g⟩ (fun r => (∀ c : Dev Cert.KvbDwRefIdeal.nD,
      r.2.mem ((c.tc : Thread Cert.KvbDwRefIdeal.nD Cert.KvbDwRefIdeal.τ).loc Cert.KvbDwRefIdeal.main_arg0) = m ((c.tc : Thread Cert.KvbDwRefIdeal.nD Cert.KvbDwRefIdeal.τ).loc Cert.KvbDwRefIdeal.main_arg0)
      ∧ r.2.mem ((c.tc : Thread Cert.KvbDwRefIdeal.nD Cert.KvbDwRefIdeal.τ).loc Cert.KvbDwRefIdeal.main_arg1) = m ((c.tc : Thread Cert.KvbDwRefIdeal.nD Cert.KvbDwRefIdeal.τ).loc Cert.KvbDwRefIdeal.main_arg1)
      ∧ r.2.mem ((c.tc : Thread Cert.KvbDwRefIdeal.nD Cert.KvbDwRefIdeal.τ).loc Cert.KvbDwRefIdeal.main_arg2) = m ((c.tc : Thread Cert.KvbDwRefIdeal.nD Cert.KvbDwRefIdeal.τ).loc Cert.KvbDwRefIdeal.main_arg2)
      ∧ r.2.mem ((c.tc : Thread Cert.KvbDwRefIdeal.nD Cert.KvbDwRefIdeal.τ).loc Cert.KvbDwRefIdeal.main_arg3) = m ((c.tc : Thread Cert.KvbDwRefIdeal.nD Cert.KvbDwRefIdeal.τ).loc Cert.KvbDwRefIdeal.main_arg3))
      ∧ r.2.sem = fun _ => 0)

def quiescent_CrossDx [hCrossDx : Cert.CrossDx.Facts] : Prop :=
  ∀ (m : (ℓ : Loc Cert.CrossDx.nD Cert.CrossDx.τ Cert.CrossDx.sig) → Buf (Elt Bits) ℓ) (g : Dev Cert.CrossDx.nD → PrngReg), Pre_CrossDx m →
    θ_run (Cert.CrossDx.defs (F := Bits)) (onTc (τ := Cert.CrossDx.τ) (Cert.CrossDx.main (F := Bits))) ⟨m, fun _ => 0, g⟩ (fun r => (∀ c : Dev Cert.CrossDx.nD,
      r.2.mem ((c.tc : Thread Cert.CrossDx.nD Cert.CrossDx.τ).loc Cert.CrossDx.main_arg0) = m ((c.tc : Thread Cert.CrossDx.nD Cert.CrossDx.τ).loc Cert.CrossDx.main_arg0)
      ∧ r.2.mem ((c.tc : Thread Cert.CrossDx.nD Cert.CrossDx.τ).loc Cert.CrossDx.main_arg1) = m ((c.tc : Thread Cert.CrossDx.nD Cert.CrossDx.τ).loc Cert.CrossDx.main_arg1)
      ∧ r.2.mem ((c.tc : Thread Cert.CrossDx.nD Cert.CrossDx.τ).loc Cert.CrossDx.main_arg2) = m ((c.tc : Thread Cert.CrossDx.nD Cert.CrossDx.τ).loc Cert.CrossDx.main_arg2))
      ∧ r.2.sem = fun _ => 0)

def quiescent_CrossDxIdeal [hCrossDxIdeal : Cert.CrossDxIdeal.Facts] : Prop :=
  ∀ (m : (ℓ : Loc Cert.CrossDxIdeal.nD Cert.CrossDxIdeal.τ Cert.CrossDxIdeal.sig) → Buf (Elt Ideal) ℓ) (g : Dev Cert.CrossDxIdeal.nD → PrngReg), Pre_CrossDxIdeal m →
    θ_run (Cert.CrossDxIdeal.defs (F := Ideal)) (onTc (τ := Cert.CrossDxIdeal.τ) (Cert.CrossDxIdeal.main (F := Ideal))) ⟨m, fun _ => 0, g⟩ (fun r => (∀ c : Dev Cert.CrossDxIdeal.nD,
      r.2.mem ((c.tc : Thread Cert.CrossDxIdeal.nD Cert.CrossDxIdeal.τ).loc Cert.CrossDxIdeal.main_arg0) = m ((c.tc : Thread Cert.CrossDxIdeal.nD Cert.CrossDxIdeal.τ).loc Cert.CrossDxIdeal.main_arg0)
      ∧ r.2.mem ((c.tc : Thread Cert.CrossDxIdeal.nD Cert.CrossDxIdeal.τ).loc Cert.CrossDxIdeal.main_arg1) = m ((c.tc : Thread Cert.CrossDxIdeal.nD Cert.CrossDxIdeal.τ).loc Cert.CrossDxIdeal.main_arg1)
      ∧ r.2.mem ((c.tc : Thread Cert.CrossDxIdeal.nD Cert.CrossDxIdeal.τ).loc Cert.CrossDxIdeal.main_arg2) = m ((c.tc : Thread Cert.CrossDxIdeal.nD Cert.CrossDxIdeal.τ).loc Cert.CrossDxIdeal.main_arg2))
      ∧ r.2.sem = fun _ => 0)

def quiescent_CrossDxRefIdeal [hCrossDxRefIdeal : Cert.CrossDxRefIdeal.Facts] : Prop :=
  ∀ (m : (ℓ : Loc Cert.CrossDxRefIdeal.nD Cert.CrossDxRefIdeal.τ Cert.CrossDxRefIdeal.sig) → Buf (Elt Ideal) ℓ) (g : Dev Cert.CrossDxRefIdeal.nD → PrngReg), Pre_CrossDxRefIdeal m →
    θ_run (Cert.CrossDxRefIdeal.defs (F := Ideal)) (onTc (τ := Cert.CrossDxRefIdeal.τ) (Cert.CrossDxRefIdeal.main (F := Ideal))) ⟨m, fun _ => 0, g⟩ (fun r => (∀ c : Dev Cert.CrossDxRefIdeal.nD,
      r.2.mem ((c.tc : Thread Cert.CrossDxRefIdeal.nD Cert.CrossDxRefIdeal.τ).loc Cert.CrossDxRefIdeal.main_arg0) = m ((c.tc : Thread Cert.CrossDxRefIdeal.nD Cert.CrossDxRefIdeal.τ).loc Cert.CrossDxRefIdeal.main_arg0)
      ∧ r.2.mem ((c.tc : Thread Cert.CrossDxRefIdeal.nD Cert.CrossDxRefIdeal.τ).loc Cert.CrossDxRefIdeal.main_arg1) = m ((c.tc : Thread Cert.CrossDxRefIdeal.nD Cert.CrossDxRefIdeal.τ).loc Cert.CrossDxRefIdeal.main_arg1)
      ∧ r.2.mem ((c.tc : Thread Cert.CrossDxRefIdeal.nD Cert.CrossDxRefIdeal.τ).loc Cert.CrossDxRefIdeal.main_arg2) = m ((c.tc : Thread Cert.CrossDxRefIdeal.nD Cert.CrossDxRefIdeal.τ).loc Cert.CrossDxRefIdeal.main_arg2))
      ∧ r.2.sem = fun _ => 0)

def quiescent_CrossDw [hCrossDw : Cert.CrossDw.Facts] : Prop :=
  ∀ (m : (ℓ : Loc Cert.CrossDw.nD Cert.CrossDw.τ Cert.CrossDw.sig) → Buf (Elt Bits) ℓ) (g : Dev Cert.CrossDw.nD → PrngReg), Pre_CrossDw m →
    θ_run (Cert.CrossDw.defs (F := Bits)) (onTc (τ := Cert.CrossDw.τ) (Cert.CrossDw.main (F := Bits))) ⟨m, fun _ => 0, g⟩ (fun r => (∀ c : Dev Cert.CrossDw.nD,
      r.2.mem ((c.tc : Thread Cert.CrossDw.nD Cert.CrossDw.τ).loc Cert.CrossDw.main_arg0) = m ((c.tc : Thread Cert.CrossDw.nD Cert.CrossDw.τ).loc Cert.CrossDw.main_arg0)
      ∧ r.2.mem ((c.tc : Thread Cert.CrossDw.nD Cert.CrossDw.τ).loc Cert.CrossDw.main_arg1) = m ((c.tc : Thread Cert.CrossDw.nD Cert.CrossDw.τ).loc Cert.CrossDw.main_arg1)
      ∧ r.2.mem ((c.tc : Thread Cert.CrossDw.nD Cert.CrossDw.τ).loc Cert.CrossDw.main_arg2) = m ((c.tc : Thread Cert.CrossDw.nD Cert.CrossDw.τ).loc Cert.CrossDw.main_arg2)
      ∧ r.2.mem ((c.tc : Thread Cert.CrossDw.nD Cert.CrossDw.τ).loc Cert.CrossDw.main_arg3) = m ((c.tc : Thread Cert.CrossDw.nD Cert.CrossDw.τ).loc Cert.CrossDw.main_arg3))
      ∧ r.2.sem = fun _ => 0)

def quiescent_CrossDwIdeal [hCrossDwIdeal : Cert.CrossDwIdeal.Facts] : Prop :=
  ∀ (m : (ℓ : Loc Cert.CrossDwIdeal.nD Cert.CrossDwIdeal.τ Cert.CrossDwIdeal.sig) → Buf (Elt Ideal) ℓ) (g : Dev Cert.CrossDwIdeal.nD → PrngReg), Pre_CrossDwIdeal m →
    θ_run (Cert.CrossDwIdeal.defs (F := Ideal)) (onTc (τ := Cert.CrossDwIdeal.τ) (Cert.CrossDwIdeal.main (F := Ideal))) ⟨m, fun _ => 0, g⟩ (fun r => (∀ c : Dev Cert.CrossDwIdeal.nD,
      r.2.mem ((c.tc : Thread Cert.CrossDwIdeal.nD Cert.CrossDwIdeal.τ).loc Cert.CrossDwIdeal.main_arg0) = m ((c.tc : Thread Cert.CrossDwIdeal.nD Cert.CrossDwIdeal.τ).loc Cert.CrossDwIdeal.main_arg0)
      ∧ r.2.mem ((c.tc : Thread Cert.CrossDwIdeal.nD Cert.CrossDwIdeal.τ).loc Cert.CrossDwIdeal.main_arg1) = m ((c.tc : Thread Cert.CrossDwIdeal.nD Cert.CrossDwIdeal.τ).loc Cert.CrossDwIdeal.main_arg1)
      ∧ r.2.mem ((c.tc : Thread Cert.CrossDwIdeal.nD Cert.CrossDwIdeal.τ).loc Cert.CrossDwIdeal.main_arg2) = m ((c.tc : Thread Cert.CrossDwIdeal.nD Cert.CrossDwIdeal.τ).loc Cert.CrossDwIdeal.main_arg2)
      ∧ r.2.mem ((c.tc : Thread Cert.CrossDwIdeal.nD Cert.CrossDwIdeal.τ).loc Cert.CrossDwIdeal.main_arg3) = m ((c.tc : Thread Cert.CrossDwIdeal.nD Cert.CrossDwIdeal.τ).loc Cert.CrossDwIdeal.main_arg3))
      ∧ r.2.sem = fun _ => 0)

def quiescent_CrossDwRefIdeal [hCrossDwRefIdeal : Cert.CrossDwRefIdeal.Facts] : Prop :=
  ∀ (m : (ℓ : Loc Cert.CrossDwRefIdeal.nD Cert.CrossDwRefIdeal.τ Cert.CrossDwRefIdeal.sig) → Buf (Elt Ideal) ℓ) (g : Dev Cert.CrossDwRefIdeal.nD → PrngReg), Pre_CrossDwRefIdeal m →
    θ_run (Cert.CrossDwRefIdeal.defs (F := Ideal)) (onTc (τ := Cert.CrossDwRefIdeal.τ) (Cert.CrossDwRefIdeal.main (F := Ideal))) ⟨m, fun _ => 0, g⟩ (fun r => (∀ c : Dev Cert.CrossDwRefIdeal.nD,
      r.2.mem ((c.tc : Thread Cert.CrossDwRefIdeal.nD Cert.CrossDwRefIdeal.τ).loc Cert.CrossDwRefIdeal.main_arg0) = m ((c.tc : Thread Cert.CrossDwRefIdeal.nD Cert.CrossDwRefIdeal.τ).loc Cert.CrossDwRefIdeal.main_arg0)
      ∧ r.2.mem ((c.tc : Thread Cert.CrossDwRefIdeal.nD Cert.CrossDwRefIdeal.τ).loc Cert.CrossDwRefIdeal.main_arg1) = m ((c.tc : Thread Cert.CrossDwRefIdeal.nD Cert.CrossDwRefIdeal.τ).loc Cert.CrossDwRefIdeal.main_arg1)
      ∧ r.2.mem ((c.tc : Thread Cert.CrossDwRefIdeal.nD Cert.CrossDwRefIdeal.τ).loc Cert.CrossDwRefIdeal.main_arg2) = m ((c.tc : Thread Cert.CrossDwRefIdeal.nD Cert.CrossDwRefIdeal.τ).loc Cert.CrossDwRefIdeal.main_arg2)
      ∧ r.2.mem ((c.tc : Thread Cert.CrossDwRefIdeal.nD Cert.CrossDwRefIdeal.τ).loc Cert.CrossDwRefIdeal.main_arg3) = m ((c.tc : Thread Cert.CrossDwRefIdeal.nD Cert.CrossDwRefIdeal.τ).loc Cert.CrossDwRefIdeal.main_arg3))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1))
      ∧ r.2.sem = fun _ => 0)

def quiescent_Kvb [hKvb : Cert.Kvb.Facts] : Prop :=
  ∀ (m : (ℓ : Loc Cert.Kvb.nD Cert.Kvb.τ Cert.Kvb.sig) → Buf (Elt Bits) ℓ) (g : Dev Cert.Kvb.nD → PrngReg), Pre_Kvb m →
    θ_run (Cert.Kvb.defs (F := Bits)) (onTc (τ := Cert.Kvb.τ) (Cert.Kvb.main (F := Bits))) ⟨m, fun _ => 0, g⟩ (fun r => (∀ c : Dev Cert.Kvb.nD,
      r.2.mem ((c.tc : Thread Cert.Kvb.nD Cert.Kvb.τ).loc Cert.Kvb.main_arg0) = m ((c.tc : Thread Cert.Kvb.nD Cert.Kvb.τ).loc Cert.Kvb.main_arg0)
      ∧ r.2.mem ((c.tc : Thread Cert.Kvb.nD Cert.Kvb.τ).loc Cert.Kvb.main_arg1) = m ((c.tc : Thread Cert.Kvb.nD Cert.Kvb.τ).loc Cert.Kvb.main_arg1))
      ∧ r.2.sem = fun _ => 0)

def quiescent_KvbIdeal [hKvbIdeal : Cert.KvbIdeal.Facts] : Prop :=
  ∀ (m : (ℓ : Loc Cert.KvbIdeal.nD Cert.KvbIdeal.τ Cert.KvbIdeal.sig) → Buf (Elt Ideal) ℓ) (g : Dev Cert.KvbIdeal.nD → PrngReg), Pre_KvbIdeal m →
    θ_run (Cert.KvbIdeal.defs (F := Ideal)) (onTc (τ := Cert.KvbIdeal.τ) (Cert.KvbIdeal.main (F := Ideal))) ⟨m, fun _ => 0, g⟩ (fun r => (∀ c : Dev Cert.KvbIdeal.nD,
      r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
      ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ r.2.sem = fun _ => 0)

def quiescent_KvbRefIdeal [hKvbRefIdeal : Cert.KvbRefIdeal.Facts] : Prop :=
  ∀ (m : (ℓ : Loc Cert.KvbRefIdeal.nD Cert.KvbRefIdeal.τ Cert.KvbRefIdeal.sig) → Buf (Elt Ideal) ℓ) (g : Dev Cert.KvbRefIdeal.nD → PrngReg), Pre_KvbRefIdeal m →
    θ_run (Cert.KvbRefIdeal.defs (F := Ideal)) (onTc (τ := Cert.KvbRefIdeal.τ) (Cert.KvbRefIdeal.main (F := Ideal))) ⟨m, fun _ => 0, g⟩ (fun r => (∀ c : Dev Cert.KvbRefIdeal.nD,
      r.2.mem ((c.tc : Thread Cert.KvbRefIdeal.nD Cert.KvbRefIdeal.τ).loc Cert.KvbRefIdeal.main_arg0) = m ((c.tc : Thread Cert.KvbRefIdeal.nD Cert.KvbRefIdeal.τ).loc Cert.KvbRefIdeal.main_arg0)
      ∧ r.2.mem ((c.tc : Thread Cert.KvbRefIdeal.nD Cert.KvbRefIdeal.τ).loc Cert.KvbRefIdeal.main_arg1) = m ((c.tc : Thread Cert.KvbRefIdeal.nD Cert.KvbRefIdeal.τ).loc Cert.KvbRefIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_InLatent [hInLatent : Cert.InLatent.Facts] : Prop :=
  ∀ (m : (ℓ : Loc Cert.InLatent.nD Cert.InLatent.τ Cert.InLatent.sig) → Buf (Elt Bits) ℓ) (g : Dev Cert.InLatent.nD → PrngReg), Pre_InLatent m →
    θ_run (Cert.InLatent.defs (F := Bits)) (onTc (τ := Cert.InLatent.τ) (Cert.InLatent.main (F := Bits))) ⟨m, fun _ => 0, g⟩ (fun r => (∀ c : Dev Cert.InLatent.nD,
      r.2.mem ((c.tc : Thread Cert.InLatent.nD Cert.InLatent.τ).loc Cert.InLatent.main_arg0) = m ((c.tc : Thread Cert.InLatent.nD Cert.InLatent.τ).loc Cert.InLatent.main_arg0)
      ∧ r.2.mem ((c.tc : Thread Cert.InLatent.nD Cert.InLatent.τ).loc Cert.InLatent.main_arg1) = m ((c.tc : Thread Cert.InLatent.nD Cert.InLatent.τ).loc Cert.InLatent.main_arg1))
      ∧ r.2.sem = fun _ => 0)

def quiescent_InLatentIdeal [hInLatentIdeal : Cert.InLatentIdeal.Facts] : Prop :=
  ∀ (m : (ℓ : Loc Cert.InLatentIdeal.nD Cert.InLatentIdeal.τ Cert.InLatentIdeal.sig) → Buf (Elt Ideal) ℓ) (g : Dev Cert.InLatentIdeal.nD → PrngReg), Pre_InLatentIdeal m →
    θ_run (Cert.InLatentIdeal.defs (F := Ideal)) (onTc (τ := Cert.InLatentIdeal.τ) (Cert.InLatentIdeal.main (F := Ideal))) ⟨m, fun _ => 0, g⟩ (fun r => (∀ c : Dev Cert.InLatentIdeal.nD,
      r.2.mem ((c.tc : Thread Cert.InLatentIdeal.nD Cert.InLatentIdeal.τ).loc Cert.InLatentIdeal.main_arg0) = m ((c.tc : Thread Cert.InLatentIdeal.nD Cert.InLatentIdeal.τ).loc Cert.InLatentIdeal.main_arg0)
      ∧ r.2.mem ((c.tc : Thread Cert.InLatentIdeal.nD Cert.InLatentIdeal.τ).loc Cert.InLatentIdeal.main_arg1) = m ((c.tc : Thread Cert.InLatentIdeal.nD Cert.InLatentIdeal.τ).loc Cert.InLatentIdeal.main_arg1))
      ∧ r.2.sem = fun _ => 0)

def quiescent_InLatentRefIdeal [hInLatentRefIdeal : Cert.InLatentRefIdeal.Facts] : Prop :=
  ∀ (m : (ℓ : Loc Cert.InLatentRefIdeal.nD Cert.InLatentRefIdeal.τ Cert.InLatentRefIdeal.sig) → Buf (Elt Ideal) ℓ) (g : Dev Cert.InLatentRefIdeal.nD → PrngReg), Pre_InLatentRefIdeal m →
    θ_run (Cert.InLatentRefIdeal.defs (F := Ideal)) (onTc (τ := Cert.InLatentRefIdeal.τ) (Cert.InLatentRefIdeal.main (F := Ideal))) ⟨m, fun _ => 0, g⟩ (fun r => (∀ c : Dev Cert.InLatentRefIdeal.nD,
      r.2.mem ((c.tc : Thread Cert.InLatentRefIdeal.nD Cert.InLatentRefIdeal.τ).loc Cert.InLatentRefIdeal.main_arg0) = m ((c.tc : Thread Cert.InLatentRefIdeal.nD Cert.InLatentRefIdeal.τ).loc Cert.InLatentRefIdeal.main_arg0)
      ∧ r.2.mem ((c.tc : Thread Cert.InLatentRefIdeal.nD Cert.InLatentRefIdeal.τ).loc Cert.InLatentRefIdeal.main_arg1) = m ((c.tc : Thread Cert.InLatentRefIdeal.nD Cert.InLatentRefIdeal.τ).loc Cert.InLatentRefIdeal.main_arg1))
      ∧ r.2.sem = fun _ => 0)

def quiescent_InKv [hInKv : Cert.InKv.Facts] : Prop :=
  ∀ (m : (ℓ : Loc Cert.InKv.nD Cert.InKv.τ Cert.InKv.sig) → Buf (Elt Bits) ℓ) (g : Dev Cert.InKv.nD → PrngReg), Pre_InKv m →
    θ_run (Cert.InKv.defs (F := Bits)) (onTc (τ := Cert.InKv.τ) (Cert.InKv.main (F := Bits))) ⟨m, fun _ => 0, g⟩ (fun r => (∀ c : Dev Cert.InKv.nD,
      r.2.mem ((c.tc : Thread Cert.InKv.nD Cert.InKv.τ).loc Cert.InKv.main_arg0) = m ((c.tc : Thread Cert.InKv.nD Cert.InKv.τ).loc Cert.InKv.main_arg0)
      ∧ r.2.mem ((c.tc : Thread Cert.InKv.nD Cert.InKv.τ).loc Cert.InKv.main_arg1) = m ((c.tc : Thread Cert.InKv.nD Cert.InKv.τ).loc Cert.InKv.main_arg1))
      ∧ r.2.sem = fun _ => 0)

def quiescent_InKvIdeal [hInKvIdeal : Cert.InKvIdeal.Facts] : Prop :=
  ∀ (m : (ℓ : Loc Cert.InKvIdeal.nD Cert.InKvIdeal.τ Cert.InKvIdeal.sig) → Buf (Elt Ideal) ℓ) (g : Dev Cert.InKvIdeal.nD → PrngReg), Pre_InKvIdeal m →
    θ_run (Cert.InKvIdeal.defs (F := Ideal)) (onTc (τ := Cert.InKvIdeal.τ) (Cert.InKvIdeal.main (F := Ideal))) ⟨m, fun _ => 0, g⟩ (fun r => (∀ c : Dev Cert.InKvIdeal.nD,
      r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
      ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ r.2.sem = fun _ => 0)

def quiescent_InKvRefIdeal [hInKvRefIdeal : Cert.InKvRefIdeal.Facts] : Prop :=
  ∀ (m : (ℓ : Loc Cert.InKvRefIdeal.nD Cert.InKvRefIdeal.τ Cert.InKvRefIdeal.sig) → Buf (Elt Ideal) ℓ) (g : Dev Cert.InKvRefIdeal.nD → PrngReg), Pre_InKvRefIdeal m →
    θ_run (Cert.InKvRefIdeal.defs (F := Ideal)) (onTc (τ := Cert.InKvRefIdeal.τ) (Cert.InKvRefIdeal.main (F := Ideal))) ⟨m, fun _ => 0, g⟩ (fun r => (∀ c : Dev Cert.InKvRefIdeal.nD,
      r.2.mem ((c.tc : Thread Cert.InKvRefIdeal.nD Cert.InKvRefIdeal.τ).loc Cert.InKvRefIdeal.main_arg0) = m ((c.tc : Thread Cert.InKvRefIdeal.nD Cert.InKvRefIdeal.τ).loc Cert.InKvRefIdeal.main_arg0)
      ∧ r.2.mem ((c.tc : Thread Cert.InKvRefIdeal.nD Cert.InKvRefIdeal.τ).loc Cert.InKvRefIdeal.main_arg1) = m ((c.tc : Thread Cert.InKvRefIdeal.nD Cert.InKvRefIdeal.τ).loc Cert.InKvRefIdeal.main_arg1))
      ∧ r.2.sem = fun _ => 0)

def quiescent_InNarrow [hInNarrow : Cert.InNarrow.Facts] : Prop :=
  ∀ (m : (ℓ : Loc Cert.InNarrow.nD Cert.InNarrow.τ Cert.InNarrow.sig) → Buf (Elt Bits) ℓ) (g : Dev Cert.InNarrow.nD → PrngReg), Pre_InNarrow m →
    θ_run (Cert.InNarrow.defs (F := Bits)) (onTc (τ := Cert.InNarrow.τ) (Cert.InNarrow.main (F := Bits))) ⟨m, fun _ => 0, g⟩ (fun r => (∀ c : Dev Cert.InNarrow.nD,
      r.2.mem ((c.tc : Thread Cert.InNarrow.nD Cert.InNarrow.τ).loc Cert.InNarrow.main_arg0) = m ((c.tc : Thread Cert.InNarrow.nD Cert.InNarrow.τ).loc Cert.InNarrow.main_arg0)
      ∧ r.2.mem ((c.tc : Thread Cert.InNarrow.nD Cert.InNarrow.τ).loc Cert.InNarrow.main_arg1) = m ((c.tc : Thread Cert.InNarrow.nD Cert.InNarrow.τ).loc Cert.InNarrow.main_arg1))
      ∧ r.2.sem = fun _ => 0)

def quiescent_InNarrowIdeal [hInNarrowIdeal : Cert.InNarrowIdeal.Facts] : Prop :=
  ∀ (m : (ℓ : Loc Cert.InNarrowIdeal.nD Cert.InNarrowIdeal.τ Cert.InNarrowIdeal.sig) → Buf (Elt Ideal) ℓ) (g : Dev Cert.InNarrowIdeal.nD → PrngReg), Pre_InNarrowIdeal m →
    θ_run (Cert.InNarrowIdeal.defs (F := Ideal)) (onTc (τ := Cert.InNarrowIdeal.τ) (Cert.InNarrowIdeal.main (F := Ideal))) ⟨m, fun _ => 0, g⟩ (fun r => (∀ c : Dev Cert.InNarrowIdeal.nD,
      r.2.mem ((c.tc : Thread Cert.InNarrowIdeal.nD Cert.InNarrowIdeal.τ).loc Cert.InNarrowIdeal.main_arg0) = m ((c.tc : Thread Cert.InNarrowIdeal.nD Cert.InNarrowIdeal.τ).loc Cert.InNarrowIdeal.main_arg0)
      ∧ r.2.mem ((c.tc : Thread Cert.InNarrowIdeal.nD Cert.InNarrowIdeal.τ).loc Cert.InNarrowIdeal.main_arg1) = m ((c.tc : Thread Cert.InNarrowIdeal.nD Cert.InNarrowIdeal.τ).loc Cert.InNarrowIdeal.main_arg1))
      ∧ r.2.sem = fun _ => 0)

def quiescent_InNarrowRefIdeal [hInNarrowRefIdeal : Cert.InNarrowRefIdeal.Facts] : Prop :=
  ∀ (m : (ℓ : Loc Cert.InNarrowRefIdeal.nD Cert.InNarrowRefIdeal.τ Cert.InNarrowRefIdeal.sig) → Buf (Elt Ideal) ℓ) (g : Dev Cert.InNarrowRefIdeal.nD → PrngReg), Pre_InNarrowRefIdeal m →
    θ_run (Cert.InNarrowRefIdeal.defs (F := Ideal)) (onTc (τ := Cert.InNarrowRefIdeal.τ) (Cert.InNarrowRefIdeal.main (F := Ideal))) ⟨m, fun _ => 0, g⟩ (fun r => (∀ c : Dev Cert.InNarrowRefIdeal.nD,
      r.2.mem ((c.tc : Thread Cert.InNarrowRefIdeal.nD Cert.InNarrowRefIdeal.τ).loc Cert.InNarrowRefIdeal.main_arg0) = m ((c.tc : Thread Cert.InNarrowRefIdeal.nD Cert.InNarrowRefIdeal.τ).loc Cert.InNarrowRefIdeal.main_arg0)
      ∧ r.2.mem ((c.tc : Thread Cert.InNarrowRefIdeal.nD Cert.InNarrowRefIdeal.τ).loc Cert.InNarrowRefIdeal.main_arg1) = m ((c.tc : Thread Cert.InNarrowRefIdeal.nD Cert.InNarrowRefIdeal.τ).loc Cert.InNarrowRefIdeal.main_arg1))
      ∧ r.2.sem = fun _ => 0)

def quiescent_XattnOut [hXattnOut : Cert.XattnOut.Facts] : Prop :=
  ∀ (m : (ℓ : Loc Cert.XattnOut.nD Cert.XattnOut.τ Cert.XattnOut.sig) → Buf (Elt Bits) ℓ) (g : Dev Cert.XattnOut.nD → PrngReg), Pre_XattnOut m →
    θ_run (Cert.XattnOut.defs (F := Bits)) (onTc (τ := Cert.XattnOut.τ) (Cert.XattnOut.main (F := Bits))) ⟨m, fun _ => 0, g⟩ (fun r => (∀ c : Dev Cert.XattnOut.nD,
      r.2.mem ((c.tc : Thread Cert.XattnOut.nD Cert.XattnOut.τ).loc Cert.XattnOut.main_arg0) = m ((c.tc : Thread Cert.XattnOut.nD Cert.XattnOut.τ).loc Cert.XattnOut.main_arg0)
      ∧ r.2.mem ((c.tc : Thread Cert.XattnOut.nD Cert.XattnOut.τ).loc Cert.XattnOut.main_arg1) = m ((c.tc : Thread Cert.XattnOut.nD Cert.XattnOut.τ).loc Cert.XattnOut.main_arg1)
      ∧ r.2.mem ((c.tc : Thread Cert.XattnOut.nD Cert.XattnOut.τ).loc Cert.XattnOut.main_arg2) = m ((c.tc : Thread Cert.XattnOut.nD Cert.XattnOut.τ).loc Cert.XattnOut.main_arg2))
      ∧ r.2.sem = fun _ => 0)

def quiescent_XattnOutIdeal [hXattnOutIdeal : Cert.XattnOutIdeal.Facts] : Prop :=
  ∀ (m : (ℓ : Loc Cert.XattnOutIdeal.nD Cert.XattnOutIdeal.τ Cert.XattnOutIdeal.sig) → Buf (Elt Ideal) ℓ) (g : Dev Cert.XattnOutIdeal.nD → PrngReg), Pre_XattnOutIdeal m →
    θ_run (Cert.XattnOutIdeal.defs (F := Ideal)) (onTc (τ := Cert.XattnOutIdeal.τ) (Cert.XattnOutIdeal.main (F := Ideal))) ⟨m, fun _ => 0, g⟩ (fun r => (∀ c : Dev Cert.XattnOutIdeal.nD,
      r.2.mem ((c.tc : Thread Cert.XattnOutIdeal.nD Cert.XattnOutIdeal.τ).loc Cert.XattnOutIdeal.main_arg0) = m ((c.tc : Thread Cert.XattnOutIdeal.nD Cert.XattnOutIdeal.τ).loc Cert.XattnOutIdeal.main_arg0)
      ∧ r.2.mem ((c.tc : Thread Cert.XattnOutIdeal.nD Cert.XattnOutIdeal.τ).loc Cert.XattnOutIdeal.main_arg1) = m ((c.tc : Thread Cert.XattnOutIdeal.nD Cert.XattnOutIdeal.τ).loc Cert.XattnOutIdeal.main_arg1)
      ∧ r.2.mem ((c.tc : Thread Cert.XattnOutIdeal.nD Cert.XattnOutIdeal.τ).loc Cert.XattnOutIdeal.main_arg2) = m ((c.tc : Thread Cert.XattnOutIdeal.nD Cert.XattnOutIdeal.τ).loc Cert.XattnOutIdeal.main_arg2))
      ∧ r.2.sem = fun _ => 0)

def quiescent_XattnOutRefIdeal [hXattnOutRefIdeal : Cert.XattnOutRefIdeal.Facts] : Prop :=
  ∀ (m : (ℓ : Loc Cert.XattnOutRefIdeal.nD Cert.XattnOutRefIdeal.τ Cert.XattnOutRefIdeal.sig) → Buf (Elt Ideal) ℓ) (g : Dev Cert.XattnOutRefIdeal.nD → PrngReg), Pre_XattnOutRefIdeal m →
    θ_run (Cert.XattnOutRefIdeal.defs (F := Ideal)) (onTc (τ := Cert.XattnOutRefIdeal.τ) (Cert.XattnOutRefIdeal.main (F := Ideal))) ⟨m, fun _ => 0, g⟩ (fun r => (∀ c : Dev Cert.XattnOutRefIdeal.nD,
      r.2.mem ((c.tc : Thread Cert.XattnOutRefIdeal.nD Cert.XattnOutRefIdeal.τ).loc Cert.XattnOutRefIdeal.main_arg0) = m ((c.tc : Thread Cert.XattnOutRefIdeal.nD Cert.XattnOutRefIdeal.τ).loc Cert.XattnOutRefIdeal.main_arg0)
      ∧ r.2.mem ((c.tc : Thread Cert.XattnOutRefIdeal.nD Cert.XattnOutRefIdeal.τ).loc Cert.XattnOutRefIdeal.main_arg1) = m ((c.tc : Thread Cert.XattnOutRefIdeal.nD Cert.XattnOutRefIdeal.τ).loc Cert.XattnOutRefIdeal.main_arg1)
      ∧ r.2.mem ((c.tc : Thread Cert.XattnOutRefIdeal.nD Cert.XattnOutRefIdeal.τ).loc Cert.XattnOutRefIdeal.main_arg2) = m ((c.tc : Thread Cert.XattnOutRefIdeal.nD Cert.XattnOutRefIdeal.τ).loc Cert.XattnOutRefIdeal.main_arg2))
      ∧ r.2.sem = fun _ => 0)

def quiescent_XattnOutDw [hXattnOutDw : Cert.XattnOutDw.Facts] : Prop :=
  ∀ (m : (ℓ : Loc Cert.XattnOutDw.nD Cert.XattnOutDw.τ Cert.XattnOutDw.sig) → Buf (Elt Bits) ℓ) (g : Dev Cert.XattnOutDw.nD → PrngReg), Pre_XattnOutDw m →
    θ_run (Cert.XattnOutDw.defs (F := Bits)) (onTc (τ := Cert.XattnOutDw.τ) (Cert.XattnOutDw.main (F := Bits))) ⟨m, fun _ => 0, g⟩ (fun r => (∀ c : Dev Cert.XattnOutDw.nD,
      r.2.mem ((c.tc : Thread Cert.XattnOutDw.nD Cert.XattnOutDw.τ).loc Cert.XattnOutDw.main_arg0) = m ((c.tc : Thread Cert.XattnOutDw.nD Cert.XattnOutDw.τ).loc Cert.XattnOutDw.main_arg0)
      ∧ r.2.mem ((c.tc : Thread Cert.XattnOutDw.nD Cert.XattnOutDw.τ).loc Cert.XattnOutDw.main_arg1) = m ((c.tc : Thread Cert.XattnOutDw.nD Cert.XattnOutDw.τ).loc Cert.XattnOutDw.main_arg1)
      ∧ r.2.mem ((c.tc : Thread Cert.XattnOutDw.nD Cert.XattnOutDw.τ).loc Cert.XattnOutDw.main_arg2) = m ((c.tc : Thread Cert.XattnOutDw.nD Cert.XattnOutDw.τ).loc Cert.XattnOutDw.main_arg2)
      ∧ r.2.mem ((c.tc : Thread Cert.XattnOutDw.nD Cert.XattnOutDw.τ).loc Cert.XattnOutDw.main_arg3) = m ((c.tc : Thread Cert.XattnOutDw.nD Cert.XattnOutDw.τ).loc Cert.XattnOutDw.main_arg3))
      ∧ r.2.sem = fun _ => 0)

def quiescent_XattnOutDwIdeal [hXattnOutDwIdeal : Cert.XattnOutDwIdeal.Facts] : Prop :=
  ∀ (m : (ℓ : Loc Cert.XattnOutDwIdeal.nD Cert.XattnOutDwIdeal.τ Cert.XattnOutDwIdeal.sig) → Buf (Elt Ideal) ℓ) (g : Dev Cert.XattnOutDwIdeal.nD → PrngReg), Pre_XattnOutDwIdeal m →
    θ_run (Cert.XattnOutDwIdeal.defs (F := Ideal)) (onTc (τ := Cert.XattnOutDwIdeal.τ) (Cert.XattnOutDwIdeal.main (F := Ideal))) ⟨m, fun _ => 0, g⟩ (fun r => (∀ c : Dev Cert.XattnOutDwIdeal.nD,
      r.2.mem ((c.tc : Thread Cert.XattnOutDwIdeal.nD Cert.XattnOutDwIdeal.τ).loc Cert.XattnOutDwIdeal.main_arg0) = m ((c.tc : Thread Cert.XattnOutDwIdeal.nD Cert.XattnOutDwIdeal.τ).loc Cert.XattnOutDwIdeal.main_arg0)
      ∧ r.2.mem ((c.tc : Thread Cert.XattnOutDwIdeal.nD Cert.XattnOutDwIdeal.τ).loc Cert.XattnOutDwIdeal.main_arg1) = m ((c.tc : Thread Cert.XattnOutDwIdeal.nD Cert.XattnOutDwIdeal.τ).loc Cert.XattnOutDwIdeal.main_arg1)
      ∧ r.2.mem ((c.tc : Thread Cert.XattnOutDwIdeal.nD Cert.XattnOutDwIdeal.τ).loc Cert.XattnOutDwIdeal.main_arg2) = m ((c.tc : Thread Cert.XattnOutDwIdeal.nD Cert.XattnOutDwIdeal.τ).loc Cert.XattnOutDwIdeal.main_arg2)
      ∧ r.2.mem ((c.tc : Thread Cert.XattnOutDwIdeal.nD Cert.XattnOutDwIdeal.τ).loc Cert.XattnOutDwIdeal.main_arg3) = m ((c.tc : Thread Cert.XattnOutDwIdeal.nD Cert.XattnOutDwIdeal.τ).loc Cert.XattnOutDwIdeal.main_arg3))
      ∧ r.2.sem = fun _ => 0)

def quiescent_XattnOutDwRefIdeal [hXattnOutDwRefIdeal : Cert.XattnOutDwRefIdeal.Facts] : Prop :=
  ∀ (m : (ℓ : Loc Cert.XattnOutDwRefIdeal.nD Cert.XattnOutDwRefIdeal.τ Cert.XattnOutDwRefIdeal.sig) → Buf (Elt Ideal) ℓ) (g : Dev Cert.XattnOutDwRefIdeal.nD → PrngReg), Pre_XattnOutDwRefIdeal m →
    θ_run (Cert.XattnOutDwRefIdeal.defs (F := Ideal)) (onTc (τ := Cert.XattnOutDwRefIdeal.τ) (Cert.XattnOutDwRefIdeal.main (F := Ideal))) ⟨m, fun _ => 0, g⟩ (fun r => (∀ c : Dev Cert.XattnOutDwRefIdeal.nD,
      r.2.mem ((c.tc : Thread Cert.XattnOutDwRefIdeal.nD Cert.XattnOutDwRefIdeal.τ).loc Cert.XattnOutDwRefIdeal.main_arg0) = m ((c.tc : Thread Cert.XattnOutDwRefIdeal.nD Cert.XattnOutDwRefIdeal.τ).loc Cert.XattnOutDwRefIdeal.main_arg0)
      ∧ r.2.mem ((c.tc : Thread Cert.XattnOutDwRefIdeal.nD Cert.XattnOutDwRefIdeal.τ).loc Cert.XattnOutDwRefIdeal.main_arg1) = m ((c.tc : Thread Cert.XattnOutDwRefIdeal.nD Cert.XattnOutDwRefIdeal.τ).loc Cert.XattnOutDwRefIdeal.main_arg1)
      ∧ r.2.mem ((c.tc : Thread Cert.XattnOutDwRefIdeal.nD Cert.XattnOutDwRefIdeal.τ).loc Cert.XattnOutDwRefIdeal.main_arg2) = m ((c.tc : Thread Cert.XattnOutDwRefIdeal.nD Cert.XattnOutDwRefIdeal.τ).loc Cert.XattnOutDwRefIdeal.main_arg2)
      ∧ r.2.mem ((c.tc : Thread Cert.XattnOutDwRefIdeal.nD Cert.XattnOutDwRefIdeal.τ).loc Cert.XattnOutDwRefIdeal.main_arg3) = m ((c.tc : Thread Cert.XattnOutDwRefIdeal.nD Cert.XattnOutDwRefIdeal.τ).loc Cert.XattnOutDwRefIdeal.main_arg3))
      ∧ r.2.sem = fun _ => 0)

def quiescent_InDwLayer1 [hInDwLayer1 : Cert.InDwLayer1.Facts] : Prop :=
  ∀ (m : (ℓ : Loc Cert.InDwLayer1.nD Cert.InDwLayer1.τ Cert.InDwLayer1.sig) → Buf (Elt Bits) ℓ) (g : Dev Cert.InDwLayer1.nD → PrngReg), Pre_InDwLayer1 m →
    θ_run (Cert.InDwLayer1.defs (F := Bits)) (onTc (τ := Cert.InDwLayer1.τ) (Cert.InDwLayer1.main (F := Bits))) ⟨m, fun _ => 0, g⟩ (fun r => (∀ c : Dev Cert.InDwLayer1.nD,
      r.2.mem ((c.tc : Thread Cert.InDwLayer1.nD Cert.InDwLayer1.τ).loc Cert.InDwLayer1.main_arg0) = m ((c.tc : Thread Cert.InDwLayer1.nD Cert.InDwLayer1.τ).loc Cert.InDwLayer1.main_arg0)
      ∧ r.2.mem ((c.tc : Thread Cert.InDwLayer1.nD Cert.InDwLayer1.τ).loc Cert.InDwLayer1.main_arg1) = m ((c.tc : Thread Cert.InDwLayer1.nD Cert.InDwLayer1.τ).loc Cert.InDwLayer1.main_arg1)
      ∧ r.2.mem ((c.tc : Thread Cert.InDwLayer1.nD Cert.InDwLayer1.τ).loc Cert.InDwLayer1.main_arg2) = m ((c.tc : Thread Cert.InDwLayer1.nD Cert.InDwLayer1.τ).loc Cert.InDwLayer1.main_arg2)
      ∧ r.2.mem ((c.tc : Thread Cert.InDwLayer1.nD Cert.InDwLayer1.τ).loc Cert.InDwLayer1.main_arg3) = m ((c.tc : Thread Cert.InDwLayer1.nD Cert.InDwLayer1.τ).loc Cert.InDwLayer1.main_arg3))
      ∧ r.2.sem = fun _ => 0)

def quiescent_InDwLayer1Ideal [hInDwLayer1Ideal : Cert.InDwLayer1Ideal.Facts] : Prop :=
  ∀ (m : (ℓ : Loc Cert.InDwLayer1Ideal.nD Cert.InDwLayer1Ideal.τ Cert.InDwLayer1Ideal.sig) → Buf (Elt Ideal) ℓ) (g : Dev Cert.InDwLayer1Ideal.nD → PrngReg), Pre_InDwLayer1Ideal m →
    θ_run (Cert.InDwLayer1Ideal.defs (F := Ideal)) (onTc (τ := Cert.InDwLayer1Ideal.τ) (Cert.InDwLayer1Ideal.main (F := Ideal))) ⟨m, fun _ => 0, g⟩ (fun r => (∀ c : Dev Cert.InDwLayer1Ideal.nD,
      r.2.mem ((c.tc : Thread Cert.InDwLayer1Ideal.nD Cert.InDwLayer1Ideal.τ).loc Cert.InDwLayer1Ideal.main_arg0) = m ((c.tc : Thread Cert.InDwLayer1Ideal.nD Cert.InDwLayer1Ideal.τ).loc Cert.InDwLayer1Ideal.main_arg0)
      ∧ r.2.mem ((c.tc : Thread Cert.InDwLayer1Ideal.nD Cert.InDwLayer1Ideal.τ).loc Cert.InDwLayer1Ideal.main_arg1) = m ((c.tc : Thread Cert.InDwLayer1Ideal.nD Cert.InDwLayer1Ideal.τ).loc Cert.InDwLayer1Ideal.main_arg1)
      ∧ r.2.mem ((c.tc : Thread Cert.InDwLayer1Ideal.nD Cert.InDwLayer1Ideal.τ).loc Cert.InDwLayer1Ideal.main_arg2) = m ((c.tc : Thread Cert.InDwLayer1Ideal.nD Cert.InDwLayer1Ideal.τ).loc Cert.InDwLayer1Ideal.main_arg2)
      ∧ r.2.mem ((c.tc : Thread Cert.InDwLayer1Ideal.nD Cert.InDwLayer1Ideal.τ).loc Cert.InDwLayer1Ideal.main_arg3) = m ((c.tc : Thread Cert.InDwLayer1Ideal.nD Cert.InDwLayer1Ideal.τ).loc Cert.InDwLayer1Ideal.main_arg3))
      ∧ r.2.sem = fun _ => 0)

def quiescent_InDwLayer1RefIdeal [hInDwLayer1RefIdeal : Cert.InDwLayer1RefIdeal.Facts] : Prop :=
  ∀ (m : (ℓ : Loc Cert.InDwLayer1RefIdeal.nD Cert.InDwLayer1RefIdeal.τ Cert.InDwLayer1RefIdeal.sig) → Buf (Elt Ideal) ℓ) (g : Dev Cert.InDwLayer1RefIdeal.nD → PrngReg), Pre_InDwLayer1RefIdeal m →
    θ_run (Cert.InDwLayer1RefIdeal.defs (F := Ideal)) (onTc (τ := Cert.InDwLayer1RefIdeal.τ) (Cert.InDwLayer1RefIdeal.main (F := Ideal))) ⟨m, fun _ => 0, g⟩ (fun r => (∀ c : Dev Cert.InDwLayer1RefIdeal.nD,
      r.2.mem ((c.tc : Thread Cert.InDwLayer1RefIdeal.nD Cert.InDwLayer1RefIdeal.τ).loc Cert.InDwLayer1RefIdeal.main_arg0) = m ((c.tc : Thread Cert.InDwLayer1RefIdeal.nD Cert.InDwLayer1RefIdeal.τ).loc Cert.InDwLayer1RefIdeal.main_arg0)
      ∧ r.2.mem ((c.tc : Thread Cert.InDwLayer1RefIdeal.nD Cert.InDwLayer1RefIdeal.τ).loc Cert.InDwLayer1RefIdeal.main_arg1) = m ((c.tc : Thread Cert.InDwLayer1RefIdeal.nD Cert.InDwLayer1RefIdeal.τ).loc Cert.InDwLayer1RefIdeal.main_arg1)
      ∧ r.2.mem ((c.tc : Thread Cert.InDwLayer1RefIdeal.nD Cert.InDwLayer1RefIdeal.τ).loc Cert.InDwLayer1RefIdeal.main_arg2) = m ((c.tc : Thread Cert.InDwLayer1RefIdeal.nD Cert.InDwLayer1RefIdeal.τ).loc Cert.InDwLayer1RefIdeal.main_arg2)
      ∧ r.2.mem ((c.tc : Thread Cert.InDwLayer1RefIdeal.nD Cert.InDwLayer1RefIdeal.τ).loc Cert.InDwLayer1RefIdeal.main_arg3) = m ((c.tc : Thread Cert.InDwLayer1RefIdeal.nD Cert.InDwLayer1RefIdeal.τ).loc Cert.InDwLayer1RefIdeal.main_arg3))
      ∧ r.2.sem = fun _ => 0)

def quiescent_FfnInDwLayer1 [hFfnInDwLayer1 : Cert.FfnInDwLayer1.Facts] : Prop :=
  ∀ (m : (ℓ : Loc Cert.FfnInDwLayer1.nD Cert.FfnInDwLayer1.τ Cert.FfnInDwLayer1.sig) → Buf (Elt Bits) ℓ) (g : Dev Cert.FfnInDwLayer1.nD → PrngReg), Pre_FfnInDwLayer1 m →
    θ_run (Cert.FfnInDwLayer1.defs (F := Bits)) (onTc (τ := Cert.FfnInDwLayer1.τ) (Cert.FfnInDwLayer1.main (F := Bits))) ⟨m, fun _ => 0, g⟩ (fun r => (∀ c : Dev Cert.FfnInDwLayer1.nD,
      r.2.mem ((c.tc : Thread Cert.FfnInDwLayer1.nD Cert.FfnInDwLayer1.τ).loc Cert.FfnInDwLayer1.main_arg0) = m ((c.tc : Thread Cert.FfnInDwLayer1.nD Cert.FfnInDwLayer1.τ).loc Cert.FfnInDwLayer1.main_arg0)
      ∧ r.2.mem ((c.tc : Thread Cert.FfnInDwLayer1.nD Cert.FfnInDwLayer1.τ).loc Cert.FfnInDwLayer1.main_arg1) = m ((c.tc : Thread Cert.FfnInDwLayer1.nD Cert.FfnInDwLayer1.τ).loc Cert.FfnInDwLayer1.main_arg1)
      ∧ r.2.mem ((c.tc : Thread Cert.FfnInDwLayer1.nD Cert.FfnInDwLayer1.τ).loc Cert.FfnInDwLayer1.main_arg2) = m ((c.tc : Thread Cert.FfnInDwLayer1.nD Cert.FfnInDwLayer1.τ).loc Cert.FfnInDwLayer1.main_arg2)
      ∧ r.2.mem ((c.tc : Thread Cert.FfnInDwLayer1.nD Cert.FfnInDwLayer1.τ).loc Cert.FfnInDwLayer1.main_arg3) = m ((c.tc : Thread Cert.FfnInDwLayer1.nD Cert.FfnInDwLayer1.τ).loc Cert.FfnInDwLayer1.main_arg3))
      ∧ r.2.sem = fun _ => 0)

def quiescent_FfnInDwLayer1Ideal [hFfnInDwLayer1Ideal : Cert.FfnInDwLayer1Ideal.Facts] : Prop :=
  ∀ (m : (ℓ : Loc Cert.FfnInDwLayer1Ideal.nD Cert.FfnInDwLayer1Ideal.τ Cert.FfnInDwLayer1Ideal.sig) → Buf (Elt Ideal) ℓ) (g : Dev Cert.FfnInDwLayer1Ideal.nD → PrngReg), Pre_FfnInDwLayer1Ideal m →
    θ_run (Cert.FfnInDwLayer1Ideal.defs (F := Ideal)) (onTc (τ := Cert.FfnInDwLayer1Ideal.τ) (Cert.FfnInDwLayer1Ideal.main (F := Ideal))) ⟨m, fun _ => 0, g⟩ (fun r => (∀ c : Dev Cert.FfnInDwLayer1Ideal.nD,
      r.2.mem ((c.tc : Thread Cert.FfnInDwLayer1Ideal.nD Cert.FfnInDwLayer1Ideal.τ).loc Cert.FfnInDwLayer1Ideal.main_arg0) = m ((c.tc : Thread Cert.FfnInDwLayer1Ideal.nD Cert.FfnInDwLayer1Ideal.τ).loc Cert.FfnInDwLayer1Ideal.main_arg0)
      ∧ r.2.mem ((c.tc : Thread Cert.FfnInDwLayer1Ideal.nD Cert.FfnInDwLayer1Ideal.τ).loc Cert.FfnInDwLayer1Ideal.main_arg1) = m ((c.tc : Thread Cert.FfnInDwLayer1Ideal.nD Cert.FfnInDwLayer1Ideal.τ).loc Cert.FfnInDwLayer1Ideal.main_arg1)
      ∧ r.2.mem ((c.tc : Thread Cert.FfnInDwLayer1Ideal.nD Cert.FfnInDwLayer1Ideal.τ).loc Cert.FfnInDwLayer1Ideal.main_arg2) = m ((c.tc : Thread Cert.FfnInDwLayer1Ideal.nD Cert.FfnInDwLayer1Ideal.τ).loc Cert.FfnInDwLayer1Ideal.main_arg2)
      ∧ r.2.mem ((c.tc : Thread Cert.FfnInDwLayer1Ideal.nD Cert.FfnInDwLayer1Ideal.τ).loc Cert.FfnInDwLayer1Ideal.main_arg3) = m ((c.tc : Thread Cert.FfnInDwLayer1Ideal.nD Cert.FfnInDwLayer1Ideal.τ).loc Cert.FfnInDwLayer1Ideal.main_arg3))
      ∧ r.2.sem = fun _ => 0)

def quiescent_FfnInDwLayer1RefIdeal [hFfnInDwLayer1RefIdeal : Cert.FfnInDwLayer1RefIdeal.Facts] : Prop :=
  ∀ (m : (ℓ : Loc Cert.FfnInDwLayer1RefIdeal.nD Cert.FfnInDwLayer1RefIdeal.τ Cert.FfnInDwLayer1RefIdeal.sig) → Buf (Elt Ideal) ℓ) (g : Dev Cert.FfnInDwLayer1RefIdeal.nD → PrngReg), Pre_FfnInDwLayer1RefIdeal m →
    θ_run (Cert.FfnInDwLayer1RefIdeal.defs (F := Ideal)) (onTc (τ := Cert.FfnInDwLayer1RefIdeal.τ) (Cert.FfnInDwLayer1RefIdeal.main (F := Ideal))) ⟨m, fun _ => 0, g⟩ (fun r => (∀ c : Dev Cert.FfnInDwLayer1RefIdeal.nD,
      r.2.mem ((c.tc : Thread Cert.FfnInDwLayer1RefIdeal.nD Cert.FfnInDwLayer1RefIdeal.τ).loc Cert.FfnInDwLayer1RefIdeal.main_arg0) = m ((c.tc : Thread Cert.FfnInDwLayer1RefIdeal.nD Cert.FfnInDwLayer1RefIdeal.τ).loc Cert.FfnInDwLayer1RefIdeal.main_arg0)
      ∧ r.2.mem ((c.tc : Thread Cert.FfnInDwLayer1RefIdeal.nD Cert.FfnInDwLayer1RefIdeal.τ).loc Cert.FfnInDwLayer1RefIdeal.main_arg1) = m ((c.tc : Thread Cert.FfnInDwLayer1RefIdeal.nD Cert.FfnInDwLayer1RefIdeal.τ).loc Cert.FfnInDwLayer1RefIdeal.main_arg1)
      ∧ r.2.mem ((c.tc : Thread Cert.FfnInDwLayer1RefIdeal.nD Cert.FfnInDwLayer1RefIdeal.τ).loc Cert.FfnInDwLayer1RefIdeal.main_arg2) = m ((c.tc : Thread Cert.FfnInDwLayer1RefIdeal.nD Cert.FfnInDwLayer1RefIdeal.τ).loc Cert.FfnInDwLayer1RefIdeal.main_arg2)
      ∧ r.2.mem ((c.tc : Thread Cert.FfnInDwLayer1RefIdeal.nD Cert.FfnInDwLayer1RefIdeal.τ).loc Cert.FfnInDwLayer1RefIdeal.main_arg3) = m ((c.tc : Thread Cert.FfnInDwLayer1RefIdeal.nD Cert.FfnInDwLayer1RefIdeal.τ).loc Cert.FfnInDwLayer1RefIdeal.main_arg3))
      ∧ r.2.sem = fun _ => 0)

def quiescent_FfnOutDwLayer1 [hFfnOutDwLayer1 : Cert.FfnOutDwLayer1.Facts] : Prop :=
  ∀ (m : (ℓ : Loc Cert.FfnOutDwLayer1.nD Cert.FfnOutDwLayer1.τ Cert.FfnOutDwLayer1.sig) → Buf (Elt Bits) ℓ) (g : Dev Cert.FfnOutDwLayer1.nD → PrngReg), Pre_FfnOutDwLayer1 m →
    θ_run (Cert.FfnOutDwLayer1.defs (F := Bits)) (onTc (τ := Cert.FfnOutDwLayer1.τ) (Cert.FfnOutDwLayer1.main (F := Bits))) ⟨m, fun _ => 0, g⟩ (fun r => (∀ c : Dev Cert.FfnOutDwLayer1.nD,
      r.2.mem ((c.tc : Thread Cert.FfnOutDwLayer1.nD Cert.FfnOutDwLayer1.τ).loc Cert.FfnOutDwLayer1.main_arg0) = m ((c.tc : Thread Cert.FfnOutDwLayer1.nD Cert.FfnOutDwLayer1.τ).loc Cert.FfnOutDwLayer1.main_arg0)
      ∧ r.2.mem ((c.tc : Thread Cert.FfnOutDwLayer1.nD Cert.FfnOutDwLayer1.τ).loc Cert.FfnOutDwLayer1.main_arg1) = m ((c.tc : Thread Cert.FfnOutDwLayer1.nD Cert.FfnOutDwLayer1.τ).loc Cert.FfnOutDwLayer1.main_arg1)
      ∧ r.2.mem ((c.tc : Thread Cert.FfnOutDwLayer1.nD Cert.FfnOutDwLayer1.τ).loc Cert.FfnOutDwLayer1.main_arg2) = m ((c.tc : Thread Cert.FfnOutDwLayer1.nD Cert.FfnOutDwLayer1.τ).loc Cert.FfnOutDwLayer1.main_arg2)
      ∧ r.2.mem ((c.tc : Thread Cert.FfnOutDwLayer1.nD Cert.FfnOutDwLayer1.τ).loc Cert.FfnOutDwLayer1.main_arg3) = m ((c.tc : Thread Cert.FfnOutDwLayer1.nD Cert.FfnOutDwLayer1.τ).loc Cert.FfnOutDwLayer1.main_arg3))
      ∧ r.2.sem = fun _ => 0)

def quiescent_FfnOutDwLayer1Ideal [hFfnOutDwLayer1Ideal : Cert.FfnOutDwLayer1Ideal.Facts] : Prop :=
  ∀ (m : (ℓ : Loc Cert.FfnOutDwLayer1Ideal.nD Cert.FfnOutDwLayer1Ideal.τ Cert.FfnOutDwLayer1Ideal.sig) → Buf (Elt Ideal) ℓ) (g : Dev Cert.FfnOutDwLayer1Ideal.nD → PrngReg), Pre_FfnOutDwLayer1Ideal m →
    θ_run (Cert.FfnOutDwLayer1Ideal.defs (F := Ideal)) (onTc (τ := Cert.FfnOutDwLayer1Ideal.τ) (Cert.FfnOutDwLayer1Ideal.main (F := Ideal))) ⟨m, fun _ => 0, g⟩ (fun r => (∀ c : Dev Cert.FfnOutDwLayer1Ideal.nD,
      r.2.mem ((c.tc : Thread Cert.FfnOutDwLayer1Ideal.nD Cert.FfnOutDwLayer1Ideal.τ).loc Cert.FfnOutDwLayer1Ideal.main_arg0) = m ((c.tc : Thread Cert.FfnOutDwLayer1Ideal.nD Cert.FfnOutDwLayer1Ideal.τ).loc Cert.FfnOutDwLayer1Ideal.main_arg0)
      ∧ r.2.mem ((c.tc : Thread Cert.FfnOutDwLayer1Ideal.nD Cert.FfnOutDwLayer1Ideal.τ).loc Cert.FfnOutDwLayer1Ideal.main_arg1) = m ((c.tc : Thread Cert.FfnOutDwLayer1Ideal.nD Cert.FfnOutDwLayer1Ideal.τ).loc Cert.FfnOutDwLayer1Ideal.main_arg1)
      ∧ r.2.mem ((c.tc : Thread Cert.FfnOutDwLayer1Ideal.nD Cert.FfnOutDwLayer1Ideal.τ).loc Cert.FfnOutDwLayer1Ideal.main_arg2) = m ((c.tc : Thread Cert.FfnOutDwLayer1Ideal.nD Cert.FfnOutDwLayer1Ideal.τ).loc Cert.FfnOutDwLayer1Ideal.main_arg2)
      ∧ r.2.mem ((c.tc : Thread Cert.FfnOutDwLayer1Ideal.nD Cert.FfnOutDwLayer1Ideal.τ).loc Cert.FfnOutDwLayer1Ideal.main_arg3) = m ((c.tc : Thread Cert.FfnOutDwLayer1Ideal.nD Cert.FfnOutDwLayer1Ideal.τ).loc Cert.FfnOutDwLayer1Ideal.main_arg3))
      ∧ r.2.sem = fun _ => 0)

def quiescent_FfnOutDwLayer1RefIdeal [hFfnOutDwLayer1RefIdeal : Cert.FfnOutDwLayer1RefIdeal.Facts] : Prop :=
  ∀ (m : (ℓ : Loc Cert.FfnOutDwLayer1RefIdeal.nD Cert.FfnOutDwLayer1RefIdeal.τ Cert.FfnOutDwLayer1RefIdeal.sig) → Buf (Elt Ideal) ℓ) (g : Dev Cert.FfnOutDwLayer1RefIdeal.nD → PrngReg), Pre_FfnOutDwLayer1RefIdeal m →
    θ_run (Cert.FfnOutDwLayer1RefIdeal.defs (F := Ideal)) (onTc (τ := Cert.FfnOutDwLayer1RefIdeal.τ) (Cert.FfnOutDwLayer1RefIdeal.main (F := Ideal))) ⟨m, fun _ => 0, g⟩ (fun r => (∀ c : Dev Cert.FfnOutDwLayer1RefIdeal.nD,
      r.2.mem ((c.tc : Thread Cert.FfnOutDwLayer1RefIdeal.nD Cert.FfnOutDwLayer1RefIdeal.τ).loc Cert.FfnOutDwLayer1RefIdeal.main_arg0) = m ((c.tc : Thread Cert.FfnOutDwLayer1RefIdeal.nD Cert.FfnOutDwLayer1RefIdeal.τ).loc Cert.FfnOutDwLayer1RefIdeal.main_arg0)
      ∧ r.2.mem ((c.tc : Thread Cert.FfnOutDwLayer1RefIdeal.nD Cert.FfnOutDwLayer1RefIdeal.τ).loc Cert.FfnOutDwLayer1RefIdeal.main_arg1) = m ((c.tc : Thread Cert.FfnOutDwLayer1RefIdeal.nD Cert.FfnOutDwLayer1RefIdeal.τ).loc Cert.FfnOutDwLayer1RefIdeal.main_arg1)
      ∧ r.2.mem ((c.tc : Thread Cert.FfnOutDwLayer1RefIdeal.nD Cert.FfnOutDwLayer1RefIdeal.τ).loc Cert.FfnOutDwLayer1RefIdeal.main_arg2) = m ((c.tc : Thread Cert.FfnOutDwLayer1RefIdeal.nD Cert.FfnOutDwLayer1RefIdeal.τ).loc Cert.FfnOutDwLayer1RefIdeal.main_arg2)
      ∧ r.2.mem ((c.tc : Thread Cert.FfnOutDwLayer1RefIdeal.nD Cert.FfnOutDwLayer1RefIdeal.τ).loc Cert.FfnOutDwLayer1RefIdeal.main_arg3) = m ((c.tc : Thread Cert.FfnOutDwLayer1RefIdeal.nD Cert.FfnOutDwLayer1RefIdeal.τ).loc Cert.FfnOutDwLayer1RefIdeal.main_arg3))
      ∧ r.2.sem = fun _ => 0)

def quiescent_InDwLayer2 [hInDwLayer2 : Cert.InDwLayer2.Facts] : Prop :=
  ∀ (m : (ℓ : Loc Cert.InDwLayer2.nD Cert.InDwLayer2.τ Cert.InDwLayer2.sig) → Buf (Elt Bits) ℓ) (g : Dev Cert.InDwLayer2.nD → PrngReg), Pre_InDwLayer2 m →
    θ_run (Cert.InDwLayer2.defs (F := Bits)) (onTc (τ := Cert.InDwLayer2.τ) (Cert.InDwLayer2.main (F := Bits))) ⟨m, fun _ => 0, g⟩ (fun r => (∀ c : Dev Cert.InDwLayer2.nD,
      r.2.mem ((c.tc : Thread Cert.InDwLayer2.nD Cert.InDwLayer2.τ).loc Cert.InDwLayer2.main_arg0) = m ((c.tc : Thread Cert.InDwLayer2.nD Cert.InDwLayer2.τ).loc Cert.InDwLayer2.main_arg0)
      ∧ r.2.mem ((c.tc : Thread Cert.InDwLayer2.nD Cert.InDwLayer2.τ).loc Cert.InDwLayer2.main_arg1) = m ((c.tc : Thread Cert.InDwLayer2.nD Cert.InDwLayer2.τ).loc Cert.InDwLayer2.main_arg1)
      ∧ r.2.mem ((c.tc : Thread Cert.InDwLayer2.nD Cert.InDwLayer2.τ).loc Cert.InDwLayer2.main_arg2) = m ((c.tc : Thread Cert.InDwLayer2.nD Cert.InDwLayer2.τ).loc Cert.InDwLayer2.main_arg2)
      ∧ r.2.mem ((c.tc : Thread Cert.InDwLayer2.nD Cert.InDwLayer2.τ).loc Cert.InDwLayer2.main_arg3) = m ((c.tc : Thread Cert.InDwLayer2.nD Cert.InDwLayer2.τ).loc Cert.InDwLayer2.main_arg3))
      ∧ r.2.sem = fun _ => 0)

def quiescent_InDwLayer2Ideal [hInDwLayer2Ideal : Cert.InDwLayer2Ideal.Facts] : Prop :=
  ∀ (m : (ℓ : Loc Cert.InDwLayer2Ideal.nD Cert.InDwLayer2Ideal.τ Cert.InDwLayer2Ideal.sig) → Buf (Elt Ideal) ℓ) (g : Dev Cert.InDwLayer2Ideal.nD → PrngReg), Pre_InDwLayer2Ideal m →
    θ_run (Cert.InDwLayer2Ideal.defs (F := Ideal)) (onTc (τ := Cert.InDwLayer2Ideal.τ) (Cert.InDwLayer2Ideal.main (F := Ideal))) ⟨m, fun _ => 0, g⟩ (fun r => (∀ c : Dev Cert.InDwLayer2Ideal.nD,
      r.2.mem ((c.tc : Thread Cert.InDwLayer2Ideal.nD Cert.InDwLayer2Ideal.τ).loc Cert.InDwLayer2Ideal.main_arg0) = m ((c.tc : Thread Cert.InDwLayer2Ideal.nD Cert.InDwLayer2Ideal.τ).loc Cert.InDwLayer2Ideal.main_arg0)
      ∧ r.2.mem ((c.tc : Thread Cert.InDwLayer2Ideal.nD Cert.InDwLayer2Ideal.τ).loc Cert.InDwLayer2Ideal.main_arg1) = m ((c.tc : Thread Cert.InDwLayer2Ideal.nD Cert.InDwLayer2Ideal.τ).loc Cert.InDwLayer2Ideal.main_arg1)
      ∧ r.2.mem ((c.tc : Thread Cert.InDwLayer2Ideal.nD Cert.InDwLayer2Ideal.τ).loc Cert.InDwLayer2Ideal.main_arg2) = m ((c.tc : Thread Cert.InDwLayer2Ideal.nD Cert.InDwLayer2Ideal.τ).loc Cert.InDwLayer2Ideal.main_arg2)
      ∧ r.2.mem ((c.tc : Thread Cert.InDwLayer2Ideal.nD Cert.InDwLayer2Ideal.τ).loc Cert.InDwLayer2Ideal.main_arg3) = m ((c.tc : Thread Cert.InDwLayer2Ideal.nD Cert.InDwLayer2Ideal.τ).loc Cert.InDwLayer2Ideal.main_arg3))
      ∧ r.2.sem = fun _ => 0)

def quiescent_InDwLayer2RefIdeal [hInDwLayer2RefIdeal : Cert.InDwLayer2RefIdeal.Facts] : Prop :=
  ∀ (m : (ℓ : Loc Cert.InDwLayer2RefIdeal.nD Cert.InDwLayer2RefIdeal.τ Cert.InDwLayer2RefIdeal.sig) → Buf (Elt Ideal) ℓ) (g : Dev Cert.InDwLayer2RefIdeal.nD → PrngReg), Pre_InDwLayer2RefIdeal m →
    θ_run (Cert.InDwLayer2RefIdeal.defs (F := Ideal)) (onTc (τ := Cert.InDwLayer2RefIdeal.τ) (Cert.InDwLayer2RefIdeal.main (F := Ideal))) ⟨m, fun _ => 0, g⟩ (fun r => (∀ c : Dev Cert.InDwLayer2RefIdeal.nD,
      r.2.mem ((c.tc : Thread Cert.InDwLayer2RefIdeal.nD Cert.InDwLayer2RefIdeal.τ).loc Cert.InDwLayer2RefIdeal.main_arg0) = m ((c.tc : Thread Cert.InDwLayer2RefIdeal.nD Cert.InDwLayer2RefIdeal.τ).loc Cert.InDwLayer2RefIdeal.main_arg0)
      ∧ r.2.mem ((c.tc : Thread Cert.InDwLayer2RefIdeal.nD Cert.InDwLayer2RefIdeal.τ).loc Cert.InDwLayer2RefIdeal.main_arg1) = m ((c.tc : Thread Cert.InDwLayer2RefIdeal.nD Cert.InDwLayer2RefIdeal.τ).loc Cert.InDwLayer2RefIdeal.main_arg1)
      ∧ r.2.mem ((c.tc : Thread Cert.InDwLayer2RefIdeal.nD Cert.InDwLayer2RefIdeal.τ).loc Cert.InDwLayer2RefIdeal.main_arg2) = m ((c.tc : Thread Cert.InDwLayer2RefIdeal.nD Cert.InDwLayer2RefIdeal.τ).loc Cert.InDwLayer2RefIdeal.main_arg2)
      ∧ r.2.mem ((c.tc : Thread Cert.InDwLayer2RefIdeal.nD Cert.InDwLayer2RefIdeal.τ).loc Cert.InDwLayer2RefIdeal.main_arg3) = m ((c.tc : Thread Cert.InDwLayer2RefIdeal.nD Cert.InDwLayer2RefIdeal.τ).loc Cert.InDwLayer2RefIdeal.main_arg3))
      ∧ r.2.sem = fun _ => 0)

def quiescent_FfnInDwLayer2 [hFfnInDwLayer2 : Cert.FfnInDwLayer2.Facts] : Prop :=
  ∀ (m : (ℓ : Loc Cert.FfnInDwLayer2.nD Cert.FfnInDwLayer2.τ Cert.FfnInDwLayer2.sig) → Buf (Elt Bits) ℓ) (g : Dev Cert.FfnInDwLayer2.nD → PrngReg), Pre_FfnInDwLayer2 m →
    θ_run (Cert.FfnInDwLayer2.defs (F := Bits)) (onTc (τ := Cert.FfnInDwLayer2.τ) (Cert.FfnInDwLayer2.main (F := Bits))) ⟨m, fun _ => 0, g⟩ (fun r => (∀ c : Dev Cert.FfnInDwLayer2.nD,
      r.2.mem ((c.tc : Thread Cert.FfnInDwLayer2.nD Cert.FfnInDwLayer2.τ).loc Cert.FfnInDwLayer2.main_arg0) = m ((c.tc : Thread Cert.FfnInDwLayer2.nD Cert.FfnInDwLayer2.τ).loc Cert.FfnInDwLayer2.main_arg0)
      ∧ r.2.mem ((c.tc : Thread Cert.FfnInDwLayer2.nD Cert.FfnInDwLayer2.τ).loc Cert.FfnInDwLayer2.main_arg1) = m ((c.tc : Thread Cert.FfnInDwLayer2.nD Cert.FfnInDwLayer2.τ).loc Cert.FfnInDwLayer2.main_arg1)
      ∧ r.2.mem ((c.tc : Thread Cert.FfnInDwLayer2.nD Cert.FfnInDwLayer2.τ).loc Cert.FfnInDwLayer2.main_arg2) = m ((c.tc : Thread Cert.FfnInDwLayer2.nD Cert.FfnInDwLayer2.τ).loc Cert.FfnInDwLayer2.main_arg2)
      ∧ r.2.mem ((c.tc : Thread Cert.FfnInDwLayer2.nD Cert.FfnInDwLayer2.τ).loc Cert.FfnInDwLayer2.main_arg3) = m ((c.tc : Thread Cert.FfnInDwLayer2.nD Cert.FfnInDwLayer2.τ).loc Cert.FfnInDwLayer2.main_arg3))
      ∧ r.2.sem = fun _ => 0)

def quiescent_FfnInDwLayer2Ideal [hFfnInDwLayer2Ideal : Cert.FfnInDwLayer2Ideal.Facts] : Prop :=
  ∀ (m : (ℓ : Loc Cert.FfnInDwLayer2Ideal.nD Cert.FfnInDwLayer2Ideal.τ Cert.FfnInDwLayer2Ideal.sig) → Buf (Elt Ideal) ℓ) (g : Dev Cert.FfnInDwLayer2Ideal.nD → PrngReg), Pre_FfnInDwLayer2Ideal m →
    θ_run (Cert.FfnInDwLayer2Ideal.defs (F := Ideal)) (onTc (τ := Cert.FfnInDwLayer2Ideal.τ) (Cert.FfnInDwLayer2Ideal.main (F := Ideal))) ⟨m, fun _ => 0, g⟩ (fun r => (∀ c : Dev Cert.FfnInDwLayer2Ideal.nD,
      r.2.mem ((c.tc : Thread Cert.FfnInDwLayer2Ideal.nD Cert.FfnInDwLayer2Ideal.τ).loc Cert.FfnInDwLayer2Ideal.main_arg0) = m ((c.tc : Thread Cert.FfnInDwLayer2Ideal.nD Cert.FfnInDwLayer2Ideal.τ).loc Cert.FfnInDwLayer2Ideal.main_arg0)
      ∧ r.2.mem ((c.tc : Thread Cert.FfnInDwLayer2Ideal.nD Cert.FfnInDwLayer2Ideal.τ).loc Cert.FfnInDwLayer2Ideal.main_arg1) = m ((c.tc : Thread Cert.FfnInDwLayer2Ideal.nD Cert.FfnInDwLayer2Ideal.τ).loc Cert.FfnInDwLayer2Ideal.main_arg1)
      ∧ r.2.mem ((c.tc : Thread Cert.FfnInDwLayer2Ideal.nD Cert.FfnInDwLayer2Ideal.τ).loc Cert.FfnInDwLayer2Ideal.main_arg2) = m ((c.tc : Thread Cert.FfnInDwLayer2Ideal.nD Cert.FfnInDwLayer2Ideal.τ).loc Cert.FfnInDwLayer2Ideal.main_arg2)
      ∧ r.2.mem ((c.tc : Thread Cert.FfnInDwLayer2Ideal.nD Cert.FfnInDwLayer2Ideal.τ).loc Cert.FfnInDwLayer2Ideal.main_arg3) = m ((c.tc : Thread Cert.FfnInDwLayer2Ideal.nD Cert.FfnInDwLayer2Ideal.τ).loc Cert.FfnInDwLayer2Ideal.main_arg3))
      ∧ r.2.sem = fun _ => 0)

def quiescent_FfnInDwLayer2RefIdeal [hFfnInDwLayer2RefIdeal : Cert.FfnInDwLayer2RefIdeal.Facts] : Prop :=
  ∀ (m : (ℓ : Loc Cert.FfnInDwLayer2RefIdeal.nD Cert.FfnInDwLayer2RefIdeal.τ Cert.FfnInDwLayer2RefIdeal.sig) → Buf (Elt Ideal) ℓ) (g : Dev Cert.FfnInDwLayer2RefIdeal.nD → PrngReg), Pre_FfnInDwLayer2RefIdeal m →
    θ_run (Cert.FfnInDwLayer2RefIdeal.defs (F := Ideal)) (onTc (τ := Cert.FfnInDwLayer2RefIdeal.τ) (Cert.FfnInDwLayer2RefIdeal.main (F := Ideal))) ⟨m, fun _ => 0, g⟩ (fun r => (∀ c : Dev Cert.FfnInDwLayer2RefIdeal.nD,
      r.2.mem ((c.tc : Thread Cert.FfnInDwLayer2RefIdeal.nD Cert.FfnInDwLayer2RefIdeal.τ).loc Cert.FfnInDwLayer2RefIdeal.main_arg0) = m ((c.tc : Thread Cert.FfnInDwLayer2RefIdeal.nD Cert.FfnInDwLayer2RefIdeal.τ).loc Cert.FfnInDwLayer2RefIdeal.main_arg0)
      ∧ r.2.mem ((c.tc : Thread Cert.FfnInDwLayer2RefIdeal.nD Cert.FfnInDwLayer2RefIdeal.τ).loc Cert.FfnInDwLayer2RefIdeal.main_arg1) = m ((c.tc : Thread Cert.FfnInDwLayer2RefIdeal.nD Cert.FfnInDwLayer2RefIdeal.τ).loc Cert.FfnInDwLayer2RefIdeal.main_arg1)
      ∧ r.2.mem ((c.tc : Thread Cert.FfnInDwLayer2RefIdeal.nD Cert.FfnInDwLayer2RefIdeal.τ).loc Cert.FfnInDwLayer2RefIdeal.main_arg2) = m ((c.tc : Thread Cert.FfnInDwLayer2RefIdeal.nD Cert.FfnInDwLayer2RefIdeal.τ).loc Cert.FfnInDwLayer2RefIdeal.main_arg2)
      ∧ r.2.mem ((c.tc : Thread Cert.FfnInDwLayer2RefIdeal.nD Cert.FfnInDwLayer2RefIdeal.τ).loc Cert.FfnInDwLayer2RefIdeal.main_arg3) = m ((c.tc : Thread Cert.FfnInDwLayer2RefIdeal.nD Cert.FfnInDwLayer2RefIdeal.τ).loc Cert.FfnInDwLayer2RefIdeal.main_arg3))
      ∧ r.2.sem = fun _ => 0)

def quiescent_FfnOutDwLayer2 [hFfnOutDwLayer2 : Cert.FfnOutDwLayer2.Facts] : Prop :=
  ∀ (m : (ℓ : Loc Cert.FfnOutDwLayer2.nD Cert.FfnOutDwLayer2.τ Cert.FfnOutDwLayer2.sig) → Buf (Elt Bits) ℓ) (g : Dev Cert.FfnOutDwLayer2.nD → PrngReg), Pre_FfnOutDwLayer2 m →
    θ_run (Cert.FfnOutDwLayer2.defs (F := Bits)) (onTc (τ := Cert.FfnOutDwLayer2.τ) (Cert.FfnOutDwLayer2.main (F := Bits))) ⟨m, fun _ => 0, g⟩ (fun r => (∀ c : Dev Cert.FfnOutDwLayer2.nD,
      r.2.mem ((c.tc : Thread Cert.FfnOutDwLayer2.nD Cert.FfnOutDwLayer2.τ).loc Cert.FfnOutDwLayer2.main_arg0) = m ((c.tc : Thread Cert.FfnOutDwLayer2.nD Cert.FfnOutDwLayer2.τ).loc Cert.FfnOutDwLayer2.main_arg0)
      ∧ r.2.mem ((c.tc : Thread Cert.FfnOutDwLayer2.nD Cert.FfnOutDwLayer2.τ).loc Cert.FfnOutDwLayer2.main_arg1) = m ((c.tc : Thread Cert.FfnOutDwLayer2.nD Cert.FfnOutDwLayer2.τ).loc Cert.FfnOutDwLayer2.main_arg1)
      ∧ r.2.mem ((c.tc : Thread Cert.FfnOutDwLayer2.nD Cert.FfnOutDwLayer2.τ).loc Cert.FfnOutDwLayer2.main_arg2) = m ((c.tc : Thread Cert.FfnOutDwLayer2.nD Cert.FfnOutDwLayer2.τ).loc Cert.FfnOutDwLayer2.main_arg2)
      ∧ r.2.mem ((c.tc : Thread Cert.FfnOutDwLayer2.nD Cert.FfnOutDwLayer2.τ).loc Cert.FfnOutDwLayer2.main_arg3) = m ((c.tc : Thread Cert.FfnOutDwLayer2.nD Cert.FfnOutDwLayer2.τ).loc Cert.FfnOutDwLayer2.main_arg3))
      ∧ r.2.sem = fun _ => 0)

def quiescent_FfnOutDwLayer2Ideal [hFfnOutDwLayer2Ideal : Cert.FfnOutDwLayer2Ideal.Facts] : Prop :=
  ∀ (m : (ℓ : Loc Cert.FfnOutDwLayer2Ideal.nD Cert.FfnOutDwLayer2Ideal.τ Cert.FfnOutDwLayer2Ideal.sig) → Buf (Elt Ideal) ℓ) (g : Dev Cert.FfnOutDwLayer2Ideal.nD → PrngReg), Pre_FfnOutDwLayer2Ideal m →
    θ_run (Cert.FfnOutDwLayer2Ideal.defs (F := Ideal)) (onTc (τ := Cert.FfnOutDwLayer2Ideal.τ) (Cert.FfnOutDwLayer2Ideal.main (F := Ideal))) ⟨m, fun _ => 0, g⟩ (fun r => (∀ c : Dev Cert.FfnOutDwLayer2Ideal.nD,
      r.2.mem ((c.tc : Thread Cert.FfnOutDwLayer2Ideal.nD Cert.FfnOutDwLayer2Ideal.τ).loc Cert.FfnOutDwLayer2Ideal.main_arg0) = m ((c.tc : Thread Cert.FfnOutDwLayer2Ideal.nD Cert.FfnOutDwLayer2Ideal.τ).loc Cert.FfnOutDwLayer2Ideal.main_arg0)
      ∧ r.2.mem ((c.tc : Thread Cert.FfnOutDwLayer2Ideal.nD Cert.FfnOutDwLayer2Ideal.τ).loc Cert.FfnOutDwLayer2Ideal.main_arg1) = m ((c.tc : Thread Cert.FfnOutDwLayer2Ideal.nD Cert.FfnOutDwLayer2Ideal.τ).loc Cert.FfnOutDwLayer2Ideal.main_arg1)
      ∧ r.2.mem ((c.tc : Thread Cert.FfnOutDwLayer2Ideal.nD Cert.FfnOutDwLayer2Ideal.τ).loc Cert.FfnOutDwLayer2Ideal.main_arg2) = m ((c.tc : Thread Cert.FfnOutDwLayer2Ideal.nD Cert.FfnOutDwLayer2Ideal.τ).loc Cert.FfnOutDwLayer2Ideal.main_arg2)
      ∧ r.2.mem ((c.tc : Thread Cert.FfnOutDwLayer2Ideal.nD Cert.FfnOutDwLayer2Ideal.τ).loc Cert.FfnOutDwLayer2Ideal.main_arg3) = m ((c.tc : Thread Cert.FfnOutDwLayer2Ideal.nD Cert.FfnOutDwLayer2Ideal.τ).loc Cert.FfnOutDwLayer2Ideal.main_arg3))
      ∧ r.2.sem = fun _ => 0)

def quiescent_FfnOutDwLayer2RefIdeal [hFfnOutDwLayer2RefIdeal : Cert.FfnOutDwLayer2RefIdeal.Facts] : Prop :=
  ∀ (m : (ℓ : Loc Cert.FfnOutDwLayer2RefIdeal.nD Cert.FfnOutDwLayer2RefIdeal.τ Cert.FfnOutDwLayer2RefIdeal.sig) → Buf (Elt Ideal) ℓ) (g : Dev Cert.FfnOutDwLayer2RefIdeal.nD → PrngReg), Pre_FfnOutDwLayer2RefIdeal m →
    θ_run (Cert.FfnOutDwLayer2RefIdeal.defs (F := Ideal)) (onTc (τ := Cert.FfnOutDwLayer2RefIdeal.τ) (Cert.FfnOutDwLayer2RefIdeal.main (F := Ideal))) ⟨m, fun _ => 0, g⟩ (fun r => (∀ c : Dev Cert.FfnOutDwLayer2RefIdeal.nD,
      r.2.mem ((c.tc : Thread Cert.FfnOutDwLayer2RefIdeal.nD Cert.FfnOutDwLayer2RefIdeal.τ).loc Cert.FfnOutDwLayer2RefIdeal.main_arg0) = m ((c.tc : Thread Cert.FfnOutDwLayer2RefIdeal.nD Cert.FfnOutDwLayer2RefIdeal.τ).loc Cert.FfnOutDwLayer2RefIdeal.main_arg0)
      ∧ r.2.mem ((c.tc : Thread Cert.FfnOutDwLayer2RefIdeal.nD Cert.FfnOutDwLayer2RefIdeal.τ).loc Cert.FfnOutDwLayer2RefIdeal.main_arg1) = m ((c.tc : Thread Cert.FfnOutDwLayer2RefIdeal.nD Cert.FfnOutDwLayer2RefIdeal.τ).loc Cert.FfnOutDwLayer2RefIdeal.main_arg1)
      ∧ r.2.mem ((c.tc : Thread Cert.FfnOutDwLayer2RefIdeal.nD Cert.FfnOutDwLayer2RefIdeal.τ).loc Cert.FfnOutDwLayer2RefIdeal.main_arg2) = m ((c.tc : Thread Cert.FfnOutDwLayer2RefIdeal.nD Cert.FfnOutDwLayer2RefIdeal.τ).loc Cert.FfnOutDwLayer2RefIdeal.main_arg2)
      ∧ r.2.mem ((c.tc : Thread Cert.FfnOutDwLayer2RefIdeal.nD Cert.FfnOutDwLayer2RefIdeal.τ).loc Cert.FfnOutDwLayer2RefIdeal.main_arg3) = m ((c.tc : Thread Cert.FfnOutDwLayer2RefIdeal.nD Cert.FfnOutDwLayer2RefIdeal.τ).loc Cert.FfnOutDwLayer2RefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamCross [hAdamCross : Cert.AdamCross.Facts] : Prop :=
  ∀ (m : (ℓ : Loc Cert.AdamCross.nD Cert.AdamCross.τ Cert.AdamCross.sig) → Buf (Elt Bits) ℓ) (g : Dev Cert.AdamCross.nD → PrngReg), Pre_AdamCross m →
    θ_run (Cert.AdamCross.defs (F := Bits)) (onTc (τ := Cert.AdamCross.τ) (Cert.AdamCross.main (F := Bits))) ⟨m, fun _ => 0, g⟩ (fun r => (∀ c : Dev Cert.AdamCross.nD,
      r.2.mem ((c.tc : Thread Cert.AdamCross.nD Cert.AdamCross.τ).loc Cert.AdamCross.main_arg0) = m ((c.tc : Thread Cert.AdamCross.nD Cert.AdamCross.τ).loc Cert.AdamCross.main_arg0)
      ∧ r.2.mem ((c.tc : Thread Cert.AdamCross.nD Cert.AdamCross.τ).loc Cert.AdamCross.main_arg1) = m ((c.tc : Thread Cert.AdamCross.nD Cert.AdamCross.τ).loc Cert.AdamCross.main_arg1)
      ∧ r.2.mem ((c.tc : Thread Cert.AdamCross.nD Cert.AdamCross.τ).loc Cert.AdamCross.main_arg2) = m ((c.tc : Thread Cert.AdamCross.nD Cert.AdamCross.τ).loc Cert.AdamCross.main_arg2)
      ∧ r.2.mem ((c.tc : Thread Cert.AdamCross.nD Cert.AdamCross.τ).loc Cert.AdamCross.main_arg3) = m ((c.tc : Thread Cert.AdamCross.nD Cert.AdamCross.τ).loc Cert.AdamCross.main_arg3))
      ∧ r.2.sem = fun _ => 0)

def quiescent_AdamCrossIdeal [hAdamCrossIdeal : Cert.AdamCrossIdeal.Facts] : Prop :=
  ∀ (m : (ℓ : Loc Cert.AdamCrossIdeal.nD Cert.AdamCrossIdeal.τ Cert.AdamCrossIdeal.sig) → Buf (Elt Ideal) ℓ) (g : Dev Cert.AdamCrossIdeal.nD → PrngReg), Pre_AdamCrossIdeal m →
    θ_run (Cert.AdamCrossIdeal.defs (F := Ideal)) (onTc (τ := Cert.AdamCrossIdeal.τ) (Cert.AdamCrossIdeal.main (F := Ideal))) ⟨m, fun _ => 0, g⟩ (fun r => (∀ c : Dev Cert.AdamCrossIdeal.nD,
      r.2.mem ((c.tc : Thread Cert.AdamCrossIdeal.nD Cert.AdamCrossIdeal.τ).loc Cert.AdamCrossIdeal.main_arg0) = m ((c.tc : Thread Cert.AdamCrossIdeal.nD Cert.AdamCrossIdeal.τ).loc Cert.AdamCrossIdeal.main_arg0)
      ∧ r.2.mem ((c.tc : Thread Cert.AdamCrossIdeal.nD Cert.AdamCrossIdeal.τ).loc Cert.AdamCrossIdeal.main_arg1) = m ((c.tc : Thread Cert.AdamCrossIdeal.nD Cert.AdamCrossIdeal.τ).loc Cert.AdamCrossIdeal.main_arg1)
      ∧ r.2.mem ((c.tc : Thread Cert.AdamCrossIdeal.nD Cert.AdamCrossIdeal.τ).loc Cert.AdamCrossIdeal.main_arg2) = m ((c.tc : Thread Cert.AdamCrossIdeal.nD Cert.AdamCrossIdeal.τ).loc Cert.AdamCrossIdeal.main_arg2)
      ∧ r.2.mem ((c.tc : Thread Cert.AdamCrossIdeal.nD Cert.AdamCrossIdeal.τ).loc Cert.AdamCrossIdeal.main_arg3) = m ((c.tc : Thread Cert.AdamCrossIdeal.nD Cert.AdamCrossIdeal.τ).loc Cert.AdamCrossIdeal.main_arg3))
      ∧ r.2.sem = fun _ => 0)

def quiescent_AdamCrossRefIdeal [hAdamCrossRefIdeal : Cert.AdamCrossRefIdeal.Facts] : Prop :=
  ∀ (m : (ℓ : Loc Cert.AdamCrossRefIdeal.nD Cert.AdamCrossRefIdeal.τ Cert.AdamCrossRefIdeal.sig) → Buf (Elt Ideal) ℓ) (g : Dev Cert.AdamCrossRefIdeal.nD → PrngReg), Pre_AdamCrossRefIdeal m →
    θ_run (Cert.AdamCrossRefIdeal.defs (F := Ideal)) (onTc (τ := Cert.AdamCrossRefIdeal.τ) (Cert.AdamCrossRefIdeal.main (F := Ideal))) ⟨m, fun _ => 0, g⟩ (fun r => (∀ c : Dev Cert.AdamCrossRefIdeal.nD,
      r.2.mem ((c.tc : Thread Cert.AdamCrossRefIdeal.nD Cert.AdamCrossRefIdeal.τ).loc Cert.AdamCrossRefIdeal.main_arg0) = m ((c.tc : Thread Cert.AdamCrossRefIdeal.nD Cert.AdamCrossRefIdeal.τ).loc Cert.AdamCrossRefIdeal.main_arg0)
      ∧ r.2.mem ((c.tc : Thread Cert.AdamCrossRefIdeal.nD Cert.AdamCrossRefIdeal.τ).loc Cert.AdamCrossRefIdeal.main_arg1) = m ((c.tc : Thread Cert.AdamCrossRefIdeal.nD Cert.AdamCrossRefIdeal.τ).loc Cert.AdamCrossRefIdeal.main_arg1)
      ∧ r.2.mem ((c.tc : Thread Cert.AdamCrossRefIdeal.nD Cert.AdamCrossRefIdeal.τ).loc Cert.AdamCrossRefIdeal.main_arg2) = m ((c.tc : Thread Cert.AdamCrossRefIdeal.nD Cert.AdamCrossRefIdeal.τ).loc Cert.AdamCrossRefIdeal.main_arg2)
      ∧ r.2.mem ((c.tc : Thread Cert.AdamCrossRefIdeal.nD Cert.AdamCrossRefIdeal.τ).loc Cert.AdamCrossRefIdeal.main_arg3) = m ((c.tc : Thread Cert.AdamCrossRefIdeal.nD Cert.AdamCrossRefIdeal.τ).loc Cert.AdamCrossRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamSsdConv [hAdamSsdConv : Cert.AdamSsdConv.Facts] : Prop :=
  ∀ (m : (ℓ : Loc Cert.AdamSsdConv.nD Cert.AdamSsdConv.τ Cert.AdamSsdConv.sig) → Buf (Elt Bits) ℓ) (g : Dev Cert.AdamSsdConv.nD → PrngReg), Pre_AdamSsdConv m →
    θ_run (Cert.AdamSsdConv.defs (F := Bits)) (onTc (τ := Cert.AdamSsdConv.τ) (Cert.AdamSsdConv.main (F := Bits))) ⟨m, fun _ => 0, g⟩ (fun r => (∀ c : Dev Cert.AdamSsdConv.nD,
      r.2.mem ((c.tc : Thread Cert.AdamSsdConv.nD Cert.AdamSsdConv.τ).loc Cert.AdamSsdConv.main_arg0) = m ((c.tc : Thread Cert.AdamSsdConv.nD Cert.AdamSsdConv.τ).loc Cert.AdamSsdConv.main_arg0)
      ∧ r.2.mem ((c.tc : Thread Cert.AdamSsdConv.nD Cert.AdamSsdConv.τ).loc Cert.AdamSsdConv.main_arg1) = m ((c.tc : Thread Cert.AdamSsdConv.nD Cert.AdamSsdConv.τ).loc Cert.AdamSsdConv.main_arg1)
      ∧ r.2.mem ((c.tc : Thread Cert.AdamSsdConv.nD Cert.AdamSsdConv.τ).loc Cert.AdamSsdConv.main_arg2) = m ((c.tc : Thread Cert.AdamSsdConv.nD Cert.AdamSsdConv.τ).loc Cert.AdamSsdConv.main_arg2)
      ∧ r.2.mem ((c.tc : Thread Cert.AdamSsdConv.nD Cert.AdamSsdConv.τ).loc Cert.AdamSsdConv.main_arg3) = m ((c.tc : Thread Cert.AdamSsdConv.nD Cert.AdamSsdConv.τ).loc Cert.AdamSsdConv.main_arg3))
      ∧ r.2.sem = fun _ => 0)

def quiescent_AdamSsdConvIdeal [hAdamSsdConvIdeal : Cert.AdamSsdConvIdeal.Facts] : Prop :=
  ∀ (m : (ℓ : Loc Cert.AdamSsdConvIdeal.nD Cert.AdamSsdConvIdeal.τ Cert.AdamSsdConvIdeal.sig) → Buf (Elt Ideal) ℓ) (g : Dev Cert.AdamSsdConvIdeal.nD → PrngReg), Pre_AdamSsdConvIdeal m →
    θ_run (Cert.AdamSsdConvIdeal.defs (F := Ideal)) (onTc (τ := Cert.AdamSsdConvIdeal.τ) (Cert.AdamSsdConvIdeal.main (F := Ideal))) ⟨m, fun _ => 0, g⟩ (fun r => (∀ c : Dev Cert.AdamSsdConvIdeal.nD,
      r.2.mem ((c.tc : Thread Cert.AdamSsdConvIdeal.nD Cert.AdamSsdConvIdeal.τ).loc Cert.AdamSsdConvIdeal.main_arg0) = m ((c.tc : Thread Cert.AdamSsdConvIdeal.nD Cert.AdamSsdConvIdeal.τ).loc Cert.AdamSsdConvIdeal.main_arg0)
      ∧ r.2.mem ((c.tc : Thread Cert.AdamSsdConvIdeal.nD Cert.AdamSsdConvIdeal.τ).loc Cert.AdamSsdConvIdeal.main_arg1) = m ((c.tc : Thread Cert.AdamSsdConvIdeal.nD Cert.AdamSsdConvIdeal.τ).loc Cert.AdamSsdConvIdeal.main_arg1)
      ∧ r.2.mem ((c.tc : Thread Cert.AdamSsdConvIdeal.nD Cert.AdamSsdConvIdeal.τ).loc Cert.AdamSsdConvIdeal.main_arg2) = m ((c.tc : Thread Cert.AdamSsdConvIdeal.nD Cert.AdamSsdConvIdeal.τ).loc Cert.AdamSsdConvIdeal.main_arg2)
      ∧ r.2.mem ((c.tc : Thread Cert.AdamSsdConvIdeal.nD Cert.AdamSsdConvIdeal.τ).loc Cert.AdamSsdConvIdeal.main_arg3) = m ((c.tc : Thread Cert.AdamSsdConvIdeal.nD Cert.AdamSsdConvIdeal.τ).loc Cert.AdamSsdConvIdeal.main_arg3))
      ∧ r.2.sem = fun _ => 0)

def quiescent_AdamSsdConvRefIdeal [hAdamSsdConvRefIdeal : Cert.AdamSsdConvRefIdeal.Facts] : Prop :=
  ∀ (m : (ℓ : Loc Cert.AdamSsdConvRefIdeal.nD Cert.AdamSsdConvRefIdeal.τ Cert.AdamSsdConvRefIdeal.sig) → Buf (Elt Ideal) ℓ) (g : Dev Cert.AdamSsdConvRefIdeal.nD → PrngReg), Pre_AdamSsdConvRefIdeal m →
    θ_run (Cert.AdamSsdConvRefIdeal.defs (F := Ideal)) (onTc (τ := Cert.AdamSsdConvRefIdeal.τ) (Cert.AdamSsdConvRefIdeal.main (F := Ideal))) ⟨m, fun _ => 0, g⟩ (fun r => (∀ c : Dev Cert.AdamSsdConvRefIdeal.nD,
      r.2.mem ((c.tc : Thread Cert.AdamSsdConvRefIdeal.nD Cert.AdamSsdConvRefIdeal.τ).loc Cert.AdamSsdConvRefIdeal.main_arg0) = m ((c.tc : Thread Cert.AdamSsdConvRefIdeal.nD Cert.AdamSsdConvRefIdeal.τ).loc Cert.AdamSsdConvRefIdeal.main_arg0)
      ∧ r.2.mem ((c.tc : Thread Cert.AdamSsdConvRefIdeal.nD Cert.AdamSsdConvRefIdeal.τ).loc Cert.AdamSsdConvRefIdeal.main_arg1) = m ((c.tc : Thread Cert.AdamSsdConvRefIdeal.nD Cert.AdamSsdConvRefIdeal.τ).loc Cert.AdamSsdConvRefIdeal.main_arg1)
      ∧ r.2.mem ((c.tc : Thread Cert.AdamSsdConvRefIdeal.nD Cert.AdamSsdConvRefIdeal.τ).loc Cert.AdamSsdConvRefIdeal.main_arg2) = m ((c.tc : Thread Cert.AdamSsdConvRefIdeal.nD Cert.AdamSsdConvRefIdeal.τ).loc Cert.AdamSsdConvRefIdeal.main_arg2)
      ∧ r.2.mem ((c.tc : Thread Cert.AdamSsdConvRefIdeal.nD Cert.AdamSsdConvRefIdeal.τ).loc Cert.AdamSsdConvRefIdeal.main_arg3) = m ((c.tc : Thread Cert.AdamSsdConvRefIdeal.nD Cert.AdamSsdConvRefIdeal.τ).loc Cert.AdamSsdConvRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamVectors [hAdamVectors : Cert.AdamVectors.Facts] : Prop :=
  ∀ (m : (ℓ : Loc Cert.AdamVectors.nD Cert.AdamVectors.τ Cert.AdamVectors.sig) → Buf (Elt Bits) ℓ) (g : Dev Cert.AdamVectors.nD → PrngReg), Pre_AdamVectors m →
    θ_run (Cert.AdamVectors.defs (F := Bits)) (onTc (τ := Cert.AdamVectors.τ) (Cert.AdamVectors.main (F := Bits))) ⟨m, fun _ => 0, g⟩ (fun r => (∀ c : Dev Cert.AdamVectors.nD,
      r.2.mem ((c.tc : Thread Cert.AdamVectors.nD Cert.AdamVectors.τ).loc Cert.AdamVectors.main_arg0) = m ((c.tc : Thread Cert.AdamVectors.nD Cert.AdamVectors.τ).loc Cert.AdamVectors.main_arg0)
      ∧ r.2.mem ((c.tc : Thread Cert.AdamVectors.nD Cert.AdamVectors.τ).loc Cert.AdamVectors.main_arg1) = m ((c.tc : Thread Cert.AdamVectors.nD Cert.AdamVectors.τ).loc Cert.AdamVectors.main_arg1)
      ∧ r.2.mem ((c.tc : Thread Cert.AdamVectors.nD Cert.AdamVectors.τ).loc Cert.AdamVectors.main_arg2) = m ((c.tc : Thread Cert.AdamVectors.nD Cert.AdamVectors.τ).loc Cert.AdamVectors.main_arg2)
      ∧ r.2.mem ((c.tc : Thread Cert.AdamVectors.nD Cert.AdamVectors.τ).loc Cert.AdamVectors.main_arg3) = m ((c.tc : Thread Cert.AdamVectors.nD Cert.AdamVectors.τ).loc Cert.AdamVectors.main_arg3))
      ∧ r.2.sem = fun _ => 0)

def quiescent_AdamVectorsIdeal [hAdamVectorsIdeal : Cert.AdamVectorsIdeal.Facts] : Prop :=
  ∀ (m : (ℓ : Loc Cert.AdamVectorsIdeal.nD Cert.AdamVectorsIdeal.τ Cert.AdamVectorsIdeal.sig) → Buf (Elt Ideal) ℓ) (g : Dev Cert.AdamVectorsIdeal.nD → PrngReg), Pre_AdamVectorsIdeal m →
    θ_run (Cert.AdamVectorsIdeal.defs (F := Ideal)) (onTc (τ := Cert.AdamVectorsIdeal.τ) (Cert.AdamVectorsIdeal.main (F := Ideal))) ⟨m, fun _ => 0, g⟩ (fun r => (∀ c : Dev Cert.AdamVectorsIdeal.nD,
      r.2.mem ((c.tc : Thread Cert.AdamVectorsIdeal.nD Cert.AdamVectorsIdeal.τ).loc Cert.AdamVectorsIdeal.main_arg0) = m ((c.tc : Thread Cert.AdamVectorsIdeal.nD Cert.AdamVectorsIdeal.τ).loc Cert.AdamVectorsIdeal.main_arg0)
      ∧ r.2.mem ((c.tc : Thread Cert.AdamVectorsIdeal.nD Cert.AdamVectorsIdeal.τ).loc Cert.AdamVectorsIdeal.main_arg1) = m ((c.tc : Thread Cert.AdamVectorsIdeal.nD Cert.AdamVectorsIdeal.τ).loc Cert.AdamVectorsIdeal.main_arg1)
      ∧ r.2.mem ((c.tc : Thread Cert.AdamVectorsIdeal.nD Cert.AdamVectorsIdeal.τ).loc Cert.AdamVectorsIdeal.main_arg2) = m ((c.tc : Thread Cert.AdamVectorsIdeal.nD Cert.AdamVectorsIdeal.τ).loc Cert.AdamVectorsIdeal.main_arg2)
      ∧ r.2.mem ((c.tc : Thread Cert.AdamVectorsIdeal.nD Cert.AdamVectorsIdeal.τ).loc Cert.AdamVectorsIdeal.main_arg3) = m ((c.tc : Thread Cert.AdamVectorsIdeal.nD Cert.AdamVectorsIdeal.τ).loc Cert.AdamVectorsIdeal.main_arg3))
      ∧ r.2.sem = fun _ => 0)

def quiescent_AdamVectorsRefIdeal [hAdamVectorsRefIdeal : Cert.AdamVectorsRefIdeal.Facts] : Prop :=
  ∀ (m : (ℓ : Loc Cert.AdamVectorsRefIdeal.nD Cert.AdamVectorsRefIdeal.τ Cert.AdamVectorsRefIdeal.sig) → Buf (Elt Ideal) ℓ) (g : Dev Cert.AdamVectorsRefIdeal.nD → PrngReg), Pre_AdamVectorsRefIdeal m →
    θ_run (Cert.AdamVectorsRefIdeal.defs (F := Ideal)) (onTc (τ := Cert.AdamVectorsRefIdeal.τ) (Cert.AdamVectorsRefIdeal.main (F := Ideal))) ⟨m, fun _ => 0, g⟩ (fun r => (∀ c : Dev Cert.AdamVectorsRefIdeal.nD,
      r.2.mem ((c.tc : Thread Cert.AdamVectorsRefIdeal.nD Cert.AdamVectorsRefIdeal.τ).loc Cert.AdamVectorsRefIdeal.main_arg0) = m ((c.tc : Thread Cert.AdamVectorsRefIdeal.nD Cert.AdamVectorsRefIdeal.τ).loc Cert.AdamVectorsRefIdeal.main_arg0)
      ∧ r.2.mem ((c.tc : Thread Cert.AdamVectorsRefIdeal.nD Cert.AdamVectorsRefIdeal.τ).loc Cert.AdamVectorsRefIdeal.main_arg1) = m ((c.tc : Thread Cert.AdamVectorsRefIdeal.nD Cert.AdamVectorsRefIdeal.τ).loc Cert.AdamVectorsRefIdeal.main_arg1)
      ∧ r.2.mem ((c.tc : Thread Cert.AdamVectorsRefIdeal.nD Cert.AdamVectorsRefIdeal.τ).loc Cert.AdamVectorsRefIdeal.main_arg2) = m ((c.tc : Thread Cert.AdamVectorsRefIdeal.nD Cert.AdamVectorsRefIdeal.τ).loc Cert.AdamVectorsRefIdeal.main_arg2)
      ∧ r.2.mem ((c.tc : Thread Cert.AdamVectorsRefIdeal.nD Cert.AdamVectorsRefIdeal.τ).loc Cert.AdamVectorsRefIdeal.main_arg3) = m ((c.tc : Thread Cert.AdamVectorsRefIdeal.nD Cert.AdamVectorsRefIdeal.τ).loc Cert.AdamVectorsRefIdeal.main_arg3))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxIdeal_pre_finite_gate [hGluDxIdeal : Cert.GluDxIdeal.Facts] [hPre_finite_gate : Cert.Pre_finite_gate.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal_finite_gate m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDxRefIdeal_pre_finite_gate [hGluDxRefIdeal : Cert.GluDxRefIdeal.Facts] [hPre_finite_gate : Cert.Pre_finite_gate.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal_finite_gate m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v2)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v2) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v3) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)
      ∧ m' ((c.tc : Thread Cert.FfnInDwRefIdeal.nD Cert.FfnInDwRefIdeal.τ).loc Cert.FfnInDwRefIdeal.main_arg3) = m ((c.tc : Thread Cert.FfnInDwIdeal.nD Cert.FfnInDwIdeal.τ).loc Cert.FfnInDwIdeal.main_arg3)) →
    ∃ (v0 : (c : Dev Cert.FfnInDwIdeal.nD) → Buf (Elt Ideal) ((c.tc : Thread Cert.FfnInDwIdeal.nD Cert.FfnInDwIdeal.τ).loc Cert.FfnInDwIdeal.main_v2)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v2) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2)
          ∧ r.2.mem ((c.tc : Thread Cert.FfnInDwIdeal.nD Cert.FfnInDwIdeal.τ).loc Cert.FfnInDwIdeal.main_arg3) = m ((c.tc : Thread Cert.FfnInDwIdeal.nD Cert.FfnInDwIdeal.τ).loc Cert.FfnInDwIdeal.main_arg3))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v7) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2)
          ∧ r.2.mem ((c.tc : Thread Cert.FfnInDwRefIdeal.nD Cert.FfnInDwRefIdeal.τ).loc Cert.FfnInDwRefIdeal.main_arg3) = m' ((c.tc : Thread Cert.FfnInDwRefIdeal.nD Cert.FfnInDwRefIdeal.τ).loc Cert.FfnInDwRefIdeal.main_arg3))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)) →
    ∃ (v0 : (c : Dev Cert.FfnOutDxIdeal.nD) → Buf (Elt Ideal) ((c.tc : Thread Cert.FfnOutDxIdeal.nD Cert.FfnOutDxIdeal.τ).loc Cert.FfnOutDxIdeal.main_v1)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v1) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v3) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)
      ∧ m' ((c.tc : Thread Cert.FfnOutDwRefIdeal.nD Cert.FfnOutDwRefIdeal.τ).loc Cert.FfnOutDwRefIdeal.main_arg2) = m ((c.tc : Thread Cert.FfnOutDwIdeal.nD Cert.FfnOutDwIdeal.τ).loc Cert.FfnOutDwIdeal.main_arg2)
      ∧ m' ((c.tc : Thread Cert.FfnOutDwRefIdeal.nD Cert.FfnOutDwRefIdeal.τ).loc Cert.FfnOutDwRefIdeal.main_arg3) = m ((c.tc : Thread Cert.FfnOutDwIdeal.nD Cert.FfnOutDwIdeal.τ).loc Cert.FfnOutDwIdeal.main_arg3)) →
    ∃ (v0 : (c : Dev Cert.FfnOutDwIdeal.nD) → Buf (Elt Ideal) ((c.tc : Thread Cert.FfnOutDwIdeal.nD Cert.FfnOutDwIdeal.τ).loc Cert.FfnOutDwIdeal.main_v1)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v1) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1)
          ∧ r.2.mem ((c.tc : Thread Cert.FfnOutDwIdeal.nD Cert.FfnOutDwIdeal.τ).loc Cert.FfnOutDwIdeal.main_arg2) = m ((c.tc : Thread Cert.FfnOutDwIdeal.nD Cert.FfnOutDwIdeal.τ).loc Cert.FfnOutDwIdeal.main_arg2)
          ∧ r.2.mem ((c.tc : Thread Cert.FfnOutDwIdeal.nD Cert.FfnOutDwIdeal.τ).loc Cert.FfnOutDwIdeal.main_arg3) = m ((c.tc : Thread Cert.FfnOutDwIdeal.nD Cert.FfnOutDwIdeal.τ).loc Cert.FfnOutDwIdeal.main_arg3))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v7) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1)
          ∧ r.2.mem ((c.tc : Thread Cert.FfnOutDwRefIdeal.nD Cert.FfnOutDwRefIdeal.τ).loc Cert.FfnOutDwRefIdeal.main_arg2) = m' ((c.tc : Thread Cert.FfnOutDwRefIdeal.nD Cert.FfnOutDwRefIdeal.τ).loc Cert.FfnOutDwRefIdeal.main_arg2)
          ∧ r.2.mem ((c.tc : Thread Cert.FfnOutDwRefIdeal.nD Cert.FfnOutDwRefIdeal.τ).loc Cert.FfnOutDwRefIdeal.main_arg3) = m' ((c.tc : Thread Cert.FfnOutDwRefIdeal.nD Cert.FfnOutDwRefIdeal.τ).loc Cert.FfnOutDwRefIdeal.main_arg3))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)
      ∧ m' ((c.tc : Thread Cert.InDwRefIdeal.nD Cert.InDwRefIdeal.τ).loc Cert.InDwRefIdeal.main_arg3) = m ((c.tc : Thread Cert.InDwIdeal.nD Cert.InDwIdeal.τ).loc Cert.InDwIdeal.main_arg3)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2)
          ∧ r.2.mem ((c.tc : Thread Cert.InDwRefIdeal.nD Cert.InDwRefIdeal.τ).loc Cert.InDwRefIdeal.main_arg3) = m' ((c.tc : Thread Cert.InDwRefIdeal.nD Cert.InDwRefIdeal.τ).loc Cert.InDwRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v0) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v1) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_InWide_InWideIdeal : Prop :=
  True

def algebraic_InWideIdeal_InWideRefIdeal [hInWideIdeal : Cert.InWideIdeal.Facts] [hInWideRefIdeal : Cert.InWideRefIdeal.Facts] : Prop :=
  ∀ (m : (ℓ : Loc Cert.InWideIdeal.nD Cert.InWideIdeal.τ Cert.InWideIdeal.sig) → Buf (Elt Ideal) ℓ) (g : Dev Cert.InWideIdeal.nD → PrngReg)
    (m' : (ℓ : Loc Cert.InWideRefIdeal.nD Cert.InWideRefIdeal.τ Cert.InWideRefIdeal.sig) → Buf (Elt Ideal) ℓ) (g' : Dev Cert.InWideRefIdeal.nD → PrngReg), Pre_InWideIdeal m →
    (∀ c : Dev Cert.InWideIdeal.nD,
      m' ((c.tc : Thread Cert.InWideRefIdeal.nD Cert.InWideRefIdeal.τ).loc Cert.InWideRefIdeal.main_arg0) = m ((c.tc : Thread Cert.InWideIdeal.nD Cert.InWideIdeal.τ).loc Cert.InWideIdeal.main_arg0)
      ∧ m' ((c.tc : Thread Cert.InWideRefIdeal.nD Cert.InWideRefIdeal.τ).loc Cert.InWideRefIdeal.main_arg1) = m ((c.tc : Thread Cert.InWideIdeal.nD Cert.InWideIdeal.τ).loc Cert.InWideIdeal.main_arg1)) →
    ∃ (v0 : (c : Dev Cert.InWideIdeal.nD) → Buf (Elt Ideal) ((c.tc : Thread Cert.InWideIdeal.nD Cert.InWideIdeal.τ).loc Cert.InWideIdeal.main_v2)),
      θ_run (Cert.InWideIdeal.defs (F := Ideal)) (onTc (τ := Cert.InWideIdeal.τ) (Cert.InWideIdeal.main (F := Ideal))) ⟨m, fun _ => 0, g⟩ (fun r => ∀ c : Dev Cert.InWideIdeal.nD,
          r.2.mem ((c.tc : Thread Cert.InWideIdeal.nD Cert.InWideIdeal.τ).loc Cert.InWideIdeal.main_v2) = v0 c
          ∧ r.2.mem ((c.tc : Thread Cert.InWideIdeal.nD Cert.InWideIdeal.τ).loc Cert.InWideIdeal.main_arg0) = m ((c.tc : Thread Cert.InWideIdeal.nD Cert.InWideIdeal.τ).loc Cert.InWideIdeal.main_arg0)
          ∧ r.2.mem ((c.tc : Thread Cert.InWideIdeal.nD Cert.InWideIdeal.τ).loc Cert.InWideIdeal.main_arg1) = m ((c.tc : Thread Cert.InWideIdeal.nD Cert.InWideIdeal.τ).loc Cert.InWideIdeal.main_arg1))
      ∧ θ_run (Cert.InWideRefIdeal.defs (F := Ideal)) (onTc (τ := Cert.InWideRefIdeal.τ) (Cert.InWideRefIdeal.main (F := Ideal))) ⟨m', fun _ => 0, g'⟩ (fun r => ∀ c : Dev Cert.InWideRefIdeal.nD,
          r.2.mem ((c.tc : Thread Cert.InWideRefIdeal.nD Cert.InWideRefIdeal.τ).loc Cert.InWideRefIdeal.main_v0) = v0 c
          ∧ r.2.mem ((c.tc : Thread Cert.InWideRefIdeal.nD Cert.InWideRefIdeal.τ).loc Cert.InWideRefIdeal.main_arg0) = m' ((c.tc : Thread Cert.InWideRefIdeal.nD Cert.InWideRefIdeal.τ).loc Cert.InWideRefIdeal.main_arg0)
          ∧ r.2.mem ((c.tc : Thread Cert.InWideRefIdeal.nD Cert.InWideRefIdeal.τ).loc Cert.InWideRefIdeal.main_arg1) = m' ((c.tc : Thread Cert.InWideRefIdeal.nD Cert.InWideRefIdeal.τ).loc Cert.InWideRefIdeal.main_arg1))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v2)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v2) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v0) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def preserves_SquareDx_SquareDxIdeal : Prop :=
  True

def algebraic_SquareDxIdeal_SquareDxRefIdeal [hSquareDxIdeal : Cert.SquareDxIdeal.Facts] [hSquareDxRefIdeal : Cert.SquareDxRefIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxRefIdeal.nD Cert.SquareDxRefIdeal.τ Cert.SquareDxRefIdeal.sig) → Buf (Elt Ideal) ℓ) (g' : Dev Cert.SquareDxRefIdeal.nD → PrngReg), Pre_SquareDxIdeal m →
    (∀ c : Dev Cert.SquareDxIdeal.nD,
      m' ((c.tc : Thread Cert.SquareDxRefIdeal.nD Cert.SquareDxRefIdeal.τ).loc Cert.SquareDxRefIdeal.main_arg0) = m ((c.tc : Thread Cert.SquareDxIdeal.nD Cert.SquareDxIdeal.τ).loc Cert.SquareDxIdeal.main_arg0)
      ∧ m' ((c.tc : Thread Cert.SquareDxRefIdeal.nD Cert.SquareDxRefIdeal.τ).loc Cert.SquareDxRefIdeal.main_arg1) = m ((c.tc : Thread Cert.SquareDxIdeal.nD Cert.SquareDxIdeal.τ).loc Cert.SquareDxIdeal.main_arg1)
      ∧ m' ((c.tc : Thread Cert.SquareDxRefIdeal.nD Cert.SquareDxRefIdeal.τ).loc Cert.SquareDxRefIdeal.main_arg2) = m ((c.tc : Thread Cert.SquareDxIdeal.nD Cert.SquareDxIdeal.τ).loc Cert.SquareDxIdeal.main_arg2)) →
    ∃ (v0 : (c : Dev Cert.SquareDxIdeal.nD) → Buf (Elt Ideal) ((c.tc : Thread Cert.SquareDxIdeal.nD Cert.SquareDxIdeal.τ).loc Cert.SquareDxIdeal.main_v2)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v2) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1)
          ∧ r.2.mem ((c.tc : Thread Cert.SquareDxIdeal.nD Cert.SquareDxIdeal.τ).loc Cert.SquareDxIdeal.main_arg2) = m ((c.tc : Thread Cert.SquareDxIdeal.nD Cert.SquareDxIdeal.τ).loc Cert.SquareDxIdeal.main_arg2))
      ∧ θ_run (Cert.SquareDxRefIdeal.defs (F := Ideal)) (onTc (τ := Cert.SquareDxRefIdeal.τ) (Cert.SquareDxRefIdeal.main (F := Ideal))) ⟨m', fun _ => 0, g'⟩ (fun r => ∀ c : Dev Cert.SquareDxRefIdeal.nD,
          r.2.mem ((c.tc : Thread Cert.SquareDxRefIdeal.nD Cert.SquareDxRefIdeal.τ).loc Cert.SquareDxRefIdeal.main_v3) = v0 c
          ∧ r.2.mem ((c.tc : Thread Cert.SquareDxRefIdeal.nD Cert.SquareDxRefIdeal.τ).loc Cert.SquareDxRefIdeal.main_arg0) = m' ((c.tc : Thread Cert.SquareDxRefIdeal.nD Cert.SquareDxRefIdeal.τ).loc Cert.SquareDxRefIdeal.main_arg0)
          ∧ r.2.mem ((c.tc : Thread Cert.SquareDxRefIdeal.nD Cert.SquareDxRefIdeal.τ).loc Cert.SquareDxRefIdeal.main_arg1) = m' ((c.tc : Thread Cert.SquareDxRefIdeal.nD Cert.SquareDxRefIdeal.τ).loc Cert.SquareDxRefIdeal.main_arg1)
          ∧ r.2.mem ((c.tc : Thread Cert.SquareDxRefIdeal.nD Cert.SquareDxRefIdeal.τ).loc Cert.SquareDxRefIdeal.main_arg2) = m' ((c.tc : Thread Cert.SquareDxRefIdeal.nD Cert.SquareDxRefIdeal.τ).loc Cert.SquareDxRefIdeal.main_arg2))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)
      ∧ m' ((c.tc : Thread Cert.SquareDwRefIdeal.nD Cert.SquareDwRefIdeal.τ).loc Cert.SquareDwRefIdeal.main_arg2) = m ((c.tc : Thread Cert.SquareDwIdeal.nD Cert.SquareDwIdeal.τ).loc Cert.SquareDwIdeal.main_arg2)
      ∧ m' ((c.tc : Thread Cert.SquareDwRefIdeal.nD Cert.SquareDwRefIdeal.τ).loc Cert.SquareDwRefIdeal.main_arg3) = m ((c.tc : Thread Cert.SquareDwIdeal.nD Cert.SquareDwIdeal.τ).loc Cert.SquareDwIdeal.main_arg3)) →
    ∃ (v0 : (c : Dev Cert.SquareDwIdeal.nD) → Buf (Elt Ideal) ((c.tc : Thread Cert.SquareDwIdeal.nD Cert.SquareDwIdeal.τ).loc Cert.SquareDwIdeal.main_v2)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v2) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
          ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2)
          ∧ r.2.mem ((c.tc : Thread Cert.SquareDwIdeal.nD Cert.SquareDwIdeal.τ).loc Cert.SquareDwIdeal.main_arg3) = m ((c.tc : Thread Cert.SquareDwIdeal.nD Cert.SquareDwIdeal.τ).loc Cert.SquareDwIdeal.main_arg3))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v7) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1)
          ∧ r.2.mem ((c.tc : Thread Cert.SquareDwRefIdeal.nD Cert.SquareDwRefIdeal.τ).loc Cert.SquareDwRefIdeal.main_arg2) = m' ((c.tc : Thread Cert.SquareDwRefIdeal.nD Cert.SquareDwRefIdeal.τ).loc Cert.SquareDwRefIdeal.main_arg2)
          ∧ r.2.mem ((c.tc : Thread Cert.SquareDwRefIdeal.nD Cert.SquareDwRefIdeal.τ).loc Cert.SquareDwRefIdeal.main_arg3) = m' ((c.tc : Thread Cert.SquareDwRefIdeal.nD Cert.SquareDwRefIdeal.τ).loc Cert.SquareDwRefIdeal.main_arg3))

def preserves_ResidualDx_ResidualDxIdeal : Prop :=
  True

def algebraic_ResidualDxIdeal_ResidualDxRefIdeal [hResidualDxIdeal : Cert.ResidualDxIdeal.Facts] [hResidualDxRefIdeal : Cert.ResidualDxRefIdeal.Facts] : Prop :=
  ∀ (m : (ℓ : Loc Cert.ResidualDxIdeal.nD Cert.ResidualDxIdeal.τ Cert.ResidualDxIdeal.sig) → Buf (Elt Ideal) ℓ) (g : Dev Cert.ResidualDxIdeal.nD → PrngReg)
    (m' : (ℓ : Loc Cert.ResidualDxRefIdeal.nD Cert.ResidualDxRefIdeal.τ Cert.ResidualDxRefIdeal.sig) → Buf (Elt Ideal) ℓ) (g' : Dev Cert.ResidualDxRefIdeal.nD → PrngReg), Pre_ResidualDxIdeal m →
    (∀ c : Dev Cert.ResidualDxIdeal.nD,
      m' ((c.tc : Thread Cert.ResidualDxRefIdeal.nD Cert.ResidualDxRefIdeal.τ).loc Cert.ResidualDxRefIdeal.main_arg0) = m ((c.tc : Thread Cert.ResidualDxIdeal.nD Cert.ResidualDxIdeal.τ).loc Cert.ResidualDxIdeal.main_arg0)
      ∧ m' ((c.tc : Thread Cert.ResidualDxRefIdeal.nD Cert.ResidualDxRefIdeal.τ).loc Cert.ResidualDxRefIdeal.main_arg1) = m ((c.tc : Thread Cert.ResidualDxIdeal.nD Cert.ResidualDxIdeal.τ).loc Cert.ResidualDxIdeal.main_arg1)
      ∧ m' ((c.tc : Thread Cert.ResidualDxRefIdeal.nD Cert.ResidualDxRefIdeal.τ).loc Cert.ResidualDxRefIdeal.main_arg2) = m ((c.tc : Thread Cert.ResidualDxIdeal.nD Cert.ResidualDxIdeal.τ).loc Cert.ResidualDxIdeal.main_arg2)) →
    ∃ (v0 : (c : Dev Cert.ResidualDxIdeal.nD) → Buf (Elt Ideal) ((c.tc : Thread Cert.ResidualDxIdeal.nD Cert.ResidualDxIdeal.τ).loc Cert.ResidualDxIdeal.main_v1)),
      θ_run (Cert.ResidualDxIdeal.defs (F := Ideal)) (onTc (τ := Cert.ResidualDxIdeal.τ) (Cert.ResidualDxIdeal.main (F := Ideal))) ⟨m, fun _ => 0, g⟩ (fun r => ∀ c : Dev Cert.ResidualDxIdeal.nD,
          r.2.mem ((c.tc : Thread Cert.ResidualDxIdeal.nD Cert.ResidualDxIdeal.τ).loc Cert.ResidualDxIdeal.main_v1) = v0 c
          ∧ r.2.mem ((c.tc : Thread Cert.ResidualDxIdeal.nD Cert.ResidualDxIdeal.τ).loc Cert.ResidualDxIdeal.main_arg0) = m ((c.tc : Thread Cert.ResidualDxIdeal.nD Cert.ResidualDxIdeal.τ).loc Cert.ResidualDxIdeal.main_arg0)
          ∧ r.2.mem ((c.tc : Thread Cert.ResidualDxIdeal.nD Cert.ResidualDxIdeal.τ).loc Cert.ResidualDxIdeal.main_arg1) = m ((c.tc : Thread Cert.ResidualDxIdeal.nD Cert.ResidualDxIdeal.τ).loc Cert.ResidualDxIdeal.main_arg1)
          ∧ r.2.mem ((c.tc : Thread Cert.ResidualDxIdeal.nD Cert.ResidualDxIdeal.τ).loc Cert.ResidualDxIdeal.main_arg2) = m ((c.tc : Thread Cert.ResidualDxIdeal.nD Cert.ResidualDxIdeal.τ).loc Cert.ResidualDxIdeal.main_arg2))
      ∧ θ_run (Cert.ResidualDxRefIdeal.defs (F := Ideal)) (onTc (τ := Cert.ResidualDxRefIdeal.τ) (Cert.ResidualDxRefIdeal.main (F := Ideal))) ⟨m', fun _ => 0, g'⟩ (fun r => ∀ c : Dev Cert.ResidualDxRefIdeal.nD,
          r.2.mem ((c.tc : Thread Cert.ResidualDxRefIdeal.nD Cert.ResidualDxRefIdeal.τ).loc Cert.ResidualDxRefIdeal.main_v3) = v0 c
          ∧ r.2.mem ((c.tc : Thread Cert.ResidualDxRefIdeal.nD Cert.ResidualDxRefIdeal.τ).loc Cert.ResidualDxRefIdeal.main_arg0) = m' ((c.tc : Thread Cert.ResidualDxRefIdeal.nD Cert.ResidualDxRefIdeal.τ).loc Cert.ResidualDxRefIdeal.main_arg0)
          ∧ r.2.mem ((c.tc : Thread Cert.ResidualDxRefIdeal.nD Cert.ResidualDxRefIdeal.τ).loc Cert.ResidualDxRefIdeal.main_arg1) = m' ((c.tc : Thread Cert.ResidualDxRefIdeal.nD Cert.ResidualDxRefIdeal.τ).loc Cert.ResidualDxRefIdeal.main_arg1)
          ∧ r.2.mem ((c.tc : Thread Cert.ResidualDxRefIdeal.nD Cert.ResidualDxRefIdeal.τ).loc Cert.ResidualDxRefIdeal.main_arg2) = m' ((c.tc : Thread Cert.ResidualDxRefIdeal.nD Cert.ResidualDxRefIdeal.τ).loc Cert.ResidualDxRefIdeal.main_arg2))

def preserves_ResidualDw_ResidualDwIdeal : Prop :=
  True

def algebraic_ResidualDwIdeal_ResidualDwRefIdeal [hResidualDwIdeal : Cert.ResidualDwIdeal.Facts] [hResidualDwRefIdeal : Cert.ResidualDwRefIdeal.Facts] : Prop :=
  ∀ (m : (ℓ : Loc Cert.ResidualDwIdeal.nD Cert.ResidualDwIdeal.τ Cert.ResidualDwIdeal.sig) → Buf (Elt Ideal) ℓ) (g : Dev Cert.ResidualDwIdeal.nD → PrngReg)
    (m' : (ℓ : Loc Cert.ResidualDwRefIdeal.nD Cert.ResidualDwRefIdeal.τ Cert.ResidualDwRefIdeal.sig) → Buf (Elt Ideal) ℓ) (g' : Dev Cert.ResidualDwRefIdeal.nD → PrngReg), Pre_ResidualDwIdeal m →
    (∀ c : Dev Cert.ResidualDwIdeal.nD,
      m' ((c.tc : Thread Cert.ResidualDwRefIdeal.nD Cert.ResidualDwRefIdeal.τ).loc Cert.ResidualDwRefIdeal.main_arg0) = m ((c.tc : Thread Cert.ResidualDwIdeal.nD Cert.ResidualDwIdeal.τ).loc Cert.ResidualDwIdeal.main_arg0)
      ∧ m' ((c.tc : Thread Cert.ResidualDwRefIdeal.nD Cert.ResidualDwRefIdeal.τ).loc Cert.ResidualDwRefIdeal.main_arg1) = m ((c.tc : Thread Cert.ResidualDwIdeal.nD Cert.ResidualDwIdeal.τ).loc Cert.ResidualDwIdeal.main_arg1)
      ∧ m' ((c.tc : Thread Cert.ResidualDwRefIdeal.nD Cert.ResidualDwRefIdeal.τ).loc Cert.ResidualDwRefIdeal.main_arg2) = m ((c.tc : Thread Cert.ResidualDwIdeal.nD Cert.ResidualDwIdeal.τ).loc Cert.ResidualDwIdeal.main_arg2)
      ∧ m' ((c.tc : Thread Cert.ResidualDwRefIdeal.nD Cert.ResidualDwRefIdeal.τ).loc Cert.ResidualDwRefIdeal.main_arg3) = m ((c.tc : Thread Cert.ResidualDwIdeal.nD Cert.ResidualDwIdeal.τ).loc Cert.ResidualDwIdeal.main_arg3)) →
    ∃ (v0 : (c : Dev Cert.ResidualDwIdeal.nD) → Buf (Elt Ideal) ((c.tc : Thread Cert.ResidualDwIdeal.nD Cert.ResidualDwIdeal.τ).loc Cert.ResidualDwIdeal.main_v1)),
      θ_run (Cert.ResidualDwIdeal.defs (F := Ideal)) (onTc (τ := Cert.ResidualDwIdeal.τ) (Cert.ResidualDwIdeal.main (F := Ideal))) ⟨m, fun _ => 0, g⟩ (fun r => ∀ c : Dev Cert.ResidualDwIdeal.nD,
          r.2.mem ((c.tc : Thread Cert.ResidualDwIdeal.nD Cert.ResidualDwIdeal.τ).loc Cert.ResidualDwIdeal.main_v1) = v0 c
          ∧ r.2.mem ((c.tc : Thread Cert.ResidualDwIdeal.nD Cert.ResidualDwIdeal.τ).loc Cert.ResidualDwIdeal.main_arg0) = m ((c.tc : Thread Cert.ResidualDwIdeal.nD Cert.ResidualDwIdeal.τ).loc Cert.ResidualDwIdeal.main_arg0)
          ∧ r.2.mem ((c.tc : Thread Cert.ResidualDwIdeal.nD Cert.ResidualDwIdeal.τ).loc Cert.ResidualDwIdeal.main_arg1) = m ((c.tc : Thread Cert.ResidualDwIdeal.nD Cert.ResidualDwIdeal.τ).loc Cert.ResidualDwIdeal.main_arg1)
          ∧ r.2.mem ((c.tc : Thread Cert.ResidualDwIdeal.nD Cert.ResidualDwIdeal.τ).loc Cert.ResidualDwIdeal.main_arg2) = m ((c.tc : Thread Cert.ResidualDwIdeal.nD Cert.ResidualDwIdeal.τ).loc Cert.ResidualDwIdeal.main_arg2)
          ∧ r.2.mem ((c.tc : Thread Cert.ResidualDwIdeal.nD Cert.ResidualDwIdeal.τ).loc Cert.ResidualDwIdeal.main_arg3) = m ((c.tc : Thread Cert.ResidualDwIdeal.nD Cert.ResidualDwIdeal.τ).loc Cert.ResidualDwIdeal.main_arg3))
      ∧ θ_run (Cert.ResidualDwRefIdeal.defs (F := Ideal)) (onTc (τ := Cert.ResidualDwRefIdeal.τ) (Cert.ResidualDwRefIdeal.main (F := Ideal))) ⟨m', fun _ => 0, g'⟩ (fun r => ∀ c : Dev Cert.ResidualDwRefIdeal.nD,
          r.2.mem ((c.tc : Thread Cert.ResidualDwRefIdeal.nD Cert.ResidualDwRefIdeal.τ).loc Cert.ResidualDwRefIdeal.main_v7) = v0 c
          ∧ r.2.mem ((c.tc : Thread Cert.ResidualDwRefIdeal.nD Cert.ResidualDwRefIdeal.τ).loc Cert.ResidualDwRefIdeal.main_arg0) = m' ((c.tc : Thread Cert.ResidualDwRefIdeal.nD Cert.ResidualDwRefIdeal.τ).loc Cert.ResidualDwRefIdeal.main_arg0)
          ∧ r.2.mem ((c.tc : Thread Cert.ResidualDwRefIdeal.nD Cert.ResidualDwRefIdeal.τ).loc Cert.ResidualDwRefIdeal.main_arg1) = m' ((c.tc : Thread Cert.ResidualDwRefIdeal.nD Cert.ResidualDwRefIdeal.τ).loc Cert.ResidualDwRefIdeal.main_arg1)
          ∧ r.2.mem ((c.tc : Thread Cert.ResidualDwRefIdeal.nD Cert.ResidualDwRefIdeal.τ).loc Cert.ResidualDwRefIdeal.main_arg2) = m' ((c.tc : Thread Cert.ResidualDwRefIdeal.nD Cert.ResidualDwRefIdeal.τ).loc Cert.ResidualDwRefIdeal.main_arg2)
          ∧ r.2.mem ((c.tc : Thread Cert.ResidualDwRefIdeal.nD Cert.ResidualDwRefIdeal.τ).loc Cert.ResidualDwRefIdeal.main_arg3) = m' ((c.tc : Thread Cert.ResidualDwRefIdeal.nD Cert.ResidualDwRefIdeal.τ).loc Cert.ResidualDwRefIdeal.main_arg3))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v2)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v2) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v0) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)) →
    ∃ (v0 : (c : Dev Cert.ResidualIdeal.nD) → Buf (Elt Ideal) ((c.tc : Thread Cert.ResidualIdeal.nD Cert.ResidualIdeal.τ).loc Cert.ResidualIdeal.main_v2)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v2) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v1) = v0 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2))

def preserves_MlaOutDw_MlaOutDwIdeal : Prop :=
  True

def algebraic_MlaOutDwIdeal_MlaOutDwRefIdeal [hMlaOutDwIdeal : Cert.MlaOutDwIdeal.Facts] [hMlaOutDwRefIdeal : Cert.MlaOutDwRefIdeal.Facts] : Prop :=
  ∀ (m : (ℓ : Loc Cert.MlaOutDwIdeal.nD Cert.MlaOutDwIdeal.τ Cert.MlaOutDwIdeal.sig) → Buf (Elt Ideal) ℓ) (g : Dev Cert.MlaOutDwIdeal.nD → PrngReg)
    (m' : (ℓ : Loc Cert.MlaOutDwRefIdeal.nD Cert.MlaOutDwRefIdeal.τ Cert.MlaOutDwRefIdeal.sig) → Buf (Elt Ideal) ℓ) (g' : Dev Cert.MlaOutDwRefIdeal.nD → PrngReg), Pre_MlaOutDwIdeal m →
    (∀ c : Dev Cert.MlaOutDwIdeal.nD,
      m' ((c.tc : Thread Cert.MlaOutDwRefIdeal.nD Cert.MlaOutDwRefIdeal.τ).loc Cert.MlaOutDwRefIdeal.main_arg0) = m ((c.tc : Thread Cert.MlaOutDwIdeal.nD Cert.MlaOutDwIdeal.τ).loc Cert.MlaOutDwIdeal.main_arg0)
      ∧ m' ((c.tc : Thread Cert.MlaOutDwRefIdeal.nD Cert.MlaOutDwRefIdeal.τ).loc Cert.MlaOutDwRefIdeal.main_arg1) = m ((c.tc : Thread Cert.MlaOutDwIdeal.nD Cert.MlaOutDwIdeal.τ).loc Cert.MlaOutDwIdeal.main_arg1)
      ∧ m' ((c.tc : Thread Cert.MlaOutDwRefIdeal.nD Cert.MlaOutDwRefIdeal.τ).loc Cert.MlaOutDwRefIdeal.main_arg2) = m ((c.tc : Thread Cert.MlaOutDwIdeal.nD Cert.MlaOutDwIdeal.τ).loc Cert.MlaOutDwIdeal.main_arg2)
      ∧ m' ((c.tc : Thread Cert.MlaOutDwRefIdeal.nD Cert.MlaOutDwRefIdeal.τ).loc Cert.MlaOutDwRefIdeal.main_arg3) = m ((c.tc : Thread Cert.MlaOutDwIdeal.nD Cert.MlaOutDwIdeal.τ).loc Cert.MlaOutDwIdeal.main_arg3)) →
    ∃ (v0 : (c : Dev Cert.MlaOutDwIdeal.nD) → Buf (Elt Ideal) ((c.tc : Thread Cert.MlaOutDwIdeal.nD Cert.MlaOutDwIdeal.τ).loc Cert.MlaOutDwIdeal.main_v1)),
      θ_run (Cert.MlaOutDwIdeal.defs (F := Ideal)) (onTc (τ := Cert.MlaOutDwIdeal.τ) (Cert.MlaOutDwIdeal.main (F := Ideal))) ⟨m, fun _ => 0, g⟩ (fun r => ∀ c : Dev Cert.MlaOutDwIdeal.nD,
          r.2.mem ((c.tc : Thread Cert.MlaOutDwIdeal.nD Cert.MlaOutDwIdeal.τ).loc Cert.MlaOutDwIdeal.main_v1) = v0 c
          ∧ r.2.mem ((c.tc : Thread Cert.MlaOutDwIdeal.nD Cert.MlaOutDwIdeal.τ).loc Cert.MlaOutDwIdeal.main_arg0) = m ((c.tc : Thread Cert.MlaOutDwIdeal.nD Cert.MlaOutDwIdeal.τ).loc Cert.MlaOutDwIdeal.main_arg0)
          ∧ r.2.mem ((c.tc : Thread Cert.MlaOutDwIdeal.nD Cert.MlaOutDwIdeal.τ).loc Cert.MlaOutDwIdeal.main_arg1) = m ((c.tc : Thread Cert.MlaOutDwIdeal.nD Cert.MlaOutDwIdeal.τ).loc Cert.MlaOutDwIdeal.main_arg1)
          ∧ r.2.mem ((c.tc : Thread Cert.MlaOutDwIdeal.nD Cert.MlaOutDwIdeal.τ).loc Cert.MlaOutDwIdeal.main_arg2) = m ((c.tc : Thread Cert.MlaOutDwIdeal.nD Cert.MlaOutDwIdeal.τ).loc Cert.MlaOutDwIdeal.main_arg2)
          ∧ r.2.mem ((c.tc : Thread Cert.MlaOutDwIdeal.nD Cert.MlaOutDwIdeal.τ).loc Cert.MlaOutDwIdeal.main_arg3) = m ((c.tc : Thread Cert.MlaOutDwIdeal.nD Cert.MlaOutDwIdeal.τ).loc Cert.MlaOutDwIdeal.main_arg3))
      ∧ θ_run (Cert.MlaOutDwRefIdeal.defs (F := Ideal)) (onTc (τ := Cert.MlaOutDwRefIdeal.τ) (Cert.MlaOutDwRefIdeal.main (F := Ideal))) ⟨m', fun _ => 0, g'⟩ (fun r => ∀ c : Dev Cert.MlaOutDwRefIdeal.nD,
          r.2.mem ((c.tc : Thread Cert.MlaOutDwRefIdeal.nD Cert.MlaOutDwRefIdeal.τ).loc Cert.MlaOutDwRefIdeal.main_v7) = v0 c
          ∧ r.2.mem ((c.tc : Thread Cert.MlaOutDwRefIdeal.nD Cert.MlaOutDwRefIdeal.τ).loc Cert.MlaOutDwRefIdeal.main_arg0) = m' ((c.tc : Thread Cert.MlaOutDwRefIdeal.nD Cert.MlaOutDwRefIdeal.τ).loc Cert.MlaOutDwRefIdeal.main_arg0)
          ∧ r.2.mem ((c.tc : Thread Cert.MlaOutDwRefIdeal.nD Cert.MlaOutDwRefIdeal.τ).loc Cert.MlaOutDwRefIdeal.main_arg1) = m' ((c.tc : Thread Cert.MlaOutDwRefIdeal.nD Cert.MlaOutDwRefIdeal.τ).loc Cert.MlaOutDwRefIdeal.main_arg1)
          ∧ r.2.mem ((c.tc : Thread Cert.MlaOutDwRefIdeal.nD Cert.MlaOutDwRefIdeal.τ).loc Cert.MlaOutDwRefIdeal.main_arg2) = m' ((c.tc : Thread Cert.MlaOutDwRefIdeal.nD Cert.MlaOutDwRefIdeal.τ).loc Cert.MlaOutDwRefIdeal.main_arg2)
          ∧ r.2.mem ((c.tc : Thread Cert.MlaOutDwRefIdeal.nD Cert.MlaOutDwRefIdeal.τ).loc Cert.MlaOutDwRefIdeal.main_arg3) = m' ((c.tc : Thread Cert.MlaOutDwRefIdeal.nD Cert.MlaOutDwRefIdeal.τ).loc Cert.MlaOutDwRefIdeal.main_arg3))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)) →
    ∃ (v0 : (c : Dev Cert.MlaOutIdeal.nD) → Buf (Elt Ideal) ((c.tc : Thread Cert.MlaOutIdeal.nD Cert.MlaOutIdeal.τ).loc Cert.MlaOutIdeal.main_v1)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v1) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v0) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1))

def preserves_QbDx_QbDxIdeal : Prop :=
  True

def algebraic_QbDxIdeal_QbDxRefIdeal [hQbDxIdeal : Cert.QbDxIdeal.Facts] [hQbDxRefIdeal : Cert.QbDxRefIdeal.Facts] : Prop :=
  ∀ (m : (ℓ : Loc Cert.QbDxIdeal.nD Cert.QbDxIdeal.τ Cert.QbDxIdeal.sig) → Buf (Elt Ideal) ℓ) (g : Dev Cert.QbDxIdeal.nD → PrngReg)
    (m' : (ℓ : Loc Cert.QbDxRefIdeal.nD Cert.QbDxRefIdeal.τ Cert.QbDxRefIdeal.sig) → Buf (Elt Ideal) ℓ) (g' : Dev Cert.QbDxRefIdeal.nD → PrngReg), Pre_QbDxIdeal m →
    (∀ c : Dev Cert.QbDxIdeal.nD,
      m' ((c.tc : Thread Cert.QbDxRefIdeal.nD Cert.QbDxRefIdeal.τ).loc Cert.QbDxRefIdeal.main_arg0) = m ((c.tc : Thread Cert.QbDxIdeal.nD Cert.QbDxIdeal.τ).loc Cert.QbDxIdeal.main_arg0)
      ∧ m' ((c.tc : Thread Cert.QbDxRefIdeal.nD Cert.QbDxRefIdeal.τ).loc Cert.QbDxRefIdeal.main_arg1) = m ((c.tc : Thread Cert.QbDxIdeal.nD Cert.QbDxIdeal.τ).loc Cert.QbDxIdeal.main_arg1)
      ∧ m' ((c.tc : Thread Cert.QbDxRefIdeal.nD Cert.QbDxRefIdeal.τ).loc Cert.QbDxRefIdeal.main_arg2) = m ((c.tc : Thread Cert.QbDxIdeal.nD Cert.QbDxIdeal.τ).loc Cert.QbDxIdeal.main_arg2)) →
    ∃ (v0 : (c : Dev Cert.QbDxIdeal.nD) → Buf (Elt Ideal) ((c.tc : Thread Cert.QbDxIdeal.nD Cert.QbDxIdeal.τ).loc Cert.QbDxIdeal.main_v2)),
      θ_run (Cert.QbDxIdeal.defs (F := Ideal)) (onTc (τ := Cert.QbDxIdeal.τ) (Cert.QbDxIdeal.main (F := Ideal))) ⟨m, fun _ => 0, g⟩ (fun r => ∀ c : Dev Cert.QbDxIdeal.nD,
          r.2.mem ((c.tc : Thread Cert.QbDxIdeal.nD Cert.QbDxIdeal.τ).loc Cert.QbDxIdeal.main_v2) = v0 c
          ∧ r.2.mem ((c.tc : Thread Cert.QbDxIdeal.nD Cert.QbDxIdeal.τ).loc Cert.QbDxIdeal.main_arg0) = m ((c.tc : Thread Cert.QbDxIdeal.nD Cert.QbDxIdeal.τ).loc Cert.QbDxIdeal.main_arg0)
          ∧ r.2.mem ((c.tc : Thread Cert.QbDxIdeal.nD Cert.QbDxIdeal.τ).loc Cert.QbDxIdeal.main_arg1) = m ((c.tc : Thread Cert.QbDxIdeal.nD Cert.QbDxIdeal.τ).loc Cert.QbDxIdeal.main_arg1)
          ∧ r.2.mem ((c.tc : Thread Cert.QbDxIdeal.nD Cert.QbDxIdeal.τ).loc Cert.QbDxIdeal.main_arg2) = m ((c.tc : Thread Cert.QbDxIdeal.nD Cert.QbDxIdeal.τ).loc Cert.QbDxIdeal.main_arg2))
      ∧ θ_run (Cert.QbDxRefIdeal.defs (F := Ideal)) (onTc (τ := Cert.QbDxRefIdeal.τ) (Cert.QbDxRefIdeal.main (F := Ideal))) ⟨m', fun _ => 0, g'⟩ (fun r => ∀ c : Dev Cert.QbDxRefIdeal.nD,
          r.2.mem ((c.tc : Thread Cert.QbDxRefIdeal.nD Cert.QbDxRefIdeal.τ).loc Cert.QbDxRefIdeal.main_v3) = v0 c
          ∧ r.2.mem ((c.tc : Thread Cert.QbDxRefIdeal.nD Cert.QbDxRefIdeal.τ).loc Cert.QbDxRefIdeal.main_arg0) = m' ((c.tc : Thread Cert.QbDxRefIdeal.nD Cert.QbDxRefIdeal.τ).loc Cert.QbDxRefIdeal.main_arg0)
          ∧ r.2.mem ((c.tc : Thread Cert.QbDxRefIdeal.nD Cert.QbDxRefIdeal.τ).loc Cert.QbDxRefIdeal.main_arg1) = m' ((c.tc : Thread Cert.QbDxRefIdeal.nD Cert.QbDxRefIdeal.τ).loc Cert.QbDxRefIdeal.main_arg1)
          ∧ r.2.mem ((c.tc : Thread Cert.QbDxRefIdeal.nD Cert.QbDxRefIdeal.τ).loc Cert.QbDxRefIdeal.main_arg2) = m' ((c.tc : Thread Cert.QbDxRefIdeal.nD Cert.QbDxRefIdeal.τ).loc Cert.QbDxRefIdeal.main_arg2))

def preserves_QbDw_QbDwIdeal : Prop :=
  True

def algebraic_QbDwIdeal_QbDwRefIdeal [hQbDwIdeal : Cert.QbDwIdeal.Facts] [hQbDwRefIdeal : Cert.QbDwRefIdeal.Facts] : Prop :=
  ∀ (m : (ℓ : Loc Cert.QbDwIdeal.nD Cert.QbDwIdeal.τ Cert.QbDwIdeal.sig) → Buf (Elt Ideal) ℓ) (g : Dev Cert.QbDwIdeal.nD → PrngReg)
    (m' : (ℓ : Loc Cert.QbDwRefIdeal.nD Cert.QbDwRefIdeal.τ Cert.QbDwRefIdeal.sig) → Buf (Elt Ideal) ℓ) (g' : Dev Cert.QbDwRefIdeal.nD → PrngReg), Pre_QbDwIdeal m →
    (∀ c : Dev Cert.QbDwIdeal.nD,
      m' ((c.tc : Thread Cert.QbDwRefIdeal.nD Cert.QbDwRefIdeal.τ).loc Cert.QbDwRefIdeal.main_arg0) = m ((c.tc : Thread Cert.QbDwIdeal.nD Cert.QbDwIdeal.τ).loc Cert.QbDwIdeal.main_arg0)
      ∧ m' ((c.tc : Thread Cert.QbDwRefIdeal.nD Cert.QbDwRefIdeal.τ).loc Cert.QbDwRefIdeal.main_arg1) = m ((c.tc : Thread Cert.QbDwIdeal.nD Cert.QbDwIdeal.τ).loc Cert.QbDwIdeal.main_arg1)
      ∧ m' ((c.tc : Thread Cert.QbDwRefIdeal.nD Cert.QbDwRefIdeal.τ).loc Cert.QbDwRefIdeal.main_arg2) = m ((c.tc : Thread Cert.QbDwIdeal.nD Cert.QbDwIdeal.τ).loc Cert.QbDwIdeal.main_arg2)
      ∧ m' ((c.tc : Thread Cert.QbDwRefIdeal.nD Cert.QbDwRefIdeal.τ).loc Cert.QbDwRefIdeal.main_arg3) = m ((c.tc : Thread Cert.QbDwIdeal.nD Cert.QbDwIdeal.τ).loc Cert.QbDwIdeal.main_arg3)) →
    ∃ (v0 : (c : Dev Cert.QbDwIdeal.nD) → Buf (Elt Ideal) ((c.tc : Thread Cert.QbDwIdeal.nD Cert.QbDwIdeal.τ).loc Cert.QbDwIdeal.main_v2)),
      θ_run (Cert.QbDwIdeal.defs (F := Ideal)) (onTc (τ := Cert.QbDwIdeal.τ) (Cert.QbDwIdeal.main (F := Ideal))) ⟨m, fun _ => 0, g⟩ (fun r => ∀ c : Dev Cert.QbDwIdeal.nD,
          r.2.mem ((c.tc : Thread Cert.QbDwIdeal.nD Cert.QbDwIdeal.τ).loc Cert.QbDwIdeal.main_v2) = v0 c
          ∧ r.2.mem ((c.tc : Thread Cert.QbDwIdeal.nD Cert.QbDwIdeal.τ).loc Cert.QbDwIdeal.main_arg0) = m ((c.tc : Thread Cert.QbDwIdeal.nD Cert.QbDwIdeal.τ).loc Cert.QbDwIdeal.main_arg0)
          ∧ r.2.mem ((c.tc : Thread Cert.QbDwIdeal.nD Cert.QbDwIdeal.τ).loc Cert.QbDwIdeal.main_arg1) = m ((c.tc : Thread Cert.QbDwIdeal.nD Cert.QbDwIdeal.τ).loc Cert.QbDwIdeal.main_arg1)
          ∧ r.2.mem ((c.tc : Thread Cert.QbDwIdeal.nD Cert.QbDwIdeal.τ).loc Cert.QbDwIdeal.main_arg2) = m ((c.tc : Thread Cert.QbDwIdeal.nD Cert.QbDwIdeal.τ).loc Cert.QbDwIdeal.main_arg2)
          ∧ r.2.mem ((c.tc : Thread Cert.QbDwIdeal.nD Cert.QbDwIdeal.τ).loc Cert.QbDwIdeal.main_arg3) = m ((c.tc : Thread Cert.QbDwIdeal.nD Cert.QbDwIdeal.τ).loc Cert.QbDwIdeal.main_arg3))
      ∧ θ_run (Cert.QbDwRefIdeal.defs (F := Ideal)) (onTc (τ := Cert.QbDwRefIdeal.τ) (Cert.QbDwRefIdeal.main (F := Ideal))) ⟨m', fun _ => 0, g'⟩ (fun r => ∀ c : Dev Cert.QbDwRefIdeal.nD,
          r.2.mem ((c.tc : Thread Cert.QbDwRefIdeal.nD Cert.QbDwRefIdeal.τ).loc Cert.QbDwRefIdeal.main_v7) = v0 c
          ∧ r.2.mem ((c.tc : Thread Cert.QbDwRefIdeal.nD Cert.QbDwRefIdeal.τ).loc Cert.QbDwRefIdeal.main_arg0) = m' ((c.tc : Thread Cert.QbDwRefIdeal.nD Cert.QbDwRefIdeal.τ).loc Cert.QbDwRefIdeal.main_arg0)
          ∧ r.2.mem ((c.tc : Thread Cert.QbDwRefIdeal.nD Cert.QbDwRefIdeal.τ).loc Cert.QbDwRefIdeal.main_arg1) = m' ((c.tc : Thread Cert.QbDwRefIdeal.nD Cert.QbDwRefIdeal.τ).loc Cert.QbDwRefIdeal.main_arg1)
          ∧ r.2.mem ((c.tc : Thread Cert.QbDwRefIdeal.nD Cert.QbDwRefIdeal.τ).loc Cert.QbDwRefIdeal.main_arg2) = m' ((c.tc : Thread Cert.QbDwRefIdeal.nD Cert.QbDwRefIdeal.τ).loc Cert.QbDwRefIdeal.main_arg2)
          ∧ r.2.mem ((c.tc : Thread Cert.QbDwRefIdeal.nD Cert.QbDwRefIdeal.τ).loc Cert.QbDwRefIdeal.main_arg3) = m' ((c.tc : Thread Cert.QbDwRefIdeal.nD Cert.QbDwRefIdeal.τ).loc Cert.QbDwRefIdeal.main_arg3))

def preserves_KvbDx_KvbDxIdeal : Prop :=
  True

def algebraic_KvbDxIdeal_KvbDxRefIdeal [hKvbDxIdeal : Cert.KvbDxIdeal.Facts] [hKvbDxRefIdeal : Cert.KvbDxRefIdeal.Facts] : Prop :=
  ∀ (m : (ℓ : Loc Cert.KvbDxIdeal.nD Cert.KvbDxIdeal.τ Cert.KvbDxIdeal.sig) → Buf (Elt Ideal) ℓ) (g : Dev Cert.KvbDxIdeal.nD → PrngReg)
    (m' : (ℓ : Loc Cert.KvbDxRefIdeal.nD Cert.KvbDxRefIdeal.τ Cert.KvbDxRefIdeal.sig) → Buf (Elt Ideal) ℓ) (g' : Dev Cert.KvbDxRefIdeal.nD → PrngReg), Pre_KvbDxIdeal m →
    (∀ c : Dev Cert.KvbDxIdeal.nD,
      m' ((c.tc : Thread Cert.KvbDxRefIdeal.nD Cert.KvbDxRefIdeal.τ).loc Cert.KvbDxRefIdeal.main_arg0) = m ((c.tc : Thread Cert.KvbDxIdeal.nD Cert.KvbDxIdeal.τ).loc Cert.KvbDxIdeal.main_arg0)
      ∧ m' ((c.tc : Thread Cert.KvbDxRefIdeal.nD Cert.KvbDxRefIdeal.τ).loc Cert.KvbDxRefIdeal.main_arg1) = m ((c.tc : Thread Cert.KvbDxIdeal.nD Cert.KvbDxIdeal.τ).loc Cert.KvbDxIdeal.main_arg1)
      ∧ m' ((c.tc : Thread Cert.KvbDxRefIdeal.nD Cert.KvbDxRefIdeal.τ).loc Cert.KvbDxRefIdeal.main_arg2) = m ((c.tc : Thread Cert.KvbDxIdeal.nD Cert.KvbDxIdeal.τ).loc Cert.KvbDxIdeal.main_arg2)) →
    ∃ (v0 : (c : Dev Cert.KvbDxIdeal.nD) → Buf (Elt Ideal) ((c.tc : Thread Cert.KvbDxIdeal.nD Cert.KvbDxIdeal.τ).loc Cert.KvbDxIdeal.main_v2)),
      θ_run (Cert.KvbDxIdeal.defs (F := Ideal)) (onTc (τ := Cert.KvbDxIdeal.τ) (Cert.KvbDxIdeal.main (F := Ideal))) ⟨m, fun _ => 0, g⟩ (fun r => ∀ c : Dev Cert.KvbDxIdeal.nD,
          r.2.mem ((c.tc : Thread Cert.KvbDxIdeal.nD Cert.KvbDxIdeal.τ).loc Cert.KvbDxIdeal.main_v2) = v0 c
          ∧ r.2.mem ((c.tc : Thread Cert.KvbDxIdeal.nD Cert.KvbDxIdeal.τ).loc Cert.KvbDxIdeal.main_arg0) = m ((c.tc : Thread Cert.KvbDxIdeal.nD Cert.KvbDxIdeal.τ).loc Cert.KvbDxIdeal.main_arg0)
          ∧ r.2.mem ((c.tc : Thread Cert.KvbDxIdeal.nD Cert.KvbDxIdeal.τ).loc Cert.KvbDxIdeal.main_arg1) = m ((c.tc : Thread Cert.KvbDxIdeal.nD Cert.KvbDxIdeal.τ).loc Cert.KvbDxIdeal.main_arg1)
          ∧ r.2.mem ((c.tc : Thread Cert.KvbDxIdeal.nD Cert.KvbDxIdeal.τ).loc Cert.KvbDxIdeal.main_arg2) = m ((c.tc : Thread Cert.KvbDxIdeal.nD Cert.KvbDxIdeal.τ).loc Cert.KvbDxIdeal.main_arg2))
      ∧ θ_run (Cert.KvbDxRefIdeal.defs (F := Ideal)) (onTc (τ := Cert.KvbDxRefIdeal.τ) (Cert.KvbDxRefIdeal.main (F := Ideal))) ⟨m', fun _ => 0, g'⟩ (fun r => ∀ c : Dev Cert.KvbDxRefIdeal.nD,
          r.2.mem ((c.tc : Thread Cert.KvbDxRefIdeal.nD Cert.KvbDxRefIdeal.τ).loc Cert.KvbDxRefIdeal.main_v3) = v0 c
          ∧ r.2.mem ((c.tc : Thread Cert.KvbDxRefIdeal.nD Cert.KvbDxRefIdeal.τ).loc Cert.KvbDxRefIdeal.main_arg0) = m' ((c.tc : Thread Cert.KvbDxRefIdeal.nD Cert.KvbDxRefIdeal.τ).loc Cert.KvbDxRefIdeal.main_arg0)
          ∧ r.2.mem ((c.tc : Thread Cert.KvbDxRefIdeal.nD Cert.KvbDxRefIdeal.τ).loc Cert.KvbDxRefIdeal.main_arg1) = m' ((c.tc : Thread Cert.KvbDxRefIdeal.nD Cert.KvbDxRefIdeal.τ).loc Cert.KvbDxRefIdeal.main_arg1)
          ∧ r.2.mem ((c.tc : Thread Cert.KvbDxRefIdeal.nD Cert.KvbDxRefIdeal.τ).loc Cert.KvbDxRefIdeal.main_arg2) = m' ((c.tc : Thread Cert.KvbDxRefIdeal.nD Cert.KvbDxRefIdeal.τ).loc Cert.KvbDxRefIdeal.main_arg2))

def preserves_KvbDw_KvbDwIdeal : Prop :=
  True

def algebraic_KvbDwIdeal_KvbDwRefIdeal [hKvbDwIdeal : Cert.KvbDwIdeal.Facts] [hKvbDwRefIdeal : Cert.KvbDwRefIdeal.Facts] : Prop :=
  ∀ (m : (ℓ : Loc Cert.KvbDwIdeal.nD Cert.KvbDwIdeal.τ Cert.KvbDwIdeal.sig) → Buf (Elt Ideal) ℓ) (g : Dev Cert.KvbDwIdeal.nD → PrngReg)
    (m' : (ℓ : Loc Cert.KvbDwRefIdeal.nD Cert.KvbDwRefIdeal.τ Cert.KvbDwRefIdeal.sig) → Buf (Elt Ideal) ℓ) (g' : Dev Cert.KvbDwRefIdeal.nD → PrngReg), Pre_KvbDwIdeal m →
    (∀ c : Dev Cert.KvbDwIdeal.nD,
      m' ((c.tc : Thread Cert.KvbDwRefIdeal.nD Cert.KvbDwRefIdeal.τ).loc Cert.KvbDwRefIdeal.main_arg0) = m ((c.tc : Thread Cert.KvbDwIdeal.nD Cert.KvbDwIdeal.τ).loc Cert.KvbDwIdeal.main_arg0)
      ∧ m' ((c.tc : Thread Cert.KvbDwRefIdeal.nD Cert.KvbDwRefIdeal.τ).loc Cert.KvbDwRefIdeal.main_arg1) = m ((c.tc : Thread Cert.KvbDwIdeal.nD Cert.KvbDwIdeal.τ).loc Cert.KvbDwIdeal.main_arg1)
      ∧ m' ((c.tc : Thread Cert.KvbDwRefIdeal.nD Cert.KvbDwRefIdeal.τ).loc Cert.KvbDwRefIdeal.main_arg2) = m ((c.tc : Thread Cert.KvbDwIdeal.nD Cert.KvbDwIdeal.τ).loc Cert.KvbDwIdeal.main_arg2)
      ∧ m' ((c.tc : Thread Cert.KvbDwRefIdeal.nD Cert.KvbDwRefIdeal.τ).loc Cert.KvbDwRefIdeal.main_arg3) = m ((c.tc : Thread Cert.KvbDwIdeal.nD Cert.KvbDwIdeal.τ).loc Cert.KvbDwIdeal.main_arg3)) →
    ∃ (v0 : (c : Dev Cert.KvbDwIdeal.nD) → Buf (Elt Ideal) ((c.tc : Thread Cert.KvbDwIdeal.nD Cert.KvbDwIdeal.τ).loc Cert.KvbDwIdeal.main_v2)),
      θ_run (Cert.KvbDwIdeal.defs (F := Ideal)) (onTc (τ := Cert.KvbDwIdeal.τ) (Cert.KvbDwIdeal.main (F := Ideal))) ⟨m, fun _ => 0, g⟩ (fun r => ∀ c : Dev Cert.KvbDwIdeal.nD,
          r.2.mem ((c.tc : Thread Cert.KvbDwIdeal.nD Cert.KvbDwIdeal.τ).loc Cert.KvbDwIdeal.main_v2) = v0 c
          ∧ r.2.mem ((c.tc : Thread Cert.KvbDwIdeal.nD Cert.KvbDwIdeal.τ).loc Cert.KvbDwIdeal.main_arg0) = m ((c.tc : Thread Cert.KvbDwIdeal.nD Cert.KvbDwIdeal.τ).loc Cert.KvbDwIdeal.main_arg0)
          ∧ r.2.mem ((c.tc : Thread Cert.KvbDwIdeal.nD Cert.KvbDwIdeal.τ).loc Cert.KvbDwIdeal.main_arg1) = m ((c.tc : Thread Cert.KvbDwIdeal.nD Cert.KvbDwIdeal.τ).loc Cert.KvbDwIdeal.main_arg1)
          ∧ r.2.mem ((c.tc : Thread Cert.KvbDwIdeal.nD Cert.KvbDwIdeal.τ).loc Cert.KvbDwIdeal.main_arg2) = m ((c.tc : Thread Cert.KvbDwIdeal.nD Cert.KvbDwIdeal.τ).loc Cert.KvbDwIdeal.main_arg2)
          ∧ r.2.mem ((c.tc : Thread Cert.KvbDwIdeal.nD Cert.KvbDwIdeal.τ).loc Cert.KvbDwIdeal.main_arg3) = m ((c.tc : Thread Cert.KvbDwIdeal.nD Cert.KvbDwIdeal.τ).loc Cert.KvbDwIdeal.main_arg3))
      ∧ θ_run (Cert.KvbDwRefIdeal.defs (F := Ideal)) (onTc (τ := Cert.KvbDwRefIdeal.τ) (Cert.KvbDwRefIdeal.main (F := Ideal))) ⟨m', fun _ => 0, g'⟩ (fun r => ∀ c : Dev Cert.KvbDwRefIdeal.nD,
          r.2.mem ((c.tc : Thread Cert.KvbDwRefIdeal.nD Cert.KvbDwRefIdeal.τ).loc Cert.KvbDwRefIdeal.main_v7) = v0 c
          ∧ r.2.mem ((c.tc : Thread Cert.KvbDwRefIdeal.nD Cert.KvbDwRefIdeal.τ).loc Cert.KvbDwRefIdeal.main_arg0) = m' ((c.tc : Thread Cert.KvbDwRefIdeal.nD Cert.KvbDwRefIdeal.τ).loc Cert.KvbDwRefIdeal.main_arg0)
          ∧ r.2.mem ((c.tc : Thread Cert.KvbDwRefIdeal.nD Cert.KvbDwRefIdeal.τ).loc Cert.KvbDwRefIdeal.main_arg1) = m' ((c.tc : Thread Cert.KvbDwRefIdeal.nD Cert.KvbDwRefIdeal.τ).loc Cert.KvbDwRefIdeal.main_arg1)
          ∧ r.2.mem ((c.tc : Thread Cert.KvbDwRefIdeal.nD Cert.KvbDwRefIdeal.τ).loc Cert.KvbDwRefIdeal.main_arg2) = m' ((c.tc : Thread Cert.KvbDwRefIdeal.nD Cert.KvbDwRefIdeal.τ).loc Cert.KvbDwRefIdeal.main_arg2)
          ∧ r.2.mem ((c.tc : Thread Cert.KvbDwRefIdeal.nD Cert.KvbDwRefIdeal.τ).loc Cert.KvbDwRefIdeal.main_arg3) = m' ((c.tc : Thread Cert.KvbDwRefIdeal.nD Cert.KvbDwRefIdeal.τ).loc Cert.KvbDwRefIdeal.main_arg3))

def preserves_CrossDx_CrossDxIdeal : Prop :=
  True

def algebraic_CrossDxIdeal_CrossDxRefIdeal [hCrossDxIdeal : Cert.CrossDxIdeal.Facts] [hCrossDxRefIdeal : Cert.CrossDxRefIdeal.Facts] : Prop :=
  ∀ (m : (ℓ : Loc Cert.CrossDxIdeal.nD Cert.CrossDxIdeal.τ Cert.CrossDxIdeal.sig) → Buf (Elt Ideal) ℓ) (g : Dev Cert.CrossDxIdeal.nD → PrngReg)
    (m' : (ℓ : Loc Cert.CrossDxRefIdeal.nD Cert.CrossDxRefIdeal.τ Cert.CrossDxRefIdeal.sig) → Buf (Elt Ideal) ℓ) (g' : Dev Cert.CrossDxRefIdeal.nD → PrngReg), Pre_CrossDxIdeal m →
    (∀ c : Dev Cert.CrossDxIdeal.nD,
      m' ((c.tc : Thread Cert.CrossDxRefIdeal.nD Cert.CrossDxRefIdeal.τ).loc Cert.CrossDxRefIdeal.main_arg0) = m ((c.tc : Thread Cert.CrossDxIdeal.nD Cert.CrossDxIdeal.τ).loc Cert.CrossDxIdeal.main_arg0)
      ∧ m' ((c.tc : Thread Cert.CrossDxRefIdeal.nD Cert.CrossDxRefIdeal.τ).loc Cert.CrossDxRefIdeal.main_arg1) = m ((c.tc : Thread Cert.CrossDxIdeal.nD Cert.CrossDxIdeal.τ).loc Cert.CrossDxIdeal.main_arg1)
      ∧ m' ((c.tc : Thread Cert.CrossDxRefIdeal.nD Cert.CrossDxRefIdeal.τ).loc Cert.CrossDxRefIdeal.main_arg2) = m ((c.tc : Thread Cert.CrossDxIdeal.nD Cert.CrossDxIdeal.τ).loc Cert.CrossDxIdeal.main_arg2)) →
    ∃ (v0 : (c : Dev Cert.CrossDxIdeal.nD) → Buf (Elt Ideal) ((c.tc : Thread Cert.CrossDxIdeal.nD Cert.CrossDxIdeal.τ).loc Cert.CrossDxIdeal.main_v2)),
      θ_run (Cert.CrossDxIdeal.defs (F := Ideal)) (onTc (τ := Cert.CrossDxIdeal.τ) (Cert.CrossDxIdeal.main (F := Ideal))) ⟨m, fun _ => 0, g⟩ (fun r => ∀ c : Dev Cert.CrossDxIdeal.nD,
          r.2.mem ((c.tc : Thread Cert.CrossDxIdeal.nD Cert.CrossDxIdeal.τ).loc Cert.CrossDxIdeal.main_v2) = v0 c
          ∧ r.2.mem ((c.tc : Thread Cert.CrossDxIdeal.nD Cert.CrossDxIdeal.τ).loc Cert.CrossDxIdeal.main_arg0) = m ((c.tc : Thread Cert.CrossDxIdeal.nD Cert.CrossDxIdeal.τ).loc Cert.CrossDxIdeal.main_arg0)
          ∧ r.2.mem ((c.tc : Thread Cert.CrossDxIdeal.nD Cert.CrossDxIdeal.τ).loc Cert.CrossDxIdeal.main_arg1) = m ((c.tc : Thread Cert.CrossDxIdeal.nD Cert.CrossDxIdeal.τ).loc Cert.CrossDxIdeal.main_arg1)
          ∧ r.2.mem ((c.tc : Thread Cert.CrossDxIdeal.nD Cert.CrossDxIdeal.τ).loc Cert.CrossDxIdeal.main_arg2) = m ((c.tc : Thread Cert.CrossDxIdeal.nD Cert.CrossDxIdeal.τ).loc Cert.CrossDxIdeal.main_arg2))
      ∧ θ_run (Cert.CrossDxRefIdeal.defs (F := Ideal)) (onTc (τ := Cert.CrossDxRefIdeal.τ) (Cert.CrossDxRefIdeal.main (F := Ideal))) ⟨m', fun _ => 0, g'⟩ (fun r => ∀ c : Dev Cert.CrossDxRefIdeal.nD,
          r.2.mem ((c.tc : Thread Cert.CrossDxRefIdeal.nD Cert.CrossDxRefIdeal.τ).loc Cert.CrossDxRefIdeal.main_v3) = v0 c
          ∧ r.2.mem ((c.tc : Thread Cert.CrossDxRefIdeal.nD Cert.CrossDxRefIdeal.τ).loc Cert.CrossDxRefIdeal.main_arg0) = m' ((c.tc : Thread Cert.CrossDxRefIdeal.nD Cert.CrossDxRefIdeal.τ).loc Cert.CrossDxRefIdeal.main_arg0)
          ∧ r.2.mem ((c.tc : Thread Cert.CrossDxRefIdeal.nD Cert.CrossDxRefIdeal.τ).loc Cert.CrossDxRefIdeal.main_arg1) = m' ((c.tc : Thread Cert.CrossDxRefIdeal.nD Cert.CrossDxRefIdeal.τ).loc Cert.CrossDxRefIdeal.main_arg1)
          ∧ r.2.mem ((c.tc : Thread Cert.CrossDxRefIdeal.nD Cert.CrossDxRefIdeal.τ).loc Cert.CrossDxRefIdeal.main_arg2) = m' ((c.tc : Thread Cert.CrossDxRefIdeal.nD Cert.CrossDxRefIdeal.τ).loc Cert.CrossDxRefIdeal.main_arg2))

def preserves_CrossDw_CrossDwIdeal : Prop :=
  True

def algebraic_CrossDwIdeal_CrossDwRefIdeal [hCrossDwIdeal : Cert.CrossDwIdeal.Facts] [hCrossDwRefIdeal : Cert.CrossDwRefIdeal.Facts] : Prop :=
  ∀ (m : (ℓ : Loc Cert.CrossDwIdeal.nD Cert.CrossDwIdeal.τ Cert.CrossDwIdeal.sig) → Buf (Elt Ideal) ℓ) (g : Dev Cert.CrossDwIdeal.nD → PrngReg)
    (m' : (ℓ : Loc Cert.CrossDwRefIdeal.nD Cert.CrossDwRefIdeal.τ Cert.CrossDwRefIdeal.sig) → Buf (Elt Ideal) ℓ) (g' : Dev Cert.CrossDwRefIdeal.nD → PrngReg), Pre_CrossDwIdeal m →
    (∀ c : Dev Cert.CrossDwIdeal.nD,
      m' ((c.tc : Thread Cert.CrossDwRefIdeal.nD Cert.CrossDwRefIdeal.τ).loc Cert.CrossDwRefIdeal.main_arg0) = m ((c.tc : Thread Cert.CrossDwIdeal.nD Cert.CrossDwIdeal.τ).loc Cert.CrossDwIdeal.main_arg0)
      ∧ m' ((c.tc : Thread Cert.CrossDwRefIdeal.nD Cert.CrossDwRefIdeal.τ).loc Cert.CrossDwRefIdeal.main_arg1) = m ((c.tc : Thread Cert.CrossDwIdeal.nD Cert.CrossDwIdeal.τ).loc Cert.CrossDwIdeal.main_arg1)
      ∧ m' ((c.tc : Thread Cert.CrossDwRefIdeal.nD Cert.CrossDwRefIdeal.τ).loc Cert.CrossDwRefIdeal.main_arg2) = m ((c.tc : Thread Cert.CrossDwIdeal.nD Cert.CrossDwIdeal.τ).loc Cert.CrossDwIdeal.main_arg2)
      ∧ m' ((c.tc : Thread Cert.CrossDwRefIdeal.nD Cert.CrossDwRefIdeal.τ).loc Cert.CrossDwRefIdeal.main_arg3) = m ((c.tc : Thread Cert.CrossDwIdeal.nD Cert.CrossDwIdeal.τ).loc Cert.CrossDwIdeal.main_arg3)) →
    ∃ (v0 : (c : Dev Cert.CrossDwIdeal.nD) → Buf (Elt Ideal) ((c.tc : Thread Cert.CrossDwIdeal.nD Cert.CrossDwIdeal.τ).loc Cert.CrossDwIdeal.main_v2)),
      θ_run (Cert.CrossDwIdeal.defs (F := Ideal)) (onTc (τ := Cert.CrossDwIdeal.τ) (Cert.CrossDwIdeal.main (F := Ideal))) ⟨m, fun _ => 0, g⟩ (fun r => ∀ c : Dev Cert.CrossDwIdeal.nD,
          r.2.mem ((c.tc : Thread Cert.CrossDwIdeal.nD Cert.CrossDwIdeal.τ).loc Cert.CrossDwIdeal.main_v2) = v0 c
          ∧ r.2.mem ((c.tc : Thread Cert.CrossDwIdeal.nD Cert.CrossDwIdeal.τ).loc Cert.CrossDwIdeal.main_arg0) = m ((c.tc : Thread Cert.CrossDwIdeal.nD Cert.CrossDwIdeal.τ).loc Cert.CrossDwIdeal.main_arg0)
          ∧ r.2.mem ((c.tc : Thread Cert.CrossDwIdeal.nD Cert.CrossDwIdeal.τ).loc Cert.CrossDwIdeal.main_arg1) = m ((c.tc : Thread Cert.CrossDwIdeal.nD Cert.CrossDwIdeal.τ).loc Cert.CrossDwIdeal.main_arg1)
          ∧ r.2.mem ((c.tc : Thread Cert.CrossDwIdeal.nD Cert.CrossDwIdeal.τ).loc Cert.CrossDwIdeal.main_arg2) = m ((c.tc : Thread Cert.CrossDwIdeal.nD Cert.CrossDwIdeal.τ).loc Cert.CrossDwIdeal.main_arg2)
          ∧ r.2.mem ((c.tc : Thread Cert.CrossDwIdeal.nD Cert.CrossDwIdeal.τ).loc Cert.CrossDwIdeal.main_arg3) = m ((c.tc : Thread Cert.CrossDwIdeal.nD Cert.CrossDwIdeal.τ).loc Cert.CrossDwIdeal.main_arg3))
      ∧ θ_run (Cert.CrossDwRefIdeal.defs (F := Ideal)) (onTc (τ := Cert.CrossDwRefIdeal.τ) (Cert.CrossDwRefIdeal.main (F := Ideal))) ⟨m', fun _ => 0, g'⟩ (fun r => ∀ c : Dev Cert.CrossDwRefIdeal.nD,
          r.2.mem ((c.tc : Thread Cert.CrossDwRefIdeal.nD Cert.CrossDwRefIdeal.τ).loc Cert.CrossDwRefIdeal.main_v7) = v0 c
          ∧ r.2.mem ((c.tc : Thread Cert.CrossDwRefIdeal.nD Cert.CrossDwRefIdeal.τ).loc Cert.CrossDwRefIdeal.main_arg0) = m' ((c.tc : Thread Cert.CrossDwRefIdeal.nD Cert.CrossDwRefIdeal.τ).loc Cert.CrossDwRefIdeal.main_arg0)
          ∧ r.2.mem ((c.tc : Thread Cert.CrossDwRefIdeal.nD Cert.CrossDwRefIdeal.τ).loc Cert.CrossDwRefIdeal.main_arg1) = m' ((c.tc : Thread Cert.CrossDwRefIdeal.nD Cert.CrossDwRefIdeal.τ).loc Cert.CrossDwRefIdeal.main_arg1)
          ∧ r.2.mem ((c.tc : Thread Cert.CrossDwRefIdeal.nD Cert.CrossDwRefIdeal.τ).loc Cert.CrossDwRefIdeal.main_arg2) = m' ((c.tc : Thread Cert.CrossDwRefIdeal.nD Cert.CrossDwRefIdeal.τ).loc Cert.CrossDwRefIdeal.main_arg2)
          ∧ r.2.mem ((c.tc : Thread Cert.CrossDwRefIdeal.nD Cert.CrossDwRefIdeal.τ).loc Cert.CrossDwRefIdeal.main_arg3) = m' ((c.tc : Thread Cert.CrossDwRefIdeal.nD Cert.CrossDwRefIdeal.τ).loc Cert.CrossDwRefIdeal.main_arg3))

def preserves_Qb_QbIdeal : Prop :=
  True

def algebraic_QbIdeal_QbRefIdeal [hQbIdeal : Cert.QbIdeal.Facts] [hQbRefIdeal : Cert.QbRefIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)) →
    ∃ (v0 : (c : Dev Cert.QbIdeal.nD) → Buf (Elt Ideal) ((c.tc : Thread Cert.QbIdeal.nD Cert.QbIdeal.τ).loc Cert.QbIdeal.main_v2)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v2) = v0 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v0) = v0 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1))

def preserves_Kvb_KvbIdeal : Prop :=
  True

def algebraic_KvbIdeal_KvbRefIdeal [hKvbIdeal : Cert.KvbIdeal.Facts] [hKvbRefIdeal : Cert.KvbRefIdeal.Facts] : Prop :=
  ∀ (m : (ℓ : Loc Cert.KvbIdeal.nD Cert.KvbIdeal.τ Cert.KvbIdeal.sig) → Buf (Elt Ideal) ℓ) (g : Dev Cert.KvbIdeal.nD → PrngReg)
    (m' : (ℓ : Loc Cert.KvbRefIdeal.nD Cert.KvbRefIdeal.τ Cert.KvbRefIdeal.sig) → Buf (Elt Ideal) ℓ) (g' : Dev Cert.KvbRefIdeal.nD → PrngReg), Pre_KvbIdeal m →
    (∀ c : Dev Cert.KvbIdeal.nD,
      m' ((c.tc : Thread Cert.KvbRefIdeal.nD Cert.KvbRefIdeal.τ).loc Cert.KvbRefIdeal.main_arg0) = m ((c.tc : Thread Cert.KvbIdeal.nD Cert.KvbIdeal.τ).loc Cert.KvbIdeal.main_arg0)
      ∧ m' ((c.tc : Thread Cert.KvbRefIdeal.nD Cert.KvbRefIdeal.τ).loc Cert.KvbRefIdeal.main_arg1) = m ((c.tc : Thread Cert.KvbIdeal.nD Cert.KvbIdeal.τ).loc Cert.KvbIdeal.main_arg1)) →
    ∃ (v0 : (c : Dev Cert.KvbIdeal.nD) → Buf (Elt Ideal) ((c.tc : Thread Cert.KvbIdeal.nD Cert.KvbIdeal.τ).loc Cert.KvbIdeal.main_v2)),
      θ_run (Cert.KvbIdeal.defs (F := Ideal)) (onTc (τ := Cert.KvbIdeal.τ) (Cert.KvbIdeal.main (F := Ideal))) ⟨m, fun _ => 0, g⟩ (fun r => ∀ c : Dev Cert.KvbIdeal.nD,
          r.2.mem ((c.tc : Thread Cert.KvbIdeal.nD Cert.KvbIdeal.τ).loc Cert.KvbIdeal.main_v2) = v0 c
          ∧ r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
          ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ θ_run (Cert.KvbRefIdeal.defs (F := Ideal)) (onTc (τ := Cert.KvbRefIdeal.τ) (Cert.KvbRefIdeal.main (F := Ideal))) ⟨m', fun _ => 0, g'⟩ (fun r => ∀ c : Dev Cert.KvbRefIdeal.nD,
          r.2.mem ((c.tc : Thread Cert.KvbRefIdeal.nD Cert.KvbRefIdeal.τ).loc Cert.KvbRefIdeal.main_v0) = v0 c
          ∧ r.2.mem ((c.tc : Thread Cert.KvbRefIdeal.nD Cert.KvbRefIdeal.τ).loc Cert.KvbRefIdeal.main_arg0) = m' ((c.tc : Thread Cert.KvbRefIdeal.nD Cert.KvbRefIdeal.τ).loc Cert.KvbRefIdeal.main_arg0)
          ∧ r.2.mem ((c.tc : Thread Cert.KvbRefIdeal.nD Cert.KvbRefIdeal.τ).loc Cert.KvbRefIdeal.main_arg1) = m' ((c.tc : Thread Cert.KvbRefIdeal.nD Cert.KvbRefIdeal.τ).loc Cert.KvbRefIdeal.main_arg1))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v2)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v2) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v0) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1))

def preserves_InLatent_InLatentIdeal : Prop :=
  True

def algebraic_InLatentIdeal_InLatentRefIdeal [hInLatentIdeal : Cert.InLatentIdeal.Facts] [hInLatentRefIdeal : Cert.InLatentRefIdeal.Facts] : Prop :=
  ∀ (m : (ℓ : Loc Cert.InLatentIdeal.nD Cert.InLatentIdeal.τ Cert.InLatentIdeal.sig) → Buf (Elt Ideal) ℓ) (g : Dev Cert.InLatentIdeal.nD → PrngReg)
    (m' : (ℓ : Loc Cert.InLatentRefIdeal.nD Cert.InLatentRefIdeal.τ Cert.InLatentRefIdeal.sig) → Buf (Elt Ideal) ℓ) (g' : Dev Cert.InLatentRefIdeal.nD → PrngReg), Pre_InLatentIdeal m →
    (∀ c : Dev Cert.InLatentIdeal.nD,
      m' ((c.tc : Thread Cert.InLatentRefIdeal.nD Cert.InLatentRefIdeal.τ).loc Cert.InLatentRefIdeal.main_arg0) = m ((c.tc : Thread Cert.InLatentIdeal.nD Cert.InLatentIdeal.τ).loc Cert.InLatentIdeal.main_arg0)
      ∧ m' ((c.tc : Thread Cert.InLatentRefIdeal.nD Cert.InLatentRefIdeal.τ).loc Cert.InLatentRefIdeal.main_arg1) = m ((c.tc : Thread Cert.InLatentIdeal.nD Cert.InLatentIdeal.τ).loc Cert.InLatentIdeal.main_arg1)) →
    ∃ (v0 : (c : Dev Cert.InLatentIdeal.nD) → Buf (Elt Ideal) ((c.tc : Thread Cert.InLatentIdeal.nD Cert.InLatentIdeal.τ).loc Cert.InLatentIdeal.main_v2)),
      θ_run (Cert.InLatentIdeal.defs (F := Ideal)) (onTc (τ := Cert.InLatentIdeal.τ) (Cert.InLatentIdeal.main (F := Ideal))) ⟨m, fun _ => 0, g⟩ (fun r => ∀ c : Dev Cert.InLatentIdeal.nD,
          r.2.mem ((c.tc : Thread Cert.InLatentIdeal.nD Cert.InLatentIdeal.τ).loc Cert.InLatentIdeal.main_v2) = v0 c
          ∧ r.2.mem ((c.tc : Thread Cert.InLatentIdeal.nD Cert.InLatentIdeal.τ).loc Cert.InLatentIdeal.main_arg0) = m ((c.tc : Thread Cert.InLatentIdeal.nD Cert.InLatentIdeal.τ).loc Cert.InLatentIdeal.main_arg0)
          ∧ r.2.mem ((c.tc : Thread Cert.InLatentIdeal.nD Cert.InLatentIdeal.τ).loc Cert.InLatentIdeal.main_arg1) = m ((c.tc : Thread Cert.InLatentIdeal.nD Cert.InLatentIdeal.τ).loc Cert.InLatentIdeal.main_arg1))
      ∧ θ_run (Cert.InLatentRefIdeal.defs (F := Ideal)) (onTc (τ := Cert.InLatentRefIdeal.τ) (Cert.InLatentRefIdeal.main (F := Ideal))) ⟨m', fun _ => 0, g'⟩ (fun r => ∀ c : Dev Cert.InLatentRefIdeal.nD,
          r.2.mem ((c.tc : Thread Cert.InLatentRefIdeal.nD Cert.InLatentRefIdeal.τ).loc Cert.InLatentRefIdeal.main_v0) = v0 c
          ∧ r.2.mem ((c.tc : Thread Cert.InLatentRefIdeal.nD Cert.InLatentRefIdeal.τ).loc Cert.InLatentRefIdeal.main_arg0) = m' ((c.tc : Thread Cert.InLatentRefIdeal.nD Cert.InLatentRefIdeal.τ).loc Cert.InLatentRefIdeal.main_arg0)
          ∧ r.2.mem ((c.tc : Thread Cert.InLatentRefIdeal.nD Cert.InLatentRefIdeal.τ).loc Cert.InLatentRefIdeal.main_arg1) = m' ((c.tc : Thread Cert.InLatentRefIdeal.nD Cert.InLatentRefIdeal.τ).loc Cert.InLatentRefIdeal.main_arg1))

def preserves_InKv_InKvIdeal : Prop :=
  True

def algebraic_InKvIdeal_InKvRefIdeal [hInKvIdeal : Cert.InKvIdeal.Facts] [hInKvRefIdeal : Cert.InKvRefIdeal.Facts] : Prop :=
  ∀ (m : (ℓ : Loc Cert.InKvIdeal.nD Cert.InKvIdeal.τ Cert.InKvIdeal.sig) → Buf (Elt Ideal) ℓ) (g : Dev Cert.InKvIdeal.nD → PrngReg)
    (m' : (ℓ : Loc Cert.InKvRefIdeal.nD Cert.InKvRefIdeal.τ Cert.InKvRefIdeal.sig) → Buf (Elt Ideal) ℓ) (g' : Dev Cert.InKvRefIdeal.nD → PrngReg), Pre_InKvIdeal m →
    (∀ c : Dev Cert.InKvIdeal.nD,
      m' ((c.tc : Thread Cert.InKvRefIdeal.nD Cert.InKvRefIdeal.τ).loc Cert.InKvRefIdeal.main_arg0) = m ((c.tc : Thread Cert.InKvIdeal.nD Cert.InKvIdeal.τ).loc Cert.InKvIdeal.main_arg0)
      ∧ m' ((c.tc : Thread Cert.InKvRefIdeal.nD Cert.InKvRefIdeal.τ).loc Cert.InKvRefIdeal.main_arg1) = m ((c.tc : Thread Cert.InKvIdeal.nD Cert.InKvIdeal.τ).loc Cert.InKvIdeal.main_arg1)) →
    ∃ (v0 : (c : Dev Cert.InKvIdeal.nD) → Buf (Elt Ideal) ((c.tc : Thread Cert.InKvIdeal.nD Cert.InKvIdeal.τ).loc Cert.InKvIdeal.main_v2)),
      θ_run (Cert.InKvIdeal.defs (F := Ideal)) (onTc (τ := Cert.InKvIdeal.τ) (Cert.InKvIdeal.main (F := Ideal))) ⟨m, fun _ => 0, g⟩ (fun r => ∀ c : Dev Cert.InKvIdeal.nD,
          r.2.mem ((c.tc : Thread Cert.InKvIdeal.nD Cert.InKvIdeal.τ).loc Cert.InKvIdeal.main_v2) = v0 c
          ∧ r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
          ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ θ_run (Cert.InKvRefIdeal.defs (F := Ideal)) (onTc (τ := Cert.InKvRefIdeal.τ) (Cert.InKvRefIdeal.main (F := Ideal))) ⟨m', fun _ => 0, g'⟩ (fun r => ∀ c : Dev Cert.InKvRefIdeal.nD,
          r.2.mem ((c.tc : Thread Cert.InKvRefIdeal.nD Cert.InKvRefIdeal.τ).loc Cert.InKvRefIdeal.main_v0) = v0 c
          ∧ r.2.mem ((c.tc : Thread Cert.InKvRefIdeal.nD Cert.InKvRefIdeal.τ).loc Cert.InKvRefIdeal.main_arg0) = m' ((c.tc : Thread Cert.InKvRefIdeal.nD Cert.InKvRefIdeal.τ).loc Cert.InKvRefIdeal.main_arg0)
          ∧ r.2.mem ((c.tc : Thread Cert.InKvRefIdeal.nD Cert.InKvRefIdeal.τ).loc Cert.InKvRefIdeal.main_arg1) = m' ((c.tc : Thread Cert.InKvRefIdeal.nD Cert.InKvRefIdeal.τ).loc Cert.InKvRefIdeal.main_arg1))

def preserves_InNarrow_InNarrowIdeal : Prop :=
  True

def algebraic_InNarrowIdeal_InNarrowRefIdeal [hInNarrowIdeal : Cert.InNarrowIdeal.Facts] [hInNarrowRefIdeal : Cert.InNarrowRefIdeal.Facts] : Prop :=
  ∀ (m : (ℓ : Loc Cert.InNarrowIdeal.nD Cert.InNarrowIdeal.τ Cert.InNarrowIdeal.sig) → Buf (Elt Ideal) ℓ) (g : Dev Cert.InNarrowIdeal.nD → PrngReg)
    (m' : (ℓ : Loc Cert.InNarrowRefIdeal.nD Cert.InNarrowRefIdeal.τ Cert.InNarrowRefIdeal.sig) → Buf (Elt Ideal) ℓ) (g' : Dev Cert.InNarrowRefIdeal.nD → PrngReg), Pre_InNarrowIdeal m →
    (∀ c : Dev Cert.InNarrowIdeal.nD,
      m' ((c.tc : Thread Cert.InNarrowRefIdeal.nD Cert.InNarrowRefIdeal.τ).loc Cert.InNarrowRefIdeal.main_arg0) = m ((c.tc : Thread Cert.InNarrowIdeal.nD Cert.InNarrowIdeal.τ).loc Cert.InNarrowIdeal.main_arg0)
      ∧ m' ((c.tc : Thread Cert.InNarrowRefIdeal.nD Cert.InNarrowRefIdeal.τ).loc Cert.InNarrowRefIdeal.main_arg1) = m ((c.tc : Thread Cert.InNarrowIdeal.nD Cert.InNarrowIdeal.τ).loc Cert.InNarrowIdeal.main_arg1)) →
    ∃ (v0 : (c : Dev Cert.InNarrowIdeal.nD) → Buf (Elt Ideal) ((c.tc : Thread Cert.InNarrowIdeal.nD Cert.InNarrowIdeal.τ).loc Cert.InNarrowIdeal.main_v2)),
      θ_run (Cert.InNarrowIdeal.defs (F := Ideal)) (onTc (τ := Cert.InNarrowIdeal.τ) (Cert.InNarrowIdeal.main (F := Ideal))) ⟨m, fun _ => 0, g⟩ (fun r => ∀ c : Dev Cert.InNarrowIdeal.nD,
          r.2.mem ((c.tc : Thread Cert.InNarrowIdeal.nD Cert.InNarrowIdeal.τ).loc Cert.InNarrowIdeal.main_v2) = v0 c
          ∧ r.2.mem ((c.tc : Thread Cert.InNarrowIdeal.nD Cert.InNarrowIdeal.τ).loc Cert.InNarrowIdeal.main_arg0) = m ((c.tc : Thread Cert.InNarrowIdeal.nD Cert.InNarrowIdeal.τ).loc Cert.InNarrowIdeal.main_arg0)
          ∧ r.2.mem ((c.tc : Thread Cert.InNarrowIdeal.nD Cert.InNarrowIdeal.τ).loc Cert.InNarrowIdeal.main_arg1) = m ((c.tc : Thread Cert.InNarrowIdeal.nD Cert.InNarrowIdeal.τ).loc Cert.InNarrowIdeal.main_arg1))
      ∧ θ_run (Cert.InNarrowRefIdeal.defs (F := Ideal)) (onTc (τ := Cert.InNarrowRefIdeal.τ) (Cert.InNarrowRefIdeal.main (F := Ideal))) ⟨m', fun _ => 0, g'⟩ (fun r => ∀ c : Dev Cert.InNarrowRefIdeal.nD,
          r.2.mem ((c.tc : Thread Cert.InNarrowRefIdeal.nD Cert.InNarrowRefIdeal.τ).loc Cert.InNarrowRefIdeal.main_v0) = v0 c
          ∧ r.2.mem ((c.tc : Thread Cert.InNarrowRefIdeal.nD Cert.InNarrowRefIdeal.τ).loc Cert.InNarrowRefIdeal.main_arg0) = m' ((c.tc : Thread Cert.InNarrowRefIdeal.nD Cert.InNarrowRefIdeal.τ).loc Cert.InNarrowRefIdeal.main_arg0)
          ∧ r.2.mem ((c.tc : Thread Cert.InNarrowRefIdeal.nD Cert.InNarrowRefIdeal.τ).loc Cert.InNarrowRefIdeal.main_arg1) = m' ((c.tc : Thread Cert.InNarrowRefIdeal.nD Cert.InNarrowRefIdeal.τ).loc Cert.InNarrowRefIdeal.main_arg1))

def preserves_XattnOut_XattnOutIdeal : Prop :=
  True

def algebraic_XattnOutIdeal_XattnOutRefIdeal [hXattnOutIdeal : Cert.XattnOutIdeal.Facts] [hXattnOutRefIdeal : Cert.XattnOutRefIdeal.Facts] : Prop :=
  ∀ (m : (ℓ : Loc Cert.XattnOutIdeal.nD Cert.XattnOutIdeal.τ Cert.XattnOutIdeal.sig) → Buf (Elt Ideal) ℓ) (g : Dev Cert.XattnOutIdeal.nD → PrngReg)
    (m' : (ℓ : Loc Cert.XattnOutRefIdeal.nD Cert.XattnOutRefIdeal.τ Cert.XattnOutRefIdeal.sig) → Buf (Elt Ideal) ℓ) (g' : Dev Cert.XattnOutRefIdeal.nD → PrngReg), Pre_XattnOutIdeal m →
    (∀ c : Dev Cert.XattnOutIdeal.nD,
      m' ((c.tc : Thread Cert.XattnOutRefIdeal.nD Cert.XattnOutRefIdeal.τ).loc Cert.XattnOutRefIdeal.main_arg0) = m ((c.tc : Thread Cert.XattnOutIdeal.nD Cert.XattnOutIdeal.τ).loc Cert.XattnOutIdeal.main_arg0)
      ∧ m' ((c.tc : Thread Cert.XattnOutRefIdeal.nD Cert.XattnOutRefIdeal.τ).loc Cert.XattnOutRefIdeal.main_arg1) = m ((c.tc : Thread Cert.XattnOutIdeal.nD Cert.XattnOutIdeal.τ).loc Cert.XattnOutIdeal.main_arg1)
      ∧ m' ((c.tc : Thread Cert.XattnOutRefIdeal.nD Cert.XattnOutRefIdeal.τ).loc Cert.XattnOutRefIdeal.main_arg2) = m ((c.tc : Thread Cert.XattnOutIdeal.nD Cert.XattnOutIdeal.τ).loc Cert.XattnOutIdeal.main_arg2)) →
    ∃ (v0 : (c : Dev Cert.XattnOutIdeal.nD) → Buf (Elt Ideal) ((c.tc : Thread Cert.XattnOutIdeal.nD Cert.XattnOutIdeal.τ).loc Cert.XattnOutIdeal.main_v1)),
      θ_run (Cert.XattnOutIdeal.defs (F := Ideal)) (onTc (τ := Cert.XattnOutIdeal.τ) (Cert.XattnOutIdeal.main (F := Ideal))) ⟨m, fun _ => 0, g⟩ (fun r => ∀ c : Dev Cert.XattnOutIdeal.nD,
          r.2.mem ((c.tc : Thread Cert.XattnOutIdeal.nD Cert.XattnOutIdeal.τ).loc Cert.XattnOutIdeal.main_v1) = v0 c
          ∧ r.2.mem ((c.tc : Thread Cert.XattnOutIdeal.nD Cert.XattnOutIdeal.τ).loc Cert.XattnOutIdeal.main_arg0) = m ((c.tc : Thread Cert.XattnOutIdeal.nD Cert.XattnOutIdeal.τ).loc Cert.XattnOutIdeal.main_arg0)
          ∧ r.2.mem ((c.tc : Thread Cert.XattnOutIdeal.nD Cert.XattnOutIdeal.τ).loc Cert.XattnOutIdeal.main_arg1) = m ((c.tc : Thread Cert.XattnOutIdeal.nD Cert.XattnOutIdeal.τ).loc Cert.XattnOutIdeal.main_arg1)
          ∧ r.2.mem ((c.tc : Thread Cert.XattnOutIdeal.nD Cert.XattnOutIdeal.τ).loc Cert.XattnOutIdeal.main_arg2) = m ((c.tc : Thread Cert.XattnOutIdeal.nD Cert.XattnOutIdeal.τ).loc Cert.XattnOutIdeal.main_arg2))
      ∧ θ_run (Cert.XattnOutRefIdeal.defs (F := Ideal)) (onTc (τ := Cert.XattnOutRefIdeal.τ) (Cert.XattnOutRefIdeal.main (F := Ideal))) ⟨m', fun _ => 0, g'⟩ (fun r => ∀ c : Dev Cert.XattnOutRefIdeal.nD,
          r.2.mem ((c.tc : Thread Cert.XattnOutRefIdeal.nD Cert.XattnOutRefIdeal.τ).loc Cert.XattnOutRefIdeal.main_v1) = v0 c
          ∧ r.2.mem ((c.tc : Thread Cert.XattnOutRefIdeal.nD Cert.XattnOutRefIdeal.τ).loc Cert.XattnOutRefIdeal.main_arg0) = m' ((c.tc : Thread Cert.XattnOutRefIdeal.nD Cert.XattnOutRefIdeal.τ).loc Cert.XattnOutRefIdeal.main_arg0)
          ∧ r.2.mem ((c.tc : Thread Cert.XattnOutRefIdeal.nD Cert.XattnOutRefIdeal.τ).loc Cert.XattnOutRefIdeal.main_arg1) = m' ((c.tc : Thread Cert.XattnOutRefIdeal.nD Cert.XattnOutRefIdeal.τ).loc Cert.XattnOutRefIdeal.main_arg1)
          ∧ r.2.mem ((c.tc : Thread Cert.XattnOutRefIdeal.nD Cert.XattnOutRefIdeal.τ).loc Cert.XattnOutRefIdeal.main_arg2) = m' ((c.tc : Thread Cert.XattnOutRefIdeal.nD Cert.XattnOutRefIdeal.τ).loc Cert.XattnOutRefIdeal.main_arg2))

def preserves_XattnOutDw_XattnOutDwIdeal : Prop :=
  True

def algebraic_XattnOutDwIdeal_XattnOutDwRefIdeal [hXattnOutDwIdeal : Cert.XattnOutDwIdeal.Facts] [hXattnOutDwRefIdeal : Cert.XattnOutDwRefIdeal.Facts] : Prop :=
  ∀ (m : (ℓ : Loc Cert.XattnOutDwIdeal.nD Cert.XattnOutDwIdeal.τ Cert.XattnOutDwIdeal.sig) → Buf (Elt Ideal) ℓ) (g : Dev Cert.XattnOutDwIdeal.nD → PrngReg)
    (m' : (ℓ : Loc Cert.XattnOutDwRefIdeal.nD Cert.XattnOutDwRefIdeal.τ Cert.XattnOutDwRefIdeal.sig) → Buf (Elt Ideal) ℓ) (g' : Dev Cert.XattnOutDwRefIdeal.nD → PrngReg), Pre_XattnOutDwIdeal m →
    (∀ c : Dev Cert.XattnOutDwIdeal.nD,
      m' ((c.tc : Thread Cert.XattnOutDwRefIdeal.nD Cert.XattnOutDwRefIdeal.τ).loc Cert.XattnOutDwRefIdeal.main_arg0) = m ((c.tc : Thread Cert.XattnOutDwIdeal.nD Cert.XattnOutDwIdeal.τ).loc Cert.XattnOutDwIdeal.main_arg0)
      ∧ m' ((c.tc : Thread Cert.XattnOutDwRefIdeal.nD Cert.XattnOutDwRefIdeal.τ).loc Cert.XattnOutDwRefIdeal.main_arg1) = m ((c.tc : Thread Cert.XattnOutDwIdeal.nD Cert.XattnOutDwIdeal.τ).loc Cert.XattnOutDwIdeal.main_arg1)
      ∧ m' ((c.tc : Thread Cert.XattnOutDwRefIdeal.nD Cert.XattnOutDwRefIdeal.τ).loc Cert.XattnOutDwRefIdeal.main_arg2) = m ((c.tc : Thread Cert.XattnOutDwIdeal.nD Cert.XattnOutDwIdeal.τ).loc Cert.XattnOutDwIdeal.main_arg2)
      ∧ m' ((c.tc : Thread Cert.XattnOutDwRefIdeal.nD Cert.XattnOutDwRefIdeal.τ).loc Cert.XattnOutDwRefIdeal.main_arg3) = m ((c.tc : Thread Cert.XattnOutDwIdeal.nD Cert.XattnOutDwIdeal.τ).loc Cert.XattnOutDwIdeal.main_arg3)) →
    ∃ (v0 : (c : Dev Cert.XattnOutDwIdeal.nD) → Buf (Elt Ideal) ((c.tc : Thread Cert.XattnOutDwIdeal.nD Cert.XattnOutDwIdeal.τ).loc Cert.XattnOutDwIdeal.main_v0)),
      θ_run (Cert.XattnOutDwIdeal.defs (F := Ideal)) (onTc (τ := Cert.XattnOutDwIdeal.τ) (Cert.XattnOutDwIdeal.main (F := Ideal))) ⟨m, fun _ => 0, g⟩ (fun r => ∀ c : Dev Cert.XattnOutDwIdeal.nD,
          r.2.mem ((c.tc : Thread Cert.XattnOutDwIdeal.nD Cert.XattnOutDwIdeal.τ).loc Cert.XattnOutDwIdeal.main_v0) = v0 c
          ∧ r.2.mem ((c.tc : Thread Cert.XattnOutDwIdeal.nD Cert.XattnOutDwIdeal.τ).loc Cert.XattnOutDwIdeal.main_arg0) = m ((c.tc : Thread Cert.XattnOutDwIdeal.nD Cert.XattnOutDwIdeal.τ).loc Cert.XattnOutDwIdeal.main_arg0)
          ∧ r.2.mem ((c.tc : Thread Cert.XattnOutDwIdeal.nD Cert.XattnOutDwIdeal.τ).loc Cert.XattnOutDwIdeal.main_arg1) = m ((c.tc : Thread Cert.XattnOutDwIdeal.nD Cert.XattnOutDwIdeal.τ).loc Cert.XattnOutDwIdeal.main_arg1)
          ∧ r.2.mem ((c.tc : Thread Cert.XattnOutDwIdeal.nD Cert.XattnOutDwIdeal.τ).loc Cert.XattnOutDwIdeal.main_arg2) = m ((c.tc : Thread Cert.XattnOutDwIdeal.nD Cert.XattnOutDwIdeal.τ).loc Cert.XattnOutDwIdeal.main_arg2)
          ∧ r.2.mem ((c.tc : Thread Cert.XattnOutDwIdeal.nD Cert.XattnOutDwIdeal.τ).loc Cert.XattnOutDwIdeal.main_arg3) = m ((c.tc : Thread Cert.XattnOutDwIdeal.nD Cert.XattnOutDwIdeal.τ).loc Cert.XattnOutDwIdeal.main_arg3))
      ∧ θ_run (Cert.XattnOutDwRefIdeal.defs (F := Ideal)) (onTc (τ := Cert.XattnOutDwRefIdeal.τ) (Cert.XattnOutDwRefIdeal.main (F := Ideal))) ⟨m', fun _ => 0, g'⟩ (fun r => ∀ c : Dev Cert.XattnOutDwRefIdeal.nD,
          r.2.mem ((c.tc : Thread Cert.XattnOutDwRefIdeal.nD Cert.XattnOutDwRefIdeal.τ).loc Cert.XattnOutDwRefIdeal.main_v7) = v0 c
          ∧ r.2.mem ((c.tc : Thread Cert.XattnOutDwRefIdeal.nD Cert.XattnOutDwRefIdeal.τ).loc Cert.XattnOutDwRefIdeal.main_arg0) = m' ((c.tc : Thread Cert.XattnOutDwRefIdeal.nD Cert.XattnOutDwRefIdeal.τ).loc Cert.XattnOutDwRefIdeal.main_arg0)
          ∧ r.2.mem ((c.tc : Thread Cert.XattnOutDwRefIdeal.nD Cert.XattnOutDwRefIdeal.τ).loc Cert.XattnOutDwRefIdeal.main_arg1) = m' ((c.tc : Thread Cert.XattnOutDwRefIdeal.nD Cert.XattnOutDwRefIdeal.τ).loc Cert.XattnOutDwRefIdeal.main_arg1)
          ∧ r.2.mem ((c.tc : Thread Cert.XattnOutDwRefIdeal.nD Cert.XattnOutDwRefIdeal.τ).loc Cert.XattnOutDwRefIdeal.main_arg2) = m' ((c.tc : Thread Cert.XattnOutDwRefIdeal.nD Cert.XattnOutDwRefIdeal.τ).loc Cert.XattnOutDwRefIdeal.main_arg2)
          ∧ r.2.mem ((c.tc : Thread Cert.XattnOutDwRefIdeal.nD Cert.XattnOutDwRefIdeal.τ).loc Cert.XattnOutDwRefIdeal.main_arg3) = m' ((c.tc : Thread Cert.XattnOutDwRefIdeal.nD Cert.XattnOutDwRefIdeal.τ).loc Cert.XattnOutDwRefIdeal.main_arg3))

def preserves_InDwLayer1_InDwLayer1Ideal : Prop :=
  True

def algebraic_InDwLayer1Ideal_InDwLayer1RefIdeal [hInDwLayer1Ideal : Cert.InDwLayer1Ideal.Facts] [hInDwLayer1RefIdeal : Cert.InDwLayer1RefIdeal.Facts] : Prop :=
  ∀ (m : (ℓ : Loc Cert.InDwLayer1Ideal.nD Cert.InDwLayer1Ideal.τ Cert.InDwLayer1Ideal.sig) → Buf (Elt Ideal) ℓ) (g : Dev Cert.InDwLayer1Ideal.nD → PrngReg)
    (m' : (ℓ : Loc Cert.InDwLayer1RefIdeal.nD Cert.InDwLayer1RefIdeal.τ Cert.InDwLayer1RefIdeal.sig) → Buf (Elt Ideal) ℓ) (g' : Dev Cert.InDwLayer1RefIdeal.nD → PrngReg), Pre_InDwLayer1Ideal m →
    (∀ c : Dev Cert.InDwLayer1Ideal.nD,
      m' ((c.tc : Thread Cert.InDwLayer1RefIdeal.nD Cert.InDwLayer1RefIdeal.τ).loc Cert.InDwLayer1RefIdeal.main_arg0) = m ((c.tc : Thread Cert.InDwLayer1Ideal.nD Cert.InDwLayer1Ideal.τ).loc Cert.InDwLayer1Ideal.main_arg0)
      ∧ m' ((c.tc : Thread Cert.InDwLayer1RefIdeal.nD Cert.InDwLayer1RefIdeal.τ).loc Cert.InDwLayer1RefIdeal.main_arg1) = m ((c.tc : Thread Cert.InDwLayer1Ideal.nD Cert.InDwLayer1Ideal.τ).loc Cert.InDwLayer1Ideal.main_arg1)
      ∧ m' ((c.tc : Thread Cert.InDwLayer1RefIdeal.nD Cert.InDwLayer1RefIdeal.τ).loc Cert.InDwLayer1RefIdeal.main_arg2) = m ((c.tc : Thread Cert.InDwLayer1Ideal.nD Cert.InDwLayer1Ideal.τ).loc Cert.InDwLayer1Ideal.main_arg2)
      ∧ m' ((c.tc : Thread Cert.InDwLayer1RefIdeal.nD Cert.InDwLayer1RefIdeal.τ).loc Cert.InDwLayer1RefIdeal.main_arg3) = m ((c.tc : Thread Cert.InDwLayer1Ideal.nD Cert.InDwLayer1Ideal.τ).loc Cert.InDwLayer1Ideal.main_arg3)) →
    ∃ (v0 : (c : Dev Cert.InDwLayer1Ideal.nD) → Buf (Elt Ideal) ((c.tc : Thread Cert.InDwLayer1Ideal.nD Cert.InDwLayer1Ideal.τ).loc Cert.InDwLayer1Ideal.main_v2)),
      θ_run (Cert.InDwLayer1Ideal.defs (F := Ideal)) (onTc (τ := Cert.InDwLayer1Ideal.τ) (Cert.InDwLayer1Ideal.main (F := Ideal))) ⟨m, fun _ => 0, g⟩ (fun r => ∀ c : Dev Cert.InDwLayer1Ideal.nD,
          r.2.mem ((c.tc : Thread Cert.InDwLayer1Ideal.nD Cert.InDwLayer1Ideal.τ).loc Cert.InDwLayer1Ideal.main_v2) = v0 c
          ∧ r.2.mem ((c.tc : Thread Cert.InDwLayer1Ideal.nD Cert.InDwLayer1Ideal.τ).loc Cert.InDwLayer1Ideal.main_arg0) = m ((c.tc : Thread Cert.InDwLayer1Ideal.nD Cert.InDwLayer1Ideal.τ).loc Cert.InDwLayer1Ideal.main_arg0)
          ∧ r.2.mem ((c.tc : Thread Cert.InDwLayer1Ideal.nD Cert.InDwLayer1Ideal.τ).loc Cert.InDwLayer1Ideal.main_arg1) = m ((c.tc : Thread Cert.InDwLayer1Ideal.nD Cert.InDwLayer1Ideal.τ).loc Cert.InDwLayer1Ideal.main_arg1)
          ∧ r.2.mem ((c.tc : Thread Cert.InDwLayer1Ideal.nD Cert.InDwLayer1Ideal.τ).loc Cert.InDwLayer1Ideal.main_arg2) = m ((c.tc : Thread Cert.InDwLayer1Ideal.nD Cert.InDwLayer1Ideal.τ).loc Cert.InDwLayer1Ideal.main_arg2)
          ∧ r.2.mem ((c.tc : Thread Cert.InDwLayer1Ideal.nD Cert.InDwLayer1Ideal.τ).loc Cert.InDwLayer1Ideal.main_arg3) = m ((c.tc : Thread Cert.InDwLayer1Ideal.nD Cert.InDwLayer1Ideal.τ).loc Cert.InDwLayer1Ideal.main_arg3))
      ∧ θ_run (Cert.InDwLayer1RefIdeal.defs (F := Ideal)) (onTc (τ := Cert.InDwLayer1RefIdeal.τ) (Cert.InDwLayer1RefIdeal.main (F := Ideal))) ⟨m', fun _ => 0, g'⟩ (fun r => ∀ c : Dev Cert.InDwLayer1RefIdeal.nD,
          r.2.mem ((c.tc : Thread Cert.InDwLayer1RefIdeal.nD Cert.InDwLayer1RefIdeal.τ).loc Cert.InDwLayer1RefIdeal.main_v9) = v0 c
          ∧ r.2.mem ((c.tc : Thread Cert.InDwLayer1RefIdeal.nD Cert.InDwLayer1RefIdeal.τ).loc Cert.InDwLayer1RefIdeal.main_arg0) = m' ((c.tc : Thread Cert.InDwLayer1RefIdeal.nD Cert.InDwLayer1RefIdeal.τ).loc Cert.InDwLayer1RefIdeal.main_arg0)
          ∧ r.2.mem ((c.tc : Thread Cert.InDwLayer1RefIdeal.nD Cert.InDwLayer1RefIdeal.τ).loc Cert.InDwLayer1RefIdeal.main_arg1) = m' ((c.tc : Thread Cert.InDwLayer1RefIdeal.nD Cert.InDwLayer1RefIdeal.τ).loc Cert.InDwLayer1RefIdeal.main_arg1)
          ∧ r.2.mem ((c.tc : Thread Cert.InDwLayer1RefIdeal.nD Cert.InDwLayer1RefIdeal.τ).loc Cert.InDwLayer1RefIdeal.main_arg2) = m' ((c.tc : Thread Cert.InDwLayer1RefIdeal.nD Cert.InDwLayer1RefIdeal.τ).loc Cert.InDwLayer1RefIdeal.main_arg2)
          ∧ r.2.mem ((c.tc : Thread Cert.InDwLayer1RefIdeal.nD Cert.InDwLayer1RefIdeal.τ).loc Cert.InDwLayer1RefIdeal.main_arg3) = m' ((c.tc : Thread Cert.InDwLayer1RefIdeal.nD Cert.InDwLayer1RefIdeal.τ).loc Cert.InDwLayer1RefIdeal.main_arg3))

def preserves_FfnInDwLayer1_FfnInDwLayer1Ideal : Prop :=
  True

def algebraic_FfnInDwLayer1Ideal_FfnInDwLayer1RefIdeal [hFfnInDwLayer1Ideal : Cert.FfnInDwLayer1Ideal.Facts] [hFfnInDwLayer1RefIdeal : Cert.FfnInDwLayer1RefIdeal.Facts] : Prop :=
  ∀ (m : (ℓ : Loc Cert.FfnInDwLayer1Ideal.nD Cert.FfnInDwLayer1Ideal.τ Cert.FfnInDwLayer1Ideal.sig) → Buf (Elt Ideal) ℓ) (g : Dev Cert.FfnInDwLayer1Ideal.nD → PrngReg)
    (m' : (ℓ : Loc Cert.FfnInDwLayer1RefIdeal.nD Cert.FfnInDwLayer1RefIdeal.τ Cert.FfnInDwLayer1RefIdeal.sig) → Buf (Elt Ideal) ℓ) (g' : Dev Cert.FfnInDwLayer1RefIdeal.nD → PrngReg), Pre_FfnInDwLayer1Ideal m →
    (∀ c : Dev Cert.FfnInDwLayer1Ideal.nD,
      m' ((c.tc : Thread Cert.FfnInDwLayer1RefIdeal.nD Cert.FfnInDwLayer1RefIdeal.τ).loc Cert.FfnInDwLayer1RefIdeal.main_arg0) = m ((c.tc : Thread Cert.FfnInDwLayer1Ideal.nD Cert.FfnInDwLayer1Ideal.τ).loc Cert.FfnInDwLayer1Ideal.main_arg0)
      ∧ m' ((c.tc : Thread Cert.FfnInDwLayer1RefIdeal.nD Cert.FfnInDwLayer1RefIdeal.τ).loc Cert.FfnInDwLayer1RefIdeal.main_arg1) = m ((c.tc : Thread Cert.FfnInDwLayer1Ideal.nD Cert.FfnInDwLayer1Ideal.τ).loc Cert.FfnInDwLayer1Ideal.main_arg1)
      ∧ m' ((c.tc : Thread Cert.FfnInDwLayer1RefIdeal.nD Cert.FfnInDwLayer1RefIdeal.τ).loc Cert.FfnInDwLayer1RefIdeal.main_arg2) = m ((c.tc : Thread Cert.FfnInDwLayer1Ideal.nD Cert.FfnInDwLayer1Ideal.τ).loc Cert.FfnInDwLayer1Ideal.main_arg2)
      ∧ m' ((c.tc : Thread Cert.FfnInDwLayer1RefIdeal.nD Cert.FfnInDwLayer1RefIdeal.τ).loc Cert.FfnInDwLayer1RefIdeal.main_arg3) = m ((c.tc : Thread Cert.FfnInDwLayer1Ideal.nD Cert.FfnInDwLayer1Ideal.τ).loc Cert.FfnInDwLayer1Ideal.main_arg3)) →
    ∃ (v0 : (c : Dev Cert.FfnInDwLayer1Ideal.nD) → Buf (Elt Ideal) ((c.tc : Thread Cert.FfnInDwLayer1Ideal.nD Cert.FfnInDwLayer1Ideal.τ).loc Cert.FfnInDwLayer1Ideal.main_v2)),
      θ_run (Cert.FfnInDwLayer1Ideal.defs (F := Ideal)) (onTc (τ := Cert.FfnInDwLayer1Ideal.τ) (Cert.FfnInDwLayer1Ideal.main (F := Ideal))) ⟨m, fun _ => 0, g⟩ (fun r => ∀ c : Dev Cert.FfnInDwLayer1Ideal.nD,
          r.2.mem ((c.tc : Thread Cert.FfnInDwLayer1Ideal.nD Cert.FfnInDwLayer1Ideal.τ).loc Cert.FfnInDwLayer1Ideal.main_v2) = v0 c
          ∧ r.2.mem ((c.tc : Thread Cert.FfnInDwLayer1Ideal.nD Cert.FfnInDwLayer1Ideal.τ).loc Cert.FfnInDwLayer1Ideal.main_arg0) = m ((c.tc : Thread Cert.FfnInDwLayer1Ideal.nD Cert.FfnInDwLayer1Ideal.τ).loc Cert.FfnInDwLayer1Ideal.main_arg0)
          ∧ r.2.mem ((c.tc : Thread Cert.FfnInDwLayer1Ideal.nD Cert.FfnInDwLayer1Ideal.τ).loc Cert.FfnInDwLayer1Ideal.main_arg1) = m ((c.tc : Thread Cert.FfnInDwLayer1Ideal.nD Cert.FfnInDwLayer1Ideal.τ).loc Cert.FfnInDwLayer1Ideal.main_arg1)
          ∧ r.2.mem ((c.tc : Thread Cert.FfnInDwLayer1Ideal.nD Cert.FfnInDwLayer1Ideal.τ).loc Cert.FfnInDwLayer1Ideal.main_arg2) = m ((c.tc : Thread Cert.FfnInDwLayer1Ideal.nD Cert.FfnInDwLayer1Ideal.τ).loc Cert.FfnInDwLayer1Ideal.main_arg2)
          ∧ r.2.mem ((c.tc : Thread Cert.FfnInDwLayer1Ideal.nD Cert.FfnInDwLayer1Ideal.τ).loc Cert.FfnInDwLayer1Ideal.main_arg3) = m ((c.tc : Thread Cert.FfnInDwLayer1Ideal.nD Cert.FfnInDwLayer1Ideal.τ).loc Cert.FfnInDwLayer1Ideal.main_arg3))
      ∧ θ_run (Cert.FfnInDwLayer1RefIdeal.defs (F := Ideal)) (onTc (τ := Cert.FfnInDwLayer1RefIdeal.τ) (Cert.FfnInDwLayer1RefIdeal.main (F := Ideal))) ⟨m', fun _ => 0, g'⟩ (fun r => ∀ c : Dev Cert.FfnInDwLayer1RefIdeal.nD,
          r.2.mem ((c.tc : Thread Cert.FfnInDwLayer1RefIdeal.nD Cert.FfnInDwLayer1RefIdeal.τ).loc Cert.FfnInDwLayer1RefIdeal.main_v9) = v0 c
          ∧ r.2.mem ((c.tc : Thread Cert.FfnInDwLayer1RefIdeal.nD Cert.FfnInDwLayer1RefIdeal.τ).loc Cert.FfnInDwLayer1RefIdeal.main_arg0) = m' ((c.tc : Thread Cert.FfnInDwLayer1RefIdeal.nD Cert.FfnInDwLayer1RefIdeal.τ).loc Cert.FfnInDwLayer1RefIdeal.main_arg0)
          ∧ r.2.mem ((c.tc : Thread Cert.FfnInDwLayer1RefIdeal.nD Cert.FfnInDwLayer1RefIdeal.τ).loc Cert.FfnInDwLayer1RefIdeal.main_arg1) = m' ((c.tc : Thread Cert.FfnInDwLayer1RefIdeal.nD Cert.FfnInDwLayer1RefIdeal.τ).loc Cert.FfnInDwLayer1RefIdeal.main_arg1)
          ∧ r.2.mem ((c.tc : Thread Cert.FfnInDwLayer1RefIdeal.nD Cert.FfnInDwLayer1RefIdeal.τ).loc Cert.FfnInDwLayer1RefIdeal.main_arg2) = m' ((c.tc : Thread Cert.FfnInDwLayer1RefIdeal.nD Cert.FfnInDwLayer1RefIdeal.τ).loc Cert.FfnInDwLayer1RefIdeal.main_arg2)
          ∧ r.2.mem ((c.tc : Thread Cert.FfnInDwLayer1RefIdeal.nD Cert.FfnInDwLayer1RefIdeal.τ).loc Cert.FfnInDwLayer1RefIdeal.main_arg3) = m' ((c.tc : Thread Cert.FfnInDwLayer1RefIdeal.nD Cert.FfnInDwLayer1RefIdeal.τ).loc Cert.FfnInDwLayer1RefIdeal.main_arg3))

def preserves_FfnOutDwLayer1_FfnOutDwLayer1Ideal : Prop :=
  True

def algebraic_FfnOutDwLayer1Ideal_FfnOutDwLayer1RefIdeal [hFfnOutDwLayer1Ideal : Cert.FfnOutDwLayer1Ideal.Facts] [hFfnOutDwLayer1RefIdeal : Cert.FfnOutDwLayer1RefIdeal.Facts] : Prop :=
  ∀ (m : (ℓ : Loc Cert.FfnOutDwLayer1Ideal.nD Cert.FfnOutDwLayer1Ideal.τ Cert.FfnOutDwLayer1Ideal.sig) → Buf (Elt Ideal) ℓ) (g : Dev Cert.FfnOutDwLayer1Ideal.nD → PrngReg)
    (m' : (ℓ : Loc Cert.FfnOutDwLayer1RefIdeal.nD Cert.FfnOutDwLayer1RefIdeal.τ Cert.FfnOutDwLayer1RefIdeal.sig) → Buf (Elt Ideal) ℓ) (g' : Dev Cert.FfnOutDwLayer1RefIdeal.nD → PrngReg), Pre_FfnOutDwLayer1Ideal m →
    (∀ c : Dev Cert.FfnOutDwLayer1Ideal.nD,
      m' ((c.tc : Thread Cert.FfnOutDwLayer1RefIdeal.nD Cert.FfnOutDwLayer1RefIdeal.τ).loc Cert.FfnOutDwLayer1RefIdeal.main_arg0) = m ((c.tc : Thread Cert.FfnOutDwLayer1Ideal.nD Cert.FfnOutDwLayer1Ideal.τ).loc Cert.FfnOutDwLayer1Ideal.main_arg0)
      ∧ m' ((c.tc : Thread Cert.FfnOutDwLayer1RefIdeal.nD Cert.FfnOutDwLayer1RefIdeal.τ).loc Cert.FfnOutDwLayer1RefIdeal.main_arg1) = m ((c.tc : Thread Cert.FfnOutDwLayer1Ideal.nD Cert.FfnOutDwLayer1Ideal.τ).loc Cert.FfnOutDwLayer1Ideal.main_arg1)
      ∧ m' ((c.tc : Thread Cert.FfnOutDwLayer1RefIdeal.nD Cert.FfnOutDwLayer1RefIdeal.τ).loc Cert.FfnOutDwLayer1RefIdeal.main_arg2) = m ((c.tc : Thread Cert.FfnOutDwLayer1Ideal.nD Cert.FfnOutDwLayer1Ideal.τ).loc Cert.FfnOutDwLayer1Ideal.main_arg2)
      ∧ m' ((c.tc : Thread Cert.FfnOutDwLayer1RefIdeal.nD Cert.FfnOutDwLayer1RefIdeal.τ).loc Cert.FfnOutDwLayer1RefIdeal.main_arg3) = m ((c.tc : Thread Cert.FfnOutDwLayer1Ideal.nD Cert.FfnOutDwLayer1Ideal.τ).loc Cert.FfnOutDwLayer1Ideal.main_arg3)) →
    ∃ (v0 : (c : Dev Cert.FfnOutDwLayer1Ideal.nD) → Buf (Elt Ideal) ((c.tc : Thread Cert.FfnOutDwLayer1Ideal.nD Cert.FfnOutDwLayer1Ideal.τ).loc Cert.FfnOutDwLayer1Ideal.main_v1)),
      θ_run (Cert.FfnOutDwLayer1Ideal.defs (F := Ideal)) (onTc (τ := Cert.FfnOutDwLayer1Ideal.τ) (Cert.FfnOutDwLayer1Ideal.main (F := Ideal))) ⟨m, fun _ => 0, g⟩ (fun r => ∀ c : Dev Cert.FfnOutDwLayer1Ideal.nD,
          r.2.mem ((c.tc : Thread Cert.FfnOutDwLayer1Ideal.nD Cert.FfnOutDwLayer1Ideal.τ).loc Cert.FfnOutDwLayer1Ideal.main_v1) = v0 c
          ∧ r.2.mem ((c.tc : Thread Cert.FfnOutDwLayer1Ideal.nD Cert.FfnOutDwLayer1Ideal.τ).loc Cert.FfnOutDwLayer1Ideal.main_arg0) = m ((c.tc : Thread Cert.FfnOutDwLayer1Ideal.nD Cert.FfnOutDwLayer1Ideal.τ).loc Cert.FfnOutDwLayer1Ideal.main_arg0)
          ∧ r.2.mem ((c.tc : Thread Cert.FfnOutDwLayer1Ideal.nD Cert.FfnOutDwLayer1Ideal.τ).loc Cert.FfnOutDwLayer1Ideal.main_arg1) = m ((c.tc : Thread Cert.FfnOutDwLayer1Ideal.nD Cert.FfnOutDwLayer1Ideal.τ).loc Cert.FfnOutDwLayer1Ideal.main_arg1)
          ∧ r.2.mem ((c.tc : Thread Cert.FfnOutDwLayer1Ideal.nD Cert.FfnOutDwLayer1Ideal.τ).loc Cert.FfnOutDwLayer1Ideal.main_arg2) = m ((c.tc : Thread Cert.FfnOutDwLayer1Ideal.nD Cert.FfnOutDwLayer1Ideal.τ).loc Cert.FfnOutDwLayer1Ideal.main_arg2)
          ∧ r.2.mem ((c.tc : Thread Cert.FfnOutDwLayer1Ideal.nD Cert.FfnOutDwLayer1Ideal.τ).loc Cert.FfnOutDwLayer1Ideal.main_arg3) = m ((c.tc : Thread Cert.FfnOutDwLayer1Ideal.nD Cert.FfnOutDwLayer1Ideal.τ).loc Cert.FfnOutDwLayer1Ideal.main_arg3))
      ∧ θ_run (Cert.FfnOutDwLayer1RefIdeal.defs (F := Ideal)) (onTc (τ := Cert.FfnOutDwLayer1RefIdeal.τ) (Cert.FfnOutDwLayer1RefIdeal.main (F := Ideal))) ⟨m', fun _ => 0, g'⟩ (fun r => ∀ c : Dev Cert.FfnOutDwLayer1RefIdeal.nD,
          r.2.mem ((c.tc : Thread Cert.FfnOutDwLayer1RefIdeal.nD Cert.FfnOutDwLayer1RefIdeal.τ).loc Cert.FfnOutDwLayer1RefIdeal.main_v9) = v0 c
          ∧ r.2.mem ((c.tc : Thread Cert.FfnOutDwLayer1RefIdeal.nD Cert.FfnOutDwLayer1RefIdeal.τ).loc Cert.FfnOutDwLayer1RefIdeal.main_arg0) = m' ((c.tc : Thread Cert.FfnOutDwLayer1RefIdeal.nD Cert.FfnOutDwLayer1RefIdeal.τ).loc Cert.FfnOutDwLayer1RefIdeal.main_arg0)
          ∧ r.2.mem ((c.tc : Thread Cert.FfnOutDwLayer1RefIdeal.nD Cert.FfnOutDwLayer1RefIdeal.τ).loc Cert.FfnOutDwLayer1RefIdeal.main_arg1) = m' ((c.tc : Thread Cert.FfnOutDwLayer1RefIdeal.nD Cert.FfnOutDwLayer1RefIdeal.τ).loc Cert.FfnOutDwLayer1RefIdeal.main_arg1)
          ∧ r.2.mem ((c.tc : Thread Cert.FfnOutDwLayer1RefIdeal.nD Cert.FfnOutDwLayer1RefIdeal.τ).loc Cert.FfnOutDwLayer1RefIdeal.main_arg2) = m' ((c.tc : Thread Cert.FfnOutDwLayer1RefIdeal.nD Cert.FfnOutDwLayer1RefIdeal.τ).loc Cert.FfnOutDwLayer1RefIdeal.main_arg2)
          ∧ r.2.mem ((c.tc : Thread Cert.FfnOutDwLayer1RefIdeal.nD Cert.FfnOutDwLayer1RefIdeal.τ).loc Cert.FfnOutDwLayer1RefIdeal.main_arg3) = m' ((c.tc : Thread Cert.FfnOutDwLayer1RefIdeal.nD Cert.FfnOutDwLayer1RefIdeal.τ).loc Cert.FfnOutDwLayer1RefIdeal.main_arg3))

def preserves_InDwLayer2_InDwLayer2Ideal : Prop :=
  True

def algebraic_InDwLayer2Ideal_InDwLayer2RefIdeal [hInDwLayer2Ideal : Cert.InDwLayer2Ideal.Facts] [hInDwLayer2RefIdeal : Cert.InDwLayer2RefIdeal.Facts] : Prop :=
  ∀ (m : (ℓ : Loc Cert.InDwLayer2Ideal.nD Cert.InDwLayer2Ideal.τ Cert.InDwLayer2Ideal.sig) → Buf (Elt Ideal) ℓ) (g : Dev Cert.InDwLayer2Ideal.nD → PrngReg)
    (m' : (ℓ : Loc Cert.InDwLayer2RefIdeal.nD Cert.InDwLayer2RefIdeal.τ Cert.InDwLayer2RefIdeal.sig) → Buf (Elt Ideal) ℓ) (g' : Dev Cert.InDwLayer2RefIdeal.nD → PrngReg), Pre_InDwLayer2Ideal m →
    (∀ c : Dev Cert.InDwLayer2Ideal.nD,
      m' ((c.tc : Thread Cert.InDwLayer2RefIdeal.nD Cert.InDwLayer2RefIdeal.τ).loc Cert.InDwLayer2RefIdeal.main_arg0) = m ((c.tc : Thread Cert.InDwLayer2Ideal.nD Cert.InDwLayer2Ideal.τ).loc Cert.InDwLayer2Ideal.main_arg0)
      ∧ m' ((c.tc : Thread Cert.InDwLayer2RefIdeal.nD Cert.InDwLayer2RefIdeal.τ).loc Cert.InDwLayer2RefIdeal.main_arg1) = m ((c.tc : Thread Cert.InDwLayer2Ideal.nD Cert.InDwLayer2Ideal.τ).loc Cert.InDwLayer2Ideal.main_arg1)
      ∧ m' ((c.tc : Thread Cert.InDwLayer2RefIdeal.nD Cert.InDwLayer2RefIdeal.τ).loc Cert.InDwLayer2RefIdeal.main_arg2) = m ((c.tc : Thread Cert.InDwLayer2Ideal.nD Cert.InDwLayer2Ideal.τ).loc Cert.InDwLayer2Ideal.main_arg2)
      ∧ m' ((c.tc : Thread Cert.InDwLayer2RefIdeal.nD Cert.InDwLayer2RefIdeal.τ).loc Cert.InDwLayer2RefIdeal.main_arg3) = m ((c.tc : Thread Cert.InDwLayer2Ideal.nD Cert.InDwLayer2Ideal.τ).loc Cert.InDwLayer2Ideal.main_arg3)) →
    ∃ (v0 : (c : Dev Cert.InDwLayer2Ideal.nD) → Buf (Elt Ideal) ((c.tc : Thread Cert.InDwLayer2Ideal.nD Cert.InDwLayer2Ideal.τ).loc Cert.InDwLayer2Ideal.main_v2)),
      θ_run (Cert.InDwLayer2Ideal.defs (F := Ideal)) (onTc (τ := Cert.InDwLayer2Ideal.τ) (Cert.InDwLayer2Ideal.main (F := Ideal))) ⟨m, fun _ => 0, g⟩ (fun r => ∀ c : Dev Cert.InDwLayer2Ideal.nD,
          r.2.mem ((c.tc : Thread Cert.InDwLayer2Ideal.nD Cert.InDwLayer2Ideal.τ).loc Cert.InDwLayer2Ideal.main_v2) = v0 c
          ∧ r.2.mem ((c.tc : Thread Cert.InDwLayer2Ideal.nD Cert.InDwLayer2Ideal.τ).loc Cert.InDwLayer2Ideal.main_arg0) = m ((c.tc : Thread Cert.InDwLayer2Ideal.nD Cert.InDwLayer2Ideal.τ).loc Cert.InDwLayer2Ideal.main_arg0)
          ∧ r.2.mem ((c.tc : Thread Cert.InDwLayer2Ideal.nD Cert.InDwLayer2Ideal.τ).loc Cert.InDwLayer2Ideal.main_arg1) = m ((c.tc : Thread Cert.InDwLayer2Ideal.nD Cert.InDwLayer2Ideal.τ).loc Cert.InDwLayer2Ideal.main_arg1)
          ∧ r.2.mem ((c.tc : Thread Cert.InDwLayer2Ideal.nD Cert.InDwLayer2Ideal.τ).loc Cert.InDwLayer2Ideal.main_arg2) = m ((c.tc : Thread Cert.InDwLayer2Ideal.nD Cert.InDwLayer2Ideal.τ).loc Cert.InDwLayer2Ideal.main_arg2)
          ∧ r.2.mem ((c.tc : Thread Cert.InDwLayer2Ideal.nD Cert.InDwLayer2Ideal.τ).loc Cert.InDwLayer2Ideal.main_arg3) = m ((c.tc : Thread Cert.InDwLayer2Ideal.nD Cert.InDwLayer2Ideal.τ).loc Cert.InDwLayer2Ideal.main_arg3))
      ∧ θ_run (Cert.InDwLayer2RefIdeal.defs (F := Ideal)) (onTc (τ := Cert.InDwLayer2RefIdeal.τ) (Cert.InDwLayer2RefIdeal.main (F := Ideal))) ⟨m', fun _ => 0, g'⟩ (fun r => ∀ c : Dev Cert.InDwLayer2RefIdeal.nD,
          r.2.mem ((c.tc : Thread Cert.InDwLayer2RefIdeal.nD Cert.InDwLayer2RefIdeal.τ).loc Cert.InDwLayer2RefIdeal.main_v9) = v0 c
          ∧ r.2.mem ((c.tc : Thread Cert.InDwLayer2RefIdeal.nD Cert.InDwLayer2RefIdeal.τ).loc Cert.InDwLayer2RefIdeal.main_arg0) = m' ((c.tc : Thread Cert.InDwLayer2RefIdeal.nD Cert.InDwLayer2RefIdeal.τ).loc Cert.InDwLayer2RefIdeal.main_arg0)
          ∧ r.2.mem ((c.tc : Thread Cert.InDwLayer2RefIdeal.nD Cert.InDwLayer2RefIdeal.τ).loc Cert.InDwLayer2RefIdeal.main_arg1) = m' ((c.tc : Thread Cert.InDwLayer2RefIdeal.nD Cert.InDwLayer2RefIdeal.τ).loc Cert.InDwLayer2RefIdeal.main_arg1)
          ∧ r.2.mem ((c.tc : Thread Cert.InDwLayer2RefIdeal.nD Cert.InDwLayer2RefIdeal.τ).loc Cert.InDwLayer2RefIdeal.main_arg2) = m' ((c.tc : Thread Cert.InDwLayer2RefIdeal.nD Cert.InDwLayer2RefIdeal.τ).loc Cert.InDwLayer2RefIdeal.main_arg2)
          ∧ r.2.mem ((c.tc : Thread Cert.InDwLayer2RefIdeal.nD Cert.InDwLayer2RefIdeal.τ).loc Cert.InDwLayer2RefIdeal.main_arg3) = m' ((c.tc : Thread Cert.InDwLayer2RefIdeal.nD Cert.InDwLayer2RefIdeal.τ).loc Cert.InDwLayer2RefIdeal.main_arg3))

def preserves_FfnInDwLayer2_FfnInDwLayer2Ideal : Prop :=
  True

def algebraic_FfnInDwLayer2Ideal_FfnInDwLayer2RefIdeal [hFfnInDwLayer2Ideal : Cert.FfnInDwLayer2Ideal.Facts] [hFfnInDwLayer2RefIdeal : Cert.FfnInDwLayer2RefIdeal.Facts] : Prop :=
  ∀ (m : (ℓ : Loc Cert.FfnInDwLayer2Ideal.nD Cert.FfnInDwLayer2Ideal.τ Cert.FfnInDwLayer2Ideal.sig) → Buf (Elt Ideal) ℓ) (g : Dev Cert.FfnInDwLayer2Ideal.nD → PrngReg)
    (m' : (ℓ : Loc Cert.FfnInDwLayer2RefIdeal.nD Cert.FfnInDwLayer2RefIdeal.τ Cert.FfnInDwLayer2RefIdeal.sig) → Buf (Elt Ideal) ℓ) (g' : Dev Cert.FfnInDwLayer2RefIdeal.nD → PrngReg), Pre_FfnInDwLayer2Ideal m →
    (∀ c : Dev Cert.FfnInDwLayer2Ideal.nD,
      m' ((c.tc : Thread Cert.FfnInDwLayer2RefIdeal.nD Cert.FfnInDwLayer2RefIdeal.τ).loc Cert.FfnInDwLayer2RefIdeal.main_arg0) = m ((c.tc : Thread Cert.FfnInDwLayer2Ideal.nD Cert.FfnInDwLayer2Ideal.τ).loc Cert.FfnInDwLayer2Ideal.main_arg0)
      ∧ m' ((c.tc : Thread Cert.FfnInDwLayer2RefIdeal.nD Cert.FfnInDwLayer2RefIdeal.τ).loc Cert.FfnInDwLayer2RefIdeal.main_arg1) = m ((c.tc : Thread Cert.FfnInDwLayer2Ideal.nD Cert.FfnInDwLayer2Ideal.τ).loc Cert.FfnInDwLayer2Ideal.main_arg1)
      ∧ m' ((c.tc : Thread Cert.FfnInDwLayer2RefIdeal.nD Cert.FfnInDwLayer2RefIdeal.τ).loc Cert.FfnInDwLayer2RefIdeal.main_arg2) = m ((c.tc : Thread Cert.FfnInDwLayer2Ideal.nD Cert.FfnInDwLayer2Ideal.τ).loc Cert.FfnInDwLayer2Ideal.main_arg2)
      ∧ m' ((c.tc : Thread Cert.FfnInDwLayer2RefIdeal.nD Cert.FfnInDwLayer2RefIdeal.τ).loc Cert.FfnInDwLayer2RefIdeal.main_arg3) = m ((c.tc : Thread Cert.FfnInDwLayer2Ideal.nD Cert.FfnInDwLayer2Ideal.τ).loc Cert.FfnInDwLayer2Ideal.main_arg3)) →
    ∃ (v0 : (c : Dev Cert.FfnInDwLayer2Ideal.nD) → Buf (Elt Ideal) ((c.tc : Thread Cert.FfnInDwLayer2Ideal.nD Cert.FfnInDwLayer2Ideal.τ).loc Cert.FfnInDwLayer2Ideal.main_v2)),
      θ_run (Cert.FfnInDwLayer2Ideal.defs (F := Ideal)) (onTc (τ := Cert.FfnInDwLayer2Ideal.τ) (Cert.FfnInDwLayer2Ideal.main (F := Ideal))) ⟨m, fun _ => 0, g⟩ (fun r => ∀ c : Dev Cert.FfnInDwLayer2Ideal.nD,
          r.2.mem ((c.tc : Thread Cert.FfnInDwLayer2Ideal.nD Cert.FfnInDwLayer2Ideal.τ).loc Cert.FfnInDwLayer2Ideal.main_v2) = v0 c
          ∧ r.2.mem ((c.tc : Thread Cert.FfnInDwLayer2Ideal.nD Cert.FfnInDwLayer2Ideal.τ).loc Cert.FfnInDwLayer2Ideal.main_arg0) = m ((c.tc : Thread Cert.FfnInDwLayer2Ideal.nD Cert.FfnInDwLayer2Ideal.τ).loc Cert.FfnInDwLayer2Ideal.main_arg0)
          ∧ r.2.mem ((c.tc : Thread Cert.FfnInDwLayer2Ideal.nD Cert.FfnInDwLayer2Ideal.τ).loc Cert.FfnInDwLayer2Ideal.main_arg1) = m ((c.tc : Thread Cert.FfnInDwLayer2Ideal.nD Cert.FfnInDwLayer2Ideal.τ).loc Cert.FfnInDwLayer2Ideal.main_arg1)
          ∧ r.2.mem ((c.tc : Thread Cert.FfnInDwLayer2Ideal.nD Cert.FfnInDwLayer2Ideal.τ).loc Cert.FfnInDwLayer2Ideal.main_arg2) = m ((c.tc : Thread Cert.FfnInDwLayer2Ideal.nD Cert.FfnInDwLayer2Ideal.τ).loc Cert.FfnInDwLayer2Ideal.main_arg2)
          ∧ r.2.mem ((c.tc : Thread Cert.FfnInDwLayer2Ideal.nD Cert.FfnInDwLayer2Ideal.τ).loc Cert.FfnInDwLayer2Ideal.main_arg3) = m ((c.tc : Thread Cert.FfnInDwLayer2Ideal.nD Cert.FfnInDwLayer2Ideal.τ).loc Cert.FfnInDwLayer2Ideal.main_arg3))
      ∧ θ_run (Cert.FfnInDwLayer2RefIdeal.defs (F := Ideal)) (onTc (τ := Cert.FfnInDwLayer2RefIdeal.τ) (Cert.FfnInDwLayer2RefIdeal.main (F := Ideal))) ⟨m', fun _ => 0, g'⟩ (fun r => ∀ c : Dev Cert.FfnInDwLayer2RefIdeal.nD,
          r.2.mem ((c.tc : Thread Cert.FfnInDwLayer2RefIdeal.nD Cert.FfnInDwLayer2RefIdeal.τ).loc Cert.FfnInDwLayer2RefIdeal.main_v9) = v0 c
          ∧ r.2.mem ((c.tc : Thread Cert.FfnInDwLayer2RefIdeal.nD Cert.FfnInDwLayer2RefIdeal.τ).loc Cert.FfnInDwLayer2RefIdeal.main_arg0) = m' ((c.tc : Thread Cert.FfnInDwLayer2RefIdeal.nD Cert.FfnInDwLayer2RefIdeal.τ).loc Cert.FfnInDwLayer2RefIdeal.main_arg0)
          ∧ r.2.mem ((c.tc : Thread Cert.FfnInDwLayer2RefIdeal.nD Cert.FfnInDwLayer2RefIdeal.τ).loc Cert.FfnInDwLayer2RefIdeal.main_arg1) = m' ((c.tc : Thread Cert.FfnInDwLayer2RefIdeal.nD Cert.FfnInDwLayer2RefIdeal.τ).loc Cert.FfnInDwLayer2RefIdeal.main_arg1)
          ∧ r.2.mem ((c.tc : Thread Cert.FfnInDwLayer2RefIdeal.nD Cert.FfnInDwLayer2RefIdeal.τ).loc Cert.FfnInDwLayer2RefIdeal.main_arg2) = m' ((c.tc : Thread Cert.FfnInDwLayer2RefIdeal.nD Cert.FfnInDwLayer2RefIdeal.τ).loc Cert.FfnInDwLayer2RefIdeal.main_arg2)
          ∧ r.2.mem ((c.tc : Thread Cert.FfnInDwLayer2RefIdeal.nD Cert.FfnInDwLayer2RefIdeal.τ).loc Cert.FfnInDwLayer2RefIdeal.main_arg3) = m' ((c.tc : Thread Cert.FfnInDwLayer2RefIdeal.nD Cert.FfnInDwLayer2RefIdeal.τ).loc Cert.FfnInDwLayer2RefIdeal.main_arg3))

def preserves_FfnOutDwLayer2_FfnOutDwLayer2Ideal : Prop :=
  True

def algebraic_FfnOutDwLayer2Ideal_FfnOutDwLayer2RefIdeal [hFfnOutDwLayer2Ideal : Cert.FfnOutDwLayer2Ideal.Facts] [hFfnOutDwLayer2RefIdeal : Cert.FfnOutDwLayer2RefIdeal.Facts] : Prop :=
  ∀ (m : (ℓ : Loc Cert.FfnOutDwLayer2Ideal.nD Cert.FfnOutDwLayer2Ideal.τ Cert.FfnOutDwLayer2Ideal.sig) → Buf (Elt Ideal) ℓ) (g : Dev Cert.FfnOutDwLayer2Ideal.nD → PrngReg)
    (m' : (ℓ : Loc Cert.FfnOutDwLayer2RefIdeal.nD Cert.FfnOutDwLayer2RefIdeal.τ Cert.FfnOutDwLayer2RefIdeal.sig) → Buf (Elt Ideal) ℓ) (g' : Dev Cert.FfnOutDwLayer2RefIdeal.nD → PrngReg), Pre_FfnOutDwLayer2Ideal m →
    (∀ c : Dev Cert.FfnOutDwLayer2Ideal.nD,
      m' ((c.tc : Thread Cert.FfnOutDwLayer2RefIdeal.nD Cert.FfnOutDwLayer2RefIdeal.τ).loc Cert.FfnOutDwLayer2RefIdeal.main_arg0) = m ((c.tc : Thread Cert.FfnOutDwLayer2Ideal.nD Cert.FfnOutDwLayer2Ideal.τ).loc Cert.FfnOutDwLayer2Ideal.main_arg0)
      ∧ m' ((c.tc : Thread Cert.FfnOutDwLayer2RefIdeal.nD Cert.FfnOutDwLayer2RefIdeal.τ).loc Cert.FfnOutDwLayer2RefIdeal.main_arg1) = m ((c.tc : Thread Cert.FfnOutDwLayer2Ideal.nD Cert.FfnOutDwLayer2Ideal.τ).loc Cert.FfnOutDwLayer2Ideal.main_arg1)
      ∧ m' ((c.tc : Thread Cert.FfnOutDwLayer2RefIdeal.nD Cert.FfnOutDwLayer2RefIdeal.τ).loc Cert.FfnOutDwLayer2RefIdeal.main_arg2) = m ((c.tc : Thread Cert.FfnOutDwLayer2Ideal.nD Cert.FfnOutDwLayer2Ideal.τ).loc Cert.FfnOutDwLayer2Ideal.main_arg2)
      ∧ m' ((c.tc : Thread Cert.FfnOutDwLayer2RefIdeal.nD Cert.FfnOutDwLayer2RefIdeal.τ).loc Cert.FfnOutDwLayer2RefIdeal.main_arg3) = m ((c.tc : Thread Cert.FfnOutDwLayer2Ideal.nD Cert.FfnOutDwLayer2Ideal.τ).loc Cert.FfnOutDwLayer2Ideal.main_arg3)) →
    ∃ (v0 : (c : Dev Cert.FfnOutDwLayer2Ideal.nD) → Buf (Elt Ideal) ((c.tc : Thread Cert.FfnOutDwLayer2Ideal.nD Cert.FfnOutDwLayer2Ideal.τ).loc Cert.FfnOutDwLayer2Ideal.main_v1)),
      θ_run (Cert.FfnOutDwLayer2Ideal.defs (F := Ideal)) (onTc (τ := Cert.FfnOutDwLayer2Ideal.τ) (Cert.FfnOutDwLayer2Ideal.main (F := Ideal))) ⟨m, fun _ => 0, g⟩ (fun r => ∀ c : Dev Cert.FfnOutDwLayer2Ideal.nD,
          r.2.mem ((c.tc : Thread Cert.FfnOutDwLayer2Ideal.nD Cert.FfnOutDwLayer2Ideal.τ).loc Cert.FfnOutDwLayer2Ideal.main_v1) = v0 c
          ∧ r.2.mem ((c.tc : Thread Cert.FfnOutDwLayer2Ideal.nD Cert.FfnOutDwLayer2Ideal.τ).loc Cert.FfnOutDwLayer2Ideal.main_arg0) = m ((c.tc : Thread Cert.FfnOutDwLayer2Ideal.nD Cert.FfnOutDwLayer2Ideal.τ).loc Cert.FfnOutDwLayer2Ideal.main_arg0)
          ∧ r.2.mem ((c.tc : Thread Cert.FfnOutDwLayer2Ideal.nD Cert.FfnOutDwLayer2Ideal.τ).loc Cert.FfnOutDwLayer2Ideal.main_arg1) = m ((c.tc : Thread Cert.FfnOutDwLayer2Ideal.nD Cert.FfnOutDwLayer2Ideal.τ).loc Cert.FfnOutDwLayer2Ideal.main_arg1)
          ∧ r.2.mem ((c.tc : Thread Cert.FfnOutDwLayer2Ideal.nD Cert.FfnOutDwLayer2Ideal.τ).loc Cert.FfnOutDwLayer2Ideal.main_arg2) = m ((c.tc : Thread Cert.FfnOutDwLayer2Ideal.nD Cert.FfnOutDwLayer2Ideal.τ).loc Cert.FfnOutDwLayer2Ideal.main_arg2)
          ∧ r.2.mem ((c.tc : Thread Cert.FfnOutDwLayer2Ideal.nD Cert.FfnOutDwLayer2Ideal.τ).loc Cert.FfnOutDwLayer2Ideal.main_arg3) = m ((c.tc : Thread Cert.FfnOutDwLayer2Ideal.nD Cert.FfnOutDwLayer2Ideal.τ).loc Cert.FfnOutDwLayer2Ideal.main_arg3))
      ∧ θ_run (Cert.FfnOutDwLayer2RefIdeal.defs (F := Ideal)) (onTc (τ := Cert.FfnOutDwLayer2RefIdeal.τ) (Cert.FfnOutDwLayer2RefIdeal.main (F := Ideal))) ⟨m', fun _ => 0, g'⟩ (fun r => ∀ c : Dev Cert.FfnOutDwLayer2RefIdeal.nD,
          r.2.mem ((c.tc : Thread Cert.FfnOutDwLayer2RefIdeal.nD Cert.FfnOutDwLayer2RefIdeal.τ).loc Cert.FfnOutDwLayer2RefIdeal.main_v9) = v0 c
          ∧ r.2.mem ((c.tc : Thread Cert.FfnOutDwLayer2RefIdeal.nD Cert.FfnOutDwLayer2RefIdeal.τ).loc Cert.FfnOutDwLayer2RefIdeal.main_arg0) = m' ((c.tc : Thread Cert.FfnOutDwLayer2RefIdeal.nD Cert.FfnOutDwLayer2RefIdeal.τ).loc Cert.FfnOutDwLayer2RefIdeal.main_arg0)
          ∧ r.2.mem ((c.tc : Thread Cert.FfnOutDwLayer2RefIdeal.nD Cert.FfnOutDwLayer2RefIdeal.τ).loc Cert.FfnOutDwLayer2RefIdeal.main_arg1) = m' ((c.tc : Thread Cert.FfnOutDwLayer2RefIdeal.nD Cert.FfnOutDwLayer2RefIdeal.τ).loc Cert.FfnOutDwLayer2RefIdeal.main_arg1)
          ∧ r.2.mem ((c.tc : Thread Cert.FfnOutDwLayer2RefIdeal.nD Cert.FfnOutDwLayer2RefIdeal.τ).loc Cert.FfnOutDwLayer2RefIdeal.main_arg2) = m' ((c.tc : Thread Cert.FfnOutDwLayer2RefIdeal.nD Cert.FfnOutDwLayer2RefIdeal.τ).loc Cert.FfnOutDwLayer2RefIdeal.main_arg2)
          ∧ r.2.mem ((c.tc : Thread Cert.FfnOutDwLayer2RefIdeal.nD Cert.FfnOutDwLayer2RefIdeal.τ).loc Cert.FfnOutDwLayer2RefIdeal.main_arg3) = m' ((c.tc : Thread Cert.FfnOutDwLayer2RefIdeal.nD Cert.FfnOutDwLayer2RefIdeal.τ).loc Cert.FfnOutDwLayer2RefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamCross_AdamCrossIdeal : Prop :=
  True

def algebraic_AdamCrossIdeal_AdamCrossRefIdeal [hAdamCrossIdeal : Cert.AdamCrossIdeal.Facts] [hAdamCrossRefIdeal : Cert.AdamCrossRefIdeal.Facts] : Prop :=
  ∀ (m : (ℓ : Loc Cert.AdamCrossIdeal.nD Cert.AdamCrossIdeal.τ Cert.AdamCrossIdeal.sig) → Buf (Elt Ideal) ℓ) (g : Dev Cert.AdamCrossIdeal.nD → PrngReg)
    (m' : (ℓ : Loc Cert.AdamCrossRefIdeal.nD Cert.AdamCrossRefIdeal.τ Cert.AdamCrossRefIdeal.sig) → Buf (Elt Ideal) ℓ) (g' : Dev Cert.AdamCrossRefIdeal.nD → PrngReg), Pre_AdamCrossIdeal m →
    (∀ c : Dev Cert.AdamCrossIdeal.nD,
      m' ((c.tc : Thread Cert.AdamCrossRefIdeal.nD Cert.AdamCrossRefIdeal.τ).loc Cert.AdamCrossRefIdeal.main_arg0) = m ((c.tc : Thread Cert.AdamCrossIdeal.nD Cert.AdamCrossIdeal.τ).loc Cert.AdamCrossIdeal.main_arg0)
      ∧ m' ((c.tc : Thread Cert.AdamCrossRefIdeal.nD Cert.AdamCrossRefIdeal.τ).loc Cert.AdamCrossRefIdeal.main_arg1) = m ((c.tc : Thread Cert.AdamCrossIdeal.nD Cert.AdamCrossIdeal.τ).loc Cert.AdamCrossIdeal.main_arg1)
      ∧ m' ((c.tc : Thread Cert.AdamCrossRefIdeal.nD Cert.AdamCrossRefIdeal.τ).loc Cert.AdamCrossRefIdeal.main_arg2) = m ((c.tc : Thread Cert.AdamCrossIdeal.nD Cert.AdamCrossIdeal.τ).loc Cert.AdamCrossIdeal.main_arg2)
      ∧ m' ((c.tc : Thread Cert.AdamCrossRefIdeal.nD Cert.AdamCrossRefIdeal.τ).loc Cert.AdamCrossRefIdeal.main_arg3) = m ((c.tc : Thread Cert.AdamCrossIdeal.nD Cert.AdamCrossIdeal.τ).loc Cert.AdamCrossIdeal.main_arg3)) →
    ∃ (v0 : (c : Dev Cert.AdamCrossIdeal.nD) → Buf (Elt Ideal) ((c.tc : Thread Cert.AdamCrossIdeal.nD Cert.AdamCrossIdeal.τ).loc Cert.AdamCrossIdeal.main_v0_0)) (v1 : (c : Dev Cert.AdamCrossIdeal.nD) → Buf (Elt Ideal) ((c.tc : Thread Cert.AdamCrossIdeal.nD Cert.AdamCrossIdeal.τ).loc Cert.AdamCrossIdeal.main_v0_1)) (v2 : (c : Dev Cert.AdamCrossIdeal.nD) → Buf (Elt Ideal) ((c.tc : Thread Cert.AdamCrossIdeal.nD Cert.AdamCrossIdeal.τ).loc Cert.AdamCrossIdeal.main_v0_2)),
      θ_run (Cert.AdamCrossIdeal.defs (F := Ideal)) (onTc (τ := Cert.AdamCrossIdeal.τ) (Cert.AdamCrossIdeal.main (F := Ideal))) ⟨m, fun _ => 0, g⟩ (fun r => ∀ c : Dev Cert.AdamCrossIdeal.nD,
          r.2.mem ((c.tc : Thread Cert.AdamCrossIdeal.nD Cert.AdamCrossIdeal.τ).loc Cert.AdamCrossIdeal.main_v0_0) = v0 c
          ∧ r.2.mem ((c.tc : Thread Cert.AdamCrossIdeal.nD Cert.AdamCrossIdeal.τ).loc Cert.AdamCrossIdeal.main_v0_1) = v1 c
          ∧ r.2.mem ((c.tc : Thread Cert.AdamCrossIdeal.nD Cert.AdamCrossIdeal.τ).loc Cert.AdamCrossIdeal.main_v0_2) = v2 c
          ∧ r.2.mem ((c.tc : Thread Cert.AdamCrossIdeal.nD Cert.AdamCrossIdeal.τ).loc Cert.AdamCrossIdeal.main_arg0) = m ((c.tc : Thread Cert.AdamCrossIdeal.nD Cert.AdamCrossIdeal.τ).loc Cert.AdamCrossIdeal.main_arg0)
          ∧ r.2.mem ((c.tc : Thread Cert.AdamCrossIdeal.nD Cert.AdamCrossIdeal.τ).loc Cert.AdamCrossIdeal.main_arg1) = m ((c.tc : Thread Cert.AdamCrossIdeal.nD Cert.AdamCrossIdeal.τ).loc Cert.AdamCrossIdeal.main_arg1)
          ∧ r.2.mem ((c.tc : Thread Cert.AdamCrossIdeal.nD Cert.AdamCrossIdeal.τ).loc Cert.AdamCrossIdeal.main_arg2) = m ((c.tc : Thread Cert.AdamCrossIdeal.nD Cert.AdamCrossIdeal.τ).loc Cert.AdamCrossIdeal.main_arg2)
          ∧ r.2.mem ((c.tc : Thread Cert.AdamCrossIdeal.nD Cert.AdamCrossIdeal.τ).loc Cert.AdamCrossIdeal.main_arg3) = m ((c.tc : Thread Cert.AdamCrossIdeal.nD Cert.AdamCrossIdeal.τ).loc Cert.AdamCrossIdeal.main_arg3))
      ∧ θ_run (Cert.AdamCrossRefIdeal.defs (F := Ideal)) (onTc (τ := Cert.AdamCrossRefIdeal.τ) (Cert.AdamCrossRefIdeal.main (F := Ideal))) ⟨m', fun _ => 0, g'⟩ (fun r => ∀ c : Dev Cert.AdamCrossRefIdeal.nD,
          r.2.mem ((c.tc : Thread Cert.AdamCrossRefIdeal.nD Cert.AdamCrossRefIdeal.τ).loc Cert.AdamCrossRefIdeal.main_v23) = v0 c
          ∧ r.2.mem ((c.tc : Thread Cert.AdamCrossRefIdeal.nD Cert.AdamCrossRefIdeal.τ).loc Cert.AdamCrossRefIdeal.main_v4) = v1 c
          ∧ r.2.mem ((c.tc : Thread Cert.AdamCrossRefIdeal.nD Cert.AdamCrossRefIdeal.τ).loc Cert.AdamCrossRefIdeal.main_v10) = v2 c
          ∧ r.2.mem ((c.tc : Thread Cert.AdamCrossRefIdeal.nD Cert.AdamCrossRefIdeal.τ).loc Cert.AdamCrossRefIdeal.main_arg0) = m' ((c.tc : Thread Cert.AdamCrossRefIdeal.nD Cert.AdamCrossRefIdeal.τ).loc Cert.AdamCrossRefIdeal.main_arg0)
          ∧ r.2.mem ((c.tc : Thread Cert.AdamCrossRefIdeal.nD Cert.AdamCrossRefIdeal.τ).loc Cert.AdamCrossRefIdeal.main_arg1) = m' ((c.tc : Thread Cert.AdamCrossRefIdeal.nD Cert.AdamCrossRefIdeal.τ).loc Cert.AdamCrossRefIdeal.main_arg1)
          ∧ r.2.mem ((c.tc : Thread Cert.AdamCrossRefIdeal.nD Cert.AdamCrossRefIdeal.τ).loc Cert.AdamCrossRefIdeal.main_arg2) = m' ((c.tc : Thread Cert.AdamCrossRefIdeal.nD Cert.AdamCrossRefIdeal.τ).loc Cert.AdamCrossRefIdeal.main_arg2)
          ∧ r.2.mem ((c.tc : Thread Cert.AdamCrossRefIdeal.nD Cert.AdamCrossRefIdeal.τ).loc Cert.AdamCrossRefIdeal.main_arg3) = m' ((c.tc : Thread Cert.AdamCrossRefIdeal.nD Cert.AdamCrossRefIdeal.τ).loc Cert.AdamCrossRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v23) = v0 c
          ∧ r.2.mem ((c.tc : Thread Cert.AdamFfnInRefIdeal.nD Cert.AdamFfnInRefIdeal.τ).loc Cert.AdamFfnInRefIdeal.main_v4) = v1 c
          ∧ r.2.mem ((c.tc : Thread Cert.AdamFfnInRefIdeal.nD Cert.AdamFfnInRefIdeal.τ).loc Cert.AdamFfnInRefIdeal.main_v10) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v23) = v0 c
          ∧ r.2.mem ((c.tc : Thread Cert.AdamFfnOutRefIdeal.nD Cert.AdamFfnOutRefIdeal.τ).loc Cert.AdamFfnOutRefIdeal.main_v4) = v1 c
          ∧ r.2.mem ((c.tc : Thread Cert.AdamFfnOutRefIdeal.nD Cert.AdamFfnOutRefIdeal.τ).loc Cert.AdamFfnOutRefIdeal.main_v10) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamSsdConv_AdamSsdConvIdeal : Prop :=
  True

def algebraic_AdamSsdConvIdeal_AdamSsdConvRefIdeal [hAdamSsdConvIdeal : Cert.AdamSsdConvIdeal.Facts] [hAdamSsdConvRefIdeal : Cert.AdamSsdConvRefIdeal.Facts] : Prop :=
  ∀ (m : (ℓ : Loc Cert.AdamSsdConvIdeal.nD Cert.AdamSsdConvIdeal.τ Cert.AdamSsdConvIdeal.sig) → Buf (Elt Ideal) ℓ) (g : Dev Cert.AdamSsdConvIdeal.nD → PrngReg)
    (m' : (ℓ : Loc Cert.AdamSsdConvRefIdeal.nD Cert.AdamSsdConvRefIdeal.τ Cert.AdamSsdConvRefIdeal.sig) → Buf (Elt Ideal) ℓ) (g' : Dev Cert.AdamSsdConvRefIdeal.nD → PrngReg), Pre_AdamSsdConvIdeal m →
    (∀ c : Dev Cert.AdamSsdConvIdeal.nD,
      m' ((c.tc : Thread Cert.AdamSsdConvRefIdeal.nD Cert.AdamSsdConvRefIdeal.τ).loc Cert.AdamSsdConvRefIdeal.main_arg0) = m ((c.tc : Thread Cert.AdamSsdConvIdeal.nD Cert.AdamSsdConvIdeal.τ).loc Cert.AdamSsdConvIdeal.main_arg0)
      ∧ m' ((c.tc : Thread Cert.AdamSsdConvRefIdeal.nD Cert.AdamSsdConvRefIdeal.τ).loc Cert.AdamSsdConvRefIdeal.main_arg1) = m ((c.tc : Thread Cert.AdamSsdConvIdeal.nD Cert.AdamSsdConvIdeal.τ).loc Cert.AdamSsdConvIdeal.main_arg1)
      ∧ m' ((c.tc : Thread Cert.AdamSsdConvRefIdeal.nD Cert.AdamSsdConvRefIdeal.τ).loc Cert.AdamSsdConvRefIdeal.main_arg2) = m ((c.tc : Thread Cert.AdamSsdConvIdeal.nD Cert.AdamSsdConvIdeal.τ).loc Cert.AdamSsdConvIdeal.main_arg2)
      ∧ m' ((c.tc : Thread Cert.AdamSsdConvRefIdeal.nD Cert.AdamSsdConvRefIdeal.τ).loc Cert.AdamSsdConvRefIdeal.main_arg3) = m ((c.tc : Thread Cert.AdamSsdConvIdeal.nD Cert.AdamSsdConvIdeal.τ).loc Cert.AdamSsdConvIdeal.main_arg3)) →
    ∃ (v0 : (c : Dev Cert.AdamSsdConvIdeal.nD) → Buf (Elt Ideal) ((c.tc : Thread Cert.AdamSsdConvIdeal.nD Cert.AdamSsdConvIdeal.τ).loc Cert.AdamSsdConvIdeal.main_v0_0)) (v1 : (c : Dev Cert.AdamSsdConvIdeal.nD) → Buf (Elt Ideal) ((c.tc : Thread Cert.AdamSsdConvIdeal.nD Cert.AdamSsdConvIdeal.τ).loc Cert.AdamSsdConvIdeal.main_v0_1)) (v2 : (c : Dev Cert.AdamSsdConvIdeal.nD) → Buf (Elt Ideal) ((c.tc : Thread Cert.AdamSsdConvIdeal.nD Cert.AdamSsdConvIdeal.τ).loc Cert.AdamSsdConvIdeal.main_v0_2)),
      θ_run (Cert.AdamSsdConvIdeal.defs (F := Ideal)) (onTc (τ := Cert.AdamSsdConvIdeal.τ) (Cert.AdamSsdConvIdeal.main (F := Ideal))) ⟨m, fun _ => 0, g⟩ (fun r => ∀ c : Dev Cert.AdamSsdConvIdeal.nD,
          r.2.mem ((c.tc : Thread Cert.AdamSsdConvIdeal.nD Cert.AdamSsdConvIdeal.τ).loc Cert.AdamSsdConvIdeal.main_v0_0) = v0 c
          ∧ r.2.mem ((c.tc : Thread Cert.AdamSsdConvIdeal.nD Cert.AdamSsdConvIdeal.τ).loc Cert.AdamSsdConvIdeal.main_v0_1) = v1 c
          ∧ r.2.mem ((c.tc : Thread Cert.AdamSsdConvIdeal.nD Cert.AdamSsdConvIdeal.τ).loc Cert.AdamSsdConvIdeal.main_v0_2) = v2 c
          ∧ r.2.mem ((c.tc : Thread Cert.AdamSsdConvIdeal.nD Cert.AdamSsdConvIdeal.τ).loc Cert.AdamSsdConvIdeal.main_arg0) = m ((c.tc : Thread Cert.AdamSsdConvIdeal.nD Cert.AdamSsdConvIdeal.τ).loc Cert.AdamSsdConvIdeal.main_arg0)
          ∧ r.2.mem ((c.tc : Thread Cert.AdamSsdConvIdeal.nD Cert.AdamSsdConvIdeal.τ).loc Cert.AdamSsdConvIdeal.main_arg1) = m ((c.tc : Thread Cert.AdamSsdConvIdeal.nD Cert.AdamSsdConvIdeal.τ).loc Cert.AdamSsdConvIdeal.main_arg1)
          ∧ r.2.mem ((c.tc : Thread Cert.AdamSsdConvIdeal.nD Cert.AdamSsdConvIdeal.τ).loc Cert.AdamSsdConvIdeal.main_arg2) = m ((c.tc : Thread Cert.AdamSsdConvIdeal.nD Cert.AdamSsdConvIdeal.τ).loc Cert.AdamSsdConvIdeal.main_arg2)
          ∧ r.2.mem ((c.tc : Thread Cert.AdamSsdConvIdeal.nD Cert.AdamSsdConvIdeal.τ).loc Cert.AdamSsdConvIdeal.main_arg3) = m ((c.tc : Thread Cert.AdamSsdConvIdeal.nD Cert.AdamSsdConvIdeal.τ).loc Cert.AdamSsdConvIdeal.main_arg3))
      ∧ θ_run (Cert.AdamSsdConvRefIdeal.defs (F := Ideal)) (onTc (τ := Cert.AdamSsdConvRefIdeal.τ) (Cert.AdamSsdConvRefIdeal.main (F := Ideal))) ⟨m', fun _ => 0, g'⟩ (fun r => ∀ c : Dev Cert.AdamSsdConvRefIdeal.nD,
          r.2.mem ((c.tc : Thread Cert.AdamSsdConvRefIdeal.nD Cert.AdamSsdConvRefIdeal.τ).loc Cert.AdamSsdConvRefIdeal.main_v23) = v0 c
          ∧ r.2.mem ((c.tc : Thread Cert.AdamSsdConvRefIdeal.nD Cert.AdamSsdConvRefIdeal.τ).loc Cert.AdamSsdConvRefIdeal.main_v4) = v1 c
          ∧ r.2.mem ((c.tc : Thread Cert.AdamSsdConvRefIdeal.nD Cert.AdamSsdConvRefIdeal.τ).loc Cert.AdamSsdConvRefIdeal.main_v10) = v2 c
          ∧ r.2.mem ((c.tc : Thread Cert.AdamSsdConvRefIdeal.nD Cert.AdamSsdConvRefIdeal.τ).loc Cert.AdamSsdConvRefIdeal.main_arg0) = m' ((c.tc : Thread Cert.AdamSsdConvRefIdeal.nD Cert.AdamSsdConvRefIdeal.τ).loc Cert.AdamSsdConvRefIdeal.main_arg0)
          ∧ r.2.mem ((c.tc : Thread Cert.AdamSsdConvRefIdeal.nD Cert.AdamSsdConvRefIdeal.τ).loc Cert.AdamSsdConvRefIdeal.main_arg1) = m' ((c.tc : Thread Cert.AdamSsdConvRefIdeal.nD Cert.AdamSsdConvRefIdeal.τ).loc Cert.AdamSsdConvRefIdeal.main_arg1)
          ∧ r.2.mem ((c.tc : Thread Cert.AdamSsdConvRefIdeal.nD Cert.AdamSsdConvRefIdeal.τ).loc Cert.AdamSsdConvRefIdeal.main_arg2) = m' ((c.tc : Thread Cert.AdamSsdConvRefIdeal.nD Cert.AdamSsdConvRefIdeal.τ).loc Cert.AdamSsdConvRefIdeal.main_arg2)
          ∧ r.2.mem ((c.tc : Thread Cert.AdamSsdConvRefIdeal.nD Cert.AdamSsdConvRefIdeal.τ).loc Cert.AdamSsdConvRefIdeal.main_arg3) = m' ((c.tc : Thread Cert.AdamSsdConvRefIdeal.nD Cert.AdamSsdConvRefIdeal.τ).loc Cert.AdamSsdConvRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamVectors_AdamVectorsIdeal : Prop :=
  True

def algebraic_AdamVectorsIdeal_AdamVectorsRefIdeal [hAdamVectorsIdeal : Cert.AdamVectorsIdeal.Facts] [hAdamVectorsRefIdeal : Cert.AdamVectorsRefIdeal.Facts] : Prop :=
  ∀ (m : (ℓ : Loc Cert.AdamVectorsIdeal.nD Cert.AdamVectorsIdeal.τ Cert.AdamVectorsIdeal.sig) → Buf (Elt Ideal) ℓ) (g : Dev Cert.AdamVectorsIdeal.nD → PrngReg)
    (m' : (ℓ : Loc Cert.AdamVectorsRefIdeal.nD Cert.AdamVectorsRefIdeal.τ Cert.AdamVectorsRefIdeal.sig) → Buf (Elt Ideal) ℓ) (g' : Dev Cert.AdamVectorsRefIdeal.nD → PrngReg), Pre_AdamVectorsIdeal m →
    (∀ c : Dev Cert.AdamVectorsIdeal.nD,
      m' ((c.tc : Thread Cert.AdamVectorsRefIdeal.nD Cert.AdamVectorsRefIdeal.τ).loc Cert.AdamVectorsRefIdeal.main_arg0) = m ((c.tc : Thread Cert.AdamVectorsIdeal.nD Cert.AdamVectorsIdeal.τ).loc Cert.AdamVectorsIdeal.main_arg0)
      ∧ m' ((c.tc : Thread Cert.AdamVectorsRefIdeal.nD Cert.AdamVectorsRefIdeal.τ).loc Cert.AdamVectorsRefIdeal.main_arg1) = m ((c.tc : Thread Cert.AdamVectorsIdeal.nD Cert.AdamVectorsIdeal.τ).loc Cert.AdamVectorsIdeal.main_arg1)
      ∧ m' ((c.tc : Thread Cert.AdamVectorsRefIdeal.nD Cert.AdamVectorsRefIdeal.τ).loc Cert.AdamVectorsRefIdeal.main_arg2) = m ((c.tc : Thread Cert.AdamVectorsIdeal.nD Cert.AdamVectorsIdeal.τ).loc Cert.AdamVectorsIdeal.main_arg2)
      ∧ m' ((c.tc : Thread Cert.AdamVectorsRefIdeal.nD Cert.AdamVectorsRefIdeal.τ).loc Cert.AdamVectorsRefIdeal.main_arg3) = m ((c.tc : Thread Cert.AdamVectorsIdeal.nD Cert.AdamVectorsIdeal.τ).loc Cert.AdamVectorsIdeal.main_arg3)) →
    ∃ (v0 : (c : Dev Cert.AdamVectorsIdeal.nD) → Buf (Elt Ideal) ((c.tc : Thread Cert.AdamVectorsIdeal.nD Cert.AdamVectorsIdeal.τ).loc Cert.AdamVectorsIdeal.main_v0_0)) (v1 : (c : Dev Cert.AdamVectorsIdeal.nD) → Buf (Elt Ideal) ((c.tc : Thread Cert.AdamVectorsIdeal.nD Cert.AdamVectorsIdeal.τ).loc Cert.AdamVectorsIdeal.main_v0_1)) (v2 : (c : Dev Cert.AdamVectorsIdeal.nD) → Buf (Elt Ideal) ((c.tc : Thread Cert.AdamVectorsIdeal.nD Cert.AdamVectorsIdeal.τ).loc Cert.AdamVectorsIdeal.main_v0_2)),
      θ_run (Cert.AdamVectorsIdeal.defs (F := Ideal)) (onTc (τ := Cert.AdamVectorsIdeal.τ) (Cert.AdamVectorsIdeal.main (F := Ideal))) ⟨m, fun _ => 0, g⟩ (fun r => ∀ c : Dev Cert.AdamVectorsIdeal.nD,
          r.2.mem ((c.tc : Thread Cert.AdamVectorsIdeal.nD Cert.AdamVectorsIdeal.τ).loc Cert.AdamVectorsIdeal.main_v0_0) = v0 c
          ∧ r.2.mem ((c.tc : Thread Cert.AdamVectorsIdeal.nD Cert.AdamVectorsIdeal.τ).loc Cert.AdamVectorsIdeal.main_v0_1) = v1 c
          ∧ r.2.mem ((c.tc : Thread Cert.AdamVectorsIdeal.nD Cert.AdamVectorsIdeal.τ).loc Cert.AdamVectorsIdeal.main_v0_2) = v2 c
          ∧ r.2.mem ((c.tc : Thread Cert.AdamVectorsIdeal.nD Cert.AdamVectorsIdeal.τ).loc Cert.AdamVectorsIdeal.main_arg0) = m ((c.tc : Thread Cert.AdamVectorsIdeal.nD Cert.AdamVectorsIdeal.τ).loc Cert.AdamVectorsIdeal.main_arg0)
          ∧ r.2.mem ((c.tc : Thread Cert.AdamVectorsIdeal.nD Cert.AdamVectorsIdeal.τ).loc Cert.AdamVectorsIdeal.main_arg1) = m ((c.tc : Thread Cert.AdamVectorsIdeal.nD Cert.AdamVectorsIdeal.τ).loc Cert.AdamVectorsIdeal.main_arg1)
          ∧ r.2.mem ((c.tc : Thread Cert.AdamVectorsIdeal.nD Cert.AdamVectorsIdeal.τ).loc Cert.AdamVectorsIdeal.main_arg2) = m ((c.tc : Thread Cert.AdamVectorsIdeal.nD Cert.AdamVectorsIdeal.τ).loc Cert.AdamVectorsIdeal.main_arg2)
          ∧ r.2.mem ((c.tc : Thread Cert.AdamVectorsIdeal.nD Cert.AdamVectorsIdeal.τ).loc Cert.AdamVectorsIdeal.main_arg3) = m ((c.tc : Thread Cert.AdamVectorsIdeal.nD Cert.AdamVectorsIdeal.τ).loc Cert.AdamVectorsIdeal.main_arg3))
      ∧ θ_run (Cert.AdamVectorsRefIdeal.defs (F := Ideal)) (onTc (τ := Cert.AdamVectorsRefIdeal.τ) (Cert.AdamVectorsRefIdeal.main (F := Ideal))) ⟨m', fun _ => 0, g'⟩ (fun r => ∀ c : Dev Cert.AdamVectorsRefIdeal.nD,
          r.2.mem ((c.tc : Thread Cert.AdamVectorsRefIdeal.nD Cert.AdamVectorsRefIdeal.τ).loc Cert.AdamVectorsRefIdeal.main_v23) = v0 c
          ∧ r.2.mem ((c.tc : Thread Cert.AdamVectorsRefIdeal.nD Cert.AdamVectorsRefIdeal.τ).loc Cert.AdamVectorsRefIdeal.main_v4) = v1 c
          ∧ r.2.mem ((c.tc : Thread Cert.AdamVectorsRefIdeal.nD Cert.AdamVectorsRefIdeal.τ).loc Cert.AdamVectorsRefIdeal.main_v10) = v2 c
          ∧ r.2.mem ((c.tc : Thread Cert.AdamVectorsRefIdeal.nD Cert.AdamVectorsRefIdeal.τ).loc Cert.AdamVectorsRefIdeal.main_arg0) = m' ((c.tc : Thread Cert.AdamVectorsRefIdeal.nD Cert.AdamVectorsRefIdeal.τ).loc Cert.AdamVectorsRefIdeal.main_arg0)
          ∧ r.2.mem ((c.tc : Thread Cert.AdamVectorsRefIdeal.nD Cert.AdamVectorsRefIdeal.τ).loc Cert.AdamVectorsRefIdeal.main_arg1) = m' ((c.tc : Thread Cert.AdamVectorsRefIdeal.nD Cert.AdamVectorsRefIdeal.τ).loc Cert.AdamVectorsRefIdeal.main_arg1)
          ∧ r.2.mem ((c.tc : Thread Cert.AdamVectorsRefIdeal.nD Cert.AdamVectorsRefIdeal.τ).loc Cert.AdamVectorsRefIdeal.main_arg2) = m' ((c.tc : Thread Cert.AdamVectorsRefIdeal.nD Cert.AdamVectorsRefIdeal.τ).loc Cert.AdamVectorsRefIdeal.main_arg2)
          ∧ r.2.mem ((c.tc : Thread Cert.AdamVectorsRefIdeal.nD Cert.AdamVectorsRefIdeal.τ).loc Cert.AdamVectorsRefIdeal.main_arg3) = m' ((c.tc : Thread Cert.AdamVectorsRefIdeal.nD Cert.AdamVectorsRefIdeal.τ).loc Cert.AdamVectorsRefIdeal.main_arg3))

def preserves_GluDx_GluDxIdeal : Prop :=
  True

def algebraic_GluDxIdeal_GluDxRefIdeal_pre_finite_gate [hGluDxIdeal : Cert.GluDxIdeal.Facts] [hGluDxRefIdeal : Cert.GluDxRefIdeal.Facts] [hPre_finite_gate : Cert.Pre_finite_gate.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal_finite_gate m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0_0)) (v1 : (c : Dev Cert.GluDxIdeal.nD) → Buf (Elt Ideal) ((c.tc : Thread Cert.GluDxIdeal.nD Cert.GluDxIdeal.τ).loc Cert.GluDxIdeal.main_v0_1)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0_0) = v0 c
          ∧ r.2.mem ((c.tc : Thread Cert.GluDxIdeal.nD Cert.GluDxIdeal.τ).loc Cert.GluDxIdeal.main_v0_1) = v1 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v7) = v0 c
          ∧ r.2.mem ((c.tc : Thread Cert.GluDxRefIdeal.nD Cert.GluDxRefIdeal.τ).loc Cert.GluDxRefIdeal.main_v8) = v1 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v4) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hKernel : Cert.Kernel.Facts) (hKernelIdeal : Cert.KernelIdeal.Facts) (hReferenceIdeal : Cert.ReferenceIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hInWide : Cert.InWide.Facts) (hInWideIdeal : Cert.InWideIdeal.Facts) (hInWideRefIdeal : Cert.InWideRefIdeal.Facts) (hInGate : Cert.InGate.Facts) (hInGateIdeal : Cert.InGateIdeal.Facts) (hInGateRefIdeal : Cert.InGateRefIdeal.Facts) (hSquareDx : Cert.SquareDx.Facts) (hSquareDxIdeal : Cert.SquareDxIdeal.Facts) (hSquareDxRefIdeal : Cert.SquareDxRefIdeal.Facts) (hSquareDw : Cert.SquareDw.Facts) (hSquareDwIdeal : Cert.SquareDwIdeal.Facts) (hSquareDwRefIdeal : Cert.SquareDwRefIdeal.Facts) (hResidualDx : Cert.ResidualDx.Facts) (hResidualDxIdeal : Cert.ResidualDxIdeal.Facts) (hResidualDxRefIdeal : Cert.ResidualDxRefIdeal.Facts) (hResidualDw : Cert.ResidualDw.Facts) (hResidualDwIdeal : Cert.ResidualDwIdeal.Facts) (hResidualDwRefIdeal : Cert.ResidualDwRefIdeal.Facts) (hSquare : Cert.Square.Facts) (hSquareIdeal : Cert.SquareIdeal.Facts) (hSquareRefIdeal : Cert.SquareRefIdeal.Facts) (hResidual : Cert.Residual.Facts) (hResidualIdeal : Cert.ResidualIdeal.Facts) (hResidualRefIdeal : Cert.ResidualRefIdeal.Facts) (hMlaOutDw : Cert.MlaOutDw.Facts) (hMlaOutDwIdeal : Cert.MlaOutDwIdeal.Facts) (hMlaOutDwRefIdeal : Cert.MlaOutDwRefIdeal.Facts) (hMlaOut : Cert.MlaOut.Facts) (hMlaOutIdeal : Cert.MlaOutIdeal.Facts) (hMlaOutRefIdeal : Cert.MlaOutRefIdeal.Facts) (hQbDx : Cert.QbDx.Facts) (hQbDxIdeal : Cert.QbDxIdeal.Facts) (hQbDxRefIdeal : Cert.QbDxRefIdeal.Facts) (hQbDw : Cert.QbDw.Facts) (hQbDwIdeal : Cert.QbDwIdeal.Facts) (hQbDwRefIdeal : Cert.QbDwRefIdeal.Facts) (hKvbDx : Cert.KvbDx.Facts) (hKvbDxIdeal : Cert.KvbDxIdeal.Facts) (hKvbDxRefIdeal : Cert.KvbDxRefIdeal.Facts) (hKvbDw : Cert.KvbDw.Facts) (hKvbDwIdeal : Cert.KvbDwIdeal.Facts) (hKvbDwRefIdeal : Cert.KvbDwRefIdeal.Facts) (hCrossDx : Cert.CrossDx.Facts) (hCrossDxIdeal : Cert.CrossDxIdeal.Facts) (hCrossDxRefIdeal : Cert.CrossDxRefIdeal.Facts) (hCrossDw : Cert.CrossDw.Facts) (hCrossDwIdeal : Cert.CrossDwIdeal.Facts) (hCrossDwRefIdeal : Cert.CrossDwRefIdeal.Facts) (hQb : Cert.Qb.Facts) (hQbIdeal : Cert.QbIdeal.Facts) (hQbRefIdeal : Cert.QbRefIdeal.Facts) (hKvb : Cert.Kvb.Facts) (hKvbIdeal : Cert.KvbIdeal.Facts) (hKvbRefIdeal : Cert.KvbRefIdeal.Facts) (hCross : Cert.Cross.Facts) (hCrossIdeal : Cert.CrossIdeal.Facts) (hCrossRefIdeal : Cert.CrossRefIdeal.Facts) (hInLatent : Cert.InLatent.Facts) (hInLatentIdeal : Cert.InLatentIdeal.Facts) (hInLatentRefIdeal : Cert.InLatentRefIdeal.Facts) (hInKv : Cert.InKv.Facts) (hInKvIdeal : Cert.InKvIdeal.Facts) (hInKvRefIdeal : Cert.InKvRefIdeal.Facts) (hInNarrow : Cert.InNarrow.Facts) (hInNarrowIdeal : Cert.InNarrowIdeal.Facts) (hInNarrowRefIdeal : Cert.InNarrowRefIdeal.Facts) (hXattnOut : Cert.XattnOut.Facts) (hXattnOutIdeal : Cert.XattnOutIdeal.Facts) (hXattnOutRefIdeal : Cert.XattnOutRefIdeal.Facts) (hXattnOutDw : Cert.XattnOutDw.Facts) (hXattnOutDwIdeal : Cert.XattnOutDwIdeal.Facts) (hXattnOutDwRefIdeal : Cert.XattnOutDwRefIdeal.Facts) (hInDwLayer1 : Cert.InDwLayer1.Facts) (hInDwLayer1Ideal : Cert.InDwLayer1Ideal.Facts) (hInDwLayer1RefIdeal : Cert.InDwLayer1RefIdeal.Facts) (hFfnInDwLayer1 : Cert.FfnInDwLayer1.Facts) (hFfnInDwLayer1Ideal : Cert.FfnInDwLayer1Ideal.Facts) (hFfnInDwLayer1RefIdeal : Cert.FfnInDwLayer1RefIdeal.Facts) (hFfnOutDwLayer1 : Cert.FfnOutDwLayer1.Facts) (hFfnOutDwLayer1Ideal : Cert.FfnOutDwLayer1Ideal.Facts) (hFfnOutDwLayer1RefIdeal : Cert.FfnOutDwLayer1RefIdeal.Facts) (hInDwLayer2 : Cert.InDwLayer2.Facts) (hInDwLayer2Ideal : Cert.InDwLayer2Ideal.Facts) (hInDwLayer2RefIdeal : Cert.InDwLayer2RefIdeal.Facts) (hFfnInDwLayer2 : Cert.FfnInDwLayer2.Facts) (hFfnInDwLayer2Ideal : Cert.FfnInDwLayer2Ideal.Facts) (hFfnInDwLayer2RefIdeal : Cert.FfnInDwLayer2RefIdeal.Facts) (hFfnOutDwLayer2 : Cert.FfnOutDwLayer2.Facts) (hFfnOutDwLayer2Ideal : Cert.FfnOutDwLayer2Ideal.Facts) (hFfnOutDwLayer2RefIdeal : Cert.FfnOutDwLayer2RefIdeal.Facts) (hAdamIn : Cert.AdamIn.Facts) (hAdamInIdeal : Cert.AdamInIdeal.Facts) (hAdamInRefIdeal : Cert.AdamInRefIdeal.Facts) (hAdamQ : Cert.AdamQ.Facts) (hAdamQIdeal : Cert.AdamQIdeal.Facts) (hAdamQRefIdeal : Cert.AdamQRefIdeal.Facts) (hAdamKv : Cert.AdamKv.Facts) (hAdamKvIdeal : Cert.AdamKvIdeal.Facts) (hAdamKvRefIdeal : Cert.AdamKvRefIdeal.Facts) (hAdamCross : Cert.AdamCross.Facts) (hAdamCrossIdeal : Cert.AdamCrossIdeal.Facts) (hAdamCrossRefIdeal : Cert.AdamCrossRefIdeal.Facts) (hAdamFfnIn : Cert.AdamFfnIn.Facts) (hAdamFfnInIdeal : Cert.AdamFfnInIdeal.Facts) (hAdamFfnInRefIdeal : Cert.AdamFfnInRefIdeal.Facts) (hAdamSquare : Cert.AdamSquare.Facts) (hAdamSquareIdeal : Cert.AdamSquareIdeal.Facts) (hAdamSquareRefIdeal : Cert.AdamSquareRefIdeal.Facts) (hAdamFfnOut : Cert.AdamFfnOut.Facts) (hAdamFfnOutIdeal : Cert.AdamFfnOutIdeal.Facts) (hAdamFfnOutRefIdeal : Cert.AdamFfnOutRefIdeal.Facts) (hAdamSsdConv : Cert.AdamSsdConv.Facts) (hAdamSsdConvIdeal : Cert.AdamSsdConvIdeal.Facts) (hAdamSsdConvRefIdeal : Cert.AdamSsdConvRefIdeal.Facts) (hAdamConv : Cert.AdamConv.Facts) (hAdamConvIdeal : Cert.AdamConvIdeal.Facts) (hAdamConvRefIdeal : Cert.AdamConvRefIdeal.Facts) (hAdamGate : Cert.AdamGate.Facts) (hAdamGateIdeal : Cert.AdamGateIdeal.Facts) (hAdamGateRefIdeal : Cert.AdamGateRefIdeal.Facts) (hAdamVectors : Cert.AdamVectors.Facts) (hAdamVectorsIdeal : Cert.AdamVectorsIdeal.Facts) (hAdamVectorsRefIdeal : Cert.AdamVectorsRefIdeal.Facts) (hGluDx : Cert.GluDx.Facts) (hGluDxIdeal : Cert.GluDxIdeal.Facts) (hGluDxRefIdeal : Cert.GluDxRefIdeal.Facts) (hGlu : Cert.Glu.Facts) (hGluIdeal : Cert.GluIdeal.Facts) (hGluRefIdeal : Cert.GluRefIdeal.Facts) (hLoss : Cert.Loss.Facts) (hLossIdeal : Cert.LossIdeal.Facts) (hLossRefIdeal : Cert.LossRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_InWide (hInWide := hInWide)
    ∧ quiescent_InWideIdeal (hInWideIdeal := hInWideIdeal)
    ∧ quiescent_InWideRefIdeal (hInWideRefIdeal := hInWideRefIdeal)
    ∧ quiescent_InGate (hInGate := hInGate)
    ∧ quiescent_InGateIdeal (hInGateIdeal := hInGateIdeal)
    ∧ quiescent_InGateRefIdeal (hInGateRefIdeal := hInGateRefIdeal)
    ∧ quiescent_SquareDx (hSquareDx := hSquareDx)
    ∧ quiescent_SquareDxIdeal (hSquareDxIdeal := hSquareDxIdeal)
    ∧ quiescent_SquareDxRefIdeal (hSquareDxRefIdeal := hSquareDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_ResidualDx (hResidualDx := hResidualDx)
    ∧ quiescent_ResidualDxIdeal (hResidualDxIdeal := hResidualDxIdeal)
    ∧ quiescent_ResidualDxRefIdeal (hResidualDxRefIdeal := hResidualDxRefIdeal)
    ∧ quiescent_ResidualDw (hResidualDw := hResidualDw)
    ∧ quiescent_ResidualDwIdeal (hResidualDwIdeal := hResidualDwIdeal)
    ∧ quiescent_ResidualDwRefIdeal (hResidualDwRefIdeal := hResidualDwRefIdeal)
    ∧ quiescent_Square (hSquare := hSquare)
    ∧ quiescent_SquareIdeal (hSquareIdeal := hSquareIdeal)
    ∧ quiescent_SquareRefIdeal (hSquareRefIdeal := hSquareRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_MlaOutDw (hMlaOutDw := hMlaOutDw)
    ∧ quiescent_MlaOutDwIdeal (hMlaOutDwIdeal := hMlaOutDwIdeal)
    ∧ quiescent_MlaOutDwRefIdeal (hMlaOutDwRefIdeal := hMlaOutDwRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_QbDx (hQbDx := hQbDx)
    ∧ quiescent_QbDxIdeal (hQbDxIdeal := hQbDxIdeal)
    ∧ quiescent_QbDxRefIdeal (hQbDxRefIdeal := hQbDxRefIdeal)
    ∧ quiescent_QbDw (hQbDw := hQbDw)
    ∧ quiescent_QbDwIdeal (hQbDwIdeal := hQbDwIdeal)
    ∧ quiescent_QbDwRefIdeal (hQbDwRefIdeal := hQbDwRefIdeal)
    ∧ quiescent_KvbDx (hKvbDx := hKvbDx)
    ∧ quiescent_KvbDxIdeal (hKvbDxIdeal := hKvbDxIdeal)
    ∧ quiescent_KvbDxRefIdeal (hKvbDxRefIdeal := hKvbDxRefIdeal)
    ∧ quiescent_KvbDw (hKvbDw := hKvbDw)
    ∧ quiescent_KvbDwIdeal (hKvbDwIdeal := hKvbDwIdeal)
    ∧ quiescent_KvbDwRefIdeal (hKvbDwRefIdeal := hKvbDwRefIdeal)
    ∧ quiescent_CrossDx (hCrossDx := hCrossDx)
    ∧ quiescent_CrossDxIdeal (hCrossDxIdeal := hCrossDxIdeal)
    ∧ quiescent_CrossDxRefIdeal (hCrossDxRefIdeal := hCrossDxRefIdeal)
    ∧ quiescent_CrossDw (hCrossDw := hCrossDw)
    ∧ quiescent_CrossDwIdeal (hCrossDwIdeal := hCrossDwIdeal)
    ∧ quiescent_CrossDwRefIdeal (hCrossDwRefIdeal := hCrossDwRefIdeal)
    ∧ quiescent_Qb (hQb := hQb)
    ∧ quiescent_QbIdeal (hQbIdeal := hQbIdeal)
    ∧ quiescent_QbRefIdeal (hQbRefIdeal := hQbRefIdeal)
    ∧ quiescent_Kvb (hKvb := hKvb)
    ∧ quiescent_KvbIdeal (hKvbIdeal := hKvbIdeal)
    ∧ quiescent_KvbRefIdeal (hKvbRefIdeal := hKvbRefIdeal)
    ∧ quiescent_Cross (hCross := hCross)
    ∧ quiescent_CrossIdeal (hCrossIdeal := hCrossIdeal)
    ∧ quiescent_CrossRefIdeal (hCrossRefIdeal := hCrossRefIdeal)
    ∧ quiescent_InLatent (hInLatent := hInLatent)
    ∧ quiescent_InLatentIdeal (hInLatentIdeal := hInLatentIdeal)
    ∧ quiescent_InLatentRefIdeal (hInLatentRefIdeal := hInLatentRefIdeal)
    ∧ quiescent_InKv (hInKv := hInKv)
    ∧ quiescent_InKvIdeal (hInKvIdeal := hInKvIdeal)
    ∧ quiescent_InKvRefIdeal (hInKvRefIdeal := hInKvRefIdeal)
    ∧ quiescent_InNarrow (hInNarrow := hInNarrow)
    ∧ quiescent_InNarrowIdeal (hInNarrowIdeal := hInNarrowIdeal)
    ∧ quiescent_InNarrowRefIdeal (hInNarrowRefIdeal := hInNarrowRefIdeal)
    ∧ quiescent_XattnOut (hXattnOut := hXattnOut)
    ∧ quiescent_XattnOutIdeal (hXattnOutIdeal := hXattnOutIdeal)
    ∧ quiescent_XattnOutRefIdeal (hXattnOutRefIdeal := hXattnOutRefIdeal)
    ∧ quiescent_XattnOutDw (hXattnOutDw := hXattnOutDw)
    ∧ quiescent_XattnOutDwIdeal (hXattnOutDwIdeal := hXattnOutDwIdeal)
    ∧ quiescent_XattnOutDwRefIdeal (hXattnOutDwRefIdeal := hXattnOutDwRefIdeal)
    ∧ quiescent_InDwLayer1 (hInDwLayer1 := hInDwLayer1)
    ∧ quiescent_InDwLayer1Ideal (hInDwLayer1Ideal := hInDwLayer1Ideal)
    ∧ quiescent_InDwLayer1RefIdeal (hInDwLayer1RefIdeal := hInDwLayer1RefIdeal)
    ∧ quiescent_FfnInDwLayer1 (hFfnInDwLayer1 := hFfnInDwLayer1)
    ∧ quiescent_FfnInDwLayer1Ideal (hFfnInDwLayer1Ideal := hFfnInDwLayer1Ideal)
    ∧ quiescent_FfnInDwLayer1RefIdeal (hFfnInDwLayer1RefIdeal := hFfnInDwLayer1RefIdeal)
    ∧ quiescent_FfnOutDwLayer1 (hFfnOutDwLayer1 := hFfnOutDwLayer1)
    ∧ quiescent_FfnOutDwLayer1Ideal (hFfnOutDwLayer1Ideal := hFfnOutDwLayer1Ideal)
    ∧ quiescent_FfnOutDwLayer1RefIdeal (hFfnOutDwLayer1RefIdeal := hFfnOutDwLayer1RefIdeal)
    ∧ quiescent_InDwLayer2 (hInDwLayer2 := hInDwLayer2)
    ∧ quiescent_InDwLayer2Ideal (hInDwLayer2Ideal := hInDwLayer2Ideal)
    ∧ quiescent_InDwLayer2RefIdeal (hInDwLayer2RefIdeal := hInDwLayer2RefIdeal)
    ∧ quiescent_FfnInDwLayer2 (hFfnInDwLayer2 := hFfnInDwLayer2)
    ∧ quiescent_FfnInDwLayer2Ideal (hFfnInDwLayer2Ideal := hFfnInDwLayer2Ideal)
    ∧ quiescent_FfnInDwLayer2RefIdeal (hFfnInDwLayer2RefIdeal := hFfnInDwLayer2RefIdeal)
    ∧ quiescent_FfnOutDwLayer2 (hFfnOutDwLayer2 := hFfnOutDwLayer2)
    ∧ quiescent_FfnOutDwLayer2Ideal (hFfnOutDwLayer2Ideal := hFfnOutDwLayer2Ideal)
    ∧ quiescent_FfnOutDwLayer2RefIdeal (hFfnOutDwLayer2RefIdeal := hFfnOutDwLayer2RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamCross (hAdamCross := hAdamCross)
    ∧ quiescent_AdamCrossIdeal (hAdamCrossIdeal := hAdamCrossIdeal)
    ∧ quiescent_AdamCrossRefIdeal (hAdamCrossRefIdeal := hAdamCrossRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamSsdConv (hAdamSsdConv := hAdamSsdConv)
    ∧ quiescent_AdamSsdConvIdeal (hAdamSsdConvIdeal := hAdamSsdConvIdeal)
    ∧ quiescent_AdamSsdConvRefIdeal (hAdamSsdConvRefIdeal := hAdamSsdConvRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamVectors (hAdamVectors := hAdamVectors)
    ∧ quiescent_AdamVectorsIdeal (hAdamVectorsIdeal := hAdamVectorsIdeal)
    ∧ quiescent_AdamVectorsRefIdeal (hAdamVectorsRefIdeal := hAdamVectorsRefIdeal)
    ∧ quiescent_GluDx (hGluDx := hGluDx)
    ∧ quiescent_GluDxIdeal (hGluDxIdeal := hGluDxIdeal)
    ∧ quiescent_GluDxIdeal_pre_finite_gate (hGluDxIdeal := hGluDxIdeal) (hPre_finite_gate := hPre_finite_gate)
    ∧ quiescent_GluDxRefIdeal (hGluDxRefIdeal := hGluDxRefIdeal)
    ∧ quiescent_GluDxRefIdeal_pre_finite_gate (hGluDxRefIdeal := hGluDxRefIdeal) (hPre_finite_gate := hPre_finite_gate)
    ∧ quiescent_Glu (hGlu := hGlu)
    ∧ quiescent_GluIdeal (hGluIdeal := hGluIdeal)
    ∧ quiescent_GluRefIdeal (hGluRefIdeal := hGluRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_InWide_InWideIdeal
    ∧ algebraic_InWideIdeal_InWideRefIdeal (hInWideIdeal := hInWideIdeal) (hInWideRefIdeal := hInWideRefIdeal)
    ∧ preserves_InGate_InGateIdeal
    ∧ algebraic_InGateIdeal_InGateRefIdeal (hInGateIdeal := hInGateIdeal) (hInGateRefIdeal := hInGateRefIdeal)
    ∧ preserves_SquareDx_SquareDxIdeal
    ∧ algebraic_SquareDxIdeal_SquareDxRefIdeal (hSquareDxIdeal := hSquareDxIdeal) (hSquareDxRefIdeal := hSquareDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_ResidualDx_ResidualDxIdeal
    ∧ algebraic_ResidualDxIdeal_ResidualDxRefIdeal (hResidualDxIdeal := hResidualDxIdeal) (hResidualDxRefIdeal := hResidualDxRefIdeal)
    ∧ preserves_ResidualDw_ResidualDwIdeal
    ∧ algebraic_ResidualDwIdeal_ResidualDwRefIdeal (hResidualDwIdeal := hResidualDwIdeal) (hResidualDwRefIdeal := hResidualDwRefIdeal)
    ∧ preserves_Square_SquareIdeal
    ∧ algebraic_SquareIdeal_SquareRefIdeal (hSquareIdeal := hSquareIdeal) (hSquareRefIdeal := hSquareRefIdeal)
    ∧ preserves_Residual_ResidualIdeal
    ∧ algebraic_ResidualIdeal_ResidualRefIdeal (hResidualIdeal := hResidualIdeal) (hResidualRefIdeal := hResidualRefIdeal)
    ∧ preserves_MlaOutDw_MlaOutDwIdeal
    ∧ algebraic_MlaOutDwIdeal_MlaOutDwRefIdeal (hMlaOutDwIdeal := hMlaOutDwIdeal) (hMlaOutDwRefIdeal := hMlaOutDwRefIdeal)
    ∧ preserves_MlaOut_MlaOutIdeal
    ∧ algebraic_MlaOutIdeal_MlaOutRefIdeal (hMlaOutIdeal := hMlaOutIdeal) (hMlaOutRefIdeal := hMlaOutRefIdeal)
    ∧ preserves_QbDx_QbDxIdeal
    ∧ algebraic_QbDxIdeal_QbDxRefIdeal (hQbDxIdeal := hQbDxIdeal) (hQbDxRefIdeal := hQbDxRefIdeal)
    ∧ preserves_QbDw_QbDwIdeal
    ∧ algebraic_QbDwIdeal_QbDwRefIdeal (hQbDwIdeal := hQbDwIdeal) (hQbDwRefIdeal := hQbDwRefIdeal)
    ∧ preserves_KvbDx_KvbDxIdeal
    ∧ algebraic_KvbDxIdeal_KvbDxRefIdeal (hKvbDxIdeal := hKvbDxIdeal) (hKvbDxRefIdeal := hKvbDxRefIdeal)
    ∧ preserves_KvbDw_KvbDwIdeal
    ∧ algebraic_KvbDwIdeal_KvbDwRefIdeal (hKvbDwIdeal := hKvbDwIdeal) (hKvbDwRefIdeal := hKvbDwRefIdeal)
    ∧ preserves_CrossDx_CrossDxIdeal
    ∧ algebraic_CrossDxIdeal_CrossDxRefIdeal (hCrossDxIdeal := hCrossDxIdeal) (hCrossDxRefIdeal := hCrossDxRefIdeal)
    ∧ preserves_CrossDw_CrossDwIdeal
    ∧ algebraic_CrossDwIdeal_CrossDwRefIdeal (hCrossDwIdeal := hCrossDwIdeal) (hCrossDwRefIdeal := hCrossDwRefIdeal)
    ∧ preserves_Qb_QbIdeal
    ∧ algebraic_QbIdeal_QbRefIdeal (hQbIdeal := hQbIdeal) (hQbRefIdeal := hQbRefIdeal)
    ∧ preserves_Kvb_KvbIdeal
    ∧ algebraic_KvbIdeal_KvbRefIdeal (hKvbIdeal := hKvbIdeal) (hKvbRefIdeal := hKvbRefIdeal)
    ∧ preserves_Cross_CrossIdeal
    ∧ algebraic_CrossIdeal_CrossRefIdeal (hCrossIdeal := hCrossIdeal) (hCrossRefIdeal := hCrossRefIdeal)
    ∧ preserves_InLatent_InLatentIdeal
    ∧ algebraic_InLatentIdeal_InLatentRefIdeal (hInLatentIdeal := hInLatentIdeal) (hInLatentRefIdeal := hInLatentRefIdeal)
    ∧ preserves_InKv_InKvIdeal
    ∧ algebraic_InKvIdeal_InKvRefIdeal (hInKvIdeal := hInKvIdeal) (hInKvRefIdeal := hInKvRefIdeal)
    ∧ preserves_InNarrow_InNarrowIdeal
    ∧ algebraic_InNarrowIdeal_InNarrowRefIdeal (hInNarrowIdeal := hInNarrowIdeal) (hInNarrowRefIdeal := hInNarrowRefIdeal)
    ∧ preserves_XattnOut_XattnOutIdeal
    ∧ algebraic_XattnOutIdeal_XattnOutRefIdeal (hXattnOutIdeal := hXattnOutIdeal) (hXattnOutRefIdeal := hXattnOutRefIdeal)
    ∧ preserves_XattnOutDw_XattnOutDwIdeal
    ∧ algebraic_XattnOutDwIdeal_XattnOutDwRefIdeal (hXattnOutDwIdeal := hXattnOutDwIdeal) (hXattnOutDwRefIdeal := hXattnOutDwRefIdeal)
    ∧ preserves_InDwLayer1_InDwLayer1Ideal
    ∧ algebraic_InDwLayer1Ideal_InDwLayer1RefIdeal (hInDwLayer1Ideal := hInDwLayer1Ideal) (hInDwLayer1RefIdeal := hInDwLayer1RefIdeal)
    ∧ preserves_FfnInDwLayer1_FfnInDwLayer1Ideal
    ∧ algebraic_FfnInDwLayer1Ideal_FfnInDwLayer1RefIdeal (hFfnInDwLayer1Ideal := hFfnInDwLayer1Ideal) (hFfnInDwLayer1RefIdeal := hFfnInDwLayer1RefIdeal)
    ∧ preserves_FfnOutDwLayer1_FfnOutDwLayer1Ideal
    ∧ algebraic_FfnOutDwLayer1Ideal_FfnOutDwLayer1RefIdeal (hFfnOutDwLayer1Ideal := hFfnOutDwLayer1Ideal) (hFfnOutDwLayer1RefIdeal := hFfnOutDwLayer1RefIdeal)
    ∧ preserves_InDwLayer2_InDwLayer2Ideal
    ∧ algebraic_InDwLayer2Ideal_InDwLayer2RefIdeal (hInDwLayer2Ideal := hInDwLayer2Ideal) (hInDwLayer2RefIdeal := hInDwLayer2RefIdeal)
    ∧ preserves_FfnInDwLayer2_FfnInDwLayer2Ideal
    ∧ algebraic_FfnInDwLayer2Ideal_FfnInDwLayer2RefIdeal (hFfnInDwLayer2Ideal := hFfnInDwLayer2Ideal) (hFfnInDwLayer2RefIdeal := hFfnInDwLayer2RefIdeal)
    ∧ preserves_FfnOutDwLayer2_FfnOutDwLayer2Ideal
    ∧ algebraic_FfnOutDwLayer2Ideal_FfnOutDwLayer2RefIdeal (hFfnOutDwLayer2Ideal := hFfnOutDwLayer2Ideal) (hFfnOutDwLayer2RefIdeal := hFfnOutDwLayer2RefIdeal)
    ∧ preserves_AdamIn_AdamInIdeal
    ∧ algebraic_AdamInIdeal_AdamInRefIdeal (hAdamInIdeal := hAdamInIdeal) (hAdamInRefIdeal := hAdamInRefIdeal)
    ∧ preserves_AdamQ_AdamQIdeal
    ∧ algebraic_AdamQIdeal_AdamQRefIdeal (hAdamQIdeal := hAdamQIdeal) (hAdamQRefIdeal := hAdamQRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamCross_AdamCrossIdeal
    ∧ algebraic_AdamCrossIdeal_AdamCrossRefIdeal (hAdamCrossIdeal := hAdamCrossIdeal) (hAdamCrossRefIdeal := hAdamCrossRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamSsdConv_AdamSsdConvIdeal
    ∧ algebraic_AdamSsdConvIdeal_AdamSsdConvRefIdeal (hAdamSsdConvIdeal := hAdamSsdConvIdeal) (hAdamSsdConvRefIdeal := hAdamSsdConvRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamVectors_AdamVectorsIdeal
    ∧ algebraic_AdamVectorsIdeal_AdamVectorsRefIdeal (hAdamVectorsIdeal := hAdamVectorsIdeal) (hAdamVectorsRefIdeal := hAdamVectorsRefIdeal)
    ∧ preserves_GluDx_GluDxIdeal
    ∧ algebraic_GluDxIdeal_GluDxRefIdeal_pre_finite_gate (hGluDxIdeal := hGluDxIdeal) (hGluDxRefIdeal := hGluDxRefIdeal) (hPre_finite_gate := hPre_finite_gate)
    ∧ preserves_Glu_GluIdeal
    ∧ algebraic_GluIdeal_GluRefIdeal (hGluIdeal := hGluIdeal) (hGluRefIdeal := hGluRefIdeal)
    ∧ preserves_Loss_LossIdeal
    ∧ algebraic_LossIdeal_LossRefIdeal (hLossIdeal := hLossIdeal) (hLossRefIdeal := hLossRefIdeal)
-- ==== Pre_finite.lean ====
abbrev S1x4096x8x192 : Shape := ⟨4, ![1, 4096, 8, 192]⟩
abbrev S1x4096x8x128 : Shape := ⟨4, ![1, 4096, 8, 128]⟩
abbrev S_ : Shape := ⟨0, ![]⟩

class Facts : Prop where
  bcast_S_S1x4096x8x192 : S_.BroadcastsInDim S1x4096x8x192 (![] : Fin 0 → Fin S1x4096x8x192.rank)
  bcast_S_S1x4096x8x128 : S_.BroadcastsInDim S1x4096x8x128 (![] : Fin 0 → Fin S1x4096x8x128.rank)

variable [Facts]

def fn {F : FTy → Type} [FloatOps F] (main_arg0 : FVec F S1x4096x8x192 .f32) (main_arg1 : FVec F S1x4096x8x192 .f32) (main_arg2 : FVec F S1x4096x8x128 .f32) (main_arg3 : FVec F S1x4096x8x128 .f32) : IVec S1x4096x8x192 1 × IVec S1x4096x8x192 1 × IVec S1x4096x8x128 1 × IVec S1x4096x8x128 1 :=
  let main_v0 : FVec F S1x4096x8x192 .f32 := Host.absf main_arg0
  let main_cst : FVec F S_ .f32 := constant S_ .f32 0x7F800000#32
  let main_v1 : FVec F S1x4096x8x192 .f32 := broadcastInDim S1x4096x8x192 ![] bcast_S_S1x4096x8x192 main_cst
  let main_v2 : IVec S1x4096x8x192 1 := cmpf .olt main_v0 main_v1
  let main_v3 : FVec F S1x4096x8x192 .f32 := Host.absf main_arg1
  let main_cst_0 : FVec F S_ .f32 := constant S_ .f32 0x7F800000#32
  let main_v4 : FVec F S1x4096x8x192 .f32 := broadcastInDim S1x4096x8x192 ![] bcast_S_S1x4096x8x192 main_cst_0
  let main_v5 : IVec S1x4096x8x192 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  let main_v9 : FVec F S1x4096x8x128 .f32 := Host.absf main_arg3
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  (main_v2, main_v5, main_v8, main_v11)
-- ==== Pre_finite_gate.lean ====
abbrev S4096x5632 : Shape := ⟨2, ![4096, 5632]⟩
abbrev S4096x2816 : Shape := ⟨2, ![4096, 2816]⟩
abbrev S_ : Shape := ⟨0, ![]⟩

class Facts : Prop where
  slices_S4096x5632_S4096x2816_0_0 : S4096x5632.Slices ![0, 0] S4096x2816
  slices_S4096x5632_S4096x2816_0_2816 : S4096x5632.Slices ![0, 2816] S4096x2816
  bcast_S_S4096x2816 : S_.BroadcastsInDim S4096x2816 (![] : Fin 0 → Fin S4096x2816.rank)

variable [Facts]

def fn {F : FTy → Type} [FloatOps F] (main_arg0 : FVec F S4096x5632 .f32) (main_arg1 : FVec F S4096x2816 .f32) : IVec S4096x2816 1 × IVec S4096x2816 1 :=
  let main_v0 : FVec F S4096x2816 .f32 := (extractStridedSlice S4096x2816 ![0, 0] · slices_S4096x5632_S4096x2816_0_0) main_arg0
  let main_v1 : FVec F S4096x2816 .f32 := (extractStridedSlice S4096x2816 ![0, 2816] · slices_S4096x5632_S4096x2816_0_2816) main_arg0
  let main_v2 : FVec F S4096x2816 .f32 := Host.absf main_v1
  let main_cst : FVec F S_ .f32 := constant S_ .f32 0x7F800000#32
  let main_v3 : FVec F S4096x2816 .f32 := broadcastInDim S4096x2816 ![] bcast_S_S4096x2816 main_cst
  let main_v4 : IVec S4096x2816 1 := cmpf .olt main_v2 main_v3
  let main_v5 : FVec F S4096x2816 .f32 := Host.absf main_arg1
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  (main_v4, main_v7)
-- ==== Kernel.lean ====
abbrev S1x4096x8x192 : Shape := ⟨4, ![1, 4096, 8, 192]⟩
abbrev S1x4096x8x128 : Shape := ⟨4, ![1, 4096, 8, 128]⟩
abbrev S4096x8x192 : Shape := ⟨3, ![4096, 8, 192]⟩
abbrev S8x4096x192 : Shape := ⟨3, ![8, 4096, 192]⟩
abbrev S_ : Shape := ⟨0, ![]⟩
abbrev S8x4096x256 : Shape := ⟨3, ![8, 4096, 256]⟩
abbrev S4096x8x128 : Shape := ⟨3, ![4096, 8, 128]⟩
abbrev S8x4096x128 : Shape := ⟨3, ![8, 4096, 128]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S4096x1024 : Shape := ⟨2, ![4096, 1024]⟩
abbrev S8x4096x1 : Shape := ⟨3, ![8, 4096, 1]⟩
abbrev S1x4096x256 : Shape := ⟨3, ![1, 4096, 256]⟩
abbrev S1x512x256 : Shape := ⟨3, ![1, 512, 256]⟩
abbrev S1x512x128 : Shape := ⟨3, ![1, 512, 128]⟩
abbrev S4096x128 : Shape := ⟨2, ![4096, 128]⟩
abbrev S1x4096x1 : Shape := ⟨3, ![1, 4096, 1]⟩
abbrev S4096x256 : Shape := ⟨2, ![4096, 256]⟩
abbrev S512x256 : Shape := ⟨2, ![512, 256]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩

abbrev nBuf : Space → Nat
  | .hbm => 73
  | .vmem => 19
  | .smem => 0
  | _ => 0

abbrev bufTy : (tb : Table) → Fin (tcTables nBuf tb) → BufTy
  | .hbm, ⟨0, _⟩ => ⟨S1x4096x8x192, .f32⟩
  | .hbm, ⟨1, _⟩ => ⟨S1x4096x8x192, .f32⟩
  | .hbm, ⟨2, _⟩ => ⟨S1x4096x8x128, .f32⟩
  | .hbm, ⟨3, _⟩ => ⟨S1x4096x8x128, .f32⟩
  | .hbm, ⟨4, _⟩ => ⟨S4096x8x192, .f32⟩
  | .hbm, ⟨5, _⟩ => ⟨S8x4096x192, .f32⟩
  | .hbm, ⟨6, _⟩ => ⟨S_, .i32⟩
  | .hbm, ⟨7, _⟩ => ⟨S_, .f32⟩
  | .hbm, ⟨8, _⟩ => ⟨S8x4096x256, .f32⟩
  | .hbm, ⟨9, _⟩ => ⟨S8x4096x256, .bf16⟩
  | .hbm, ⟨10, _⟩ => ⟨S4096x8x192, .f32⟩
  | .hbm, ⟨11, _⟩ => ⟨S8x4096x192, .f32⟩
  | .hbm, ⟨12, _⟩ => ⟨S_, .i32⟩
  | .hbm, ⟨13, _⟩ => ⟨S_, .f32⟩
  | .hbm, ⟨14, _⟩ => ⟨S8x4096x256, .f32⟩
  | .hbm, ⟨15, _⟩ => ⟨S8x4096x256, .bf16⟩
  | .hbm, ⟨16, _⟩ => ⟨S4096x8x128, .f32⟩
  | .hbm, ⟨17, _⟩ => ⟨S8x4096x128, .f32⟩
  | .hbm, ⟨18, _⟩ => ⟨S8x4096x128, .bf16⟩
  | .hbm, ⟨19, _⟩ => ⟨S1x8x4096x4096, .f32⟩
  | .hbm, ⟨20, _⟩ => ⟨S_, .f32⟩
  | .hbm, ⟨21, _⟩ => ⟨S1x8x4096x4096, .f32⟩
  | .hbm, ⟨22, _⟩ => ⟨S1x8x4096x4096, .f32⟩
  | .hbm, ⟨23, _⟩ => ⟨S4096, .i32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S1x4096, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S1x8x4096x4096, .i1⟩
  | .hbm, ⟨50, _⟩ => ⟨S1x8x4096x4096, .f32⟩
  | .hbm, ⟨51, _⟩ => ⟨S1x8x4096x4096, .f32⟩
  | .hbm, ⟨52, _⟩ => ⟨S_, .f32⟩
  | .hbm, ⟨53, _⟩ => ⟨S1x8x4096, .f32⟩
  | .hbm, ⟨54, _⟩ => ⟨S1x8x4096x1, .f32⟩
  | .hbm, ⟨55, _⟩ => ⟨S1x8x4096x4096, .f32⟩
  | .hbm, ⟨56, _⟩ => ⟨S1x8x4096x4096, .f32⟩
  | .hbm, ⟨57, _⟩ => ⟨S1x8x4096x4096, .f32⟩
  | .hbm, ⟨58, _⟩ => ⟨S_, .f32⟩
  | .hbm, ⟨59, _⟩ => ⟨S1x8x4096, .f32⟩
  | .hbm, ⟨60, _⟩ => ⟨S1x8x4096x1, .f32⟩
  | .hbm, ⟨61, _⟩ => ⟨S1x8x4096x4096, .f32⟩
  | .hbm, ⟨62, _⟩ => ⟨S1x8x4096x4096, .f32⟩
  | .hbm, ⟨63, _⟩ => ⟨S1x8x128x4096, .f32⟩
  | .hbm, ⟨64, _⟩ => ⟨S1x4096x8x128, .f32⟩
  | .hbm, ⟨65, _⟩ => ⟨S4096x1024, .f32⟩
  | .hbm, ⟨66, _⟩ => ⟨S1x8x4096x1, .f32⟩
  | .hbm, ⟨67, _⟩ => ⟨S1x8x4096x1, .f32⟩
  | .hbm, ⟨68, _⟩ => ⟨S8x4096x1, .f32⟩
  | .hbm, ⟨69, _⟩ => ⟨S4096x1024, .f32⟩
  | .hbm, ⟨70, _⟩ => ⟨S8x4096x256, .f32⟩
  | .hbm, ⟨71, _⟩ => ⟨S8x4096x256, .f32⟩
  | .hbm, ⟨72, _⟩ => ⟨S8x4096x128, .f32⟩
  | .local _ .vmem, ⟨0, _⟩ => ⟨S1x4096x256, .bf16⟩
  | .local _ .vmem, ⟨1, _⟩ => ⟨S1x4096x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S4096x128, .f32⟩
  | .local _ .vmem, ⟨7, _⟩ => ⟨S4096x128, .f32⟩
  | .local _ .vmem, ⟨8, _⟩ => ⟨S1x4096x1, .f32⟩
  | .local _ .vmem, ⟨9, _⟩ => ⟨S1x4096x1, .f32⟩
  | .local _ .vmem, ⟨10, _⟩ => ⟨S4096x128, .f32⟩
  | .local _ .vmem, ⟨11, _⟩ => ⟨S4096x128, .f32⟩
  | .local _ .vmem, ⟨12, _⟩ => ⟨S1x4096x256, .f32⟩
  | .local _ .vmem, ⟨13, _⟩ => ⟨S1x4096x256, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | .local _ .vmem, ⟨18, _⟩ => ⟨S4096x1, .f32⟩
  | _, _ => ⟨S1x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38_0 : Ref sig .tc := ⟨.hbm, 70, rfl⟩
abbrev main_v38_1 : Ref sig .tc := ⟨.hbm, 71, rfl⟩
abbrev main_v38_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_7 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_8 : Index := 0#32
  ![0, v11.toNat, 0]
def k0_off2 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v14 : Index := Scalar.indexCast v10
  let c0_9 : Index := 0#32
  ![v14.toNat, 0]
def k0_off3 (i : grid0.Coords) : Fin 3 → Nat :=
  let c0_14 : Index := 0#32
  let arg1 : BitVec 32 := BitVec.ofNat 32 (i 1).val
  let c512_i32 : BitVec 32 := 512#32
  let v9 : BitVec 32 := Scalar.muli arg1 c512_i32
  let v10 : BitVec 32 := v9
  let v30 : Index := Scalar.indexCast v10
  let c0_15 : Index := 0#32
  ![0, v30.toNat, 0]
def k0_off4 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v37 : Index := Scalar.indexCast v10
  let c0_17 : Index := 0#32
  ![v37.toNat, 0]
@[reducible] def k0_t1_loop (i : grid0.Coords) : Scf.Loop 32 :=
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let c1_i32_27 : BitVec 32 := 1#32
  ⟨v59, v64, c1_i32_27⟩
def k0_mult2 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c1_i32_27 : BitVec 32 := 1#32
  let arg12 : BitVec 32 := Scf.iv v59 c1_i32_27 k0_t1
  let c512_i32_35 : BitVec 32 := 512#32
  let v73 : BitVec 32 := Scalar.muli arg12 c512_i32_35
  v73
def k0_off5 (i : grid0.Coords) (k0_t1 : Fin (k0_t1_loop i).trips) : Fin 3 → Nat :=
  let c0_36 : Index := 0#32
  let arg1 : BitVec 32 := BitVec.ofNat 32 (i 1).val
  let c1_i32 : BitVec 32 := 1#32
  let v59 : BitVec 32 := Scalar.addi arg1 c1_i32
  let c1_i32_27 : BitVec 32 := 1#32
  let arg12 : BitVec 32 := Scf.iv v59 c1_i32_27 k0_t1
  let c512_i32_35 : BitVec 32 := 512#32
  let v73 : BitVec 32 := Scalar.muli arg12 c512_i32_35
  let v74 : BitVec 32 := v73
  let v75 : Index := Scalar.indexCast v74
  let c0_37 : Index := 0#32
  ![0, v75.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c1_i32_27 : BitVec 32 := 1#32
  let arg12 : BitVec 32 := Scf.iv v59 c1_i32_27 k0_t1
  let c512_i32_35 : BitVec 32 := 512#32
  let v73 : BitVec 32 := Scalar.muli arg12 c512_i32_35
  let v74 : BitVec 32 := v73
  let v78 : Index := Scalar.indexCast v74
  let c0_38 : Index := 0#32
  ![v78.toNat, 0]
def k0_off7 (i : grid0.Coords) (k0_t1 : Fin (k0_t1_loop i).trips) : Fin 3 → Nat :=
  let c0_41 : Index := 0#32
  let arg1 : BitVec 32 := BitVec.ofNat 32 (i 1).val
  let c1_i32 : BitVec 32 := 1#32
  let v59 : BitVec 32 := Scalar.addi arg1 c1_i32
  let c1_i32_27 : BitVec 32 := 1#32
  let arg12 : BitVec 32 := Scf.iv v59 c1_i32_27 k0_t1
  let c512_i32_35 : BitVec 32 := 512#32
  let v73 : BitVec 32 := Scalar.muli arg12 c512_i32_35
  let v74 : BitVec 32 := v73
  let v85 : Index := Scalar.indexCast v74
  let c0_42 : Index := 0#32
  ![0, v85.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c1_i32_27 : BitVec 32 := 1#32
  let arg12 : BitVec 32 := Scf.iv v59 c1_i32_27 k0_t1
  let c512_i32_35 : BitVec 32 := 512#32
  let v73 : BitVec 32 := Scalar.muli arg12 c512_i32_35
  let v74 : BitVec 32 := v73
  let v92 : Index := Scalar.indexCast v74
  let c0_44 : Index := 0#32
  ![v92.toNat, 0]
@[reducible] def k0_t2_loop (i : grid0.Coords) : Scf.Loop 32 :=
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let v61 : BitVec 32 := Scalar.addi v59 v60
  let c1_i32_28 : BitVec 32 := 1#32
  ⟨v64, v61, c1_i32_28⟩
def k0_mult3 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let c1_i32_28 : BitVec 32 := 1#32
  let arg12 : BitVec 32 := Scf.iv v64 c1_i32_28 k0_t2
  let c512_i32_35 : BitVec 32 := 512#32
  let v73 : BitVec 32 := Scalar.muli arg12 c512_i32_35
  v73
def k0_off9 (i : grid0.Coords) (k0_t2 : Fin (k0_t2_loop i).trips) : Fin 3 → Nat :=
  let c0_36 : Index := 0#32
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let c1_i32_28 : BitVec 32 := 1#32
  let arg12 : BitVec 32 := Scf.iv v64 c1_i32_28 k0_t2
  let c512_i32_35 : BitVec 32 := 512#32
  let v73 : BitVec 32 := Scalar.muli arg12 c512_i32_35
  let v74 : BitVec 32 := v73
  let v75 : Index := Scalar.indexCast v74
  let c0_37 : Index := 0#32
  ![0, v75.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let c1_i32_28 : BitVec 32 := 1#32
  let arg12 : BitVec 32 := Scf.iv v64 c1_i32_28 k0_t2
  let c512_i32_35 : BitVec 32 := 512#32
  let v73 : BitVec 32 := Scalar.muli arg12 c512_i32_35
  let v74 : BitVec 32 := v73
  let v78 : Index := Scalar.indexCast v74
  let c0_38 : Index := 0#32
  ![v78.toNat, 0]
def k0_off11 (i : grid0.Coords) (k0_t2 : Fin (k0_t2_loop i).trips) : Fin 3 → Nat :=
  let c0_41 : Index := 0#32
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let c1_i32_28 : BitVec 32 := 1#32
  let arg12 : BitVec 32 := Scf.iv v64 c1_i32_28 k0_t2
  let c512_i32_35 : BitVec 32 := 512#32
  let v73 : BitVec 32 := Scalar.muli arg12 c512_i32_35
  let v74 : BitVec 32 := v73
  let v85 : Index := Scalar.indexCast v74
  let c0_42 : Index := 0#32
  ![0, v85.toNat, 0]
def k0_off12 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c8_i32 : BitVec 32 := 8#32
  let v60 : BitVec 32 := Scalar.subi c8_i32 v59
  let c1_i32_26 : BitVec 32 := 1#32
  let v62 : BitVec 32 := Scalar.divsi v60 c1_i32_26
  let v63 : BitVec 32 := Scalar.muli v62 c1_i32_26
  let v64 : BitVec 32 := Scalar.addi v59 v63
  let c1_i32_28 : BitVec 32 := 1#32
  let arg12 : BitVec 32 := Scf.iv v64 c1_i32_28 k0_t2
  let c512_i32_35 : BitVec 32 := 512#32
  let v73 : BitVec 32 := Scalar.muli arg12 c512_i32_35
  let v74 : BitVec 32 := v73
  let v92 : Index := Scalar.indexCast v74
  let c0_44 : Index := 0#32
  ![v92.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x4096x8x192 : Shape := ⟨4, ![1, 4096, 8, 192]⟩
abbrev S1x4096x8x128 : Shape := ⟨4, ![1, 4096, 8, 128]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S8x4096 : Shape := ⟨2, ![8, 4096]⟩
abbrev S1x8x4096x192 : Shape := ⟨4, ![1, 8, 4096, 192]⟩
abbrev S4096x8x192 : Shape := ⟨3, ![4096, 8, 192]⟩
abbrev S8x4096x192 : Shape := ⟨3, ![8, 4096, 192]⟩
abbrev S8x4096x256 : Shape := ⟨3, ![8, 4096, 256]⟩
abbrev S4096x8x128 : Shape := ⟨3, ![4096, 8, 128]⟩
abbrev S8x4096x128 : Shape := ⟨3, ![8, 4096, 128]⟩

abbrev nBuf : Space → Nat
  | .hbm => 120
  | .vmem => 0
  | .smem => 0
  | _ => 0

abbrev bufTy : (tb : Table) → Fin (tcTables nBuf tb) → BufTy
  | .hbm, ⟨0, _⟩ => ⟨S1x4096x8x192, .f32⟩
  | .hbm, ⟨1, _⟩ => ⟨S1x4096x8x192, .f32⟩
  | .hbm, ⟨2, _⟩ => ⟨S1x4096x8x128, .f32⟩
  | .hbm, ⟨3, _⟩ => ⟨S1x4096x8x128, .f32⟩
  | .hbm, ⟨4, _⟩ => ⟨S1x8x4096x4096, .f32⟩
  | .hbm, ⟨5, _⟩ => ⟨S_, .f32⟩
  | .hbm, ⟨6, _⟩ => ⟨S1x8x4096x4096, .f32⟩
  | .hbm, ⟨7, _⟩ => ⟨S1x8x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S1x8x4096x4096, .i1⟩
  | .hbm, ⟨35, _⟩ => ⟨S1x8x4096x4096, .f32⟩
  | .hbm, ⟨36, _⟩ => ⟨S1x8x4096x4096, .f32⟩
  | .hbm, ⟨37, _⟩ => ⟨S_, .f32⟩
  | .hbm, ⟨38, _⟩ => ⟨S1x8x4096x4096, .f32⟩
  | .hbm, ⟨39, _⟩ => ⟨S_, .f32⟩
  | .hbm, ⟨40, _⟩ => ⟨S1x8x4096, .f32⟩
  | .hbm, ⟨41, _⟩ => ⟨S1x8x4096x1, .f32⟩
  | .hbm, ⟨42, _⟩ => ⟨S1x8x4096x4096, .f32⟩
  | .hbm, ⟨43, _⟩ => ⟨S1x8x4096x4096, .i1⟩
  | .hbm, ⟨44, _⟩ => ⟨S1x8x4096x4096, .f32⟩
  | .hbm, ⟨45, _⟩ => ⟨S_, .f32⟩
  | .hbm, ⟨46, _⟩ => ⟨S1x8x4096, .f32⟩
  | .hbm, ⟨47, _⟩ => ⟨S_, .f32⟩
  | .hbm, ⟨48, _⟩ => ⟨S1x8x4096, .f32⟩
  | .hbm, ⟨49, _⟩ => ⟨S1x8x4096, .f32⟩
  | .hbm, ⟨50, _⟩ => ⟨S_, .f32⟩
  | .hbm, ⟨51, _⟩ => ⟨S1x8x4096, .f32⟩
  | .hbm, ⟨52, _⟩ => ⟨S1x8x4096, .i1⟩
  | .hbm, ⟨53, _⟩ => ⟨S_, .f32⟩
  | .hbm, ⟨54, _⟩ => ⟨S1x8x4096, .f32⟩
  | .hbm, ⟨55, _⟩ => ⟨S1x8x4096, .i1⟩
  | .hbm, ⟨56, _⟩ => ⟨S_, .f32⟩
  | .hbm, ⟨57, _⟩ => ⟨S1x8x4096, .f32⟩
  | .hbm, ⟨58, _⟩ => ⟨S_, .f32⟩
  | .hbm, ⟨59, _⟩ => ⟨S1x8x4096, .f32⟩
  | .hbm, ⟨60, _⟩ => ⟨S_, .f32⟩
  | .hbm, ⟨61, _⟩ => ⟨S1x8x4096, .f32⟩
  | .hbm, ⟨62, _⟩ => ⟨S1x8x4096, .f32⟩
  | .hbm, ⟨63, _⟩ => ⟨S1x8x4096, .f32⟩
  | .hbm, ⟨64, _⟩ => ⟨S1x8x4096x1, .f32⟩
  | .hbm, ⟨65, _⟩ => ⟨S1x8x4096x4096, .f32⟩
  | .hbm, ⟨66, _⟩ => ⟨S1x8x4096x4096, .f32⟩
  | .hbm, ⟨67, _⟩ => ⟨S1x8x4096x4096, .f32⟩
  | .hbm, ⟨68, _⟩ => ⟨S_, .f32⟩
  | .hbm, ⟨69, _⟩ => ⟨S1x8x4096, .f32⟩
  | .hbm, ⟨70, _⟩ => ⟨S1x8x4096x1, .f32⟩
  | .hbm, ⟨71, _⟩ => ⟨S1x8x4096x4096, .f32⟩
  | .hbm, ⟨72, _⟩ => ⟨S1x8x4096x4096, .f32⟩
  | .hbm, ⟨73, _⟩ => ⟨S1x8x4096x1, .f32⟩
  | .hbm, ⟨74, _⟩ => ⟨S_, .f32⟩
  | .hbm, ⟨75, _⟩ => ⟨S1x8x4096x1, .f32⟩
  | .hbm, ⟨76, _⟩ => ⟨S1x8x4096x1, .f32⟩
  | .hbm, ⟨77, _⟩ => ⟨S1x8x128x4096, .f32⟩
  | .hbm, ⟨78, _⟩ => ⟨S1x4096x8x128, .f32⟩
  | .hbm, ⟨79, _⟩ => ⟨S1x8x128x4096, .f32⟩
  | .hbm, ⟨80, _⟩ => ⟨S1x8x4096x4096, .f32⟩
  | .hbm, ⟨81, _⟩ => ⟨S1x8x128x4096, .f32⟩
  | .hbm, ⟨82, _⟩ => ⟨S1x4096x8x128, .f32⟩
  | .hbm, ⟨83, _⟩ => ⟨S1x8x4096x4096, .f32⟩
  | .hbm, ⟨84, _⟩ => ⟨S1x8x4096x4096, .f32⟩
  | .hbm, ⟨85, _⟩ => ⟨S1x8x4096x4096, .f32⟩
  | .hbm, ⟨86, _⟩ => ⟨S_, .f32⟩
  | .hbm, ⟨87, _⟩ => ⟨S1x8x4096, .f32⟩
  | .hbm, ⟨88, _⟩ => ⟨S1x8x4096x1, .f32⟩
  | .hbm, ⟨89, _⟩ => ⟨S1x8x4096x1, .f32⟩
  | .hbm, ⟨90, _⟩ => ⟨S1x8x4096x4096, .f32⟩
  | .hbm, ⟨91, _⟩ => ⟨S1x8x4096x4096, .f32⟩
  | .hbm, ⟨92, _⟩ => ⟨S_, .f32⟩
  | .hbm, ⟨93, _⟩ => ⟨S8x4096, .f32⟩
  | .hbm, ⟨94, _⟩ => ⟨S1x8x4096, .f32⟩
  | .hbm, ⟨95, _⟩ => ⟨S1x8x4096x4096, .f32⟩
  | .hbm, ⟨96, _⟩ => ⟨S1x8x4096x4096, .f32⟩
  | .hbm, ⟨97, _⟩ => ⟨S1x8x4096x4096, .f32⟩
  | .hbm, ⟨98, _⟩ => ⟨S_, .f32⟩
  | .hbm, ⟨99, _⟩ => ⟨S1x8x4096x4096, .f32⟩
  | .hbm, ⟨100, _⟩ => ⟨S1x8x4096x4096, .f32⟩
  | .hbm, ⟨101, _⟩ => ⟨S_, .f32⟩
  | .hbm, ⟨102, _⟩ => ⟨S1x8x4096x4096, .f32⟩
  | .hbm, ⟨103, _⟩ => ⟨S1x8x4096x4096, .f32⟩
  | .hbm, ⟨104, _⟩ => ⟨S1x8x4096x192, .f32⟩
  | .hbm, ⟨105, _⟩ => ⟨S1x4096x8x192, .f32⟩
  | .hbm, ⟨106, _⟩ => ⟨S1x8x4096x192, .f32⟩
  | .hbm, ⟨107, _⟩ => ⟨S1x4096x8x192, .f32⟩
  | .hbm, ⟨108, _⟩ => ⟨S4096x8x192, .f32⟩
  | .hbm, ⟨109, _⟩ => ⟨S8x4096x192, .f32⟩
  | .hbm, ⟨110, _⟩ => ⟨S_, .i32⟩
  | .hbm, ⟨111, _⟩ => ⟨S_, .f32⟩
  | .hbm, ⟨112, _⟩ => ⟨S8x4096x256, .f32⟩
  | .hbm, ⟨113, _⟩ => ⟨S4096x8x192, .f32⟩
  | .hbm, ⟨114, _⟩ => ⟨S8x4096x192, .f32⟩
  | .hbm, ⟨115, _⟩ => ⟨S_, .i32⟩
  | .hbm, ⟨116, _⟩ => ⟨S_, .f32⟩
  | .hbm, ⟨117, _⟩ => ⟨S8x4096x256, .f32⟩
  | .hbm, ⟨118, _⟩ => ⟨S4096x8x128, .f32⟩
  | .hbm, ⟨119, _⟩ => ⟨S8x4096x128, .f32⟩
  | _, _ => ⟨S1x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_11 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_14 : Ref sig .tc := ⟨.hbm, 110, rfl⟩
abbrev main_call3_v0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_15 : Ref sig .tc := ⟨.hbm, 115, rfl⟩
abbrev main_call4_v0 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]
-- ==== FfnInDx.lean ====
abbrev S4096x1024 : Shape := ⟨2, ![4096, 1024]⟩
abbrev S1024x5632 : Shape := ⟨2, ![1024, 5632]⟩
abbrev S4096x5632 : Shape := ⟨2, ![4096, 5632]⟩
abbrev S1024x1408 : Shape := ⟨2, ![1024, 1408]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | .hbm, ⟨4, _⟩ => ⟨S1024x5632, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxIdeal.lean ====
abbrev S4096x1024 : Shape := ⟨2, ![4096, 1024]⟩
abbrev S1024x5632 : Shape := ⟨2, ![1024, 5632]⟩
abbrev S4096x5632 : Shape := ⟨2, ![4096, 5632]⟩
abbrev S1024x1408 : Shape := ⟨2, ![1024, 1408]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | .hbm, ⟨4, _⟩ => ⟨S1024x5632, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnInDw.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x1024, .bf16⟩
  | .hbm, ⟨5, _⟩ => ⟨S4096x5632, .bf16⟩
  | .hbm, ⟨6, _⟩ => ⟨S4x1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwIdeal.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x1024, .bf16⟩
  | .hbm, ⟨5, _⟩ => ⟨S4096x5632, .bf16⟩
  | .hbm, ⟨6, _⟩ => ⟨S4x1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S5632x1024 : Shape := ⟨2, ![5632, 1024]⟩
abbrev S1x1024x5632 : Shape := ⟨3, ![1, 1024, 5632]⟩
abbrev S3x1024x5632 : Shape := ⟨3, ![3, 1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S1024x5632, .bf16⟩
  | .hbm, ⟨9, _⟩ => ⟨S1x1024x5632, .bf16⟩
  | .hbm, ⟨10, _⟩ => ⟨S3x1024x5632, .bf16⟩
  | .hbm, ⟨11, _⟩ => ⟨S4x1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnOutDx.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxIdeal.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutDw.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x2816, .bf16⟩
  | .hbm, ⟨5, _⟩ => ⟨S4x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwIdeal.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x2816, .bf16⟩
  | .hbm, ⟨5, _⟩ => ⟨S4x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S1024x2816 : Shape := ⟨2, ![1024, 2816]⟩
abbrev S1x2816x1024 : Shape := ⟨3, ![1, 2816, 1024]⟩
abbrev S3x2816x1024 : Shape := ⟨3, ![3, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S2816x1024, .bf16⟩
  | .hbm, ⟨9, _⟩ => ⟨S1x2816x1024, .bf16⟩
  | .hbm, ⟨10, _⟩ => ⟨S3x2816x1024, .bf16⟩
  | .hbm, ⟨11, _⟩ => ⟨S4x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InDx.lean ====
abbrev S4096x1024 : Shape := ⟨2, ![4096, 1024]⟩
abbrev S1024x9216 : Shape := ⟨2, ![1024, 9216]⟩
abbrev S4096x9216 : Shape := ⟨2, ![4096, 9216]⟩
abbrev S1024x1536 : Shape := ⟨2, ![1024, 1536]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .bf16⟩
  | .hbm, ⟨4, _⟩ => ⟨S1024x9216, .bf16⟩
  | .hbm, ⟨5, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxIdeal.lean ====
abbrev S4096x1024 : Shape := ⟨2, ![4096, 1024]⟩
abbrev S1024x9216 : Shape := ⟨2, ![1024, 9216]⟩
abbrev S4096x9216 : Shape := ⟨2, ![4096, 9216]⟩
abbrev S1024x1536 : Shape := ⟨2, ![1024, 1536]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .bf16⟩
  | .hbm, ⟨4, _⟩ => ⟨S1024x9216, .bf16⟩
  | .hbm, ⟨5, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .f32⟩
  | .hbm, ⟨4, _⟩ => ⟨S9216x1024, .f32⟩
  | .hbm, ⟨5, _⟩ => ⟨S1024x9216, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x1024, .bf16⟩
  | .hbm, ⟨5, _⟩ => ⟨S4096x9216, .bf16⟩
  | .hbm, ⟨6, _⟩ => ⟨S4x1024x9216, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x1024, .bf16⟩
  | .hbm, ⟨5, _⟩ => ⟨S4096x9216, .bf16⟩
  | .hbm, ⟨6, _⟩ => ⟨S4x1024x9216, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S9216x1024 : Shape := ⟨2, ![9216, 1024]⟩
abbrev S1x1024x9216 : Shape := ⟨3, ![1, 1024, 9216]⟩
abbrev S3x1024x9216 : Shape := ⟨3, ![3, 1024, 9216]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x9216, .f32⟩
  | .hbm, ⟨5, _⟩ => ⟨S9216x1024, .f32⟩
  | .hbm, ⟨6, _⟩ => ⟨S1024x9216, .f32⟩
  | .hbm, ⟨7, _⟩ => ⟨S4096x1024, .f32⟩
  | .hbm, ⟨8, _⟩ => ⟨S1024x9216, .bf16⟩
  | .hbm, ⟨9, _⟩ => ⟨S1x1024x9216, .bf16⟩
  | .hbm, ⟨10, _⟩ => ⟨S3x1024x9216, .bf16⟩
  | .hbm, ⟨11, _⟩ => ⟨S4x1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInIdeal.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutIdeal.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InWide.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWideIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWideRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InGate.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SquareDx.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxIdeal.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SquareDw.lean ====
abbrev S4096x1024 : Shape := ⟨2, ![4096, 1024]⟩
abbrev S1024x1024 : Shape := ⟨2, ![1024, 1024]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .bf16⟩
  | .hbm, ⟨5, _⟩ => ⟨S4096x1024, .bf16⟩
  | .hbm, ⟨6, _⟩ => ⟨S4x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwIdeal.lean ====
abbrev S4096x1024 : Shape := ⟨2, ![4096, 1024]⟩
abbrev S1024x1024 : Shape := ⟨2, ![1024, 1024]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .bf16⟩
  | .hbm, ⟨5, _⟩ => ⟨S4096x1024, .bf16⟩
  | .hbm, ⟨6, _⟩ => ⟨S4x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwRefIdeal.lean ====
abbrev S4096x1024 : Shape := ⟨2, ![4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S3x1024x1024 : Shape := ⟨3, ![3, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .bf16⟩
  | .hbm, ⟨9, _⟩ => ⟨S1x1024x1024, .bf16⟩
  | .hbm, ⟨10, _⟩ => ⟨S3x1024x1024, .bf16⟩
  | .hbm, ⟨11, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ResidualDx.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ResidualDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ResidualDw.lean ====
abbrev S4096x1024 : Shape := ⟨2, ![4096, 1024]⟩
abbrev S1024x1024 : Shape := ⟨2, ![1024, 1024]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .bf16⟩
  | .hbm, ⟨5, _⟩ => ⟨S4x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ResidualDwRefIdeal.lean ====
abbrev S4096x1024 : Shape := ⟨2, ![4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S3x1024x1024 : Shape := ⟨3, ![3, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .bf16⟩
  | .hbm, ⟨9, _⟩ => ⟨S1x1024x1024, .bf16⟩
  | .hbm, ⟨10, _⟩ => ⟨S3x1024x1024, .bf16⟩
  | .hbm, ⟨11, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Square.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareIdeal.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Residual.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ResidualRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MlaOutDw.lean ====
abbrev S4096x1024 : Shape := ⟨2, ![4096, 1024]⟩
abbrev S1024x1024 : Shape := ⟨2, ![1024, 1024]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .bf16⟩
  | .hbm, ⟨5, _⟩ => ⟨S4x1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutDwRefIdeal.lean ====
abbrev S4096x1024 : Shape := ⟨2, ![4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S3x1024x1024 : Shape := ⟨3, ![3, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .bf16⟩
  | .hbm, ⟨9, _⟩ => ⟨S1x1024x1024, .bf16⟩
  | .hbm, ⟨10, _⟩ => ⟨S3x1024x1024, .bf16⟩
  | .hbm, ⟨11, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlaOut.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QbDx.lean ====
abbrev S4096x384 : Shape := ⟨2, ![4096, 384]⟩
abbrev S384x2048 : Shape := ⟨2, ![384, 2048]⟩
abbrev S4096x2048 : Shape := ⟨2, ![4096, 2048]⟩
abbrev S1024x2048 : Shape := ⟨2, ![1024, 2048]⟩
abbrev S1024x384 : Shape := ⟨2, ![1024, 384]⟩

abbrev nBuf : Space → Nat
  | .hbm => 6
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | .hbm, ⟨3, _⟩ => ⟨S4096x2048, .bf16⟩
  | .hbm, ⟨4, _⟩ => ⟨S384x2048, .bf16⟩
  | .hbm, ⟨5, _⟩ => ⟨S4096x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDxIdeal.lean ====
abbrev S4096x384 : Shape := ⟨2, ![4096, 384]⟩
abbrev S384x2048 : Shape := ⟨2, ![384, 2048]⟩
abbrev S4096x2048 : Shape := ⟨2, ![4096, 2048]⟩
abbrev S1024x2048 : Shape := ⟨2, ![1024, 2048]⟩
abbrev S1024x384 : Shape := ⟨2, ![1024, 384]⟩

abbrev nBuf : Space → Nat
  | .hbm => 6
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | .hbm, ⟨3, _⟩ => ⟨S4096x2048, .bf16⟩
  | .hbm, ⟨4, _⟩ => ⟨S384x2048, .bf16⟩
  | .hbm, ⟨5, _⟩ => ⟨S4096x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDxRefIdeal.lean ====
abbrev S4096x384 : Shape := ⟨2, ![4096, 384]⟩
abbrev S384x2048 : Shape := ⟨2, ![384, 2048]⟩
abbrev S4096x2048 : Shape := ⟨2, ![4096, 2048]⟩
abbrev S2048x384 : Shape := ⟨2, ![2048, 384]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | .hbm, ⟨3, _⟩ => ⟨S4096x2048, .f32⟩
  | .hbm, ⟨4, _⟩ => ⟨S2048x384, .f32⟩
  | .hbm, ⟨5, _⟩ => ⟨S384x2048, .f32⟩
  | .hbm, ⟨6, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QbDw.lean ====
abbrev S4096x384 : Shape := ⟨2, ![4096, 384]⟩
abbrev S384x2048 : Shape := ⟨2, ![384, 2048]⟩
abbrev S4096x2048 : Shape := ⟨2, ![4096, 2048]⟩
abbrev S4x384x2048 : Shape := ⟨3, ![4, 384, 2048]⟩
abbrev S2048x384 : Shape := ⟨2, ![2048, 384]⟩
abbrev S2048x1024 : Shape := ⟨2, ![2048, 1024]⟩
abbrev S1x384x1024 : Shape := ⟨3, ![1, 384, 1024]⟩
abbrev S384x1024 : Shape := ⟨2, ![384, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | .hbm, ⟨3, _⟩ => ⟨S4x384x2048, .bf16⟩
  | .hbm, ⟨4, _⟩ => ⟨S4096x384, .bf16⟩
  | .hbm, ⟨5, _⟩ => ⟨S4096x2048, .bf16⟩
  | .hbm, ⟨6, _⟩ => ⟨S4x384x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S1x384x1024, .bf16⟩
  | .local _ .vmem, ⟨5, _⟩ => ⟨S1x384x1024, .bf16⟩
  | .local _ .vmem, ⟨6, _⟩ => ⟨S384x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDwIdeal.lean ====
abbrev S4096x384 : Shape := ⟨2, ![4096, 384]⟩
abbrev S384x2048 : Shape := ⟨2, ![384, 2048]⟩
abbrev S4096x2048 : Shape := ⟨2, ![4096, 2048]⟩
abbrev S4x384x2048 : Shape := ⟨3, ![4, 384, 2048]⟩
abbrev S2048x384 : Shape := ⟨2, ![2048, 384]⟩
abbrev S2048x1024 : Shape := ⟨2, ![2048, 1024]⟩
abbrev S1x384x1024 : Shape := ⟨3, ![1, 384, 1024]⟩
abbrev S384x1024 : Shape := ⟨2, ![384, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | .hbm, ⟨3, _⟩ => ⟨S4x384x2048, .bf16⟩
  | .hbm, ⟨4, _⟩ => ⟨S4096x384, .bf16⟩
  | .hbm, ⟨5, _⟩ => ⟨S4096x2048, .bf16⟩
  | .hbm, ⟨6, _⟩ => ⟨S4x384x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S1x384x1024, .bf16⟩
  | .local _ .vmem, ⟨5, _⟩ => ⟨S1x384x1024, .bf16⟩
  | .local _ .vmem, ⟨6, _⟩ => ⟨S384x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDwRefIdeal.lean ====
abbrev S4096x384 : Shape := ⟨2, ![4096, 384]⟩
abbrev S384x2048 : Shape := ⟨2, ![384, 2048]⟩
abbrev S4096x2048 : Shape := ⟨2, ![4096, 2048]⟩
abbrev S4x384x2048 : Shape := ⟨3, ![4, 384, 2048]⟩
abbrev S2048x384 : Shape := ⟨2, ![2048, 384]⟩
abbrev S1x384x2048 : Shape := ⟨3, ![1, 384, 2048]⟩
abbrev S3x384x2048 : Shape := ⟨3, ![3, 384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | .hbm, ⟨3, _⟩ => ⟨S4x384x2048, .bf16⟩
  | .hbm, ⟨4, _⟩ => ⟨S4096x2048, .f32⟩
  | .hbm, ⟨5, _⟩ => ⟨S2048x384, .f32⟩
  | .hbm, ⟨6, _⟩ => ⟨S384x2048, .f32⟩
  | .hbm, ⟨7, _⟩ => ⟨S4096x384, .f32⟩
  | .hbm, ⟨8, _⟩ => ⟨S384x2048, .bf16⟩
  | .hbm, ⟨9, _⟩ => ⟨S1x384x2048, .bf16⟩
  | .hbm, ⟨10, _⟩ => ⟨S3x384x2048, .bf16⟩
  | .hbm, ⟨11, _⟩ => ⟨S4x384x2048, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KvbDx.lean ====
abbrev S4096x256 : Shape := ⟨2, ![4096, 256]⟩
abbrev S256x2048 : Shape := ⟨2, ![256, 2048]⟩
abbrev S4096x2048 : Shape := ⟨2, ![4096, 2048]⟩
abbrev S1024x2048 : Shape := ⟨2, ![1024, 2048]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .bf16⟩
  | .hbm, ⟨4, _⟩ => ⟨S256x2048, .bf16⟩
  | .hbm, ⟨5, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbDxIdeal.lean ====
abbrev S4096x256 : Shape := ⟨2, ![4096, 256]⟩
abbrev S256x2048 : Shape := ⟨2, ![256, 2048]⟩
abbrev S4096x2048 : Shape := ⟨2, ![4096, 2048]⟩
abbrev S1024x2048 : Shape := ⟨2, ![1024, 2048]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .bf16⟩
  | .hbm, ⟨4, _⟩ => ⟨S256x2048, .bf16⟩
  | .hbm, ⟨5, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbDxRefIdeal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S2048x256, .f32⟩
  | .hbm, ⟨5, _⟩ => ⟨S256x2048, .f32⟩
  | .hbm, ⟨6, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvbDw.lean ====
abbrev S4096x256 : Shape := ⟨2, ![4096, 256]⟩
abbrev S256x2048 : Shape := ⟨2, ![256, 2048]⟩
abbrev S4096x2048 : Shape := ⟨2, ![4096, 2048]⟩
abbrev S4x256x2048 : Shape := ⟨3, ![4, 256, 2048]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4x256x2048, .bf16⟩
  | .hbm, ⟨4, _⟩ => ⟨S4096x256, .bf16⟩
  | .hbm, ⟨5, _⟩ => ⟨S4096x2048, .bf16⟩
  | .hbm, ⟨6, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbDwIdeal.lean ====
abbrev S4096x256 : Shape := ⟨2, ![4096, 256]⟩
abbrev S256x2048 : Shape := ⟨2, ![256, 2048]⟩
abbrev S4096x2048 : Shape := ⟨2, ![4096, 2048]⟩
abbrev S4x256x2048 : Shape := ⟨3, ![4, 256, 2048]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4x256x2048, .bf16⟩
  | .hbm, ⟨4, _⟩ => ⟨S4096x256, .bf16⟩
  | .hbm, ⟨5, _⟩ => ⟨S4096x2048, .bf16⟩
  | .hbm, ⟨6, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbDwRefIdeal.lean ====
abbrev S4096x256 : Shape := ⟨2, ![4096, 256]⟩
abbrev S256x2048 : Shape := ⟨2, ![256, 2048]⟩
abbrev S4096x2048 : Shape := ⟨2, ![4096, 2048]⟩
abbrev S4x256x2048 : Shape := ⟨3, ![4, 256, 2048]⟩
abbrev S2048x256 : Shape := ⟨2, ![2048, 256]⟩
abbrev S1x256x2048 : Shape := ⟨3, ![1, 256, 2048]⟩
abbrev S3x256x2048 : Shape := ⟨3, ![3, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4x256x2048, .bf16⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S4096x256, .f32⟩
  | .hbm, ⟨8, _⟩ => ⟨S256x2048, .bf16⟩
  | .hbm, ⟨9, _⟩ => ⟨S1x256x2048, .bf16⟩
  | .hbm, ⟨10, _⟩ => ⟨S3x256x2048, .bf16⟩
  | .hbm, ⟨11, _⟩ => ⟨S4x256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== CrossDx.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S256x2048, .bf16⟩
  | .hbm, ⟨4, _⟩ => ⟨S1024x2048, .bf16⟩
  | .hbm, ⟨5, _⟩ => ⟨S256x1024, .f32⟩
  | .local _ .vmem, ⟨0, _⟩ => ⟨S256x2048, .bf16⟩
  | .local _ .vmem, ⟨1, _⟩ => ⟨S1024x2048, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CrossDxRefIdeal.lean ====
abbrev S256x1024 : Shape := ⟨2, ![256, 1024]⟩
abbrev S1024x2048 : Shape := ⟨2, ![1024, 2048]⟩
abbrev S256x2048 : Shape := ⟨2, ![256, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S256x2048, .f32⟩
  | .hbm, ⟨4, _⟩ => ⟨S2048x1024, .f32⟩
  | .hbm, ⟨5, _⟩ => ⟨S1024x2048, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossDw.lean ====
abbrev S256x1024 : Shape := ⟨2, ![256, 1024]⟩
abbrev S1024x2048 : Shape := ⟨2, ![1024, 2048]⟩
abbrev S256x2048 : Shape := ⟨2, ![256, 2048]⟩
abbrev S4x1024x2048 : Shape := ⟨3, ![4, 1024, 2048]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S4x1024x2048, .bf16⟩
  | .hbm, ⟨4, _⟩ => ⟨S256x1024, .bf16⟩
  | .hbm, ⟨5, _⟩ => ⟨S256x2048, .bf16⟩
  | .hbm, ⟨6, _⟩ => ⟨S4x1024x2048, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S1x512x1024, .bf16⟩
  | .local _ .vmem, ⟨5, _⟩ => ⟨S1x512x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossDwRefIdeal.lean ====
abbrev S256x1024 : Shape := ⟨2, ![256, 1024]⟩
abbrev S1024x2048 : Shape := ⟨2, ![1024, 2048]⟩
abbrev S256x2048 : Shape := ⟨2, ![256, 2048]⟩
abbrev S4x1024x2048 : Shape := ⟨3, ![4, 1024, 2048]⟩
abbrev S2048x1024 : Shape := ⟨2, ![2048, 1024]⟩
abbrev S1x1024x2048 : Shape := ⟨3, ![1, 1024, 2048]⟩
abbrev S3x1024x2048 : Shape := ⟨3, ![3, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S4x1024x2048, .bf16⟩
  | .hbm, ⟨4, _⟩ => ⟨S256x2048, .f32⟩
  | .hbm, ⟨5, _⟩ => ⟨S2048x1024, .f32⟩
  | .hbm, ⟨6, _⟩ => ⟨S1024x2048, .f32⟩
  | .hbm, ⟨7, _⟩ => ⟨S256x1024, .f32⟩
  | .hbm, ⟨8, _⟩ => ⟨S1024x2048, .bf16⟩
  | .hbm, ⟨9, _⟩ => ⟨S1x1024x2048, .bf16⟩
  | .hbm, ⟨10, _⟩ => ⟨S3x1024x2048, .bf16⟩
  | .hbm, ⟨11, _⟩ => ⟨S4x1024x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Qb.lean ====
abbrev S4096x384 : Shape := ⟨2, ![4096, 384]⟩
abbrev S384x2048 : Shape := ⟨2, ![384, 2048]⟩
abbrev S4096x2048 : Shape := ⟨2, ![4096, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x384, .bf16⟩
  | .hbm, ⟨3, _⟩ => ⟨S384x2048, .bf16⟩
  | .hbm, ⟨4, _⟩ => ⟨S4096x2048, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbIdeal.lean ====
abbrev S4096x384 : Shape := ⟨2, ![4096, 384]⟩
abbrev S384x2048 : Shape := ⟨2, ![384, 2048]⟩
abbrev S4096x2048 : Shape := ⟨2, ![4096, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x384, .bf16⟩
  | .hbm, ⟨3, _⟩ => ⟨S384x2048, .bf16⟩
  | .hbm, ⟨4, _⟩ => ⟨S4096x2048, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbRefIdeal.lean ====
abbrev S4096x384 : Shape := ⟨2, ![4096, 384]⟩
abbrev S384x2048 : Shape := ⟨2, ![384, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x2048, .f32⟩
  | .hbm, ⟨2, _⟩ => ⟨S4096x2048, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kvb.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbIdeal.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Cross.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x1024, .bf16⟩
  | .hbm, ⟨3, _⟩ => ⟨S1024x2048, .bf16⟩
  | .hbm, ⟨4, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossIdeal.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x1024, .bf16⟩
  | .hbm, ⟨3, _⟩ => ⟨S1024x2048, .bf16⟩
  | .hbm, ⟨4, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InLatent.lean ====
abbrev S4096x1024 : Shape := ⟨2, ![4096, 1024]⟩
abbrev S1024x384 : Shape := ⟨2, ![1024, 384]⟩
abbrev S4096x384 : Shape := ⟨2, ![4096, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x1024, .bf16⟩
  | .hbm, ⟨3, _⟩ => ⟨S1024x384, .bf16⟩
  | .hbm, ⟨4, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InLatentIdeal.lean ====
abbrev S4096x1024 : Shape := ⟨2, ![4096, 1024]⟩
abbrev S1024x384 : Shape := ⟨2, ![1024, 384]⟩
abbrev S4096x384 : Shape := ⟨2, ![4096, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x1024, .bf16⟩
  | .hbm, ⟨3, _⟩ => ⟨S1024x384, .bf16⟩
  | .hbm, ⟨4, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InLatentRefIdeal.lean ====
abbrev S4096x1024 : Shape := ⟨2, ![4096, 1024]⟩
abbrev S1024x384 : Shape := ⟨2, ![1024, 384]⟩
abbrev S4096x384 : Shape := ⟨2, ![4096, 384]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InKv.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x1024, .bf16⟩
  | .hbm, ⟨3, _⟩ => ⟨S1024x256, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InKvIdeal.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x1024, .bf16⟩
  | .hbm, ⟨3, _⟩ => ⟨S1024x256, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InKvRefIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InNarrow.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x1024, .bf16⟩
  | .hbm, ⟨3, _⟩ => ⟨S1024x128, .bf16⟩
  | .hbm, ⟨4, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InNarrowRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== XattnOut.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XattnOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XattnOutDw.lean ====
abbrev S4096x1024 : Shape := ⟨2, ![4096, 1024]⟩
abbrev S1024x1024 : Shape := ⟨2, ![1024, 1024]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4x1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XattnOutDwRefIdeal.lean ====
abbrev S4096x1024 : Shape := ⟨2, ![4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S3x1024x1024 : Shape := ⟨3, ![3, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024x1024, .bf16⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .bf16⟩
  | .hbm, ⟨9, _⟩ => ⟨S1x1024x1024, .bf16⟩
  | .hbm, ⟨10, _⟩ => ⟨S3x1024x1024, .bf16⟩
  | .hbm, ⟨11, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InDwLayer1.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x1024, .bf16⟩
  | .hbm, ⟨5, _⟩ => ⟨S4096x9216, .bf16⟩
  | .hbm, ⟨6, _⟩ => ⟨S4x1024x9216, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwLayer1Ideal.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x1024, .bf16⟩
  | .hbm, ⟨5, _⟩ => ⟨S4096x9216, .bf16⟩
  | .hbm, ⟨6, _⟩ => ⟨S4x1024x9216, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwLayer1RefIdeal.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S9216x1024 : Shape := ⟨2, ![9216, 1024]⟩
abbrev S4 : Shape := ⟨1, ![4]⟩
abbrev S_ : Shape := ⟨0, ![]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x9216, .f32⟩
  | .hbm, ⟨5, _⟩ => ⟨S9216x1024, .f32⟩
  | .hbm, ⟨6, _⟩ => ⟨S1024x9216, .f32⟩
  | .hbm, ⟨7, _⟩ => ⟨S4096x1024, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S1024x9216, .bf16⟩
  | .hbm, ⟨14, _⟩ => ⟨S4x1024x9216, .i1⟩
  | .hbm, ⟨15, _⟩ => ⟨S4x1024x9216, .bf16⟩
  | .hbm, ⟨16, _⟩ => ⟨S4x1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== FfnInDwLayer1.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x1024, .bf16⟩
  | .hbm, ⟨5, _⟩ => ⟨S4096x5632, .bf16⟩
  | .hbm, ⟨6, _⟩ => ⟨S4x1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwLayer1Ideal.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x1024, .bf16⟩
  | .hbm, ⟨5, _⟩ => ⟨S4096x5632, .bf16⟩
  | .hbm, ⟨6, _⟩ => ⟨S4x1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwLayer1RefIdeal.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S5632x1024 : Shape := ⟨2, ![5632, 1024]⟩
abbrev S4 : Shape := ⟨1, ![4]⟩
abbrev S_ : Shape := ⟨0, ![]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S1024x5632, .bf16⟩
  | .hbm, ⟨14, _⟩ => ⟨S4x1024x5632, .i1⟩
  | .hbm, ⟨15, _⟩ => ⟨S4x1024x5632, .bf16⟩
  | .hbm, ⟨16, _⟩ => ⟨S4x1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== FfnOutDwLayer1.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x2816, .bf16⟩
  | .hbm, ⟨5, _⟩ => ⟨S4x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwLayer1Ideal.lean ====
  let c1_i32 : BitVec 32 := 1#32
  ![c1_i32.toNat, arg0.toNat, arg1.toNat]
-- ==== FfnOutDwLayer1RefIdeal.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S1024x2816 : Shape := ⟨2, ![1024, 2816]⟩
abbrev S4 : Shape := ⟨1, ![4]⟩
abbrev S_ : Shape := ⟨0, ![]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S2816x1024, .bf16⟩
  | .hbm, ⟨14, _⟩ => ⟨S4x2816x1024, .i1⟩
  | .hbm, ⟨15, _⟩ => ⟨S4x2816x1024, .bf16⟩
  | .hbm, ⟨16, _⟩ => ⟨S4x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== InDwLayer2.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x1024, .bf16⟩
  | .hbm, ⟨5, _⟩ => ⟨S4096x9216, .bf16⟩
  | .hbm, ⟨6, _⟩ => ⟨S4x1024x9216, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwLayer2Ideal.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x1024, .bf16⟩
  | .hbm, ⟨5, _⟩ => ⟨S4096x9216, .bf16⟩
  | .hbm, ⟨6, _⟩ => ⟨S4x1024x9216, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwLayer2RefIdeal.lean ====
abbrev S4096x1024 : Shape := ⟨2, ![4096, 1024]⟩
abbrev S1024x9216 : Shape := ⟨2, ![1024, 9216]⟩
abbrev S4096x9216 : Shape := ⟨2, ![4096, 9216]⟩
abbrev S4x1024x9216 : Shape := ⟨3, ![4, 1024, 9216]⟩
abbrev S9216x1024 : Shape := ⟨2, ![9216, 1024]⟩
abbrev S4 : Shape := ⟨1, ![4]⟩
abbrev S_ : Shape := ⟨0, ![]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4x1024x9216, .bf16⟩
  | .hbm, ⟨4, _⟩ => ⟨S4096x9216, .f32⟩
  | .hbm, ⟨5, _⟩ => ⟨S9216x1024, .f32⟩
  | .hbm, ⟨6, _⟩ => ⟨S1024x9216, .f32⟩
  | .hbm, ⟨7, _⟩ => ⟨S4096x1024, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S1024x9216, .bf16⟩
  | .hbm, ⟨14, _⟩ => ⟨S4x1024x9216, .i1⟩
  | .hbm, ⟨15, _⟩ => ⟨S4x1024x9216, .bf16⟩
  | .hbm, ⟨16, _⟩ => ⟨S4x1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== FfnInDwLayer2.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x1024, .bf16⟩
  | .hbm, ⟨5, _⟩ => ⟨S4096x5632, .bf16⟩
  | .hbm, ⟨6, _⟩ => ⟨S4x1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwLayer2Ideal.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x1024, .bf16⟩
  | .hbm, ⟨5, _⟩ => ⟨S4096x5632, .bf16⟩
  | .hbm, ⟨6, _⟩ => ⟨S4x1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwLayer2RefIdeal.lean ====
abbrev S4096x1024 : Shape := ⟨2, ![4096, 1024]⟩
abbrev S1024x5632 : Shape := ⟨2, ![1024, 5632]⟩
abbrev S4096x5632 : Shape := ⟨2, ![4096, 5632]⟩
abbrev S4x1024x5632 : Shape := ⟨3, ![4, 1024, 5632]⟩
abbrev S5632x1024 : Shape := ⟨2, ![5632, 1024]⟩
abbrev S4 : Shape := ⟨1, ![4]⟩
abbrev S_ : Shape := ⟨0, ![]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4x1024x5632, .bf16⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S1024x5632, .bf16⟩
  | .hbm, ⟨14, _⟩ => ⟨S4x1024x5632, .i1⟩
  | .hbm, ⟨15, _⟩ => ⟨S4x1024x5632, .bf16⟩
  | .hbm, ⟨16, _⟩ => ⟨S4x1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== FfnOutDwLayer2.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x2816, .bf16⟩
  | .hbm, ⟨5, _⟩ => ⟨S4x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwLayer2RefIdeal.lean ====
abbrev S4096x2816 : Shape := ⟨2, ![4096, 2816]⟩
abbrev S2816x1024 : Shape := ⟨2, ![2816, 1024]⟩
abbrev S4096x1024 : Shape := ⟨2, ![4096, 1024]⟩
abbrev S4x2816x1024 : Shape := ⟨3, ![4, 2816, 1024]⟩
abbrev S1024x2816 : Shape := ⟨2, ![1024, 2816]⟩
abbrev S4 : Shape := ⟨1, ![4]⟩
abbrev S_ : Shape := ⟨0, ![]⟩
abbrev S4x1x1 : Shape := ⟨3, ![4, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x2816x1024, .bf16⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S2816x1024, .bf16⟩
  | .hbm, ⟨14, _⟩ => ⟨S4x2816x1024, .i1⟩
  | .hbm, ⟨15, _⟩ => ⟨S4x2816x1024, .bf16⟩
  | .hbm, ⟨16, _⟩ => ⟨S4x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== AdamIn.lean ====
abbrev S4096x2228 : Shape := ⟨2, ![4096, 2228]⟩
abbrev S256x2228 : Shape := ⟨2, ![256, 2228]⟩

abbrev nBuf : Space → Nat
  | .hbm => 7
  | .vmem => 14
  | .smem => 0
  | _ => 0

abbrev bufTy : (tb : Table) → Fin (tcTables nBuf tb) → BufTy
  | .hbm, ⟨0, _⟩ => ⟨S4096x2228, .f32⟩
  | .hbm, ⟨1, _⟩ => ⟨S4096x2228, .f32⟩
  | .hbm, ⟨2, _⟩ => ⟨S4096x2228, .f32⟩
  | .hbm, ⟨3, _⟩ => ⟨S4096x2228, .f32⟩
  | .hbm, ⟨4, _⟩ => ⟨S4096x2228, .f32⟩
  | .hbm, ⟨5, _⟩ => ⟨S4096x2228, .f32⟩
  | .hbm, ⟨6, _⟩ => ⟨S4096x2228, .f32⟩
  | .local _ .vmem, ⟨0, _⟩ => ⟨S256x2228, .f32⟩
  | .local _ .vmem, ⟨1, _⟩ => ⟨S256x2228, .f32⟩
  | .local _ .vmem, ⟨2, _⟩ => ⟨S256x2228, .f32⟩
  | .local _ .vmem, ⟨3, _⟩ => ⟨S256x2228, .f32⟩
  | .local _ .vmem, ⟨4, _⟩ => ⟨S256x2228, .f32⟩
  | .local _ .vmem, ⟨5, _⟩ => ⟨S256x2228, .f32⟩
  | .local _ .vmem, ⟨6, _⟩ => ⟨S256x2228, .f32⟩
  | .local _ .vmem, ⟨7, _⟩ => ⟨S256x2228, .f32⟩
  | .local _ .vmem, ⟨8, _⟩ => ⟨S256x2228, .f32⟩
  | .local _ .vmem, ⟨9, _⟩ => ⟨S256x2228, .f32⟩
  | .local _ .vmem, ⟨10, _⟩ => ⟨S256x2228, .f32⟩
  | .local _ .vmem, ⟨11, _⟩ => ⟨S256x2228, .f32⟩
  | .local _ .vmem, ⟨12, _⟩ => ⟨S256x2228, .f32⟩
  | .local _ .vmem, ⟨13, _⟩ => ⟨S256x2228, .f32⟩
  | _, _ => ⟨S4096x2228, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2228 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2228 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2228 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2228 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2228 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2228 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2228 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4096x2228 : Shape := ⟨2, ![4096, 2228]⟩
abbrev S256x2228 : Shape := ⟨2, ![256, 2228]⟩

abbrev nBuf : Space → Nat
  | .hbm => 7
  | .vmem => 14
  | .smem => 0
  | _ => 0

abbrev bufTy : (tb : Table) → Fin (tcTables nBuf tb) → BufTy
  | .hbm, ⟨0, _⟩ => ⟨S4096x2228, .f32⟩
  | .hbm, ⟨1, _⟩ => ⟨S4096x2228, .f32⟩
  | .hbm, ⟨2, _⟩ => ⟨S4096x2228, .f32⟩
  | .hbm, ⟨3, _⟩ => ⟨S4096x2228, .f32⟩
  | .hbm, ⟨4, _⟩ => ⟨S4096x2228, .f32⟩
  | .hbm, ⟨5, _⟩ => ⟨S4096x2228, .f32⟩
  | .hbm, ⟨6, _⟩ => ⟨S4096x2228, .f32⟩
  | .local _ .vmem, ⟨0, _⟩ => ⟨S256x2228, .f32⟩
  | .local _ .vmem, ⟨1, _⟩ => ⟨S256x2228, .f32⟩
  | .local _ .vmem, ⟨2, _⟩ => ⟨S256x2228, .f32⟩
  | .local _ .vmem, ⟨3, _⟩ => ⟨S256x2228, .f32⟩
  | .local _ .vmem, ⟨4, _⟩ => ⟨S256x2228, .f32⟩
  | .local _ .vmem, ⟨5, _⟩ => ⟨S256x2228, .f32⟩
  | .local _ .vmem, ⟨6, _⟩ => ⟨S256x2228, .f32⟩
  | .local _ .vmem, ⟨7, _⟩ => ⟨S256x2228, .f32⟩
  | .local _ .vmem, ⟨8, _⟩ => ⟨S256x2228, .f32⟩
  | .local _ .vmem, ⟨9, _⟩ => ⟨S256x2228, .f32⟩
  | .local _ .vmem, ⟨10, _⟩ => ⟨S256x2228, .f32⟩
  | .local _ .vmem, ⟨11, _⟩ => ⟨S256x2228, .f32⟩
  | .local _ .vmem, ⟨12, _⟩ => ⟨S256x2228, .f32⟩
  | .local _ .vmem, ⟨13, _⟩ => ⟨S256x2228, .f32⟩
  | _, _ => ⟨S4096x2228, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2228 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2228 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2228 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2228 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2228 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2228 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2228 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4096x2228 : Shape := ⟨2, ![4096, 2228]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2228, .f32⟩
  | .hbm, ⟨1, _⟩ => ⟨S4096x2228, .f32⟩
  | .hbm, ⟨2, _⟩ => ⟨S4096x2228, .f32⟩
  | .hbm, ⟨3, _⟩ => ⟨S4096x2228, .f32⟩
  | .hbm, ⟨4, _⟩ => ⟨S_, .f32⟩
  | .hbm, ⟨5, _⟩ => ⟨S4096x2228, .f32⟩
  | .hbm, ⟨6, _⟩ => ⟨S4096x2228, .f32⟩
  | .hbm, ⟨7, _⟩ => ⟨S_, .f32⟩
  | .hbm, ⟨8, _⟩ => ⟨S4096x2228, .f32⟩
  | .hbm, ⟨9, _⟩ => ⟨S4096x2228, .f32⟩
  | .hbm, ⟨10, _⟩ => ⟨S4096x2228, .f32⟩
  | .hbm, ⟨11, _⟩ => ⟨S_, .f32⟩
  | .hbm, ⟨12, _⟩ => ⟨S4096x2228, .f32⟩
  | .hbm, ⟨13, _⟩ => ⟨S4096x2228, .f32⟩
  | .hbm, ⟨14, _⟩ => ⟨S4096x2228, .f32⟩
  | .hbm, ⟨15, _⟩ => ⟨S_, .f32⟩
  | .hbm, ⟨16, _⟩ => ⟨S4096x2228, .f32⟩
  | .hbm, ⟨17, _⟩ => ⟨S4096x2228, .f32⟩
  | .hbm, ⟨18, _⟩ => ⟨S4096x2228, .f32⟩
  | .hbm, ⟨19, _⟩ => ⟨S_, .f32⟩
  | .hbm, ⟨20, _⟩ => ⟨S4096x2228, .f32⟩
  | .hbm, ⟨21, _⟩ => ⟨S4096x2228, .f32⟩
  | .hbm, ⟨22, _⟩ => ⟨S_, .f32⟩
  | .hbm, ⟨23, _⟩ => ⟨S4096x2228, .f32⟩
  | .hbm, ⟨24, _⟩ => ⟨S4096x2228, .f32⟩
  | .hbm, ⟨25, _⟩ => ⟨S4096x2228, .f32⟩
  | .hbm, ⟨26, _⟩ => ⟨S_, .f32⟩
  | .hbm, ⟨27, _⟩ => ⟨S4096x2228, .f32⟩
  | .hbm, ⟨28, _⟩ => ⟨S4096x2228, .f32⟩
  | .hbm, ⟨29, _⟩ => ⟨S4096x2228, .f32⟩
  | .hbm, ⟨30, _⟩ => ⟨S_, .f32⟩
  | .hbm, ⟨31, _⟩ => ⟨S4096x2228, .f32⟩
  | .hbm, ⟨32, _⟩ => ⟨S4096x2228, .f32⟩
  | .hbm, ⟨33, _⟩ => ⟨S4096x2228, .f32⟩
  | .hbm, ⟨34, _⟩ => ⟨S_, .f32⟩
  | .hbm, ⟨35, _⟩ => ⟨S4096x2228, .f32⟩
  | .hbm, ⟨36, _⟩ => ⟨S4096x2228, .f32⟩
  | _, _ => ⟨S4096x2228, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S1536x384 : Shape := ⟨2, ![1536, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1536x384, .f32⟩
  | .hbm, ⟨1, _⟩ => ⟨S1536x384, .f32⟩
  | .hbm, ⟨2, _⟩ => ⟨S1536x384, .f32⟩
  | .hbm, ⟨3, _⟩ => ⟨S1536x384, .f32⟩
  | .hbm, ⟨4, _⟩ => ⟨S1536x384, .f32⟩
  | .hbm, ⟨5, _⟩ => ⟨S1536x384, .f32⟩
  | .hbm, ⟨6, _⟩ => ⟨S1536x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1536x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQIdeal.lean ====
abbrev S1536x384 : Shape := ⟨2, ![1536, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1536x384, .f32⟩
  | .hbm, ⟨1, _⟩ => ⟨S1536x384, .f32⟩
  | .hbm, ⟨2, _⟩ => ⟨S1536x384, .f32⟩
  | .hbm, ⟨3, _⟩ => ⟨S1536x384, .f32⟩
  | .hbm, ⟨4, _⟩ => ⟨S1536x384, .f32⟩
  | .hbm, ⟨5, _⟩ => ⟨S1536x384, .f32⟩
  | .hbm, ⟨6, _⟩ => ⟨S1536x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1536x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQRefIdeal.lean ====
abbrev S1536x384 : Shape := ⟨2, ![1536, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x384, .f32⟩
  | .hbm, ⟨1, _⟩ => ⟨S1536x384, .f32⟩
  | .hbm, ⟨2, _⟩ => ⟨S1536x384, .f32⟩
  | .hbm, ⟨3, _⟩ => ⟨S1536x384, .f32⟩
  | .hbm, ⟨4, _⟩ => ⟨S_, .f32⟩
  | .hbm, ⟨5, _⟩ => ⟨S1536x384, .f32⟩
  | .hbm, ⟨6, _⟩ => ⟨S1536x384, .f32⟩
  | .hbm, ⟨7, _⟩ => ⟨S_, .f32⟩
  | .hbm, ⟨8, _⟩ => ⟨S1536x384, .f32⟩
  | .hbm, ⟨9, _⟩ => ⟨S1536x384, .f32⟩
  | .hbm, ⟨10, _⟩ => ⟨S1536x384, .f32⟩
  | .hbm, ⟨11, _⟩ => ⟨S_, .f32⟩
  | .hbm, ⟨12, _⟩ => ⟨S1536x384, .f32⟩
  | .hbm, ⟨13, _⟩ => ⟨S1536x384, .f32⟩
  | .hbm, ⟨14, _⟩ => ⟨S1536x384, .f32⟩
  | .hbm, ⟨15, _⟩ => ⟨S_, .f32⟩
  | .hbm, ⟨16, _⟩ => ⟨S1536x384, .f32⟩
  | .hbm, ⟨17, _⟩ => ⟨S1536x384, .f32⟩
  | .hbm, ⟨18, _⟩ => ⟨S1536x384, .f32⟩
  | .hbm, ⟨19, _⟩ => ⟨S_, .f32⟩
  | .hbm, ⟨20, _⟩ => ⟨S1536x384, .f32⟩
  | .hbm, ⟨21, _⟩ => ⟨S1536x384, .f32⟩
  | .hbm, ⟨22, _⟩ => ⟨S_, .f32⟩
  | .hbm, ⟨23, _⟩ => ⟨S1536x384, .f32⟩
  | .hbm, ⟨24, _⟩ => ⟨S1536x384, .f32⟩
  | .hbm, ⟨25, _⟩ => ⟨S1536x384, .f32⟩
  | .hbm, ⟨26, _⟩ => ⟨S_, .f32⟩
  | .hbm, ⟨27, _⟩ => ⟨S1536x384, .f32⟩
  | .hbm, ⟨28, _⟩ => ⟨S1536x384, .f32⟩
  | .hbm, ⟨29, _⟩ => ⟨S1536x384, .f32⟩
  | .hbm, ⟨30, _⟩ => ⟨S_, .f32⟩
  | .hbm, ⟨31, _⟩ => ⟨S1536x384, .f32⟩
  | .hbm, ⟨32, _⟩ => ⟨S1536x384, .f32⟩
  | .hbm, ⟨33, _⟩ => ⟨S1536x384, .f32⟩
  | .hbm, ⟨34, _⟩ => ⟨S_, .f32⟩
  | .hbm, ⟨35, _⟩ => ⟨S1536x384, .f32⟩
  | .hbm, ⟨36, _⟩ => ⟨S1536x384, .f32⟩
  | _, _ => ⟨S1536x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvIdeal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCross.lean ====
abbrev S4096x512 : Shape := ⟨2, ![4096, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCrossIdeal.lean ====
abbrev S4096x512 : Shape := ⟨2, ![4096, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCrossRefIdeal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInIdeal.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareIdeal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdConv.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvIdeal.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvRefIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S124x256 : Shape := ⟨2, ![124, 256]⟩

abbrev nBuf : Space → Nat
  | .hbm => 7
  | .vmem => 7
  | .smem => 0
  | _ => 0

abbrev bufTy : (tb : Table) → Fin (tcTables nBuf tb) → BufTy
  | .hbm, ⟨0, _⟩ => ⟨S124x256, .f32⟩
  | .hbm, ⟨1, _⟩ => ⟨S124x256, .f32⟩
  | .hbm, ⟨2, _⟩ => ⟨S124x256, .f32⟩
  | .hbm, ⟨3, _⟩ => ⟨S124x256, .f32⟩
  | .hbm, ⟨4, _⟩ => ⟨S124x256, .f32⟩
  | .hbm, ⟨5, _⟩ => ⟨S124x256, .f32⟩
  | .hbm, ⟨6, _⟩ => ⟨S124x256, .f32⟩
  | .local _ .vmem, ⟨0, _⟩ => ⟨S124x256, .f32⟩
  | .local _ .vmem, ⟨1, _⟩ => ⟨S124x256, .f32⟩
  | .local _ .vmem, ⟨2, _⟩ => ⟨S124x256, .f32⟩
  | .local _ .vmem, ⟨3, _⟩ => ⟨S124x256, .f32⟩
  | .local _ .vmem, ⟨4, _⟩ => ⟨S124x256, .f32⟩
  | .local _ .vmem, ⟨5, _⟩ => ⟨S124x256, .f32⟩
  | .local _ .vmem, ⟨6, _⟩ => ⟨S124x256, .f32⟩
  | _, _ => ⟨S124x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S124x256 : Shape := ⟨2, ![124, 256]⟩

abbrev nBuf : Space → Nat
  | .hbm => 7
  | .vmem => 7
  | .smem => 0
  | _ => 0

abbrev bufTy : (tb : Table) → Fin (tcTables nBuf tb) → BufTy
  | .hbm, ⟨0, _⟩ => ⟨S124x256, .f32⟩
  | .hbm, ⟨1, _⟩ => ⟨S124x256, .f32⟩
  | .hbm, ⟨2, _⟩ => ⟨S124x256, .f32⟩
  | .hbm, ⟨3, _⟩ => ⟨S124x256, .f32⟩
  | .hbm, ⟨4, _⟩ => ⟨S124x256, .f32⟩
  | .hbm, ⟨5, _⟩ => ⟨S124x256, .f32⟩
  | .hbm, ⟨6, _⟩ => ⟨S124x256, .f32⟩
  | .local _ .vmem, ⟨0, _⟩ => ⟨S124x256, .f32⟩
  | .local _ .vmem, ⟨1, _⟩ => ⟨S124x256, .f32⟩
  | .local _ .vmem, ⟨2, _⟩ => ⟨S124x256, .f32⟩
  | .local _ .vmem, ⟨3, _⟩ => ⟨S124x256, .f32⟩
  | .local _ .vmem, ⟨4, _⟩ => ⟨S124x256, .f32⟩
  | .local _ .vmem, ⟨5, _⟩ => ⟨S124x256, .f32⟩
  | .local _ .vmem, ⟨6, _⟩ => ⟨S124x256, .f32⟩
  | _, _ => ⟨S124x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S124x256 : Shape := ⟨2, ![124, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x256, .f32⟩
  | .hbm, ⟨1, _⟩ => ⟨S124x256, .f32⟩
  | .hbm, ⟨2, _⟩ => ⟨S124x256, .f32⟩
  | .hbm, ⟨3, _⟩ => ⟨S124x256, .f32⟩
  | .hbm, ⟨4, _⟩ => ⟨S_, .f32⟩
  | .hbm, ⟨5, _⟩ => ⟨S124x256, .f32⟩
  | .hbm, ⟨6, _⟩ => ⟨S124x256, .f32⟩
  | .hbm, ⟨7, _⟩ => ⟨S_, .f32⟩
  | .hbm, ⟨8, _⟩ => ⟨S124x256, .f32⟩
  | .hbm, ⟨9, _⟩ => ⟨S124x256, .f32⟩
  | .hbm, ⟨10, _⟩ => ⟨S124x256, .f32⟩
  | .hbm, ⟨11, _⟩ => ⟨S_, .f32⟩
  | .hbm, ⟨12, _⟩ => ⟨S124x256, .f32⟩
  | .hbm, ⟨13, _⟩ => ⟨S124x256, .f32⟩
  | .hbm, ⟨14, _⟩ => ⟨S124x256, .f32⟩
  | .hbm, ⟨15, _⟩ => ⟨S_, .f32⟩
  | .hbm, ⟨16, _⟩ => ⟨S124x256, .f32⟩
  | .hbm, ⟨17, _⟩ => ⟨S124x256, .f32⟩
  | .hbm, ⟨18, _⟩ => ⟨S124x256, .f32⟩
  | .hbm, ⟨19, _⟩ => ⟨S_, .f32⟩
  | .hbm, ⟨20, _⟩ => ⟨S124x256, .f32⟩
  | .hbm, ⟨21, _⟩ => ⟨S124x256, .f32⟩
  | .hbm, ⟨22, _⟩ => ⟨S_, .f32⟩
  | .hbm, ⟨23, _⟩ => ⟨S124x256, .f32⟩
  | .hbm, ⟨24, _⟩ => ⟨S124x256, .f32⟩
  | .hbm, ⟨25, _⟩ => ⟨S124x256, .f32⟩
  | .hbm, ⟨26, _⟩ => ⟨S_, .f32⟩
  | .hbm, ⟨27, _⟩ => ⟨S124x256, .f32⟩
  | .hbm, ⟨28, _⟩ => ⟨S124x256, .f32⟩
  | .hbm, ⟨29, _⟩ => ⟨S124x256, .f32⟩
  | .hbm, ⟨30, _⟩ => ⟨S_, .f32⟩
  | .hbm, ⟨31, _⟩ => ⟨S124x256, .f32⟩
  | .hbm, ⟨32, _⟩ => ⟨S124x256, .f32⟩
  | .hbm, ⟨33, _⟩ => ⟨S124x256, .f32⟩
  | .hbm, ⟨34, _⟩ => ⟨S_, .f32⟩
  | .hbm, ⟨35, _⟩ => ⟨S124x256, .f32⟩
  | .hbm, ⟨36, _⟩ => ⟨S124x256, .f32⟩
  | _, _ => ⟨S124x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S12x256 : Shape := ⟨2, ![12, 256]⟩

abbrev nBuf : Space → Nat
  | .hbm => 7
  | .vmem => 7
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S12x256, .f32⟩
  | .hbm, ⟨5, _⟩ => ⟨S12x256, .f32⟩
  | .hbm, ⟨6, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateIdeal.lean ====
abbrev S12x256 : Shape := ⟨2, ![12, 256]⟩

abbrev nBuf : Space → Nat
  | .hbm => 7
  | .vmem => 7
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S12x256, .f32⟩
  | .hbm, ⟨5, _⟩ => ⟨S12x256, .f32⟩
  | .hbm, ⟨6, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateRefIdeal.lean ====
abbrev S12x256 : Shape := ⟨2, ![12, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S_, .f32⟩
  | .hbm, ⟨5, _⟩ => ⟨S12x256, .f32⟩
  | .hbm, ⟨6, _⟩ => ⟨S12x256, .f32⟩
  | .hbm, ⟨7, _⟩ => ⟨S_, .f32⟩
  | .hbm, ⟨8, _⟩ => ⟨S12x256, .f32⟩
  | .hbm, ⟨9, _⟩ => ⟨S12x256, .f32⟩
  | .hbm, ⟨10, _⟩ => ⟨S12x256, .f32⟩
  | .hbm, ⟨11, _⟩ => ⟨S_, .f32⟩
  | .hbm, ⟨12, _⟩ => ⟨S12x256, .f32⟩
  | .hbm, ⟨13, _⟩ => ⟨S12x256, .f32⟩
  | .hbm, ⟨14, _⟩ => ⟨S12x256, .f32⟩
  | .hbm, ⟨15, _⟩ => ⟨S_, .f32⟩
  | .hbm, ⟨16, _⟩ => ⟨S12x256, .f32⟩
  | .hbm, ⟨17, _⟩ => ⟨S12x256, .f32⟩
  | .hbm, ⟨18, _⟩ => ⟨S12x256, .f32⟩
  | .hbm, ⟨19, _⟩ => ⟨S_, .f32⟩
  | .hbm, ⟨20, _⟩ => ⟨S12x256, .f32⟩
  | .hbm, ⟨21, _⟩ => ⟨S12x256, .f32⟩
  | .hbm, ⟨22, _⟩ => ⟨S_, .f32⟩
  | .hbm, ⟨23, _⟩ => ⟨S12x256, .f32⟩
  | .hbm, ⟨24, _⟩ => ⟨S12x256, .f32⟩
  | .hbm, ⟨25, _⟩ => ⟨S12x256, .f32⟩
  | .hbm, ⟨26, _⟩ => ⟨S_, .f32⟩
  | .hbm, ⟨27, _⟩ => ⟨S12x256, .f32⟩
  | .hbm, ⟨28, _⟩ => ⟨S12x256, .f32⟩
  | .hbm, ⟨29, _⟩ => ⟨S12x256, .f32⟩
  | .hbm, ⟨30, _⟩ => ⟨S_, .f32⟩
  | .hbm, ⟨31, _⟩ => ⟨S12x256, .f32⟩
  | .hbm, ⟨32, _⟩ => ⟨S12x256, .f32⟩
  | .hbm, ⟨33, _⟩ => ⟨S12x256, .f32⟩
  | .hbm, ⟨34, _⟩ => ⟨S_, .f32⟩
  | .hbm, ⟨35, _⟩ => ⟨S12x256, .f32⟩
  | .hbm, ⟨36, _⟩ => ⟨S12x256, .f32⟩
  | _, _ => ⟨S12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVectors.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVectorsRefIdeal.lean ====
abbrev S4x12288 : Shape := ⟨2, ![4, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S_, .f32⟩
  | .hbm, ⟨5, _⟩ => ⟨S4x12288, .f32⟩
  | .hbm, ⟨6, _⟩ => ⟨S4x12288, .f32⟩
  | .hbm, ⟨7, _⟩ => ⟨S_, .f32⟩
  | .hbm, ⟨8, _⟩ => ⟨S4x12288, .f32⟩
  | .hbm, ⟨9, _⟩ => ⟨S4x12288, .f32⟩
  | .hbm, ⟨10, _⟩ => ⟨S4x12288, .f32⟩
  | .hbm, ⟨11, _⟩ => ⟨S_, .f32⟩
  | .hbm, ⟨12, _⟩ => ⟨S4x12288, .f32⟩
  | .hbm, ⟨13, _⟩ => ⟨S4x12288, .f32⟩
  | .hbm, ⟨14, _⟩ => ⟨S4x12288, .f32⟩
  | .hbm, ⟨15, _⟩ => ⟨S_, .f32⟩
  | .hbm, ⟨16, _⟩ => ⟨S4x12288, .f32⟩
  | .hbm, ⟨17, _⟩ => ⟨S4x12288, .f32⟩
  | .hbm, ⟨18, _⟩ => ⟨S4x12288, .f32⟩
  | .hbm, ⟨19, _⟩ => ⟨S_, .f32⟩
  | .hbm, ⟨20, _⟩ => ⟨S4x12288, .f32⟩
  | .hbm, ⟨21, _⟩ => ⟨S4x12288, .f32⟩
  | .hbm, ⟨22, _⟩ => ⟨S_, .f32⟩
  | .hbm, ⟨23, _⟩ => ⟨S4x12288, .f32⟩
  | .hbm, ⟨24, _⟩ => ⟨S4x12288, .f32⟩
  | .hbm, ⟨25, _⟩ => ⟨S4x12288, .f32⟩
  | .hbm, ⟨26, _⟩ => ⟨S_, .f32⟩
  | .hbm, ⟨27, _⟩ => ⟨S4x12288, .f32⟩
  | .hbm, ⟨28, _⟩ => ⟨S4x12288, .f32⟩
  | .hbm, ⟨29, _⟩ => ⟨S4x12288, .f32⟩
  | .hbm, ⟨30, _⟩ => ⟨S_, .f32⟩
  | .hbm, ⟨31, _⟩ => ⟨S4x12288, .f32⟩
  | .hbm, ⟨32, _⟩ => ⟨S4x12288, .f32⟩
  | .hbm, ⟨33, _⟩ => ⟨S4x12288, .f32⟩
  | .hbm, ⟨34, _⟩ => ⟨S_, .f32⟩
  | .hbm, ⟨35, _⟩ => ⟨S4x12288, .f32⟩
  | .hbm, ⟨36, _⟩ => ⟨S4x12288, .f32⟩
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GluDx.lean ====
abbrev S4096x5632 : Shape := ⟨2, ![4096, 5632]⟩
abbrev S4096x2816 : Shape := ⟨2, ![4096, 2816]⟩
abbrev S256x1408 : Shape := ⟨2, ![256, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .bf16⟩
  | .hbm, ⟨3, _⟩ => ⟨S4096x2816, .bf16⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluDxRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Glu.lean ====
abbrev S4096x5632 : Shape := ⟨2, ![4096, 5632]⟩
abbrev S4096x2816 : Shape := ⟨2, ![4096, 2816]⟩
abbrev S256x1408 : Shape := ⟨2, ![256, 1408]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .bf16⟩
  | .local _ .vmem, ⟨5, _⟩ => ⟨S256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg0 : BitVec 32 := BitVec.ofNat 32 (i 0).val
  let c0_i32_11 : BitVec 32 := 0#32
  let v22 : BitVec 1 := Scalar.cmpi .sgt arg0 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.K.Frame.lean ====
/- The kernel's run over its own float operations: it ends, with its arguments as they were. -/
module

public import proofs.«01_k».proof.Proof.K.RunB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results, of which nothing is said here. -/
def forgets0 : Fin 9 → Bool := fun w => w.val == 6 || w.val == 7 || w.val == 8

/-- The run's data: each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA_eq]
  by_cases h0 : t.val % 8 = 0
  · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ ((cond0_iff t).mpr h0) (iblk m c 0 t) (iblk m c 1 t) (iblk m c 2 t) (iblk m c 3 t) (iblk m c 4 t) (iblk m c 5 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, ⟨%f7, H7⟩, ⟨%f8, H8⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr
      swap; · iexact H6
      ipureintro; rfl
    isplitl [H7]
    · iexists _; unfold owns; iexists _; isplitr
      swap; · iexact H7
      ipureintro; rfl
    iexists _; unfold owns; iexists _; isplitr
    swap; · iexact H8
    ipureintro; rfl
  · iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ (fun h => h0 ((cond0_iff t).mp h)) (iblk m c 0 t) (iblk m c 1 t) (iblk m c 2 t) (iblk m c 3 t) (iblk m c 4 t) (iblk m c 5 t) d6 ds).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%f7, H7⟩, ⟨%f8, H8⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr
      swap; · iexact H6
      ipureintro; rfl
    isplitl [H7]
    · iexists _; unfold owns; iexists _; isplitr
      swap; · iexact H7
      ipureintro; rfl
    iexists _; unfold owns; iexists _; isplitr
    swap; · iexact H8
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
/-- The run, with nothing said of the results. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments as they were, every counter at zero. -/
theorem run_args : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.Kernel.Hand

end
-- ==== Proof.Pay.lean ====
/- What the body computes from one tile of rows and one block of columns, read at an index over the extended reals. -/
module

public import proofs.«01_k».proof.Proof.Gen.KernelIdeal.Skeleton
public import Idealize.ShloMosaic.Lib.Pointwise

@[expose] public section

noncomputable section

namespace Cert.KernelIdeal.Hand

open Cert.KernelIdeal Cert.KernelIdeal.Gen
open Idealize.ShloMosaic

/-- The factor of the scores: the float nearest `1 / √192`, at its own value. -/
def s : EReal := (Scalar.ofBits .f32 0x3D93CD3A#32 : Ideal .f32)

/-- The masked score is `-∞`. -/
theorem mask_eq : (Named.named (F := Ideal) κ "mask" 0xF149F2CA#32 : Ideal .f32) = (⊥ : EReal) :=
  IdealRules.named_const.ideal_named_scalar _ _ _ _ rfl

/-- A tile's probability at (row, column): the exponential of the score less the row's log-sum. -/
def tileP (q k : Fin 256 → EReal) (lse : EReal) : EReal := Ideal.exp ((∑ x, q x * k x) * s - lse)

/-- A tile's gradient of the score, from the probability. -/
def tileDS (p : EReal) (g v : Fin 128 → EReal) (d : EReal) : EReal := p * (∑ x, g x * v x - d) * s

theorem pay3_at (v4 : FVec Ideal S512x256 .bf16) (v76 : Vec Ideal S1x512x256 .bf16) (v86 : Vec Ideal S1x512x1 .f32) (r c : Fin 512) :
    k0_pay3 v4 v76 v86 (ix2 r c) = tileP (fun x => v76 (ix3 0 r x)) (fun x => v4 (ix2 c x)) (v86 (ix3 0 r 0)) := by
  pointwise [k0_pay3, k0_pay1]
  rfl

theorem pay4_at (v4 : FVec Ideal S512x256 .bf16) (v6 : FVec Ideal S512x128 .bf16) (v76 : Vec Ideal S1x512x256 .bf16) (v79 : Vec Ideal S512x128 .f32) (v86 : Vec Ideal S1x512x1 .f32) (v93 : Vec Ideal S512x1 .f32) (r c : Fin 512) :
    k0_pay4 v4 v6 v76 v79 v86 v93 (ix2 r c)
      = tileDS (tileP (fun x => v76 (ix3 0 r x)) (fun x => v4 (ix2 c x)) (v86 (ix3 0 r 0)))
          (fun x => v79 (ix2 r x)) (fun x => v6 (ix2 c x)) (v93 (ix2 r 0)) := by
  pointwise [k0_pay4, k0_pay2]
  rw [pay3_at]; rfl

theorem pay5_at (v4 : FVec Ideal S512x256 .bf16) (a : FVec Ideal S512x128 .f32) (v76 : Vec Ideal S1x512x256 .bf16) (v79 : Vec Ideal S512x128 .f32) (v86 : Vec Ideal S1x512x1 .f32) (c : Fin 512) (l : Fin 128) :
    k0_pay5 v4 a v76 v79 v86 (ix2 c l)
      = a (ix2 c l) + ∑ r, tileP (fun x => v76 (ix3 0 r x)) (fun x => v4 (ix2 c x)) (v86 (ix3 0 r 0)) * v79 (ix2 r l) := by
  pointwise [k0_pay5, k0_pay2]
  simp only [pay3_at]

theorem pay6_at (v4 : FVec Ideal S512x256 .bf16) (v6 : FVec Ideal S512x128 .bf16) (a : FVec Ideal S512x256 .f32) (v76 : Vec Ideal S1x512x256 .bf16) (v79 : Vec Ideal S512x128 .f32) (v86 : Vec Ideal S1x512x1 .f32) (v93 : Vec Ideal S512x1 .f32) (c : Fin 512) (l : Fin 256) :
    k0_pay6 v4 v6 a v76 v79 v86 v93 (ix2 c l)
      = a (ix2 c l) + ∑ r, tileDS (tileP (fun x => v76 (ix3 0 r x)) (fun x => v4 (ix2 c x)) (v86 (ix3 0 r 0)))
          (fun x => v79 (ix2 r x)) (fun x => v6 (ix2 c x)) (v93 (ix2 r 0)) * v76 (ix3 0 r l) := by
  pointwise [k0_pay6, k0_pay1]
  simp only [pay4_at]

theorem pay7_at (v4 : FVec Ideal S512x256 .bf16) (v6 : FVec Ideal S512x128 .bf16) (a : FVec Ideal S1x512x256 .f32) (v76 : Vec Ideal S1x512x256 .bf16) (v79 : Vec Ideal S512x128 .f32) (v86 : Vec Ideal S1x512x1 .f32) (v93 : Vec Ideal S512x1 .f32) (r : Fin 512) (l : Fin 256) (z : Fin 1) :
    k0_pay7 v4 v6 v76 v79 v86 v93 a (ix3 z r l)
      = a (ix3 0 r l) + ∑ c, tileDS (tileP (fun x => v76 (ix3 0 r x)) (fun x => v4 (ix2 c x)) (v86 (ix3 0 r 0)))
          (fun x => v79 (ix2 r x)) (fun x => v6 (ix2 c x)) (v93 (ix2 r 0)) * v4 (ix2 c l) := by
  pointwise [k0_pay7, k0_pay1]
  simp only [pay4_at]

/-- The row sums of the output against its gradient. -/
theorem pay16_at (v77 : Vec Ideal S4096x128 .f32) (v79 : Vec Ideal S4096x128 .f32) (r : Fin 4096) (z : Fin 1) :
    k0_pay16 v77 v79 (ix2 r z) = ∑ x, v77 (ix2 r x) * v79 (ix2 r x) := by
  pointwise [k0_pay16]

theorem pay15_at (r : Fin 4096) (z : Fin 1) (l : Fin 256) : k0_pay15 (F := Ideal) (ix3 z r l) = 0 := by
  pointwise [k0_pay15]

theorem pay17_at (a : Vec Ideal S1x512x256 .bf16) (r : Fin 512) (c : Fin 256) : k0_pay17 a (ix2 r c) = a (ix3 0 r c) := by
  pointwise [k0_pay17]

theorem pay18_at (a : Vec Ideal S1x512x128 .bf16) (r : Fin 512) (c : Fin 128) : k0_pay18 a (ix2 r c) = a (ix3 0 r c) := by
  pointwise [k0_pay18]

theorem pay19_at (r : Fin 512) (l : Fin 256) : k0_pay19 (F := Ideal) (ix2 r l) = 0 := by
  pointwise [k0_pay19]

theorem pay20_at (r : Fin 512) (l : Fin 128) : k0_pay20 (F := Ideal) (ix2 r l) = 0 := by
  pointwise [k0_pay20]

theorem pay21_at (a : Vec Ideal S1x512x256 .bf16) (r : Fin 512) (c : Fin 256) : k0_pay21 a (ix2 r c) = a (ix3 0 r c) := by
  pointwise [k0_pay21]

theorem pay22_at (a : Vec Ideal S512x128 .f32) (r : Fin 512) (c : Fin 128) : k0_pay22 a (ix2 r c) = a (ix2 r c) := by
  pointwise [k0_pay22]

theorem pay28_at (a : FVec Ideal S512x256 .f32) (r : Fin 512) (c : Fin 256) (z : Fin 1) : k0_pay28 a (ix3 z r c) = a (ix2 r c) := by
  pointwise [k0_pay28]

theorem pay29_at (a : FVec Ideal S512x128 .f32) (r : Fin 512) (c : Fin 128) (z : Fin 1) : k0_pay29 a (ix3 z r c) = a (ix2 r c) := by
  pointwise [k0_pay29]

/-- The chunk mask inside the diagonal tile, as the kernel computes it in words. -/
theorem mask_word (r c : Fin 512) :
    IntOp.cmpi CmpIPredicate.sle (IntOp.shrui ArithUnit.vector (BitVec.ofNat 32 c.val) 6#32)
      (IntOp.shrui ArithUnit.vector (BitVec.ofNat 32 r.val) 6#32) = if c.val / 64 ≤ r.val / 64 then 1#1 else 0#1 := by
  have hr := r.isLt; have hc := c.isLt
  have shr : ∀ n : ℕ, n < 512 → IntOp.shrui ArithUnit.vector (BitVec.ofNat 32 n) 6#32 = BitVec.ofNat 32 (n / 64) := fun n hn => by
    apply BitVec.eq_of_toNat_eq
    simp [IntOp.shrui, Nat.shiftRight_eq_div_pow]
    omega
  have int : ∀ n : ℕ, n < 512 → (BitVec.ofNat 32 (n / 64)).toInt = ((n / 64 : ℕ) : ℤ) := fun n hn => by
    rw [BitVec.toInt_eq_toNat_of_lt (by simp; omega)]
    simp
    omega
  rw [shr _ hr, shr _ hc]
  simp only [IntOp.cmpi, BitVec.sle, int _ hr, int _ hc, Nat.cast_le]
  by_cases h : c.val / 64 ≤ r.val / 64 <;> simp [h]

/-- The diagonal tile's probability: a masked column's is 0, whatever the row's log-sum. -/
theorem pay23_at (v3 : FVec Ideal S1x512x256 .bf16) (v12 : Vec Ideal S1x512x256 .bf16) (v31 : Vec Ideal S1x512x1 .f32) (r c : Fin 512) :
    k0_pay23 v3 v12 v31 (ix2 r c) = if c.val / 64 ≤ r.val / 64 then
      tileP (fun x => v12 (ix3 0 r x)) (fun x => v3 (ix3 0 c x)) (v31 (ix3 0 r 0)) else 0 := by
  pointwise [k0_pay23, k0_pay21, k0_pay17]
  rw [mask_word]
  by_cases h : c.val / 64 ≤ r.val / 64
  · rw [if_pos h, if_pos h]; simp [Scalar.select]; rfl
  · rw [if_neg h, if_neg h]; simp [Scalar.select, mask_eq]

theorem pay24_at (v6 v17 : FVec Ideal S512x128 .bf16) (v35 : FVec Ideal S512x512 .f32) (v38 : Vec Ideal S512x1 .f32) (r c : Fin 512) :
    k0_pay24 v6 v17 v35 v38 (ix2 r c)
      = tileDS (v35 (ix2 r c)) (fun x => v17 (ix2 r x)) (fun x => v6 (ix2 c x)) (v38 (ix2 r 0)) := by
  pointwise [k0_pay24]
  rfl

theorem pay25_at (a : FVec Ideal S512x128 .f32) (v17 : FVec Ideal S512x128 .bf16) (v35 : FVec Ideal S512x512 .f32) (c : Fin 512) (l : Fin 128) :
    k0_pay25 a v17 v35 (ix2 c l) = a (ix2 c l) + ∑ r, v35 (ix2 r c) * v17 (ix2 r l) := by
  pointwise [k0_pay25]

theorem pay26_at (v6 : FVec Ideal S512x128 .bf16) (a : FVec Ideal S512x256 .f32) (v13 : FVec Ideal S512x256 .bf16) (v17 : FVec Ideal S512x128 .bf16) (v35 : FVec Ideal S512x512 .f32) (v38 : Vec Ideal S512x1 .f32) (c : Fin 512) (l : Fin 256) :
    k0_pay26 v6 a v13 v17 v35 v38 (ix2 c l)
      = a (ix2 c l) + ∑ r, tileDS (v35 (ix2 r c)) (fun x => v17 (ix2 r x)) (fun x => v6 (ix2 c x)) (v38 (ix2 r 0)) * v13 (ix2 r l) := by
  pointwise [k0_pay26]
  simp only [pay24_at]

theorem pay27_at (v4 : FVec Ideal S512x256 .bf16) (v6 v17 : FVec Ideal S512x128 .bf16) (v35 : FVec Ideal S512x512 .f32) (v38 : Vec Ideal S512x1 .f32) (a : Vec Ideal S1x512x256 .f32) (r : Fin 512) (l : Fin 256) (z : Fin 1) :
    k0_pay27 v4 v6 v17 v35 v38 a (ix3 z r l)
      = a (ix3 0 r l) + ∑ c, tileDS (v35 (ix2 r c)) (fun x => v17 (ix2 r x)) (fun x => v6 (ix2 c x)) (v38 (ix2 r 0)) * v4 (ix2 c l) := by
  pointwise [k0_pay27]
  simp only [pay24_at]

end Cert.KernelIdeal.Hand

end
-- ==== Proof.Tile.lean ====
/- The body's results at one point as sums over all rows of the head: what each block of rows adds, and where the
   body's loop finds that block. -/
module

public import proofs.«01_k».proof.Proof.Pay
public import Idealize.ShloMosaic.Lib.WritesUnit

@[expose] public section

noncomputable section

namespace Cert.KernelIdeal.Hand

open Cert.KernelIdeal Cert.KernelIdeal.Gen
open Idealize.ShloMosaic

/-! ## Rows by blocks of 512 -/

/-- Row `r` of block `n` of the head's 4096 rows. -/
def row (n : ℕ) (hn : n < 8) (r : Fin 512) : Fin 4096 := ⟨512 * n + r.val, by omega⟩

/-- A row's value if its block lies before block `n`, else 0. -/
def cut (n : ℕ) (r : Fin 4096) (a : EReal) : EReal := if r.val / 512 < n then a else 0

theorem cut_all (r : Fin 4096) (a : EReal) : cut 8 r a = a := if_pos (by omega)

theorem cut_row (n : ℕ) (hn : n < 8) (r : Fin 512) (a : EReal) : cut n (row n hn r) a = 0 :=
  if_neg (by simp only [row]; omega)

theorem cut_succ_row (n : ℕ) (hn : n < 8) (r : Fin 512) (a : EReal) : cut (n + 1) (row n hn r) a = a :=
  if_pos (by simp only [row]; omega)

theorem cut_succ_of_ne (n : ℕ) (r : Fin 4096) (h : r.val / 512 ≠ n) (a : EReal) : cut (n + 1) r a = cut n r a := by
  unfold cut; split <;> split <;> first | rfl | omega

/-- A row of block `n` is that block's row at its remainder. -/
theorem eq_row (n : ℕ) (hn : n < 8) (r : Fin 4096) (h : r.val / 512 = n) :
    r = row n hn ⟨r.val % 512, by omega⟩ := Fin.ext (by simp only [row]; omega)

/-- One more block of rows in the sum over the rows of the blocks before. -/
theorem sum_cut_succ (n : ℕ) (hn : n < 8) (g : Fin 4096 → EReal) :
    ∑ r, cut (n + 1) r (g r) = ∑ r, cut n r (g r) + ∑ r : Fin 512, g (row n hn r) := by
  have hb : ∑ r : Fin 512, g (row n hn r) = ∑ r : Fin 4096, if r.val / 512 = n then g r else 0 := by
    rw [← Finset.sum_filter]
    refine Finset.sum_bij (fun r _ => row n hn r) (fun r _ => ?_) (fun a _ b _ h => ?_) (fun r hr => ?_) (fun _ _ => rfl)
    · exact Finset.mem_filter.mpr ⟨Finset.mem_univ _, by simp only [row]; omega⟩
    · have := congrArg Fin.val h
      simp only [row] at this
      exact Fin.ext (by omega)
    · exact ⟨_, Finset.mem_univ _, (eq_row n hn r (Finset.mem_filter.mp hr).2).symm⟩
  rw [hb, ← Finset.sum_add_distrib]
  refine Finset.sum_congr rfl fun r _ => ?_
  unfold cut
  rcases lt_trichotomy (r.val / 512) n with h | h | h
  · rw [if_pos (by omega), if_pos h, if_neg (by omega), add_zero]
  · rw [if_pos (by omega), if_neg (by omega), if_pos h, zero_add]
  · rw [if_neg (by omega), if_neg (by omega), if_neg (by omega), add_zero]

/-! ## The body's values at a point of column block `j` -/

section Values

variable (j : ℕ) (x0 : Vec Ideal S1x4096x256 .bf16) (x1 : Vec Ideal S1x512x256 .bf16) (x2 : Vec Ideal S1x512x128 .bf16)
  (x4 : Vec Ideal S1x4096x1 .f32) (x5 : Vec Ideal S4096x128 .f32) (xs : Vec Ideal S4096x1 .f32)

/-- The probability at (row of the head, column of the block): 0 where the column's chunk is after the row's. -/
def prob (r : Fin 4096) (c : Fin 512) : EReal :=
  if (512 * j + c.val) / 64 ≤ r.val / 64 then
    tileP (fun x => x0 (ix3 0 r x)) (fun x => x1 (ix3 0 c x)) (x4 (ix3 0 r 0)) else 0

/-- The gradient of the score there. -/
def dscore (r : Fin 4096) (c : Fin 512) : EReal :=
  tileDS (prob j x0 x1 x4 r c) (fun x => x5 (ix2 r x)) (fun x => x2 (ix3 0 c x)) (xs (ix2 r 0))

/-- What the block adds to the query gradient. -/
def addQ (r : Fin 4096) (l : Fin 256) : EReal := ∑ c, dscore j x0 x1 x2 x4 x5 xs r c * x1 (ix3 0 c l)

/-- What row `r` adds to the key gradient. -/
def addK (c : Fin 512) (l : Fin 256) (r : Fin 4096) : EReal := dscore j x0 x1 x2 x4 x5 xs r c * x0 (ix3 0 r l)

/-- What row `r` adds to the value gradient. -/
def addV (c : Fin 512) (l : Fin 128) (r : Fin 4096) : EReal := prob j x0 x1 x4 r c * x5 (ix2 r l)

theorem prob_before (r : Fin 4096) (c : Fin 512) (h : r.val / 512 < j) : prob j x0 x1 x4 r c = 0 := if_neg (by omega)

theorem dscore_before (r : Fin 4096) (c : Fin 512) (h : r.val / 512 < j) : dscore j x0 x1 x2 x4 x5 xs r c = 0 := by
  unfold dscore tileDS; rw [prob_before j x0 x1 x4 r c h, zero_mul, zero_mul]

theorem addQ_before (r : Fin 4096) (l : Fin 256) (h : r.val / 512 < j) : addQ j x0 x1 x2 x4 x5 xs r l = 0 :=
  Finset.sum_eq_zero fun c _ => by rw [dscore_before j x0 x1 x2 x4 x5 xs r c h, zero_mul]

theorem addK_before (c : Fin 512) (l : Fin 256) (r : Fin 4096) (h : r.val / 512 < j) : addK j x0 x1 x2 x4 x5 xs c l r = 0 := by
  unfold addK; rw [dscore_before j x0 x1 x2 x4 x5 xs r c h, zero_mul]

theorem addV_before (c : Fin 512) (l : Fin 128) (r : Fin 4096) (h : r.val / 512 < j) : addV j x0 x1 x4 x5 c l r = 0 := by
  unfold addV; rw [prob_before j x0 x1 x4 r c h, zero_mul]

/-- No row before block `j` adds anything, so the sum up to block `j` is empty. -/
theorem sum_cut_before (g : Fin 4096 → EReal) (h : ∀ r : Fin 4096, r.val / 512 < j → g r = 0) : ∑ r, cut j r (g r) = 0 :=
  Finset.sum_eq_zero fun r _ => by
    unfold cut; split
    · exact h r ‹_›
    · rfl

/-- Below the diagonal block every column is allowed. -/
theorem prob_after (n : ℕ) (hn : n < 8) (hj : j < n) (r c : Fin 512) :
    prob j x0 x1 x4 (row n hn r) c
      = tileP (fun x => x0 (ix3 0 (row n hn r) x)) (fun x => x1 (ix3 0 c x)) (x4 (ix3 0 (row n hn r) 0)) :=
  if_pos (by simp only [row]; omega)

/-- In the diagonal block the mask is that of the place within the block. -/
theorem prob_diag (hj : j < 8) (r c : Fin 512) :
    prob j x0 x1 x4 (row j hj r) c = if c.val / 64 ≤ r.val / 64 then
      tileP (fun x => x0 (ix3 0 (row j hj r) x)) (fun x => x1 (ix3 0 c x)) (x4 (ix3 0 (row j hj r) 0)) else 0 := by
  unfold prob
  refine if_congr ?_ rfl rfl
  simp only [row]; omega

end Values

/-! ## Where the body finds a block -/

theorem word_off (n : ℕ) (hn : n < 8) : (Scalar.indexCast (Scalar.muli (BitVec.ofNat 32 n) 512#32)).toNat = 512 * n := by
  interval_cases n <;> decide

theorem word_iv : ∀ j < 8, ∀ k < 7 - j,
    (Scalar.indexCast (Scalar.muli (Scf.iv (Scalar.addi (BitVec.ofNat 32 j) 1#32) 1#32 k) 512#32)).toNat = 512 * (j + 1 + k) := by
  decide

theorem word_trips : ∀ j < 8, Scf.trips (Scalar.addi (BitVec.ofNat 32 j) 1#32)
    (Scalar.addi (Scalar.addi (BitVec.ofNat 32 j) 1#32)
      (Scalar.muli (Scalar.divsi (Scalar.subi 8#32 (Scalar.addi (BitVec.ofNat 32 j) 1#32)) 1#32) 1#32)) 1#32 = 7 - j := by
  decide

theorem word_trips2 : ∀ j < 8, Scf.trips (Scalar.addi (Scalar.addi (BitVec.ofNat 32 j) 1#32)
      (Scalar.muli (Scalar.divsi (Scalar.subi 8#32 (Scalar.addi (BitVec.ofNat 32 j) 1#32)) 1#32) 1#32))
    (Scalar.addi (Scalar.addi (BitVec.ofNat 32 j) 1#32) (Scalar.subi 8#32 (Scalar.addi (BitVec.ofNat 32 j) 1#32))) 1#32 = 0 := by
  decide

/-- The loop over the row blocks after the diagonal one makes `7 - j` trips, -/
theorem trips1 (i : grid0.Coords) : (k0_t1_loop i).trips = 7 - (i 1).val := word_trips _ (i 1).isLt

/-- and the loop behind it none. -/
theorem trips2 (i : grid0.Coords) : (k0_t2_loop i).trips = 0 := word_trips2 _ (i 1).isLt

theorem off1_eq (i : grid0.Coords) : k0_off1 i = ![0, 512 * (i 1).val, 0] := by
  unfold k0_off1; dsimp only; rw [word_off _ (i 1).isLt]
theorem off2_eq (i : grid0.Coords) : k0_off2 i = ![512 * (i 1).val, 0] := by
  unfold k0_off2; dsimp only; rw [word_off _ (i 1).isLt]
theorem off3_eq (i : grid0.Coords) : k0_off3 i = ![0, 512 * (i 1).val, 0] := by
  unfold k0_off3; dsimp only; rw [word_off _ (i 1).isLt]
theorem off4_eq (i : grid0.Coords) : k0_off4 i = ![512 * (i 1).val, 0] := by
  unfold k0_off4; dsimp only; rw [word_off _ (i 1).isLt]

theorem lt_trips (i : grid0.Coords) (k : Fin (k0_t1_loop i).trips) : k.val < 7 - (i 1).val :=
  lt_of_lt_of_eq k.isLt (trips1 i)

theorem off5_eq (i : grid0.Coords) (k : Fin (k0_t1_loop i).trips) : k0_off5 i k = ![0, 512 * ((i 1).val + 1 + k.val), 0] := by
  unfold k0_off5; dsimp only; rw [word_iv _ (i 1).isLt _ (lt_trips i k)]
theorem off6_eq (i : grid0.Coords) (k : Fin (k0_t1_loop i).trips) : k0_off6 i k = ![512 * ((i 1).val + 1 + k.val), 0] := by
  unfold k0_off6; dsimp only; rw [word_iv _ (i 1).isLt _ (lt_trips i k)]
theorem off7_eq (i : grid0.Coords) (k : Fin (k0_t1_loop i).trips) : k0_off7 i k = ![0, 512 * ((i 1).val + 1 + k.val), 0] := by
  unfold k0_off7; dsimp only; rw [word_iv _ (i 1).isLt _ (lt_trips i k)]
theorem off8_eq (i : grid0.Coords) (k : Fin (k0_t1_loop i).trips) : k0_off8 i k = ![512 * ((i 1).val + 1 + k.val), 0] := by
  unfold k0_off8; dsimp only; rw [word_iv _ (i 1).isLt _ (lt_trips i k)]

/-! ## A block of rows read and written through a view -/

section Views

variable {sp : Space} {e : EltTy}

/-- A load of block `n` of the rows, the buffer carrying a leading axis of 1. -/
theorem read3 {w : ℕ} (v : View sig .tc sp ⟨3, ![1, 4096, w]⟩ e) (f : v.ty.Contents (Elt Ideal)) {off : Fin 3 → ℕ}
    (inb : ∀ a : Fin 3, off a + (![1, 512, w] : Fin 3 → ℕ) a ≤ (![1, 4096, w] : Fin 3 → ℕ) a) (n : ℕ) (hn : n < 8)
    (h : off = ![0, 512 * n, 0]) (r : Fin 512) (l : Fin w) :
    v.readAt (Elt Ideal) (Rect.unit (s := ⟨3, ![1, 4096, w]⟩) off ![1, 512, w] inb).toLoadRect f (ix3 0 r l)
      = v.read (Elt Ideal) f (ix3 0 (row n hn r) l) := by
  subst h
  rw [View.readAt_apply]
  refine congrArg _ (funext fun a => Fin.ext ?_)
  fin_cases a
  · rfl
  · show 512 * n + 1 * r.val = 512 * n + r.val; omega
  · show 0 + 1 * l.val = l.val; omega

/-- The same without the leading axis. -/
theorem read2 {w : ℕ} (v : View sig .tc sp ⟨2, ![4096, w]⟩ e) (f : v.ty.Contents (Elt Ideal)) {off : Fin 2 → ℕ}
    (inb : ∀ a : Fin 2, off a + (![512, w] : Fin 2 → ℕ) a ≤ (![4096, w] : Fin 2 → ℕ) a) (n : ℕ) (hn : n < 8)
    (h : off = ![512 * n, 0]) (r : Fin 512) (l : Fin w) :
    v.readAt (Elt Ideal) (Rect.unit (s := ⟨2, ![4096, w]⟩) off ![512, w] inb).toLoadRect f (ix2 r l)
      = v.read (Elt Ideal) f (ix2 (row n hn r) l) := by
  subst h
  rw [View.readAt_apply]
  refine congrArg _ (funext fun a => Fin.ext ?_)
  fin_cases a
  · show 512 * n + 1 * r.val = 512 * n + r.val; omega
  · show 0 + 1 * l.val = l.val; omega

/-- A store of block `n` of the rows, read at a row of that block, -/
theorem write3_in {w : ℕ} (v : View sig .tc sp ⟨3, ![1, 4096, w]⟩ e) (f : v.ty.Contents (Elt Ideal)) {off : Fin 3 → ℕ}
    (inb : ∀ a : Fin 3, off a + (![1, 512, w] : Fin 3 → ℕ) a ≤ (![1, 4096, w] : Fin 3 → ℕ) a) (n : ℕ) (hn : n < 8)
    (h : off = ![0, 512 * n, 0]) (p : (Rect.unit (s := ⟨3, ![1, 4096, w]⟩) off ![1, 512, w] inb).shape.Idx → Elt Ideal e)
    (L : List (View.Piece (Elt Ideal) ⟨3, ![1, 4096, w]⟩ e)) (r : Fin 512) (l : Fin w) :
    v.read (Elt Ideal) (v.writes (Elt Ideal) f
        ((⟨Rect.unit (s := ⟨3, ![1, 4096, w]⟩) off ![1, 512, w] inb, p⟩ : View.Piece (Elt Ideal) ⟨3, ![1, 4096, w]⟩ e) :: L))
        (ix3 0 (row n hn r) l) = p (ix3 0 r l) :=
  View.read_writes_cons_unit_of_mem v f inb p L _ (ix3 0 r l) h fun a => by
    fin_cases a
    · rfl
    · rfl
    · show l.val = 0 + l.val; omega

/-- and at a row of another block. -/
theorem write3_out {w : ℕ} (v : View sig .tc sp ⟨3, ![1, 4096, w]⟩ e) (f : v.ty.Contents (Elt Ideal)) {off : Fin 3 → ℕ}
    (inb : ∀ a : Fin 3, off a + (![1, 512, w] : Fin 3 → ℕ) a ≤ (![1, 4096, w] : Fin 3 → ℕ) a) (n : ℕ)
    (h : off = ![0, 512 * n, 0]) (p : (Rect.unit (s := ⟨3, ![1, 4096, w]⟩) off ![1, 512, w] inb).shape.Idx → Elt Ideal e)
    (L : List (View.Piece (Elt Ideal) ⟨3, ![1, 4096, w]⟩ e)) (r : Fin 4096) (hr : r.val / 512 ≠ n) (l : Fin w) :
    v.read (Elt Ideal) (v.writes (Elt Ideal) f
        ((⟨Rect.unit (s := ⟨3, ![1, 4096, w]⟩) off ![1, 512, w] inb, p⟩ : View.Piece (Elt Ideal) ⟨3, ![1, 4096, w]⟩ e) :: L))
        (ix3 0 r l) = v.read (Elt Ideal) (v.writes (Elt Ideal) f L) (ix3 0 r l) :=
  View.read_writes_cons_unit_of_not_mem v f inb p L _ h 1 (by
    show r.val < 512 * n ∨ 512 * n + 512 ≤ r.val
    omega)

end Views

end Cert.KernelIdeal.Hand

end
-- ==== Proof.Loop.lean ====
/- What the loop over the row blocks after the diagonal one carries and has written before each of its trips. -/
module

public import proofs.«01_k».proof.Proof.Tile
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe
open Idealize.SL Idealize.SL.RA Idealize.SL.BI

section Loop

variable (c : Dev nD) (i : grid0.Coords) (arg2 : Memref sig .tc .vmem S1x4096x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S4096x128 .f32) (harg5 : arg5.IsWhole) (arg6 : Memref sig .tc .vmem S1x4096x1 .f32) (harg6 : arg6.IsWhole) (arg7 : Memref sig .tc .vmem S4096x128 .f32) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S4096x1 .f32) (harg11 : arg11.IsWhole)
  (arg1 : BitVec 32) (v4 : FVec Ideal S512x256 .bf16) (v6 : FVec Ideal S512x128 .bf16) (v7 : FVec Ideal S512x256 .f32) (v8 : FVec Ideal S512x128 .f32) (v10 : BitVec 32) (v13 : FVec Ideal S512x256 .bf16) (v17 : FVec Ideal S512x128 .bf16) (v35 : FVec Ideal S512x512 .f32) (v59 : BitVec 32)
  (X2 : BufTy.Contents (Elt Ideal) arg2.view.ty) (X6 : BufTy.Contents (Elt Ideal) arg6.view.ty) (X7 : BufTy.Contents (Elt Ideal) arg7.view.ty) (X11 : BufTy.Contents (Elt Ideal) arg11.view.ty)

/-- One trip carries on the key and value gradients by its block of rows, -/
theorem trip_result (k : Fin (k0_t1_loop i).trips) (acc : FVec Ideal S512x256 .f32 × FVec Ideal S512x128 .f32)
    (f : BufTy.Contents (Elt Ideal) arg8.view.ty) :
    tripR_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 k acc f
      = (k0_pay6 v4 v6 acc.1 (arg2.view.readAt (Elt Ideal) (Rect.unit (s := S1x4096x256) (k0_off5 i k) S1x512x256.size (k0_off5_inb i k)).toLoadRect X2)
            (arg7.view.readAt (Elt Ideal) (Rect.unit (s := S4096x128) (k0_off6 i k) S512x128.size (k0_off6_inb i k)).toLoadRect X7) (arg6.view.readAt (Elt Ideal) (Rect.unit (s := S1x4096x1) (k0_off7 i k) S1x512x1.size (k0_off7_inb i k)).toLoadRect X6) (arg11.view.readAt (Elt Ideal) (Rect.unit (s := S4096x1) (k0_off8 i k) S512x1.size (k0_off8_inb i k)).toLoadRect X11),
         k0_pay5 v4 acc.2 (arg2.view.readAt (Elt Ideal) (Rect.unit (s := S1x4096x256) (k0_off5 i k) S1x512x256.size (k0_off5_inb i k)).toLoadRect X2) (arg7.view.readAt (Elt Ideal) (Rect.unit (s := S4096x128) (k0_off6 i k) S512x128.size (k0_off6_inb i k)).toLoadRect X7) (arg6.view.readAt (Elt Ideal) (Rect.unit (s := S1x4096x1) (k0_off7 i k) S1x512x1.size (k0_off7_inb i k)).toLoadRect X6)) := by
  unfold tripR_k0_t1 trip_k0_t1; rfl

/-- and writes that block of the query gradient. -/
theorem trip_pieces (k : Fin (k0_t1_loop i).trips) (acc : FVec Ideal S512x256 .f32 × FVec Ideal S512x128 .f32)
    (f : BufTy.Contents (Elt Ideal) arg8.view.ty) :
    tripL_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 k acc f
      = [⟨Rect.unit (s := S1x4096x256) (k0_off5 i k) S1x512x256.size (k0_off5_inb i k),
          k0_pay7 v4 v6 (arg2.view.readAt (Elt Ideal) (Rect.unit (s := S1x4096x256) (k0_off5 i k) S1x512x256.size (k0_off5_inb i k)).toLoadRect X2) (arg7.view.readAt (Elt Ideal) (Rect.unit (s := S4096x128) (k0_off6 i k) S512x128.size (k0_off6_inb i k)).toLoadRect X7) (arg6.view.readAt (Elt Ideal) (Rect.unit (s := S1x4096x1) (k0_off7 i k) S1x512x1.size (k0_off7_inb i k)).toLoadRect X6) (arg11.view.readAt (Elt Ideal) (Rect.unit (s := S4096x1) (k0_off8 i k) S512x1.size (k0_off8_inb i k)).toLoadRect X11)
            (arg8.view.readAt (Elt Ideal) (Rect.unit (s := S1x4096x256) (k0_off5 i k) S1x512x256.size (k0_off5_inb i k)).toLoadRect f)⟩] := by
  unfold tripL_k0_t1 trip_k0_t1; rfl

variable (x0 : Vec Ideal S1x4096x256 .bf16) (x1 : Vec Ideal S1x512x256 .bf16) (x2 : Vec Ideal S1x512x128 .bf16)
  (x4 : Vec Ideal S1x4096x1 .f32) (x5 : Vec Ideal S4096x128 .f32) (xs : Vec Ideal S4096x1 .f32)

/-- Before trip `k` the loop carries the gradients over the row blocks up to the one before it, and those blocks of the
    query gradient have got their part. -/
theorem loop_state (x6 : Fin 4096 → Fin 256 → EReal) (G : BufTy.Contents (Elt Ideal) arg8.view.ty)
    (init : FVec Ideal S512x256 .f32 × FVec Ideal S512x128 .f32)
    (h2 : arg2.view.read (Elt Ideal) X2 = x0) (h6 : arg6.view.read (Elt Ideal) X6 = x4)
    (h7 : arg7.view.read (Elt Ideal) X7 = x5) (h11 : arg11.view.read (Elt Ideal) X11 = xs)
    (h4 : ∀ a l, v4 (ix2 a l) = x1 (ix3 0 a l)) (hv6 : ∀ a l, v6 (ix2 a l) = x2 (ix3 0 a l))
    (hG : ∀ r l, arg8.view.read (Elt Ideal) G (ix3 0 r l)
      = x6 r l + cut ((i 1).val + 1) r (addQ (i 1).val x0 x1 x2 x4 x5 xs r l))
    (hK : ∀ a l, init.1 (ix2 a l) = ∑ r, cut ((i 1).val + 1) r (addK (i 1).val x0 x1 x2 x4 x5 xs a l r))
    (hV : ∀ a l, init.2 (ix2 a l) = ∑ r, cut ((i 1).val + 1) r (addV (i 1).val x0 x1 x4 x5 a l r)) :
    ∀ k, k ≤ 7 - (i 1).val →
      (∀ r l, arg8.view.read (Elt Ideal) (arg8.view.writes (Elt Ideal) G (st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init k).2) (ix3 0 r l)
        = x6 r l + cut ((i 1).val + 1 + k) r (addQ (i 1).val x0 x1 x2 x4 x5 xs r l)) ∧
      (∀ a l, (st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init k).1.1 (ix2 a l)
        = ∑ r, cut ((i 1).val + 1 + k) r (addK (i 1).val x0 x1 x2 x4 x5 xs a l r)) ∧
      (∀ a l, (st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init k).1.2 (ix2 a l)
        = ∑ r, cut ((i 1).val + 1 + k) r (addV (i 1).val x0 x1 x4 x5 a l r)) := by
  intro k
  induction k with
  | zero => intro _; exact ⟨hG, hK, hV⟩
  | succ k ih =>
    intro hk
    obtain ⟨iQ, iK, iV⟩ := ih (by omega)
    have hkt : k < (k0_t1_loop i).trips := by rw [trips1]; omega
    have hn : (i 1).val + 1 + k < 8 := by omega
    generalize hn' : (i 1).val + 1 + k = n at *
    have o5 := off5_eq i ⟨k, hkt⟩
    have o6 := off6_eq i ⟨k, hkt⟩
    have o7 := off7_eq i ⟨k, hkt⟩
    have o8 := off8_eq i ⟨k, hkt⟩
    simp only [hn'] at o5 o6 o7 o8
    have e := st_k0_t1_succ (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init ⟨k, hkt⟩
    dsimp only at e
    generalize st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init k = S at *
    rw [e, show (i 1).val + 1 + (k + 1) = n + 1 by omega]; clear e ih
    have q2 := fun r l => (read3 arg2.view X2 (k0_off5_inb i ⟨k, hkt⟩) n hn o5 r l).trans (by rw [h2])
    have q6 := fun r l => (read3 arg6.view X6 (k0_off7_inb i ⟨k, hkt⟩) n hn o7 r l).trans (by rw [h6])
    have q7 := fun r l => (read2 arg7.view X7 (k0_off6_inb i ⟨k, hkt⟩) n hn o6 r l).trans (by rw [h7])
    have q11 := fun r l => (read2 arg11.view X11 (k0_off8_inb i ⟨k, hkt⟩) n hn o8 r l).trans (by rw [h11])
    have hp : ∀ r a, tileP (fun x => x0 (ix3 0 (row n hn r) x)) (fun x => x1 (ix3 0 a x)) (x4 (ix3 0 (row n hn r) 0))
        = prob (i 1).val x0 x1 x4 (row n hn r) a := fun r a => (prob_after _ x0 x1 x4 n hn (by omega) r a).symm
    have hd : ∀ r a, tileDS (prob (i 1).val x0 x1 x4 (row n hn r) a) (fun x => x5 (ix2 (row n hn r) x))
        (fun x => x2 (ix3 0 a x)) (xs (ix2 (row n hn r) 0)) = dscore (i 1).val x0 x1 x2 x4 x5 xs (row n hn r) a :=
      fun _ _ => rfl
    refine ⟨fun r l => ?_, fun a l => ?_, fun a l => ?_⟩
    · rw [trip_pieces, List.singleton_append]
      by_cases hr : r.val / 512 = n
      · rw [eq_row n hn r hr]
        generalize (⟨r.val % 512, _⟩ : Fin 512) = r'
        refine (write3_in arg8.view G (k0_off5_inb i ⟨k, hkt⟩) n hn o5 _ S.2 r' l).trans ?_
        rw [pay7_at]
        simp only [q2, q6, q7, q11, h4, hv6, hp, hd]
        rw [cut_succ_row, read3 arg8.view _ (k0_off5_inb i ⟨k, hkt⟩) n hn o5, iQ, cut_row, add_zero]
        rfl
      · refine (write3_out arg8.view G (k0_off5_inb i ⟨k, hkt⟩) n o5 _ S.2 r hr l).trans ?_
        rw [iQ, cut_succ_of_ne n r hr]
    · rw [trip_result]
      dsimp only
      rw [pay6_at, sum_cut_succ n hn, iK]
      simp only [q2, q6, q7, q11, h4, hv6, hp, hd]
      rfl
    · rw [trip_result]
      dsimp only
      rw [pay5_at, sum_cut_succ n hn, iV]
      simp only [q2, q6, q7, h4, hp]
      rfl

end Loop

end Cert.KernelIdeal.Hand

end
-- ==== Proof.Kit.lean ====
/- The kernel's staging buffers, its branch, and what the launch hands the body. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's one branch: taken where the column block is the first. -/
abbrev cond0_0 (i : grid0.Coords) : Prop := (Scalar.cmpi .ne (Scalar.extui (Scalar.cmpi .eq (BitVec.ofNat 32 (i 1).val) 0#32)) 0#32) = 1#1

/-- A point's head is its number over 8, its column block the remainder. -/
theorem coords0 (t : Fin cfg0.N) : (grid0.coords t 0).val = t.val / 8 := by
  have ht : t.val < 64 := Nat.lt_of_lt_of_eq t.isLt N_0
  have e0 : (grid0.coords t 0).val = t.val / 8 % 8 := Pipeline.Grid.coords_val t 0 (by decide) rfl
  omega

theorem coords1 (t : Fin cfg0.N) : (grid0.coords t 1).val = t.val % 8 := by
  have e1 : (grid0.coords t 1).val = t.val / 1 % 8 := Pipeline.Grid.coords_val t 1 (by decide) rfl
  omega

/-- The branch is taken at the points that are multiples of 8. -/
theorem cond0_iff (t : Fin cfg0.N) : cond0_0 (grid0.coords t) ↔ t.val % 8 = 0 := by
  simp only [cond0_0, coords1]
  word_cmp

/-! Each window's staging buffer at a point, and that it is a whole buffer. -/
abbrev ms0_0 (t : Fin cfg0.N) : Memref sig .tc .vmem S1x4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x128 .f32 := win0_8.stage (cfg0.slots t 8)
abbrev hs0_8 (t : Fin cfg0.N) : (ms0_8 t).IsWhole := hstage0_8 ((cfg0.slots t 8).cast nbuf0_8)

/-- The scratch of the row sums, a whole buffer of the kernel's own. -/
abbrev scM : Memref sig .tc .vmem S4096x1 .f32 := Memref.whole cc0_scratch0
abbrev hsc : (scM).IsWhole := Memref.isWhole_whole _

/-- What the launch hands the body: the scratch at some contents, and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.RunA.lean ====
/- The body's run at a point, case A. -/
module

public import proofs.«01_k».proof.Proof.Kit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body at a point whose column block is the first of its head: from the inputs' buffers at `x0 … x5` it ends with the inputs as they were and with
    pieces written into the three outputs' buffers and the scratch. -/
noncomputable def runA (c : Dev nD) (i : grid0.Coords) (arg2 : Memref sig .tc .vmem S1x4096x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S4096x128 .f32) (harg5 : arg5.IsWhole) (arg6 : Memref sig .tc .vmem S1x4096x1 .f32) (harg6 : arg6.IsWhole) (arg7 : Memref sig .tc .vmem S4096x128 .f32) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S4096x1 .f32) (harg11 : arg11.IsWhole) (hc0 : cond0_0 i)
    (x0 : Vec F S1x4096x256 .bf16) (x1 : Vec F S1x512x256 .bf16) (x2 : Vec F S1x512x128 .bf16) (x3 : Vec F S4096x128 .f32) (x4 : Vec F S1x4096x1 .f32) (x5 : Vec F S4096x128 .f32) :
    Σ' (L6 : List (View.Piece (Elt F) S1x4096x256 .f32)) (L7 : List (View.Piece (Elt F) S1x512x256 .f32)) (L8 : List (View.Piece (Elt F) S1x512x128 .f32)),
    { LS : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) arg8.view.junk L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) arg11.view.junk LS)) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_mla_attn_bwd_eq_skeleton]; unfold cc0_mla_attn_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexists _; iexact H7
    isplitl [H8]; · iexists _; iexact H8
    iexact HS

end Cert.KernelIdeal.Hand

end
-- ==== Proof.RunB.lean ====
/- The body's run at a point, case B. -/
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body at a point whose column block is not the first of its head: from the inputs' buffers at `x0 … x5`, the
    query gradient's buffer at `x6` and the row sums' scratch at `xs`, it ends with the inputs as they were and with
    pieces written into the three outputs' buffers. -/
noncomputable def runB (c : Dev nD) (i : grid0.Coords) (arg2 : Memref sig .tc .vmem S1x4096x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S4096x128 .f32) (harg5 : arg5.IsWhole) (arg6 : Memref sig .tc .vmem S1x4096x1 .f32) (harg6 : arg6.IsWhole) (arg7 : Memref sig .tc .vmem S4096x128 .f32) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S4096x1 .f32) (harg11 : arg11.IsWhole) (hc0 : ¬cond0_0 i)
    (x0 : Vec F S1x4096x256 .bf16) (x1 : Vec F S1x512x256 .bf16) (x2 : Vec F S1x512x128 .bf16) (x3 : Vec F S4096x128 .f32) (x4 : Vec F S1x4096x1 .f32) (x5 : Vec F S4096x128 .f32) (x6 : Vec F S1x4096x256 .f32) (xs : Vec F S4096x1 .f32) :
    Σ' (L6 : List (View.Piece (Elt F) S1x4096x256 .f32)) (L7 : List (View.Piece (Elt F) S1x512x256 .f32)) (L8 : List (View.Piece (Elt F) S1x512x128 .f32)),
    { LS : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11) K } := by
  refine ⟨?_, ?_, ?_, [], fun E K => ?run⟩
  case run =>
    simp only [cc0_mla_attn_bwd_eq_skeleton]; unfold cc0_mla_attn_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexists _; iexact H7
    isplitl [H8]; · iexists _; iexact H8
    iexact HS

end Cert.KernelIdeal.Hand

end
-- ==== Proof.Outputs.lean ====
/- What the body leaves in the three outputs' buffers and in its scratch at a point, in closed form. -/
module

public import proofs.«01_k».proof.Proof.Loop
public import proofs.«01_k».proof.Proof.RunB
public import Idealize.ShloMosaic.Lib.VecWindow

@[expose] public section

noncomputable section

namespace Cert.KernelIdeal.Hand

open Cert.KernelIdeal Cert.KernelIdeal.Gen
open Idealize.ShloMosaic Idealize.ShloMosaic.TcCoe
open Idealize.SL Idealize.SL.RA Idealize.SL.BI

section Closed

variable (j : ℕ) (x0 : Vec Ideal S1x4096x256 .bf16) (x1 : Vec Ideal S1x512x256 .bf16) (x2 : Vec Ideal S1x512x128 .bf16) (x3 : Vec Ideal S4096x128 .f32)
  (x4 : Vec Ideal S1x4096x1 .f32) (x5 : Vec Ideal S4096x128 .f32) (xs : Vec Ideal S4096x1 .f32) (x6 : Vec Ideal S1x4096x256 .f32)

/-- The query gradient's buffer after the point. -/
def outQ : Vec Ideal S1x4096x256 .f32 := fun y => x6 y + addQ j x0 x1 x2 x4 x5 xs (y 1) (y 2)

/-- The key gradient's buffer after the point. -/
def outK : Vec Ideal S1x512x256 .f32 := fun y => ∑ r, addK j x0 x1 x2 x4 x5 xs (y 1) (y 2) r

/-- The value gradient's buffer after the point. -/
def outV : Vec Ideal S1x512x128 .f32 := fun y => ∑ r, addV j x0 x1 x4 x5 (y 1) (y 2) r

/-- The row sums of the upstream gradient times the output. -/
def rowSums : Vec Ideal S4096x1 .f32 := fun y => ∑ x, x5 (ix2 (y 0) x) * x3 (ix2 (y 0) x)

end Closed

/-- Equality of buffers with a leading axis of 1, entry by entry. -/
theorem buf3_ext1 {a b : ℕ} {α : Type} (x y : (⟨3, ![1, a, b]⟩ : Shape).Idx → α) (h : ∀ r l, x (ix3 0 r l) = y (ix3 0 r l)) : x = y := by
  funext z
  rw [eq_ix3 z, Subsingleton.elim (α := Fin 1) (z 0) 0]
  exact h _ _

section Body

variable (c : Dev nD) (i : grid0.Coords) (arg2 : Memref sig .tc .vmem S1x4096x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S4096x128 .f32) (harg5 : arg5.IsWhole) (arg6 : Memref sig .tc .vmem S1x4096x1 .f32) (harg6 : arg6.IsWhole) (arg7 : Memref sig .tc .vmem S4096x128 .f32) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S4096x1 .f32) (harg11 : arg11.IsWhole)

/-- The loop behind the main one makes no trip: it hands on what it is given and writes nothing. -/
theorem rest_state (arg1 : BitVec 32) (v4 : FVec Ideal S512x256 .bf16) (v6 : FVec Ideal S512x128 .bf16) (v7 : FVec Ideal S512x256 .f32) (v8 : FVec Ideal S512x128 .f32) (v10 : BitVec 32) (v13 : FVec Ideal S512x256 .bf16) (v17 : FVec Ideal S512x128 .bf16) (v35 : FVec Ideal S512x512 .f32) (v59 : BitVec 32) (X2 : BufTy.Contents (Elt Ideal) arg2.view.ty) (X6 : BufTy.Contents (Elt Ideal) arg6.view.ty) (X7 : BufTy.Contents (Elt Ideal) arg7.view.ty) (X11 : BufTy.Contents (Elt Ideal) arg11.view.ty)
    (G : BufTy.Contents (Elt Ideal) arg8.view.ty) (init : FVec Ideal S512x256 .f32 × FVec Ideal S512x128 .f32) :
    st_k0_t2 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init
      (Scf.trips (k0_t2_loop i).lb (k0_t2_loop i).ub (k0_t2_loop i).st) = (init, []) := by
  rw [show Scf.trips (k0_t2_loop i).lb (k0_t2_loop i).ub (k0_t2_loop i).st = 0 from trips2 i]; rfl

/-- The diagonal block's part, then the loop over the blocks after it: all rows of the head. -/
theorem body_state (arg1 : BitVec 32) (v4 : FVec Ideal S512x256 .bf16) (v6 : FVec Ideal S512x128 .bf16) (v7 : FVec Ideal S512x256 .f32) (v8 : FVec Ideal S512x128 .f32) (v10 : BitVec 32) (v13 : FVec Ideal S512x256 .bf16) (v17 : FVec Ideal S512x128 .bf16) (v35 : FVec Ideal S512x512 .f32) (v59 : BitVec 32) (X2 : BufTy.Contents (Elt Ideal) arg2.view.ty) (X6 : BufTy.Contents (Elt Ideal) arg6.view.ty) (X7 : BufTy.Contents (Elt Ideal) arg7.view.ty) (X11 : BufTy.Contents (Elt Ideal) arg11.view.ty)
    (x0 : Vec Ideal S1x4096x256 .bf16) (x1 : Vec Ideal S1x512x256 .bf16) (x2 : Vec Ideal S1x512x128 .bf16) (x3 : Vec Ideal S4096x128 .f32)
  (x4 : Vec Ideal S1x4096x1 .f32) (x5 : Vec Ideal S4096x128 .f32) (xs : Vec Ideal S4096x1 .f32) (x6 : Vec Ideal S1x4096x256 .f32)
    (G0 : BufTy.Contents (Elt Ideal) arg8.view.ty) (v38 : Vec Ideal S512x1 .f32)
    (h2 : arg2.view.read (Elt Ideal) X2 = x0) (h6 : arg6.view.read (Elt Ideal) X6 = x4)
    (h7 : arg7.view.read (Elt Ideal) X7 = x5) (h11 : arg11.view.read (Elt Ideal) X11 = xs)
    (h4 : ∀ a l, v4 (ix2 a l) = x1 (ix3 0 a l)) (hv6 : ∀ a l, v6 (ix2 a l) = x2 (ix3 0 a l))
    (hv7 : ∀ a l, v7 (ix2 a l) = 0) (hv8 : ∀ a l, v8 (ix2 a l) = 0)
    (h13 : ∀ r l, v13 (ix2 r l) = x0 (ix3 0 (row (i 1).val (i 1).isLt r) l))
    (h17 : ∀ r l, v17 (ix2 r l) = x5 (ix2 (row (i 1).val (i 1).isLt r) l))
    (h35 : ∀ r a, v35 (ix2 r a) = prob (i 1).val x0 x1 x4 (row (i 1).val (i 1).isLt r) a)
    (h38 : ∀ r, v38 (ix2 r 0) = xs (ix2 (row (i 1).val (i 1).isLt r) 0))
    (hG0 : arg8.view.read (Elt Ideal) G0 = x6)
    (G : BufTy.Contents (Elt Ideal) arg8.view.ty) (init : FVec Ideal S512x256 .f32 × FVec Ideal S512x128 .f32)
    (hG : G = arg8.view.writes (Elt Ideal) G0 [⟨Rect.unit (s := S1x4096x256) (k0_off1 i) S1x512x256.size (k0_off1_inb i),
      k0_pay27 v4 v6 v17 v35 v38 (arg8.view.readAt (Elt Ideal)
        (Rect.unit (s := S1x4096x256) (k0_off1 i) S1x512x256.size (k0_off1_inb i)).toLoadRect G0)⟩])
    (hi : init = (k0_pay26 v6 v7 v13 v17 v35 v38, k0_pay25 v8 v17 v35)) :
    arg8.view.read (Elt Ideal) (arg8.view.writes (Elt Ideal) G (st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init (Scf.trips (k0_t1_loop i).lb (k0_t1_loop i).ub (k0_t1_loop i).st)).2) = outQ (i 1).val x0 x1 x2 x4 x5 xs x6 ∧
    k0_pay28 (st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init (Scf.trips (k0_t1_loop i).lb (k0_t1_loop i).ub (k0_t1_loop i).st)).1.1 = outK (i 1).val x0 x1 x2 x4 x5 xs ∧
    k0_pay29 (st_k0_t1 (F := Ideal) Variants.none c none i arg2 harg2 arg3 harg3 arg4 harg4 arg5 harg5 arg6 harg6 arg7 harg7 arg8 harg8 arg9 harg9 arg10 harg10 arg11 harg11 arg1 v4 v6 v7 v8 v10 v13 v17 v35 v59 X2 X6 X7 X11 G init (Scf.trips (k0_t1_loop i).lb (k0_t1_loop i).ub (k0_t1_loop i).st)).1.2 = outV (i 1).val x0 x1 x4 x5 := by
  have hj := (i 1).isLt
  have hj8 : (i 1).val < 8 := hj
  have L := loop_state c i arg2 harg2 arg3 harg3 arg4 harg4 arg5 harg5 arg6 harg6 arg7 harg7 arg8 harg8 arg9 harg9 arg10 harg10 arg11 harg11 arg1 v4 v6 v7 v8 v10 v13 v17 v35 v59 X2 X6 X7 X11 x0 x1 x2 x4 x5 xs (fun r l => x6 (ix3 0 r l)) G init h2 h6 h7 h11 h4 hv6 ?_ ?_ ?_
    (7 - (i 1).val) le_rfl
  · rw [show Scf.trips (k0_t1_loop i).lb (k0_t1_loop i).ub (k0_t1_loop i).st = 7 - (i 1).val from trips1 i]
    rw [show (i 1).val + 1 + (7 - (i 1).val) = 8 by omega] at L
    simp only [cut_all] at L
    obtain ⟨lQ, lK, lV⟩ := L
    refine ⟨buf3_ext1 _ _ lQ, buf3_ext1 _ _ fun a l => ?_, buf3_ext1 _ _ fun a l => ?_⟩
    · rw [pay28_at, lK]; rfl
    · rw [pay29_at, lV]; rfl
  · intro r l
    subst hG
    by_cases hr : r.val / 512 = (i 1).val
    · rw [eq_row _ hj8 r hr]
      generalize (⟨r.val % 512, _⟩ : Fin 512) = r'
      refine (write3_in arg8.view G0 (k0_off1_inb i) _ hj8 (off1_eq i) _ [] r' l).trans ?_
      rw [pay27_at, read3 arg8.view G0 (k0_off1_inb i) _ hj8 (off1_eq i), hG0, cut_succ_row]
      simp only [h4, hv6, h17, h35, h38]
      rfl
    · refine (write3_out arg8.view G0 (k0_off1_inb i) _ (off1_eq i) _ [] r hr l).trans ?_
      rw [cut_succ_of_ne _ r hr, View.writes_nil, hG0]
      unfold cut
      split
      · rw [addQ_before _ x0 x1 x2 x4 x5 xs r l ‹_›, add_zero]
      · rw [add_zero]
  · intro a l
    rw [hi, sum_cut_succ _ hj8, sum_cut_before _ _ fun r h => addK_before _ x0 x1 x2 x4 x5 xs a l r h]
    dsimp only
    rw [pay26_at, hv7]
    simp only [hv6, h13, h17, h35, h38]
    rfl
  · intro a l
    rw [hi, sum_cut_succ _ hj8, sum_cut_before _ _ fun r h => addV_before _ x0 x1 x4 x5 a l r h]
    dsimp only
    rw [pay25_at, hv8]
    simp only [h17, h35]
    rfl

variable (x0 : Vec Ideal S1x4096x256 .bf16) (x1 : Vec Ideal S1x512x256 .bf16) (x2 : Vec Ideal S1x512x128 .bf16) (x3 : Vec Ideal S4096x128 .f32)
  (x4 : Vec Ideal S1x4096x1 .f32) (x5 : Vec Ideal S4096x128 .f32) (xs : Vec Ideal S4096x1 .f32) (x6 : Vec Ideal S1x4096x256 .f32)

/-- The blocks of the diagonal as the body loads them. -/
theorem diag_prob (r a : Fin 512) :
    k0_pay23 (arg3.view.readAt (Elt Ideal) (Rect.unit (s := S1x512x256) ![0, 0, 0] S1x512x256.size inb_S1x512x256_S1x512x256_0_0_0).toLoadRect (harg3.unread x1))
      (arg2.view.readAt (Elt Ideal) (Rect.unit (s := S1x4096x256) (k0_off1 i) S1x512x256.size (k0_off1_inb i)).toLoadRect (harg2.unread x0))
      (arg6.view.readAt (Elt Ideal) (Rect.unit (s := S1x4096x1) (k0_off3 i) S1x512x1.size (k0_off3_inb i)).toLoadRect (harg6.unread x4)) (ix2 r a)
      = prob (i 1).val x0 x1 x4 (row (i 1).val (i 1).isLt r) a := by
  rw [pay23_at, prob_diag _ x0 x1 x4 (i 1).isLt, View.readAt_full, harg3.read_unread]
  simp only [read3 _ _ (k0_off1_inb i) _ (i 1).isLt (off1_eq i), read3 _ _ (k0_off3_inb i) _ (i 1).isLt (off3_eq i),
    harg2.read_unread, harg6.read_unread]

/-- A point that is not the first of its head: the three outputs' buffers. -/
theorem runB_out (hc0 : ¬cond0_0 i) :
    arg8.view.read (Elt Ideal) (arg8.view.writes (Elt Ideal) (harg8.unread x6) (runB c i arg2 harg2 arg3 harg3 arg4 harg4 arg5 harg5 arg6 harg6 arg7 harg7 arg8 harg8 arg9 harg9 arg10 harg10 arg11 harg11 hc0 x0 x1 x2 x3 x4 x5 x6 xs).1)
        = outQ (i 1).val x0 x1 x2 x4 x5 xs x6 ∧
    (∀ f, arg9.view.read (Elt Ideal) (arg9.view.writes (Elt Ideal) f (runB c i arg2 harg2 arg3 harg3 arg4 harg4 arg5 harg5 arg6 harg6 arg7 harg7 arg8 harg8 arg9 harg9 arg10 harg10 arg11 harg11 hc0 x0 x1 x2 x3 x4 x5 x6 xs).2.1)
        = outK (i 1).val x0 x1 x2 x4 x5 xs) ∧
    (∀ f, arg10.view.read (Elt Ideal) (arg10.view.writes (Elt Ideal) f (runB c i arg2 harg2 arg3 harg3 arg4 harg4 arg5 harg5 arg6 harg6 arg7 harg7 arg8 harg8 arg9 harg9 arg10 harg10 arg11 harg11 hc0 x0 x1 x2 x3 x4 x5 x6 xs).2.2.1)
        = outV (i 1).val x0 x1 x4 x5) := by
  unfold runB; dsimp only [runB.sl.r_5]
  rw [rest_state, List.nil_append]
  simp only [rest_state]
  rw [View.writes_append]
  refine (fun T => ⟨T.1, fun f => by rw [View.read_writes_full]; exact T.2.1, fun f => by rw [View.read_writes_full]; exact T.2.2⟩)
    (body_state c i arg2 harg2 arg3 harg3 arg4 harg4 arg5 harg5 arg6 harg6 arg7 harg7 arg8 harg8 arg9 harg9 arg10 harg10 arg11 harg11 _ _ _ _ _ _ _ _ _ _ _ _ _ _ x0 x1 x2 x3 x4 x5 xs x6 (harg8.unread x6) _ (harg2.read_unread x0)
      (harg6.read_unread x4) (harg7.read_unread x5) (harg11.read_unread xs) (fun a l => ?_) (fun a l => ?_) pay19_at pay20_at
      (fun r l => ?_) (fun r l => ?_) (fun r a => ?_) (fun r => ?_) (harg8.read_unread x6) _ _ rfl rfl)
  · exact (pay17_at _ _ _).trans (by rw [View.readAt_full, harg3.read_unread])
  · exact (pay18_at _ _ _).trans (by rw [View.readAt_full, harg4.read_unread])
  · exact (pay21_at _ _ _).trans ((read3 _ _ (k0_off1_inb i) _ (i 1).isLt (off1_eq i) r l).trans (by rw [harg2.read_unread]))
  · exact (pay22_at _ _ _).trans ((read2 _ _ (k0_off2_inb i) _ (i 1).isLt (off2_eq i) r l).trans (by rw [harg7.read_unread]))
  · exact diag_prob i arg2 harg2 arg3 harg3 arg6 harg6 x0 x1 x4 r a
  · exact (read2 _ _ (k0_off4_inb i) _ (i 1).isLt (off4_eq i) r 0).trans (by rw [harg11.read_unread])

/-- The row sums as the body leaves them in its scratch. -/
theorem scratch_read (f : BufTy.Contents (Elt Ideal) arg11.view.ty) :
    arg11.view.read (Elt Ideal) (arg11.view.writes (Elt Ideal) f (runA.sl.HS_1 (F := Ideal) c arg5 harg5 arg7 harg7 x3 x5)) = rowSums x3 x5 := by
  refine (View.read_writes_full _ _ _ _ _).trans (funext fun y => ?_)
  rw [View.readAt_full, View.readAt_full, harg7.read_unread, harg5.read_unread, eq_ix2 y]
  exact pay16_at _ _ _ _

/-- The query gradient's buffer after the first point's fill. -/
theorem fill_read (f : BufTy.Contents (Elt Ideal) arg8.view.ty) :
    arg8.view.read (Elt Ideal) (arg8.view.writes (Elt Ideal) f (runA.sl.H6_1 (F := Ideal))) = fun _ => (0 : EReal) := by
  refine (View.read_writes_full _ _ _ _ _).trans (funext fun y => ?_)
  rw [eq_ix3 y]
  exact pay15_at _ _ _

/-- The first point of a head: the three outputs' buffers and the scratch. -/
theorem runA_out (hc0 : cond0_0 i) :
    arg8.view.read (Elt Ideal) (arg8.view.writes (Elt Ideal) arg8.view.junk (runA c i arg2 harg2 arg3 harg3 arg4 harg4 arg5 harg5 arg6 harg6 arg7 harg7 arg8 harg8 arg9 harg9 arg10 harg10 arg11 harg11 hc0 x0 x1 x2 x3 x4 x5).1)
        = outQ (i 1).val x0 x1 x2 x4 x5 (rowSums x3 x5) (fun _ => (0 : EReal)) ∧
    (∀ f, arg9.view.read (Elt Ideal) (arg9.view.writes (Elt Ideal) f (runA c i arg2 harg2 arg3 harg3 arg4 harg4 arg5 harg5 arg6 harg6 arg7 harg7 arg8 harg8 arg9 harg9 arg10 harg10 arg11 harg11 hc0 x0 x1 x2 x3 x4 x5).2.1)
        = outK (i 1).val x0 x1 x2 x4 x5 (rowSums x3 x5)) ∧
    (∀ f, arg10.view.read (Elt Ideal) (arg10.view.writes (Elt Ideal) f (runA c i arg2 harg2 arg3 harg3 arg4 harg4 arg5 harg5 arg6 harg6 arg7 harg7 arg8 harg8 arg9 harg9 arg10 harg10 arg11 harg11 hc0 x0 x1 x2 x3 x4 x5).2.2.1)
        = outV (i 1).val x0 x1 x4 x5) ∧
    arg11.view.read (Elt Ideal) (arg11.view.writes (Elt Ideal) arg11.view.junk (runA c i arg2 harg2 arg3 harg3 arg4 harg4 arg5 harg5 arg6 harg6 arg7 harg7 arg8 harg8 arg9 harg9 arg10 harg10 arg11 harg11 hc0 x0 x1 x2 x3 x4 x5).2.2.2.1)
        = rowSums x3 x5 := by
  unfold runA; dsimp only [runA.sl.r_5]
  rw [rest_state, List.nil_append]
  simp only [rest_state]
  rw [View.writes_append]
  refine (fun T => ⟨T.1, fun f => by rw [View.read_writes_full]; exact T.2.1, fun f => by rw [View.read_writes_full]; exact T.2.2, scratch_read c arg5 harg5 arg7 harg7 arg11 x3 x5 _⟩)
    (body_state c i arg2 harg2 arg3 harg3 arg4 harg4 arg5 harg5 arg6 harg6 arg7 harg7 arg8 harg8 arg9 harg9 arg10 harg10 arg11 harg11 _ _ _ _ _ _ _ _ _ _ _ _ _ _ x0 x1 x2 x3 x4 x5 (rowSums x3 x5) (fun _ => (0 : EReal))
      (arg8.view.writes (Elt Ideal) arg8.view.junk (runA.sl.H6_1 (F := Ideal))) _ (harg2.read_unread x0)
      (harg6.read_unread x4) (harg7.read_unread x5) (scratch_read c arg5 harg5 arg7 harg7 arg11 x3 x5 _) (fun a l => ?_) (fun a l => ?_) pay19_at pay20_at
      (fun r l => ?_) (fun r l => ?_) (fun r a => ?_) (fun r => ?_) (fill_read arg8 _) _ _ rfl rfl)
  · exact (pay17_at _ _ _).trans (by rw [View.readAt_full, harg3.read_unread])
  · exact (pay18_at _ _ _).trans (by rw [View.readAt_full, harg4.read_unread])
  · exact (pay21_at _ _ _).trans ((read3 _ _ (k0_off1_inb i) _ (i 1).isLt (off1_eq i) r l).trans (by rw [harg2.read_unread]))
  · exact (pay22_at _ _ _).trans ((read2 _ _ (k0_off2_inb i) _ (i 1).isLt (off2_eq i) r l).trans (by rw [harg7.read_unread]))
  · exact diag_prob i arg2 harg2 arg3 harg3 arg6 harg6 x0 x1 x4 r a
  · exact (read2 _ _ (k0_off4_inb i) _ (i 1).isLt (off4_eq i) r 0).trans (by rw [scratch_read c arg5 harg5 arg7 harg7 arg11 x3 x5])

end Body

end Cert.KernelIdeal.Hand

end
-- ==== Proof.Arrays.lean ====
/- The three gradients as functions of the arrays that the kernel takes, and what a point of the grid adds to them. -/
module

public import proofs.«01_k».proof.Proof.Outputs

@[expose] public section

noncomputable section

namespace Cert.KernelIdeal.Hand

open Cert.KernelIdeal Cert.KernelIdeal.Gen
open Idealize.ShloMosaic

/-- Lane `x` of head `h` among the 1024 lanes of a row. -/
def lane (h : Fin 8) (x : Fin 128) : Fin 1024 := ⟨128 * h.val + x.val, by omega⟩

section Arrays

variable (qf kf : Vec Ideal S8x4096x256 .bf16) (vf : Vec Ideal S8x4096x128 .bf16) (o g : Vec Ideal S4096x1024 .f32) (lse : Vec Ideal S8x4096x1 .f32)

/-- The probability of column `c` in row `r` of head `h`: 0 where the column's chunk comes after the row's. -/
def probH (h : Fin 8) (r c : Fin 4096) : EReal :=
  if c.val / 64 ≤ r.val / 64 then tileP (fun x => qf (ix3 h r x)) (fun x => kf (ix3 h c x)) (lse (ix3 h r 0)) else 0

/-- The gradient of the score there. -/
def dscoreH (h : Fin 8) (r c : Fin 4096) : EReal :=
  tileDS (probH qf kf lse h r c) (fun x => g (ix2 r (lane h x))) (fun x => vf (ix3 h c x)) (∑ x, g (ix2 r (lane h x)) * o (ix2 r (lane h x)))

/-- One column's part in the query gradient, -/
def termQ (h : Fin 8) (r : Fin 4096) (l : Fin 256) (c : Fin 4096) : EReal := dscoreH qf kf vf o g lse h r c * kf (ix3 h c l)

/-- the query gradient, -/
def gradQ : Vec Ideal S8x4096x256 .f32 := fun y => ∑ c, termQ qf kf vf o g lse (y 0) (y 1) (y 2) c

/-- the key gradient, -/
def gradK : Vec Ideal S8x4096x256 .f32 := fun y => ∑ r, dscoreH qf kf vf o g lse (y 0) r (y 1) * qf (ix3 (y 0) r (y 2))

/-- and the value gradient. -/
def gradV : Vec Ideal S8x4096x128 .f32 := fun y => ∑ r, probH qf kf lse (y 0) r (y 1) * g (ix2 r (lane (y 0) (y 2)))

/-- The query gradient's buffer once the first `n` column blocks of head `h` are in. -/
def partQ (h : Fin 8) (n : ℕ) : Vec Ideal S1x4096x256 .f32 := fun y => ∑ c, cut n c (termQ qf kf vf o g lse h (y 1) (y 2) c)

/-- Block `j` of the key gradient of head `h`, -/
def blockK (h j : Fin 8) : Vec Ideal S1x512x256 .f32 := fun y => gradK qf kf vf o g lse (ix3 h (row j.val j.isLt (y 1)) (y 2))

/-- and of the value gradient. -/
def blockV (h j : Fin 8) : Vec Ideal S1x512x128 .f32 := fun y => gradV qf kf g lse (ix3 h (row j.val j.isLt (y 1)) (y 2))

/-! What the point (`h`, `j`) finds in its inputs' buffers. -/

/-- Head `h` of an array of heads, -/
def headBlk {w : ℕ} {e : EltTy} (a : Vec Ideal ⟨3, ![8, 4096, w]⟩ e) (h : Fin 8) : Vec Ideal ⟨3, ![1, 4096, w]⟩ e := fun y => a (ix3 h (y 1) (y 2))

/-- block `j` of its rows, -/
def rowBlk {w : ℕ} {e : EltTy} (a : Vec Ideal ⟨3, ![8, 4096, w]⟩ e) (h j : Fin 8) : Vec Ideal ⟨3, ![1, 512, w]⟩ e :=
  fun y => a (ix3 h (row j.val j.isLt (y 1)) (y 2))

/-- and head `h`'s lanes of an array of rows. -/
def laneBlk {e : EltTy} (a : Vec Ideal S4096x1024 e) (h : Fin 8) : Vec Ideal S4096x128 e := fun y => a (ix2 (y 0) (lane h (y 1)))

theorem prob_blk (h j : Fin 8) (r : Fin 4096) (c : Fin 512) :
    prob j.val (headBlk qf h) (rowBlk kf h j) (headBlk lse h) r c = probH qf kf lse h r (row j.val j.isLt c) := rfl

theorem dscore_blk (h j : Fin 8) (r : Fin 4096) (c : Fin 512) :
    dscore j.val (headBlk qf h) (rowBlk kf h j) (rowBlk vf h j) (headBlk lse h) (laneBlk g h) (rowSums (laneBlk o h) (laneBlk g h)) r c
      = dscoreH qf kf vf o g lse h r (row j.val j.isLt c) := rfl

/-- The query gradient's buffer after the point. -/
theorem outQ_blk (h j : Fin 8) :
    outQ j.val (headBlk qf h) (rowBlk kf h j) (rowBlk vf h j) (headBlk lse h) (laneBlk g h) (rowSums (laneBlk o h) (laneBlk g h))
      (partQ qf kf vf o g lse h j.val) = partQ qf kf vf o g lse h (j.val + 1) :=
  funext fun y => (sum_cut_succ j.val j.isLt (termQ qf kf vf o g lse h (y 1) (y 2))).symm

/-- No block is in before the first. -/
theorem partQ_zero (h : Fin 8) : partQ qf kf vf o g lse h 0 = fun _ => (0 : EReal) :=
  funext fun _ => sum_cut_before 0 _ fun _ h => absurd h (Nat.not_lt_zero _)

/-- All blocks are in after the last. -/
theorem partQ_all (h : Fin 8) : partQ qf kf vf o g lse h 8 = fun y => gradQ qf kf vf o g lse (ix3 h (y 1) (y 2)) :=
  funext fun _ => Finset.sum_congr rfl fun _ _ => cut_all _ _

theorem outK_blk (h j : Fin 8) :
    outK j.val (headBlk qf h) (rowBlk kf h j) (rowBlk vf h j) (headBlk lse h) (laneBlk g h) (rowSums (laneBlk o h) (laneBlk g h))
      = blockK qf kf vf o g lse h j := rfl

theorem outV_blk (h j : Fin 8) :
    outV j.val (headBlk qf h) (rowBlk kf h j) (headBlk lse h) (laneBlk g h) = blockV qf kf g lse h j := rfl

end Arrays

end Cert.KernelIdeal.Hand

end
-- ==== Proof.Blocks.lean ====
/- Each window's block at a point, as a part of the array it is cut from. -/
module

public import proofs.«01_k».proof.Proof.Arrays
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.SL Idealize.SL.RA

variable (m : (ℓ : Loc nD τ sig) → Buf (Elt Ideal) ℓ)

/-- The head of a point, -/
def hd (t : Fin cfg0.N) : Fin 8 := ⟨t.val / 8, by have h : t.val < 64 := Nat.lt_of_lt_of_eq t.isLt N_0; omega⟩

/-- and its column block. -/
def cb (t : Fin cfg0.N) : Fin 8 := ⟨t.val % 8, Nat.mod_lt _ (by decide)⟩

theorem word0 (t : Fin cfg0.N) : (BitVec.ofNat 32 (grid0.coords t 0).val).toNat = (hd t).val := by
  have h : t.val < 64 := Nat.lt_of_lt_of_eq t.isLt N_0
  rw [coords0]; simp only [BitVec.toNat_ofNat, hd]; omega

theorem word1 (t : Fin cfg0.N) : (BitVec.ofNat 32 (grid0.coords t 1).val).toNat = (cb t).val := by
  rw [coords1]; simp only [BitVec.toNat_ofNat, cb]; omega

/-! The arrays as the kernel's launch finds them. -/
abbrev aq (c : Dev nD) : Vec Ideal S8x4096x256 .bf16 := V m c main_v3
abbrev ak (c : Dev nD) : Vec Ideal S8x4096x256 .bf16 := V m c main_v7
abbrev av (c : Dev nD) : Vec Ideal S8x4096x128 .bf16 := V m c main_v10
abbrev ao (c : Dev nD) : Vec Ideal S4096x1024 .f32 := V m c main_v33
abbrev al (c : Dev nD) : Vec Ideal S8x4096x1 .f32 := V m c main_v36
abbrev ag (c : Dev nD) : Vec Ideal S4096x1024 .f32 := V m c main_v37

/-! Window `w` at a point reads the block of its array. -/

theorem emb0 (t : Fin cfg0.N) (A : Vec Ideal S8x4096x256 .bf16) (j : S1x4096x256.Idx) : A ((win0_0.blk t).view.emb j) = headBlk A (hd t) j := by
  refine congrArg A (funext fun a => Fin.ext ?_)
  have h0 : (j 0).val < 1 := (j 0).isLt
  have hw := word0 t
  fin_cases a
  · show (BitVec.ofNat 32 (grid0.coords t 0).val).toNat * 1 + 1 * (j 0).val = (hd t).val; omega
  · show 0 * 4096 + 1 * (j 1).val = (j 1).val; omega
  · show 0 * 256 + 1 * (j 2).val = (j 2).val; omega

theorem emb1 (t : Fin cfg0.N) (A : Vec Ideal S8x4096x256 .bf16) (j : S1x512x256.Idx) : A ((win0_1.blk t).view.emb j) = rowBlk A (hd t) (cb t) j := by
  refine congrArg A (funext fun a => Fin.ext ?_)
  have h0 : (j 0).val < 1 := (j 0).isLt
  have hw := word0 t
  have hw1 := word1 t
  fin_cases a
  · show (BitVec.ofNat 32 (grid0.coords t 0).val).toNat * 1 + 1 * (j 0).val = (hd t).val; omega
  · show (BitVec.ofNat 32 (grid0.coords t 1).val).toNat * 512 + 1 * (j 1).val = 512 * (cb t).val + (j 1).val; omega
  · show 0 * 256 + 1 * (j 2).val = (j 2).val; omega

theorem emb2 (t : Fin cfg0.N) (A : Vec Ideal S8x4096x128 .bf16) (j : S1x512x128.Idx) : A ((win0_2.blk t).view.emb j) = rowBlk A (hd t) (cb t) j := by
  refine congrArg A (funext fun a => Fin.ext ?_)
  have h0 : (j 0).val < 1 := (j 0).isLt
  have hw := word0 t
  have hw1 := word1 t
  fin_cases a
  · show (BitVec.ofNat 32 (grid0.coords t 0).val).toNat * 1 + 1 * (j 0).val = (hd t).val; omega
  · show (BitVec.ofNat 32 (grid0.coords t 1).val).toNat * 512 + 1 * (j 1).val = 512 * (cb t).val + (j 1).val; omega
  · show 0 * 128 + 1 * (j 2).val = (j 2).val; omega

theorem emb3 (t : Fin cfg0.N) (A : Vec Ideal S4096x1024 .f32) (j : S4096x128.Idx) : A ((win0_3.blk t).view.emb j) = laneBlk A (hd t) j := by
  refine congrArg A (funext fun a => Fin.ext ?_)
  have hw := word0 t
  fin_cases a
  · show 0 * 4096 + 1 * (j 0).val = (j 0).val; omega
  · show (BitVec.ofNat 32 (grid0.coords t 0).val).toNat * 128 + 1 * (j 1).val = 128 * (hd t).val + (j 1).val; omega

theorem emb4 (t : Fin cfg0.N) (A : Vec Ideal S8x4096x1 .f32) (j : S1x4096x1.Idx) : A ((win0_4.blk t).view.emb j) = headBlk A (hd t) j := by
  refine congrArg A (funext fun a => Fin.ext ?_)
  have h0 : (j 0).val < 1 := (j 0).isLt
  have hw := word0 t
  fin_cases a
  · show (BitVec.ofNat 32 (grid0.coords t 0).val).toNat * 1 + 1 * (j 0).val = (hd t).val; omega
  · show 0 * 4096 + 1 * (j 1).val = (j 1).val; omega
  · show 0 * 1 + 1 * (j 2).val = (j 2).val; omega

theorem emb5 (t : Fin cfg0.N) (A : Vec Ideal S4096x1024 .f32) (j : S4096x128.Idx) : A ((win0_5.blk t).view.emb j) = laneBlk A (hd t) j := by
  refine congrArg A (funext fun a => Fin.ext ?_)
  have hw := word0 t
  fin_cases a
  · show 0 * 4096 + 1 * (j 0).val = (j 0).val; omega
  · show (BitVec.ofNat 32 (grid0.coords t 0).val).toNat * 128 + 1 * (j 1).val = 128 * (hd t).val + (j 1).val; omega

theorem blk0 (c : Dev nD) (t : Fin cfg0.N) : iblk m c 0 t = headBlk (aq m c) (hd t) := by
  funext j
  unfold iblk
  rw [View.read_apply]
  exact (cast_eq rfl _).trans (emb0 t (V m c main_v3) j)

theorem blk1 (c : Dev nD) (t : Fin cfg0.N) : iblk m c 1 t = rowBlk (ak m c) (hd t) (cb t) := by
  funext j
  unfold iblk
  rw [View.read_apply]
  exact (cast_eq rfl _).trans (emb1 t (V m c main_v7) j)

theorem blk2 (c : Dev nD) (t : Fin cfg0.N) : iblk m c 2 t = rowBlk (av m c) (hd t) (cb t) := by
  funext j
  unfold iblk
  rw [View.read_apply]
  exact (cast_eq rfl _).trans (emb2 t (V m c main_v10) j)

theorem blk3 (c : Dev nD) (t : Fin cfg0.N) : iblk m c 3 t = laneBlk (ao m c) (hd t) := by
  funext j
  unfold iblk
  rw [View.read_apply]
  exact (cast_eq rfl _).trans (emb3 t (V m c main_v33) j)

theorem blk4 (c : Dev nD) (t : Fin cfg0.N) : iblk m c 4 t = headBlk (al m c) (hd t) := by
  funext j
  unfold iblk
  rw [View.read_apply]
  exact (cast_eq rfl _).trans (emb4 t (V m c main_v36) j)

theorem blk5 (c : Dev nD) (t : Fin cfg0.N) : iblk m c 5 t = laneBlk (ag m c) (hd t) := by
  funext j
  unfold iblk
  rw [View.read_apply]
  exact (cast_eq rfl _).trans (emb5 t (V m c main_v37) j)

end Cert.KernelIdeal.Hand

end
-- ==== Proof.Steps.lean ====
/- What each point of the grid leaves in the kernel's buffers. -/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch after a point: the row sums of the point's head. -/
def sums (c : Dev nD) (t : Fin cfg0.N) : Vec Ideal S4096x1 .f32 := rowSums (laneBlk (ao m c) (hd t)) (laneBlk (ag m c) (hd t))

/-- The query gradient's buffer after `n` column blocks of the point's head. -/
def bufQ (c : Dev nD) (t : Fin cfg0.N) (n : ℕ) : Vec Ideal S1x4096x256 .f32 :=
  partQ (aq m c) (ak m c) (av m c) (ao m c) (ag m c) (al m c) (hd t) n

/-- The key gradient's buffer after the point, -/
def bufK (c : Dev nD) (t : Fin cfg0.N) : Vec Ideal S1x512x256 .f32 :=
  blockK (aq m c) (ak m c) (av m c) (ao m c) (ag m c) (al m c) (hd t) (cb t)

/-- and the value gradient's. -/
def bufV (c : Dev nD) (t : Fin cfg0.N) : Vec Ideal S1x512x128 .f32 :=
  blockV (aq m c) (ak m c) (ag m c) (al m c) (hd t) (cb t)

/-- What holds between points: before the first the scratch holds anything, afterwards the last point's row sums. -/
def inv (c : Dev nD) : (n : ℕ) → n ≤ cfg0.N → sProp 𝕄
  | 0, _ => Pipeline.ΦA spec0 c
  | n + 1, hn => iprop(iprop(owns (c : Thread nD τ) scM fullShare (sums m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scM fullShare (sums m c ⟨n, hn⟩)) ∗ (∃ r, prngReg c r)) := rfl

theorem inv_pos (c : Dev nD) (n : ℕ) (h : n ≤ cfg0.N) (hz : n ≠ 0) :
    inv m c n h = iprop(iprop(owns (c : Thread nD τ) scM fullShare (sums m c ⟨n - 1, by omega⟩)) ∗ (∃ r, prngReg c r)) := by
  cases n with
  | zero => exact absurd rfl hz
  | succ n => rfl

/-- The run's data: each input's buffer keeps its block, and each output's is as named above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => bufQ m c t (t.val % 8 + 1)
    | ⟨7, _⟩ => bufK m c t
    | ⟨8, _⟩ => bufV m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = bufQ m c t (t.val % 8 + 1) := by dsimp only [dats]
theorem after0_7 (c : Dev nD) (t : Fin cfg0.N) : (dats m 0 c).after 7 t = bufK m c t := by dsimp only [dats]
theorem after0_8 (c : Dev nD) (t : Fin cfg0.N) : (dats m 0 c).after 8 t = bufV m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The point before another of the same head. -/
theorem hd_pred (t : Fin cfg0.N) (h : t.val % 8 ≠ 0) (h' : t.val - 1 < cfg0.N) : hd ⟨t.val - 1, h'⟩ = hd t :=
  Fin.ext (by show (t.val - 1) / 8 = t.val / 8; omega)

/-- Within a head the query gradient's buffer holds what the points before put there. -/
theorem before0_6 (c : Dev nD) (t : Fin cfg0.N) (h : t.val % 8 ≠ 0) (d) : (dats m 0 c).before 6 t d = bufQ m c t (t.val % 8) := by
  refine (Dat.before_out_kept (dats m 0 c) 6 rfl t (by omega) ?_ (fun _ => rfl) (fun _ _ => rfl) d).trans ?_
  · exact Bool.eq_false_iff.mpr fun hf => absurd ((flush0_6 _).mp hf) (by dsimp only; omega)
  · rw [after0_6]
    unfold bufQ
    rw [hd_pred t h, show ((⟨t.val - 1, _⟩ : Fin cfg0.N).val % 8 + 1) = t.val % 8 by dsimp only; omega]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-! What a point writes, from the blocks that it finds. -/

theorem point_blk (t : Fin cfg0.N) : (grid0.coords t 1).val = (cb t).val := coords1 t

theorem sums_eq (c : Dev nD) (t : Fin cfg0.N) : rowSums (iblk m c 3 t) (iblk m c 5 t) = sums m c t := by
  rw [blk3, blk5]; rfl

theorem outQ_pt (c : Dev nD) (t : Fin cfg0.N) :
    outQ (grid0.coords t 1).val (iblk m c 0 t) (iblk m c 1 t) (iblk m c 2 t) (iblk m c 4 t) (iblk m c 5 t) (sums m c t) (bufQ m c t (t.val % 8)) = bufQ m c t (t.val % 8 + 1) := by
  rw [point_blk, blk0, blk1, blk2, blk4, blk5]
  exact outQ_blk (aq m c) (ak m c) (av m c) (ao m c) (ag m c) (al m c) (hd t) (cb t)

theorem outK_pt (c : Dev nD) (t : Fin cfg0.N) :
    outK (grid0.coords t 1).val (iblk m c 0 t) (iblk m c 1 t) (iblk m c 2 t) (iblk m c 4 t) (iblk m c 5 t) (sums m c t) = bufK m c t := by
  rw [point_blk, blk0, blk1, blk2, blk4, blk5]
  exact outK_blk (aq m c) (ak m c) (av m c) (ao m c) (ag m c) (al m c) (hd t) (cb t)

theorem outV_pt (c : Dev nD) (t : Fin cfg0.N) :
    outV (grid0.coords t 1).val (iblk m c 0 t) (iblk m c 1 t) (iblk m c 4 t) (iblk m c 5 t) = bufV m c t := by
  rw [point_blk, blk0, blk1, blk4, blk5]
  exact outV_blk (aq m c) (ak m c) (ag m c) (al m c) (hd t) (cb t)

theorem bufQ_first (c : Dev nD) (t : Fin cfg0.N) (h0 : t.val % 8 = 0) : bufQ m c t (t.val % 8) = fun _ => (0 : EReal) := by
  rw [h0]; exact partQ_zero _ _ _ _ _ _ _

theorem outQ_pt0 (c : Dev nD) (t : Fin cfg0.N) (h0 : t.val % 8 = 0) :
    outQ (grid0.coords t 1).val (iblk m c 0 t) (iblk m c 1 t) (iblk m c 2 t) (iblk m c 4 t) (iblk m c 5 t) (rowSums (iblk m c 3 t) (iblk m c 5 t)) (fun _ => (0 : EReal)) = bufQ m c t (t.val % 8 + 1) := by
  rw [sums_eq, ← bufQ_first m c t h0]
  exact outQ_pt m c t

theorem outK_pt0 (c : Dev nD) (t : Fin cfg0.N) :
    outK (grid0.coords t 1).val (iblk m c 0 t) (iblk m c 1 t) (iblk m c 2 t) (iblk m c 4 t) (iblk m c 5 t) (rowSums (iblk m c 3 t) (iblk m c 5 t)) = bufK m c t := by
  rw [sums_eq]
  exact outK_pt m c t

/-- The first point of a head leaves the named contents, -/
theorem stepA (c : Dev nD) (t : Fin cfg0.N) (h0 : t.val % 8 = 0) (hc : cond0_0 (grid0.coords t)) :
    (ms0_6 t).view.read (Elt Ideal) ((ms0_6 t).view.writes (Elt Ideal) (ms0_6 t).view.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t)).1)
        = bufQ m c t (t.val % 8 + 1) ∧
    (∀ f, (ms0_7 t).view.read (Elt Ideal) ((ms0_7 t).view.writes (Elt Ideal) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t)).2.1) = bufK m c t) ∧
    (∀ f, (ms0_8 t).view.read (Elt Ideal) ((ms0_8 t).view.writes (Elt Ideal) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t)).2.2.1) = bufV m c t) ∧
    scM.view.read (Elt Ideal) (scM.view.writes (Elt Ideal) scM.view.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t)).2.2.2.1) = sums m c t := by
  have T := runA_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc (iblk m c 0 t) (iblk m c 1 t) (iblk m c 2 t) (iblk m c 3 t) (iblk m c 4 t) (iblk m c 5 t) hc
  exact ⟨T.1.trans (outQ_pt0 m c t h0), fun f => (T.2.1 f).trans (outK_pt0 m c t), fun f => (T.2.2.1 f).trans (outV_pt m c t), T.2.2.2.trans (sums_eq m c t)⟩

/-- and so does a later point of the head. -/
theorem stepB (c : Dev nD) (t : Fin cfg0.N) (hc : ¬cond0_0 (grid0.coords t)) :
    (ms0_6 t).view.read (Elt Ideal) ((ms0_6 t).view.writes (Elt Ideal) ((hs0_6 t).unread (bufQ m c t (t.val % 8))) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t) (bufQ m c t (t.val % 8)) (sums m c t)).1)
        = bufQ m c t (t.val % 8 + 1) ∧
    (∀ f, (ms0_7 t).view.read (Elt Ideal) ((ms0_7 t).view.writes (Elt Ideal) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t) (bufQ m c t (t.val % 8)) (sums m c t)).2.1) = bufK m c t) ∧
    (∀ f, (ms0_8 t).view.read (Elt Ideal) ((ms0_8 t).view.writes (Elt Ideal) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc hc (iblk m c 0 t) (iblk m c 1 t) (iblk m c 2 t) (iblk m c 3 t) (iblk m c 4 t) (iblk m c 5 t) (bufQ m c t (t.val % 8)) (sums m c t)).2.2.1) = bufV m c t) := by
  have T := runB_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM hsc (iblk m c 0 t) (iblk m c 1 t) (iblk m c 2 t) (iblk m c 3 t) (iblk m c 4 t) (iblk m c 5 t) (sums m c t) (bufQ m c t (t.val % 8)) hc
  exact ⟨T.1.trans (outQ_pt m c t), fun f => (T.2.1 f).trans (outK_pt m c t), fun f => (T.2.2 f).trans (outV_pt m c t)⟩

end Cert.KernelIdeal.Hand

end
-- ==== Proof.Body.lean ====
/- The body at every point of the grid, and the run of the kernel: it ends with the three gradients in its results. -/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A buffer that nothing is written to is as it was. -/
theorem read_kept {L : List (View.Piece (Elt Ideal) S4096x1 .f32)} (hL : L = []) (x : Vec Ideal S4096x1 .f32) :
    scM.view.read (Elt Ideal) (scM.view.writes (Elt Ideal) (hsc.unread x) L) = x := by
  subst hL; rw [View.writes_nil]; exact hsc.read_unread _

set_option maxHeartbeats 6400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.succ = inv m c (t.val + 1) t.isLt from rfl, inv_succ]
  by_cases h0 : t.val % 8 = 0
  · by_cases hz : t.val = 0
    · rw [inv_castSucc m c t, inv_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ ((cond0_iff t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, H6, ⟨%f7, H7⟩, ⟨%f8, H8⟩, HS⟩
      isplitl [HS Hg]
      · isplitl [HS]
        · unfold owns; iexists _; isplitr
          swap; · iexact HS
          ipureintro; exact (stepA m c t h0 _).2.2.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (stepA m c t h0 _).1
      isplitl [H7]
      · unfold owns; iexists _; isplitr
        swap; · iexact H7
        ipureintro; exact (stepA m c t h0 _).2.1 f7
      unfold owns; iexists _; isplitr
      swap; · iexact H8
      ipureintro; exact (stepA m c t h0 _).2.2.1 f8
    · rw [inv_castSucc m c t, inv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ ((cond0_iff t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexists _; iexact HS
      iintro ⟨H0, H1, H2, H3, H4, H5, H6, ⟨%f7, H7⟩, ⟨%f8, H8⟩, HS⟩
      isplitl [HS Hg]
      · isplitl [HS]
        · unfold owns; iexists _; isplitr
          swap; · iexact HS
          ipureintro; exact (stepA m c t h0 _).2.2.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (stepA m c t h0 _).1
      isplitl [H7]
      · unfold owns; iexists _; isplitr
        swap; · iexact H7
        ipureintro; exact (stepA m c t h0 _).2.1 f7
      unfold owns; iexists _; isplitr
      swap; · iexact H8
      ipureintro; exact (stepA m c t h0 _).2.2.1 f8
  · have hz : t.val ≠ 0 := fun h => h0 (by rw [h])
    rw [inv_castSucc m c t, inv_pos m c _ _ hz]
    rw [show sums m c ⟨t.val - 1, _⟩ = sums m c t by unfold sums; rw [hd_pred t h0]]
    simp only [before0_6 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ (fun h => h0 ((cond0_iff t).mp h)) (iblk m c 0 t) (iblk m c 1 t) (iblk m c 2 t) (iblk m c 3 t) (iblk m c 4 t) (iblk m c 5 t) (bufQ m c t (t.val % 8)) (sums m c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%f7, H7⟩, ⟨%f8, H8⟩, HS⟩
    isplitl [HS Hg]
    · isplitl [HS]
      · unfold owns; iexists _; isplitr
        swap; · iexact HS
        ipureintro; exact read_kept rfl _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact (stepB m c t _).1
    isplitl [H7]
    · unfold owns; iexists _; isplitr
      swap; · iexact H7
      ipureintro; exact (stepB m c t _).2.1 f7
    unfold owns; iexists _; isplitr
    swap; · iexact H8
    ipureintro; exact (stepB m c t _).2.2 f8

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands over is what holds before the first point, -/
theorem hin (c : Dev nD) : Pipeline.ΦA spec0 c ⊢ (dats m 0 c).Φ 0 := by
  rw [show (dats m 0 c).Φ 0 = inv m c 0 (Nat.zero_le _) from rfl, inv_zero m c 0 _ rfl]

/-- and what holds after the last gives it back. -/
theorem hout (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 64 := N_0; omega), PhiA_eq]
  iintro ⟨HS, Hg⟩
  isplitl [HS]
  · iexists _; iexact HS
  iexact Hg

set_option backward.isDefEq.respectTransparency.types false in
/-- The run: every window's array as named, every other buffer as the launch found it, every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.Results.lean ====
/- What the kernel's three results end holding. -/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The query gradient, -/
def resQ (c : Dev nD) : Vec Ideal S8x4096x256 .f32 := gradQ (aq m c) (ak m c) (av m c) (ao m c) (ag m c) (al m c)

/-- the key gradient, -/
def resK (c : Dev nD) : Vec Ideal S8x4096x256 .f32 := gradK (aq m c) (ak m c) (av m c) (ao m c) (ag m c) (al m c)

/-- and the value gradient. -/
def resV (c : Dev nD) : Vec Ideal S8x4096x128 .f32 := gradV (aq m c) (ak m c) (ag m c) (al m c)

theorem emb6 (t : Fin cfg0.N) (A : Vec Ideal S8x4096x256 .f32) (j : S1x4096x256.Idx) : A ((win0_6.blk t).view.emb j) = headBlk A (hd t) j := by
  refine congrArg A (funext fun a => Fin.ext ?_)
  have h0 : (j 0).val < 1 := (j 0).isLt
  have hw := word0 t
  fin_cases a
  · show (BitVec.ofNat 32 (grid0.coords t 0).val).toNat * 1 + 1 * (j 0).val = (hd t).val; omega
  · show 0 * 4096 + 1 * (j 1).val = (j 1).val; omega
  · show 0 * 256 + 1 * (j 2).val = (j 2).val; omega

theorem emb7 (t : Fin cfg0.N) (A : Vec Ideal S8x4096x256 .f32) (j : S1x512x256.Idx) : A ((win0_7.blk t).view.emb j) = rowBlk A (hd t) (cb t) j := by
  refine congrArg A (funext fun a => Fin.ext ?_)
  have h0 : (j 0).val < 1 := (j 0).isLt
  have hw := word0 t
  have hw1 := word1 t
  fin_cases a
  · show (BitVec.ofNat 32 (grid0.coords t 0).val).toNat * 1 + 1 * (j 0).val = (hd t).val; omega
  · show (BitVec.ofNat 32 (grid0.coords t 1).val).toNat * 512 + 1 * (j 1).val = 512 * (cb t).val + (j 1).val; omega
  · show 0 * 256 + 1 * (j 2).val = (j 2).val; omega

theorem emb8 (t : Fin cfg0.N) (A : Vec Ideal S8x4096x128 .f32) (j : S1x512x128.Idx) : A ((win0_8.blk t).view.emb j) = rowBlk A (hd t) (cb t) j := by
  refine congrArg A (funext fun a => Fin.ext ?_)
  have h0 : (j 0).val < 1 := (j 0).isLt
  have hw := word0 t
  have hw1 := word1 t
  fin_cases a
  · show (BitVec.ofNat 32 (grid0.coords t 0).val).toNat * 1 + 1 * (j 0).val = (hd t).val; omega
  · show (BitVec.ofNat 32 (grid0.coords t 1).val).toNat * 512 + 1 * (j 1).val = 512 * (cb t).val + (j 1).val; omega
  · show 0 * 128 + 1 * (j 2).val = (j 2).val; omega

/-- What a point sends to each result is the result's block there. -/
theorem flushedQ (c : Dev nD) (t : Fin cfg0.N) (hf : (cfg0.win 6).flush t = true) :
    (dats m 0 c).flushed 6 t = ((cfg0.win 6).blk t).view.read (Elt Ideal) (resQ m c) := by
  have h7 : t.val % 8 = 7 := (flush0_6 t).mp hf
  show (cfg0.win 6).cut (grid0.coords t) ((dats m 0 c).after 6 t) = _
  rw [after0_6, h7]
  unfold bufQ resQ
  rw [show 7 + 1 = 8 from rfl, partQ_all]
  generalize gradQ (aq m c) (ak m c) (av m c) (ao m c) (ag m c) (al m c) = A
  funext j
  rw [View.read_apply]
  exact ((cast_eq rfl _).trans (emb6 t A j)).symm

theorem flushedK (c : Dev nD) (t : Fin cfg0.N) (hf : (cfg0.win 7).flush t = true) :
    (dats m 0 c).flushed 7 t = ((cfg0.win 7).blk t).view.read (Elt Ideal) (resK m c) := by
  show (cfg0.win 7).cut (grid0.coords t) ((dats m 0 c).after 7 t) = _
  rw [after0_7]
  unfold bufK resK blockK
  generalize gradK (aq m c) (ak m c) (av m c) (ao m c) (ag m c) (al m c) = A
  funext j
  rw [View.read_apply]
  exact ((cast_eq rfl _).trans (emb7 t A j)).symm

theorem flushedV (c : Dev nD) (t : Fin cfg0.N) (hf : (cfg0.win 8).flush t = true) :
    (dats m 0 c).flushed 8 t = ((cfg0.win 8).blk t).view.read (Elt Ideal) (resV m c) := by
  show (cfg0.win 8).cut (grid0.coords t) ((dats m 0 c).after 8 t) = _
  rw [after0_8]
  unfold bufV resV blockV
  generalize gradV (aq m c) (ak m c) (ag m c) (al m c) = A
  funext j
  rw [View.read_apply]
  exact ((cast_eq rfl _).trans (emb8 t A j)).symm

/-- The point of a head and a column block. -/
def pt (h j : Fin 8) : Fin cfg0.N := ⟨8 * h.val + j.val, by have : cfg0.N = 64 := N_0; omega⟩

theorem hd_pt (h j : Fin 8) : hd (pt h j) = h := Fin.ext (by show (8 * h.val + j.val) / 8 = h.val; omega)
theorem cb_pt (h j : Fin 8) : cb (pt h j) = j := Fin.ext (by show (8 * h.val + j.val) % 8 = j.val; omega)

/-- So each result ends holding its gradient. -/
theorem finalQ (c : Dev nD) : (dats m 0 c).arrAt 6 cfg0.N = resQ m c :=
  (dats m 0 c).arrAt_eq_of_cover 6 (resQ m c) (flushedQ m c) fun i => by
    have h0 : (i 0).val < 8 := (i 0).isLt
    have h1 : (i 1).val < 4096 := (i 1).isLt
    have h2 : (i 2).val < 256 := (i 2).isLt
    refine ⟨pt ⟨(i 0).val, h0⟩ 7, (flush0_6 _).mpr (by show (8 * (i 0).val + 7) % 8 = 7; omega), ?_⟩
    show i ∈ ((View.whole main_v38_0).slice (win0_6.rect (pt ⟨(i 0).val, h0⟩ 7))).set
    rw [View.set_slice_whole, Rect.mem_set_unit]
    have hw := word0 (pt ⟨(i 0).val, h0⟩ 7)
    rw [hd_pt] at hw
    generalize pt ⟨(i 0).val, h0⟩ 7 = t at hw ⊢
    intro a
    match a with
    | ⟨0, _⟩ => show (BitVec.ofNat 32 (grid0.coords t 0).val).toNat * 1 ≤ (i 0).val ∧ (i 0).val < (BitVec.ofNat 32 (grid0.coords t 0).val).toNat * 1 + 1; rw [hw]; dsimp only; omega
    | ⟨1, _⟩ => show 0 * 4096 ≤ (i 1).val ∧ (i 1).val < 0 * 4096 + 4096; omega
    | ⟨2, _⟩ => show 0 * 256 ≤ (i 2).val ∧ (i 2).val < 0 * 256 + 256; omega

theorem finalK (c : Dev nD) : (dats m 0 c).arrAt 7 cfg0.N = resK m c :=
  (dats m 0 c).arrAt_eq_of_cover 7 (resK m c) (flushedK m c) fun i => by
    have h0 : (i 0).val < 8 := (i 0).isLt
    have h1 : (i 1).val < 4096 := (i 1).isLt
    have h2 : (i 2).val < 256 := (i 2).isLt
    have hj : (i 1).val / 512 < 8 := by omega
    refine ⟨pt ⟨(i 0).val, h0⟩ ⟨(i 1).val / 512, hj⟩, flush0_7 _, ?_⟩
    show i ∈ ((View.whole main_v38_1).slice (win0_7.rect (pt ⟨(i 0).val, h0⟩ ⟨(i 1).val / 512, hj⟩))).set
    rw [View.set_slice_whole, Rect.mem_set_unit]
    have hw := word0 (pt ⟨(i 0).val, h0⟩ ⟨(i 1).val / 512, hj⟩)
    have hw1 := word1 (pt ⟨(i 0).val, h0⟩ ⟨(i 1).val / 512, hj⟩)
    rw [hd_pt] at hw
    rw [cb_pt] at hw1
    generalize pt ⟨(i 0).val, h0⟩ ⟨(i 1).val / 512, hj⟩ = t at hw hw1 ⊢
    intro a
    match a with
    | ⟨0, _⟩ => show (BitVec.ofNat 32 (grid0.coords t 0).val).toNat * 1 ≤ (i 0).val ∧ (i 0).val < (BitVec.ofNat 32 (grid0.coords t 0).val).toNat * 1 + 1; rw [hw]; dsimp only; omega
    | ⟨1, _⟩ => show (BitVec.ofNat 32 (grid0.coords t 1).val).toNat * 512 ≤ (i 1).val ∧ (i 1).val < (BitVec.ofNat 32 (grid0.coords t 1).val).toNat * 512 + 512; rw [hw1]; dsimp only; omega
    | ⟨2, _⟩ => show 0 * 256 ≤ (i 2).val ∧ (i 2).val < 0 * 256 + 256; omega

theorem finalV (c : Dev nD) : (dats m 0 c).arrAt 8 cfg0.N = resV m c :=
  (dats m 0 c).arrAt_eq_of_cover 8 (resV m c) (flushedV m c) fun i => by
    have h0 : (i 0).val < 8 := (i 0).isLt
    have h1 : (i 1).val < 4096 := (i 1).isLt
    have h2 : (i 2).val < 128 := (i 2).isLt
    have hj : (i 1).val / 512 < 8 := by omega
    refine ⟨pt ⟨(i 0).val, h0⟩ ⟨(i 1).val / 512, hj⟩, flush0_8 _, ?_⟩
    show i ∈ ((View.whole main_v38_2).slice (win0_8.rect (pt ⟨(i 0).val, h0⟩ ⟨(i 1).val / 512, hj⟩))).set
    rw [View.set_slice_whole, Rect.mem_set_unit]
    have hw := word0 (pt ⟨(i 0).val, h0⟩ ⟨(i 1).val / 512, hj⟩)
    have hw1 := word1 (pt ⟨(i 0).val, h0⟩ ⟨(i 1).val / 512, hj⟩)
    rw [hd_pt] at hw
    rw [cb_pt] at hw1
    generalize pt ⟨(i 0).val, h0⟩ ⟨(i 1).val / 512, hj⟩ = t at hw hw1 ⊢
    intro a
    match a with
    | ⟨0, _⟩ => show (BitVec.ofNat 32 (grid0.coords t 0).val).toNat * 1 ≤ (i 0).val ∧ (i 0).val < (BitVec.ofNat 32 (grid0.coords t 0).val).toNat * 1 + 1; rw [hw]; dsimp only; omega
    | ⟨1, _⟩ => show (BitVec.ofNat 32 (grid0.coords t 1).val).toNat * 512 ≤ (i 1).val ∧ (i 1).val < (BitVec.ofNat 32 (grid0.coords t 1).val).toNat * 512 + 512; rw [hw1]; dsimp only; omega
    | ⟨2, _⟩ => show 0 * 128 ≤ (i 2).val ∧ (i 2).val < 0 * 128 + 128; omega

end Cert.KernelIdeal.Hand

end
-- ==== Proof.Final.lean ====
/- The kernel's run, with what its results end holding. -/
module

public import proofs.«01_k».proof.Proof.Body
public import proofs.«01_k».proof.Proof.Results

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The run: the results at the gradients, the arguments as they were, every counter at zero. -/
theorem run_results : θ_run defs (onTc (τ := τ) (main (F := Ideal))) ⟨m, fun _ => 0, ρ⟩ fun r => (∀ c : Dev nD,
      r.2.mem ((c.tc : Thread nD τ).loc main_v38_0) = resQ m c
      ∧ r.2.mem ((c.tc : Thread nD τ).loc main_v38_1) = resK m c
      ∧ r.2.mem ((c.tc : Thread nD τ).loc main_v38_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨((h.1 c).1 6).trans (finalQ m c), ((h.1 c).1 7).trans (finalK m c), ((h.1 c).1 8).trans (finalV m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.KernelIdeal.Hand

end
-- ==== Proof.Host.lean ====
/- The operations before the kernel's launch: what it finds in each array, as a function of the arguments. -/
module

public import proofs.«01_k».proof.Proof.Gen.KernelIdeal.Frame
public import Idealize.ShloMosaic.Lib.StableHlo

@[expose] public section

noncomputable section

namespace Cert.KernelIdeal.Hand

open Cert.KernelIdeal Cert.KernelIdeal.Gen
open Idealize.ShloMosaic Idealize.ShloMosaic.TcCoe Idealize.ShloMosaic.StableHlo

abbrev AQ := FVec Ideal S1x4096x8x192 .f32
abbrev AV := FVec Ideal S1x4096x8x128 .f32
abbrev AS := FVec Ideal S1x8x4096x4096 .f32

/-- Queries or keys, heads first, padded to 256 lanes, -/
def hostQ (x : AQ) : FVec Ideal S8x4096x256 .bf16 :=
  truncf .bf16 (pad S8x4096x256 ![0, 0, 0] ![0, 0, 64] ![0, 0, 0]
    (transpose S8x4096x192 [1, 0, 2] (shapeCast S4096x8x192 x shapeCasts_S1x4096x8x192_S4096x8x192) transposes_S4096x8x192_S8x4096x192_1_0_2)
    (sitofp (F := Ideal) .f32 (constantI S_ 32 0#32)) pads_S8x4096x192_S8x4096x256_000_000_0640 h_S_ : FVec Ideal S8x4096x256 .f32) bitsLt_bf16_f32

/-- the values, heads first, -/
def hostV (x : AV) : FVec Ideal S8x4096x128 .bf16 :=
  truncf .bf16 (transpose S8x4096x128 [1, 0, 2] (shapeCast S4096x8x128 x shapeCasts_S1x4096x8x128_S4096x8x128) transposes_S4096x8x128_S8x4096x128_1_0_2 : FVec Ideal S8x4096x128 .f32) bitsLt_bf16_f32

/-- and the cotangent of the output, in rows of 1024 lanes. -/
def hostG (x : AV) : FVec Ideal S4096x1024 .f32 := shapeCast S4096x1024 x shapeCasts_S1x4096x8x128_S4096x1024

/-- The scaled products of queries and keys, and a number's chunk of 64. -/
def hostProd (q k : AQ) : AS :=
  mulf (Host.dotGeneral dot_S1x4096x8x192_S1x4096x8x192_S1x8x4096x4096_3_3_1_1_02_02 none q k)
    (broadcastInDim S1x8x4096x4096 ![] bcast_S_S1x8x4096x4096 (constant (F := Ideal) S_ .f32 0x3D93CD3A#32))

/-- The chunk each of 4096 numbers is in, -/
def hostChunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- which columns a row sees, -/
def hostSees : IVec S4096x4096 1 :=
  cmpi .sle (broadcastInDim S4096x4096 ![0, 1] bcast_S1x4096_S4096x4096_0_1 (broadcastInDim S1x4096 ![1] bcast_S4096_S1x4096_1 hostChunk))
    (broadcastInDim S4096x4096 ![0, 1] bcast_S4096x1_S4096x4096_0_1 (broadcastInDim S4096x1 ![0] bcast_S4096_S4096x1_0 hostChunk))

/-- the scores, −∞ at the columns a row does not see, -/
def hostScore (q k : AQ) : AS :=
  select (broadcastInDim S1x8x4096x4096 ![2, 3] bcast_S4096x4096_S1x8x4096x4096_2_3 hostSees) (hostProd q k)
    (broadcastInDim S1x8x4096x4096 ![] bcast_S_S1x8x4096x4096 (constant (F := Ideal) S_ .f32 0xFF800000#32))

/-- each row's maximum, -/
def hostMax (s : AS) : FVec Ideal S1x8x4096 .f32 :=
  Host.reduce FloatOps.maximumf s (constant (F := Ideal) S_ .f32 0xFF800000#32) reducesTo_S1x8x4096x4096_S1x8x4096_d3 h_S_

def col (x : FVec Ideal S1x8x4096 .f32) : FVec Ideal S1x8x4096x1 .f32 :=
  broadcastInDim S1x8x4096x1 ![0, 1, 2] bcast_S1x8x4096_S1x8x4096x1_0_1_2 x

def wide (x : FVec Ideal S1x8x4096x1 .f32) : AS :=
  broadcastInDim S1x8x4096x4096 ![0, 1, 2, 3] bcast_S1x8x4096x1_S1x8x4096x4096_0_1_2_3 x

/-- the exponentials, -/
def hostExp (s : AS) (mx : FVec Ideal S1x8x4096 .f32) : AS := Host.exp (subf s (wide (col mx)))

/-- their row sums, -/
def hostSum (e : AS) : FVec Ideal S1x8x4096 .f32 :=
  Host.reduceAdd e (constant (F := Ideal) S_ .f32 0x00000000#32) reducesTo_S1x8x4096x4096_S1x8x4096_d3 h_S_

/-- the attention's output, -/
def hostO (v : AV) (e : AS) (l : FVec Ideal S1x8x4096 .f32) : FVec Ideal S4096x1024 .f32 :=
  shapeCast S4096x1024 (transpose S1x4096x8x128 [0, 3, 1, 2] (Host.dotGeneral dot_S1x4096x8x128_S1x8x4096x4096_S1x8x128x4096_1_3_3_2_02_01 none v (Host.divf e (wide (col l)))) transposes_S1x8x128x4096_S1x4096x8x128_0_3_1_2) shapeCasts_S1x4096x8x128_S4096x1024

/-- and the logarithms of the row sums, moved by the maximum. -/
def hostLse (mx l : FVec Ideal S1x8x4096 .f32) : FVec Ideal S8x4096x1 .f32 :=
  shapeCast S8x4096x1 (addf (col mx) (Host.log (col l))) shapeCasts_S1x8x4096x1_S8x4096x1

variable (m : (ℓ : Loc nD τ sig) → Buf (Elt Ideal) ℓ) (c : Dev nD)

set_option maxHeartbeats 8000000 in
set_option maxRecDepth 8192 in
theorem V_q : V m c main_v3 = hostQ (m ((c : Thread nD τ).loc main_arg0)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

set_option maxHeartbeats 8000000 in
set_option maxRecDepth 8192 in
theorem V_k : V m c main_v7 = hostQ (m ((c : Thread nD τ).loc main_arg1)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

set_option maxHeartbeats 8000000 in
set_option maxRecDepth 8192 in
theorem V_v : V m c main_v10 = hostV (m ((c : Thread nD τ).loc main_arg2)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

set_option maxHeartbeats 8000000 in
set_option maxRecDepth 8192 in
theorem V_g : V m c main_v37 = hostG (m ((c : Thread nD τ).loc main_arg3)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

set_option maxHeartbeats 8000000 in
set_option maxRecDepth 8192 in
theorem V_o : V m c main_v33 = hostO (m ((c : Thread nD τ).loc main_arg2)) (hostExp (hostScore (m ((c : Thread nD τ).loc main_arg0)) (m ((c : Thread nD τ).loc main_arg1))) (hostMax (hostScore (m ((c : Thread nD τ).loc main_arg0)) (m ((c : Thread nD τ).loc main_arg1))))) (hostSum (hostExp (hostScore (m ((c : Thread nD τ).loc main_arg0)) (m ((c : Thread nD τ).loc main_arg1))) (hostMax (hostScore (m ((c : Thread nD τ).loc main_arg0)) (m ((c : Thread nD τ).loc main_arg1)))))) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

set_option maxHeartbeats 8000000 in
set_option maxRecDepth 8192 in
theorem V_lse : V m c main_v36 = hostLse (hostMax (hostScore (m ((c : Thread nD τ).loc main_arg0)) (m ((c : Thread nD τ).loc main_arg1)))) (hostSum (hostExp (hostScore (m ((c : Thread nD τ).loc main_arg0)) (m ((c : Thread nD τ).loc main_arg1))) (hostMax (hostScore (m ((c : Thread nD τ).loc main_arg0)) (m ((c : Thread nD τ).loc main_arg1)))))) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

end Cert.KernelIdeal.Hand

end
-- ==== Proof.Softmax.lean ====
/- One row of a masked softmax over the reals, its logarithm of the sum, and its gradient. -/
module

public import Idealize.ShloMosaic.PureOps.Ideal
public import Mathlib.Data.EReal.Inv

@[expose] public section

noncomputable section

namespace Cert.Maths

open Idealize.ShloMosaic

/-- A sum of reals is the same sum at the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n : ℕ} (A : Fin n → Prop) [DecidablePred A] (x : Fin n → ℝ) (M : ℝ)

/-- A score: −∞ where it is masked. -/
def score (c : Fin n) : EReal := if A c then (x c : EReal) else ⊥

/-- The row's greatest score is a real where some score is not masked. -/
theorem max_real (c₀ : Fin n) (h₀ : A c₀) : ∃ M : ℝ, Finset.univ.fold max ⊥ (score A x) = (M : EReal) := by
  have hs : Finset.univ.fold max ⊥ (score A x) = Finset.univ.sup (score A x) := rfl
  rw [hs]
  have hb : Finset.univ.sup (score A x) ≠ ⊥ := by
    intro h
    have := Finset.le_sup (f := score A x) (Finset.mem_univ c₀)
    rw [h, le_bot_iff, score, if_pos h₀] at this
    exact EReal.coe_ne_bot _ this
  have ht : Finset.univ.sup (score A x) ≠ ⊤ := by
    refine ne_of_lt ((Finset.sup_lt_iff bot_lt_top).mpr fun c _ => ?_)
    unfold score; split
    · exact EReal.coe_lt_top _
    · exact bot_lt_top
  exact ⟨_, (EReal.coe_toReal ht hb).symm⟩

/-- The exponential of a score less `M`, -/
def ex (c : Fin n) : ℝ := if A c then Real.exp (x c - M) else 0

/-- the row's sum of them, -/
def den : ℝ := ∑ c, ex A x M c

/-- and the probability. -/
def pr (c : Fin n) : ℝ := ex A x M c / den A x M

theorem exp_score (c : Fin n) : Ideal.exp (score A x c - (M : EReal)) = (ex A x M c : EReal) := by
  unfold score ex
  split
  · rw [← EReal.coe_sub, Ideal.exp_coe]
  · rw [EReal.bot_sub]; simp

theorem ex_nonneg (c : Fin n) : 0 ≤ ex A x M c := by
  unfold ex; split
  · exact (Real.exp_pos _).le
  · exact le_rfl

theorem den_pos (c₀ : Fin n) (h₀ : A c₀) : 0 < den A x M :=
  Finset.sum_pos' (fun c _ => ex_nonneg A x M c) ⟨c₀, Finset.mem_univ _, by rw [ex, if_pos h₀]; exact Real.exp_pos _⟩

theorem sum_exp : ∑ c, Ideal.exp (score A x c - (M : EReal)) = (den A x M : EReal) := by
  unfold den; rw [coe_sum]; exact Finset.sum_congr rfl fun c _ => exp_score A x M c

theorem div_real (a : ℝ) {b : ℝ} (h : 0 < b) : Ideal.div (a : EReal) (b : EReal) = ((a / b : ℝ) : EReal) := by
  rw [Ideal.div_coe h.ne', ← EReal.coe_mul, mul_one_div]

theorem log_real {b : ℝ} (h : 0 < b) : Ideal.log (b : EReal) = (Real.log b : EReal) := by
  rw [Ideal.log_coe, if_neg (not_le.mpr h)]

/-- The probability from the row's logarithm of the sum. -/
theorem exp_lse (c : Fin n) (h : A c) : Ideal.exp ((x c : EReal) - ((M + Real.log (den A x M) : ℝ) : EReal)) = (pr A x M c : EReal) := by
  have hp := den_pos A x M c h
  rw [← EReal.coe_sub, Ideal.exp_coe, pr, ex, if_pos h]
  congr 1
  rw [← sub_sub, Real.exp_sub, Real.exp_log hp]

/-- It is 0 where the score is masked. -/
theorem pr_masked (c : Fin n) (h : ¬ A c) : pr A x M c = 0 := by rw [pr, ex, if_neg h, zero_div]

/-- The gradient of a score, in the form that differentiating `exp (x - M) / sum` gives. -/
theorem dscore_eq (dp : Fin n → ℝ) (c c₀ : Fin n) (h₀ : A c₀) :
    (dp c / den A x M + -(∑ k, dp k * (1 / (den A x M * den A x M)) * ex A x M k)) * ex A x M c
      = pr A x M c * (dp c - ∑ k, pr A x M k * dp k) := by
  have hp := (den_pos A x M c₀ h₀).ne'
  have hs : ∑ k, dp k * (1 / (den A x M * den A x M)) * ex A x M k = (∑ k, pr A x M k * dp k) / den A x M := by
    rw [Finset.sum_div]
    refine Finset.sum_congr rfl fun k _ => ?_
    unfold pr; field_simp
  rw [hs, pr]
  ring

end Cert.Maths

end
-- ==== Proof.Attention.lean ====
/- Attention whose rows see the chunks of 64 columns up to their own, over the reals: probabilities and the three gradients. -/
module

public import proofs.«01_k».proof.Proof.Softmax
public import Idealize.ShloMosaic.Lib.Pointwise

@[expose] public section

noncomputable section

namespace Cert.Maths

open Idealize.ShloMosaic

/-- Queries and keys: row, head, 192 lanes. -/
abbrev TQ : Shape := ⟨4, ![1, 4096, 8, 192]⟩

/-- Values and the output's cotangent: row, head, 128 lanes. -/
abbrev TV : Shape := ⟨4, ![1, 4096, 8, 128]⟩

/-- A row sees a column whose chunk is not after its own. -/
def sees (r c : Fin 4096) : Prop := c.val / 64 ≤ r.val / 64

instance (r : Fin 4096) : DecidablePred (sees r) := fun c => inferInstanceAs (Decidable (c.val / 64 ≤ r.val / 64))

theorem sees_self (r : Fin 4096) : sees r r := le_refl (r.val / 64)

variable (q k : TQ.Idx → ℝ) (v g : TV.Idx → ℝ) (σ : ℝ) (M : Fin 8 → Fin 4096 → ℝ)

/-- The scores, -/
def sc (h : Fin 8) (r c : Fin 4096) : ℝ := (∑ d : Fin 192, q (ix4 0 r h d) * k (ix4 0 c h d)) * σ

/-- the probabilities, -/
def P (h : Fin 8) (r c : Fin 4096) : ℝ := pr (sees r) (sc q k σ h r) (M h r) c

/-- the gradients of the probabilities, -/
def dP (h : Fin 8) (r c : Fin 4096) : ℝ := ∑ d : Fin 128, g (ix4 0 r h d) * v (ix4 0 c h d)

/-- the gradients of the scaled products, -/
def dS (h : Fin 8) (r c : Fin 4096) : ℝ :=
  P q k σ M h r c * (dP v g h r c - ∑ j, P q k σ M h r j * dP v g h r j) * σ

/-- and those of the queries, -/
def dQ (h : Fin 8) (r : Fin 4096) (l : Fin 192) : ℝ := ∑ c, dS q k v g σ M h r c * k (ix4 0 c h l)

/-- of the keys, -/
def dK (h : Fin 8) (c : Fin 4096) (l : Fin 192) : ℝ := ∑ r, dS q k v g σ M h r c * q (ix4 0 r h l)

/-- and of the values. -/
def dV (h : Fin 8) (c : Fin 4096) (d : Fin 128) : ℝ := ∑ r, P q k σ M h r c * g (ix4 0 r h d)

end Cert.Maths

end
-- ==== Proof.RefRead.lean ====
/- The reference's operations on real arrays: the scores, the row's probabilities, and the three gradients. -/
module

public import proofs.«01_k».proof.Proof.Attention
public import proofs.«01_k».proof.Proof.Gen.ReferenceIdeal.Read
public import Idealize.ShloMosaic.Lib.Pointwise
public import Idealize.ShloMosaic.Lib.Tactic.CleanTypes

@[expose] public section

noncomputable section

namespace Cert.ReferenceIdeal.Hand

open Cert.ReferenceIdeal Cert.ReferenceIdeal.Gen Cert.ReferenceIdeal.Read Cert.Maths
open Idealize.ShloMosaic

/-- The scale, as the literal that the program multiplies by, -/
def scale : EReal := (FloatOps.ofBits .f32 0x3D93CD3A#32 : Ideal .f32)

/-- is a real. -/
theorem scale_real : ∃ σ : ℝ, scale = (σ : EReal) := by
  refine ⟨_, (EReal.coe_toReal ?_ ?_).symm⟩ <;>
    simp [scale, Ideal.ofBits_def, Ideal.ofBits, Ideal.ieee, -EReal.coe_mul]

theorem zero_lit : (FloatOps.ofBits .f32 0x00000000#32 : Ideal .f32) = (0 : EReal) := by
  simp [Ideal.ofBits_def, Ideal.ofBits, Ideal.ieee]

theorem one_lit : (FloatOps.ofBits .f32 0x3F800000#32 : Ideal .f32) = (1 : EReal) := by
  simp [Ideal.ofBits_def, Ideal.ofBits, Ideal.ieee, -EReal.coe_mul]; norm_num

theorem bot_lit : (FloatOps.ofBits .f32 0xFF800000#32 : Ideal .f32) = (⊥ : EReal) := by
  simp [Ideal.ofBits_def, Ideal.ofBits, Ideal.ieee]

/-- The sign of a word. -/
def sign (x : BitVec 32) : BitVec 32 := if x = 0 then 0 else if x.msb then -1 else 1

/-- The chunk of a row is its number over 64. -/
theorem chunk (l : Fin 4096) : val_main_v4 (F := Ideal) (ix1 l) = BitVec.ofNat 32 (l.val / 64) := by
  have h : ∀ l : Fin 4096, Scalar.select (IntOp.andi (IntOp.cmpi .ne (sign (BitVec.ofNat 32 l.val)) (sign 64#32))
        (IntOp.cmpi .ne (IntOp.remsi .host (BitVec.ofNat 32 l.val) 64#32) 0#32))
      (IntOp.subi (IntOp.divsi .host (BitVec.ofNat 32 l.val) 64#32) 1#32) (IntOp.divsi .host (BitVec.ofNat 32 l.val) 64#32)
      = BitVec.ofNat 32 (l.val / 64) := by decide +kernel
  exact h l

theorem le_chunk : ∀ a b : Fin 64, IntOp.cmpi .sle (BitVec.ofNat 32 a.val) (BitVec.ofNat 32 b.val) = if a.val ≤ b.val then 1#1 else 0#1 := by
  decide +kernel

/-- The mask. -/
theorem mask_at (r c : Fin 4096) : val_main_v9 (F := Ideal) (ix2 r c) = if sees r c then 1#1 else 0#1 := by
  rw [val_main_v9_apply, val_main_v7_apply, val_main_v8_apply, val_main_v5_apply, val_main_v6_apply]
  rw [show idx_main_v5 (idx_main_v7 (ix2 r c)) = ix1 c from funext fun a => by fin_cases a <;> rfl,
    show idx_main_v6 (idx_main_v8 (ix2 r c)) = ix1 r from funext fun a => by fin_cases a <;> rfl, chunk, chunk]
  exact le_chunk ⟨c.val / 64, by omega⟩ ⟨r.val / 64, by omega⟩

/-- Real arrays as arrays of the idealized program. -/
abbrev upQ (q : TQ.Idx → ℝ) : (⟨S1x4096x8x192, .f32⟩ : BufTy).Contents (Elt Ideal) := fun i => ((q i : ℝ) : EReal)

abbrev upV (v : TV.Idx → ℝ) : (⟨S1x4096x8x128, .f32⟩ : BufTy).Contents (Elt Ideal) := fun i => ((v i : ℝ) : EReal)

variable (q k : TQ.Idx → ℝ) (v g : TV.Idx → ℝ) (σ : ℝ) (M : Fin 8 → Fin 4096 → ℝ)

/-- The scores. -/
theorem score_at (hσ : scale = σ) (h : Fin 8) (r c : Fin 4096) :
    val_main_v2 (F := Ideal) (upQ q) (upQ k) (ix4 0 h r c) = (sc q k σ h r c : EReal) := by
  rw [val_main_v2_apply, val_main_v0_apply, val_main_v1_apply, val_main_cst_apply]
  show (∑ d, upQ q (lidx_main_v0 (ix4 0 h r c) d) * upQ k (ridx_main_v0 (ix4 0 h r c) d)) * scale = _
  rw [hσ, sc, EReal.coe_mul, coe_sum]
  refine congrArg (· * (σ : EReal)) (Finset.sum_congr rfl fun d _ => ?_)
  rw [EReal.coe_mul, show lidx_main_v0 (ix4 0 h r c) d = ix4 0 r h d from funext fun a => by fin_cases a <;> rfl,
    show ridx_main_v0 (ix4 0 h r c) d = ix4 0 c h d from funext fun a => by fin_cases a <;> rfl]

/-- The masked scores. -/
theorem masked_at (hσ : scale = σ) (h : Fin 8) (r c : Fin 4096) :
    val_main_v10_0 (F := Ideal) (upQ q) (upQ k) (ix4 0 h r c) = score (sees r) (sc q k σ h r) c := by
  rw [val_main_v10_0_apply, val_main_v10_1_apply, score_at q k σ hσ, val_main_call1_v2_apply,
    show idx_main_v10_1 (ix4 0 h r c) = ix2 r c from funext fun a => by fin_cases a <;> rfl, mask_at]
  show Scalar.select _ _ (FloatOps.ofBits .f32 0xFF800000#32 : Ideal .f32) = _
  rw [bot_lit, score]
  by_cases hs : sees r c
  · rw [if_pos hs, if_pos hs]; rfl
  · rw [if_neg hs, if_neg hs]; rfl

/-- The row's greatest score. -/
theorem max_at (x0 x1 : (⟨S1x4096x8x192, .f32⟩ : BufTy).Contents (Elt Ideal)) (h : Fin 8) (r : Fin 4096) :
    val_main_v11 (F := Ideal) x0 x1 (ix3 0 h r) = Finset.univ.fold max ⊥ fun c : Fin 4096 => (val_main_v10_0 (F := Ideal) x0 x1 (ix4 0 h r c) : EReal) := by
  have h : val_main_v11 (F := Ideal) x0 x1 (ix3 0 h r)
      = Finset.univ.fold (FloatOps.maximumf (F := Ideal) (φ := .f32)) (FloatOps.ofBits .f32 0xFF800000#32) fun c : Fin 4096 => (val_main_v10_0 (F := Ideal) x0 x1 (ix4 0 h r c) : Ideal .f32) := by
    unfold val_main_v11 val_main_cst_1
    generalize val_main_v10_0 (F := Ideal) x0 x1 = y
    clean_types
    pointwise
  rw [h, bot_lit]
  rfl

/-- It is a real. -/
theorem exists_max (hσ : scale = σ) : ∃ M : Fin 8 → Fin 4096 → ℝ, ∀ h r, val_main_v11 (F := Ideal) (upQ q) (upQ k) (ix3 0 h r) = ((M h r : ℝ) : EReal) := by
  have h : ∀ h r, ∃ m : ℝ, val_main_v11 (F := Ideal) (upQ q) (upQ k) (ix3 0 h r) = (m : EReal) := fun h r => by
    rw [max_at, show (fun c : Fin 4096 => (val_main_v10_0 (F := Ideal) (upQ q) (upQ k) (ix4 0 h r c) : EReal)) = score (sees r) (sc q k σ h r) from
      funext fun c => masked_at q k σ hσ h r c]
    exact max_real (sees r) (sc q k σ h r) r (sees_self r)
  choose M hM using h
  exact ⟨M, hM⟩

end Cert.ReferenceIdeal.Hand

end
-- ==== Proof.Pads.lean ====
/- An array of heads padded with further lanes, read at an index. -/
module

public import Idealize.ShloMosaic.Lib.Pointwise

@[expose] public section

noncomputable section

namespace Cert.Maths

open Idealize.ShloMosaic

theorem pad_at {α : Type} (y : (⟨3, ![8, 4096, 192]⟩ : Shape).Idx → α) {u : Shape} (z : u.Idx → α)
    (hp : (⟨3, ![8, 4096, 192]⟩ : Shape).Pads ![0, 0, 0] ![0, 0, 64] ![0, 0, 0] ⟨3, ![8, 4096, 256]⟩) (hu : 0 < u.numel)
    (h : Fin 8) (r : Fin 4096) (l : Fin 256) :
    pad ⟨3, ![8, 4096, 256]⟩ ![0, 0, 0] ![0, 0, 64] ![0, 0, 0] y z hp hu (ix3 h r l)
      = if hl : l.val < 192 then y (ix3 h r ⟨l.val, hl⟩) else z (Shape.Idx.first hu) := by
  unfold pad
  by_cases hl : l.val < 192
  · rw [dif_pos hl, dif_pos]
    · refine congrArg y (funext fun a => Fin.ext ?_)
      fin_cases a
      · show (h.val - 0) / (0 + 1) = h.val; omega
      · show (r.val - 0) / (0 + 1) = r.val; omega
      · show (l.val - 0) / (0 + 1) = l.val; omega
    · intro a
      have hh := h.isLt
      have hr := r.isLt
      fin_cases a
      · show 0 ≤ h.val ∧ (h.val - 0) % (0 + 1) = 0 ∧ (h.val - 0) / (0 + 1) < 8; omega
      · show 0 ≤ r.val ∧ (r.val - 0) % (0 + 1) = 0 ∧ (r.val - 0) / (0 + 1) < 4096; omega
      · show 0 ≤ l.val ∧ (l.val - 0) % (0 + 1) = 0 ∧ (l.val - 0) / (0 + 1) < 192; omega
  · rw [dif_neg hl, dif_neg]
    intro hin
    have h2 : 0 ≤ l.val ∧ (l.val - 0) % (0 + 1) = 0 ∧ (l.val - 0) / (0 + 1) < 192 := hin 2
    omega

/-- The word 0 is the float 0. -/
theorem sitofp_zero : (FloatOps.sitofp .f32 (0#32 : BitVec 32) : Ideal .f32) = (0 : EReal) := by
  show (((0#32 : BitVec 32).toInt : ℝ) : EReal) = 0
  simp

end Cert.Maths

end
-- ==== Proof.RefGrad.lean ====
/- The reference's gradients on real arrays. -/
module

public import proofs.«01_k».proof.Proof.RefRead
public import proofs.«01_k».proof.Proof.Pads

@[expose] public section

noncomputable section

namespace Cert.ReferenceIdeal.Hand

open Cert.ReferenceIdeal Cert.ReferenceIdeal.Gen Cert.ReferenceIdeal.Read Cert.Maths
open Idealize.ShloMosaic

variable (q k : TQ.Idx → ℝ) (v g : TV.Idx → ℝ) (σ : ℝ) (M : Fin 8 → Fin 4096 → ℝ)

section
variable (hσ : scale = σ) (hM : ∀ h r, val_main_v11 (F := Ideal) (upQ q) (upQ k) (ix3 0 h r) = ((M h r : ℝ) : EReal))
include hσ hM

/-- The exponentials, -/
theorem exp_at (h : Fin 8) (r c : Fin 4096) :
    val_main_v31 (F := Ideal) (upQ q) (upQ k) (ix4 0 h r c) = (ex (sees r) (sc q k σ h r) (M h r) c : EReal) := by
  rw [val_main_v31_apply, val_main_v30_apply, masked_at q k σ hσ, val_main_v29_apply, val_main_v28_apply, val_main_v18_apply, val_main_v17_apply,
    val_main_cst_3_apply, bot_lit, show idx_main_v28 (idx_main_v29 (ix4 0 h r c)) = ix3 0 h r from funext fun a => by fin_cases a <;> rfl, hM]
  show Ideal.exp (score (sees r) (sc q k σ h r) c - max ⊥ ((M h r : ℝ) : EReal)) = _
  rw [max_eq_right bot_le, exp_score]

/-- their sum, -/
theorem den_at (h : Fin 8) (r : Fin 4096) :
    val_main_v32 (F := Ideal) (upQ q) (upQ k) (ix3 0 h r) = (den (sees r) (sc q k σ h r) (M h r) : EReal) := by
  rw [val_main_v32_apply, val_main_cst_9_apply, zero_lit, zero_add, den, coe_sum]
  refine Finset.sum_congr rfl fun c _ => ?_
  rw [show idx_main_v32 (ix3 0 h r) c = ix4 0 h r c from funext fun a => by fin_cases a <;> rfl, exp_at q k σ M hσ hM]

theorem den_at' (h : Fin 8) (r : Fin 4096) :
    val_main_v33 (F := Ideal) (upQ q) (upQ k) (ix4 0 h r 0) = (den (sees r) (sc q k σ h r) (M h r) : EReal) := by
  rw [val_main_v33_apply, show idx_main_v33 (ix4 0 h r 0) = ix3 0 h r from funext fun a => by fin_cases a <;> rfl, den_at q k σ M hσ hM]

/-- and the probabilities. -/
theorem prob_at (h : Fin 8) (r c : Fin 4096) :
    val_main_v35 (F := Ideal) (upQ q) (upQ k) (ix4 0 h r c) = (P q k σ M h r c : EReal) := by
  rw [val_main_v35_apply, exp_at q k σ M hσ hM, val_main_v34_apply,
    show idx_main_v34 (ix4 0 h r c) = ix4 0 h r 0 from funext fun a => by fin_cases a <;> rfl, den_at' q k σ M hσ hM]
  exact div_real _ (den_pos _ _ _ r (sees_self r))

omit hσ hM in
/-- The gradients of the probabilities. -/
theorem dprob_at (h : Fin 8) (r c : Fin 4096) :
    val_main_v42 (F := Ideal) (upV v) (upV g) (ix4 0 h r c) = (dP v g h r c : EReal) := by
  rw [val_main_v42_apply, dP, coe_sum]
  refine Finset.sum_congr rfl fun d _ => ?_
  rw [val_main_v41_apply, EReal.coe_mul, show idx_main_v41 (lidx_main_v42 (ix4 0 h r c) d) = ix4 0 r h d from funext fun a => by fin_cases a <;> rfl,
    show ridx_main_v42 (ix4 0 h r c) d = ix4 0 c h d from funext fun a => by fin_cases a <;> rfl]

/-- The row's part in the gradient of its sum. -/
theorem rowPart_at (h : Fin 8) (r : Fin 4096) :
    val_main_v48 (F := Ideal) (upQ q) (upQ k) (upV v) (upV g) (ix3 0 h r)
      = ((∑ c, dP v g h r c * (1 / (den (sees r) (sc q k σ h r) (M h r) * den (sees r) (sc q k σ h r) (M h r)))
          * ex (sees r) (sc q k σ h r) (M h r) c : ℝ) : EReal) := by
  have hp := den_pos (sees r) (sc q k σ h r) (M h r) r (sees_self r)
  rw [val_main_v48_apply, val_main_cst_11_apply, zero_lit, zero_add, coe_sum]
  refine Finset.sum_congr rfl fun c _ => ?_
  rw [show idx_main_v48 (ix3 0 h r) c = ix4 0 h r c from funext fun a => by fin_cases a <;> rfl, val_main_v47_apply, val_main_v46_apply, dprob_at,
    exp_at q k σ M hσ hM, val_main_v45_apply, show idx_main_v45 (ix4 0 h r c) = ix4 0 h r 0 from funext fun a => by fin_cases a <;> rfl,
    val_main_v38_apply, val_main_v37_apply, val_main_cst_10_apply, one_lit, val_main_v36_apply, den_at' q k σ M hσ hM]
  show (dP v g h r c : EReal) * Ideal.div 1 ((den _ _ _ : EReal) * (den _ _ _ : EReal)) * (ex _ _ _ c : EReal) = _
  rw [← EReal.coe_mul, ← EReal.coe_one, div_real _ (mul_pos hp hp), ← EReal.coe_mul, ← EReal.coe_mul]

omit hσ hM in
/-- The sum over two axes of size one. -/
theorem sumUnit_at (x0 x1 : (⟨S1x4096x8x192, .f32⟩ : BufTy).Contents (Elt Ideal)) (x2 x3 : (⟨S1x4096x8x128, .f32⟩ : BufTy).Contents (Elt Ideal)) (h : Fin 8) (r : Fin 4096) :
    val_main_v53 (F := Ideal) x0 x1 x2 x3 (ix2 h r) = (-(val_main_v48 (F := Ideal) x0 x1 x2 x3 (ix3 0 h r) : EReal) : EReal) := by
  have e : val_main_v53 (F := Ideal) x0 x1 x2 x3 (ix2 h r) = (val_main_v50 (F := Ideal) x0 x1 x2 x3 (ix4 0 h r 0) : EReal) := by
    unfold val_main_v53
    generalize val_main_v50 (F := Ideal) x0 x1 x2 x3 = y
    simp only [Host.reduceAdd, Ideal.hostReduceAdd_def, Ideal.hostReduceAdd]
    rw [val_main_cst_12_apply, zero_lit, zero_add]
    refine Finset.sum_eq_single_of_mem (ix4 0 h r 0) (Finset.mem_filter.mpr ⟨Finset.mem_univ _, ?_⟩) fun i hi hne => absurd ?_ hne
    · funext a; fin_cases a <;> rfl
    · have hd := (Finset.mem_filter.mp hi).2
      have h1 : i 1 = h := congrFun hd 0
      have h2 : i 2 = r := congrFun hd 1
      have h0 : (i 0).val < 1 := (i 0).isLt
      have h3 : (i 3).val < 1 := (i 3).isLt
      funext a
      fin_cases a
      · exact Fin.ext (show (i 0).val = 0 by omega)
      · exact h1
      · exact h2
      · exact Fin.ext (show (i 3).val = 0 by omega)
  rw [e, val_main_v50_apply, val_main_v49_apply]
  rw [show idx_main_v49 (ix4 0 h r 0) = ix3 0 h r from funext fun a => by
    fin_cases a
    · rfl
    · exact Fin.ext (show (((0 * 8 + h.val) * 4096 + r.val) * 1 + 0) / 4096 % 8 = h.val by omega)
    · exact Fin.ext (show (((0 * 8 + h.val) * 4096 + r.val) * 1 + 0) % 4096 = r.val by omega)]
  rfl

/-- The gradients of the scaled products. -/
theorem dscore_at (h : Fin 8) (r c : Fin 4096) :
    val_main_v60 (F := Ideal) (upQ q) (upQ k) (upV v) (upV g) (ix4 0 h r c) = (dS q k v g σ M h r c : EReal) := by
  have hp := den_pos (sees r) (sc q k σ h r) (M h r) r (sees_self r)
  rw [val_main_v60_apply, val_main_v59_apply, val_main_cst_13_apply, val_main_v58_apply, val_main_v10_1_apply,
    show idx_main_v10_1 (ix4 0 h r c) = ix2 r c from funext fun a => by fin_cases a <;> rfl, mask_at,
    val_main_v57_apply, val_main_v56_apply, val_main_v52_apply, val_main_v51_apply, dprob_at, exp_at q k σ M hσ hM,
    show idx_main_v51 (ix4 0 h r c) = ix4 0 h r 0 from funext fun a => by fin_cases a <;> rfl, den_at' q k σ M hσ hM,
    val_main_v55_apply, val_main_v54_apply, show idx_main_v54 (idx_main_v55 (ix4 0 h r c)) = ix2 h r from funext fun a => by fin_cases a <;> rfl,
    sumUnit_at, rowPart_at q k v g σ M hσ hM, val_main_call2_v0_apply, val_main_call2_cst_apply, zero_lit]
  show Scalar.select _ ((Ideal.div (dP v g h r c : EReal) (den _ _ _ : EReal) + -((∑ c, _ : ℝ) : EReal)) * (ex _ _ _ c : EReal)) 0 * scale = _
  rw [hσ, div_real _ hp, ← EReal.coe_neg, ← EReal.coe_add, ← EReal.coe_mul, dscore_eq _ _ _ _ c r (sees_self r),
    show (dS q k v g σ M h r c : EReal) = ((P q k σ M h r c * (dP v g h r c - ∑ j, P q k σ M h r j * dP v g h r j) : ℝ) : EReal) * (σ : EReal) from EReal.coe_mul _ _]
  refine congrArg (· * (σ : EReal)) ?_
  by_cases hs : sees r c
  · rw [if_pos hs]; rfl
  · rw [if_neg hs, P, pr_masked _ _ _ c hs, zero_mul, zero_mul]; rfl

/-- The query gradient, padded with 0 to 256 lanes. -/
theorem gradQ_at (h : Fin 8) (r : Fin 4096) (l : Fin 256) :
    val_main_v67 (F := Ideal) (upQ q) (upQ k) (upV v) (upV g) (ix3 h r l)
      = if hl : l.val < 192 then (dQ q k v g σ M h r ⟨l.val, hl⟩ : EReal) else 0 := by
  unfold val_main_v67
  refine (pad_at _ _ _ _ h r l).trans ?_
  by_cases hl : l.val < 192
  · rw [dif_pos hl, dif_pos hl, val_main_v66_apply, val_main_v65_apply, val_main_v64_apply, val_main_v63_apply, dQ, coe_sum]
    have e : idx_main_v64 (idx_main_v65 (idx_main_v66 (ix3 h r ⟨l.val, hl⟩))) = ix4 0 h r ⟨l.val, hl⟩ := funext fun a => by
      fin_cases a
      · rfl
      · exact Fin.ext (show ((r.val * 8 + h.val) * 192 + l.val) / 192 % 8 = h.val by omega)
      · exact Fin.ext (show ((r.val * 8 + h.val) * 192 + l.val) / 1536 % 4096 = r.val by omega)
      · exact Fin.ext (show ((r.val * 8 + h.val) * 192 + l.val) % 192 = l.val by omega)
    rw [e]
    refine Finset.sum_congr rfl fun c _ => ?_
    rw [show lidx_main_v63 (ix4 0 h r ⟨l.val, hl⟩) c = ix4 0 h r c from funext fun a => by fin_cases a <;> rfl,
      show ridx_main_v63 (ix4 0 h r ⟨l.val, hl⟩) c = ix4 0 c h ⟨l.val, hl⟩ from funext fun a => by fin_cases a <;> rfl,
      dscore_at q k v g σ M hσ hM, EReal.coe_mul]
  · rw [dif_neg hl, dif_neg hl, val_main_call3_v0_apply, val_main_c_14_apply, sitofp_zero]

/-- The key gradient, padded likewise. -/
theorem gradK_at (h : Fin 8) (c : Fin 4096) (l : Fin 256) :
    val_main_v70 (F := Ideal) (upQ q) (upQ k) (upV v) (upV g) (ix3 h c l)
      = if hl : l.val < 192 then (dK q k v g σ M h c ⟨l.val, hl⟩ : EReal) else 0 := by
  unfold val_main_v70
  refine (pad_at _ _ _ _ h c l).trans ?_
  by_cases hl : l.val < 192
  · rw [dif_pos hl, dif_pos hl, val_main_v69_apply, val_main_v68_apply, val_main_v62_apply, val_main_v61_apply, dK, coe_sum]
    have e : idx_main_v62 (idx_main_v68 (idx_main_v69 (ix3 h c ⟨l.val, hl⟩))) = ix4 0 h c ⟨l.val, hl⟩ := funext fun a => by
      fin_cases a
      · rfl
      · exact Fin.ext (show ((c.val * 8 + h.val) * 192 + l.val) / 192 % 8 = h.val by omega)
      · exact Fin.ext (show ((c.val * 8 + h.val) * 192 + l.val) / 1536 % 4096 = c.val by omega)
      · exact Fin.ext (show ((c.val * 8 + h.val) * 192 + l.val) % 192 = l.val by omega)
    rw [e]
    refine Finset.sum_congr rfl fun r _ => ?_
    rw [show lidx_main_v61 (ix4 0 h c ⟨l.val, hl⟩) r = ix4 0 h r c from funext fun a => by fin_cases a <;> rfl,
      show ridx_main_v61 (ix4 0 h c ⟨l.val, hl⟩) r = ix4 0 r h ⟨l.val, hl⟩ from funext fun a => by fin_cases a <;> rfl,
      dscore_at q k v g σ M hσ hM, EReal.coe_mul]
  · rw [dif_neg hl, dif_neg hl, val_main_call4_v0_apply, val_main_c_15_apply, sitofp_zero]

/-- The value gradient. -/
theorem gradV_at (h : Fin 8) (c : Fin 4096) (d : Fin 128) :
    val_main_v72 (F := Ideal) (upQ q) (upQ k) (upV g) (ix3 h c d) = (dV q k g σ M h c d : EReal) := by
  rw [val_main_v72_apply, val_main_v71_apply, val_main_v44_apply, val_main_v43_apply, dV, coe_sum]
  have e : idx_main_v44 (idx_main_v71 (idx_main_v72 (ix3 h c d))) = ix4 0 h d c := funext fun a => by
    fin_cases a
    · rfl
    · exact Fin.ext (show ((c.val * 8 + h.val) * 128 + d.val) / 128 % 8 = h.val by omega)
    · exact Fin.ext (show ((c.val * 8 + h.val) * 128 + d.val) % 128 = d.val by omega)
    · exact Fin.ext (show ((c.val * 8 + h.val) * 128 + d.val) / 1024 % 4096 = c.val by omega)
  rw [e]
  refine Finset.sum_congr rfl fun r _ => ?_
  rw [show ridx_main_v43 (ix4 0 h d c) r = ix4 0 h r c from funext fun a => by fin_cases a <;> rfl, val_main_v41_apply,
    show idx_main_v41 (lidx_main_v43 (ix4 0 h d c) r) = ix4 0 r h d from funext fun a => by fin_cases a <;> rfl,
    prob_at q k σ M hσ hM, EReal.coe_mul, mul_comm]

end

end Cert.ReferenceIdeal.Hand

end
-- ==== Proof.HostRead.lean ====
/- What the kernel finds in its arrays, at an index, where the arguments are real. -/
module

public import proofs.«01_k».proof.Proof.Host
public import proofs.«01_k».proof.Proof.Arrays
public import proofs.«01_k».proof.Proof.RefGrad

@[expose] public section

set_option maxHeartbeats 1000000

noncomputable section

namespace Cert.KernelIdeal.Hand

open Cert.KernelIdeal Cert.KernelIdeal.Gen Cert.Maths
open Cert.ReferenceIdeal.Hand (upQ upV scale masked_at zero_lit)
open Cert.ReferenceIdeal.Read (val_main_v10_0 val_main_v11)
open Idealize.ShloMosaic

theorem hostScore_eq (x0 x1 : AQ) : hostScore x0 x1 = val_main_v10_0 (F := Ideal) x0 x1 := rfl

theorem hostMax_eq (x0 x1 : AQ) : hostMax (val_main_v10_0 (F := Ideal) x0 x1) = val_main_v11 (F := Ideal) x0 x1 := rfl

variable (q k : TQ.Idx → ℝ) (v g : TV.Idx → ℝ) (σ : ℝ) (M : Fin 8 → Fin 4096 → ℝ)

/-- Queries and keys, -/
theorem hostQ_at (h : Fin 8) (r : Fin 4096) (l : Fin 256) :
    hostQ (upQ q) (ix3 h r l) = if hl : l.val < 192 then ((q (ix4 0 r h ⟨l.val, hl⟩) : ℝ) : EReal) else 0 := by
  unfold hostQ
  refine (pad_at (transpose S8x4096x192 [1, 0, 2] (shapeCast S4096x8x192 (upQ q) shapeCasts_S1x4096x8x192_S4096x8x192) transposes_S4096x8x192_S8x4096x192_1_0_2)
    (sitofp (F := Ideal) .f32 (constantI S_ 32 0#32)) pads_S8x4096x192_S8x4096x256_000_000_0640 h_S_ h r l).trans ?_
  by_cases hl : l.val < 192
  · rw [dif_pos hl, dif_pos hl]
    show shapeCast S4096x8x192 (upQ q) _ _ = _
    refine (shapeCast_apply (upQ q) shapeCasts_S1x4096x8x192_S4096x8x192 _ (ix4 0 r h ⟨l.val, hl⟩) ?_).trans rfl
    rewrite [Shape.rowMajor_val_four, Shape.rowMajor_val_three]
    show ((0 * 4096 + r.val) * 8 + h.val) * 192 + l.val = (r.val * 8 + h.val) * 192 + l.val
    omega
  · rw [dif_neg hl, dif_neg hl]
    exact sitofp_zero

/-- the values, -/
theorem hostV_at (h : Fin 8) (r : Fin 4096) (d : Fin 128) : hostV (upV v) (ix3 h r d) = ((v (ix4 0 r h d) : ℝ) : EReal) := by
  unfold hostV
  show shapeCast S4096x8x128 (upV v) _ _ = _
  refine (shapeCast_apply (upV v) shapeCasts_S1x4096x8x128_S4096x8x128 _ (ix4 0 r h d) ?_).trans rfl
  rewrite [Shape.rowMajor_val_four, Shape.rowMajor_val_three]
  show ((0 * 4096 + r.val) * 8 + h.val) * 128 + d.val = (r.val * 8 + h.val) * 128 + d.val
  omega

theorem rows_at (x : AV) (h : Fin 8) (r : Fin 4096) (d : Fin 128) :
    shapeCast S4096x1024 x shapeCasts_S1x4096x8x128_S4096x1024 (ix2 r (lane h d)) = x (ix4 0 r h d) := by
  refine shapeCast_apply x shapeCasts_S1x4096x8x128_S4096x1024 _ (ix4 0 r h d) ?_
  rewrite [Shape.rowMajor_val_four, Shape.rowMajor_val_two]
  show ((0 * 4096 + r.val) * 8 + h.val) * 128 + d.val = r.val * 1024 + (128 * h.val + d.val)
  omega

/-- the cotangent, -/
theorem hostG_at (h : Fin 8) (r : Fin 4096) (d : Fin 128) : hostG (upV g) (ix2 r (lane h d)) = ((g (ix4 0 r h d) : ℝ) : EReal) :=
  rows_at (upV g) h r d

theorem wide_at (x : FVec Ideal S1x8x4096 .f32) (h : Fin 8) (r c : Fin 4096) : wide (col x) (ix4 0 h r c) = x (ix3 0 h r) := by
  unfold wide col
  pointwise

theorem col_at (x : FVec Ideal S1x8x4096 .f32) (h : Fin 8) (r : Fin 4096) : col x (ix4 0 h r 0) = x (ix3 0 h r) := by
  unfold col
  pointwise

theorem dotO_at (x : AV) (y : AS) (h : Fin 8) (r : Fin 4096) (d : Fin 128) :
    Host.dotGeneral dot_S1x4096x8x128_S1x8x4096x4096_S1x8x128x4096_1_3_3_2_02_01 none x y (ix4 0 h d r)
      = ∑ c : Fin 4096, (x (ix4 0 c h d) : EReal) * (y (ix4 0 h r c) : EReal) := by
  pointwise

theorem turn_at (y : FVec Ideal S1x8x128x4096 .f32) (h : Fin 8) (r : Fin 4096) (d : Fin 128) :
    transpose S1x4096x8x128 [0, 3, 1, 2] y transposes_S1x8x128x4096_S1x4096x8x128_0_3_1_2 (ix4 0 r h d) = y (ix4 0 h d r) := by
  pointwise

theorem sum_at (e : AS) (h : Fin 8) (r : Fin 4096) : hostSum e (ix3 0 h r) = ∑ c : Fin 4096, (e (ix4 0 h r c) : EReal) := by
  unfold hostSum
  pointwise

variable (s : AS) (mx : FVec Ideal S1x8x4096 .f32)

section
variable (hs : ∀ h r c, s (ix4 0 h r c) = score (sees r) (sc q k σ h r) c) (hM : ∀ h r, mx (ix3 0 h r) = ((M h r : ℝ) : EReal))
include hs hM

theorem hostExp_at (h : Fin 8) (r c : Fin 4096) : hostExp s mx (ix4 0 h r c) = ((ex (sees r) (sc q k σ h r) (M h r) c : ℝ) : EReal) := by
  show Ideal.exp (s (ix4 0 h r c) - wide (col mx) (ix4 0 h r c)) = _
  rw [wide_at, hs, hM, exp_score]

theorem hostSum_at (h : Fin 8) (r : Fin 4096) : hostSum (hostExp s mx) (ix3 0 h r) = ((den (sees r) (sc q k σ h r) (M h r) : ℝ) : EReal) := by
  rw [sum_at, den, coe_sum]
  exact Finset.sum_congr rfl fun c _ => hostExp_at q k σ M s mx hs hM h r c

/-- the logarithms of the sums -/
theorem hostLse_at (h : Fin 8) (r : Fin 4096) :
    hostLse mx (hostSum (hostExp s mx)) (ix3 h r 0) = ((M h r + Real.log (den (sees r) (sc q k σ h r) (M h r)) : ℝ) : EReal) := by
  unfold hostLse
  refine (shapeCast_apply _ shapeCasts_S1x8x4096x1_S8x4096x1 _ (ix4 0 h r 0) ?_).trans ?_
  · rewrite [Shape.rowMajor_val_four, Shape.rowMajor_val_three]
    show ((0 * 8 + h.val) * 4096 + r.val) * 1 + 0 = (h.val * 4096 + r.val) * 1 + 0
    omega
  show col mx (ix4 0 h r 0) + Ideal.log (col (hostSum (hostExp s mx)) (ix4 0 h r 0)) = _
  rw [col_at, col_at, hM, hostSum_at q k σ M s mx hs hM, log_real (den_pos _ _ _ r (sees_self r)), EReal.coe_add]

/-- and the output. -/
theorem hostO_at (h : Fin 8) (r : Fin 4096) (d : Fin 128) :
    hostO (upV v) (hostExp s mx) (hostSum (hostExp s mx)) (ix2 r (lane h d)) = ((∑ c, v (ix4 0 c h d) * P q k σ M h r c : ℝ) : EReal) := by
  unfold hostO
  refine (rows_at _ h r d).trans ?_
  refine (turn_at _ h r d).trans ?_
  refine (dotO_at (upV v) (Host.divf (hostExp s mx) (wide (col (hostSum (hostExp s mx))))) h r d).trans ?_
  rw [coe_sum]
  refine Finset.sum_congr rfl fun c _ => ?_
  rw [EReal.coe_mul]
  refine congrArg (((v (ix4 0 c h d) : ℝ) : EReal) * ·) ?_
  show Ideal.div (hostExp s mx (ix4 0 h r c)) (wide (col (hostSum (hostExp s mx))) (ix4 0 h r c)) = _
  rw [hostExp_at q k σ M s mx hs hM, wide_at, hostSum_at q k σ M s mx hs hM, div_real _ (den_pos _ _ _ r (sees_self r))]
  rfl

end

end Cert.KernelIdeal.Hand

end
-- ==== Proof.Grads.lean ====
/- The kernel's three gradients, on real arrays, are attention's. -/
module

public import proofs.«01_k».proof.Proof.Arrays
public import proofs.«01_k».proof.Proof.Attention

@[expose] public section

noncomputable section

namespace Cert.KernelIdeal.Hand

open Cert.KernelIdeal Cert.KernelIdeal.Gen Cert.Maths
open Idealize.ShloMosaic

/-- A row of 192 reals as 256 lanes: 0 in the further ones. -/
def wide192 (a : Fin 192 → ℝ) (l : Fin 256) : EReal := if hl : l.val < 192 then ((a ⟨l.val, hl⟩ : ℝ) : EReal) else 0

theorem wide_lt (a : Fin 192 → ℝ) (i : Fin 192) : wide192 a (Fin.castAdd 64 i) = ((a i : ℝ) : EReal) := dif_pos i.isLt

theorem wide_ge (a : Fin 192 → ℝ) (i : Fin 64) : wide192 a (Fin.natAdd 192 i) = 0 := dif_neg (by simp)

/-- The further lanes add nothing to a product of rows. -/
theorem wide_dot (a b : Fin 192 → ℝ) : ∑ l : Fin 256, wide192 a l * wide192 b l = ((∑ d, a d * b d : ℝ) : EReal) := by
  refine (Fin.sum_univ_add (a := 192) (b := 64) fun l => wide192 a l * wide192 b l).trans ?_
  rw [coe_sum, Finset.sum_eq_zero (s := (Finset.univ : Finset (Fin 64))) fun i _ => by rw [wide_ge, zero_mul], add_zero]
  exact Finset.sum_congr rfl fun i _ => by rw [wide_lt, wide_lt, EReal.coe_mul]

theorem sum_wide {n : ℕ} (a : Fin n → ℝ) (b : Fin n → Fin 192 → ℝ) (l : Fin 256) :
    ∑ c, (a c : EReal) * wide192 (b c) l = wide192 (fun d => ∑ c, a c * b c d) l := by
  unfold wide192
  by_cases hl : l.val < 192
  · simp only [dif_pos hl]
    rw [coe_sum]
    exact Finset.sum_congr rfl fun c _ => (EReal.coe_mul _ _).symm
  · simp only [dif_neg hl, mul_zero, Finset.sum_const_zero]

variable (qf kf : Vec Ideal S8x4096x256 .bf16) (vf : Vec Ideal S8x4096x128 .bf16) (o gf : Vec Ideal S4096x1024 .f32) (lse : Vec Ideal S8x4096x1 .f32)
  (q k : TQ.Idx → ℝ) (v g : TV.Idx → ℝ) (σ : ℝ) (M : Fin 8 → Fin 4096 → ℝ)

section
variable (hσ : s = (σ : EReal))
  (hq : ∀ h r l, qf (ix3 h r l) = wide192 (fun d => q (ix4 0 r h d)) l)
  (hk : ∀ h r l, kf (ix3 h r l) = wide192 (fun d => k (ix4 0 r h d)) l)
  (hl : ∀ h r, lse (ix3 h r 0) = ((M h r + Real.log (den (sees r) (sc q k σ h r) (M h r)) : ℝ) : EReal))
include hσ hq hk hl

/-- The probabilities, -/
theorem probH_real (h : Fin 8) (r c : Fin 4096) : probH qf kf lse h r c = ((P q k σ M h r c : ℝ) : EReal) := by
  unfold probH
  split
  case isTrue hs =>
    rw [tileP, hσ, hl, Finset.sum_congr rfl fun x _ => congrArg₂ (· * ·) (hq h r x) (hk h c x), wide_dot, ← EReal.coe_mul]
    exact exp_lse (sees r) (sc q k σ h r) (M h r) c hs
  case isFalse hs => rw [P, pr_masked _ _ _ _ hs, EReal.coe_zero]

variable (hv : ∀ h r d, vf (ix3 h r d) = ((v (ix4 0 r h d) : ℝ) : EReal))
  (hg : ∀ h r d, gf (ix2 r (lane h d)) = ((g (ix4 0 r h d) : ℝ) : EReal))
  (ho : ∀ h r d, o (ix2 r (lane h d)) = ((∑ c, v (ix4 0 c h d) * P q k σ M h r c : ℝ) : EReal))
include hg

/-- the value gradient, -/
theorem gradV_real (h : Fin 8) (c : Fin 4096) (d : Fin 128) : gradV qf kf gf lse (ix3 h c d) = ((dV q k g σ M h c d : ℝ) : EReal) := by
  show ∑ r, probH qf kf lse h r c * gf (ix2 r (lane h d)) = _
  rw [dV, coe_sum]
  exact Finset.sum_congr rfl fun r _ => by rw [probH_real qf kf lse q k σ M hσ hq hk hl, hg, EReal.coe_mul]

include hv ho

omit hσ hq hk hl hv in
/-- the row sums, -/
theorem delta_real (h : Fin 8) (r : Fin 4096) :
    ∑ x, gf (ix2 r (lane h x)) * o (ix2 r (lane h x)) = ((∑ j, P q k σ M h r j * dP v g h r j : ℝ) : EReal) := by
  have e : ∑ j, P q k σ M h r j * dP v g h r j = ∑ x, g (ix4 0 r h x) * ∑ c, v (ix4 0 c h x) * P q k σ M h r c := by
    simp only [dP, Finset.mul_sum]
    rw [Finset.sum_comm]
    exact Finset.sum_congr rfl fun x _ => Finset.sum_congr rfl fun c _ => by ring
  rw [e, coe_sum]
  exact Finset.sum_congr rfl fun x _ => by rw [hg, ho, EReal.coe_mul]

/-- the gradients of the scaled products, -/
theorem dscoreH_real (h : Fin 8) (r c : Fin 4096) : dscoreH qf kf vf o gf lse h r c = ((dS q k v g σ M h r c : ℝ) : EReal) := by
  have hd : ∑ x, gf (ix2 r (lane h x)) * vf (ix3 h c x) = ((dP v g h r c : ℝ) : EReal) := by
    rw [dP, coe_sum]
    exact Finset.sum_congr rfl fun x _ => by rw [hg, hv, EReal.coe_mul]
  rw [dscoreH, tileDS, probH_real qf kf lse q k σ M hσ hq hk hl, hd, delta_real o gf q k v g σ M hg ho, hσ, ← EReal.coe_sub, ← EReal.coe_mul, ← EReal.coe_mul, dS]

/-- those of the queries, -/
theorem gradQ_real (h : Fin 8) (r : Fin 4096) (l : Fin 256) : gradQ qf kf vf o gf lse (ix3 h r l) = wide192 (dQ q k v g σ M h r) l := by
  show ∑ c, dscoreH qf kf vf o gf lse h r c * kf (ix3 h c l) = _
  rw [show dQ q k v g σ M h r = fun d => ∑ c, dS q k v g σ M h r c * k (ix4 0 c h d) from rfl, ← sum_wide]
  exact Finset.sum_congr rfl fun c _ => by rw [dscoreH_real qf kf vf o gf lse q k v g σ M hσ hq hk hl hv hg ho, hk]

/-- and of the keys. -/
theorem gradK_real (h : Fin 8) (c : Fin 4096) (l : Fin 256) : gradK qf kf vf o gf lse (ix3 h c l) = wide192 (dK q k v g σ M h c) l := by
  show ∑ r, dscoreH qf kf vf o gf lse h r c * qf (ix3 h r l) = _
  rw [show dK q k v g σ M h c = fun d => ∑ r, dS q k v g σ M h r c * q (ix4 0 r h d) from rfl, ← sum_wide]
  exact Finset.sum_congr rfl fun r _ => by rw [dscoreH_real qf kf vf o gf lse q k v g σ M hσ hq hk hl hv hg ho, hq]

end

end Cert.KernelIdeal.Hand

end
-- ==== Proof.Equal.lean ====
/- The kernel's three results are the reference's, on finite arguments. -/
module

public import proofs.«01_k».proof.Proof.Results
public import proofs.«01_k».proof.Proof.HostRead
public import proofs.«01_k».proof.Proof.Grads
public import proofs.«01_k».proof.Proof.RefGrad
public import proofs.«01_k».proof.Pre_finite
public import proofs.«01_k».proof.Proof.Gen.Pre_finite

@[expose] public section

noncomputable section

namespace Cert.KernelIdeal.Hand

open Cert.KernelIdeal Cert.KernelIdeal.Gen Cert.Maths
open Cert.ReferenceIdeal.Hand (upQ upV scale scale_real masked_at exists_max gradQ_at gradK_at gradV_at)
open Idealize.ShloMosaic Idealize.ShloMosaic.TcCoe

theorem inf_lit : (FloatOps.ofBits .f32 0x7F800000#32 : Ideal .f32) = (⊤ : EReal) := by
  simp [Ideal.ofBits_def, Ideal.ofBits, Ideal.ieee]

/-- An entry whose magnitude is below the infinite one is a real. -/
theorem real_of_lt {x : EReal} (h : FloatOps.cmpf (F := Ideal) (φ := .f32) .olt (FloatOps.absf (F := Ideal) (φ := .f32) x) (FloatOps.ofBits .f32 0x7F800000#32 : Ideal .f32) = 1#1) :
    ((x.toReal : ℝ) : EReal) = x := by
  rw [inf_lit] at h
  induction x using EReal.rec with
  | bot => simp [FloatOps.cmpf, FloatOps.absf, Ideal.cmp] at h
  | top => simp [FloatOps.cmpf, FloatOps.absf, Ideal.cmp] at h
  | coe x => rfl

variable (m : (ℓ : Loc nD τ sig) → Buf (Elt Ideal) ℓ)

section Equal

variable (c : Dev nD) (q k : TQ.Idx → ℝ) (v g : TV.Idx → ℝ)
  (hq : m ((c.tc : Thread nD τ).loc main_arg0) = upQ q) (hk : m ((c.tc : Thread nD τ).loc main_arg1) = upQ k)
  (hv : m ((c.tc : Thread nD τ).loc main_arg2) = upV v) (hg : m ((c.tc : Thread nD τ).loc main_arg3) = upV g)

include hq in
/-- The arrays the kernel is called with. -/
theorem aq_eq : aq m c = hostQ (upQ q) := (V_q m c).trans (congrArg hostQ hq)
include hk in
theorem ak_eq : ak m c = hostQ (upQ k) := (V_k m c).trans (congrArg hostQ hk)
include hv in
theorem av_eq : av m c = hostV (upV v) := (V_v m c).trans (congrArg hostV hv)
include hg in
theorem ag_eq : ag m c = hostG (upV g) := (V_g m c).trans (congrArg hostG hg)

include hq hk in
theorem al_eq : al m c = hostLse (hostMax (hostScore (upQ q) (upQ k)))
    (hostSum (hostExp (hostScore (upQ q) (upQ k)) (hostMax (hostScore (upQ q) (upQ k))))) :=
  (V_lse m c).trans (congrArg₂ (fun x y => hostLse (hostMax (hostScore x y)) (hostSum (hostExp (hostScore x y) (hostMax (hostScore x y))))) hq hk)

include hq hk hv in
theorem ao_eq : ao m c = hostO (upV v) (hostExp (hostScore (upQ q) (upQ k)) (hostMax (hostScore (upQ q) (upQ k))))
    (hostSum (hostExp (hostScore (upQ q) (upQ k)) (hostMax (hostScore (upQ q) (upQ k))))) := by
  refine (V_o m c).trans ?_
  generalize m ((c.tc : Thread nD τ).loc main_arg0) = a0 at hq ⊢
  generalize m ((c.tc : Thread nD τ).loc main_arg1) = a1 at hk ⊢
  generalize m ((c.tc : Thread nD τ).loc main_arg2) = a2 at hv ⊢
  subst hq hk hv
  rfl

include hq hk hg

theorem resV_eq : resV m c = Cert.ReferenceIdeal.Read.val_main_v72 (F := Ideal) (upQ q) (upQ k) (upV g) := by
  obtain ⟨σ, hσ⟩ := scale_real
  obtain ⟨M, hM⟩ := exists_max q k σ hσ
  unfold resV
  rw [aq_eq m c q hq, ak_eq m c k hk, ag_eq m c g hg, al_eq m c q k hq hk]
  funext i
  obtain ⟨h, r, l, rfl⟩ : ∃ (h : Fin 8) (r : Fin 4096) (l : Fin 128), i = ix3 h r l := ⟨i 0, i 1, i 2, funext fun a => by fin_cases a <;> rfl⟩
  refine Eq.trans ?_ (gradV_at q k g σ M hσ hM h r l).symm
  refine gradV_real _ _ _ _ q k g σ M hσ (hostQ_at q) (hostQ_at k) ?_ (hostG_at g) h r l
  intro h r
  rw [hostScore_eq, hostMax_eq]
  exact hostLse_at q k σ M _ _ (fun h r c => masked_at q k σ hσ h r c) hM h r

include hv

theorem resQ_eq : resQ m c = Cert.ReferenceIdeal.Read.val_main_v67 (F := Ideal) (upQ q) (upQ k) (upV v) (upV g) := by
  obtain ⟨σ, hσ⟩ := scale_real
  obtain ⟨M, hM⟩ := exists_max q k σ hσ
  unfold resQ
  rw [aq_eq m c q hq, ak_eq m c k hk, av_eq m c v hv, ao_eq m c q k v hq hk hv, ag_eq m c g hg, al_eq m c q k hq hk]
  funext i
  obtain ⟨h, r, l, rfl⟩ : ∃ (h : Fin 8) (r : Fin 4096) (l : Fin 256), i = ix3 h r l := ⟨i 0, i 1, i 2, funext fun a => by fin_cases a <;> rfl⟩
  refine Eq.trans ?_ (gradQ_at q k v g σ M hσ hM h r l).symm
  refine gradQ_real _ _ _ _ _ _ q k v g σ M hσ (hostQ_at q) (hostQ_at k) ?_ (hostV_at v) (hostG_at g) ?_ h r l
  · intro h r
    rw [hostScore_eq, hostMax_eq]
    exact hostLse_at q k σ M _ _ (fun h r c => masked_at q k σ hσ h r c) hM h r
  · intro h r d
    rw [hostScore_eq, hostMax_eq]
    exact hostO_at q k v σ M _ _ (fun h r c => masked_at q k σ hσ h r c) hM h r d

theorem resK_eq : resK m c = Cert.ReferenceIdeal.Read.val_main_v70 (F := Ideal) (upQ q) (upQ k) (upV v) (upV g) := by
  obtain ⟨σ, hσ⟩ := scale_real
  obtain ⟨M, hM⟩ := exists_max q k σ hσ
  unfold resK
  rw [aq_eq m c q hq, ak_eq m c k hk, av_eq m c v hv, ao_eq m c q k v hq hk hv, ag_eq m c g hg, al_eq m c q k hq hk]
  funext i
  obtain ⟨h, r, l, rfl⟩ : ∃ (h : Fin 8) (r : Fin 4096) (l : Fin 256), i = ix3 h r l := ⟨i 0, i 1, i 2, funext fun a => by fin_cases a <;> rfl⟩
  refine Eq.trans ?_ (gradK_at q k v g σ M hσ hM h r l).symm
  refine gradK_real _ _ _ _ _ _ q k v g σ M hσ (hostQ_at q) (hostQ_at k) ?_ (hostV_at v) (hostG_at g) ?_ h r l
  · intro h r
    rw [hostScore_eq, hostMax_eq]
    exact hostLse_at q k σ M _ _ (fun h r c => masked_at q k σ hσ h r c) hM h r
  · intro h r d
    rw [hostScore_eq, hostMax_eq]
    exact hostO_at q k v σ M _ _ (fun h r c => masked_at q k σ hσ h r c) hM h r d

end Equal

/-- Finite arguments are real ones. -/
theorem reals (a0 a1 : (⟨S1x4096x8x192, .f32⟩ : BufTy).Contents (Elt Ideal)) (a2 a3 : (⟨S1x4096x8x128, .f32⟩ : BufTy).Contents (Elt Ideal))
    (h : (Cert.Pre_finite.fn (F := Ideal) a0 a1 a2 a3).1 = (fun _ => 1#1) ∧ (Cert.Pre_finite.fn (F := Ideal) a0 a1 a2 a3).2.1 = (fun _ => 1#1)
      ∧ (Cert.Pre_finite.fn (F := Ideal) a0 a1 a2 a3).2.2.1 = (fun _ => 1#1) ∧ (Cert.Pre_finite.fn (F := Ideal) a0 a1 a2 a3).2.2.2 = (fun _ => 1#1)) :
    ∃ (q k : TQ.Idx → ℝ) (v g : TV.Idx → ℝ), a0 = upQ q ∧ a1 = upQ k ∧ a2 = upV v ∧ a3 = upV g :=
  ⟨fun i => (a0 i : EReal).toReal, fun i => (a1 i : EReal).toReal, fun i => (a2 i : EReal).toReal, fun i => (a3 i : EReal).toReal,
    funext fun i => (real_of_lt (congrFun h.1 i)).symm, funext fun i => (real_of_lt (congrFun h.2.1 i)).symm,
    funext fun i => (real_of_lt (congrFun h.2.2.1 i)).symm, funext fun i => (real_of_lt (congrFun h.2.2.2 i)).symm⟩

end Cert.KernelIdeal.Hand

end
-- ==== Proof.Mm.Sum.lean ====
/- A long sum of extended reals as a sum over tiles. -/
module

public import Idealize.ShloMosaic.Lib.Pointwise

@[expose] public section

noncomputable section

namespace Cert.Mm

/-- Place `b` of tile `a`, in the whole row. -/
abbrev place {N K t : ℕ} (h : N = K * t) (a : Fin K) (b : Fin t) : Fin N :=
  ⟨a.val * t + b.val, by
    have h1 := Nat.mul_le_mul_right t (Nat.succ_le_of_lt a.isLt)
    have h2 := b.isLt
    rw [Nat.succ_mul] at h1
    omega⟩

/-- A row of `K` tiles of `t` places, summed tile by tile. -/
theorem sum_tiles {N K t : ℕ} (h : N = K * t) (f : Fin N → EReal) :
    ∑ i, f i = ∑ a : Fin K, ∑ b : Fin t, f (place h a b) := by
  subst h
  rw [← Equiv.sum_comp finProdFinEquiv f, Fintype.sum_prod_type]
  refine Finset.sum_congr rfl fun a _ => Finset.sum_congr rfl fun b _ => congrArg f (Fin.ext ?_)
  show b.val + t * a.val = a.val * t + b.val
  rw [Nat.mul_comm, Nat.add_comm]

end Cert.Mm

end
-- ==== Proof.Mm.Index.lean ====
/- Indices by their coordinates, and a layer put in front of a stack of three, element by element. -/
module

public import Idealize.ShloMosaic.Lib.Pointwise
public import Idealize.ShloMosaic.Lib.Pipeline.Value

@[expose] public section

noncomputable section

namespace Cert.Mm

open Idealize.ShloMosaic

/-- Blocks read and written whole begin at zero. -/
theorem hz : (![0, 0] : Fin 2 → Nat) = fun _ => 0 := funext fun a => by fin_cases a <;> rfl

theorem hz3 : (![0, 0, 0] : Fin 3 → Nat) = fun _ => 0 := funext fun a => by fin_cases a <;> rfl

/-- An index is known by its coordinates. -/
theorem idx2 {n0 n1 : Nat} {j : (⟨2, ![n0, n1]⟩ : Shape).Idx} {a : Fin n0} {b : Fin n1}
    (h0 : (j 0).val = a.val) (h1 : (j 1).val = b.val) : j = ix2 a b :=
  funext fun d => Fin.ext (match d with | ⟨0, _⟩ => h0 | ⟨1, _⟩ => h1)

theorem idx3 {n0 n1 n2 : Nat} {j i : (⟨3, ![n0, n1, n2]⟩ : Shape).Idx}
    (h0 : (j 0).val = (i 0).val) (h1 : (j 1).val = (i 1).val) (h2 : (j 2).val = (i 2).val) : j = i :=
  funext fun d => Fin.ext (match d with | ⟨0, _⟩ => h0 | ⟨1, _⟩ => h1 | ⟨2, _⟩ => h2)

/-- A choice by the layer's number. -/
theorem picked {α : Type} (n l : ℕ) (hn : n < 4) (hl : l < 4) (a b : α) :
    Scalar.select (IntOp.cmpi .eq (BitVec.ofNat 32 n) (BitVec.ofNat 32 l)) a b = if n = l then a else b := by
  match n, l, hn, hl with
  | 0, 0, _, _ | 0, 1, _, _ | 0, 2, _, _ | 0, 3, _, _ | 1, 0, _, _ | 1, 1, _, _ | 1, 2, _, _ | 1, 3, _, _
  | 2, 0, _, _ | 2, 1, _, _ | 2, 2, _, _ | 2, 3, _, _ | 3, 0, _, _ | 3, 1, _, _ | 3, 2, _, _ | 3, 3, _, _ => rfl

/-- A layer and the three that follow it, joined: layer 0 is the first, layer a + 1 is layer a of the others. -/
theorem stacked_at {α : Type} {M N : Nat} (x : (⟨3, ![1, M, N]⟩ : Shape).Idx → α) (y : (⟨3, ![3, M, N]⟩ : Shape).Idx → α)
    (h : Shape.Concatenates [⟨3, ![1, M, N]⟩, ⟨3, ![3, M, N]⟩] ⟨3, ![4, M, N]⟩ 0) (i : (⟨3, ![4, M, N]⟩ : Shape).Idx) :
    concatenate ⟨3, ![4, M, N]⟩ 0 [⟨⟨3, ![1, M, N]⟩, x⟩, ⟨⟨3, ![3, M, N]⟩, y⟩] h i
      = if (i 0).val = 0 then x (ix3 (0 : Fin 1) (i 1) (i 2))
        else y (ix3 (⟨(i 0).val - 1, by have h4 : (i 0).val < 4 := (i 0).isLt; omega⟩ : Fin 3) (i 1) (i 2)) := by
  split
  · rename_i h0
    refine concatenate_pair_apply_left 0 x y h i rfl (ix3 (0 : Fin 1) (i 1) (i 2)) (fun d => ?_)
    match d with
    | ⟨0, _⟩ => exact h0.symm
    | ⟨1, _⟩ => rfl
    | ⟨2, _⟩ => rfl
  · rename_i h0
    refine concatenate_pair_apply_right 0 x y h i rfl rfl (ix3 (⟨(i 0).val - 1, _⟩ : Fin 3) (i 1) (i 2)) (fun d hd => ?_) ?_
    · match d with
      | ⟨0, _⟩ => exact absurd rfl hd
      | ⟨1, _⟩ => rfl
      | ⟨2, _⟩ => rfl
    · show (i 0).val - 1 + 1 = (i 0).val; omega

end Cert.Mm

end
-- ==== Proof.Mm.Tiles.lean ====
/- A product computed tile by tile: the points of a grid of row tiles, column tiles and tiles of the contracted axis, the
   last running fastest, each multiply a block of the one operand with a block of the other, and the products of one
   output tile are added up. What is said here holds for every number and size of tiles and for every layout: the
   operands are functions of their coordinates. -/
module

public import proofs.«01_k».proof.Proof.Mm.Sum
public import proofs.«01_k».proof.Proof.Mm.Index

@[expose] public section

noncomputable section

namespace Cert.Mm

/-- A place in an array: a whole number of tiles, and a place in the tile. -/
theorem at_tile {u v s r i : ℕ} (e : u = v) (h : i = v * s + r) : u * s + 1 * r = i := by
  rw [e, h, Nat.one_mul]

theorem of_tile {u v s r : ℕ} (e : u = v) : u * s + 1 * r = v * s + r := at_tile e rfl

theorem in_layer {u r v : ℕ} (e : u = v) (h : r < 1) : u * 1 + 1 * r = v := by omega

theorem pred_lt {T : ℕ} (t : Fin T) : t.val - 1 < T := Nat.lt_of_le_of_lt (Nat.sub_le _ _) t.isLt

/-- The point before stands in the same run of `nk` points. -/
theorem pred_div {t nk : ℕ} (h : ¬t % nk = 0) : (t - 1) / nk = t / nk ∧ (t - 1) % nk = t % nk - 1 := by
  rcases Nat.eq_zero_or_pos nk with rfl | hk
  · simp
  have e := Nat.div_add_mod t nk
  have hl := Nat.mod_lt t hk
  have e1 : t - 1 = (t % nk - 1) + nk * (t / nk) := by omega
  constructor
  · rw [e1, Nat.add_mul_div_left _ _ hk, Nat.div_eq_of_lt (by omega), Nat.zero_add]
  · rw [e1, Nat.add_mul_mod_self_left, Nat.mod_eq_of_lt (by omega)]

section
variable {M N K tm tn tk T : ℕ} (nk gn : ℕ) (hK : K = nk * tk)
    (A : Fin M → Fin K → EReal) (B : Fin K → Fin N → EReal)
    (x : Fin T → Fin tm → Fin tk → EReal) (y : Fin T → Fin tk → Fin tn → EReal)
    (hx : ∀ t r q i k, i.val = t.val / nk / gn * tm + r.val → k.val = t.val % nk * tk + q.val → x t r q = A i k)
    (hy : ∀ t q l k j, k.val = t.val % nk * tk + q.val → j.val = t.val / nk % gn * tn + l.val → y t q l = B k j)

include hK hx hy in
/-- What one point multiplies: its tile of the sum at (row, column). -/
theorem one_tile (t : Fin T) (a : Fin nk) (ha : t.val % nk = a.val) (r : Fin tm) (l : Fin tn) (i : Fin M) (j : Fin N)
    (hi : i.val = t.val / nk / gn * tm + r.val) (hj : j.val = t.val / nk % gn * tn + l.val) :
    ∑ q, x t r q * y t q l = ∑ q, A i (place hK a q) * B (place hK a q) j :=
  Finset.sum_congr rfl fun q _ => by
    rw [hx t r q i (place hK a q) hi (by rw [ha]), hy t q l (place hK a q) j (by rw [ha]) hj]

include hK hx hy in
/-- With one tile, the point's product is the whole sum. -/
theorem single_tile (t : Fin T) (hk : nk = 1) (r : Fin tm) (l : Fin tn) (i : Fin M) (j : Fin N)
    (hi : i.val = t.val / nk / gn * tm + r.val) (hj : j.val = t.val / nk % gn * tn + l.val) :
    ∑ q, x t r q * y t q l = ∑ k, A i k * B k j := by
  subst hk
  rw [one_tile 1 gn hK A B x y hx hy t 0 (Nat.mod_one _) r l i j hi hj, sum_tiles hK, Fin.sum_univ_one]

variable (acc : (n : ℕ) → n < T → Fin tm → Fin tn → EReal)
    (first : ∀ t : Fin T, t.val % nk = 0 → ∀ r l, acc t.val t.isLt r l = ∑ q, x t r q * y t q l)
    (next : ∀ t : Fin T, ¬t.val % nk = 0 → ¬t.val % nk = nk - 1 → ∀ r l,
      acc t.val t.isLt r l = acc (t.val - 1) (pred_lt t) r l + ∑ q, x t r q * y t q l)

include hK hx hy first next in
/-- What is kept after a point that isn't the last of its run: the tiles up to its own. -/
theorem kept (r : Fin tm) (l : Fin tn) (i : Fin M) (j : Fin N) (a : ℕ) : ∀ (t : Fin T) (_ : t.val % nk = a) (ha : a + 1 < nk)
    (_ : i.val = t.val / nk / gn * tm + r.val) (_ : j.val = t.val / nk % gn * tn + l.val),
    acc t.val t.isLt r l = ∑ b : Fin (a + 1), ∑ q, A i (place hK ⟨b.val, by omega⟩ q) * B (place hK ⟨b.val, by omega⟩ q) j := by
  induction a with
  | zero =>
    intro t h0 ha hi hj
    rw [first t h0, one_tile nk gn hK A B x y hx hy t ⟨0, by omega⟩ h0 r l i j hi hj, Fin.sum_univ_one]
    rfl
  | succ a ih =>
    intro t h0 ha hi hj
    obtain ⟨e1, e2⟩ := pred_div (t := t.val) (nk := nk) (by omega)
    have hlt := pred_lt t
    rw [next t (by omega) (by omega), one_tile nk gn hK A B x y hx hy t ⟨a + 1, by omega⟩ h0 r l i j hi hj,
      ih ⟨t.val - 1, hlt⟩ (by show (t.val - 1) % nk = a; omega) (by omega) (by show _ = (t.val - 1) / nk / gn * tm + _; rw [e1]; exact hi)
        (by show _ = (t.val - 1) / nk % gn * tn + _; rw [e1]; exact hj), Fin.sum_univ_castSucc (n := a + 1)]
    rfl

include hK hx hy first next in
/-- What is kept before the last point of a run, and that point's product, make the whole sum. -/
theorem last_tile (t : Fin T) (h2 : 1 < nk) (ht : t.val % nk = nk - 1) (r : Fin tm) (l : Fin tn) (i : Fin M) (j : Fin N)
    (hi : i.val = t.val / nk / gn * tm + r.val) (hj : j.val = t.val / nk % gn * tn + l.val) :
    acc (t.val - 1) (pred_lt t) r l + ∑ q, x t r q * y t q l = ∑ k, A i k * B k j := by
  obtain ⟨e1, e2⟩ := pred_div (t := t.val) (nk := nk) (by omega)
  have hlt := pred_lt t
  obtain ⟨n, rfl⟩ : ∃ n, nk = n + 1 + 1 := ⟨nk - 2, by omega⟩
  rw [kept (n + 1 + 1) gn hK A B x y hx hy acc first next r l i j n ⟨t.val - 1, hlt⟩ (by show (t.val - 1) % _ = n; omega) (by omega)
      (by show _ = (t.val - 1) / _ / gn * tm + _; rw [e1]; exact hi) (by show _ = (t.val - 1) / _ % gn * tn + _; rw [e1]; exact hj),
    one_tile (n + 1 + 1) gn hK A B x y hx hy t ⟨n + 1, by omega⟩ ht r l i j hi hj, sum_tiles hK, Fin.sum_univ_castSucc (n := n + 1)]
  rfl

end

end Cert.Mm

end
-- ==== Proof.Mm.FfnInDx.lean ====
/- FfnInDx: the gradient of a product's input; the contracted axis in four tiles. What is of the generated program: its arguments,
   its blocks and what a point does with them. The sum is that of Tiles.lean. -/
module

public import proofs.«01_k».proof.Proof.Gen.FfnInDxIdeal.Frame
public import proofs.«01_k».proof.Proof.Gen.FfnInDxIdeal.Value
public import proofs.«01_k».proof.Proof.Gen.FfnInDxRefIdeal.Read
public import proofs.«01_k».proof.Proof.Mm.Tiles
public import Idealize.ShloMosaic.Lib.Pointwise
public import Idealize.ShloMosaic.Lib.Pipeline.ValueKit

@[expose] public section

noncomputable section

namespace Cert.FfnInDxIdeal.Hand

open Cert.FfnInDxIdeal Cert.FfnInDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x5632 .f32 := m ((c : Thread nD τ).loc main_arg2)
abbrev opB : Vec Ideal S1024x5632 .f32 := m ((c : Thread nD τ).loc main_arg1)

theorem V_a : (V m c main_v0 : Vec Ideal S4096x5632 .bf16) = opA m c := by
  show V m c _ = _; simp only [V, hostOps0]; after_results_simp <;> rfl

theorem V_b : (V m c main_v1 : Vec Ideal S1024x5632 .bf16) = opB m c := by
  show V m c _ = _; simp only [V, hostOps0]; after_results_simp <;> rfl

/-- The result: the whole sum. -/
def res : Vec Ideal S4096x1024 .f32 := fun i => ∑ k, opA m c (ix2 (i 0) k) * opB m c (ix2 (i 1) k)

/-- Which blocks a point reads and writes. -/
theorem places : ∀ t : Fin cfg0.N, (win0_0.index t (0 : Fin 2) = t.val / 4 / 1 ∧ win0_0.index t (1 : Fin 2) = t.val % 4)
    ∧ (win0_1.index t (0 : Fin 2) = t.val / 4 % 1 ∧ win0_1.index t (1 : Fin 2) = t.val % 4)
    ∧ (win0_2.index t (0 : Fin 2) = t.val / 4 / 1 ∧ win0_2.index t (1 : Fin 2) = t.val / 4 % 1) :=
  (by decide +kernel : ∀ t : Fin grid0.N, _)

/-- A point's blocks of the operands. -/
def x (t : Fin cfg0.N) (r : Fin 1024) (q : Fin 1408) : EReal := (iblk m c 0 t : Vec Ideal S1024x1408 .bf16) (ix2 r q)
def y (t : Fin cfg0.N) (q : Fin 1408) (l : Fin 1024) : EReal := (iblk m c 1 t : Vec Ideal S1024x1408 .bf16) (ix2 l q)

theorem x_eq (t : Fin cfg0.N) (r : Fin 1024) (q : Fin 1408) (i : Fin 4096) (k : Fin 5632)
    (hi : i.val = t.val / 4 / 1 * 1024 + r.val) (hk : k.val = t.val % 4 * 1408 + q.val) : x m c t r q = opA m c (ix2 i k) :=
  (congrFun (V_a m c) _).trans (congrArg _ (idx2 (at_tile (places t).1.1 hi) (at_tile (places t).1.2 hk)))

theorem y_eq (t : Fin cfg0.N) (q : Fin 1408) (l : Fin 1024) (k : Fin 5632) (j : Fin 1024)
    (hk : k.val = t.val % 4 * 1408 + q.val) (hj : j.val = t.val / 4 % 1 * 1024 + l.val) : y m c t q l = opB m c (ix2 j k) :=
  (congrFun (V_b m c) _).trans (congrArg _ (idx2 (at_tile (places t).2.1.1 hj) (at_tile (places t).2.1.2 hk)))

/-- What the scratch holds after a point. -/
def acc (n : ℕ) (h : n < cfg0.N) (r : Fin 1024) (l : Fin 1024) : EReal := (outsAt0 m c n h).2 (ix2 r l)

/-- The first point of a tile's run leaves its product there. -/
theorem first (t : Fin cfg0.N) (h : t.val % 4 = 0) (r : Fin 1024) (l : Fin 1024) : acc m c t.val t.isLt r l = ∑ q, x m c t r q * y m c t q l := by
  unfold acc
  rw [outsAt0_A m c t (by omega) (by omega) (by omega)]
  frame_out
  pointwise [k0_pay2, k0_pay1]
  rfl

/-- A later one adds its product. -/
theorem next (t : Fin cfg0.N) (h0 : ¬t.val % 4 = 0) (h1 : ¬t.val % 4 = 4 - 1) (r : Fin 1024) (l : Fin 1024) :
    acc m c t.val t.isLt r l = acc m c (t.val - 1) (pred_lt t) r l + ∑ q, x m c t r q * y m c t q l := by
  unfold acc
  rw [outsAt0_B m c t (by omega) (by omega) (by omega)]
  frame_out
  rw [(Memref.isWhole_whole _).read_unread]
  pointwise [k0_pay3, k0_pay1]
  rfl

/-- The last one writes the sum out. -/
theorem out (t : Fin cfg0.N) (h : t.val % 4 = 3) (r : Fin 1024) (l : Fin 1024) (i : S4096x1024.Idx)
    (hi : (i 0).val = t.val / 4 / 1 * 1024 + r.val) (hj : (i 1).val = t.val / 4 % 1 * 1024 + l.val) :
    (outsAt0 m c t.val t.isLt).1 (ix2 r l) = res m c i := by
  have e := last_tile 4 1 rfl (fun i k => opA m c (ix2 i k)) (fun k j => opB m c (ix2 j k)) (x m c) (y m c) (x_eq m c) (y_eq m c)
    (acc m c) (first m c) (next m c) t (by omega) h r l (i 0) (i 1) hi hj
  rw [outsAt0_C m c t (by omega) (by omega) (by omega)]
  frame_out
  rw [(Memref.isWhole_whole _).read_unread]
  refine Eq.trans ?_ e
  pointwise [k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix2 (j 0) (j 1)) :=
    congrArg (outsAt0 m c t.val t.isLt).1 (eq_ix2 j)
  have e' := out m c t ((flush0_2 t).mp hf) (j 0) (j 1) ((win0_2.blk t).view.emb j)
    (of_tile (places t).2.2.1) (of_tile (places t).2.2.2)
  rw [View.read_apply]
  exact (e.trans e').trans (cast_eq rfl _).symm

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.FfnInDxRefIdeal.Read.val_main_v3 (F := Ideal) (opB m c) (opA m c) := funext fun i =>
  ((Cert.FfnInDxRefIdeal.Read.val_main_v3_apply _ _ i).trans (Finset.sum_congr rfl fun k _ =>
    congrArg₂ (fun x y => opA m c x * opB m c y) (eq_ix2 _) (eq_ix2 _))).symm

end Cert.FfnInDxIdeal.Hand

end
-- ==== Proof.Mm.FfnInDw.lean ====
/- FfnInDw: the gradient of a product's weight, put in the stack of the layers' gradients; the contracted axis in two tiles. What is of the generated program: its arguments,
   its blocks and what a point does with them. The sum is that of Tiles.lean. -/
module

public import proofs.«01_k».proof.Proof.Gen.FfnInDwIdeal.Frame
public import proofs.«01_k».proof.Proof.Gen.FfnInDwIdeal.Value
public import proofs.«01_k».proof.Proof.Gen.FfnInDwRefIdeal.Read
public import proofs.«01_k».proof.Proof.Mm.Tiles
public import Idealize.ShloMosaic.Lib.Pointwise
public import Idealize.ShloMosaic.Lib.Pipeline.ValueKit

@[expose] public section

noncomputable section

namespace Cert.FfnInDwIdeal.Hand

open Cert.FfnInDwIdeal Cert.FfnInDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x5632 .f32 := m ((c : Thread nD τ).loc main_arg2)
abbrev stack : Vec Ideal S4x1024x5632 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x5632 .bf16) = opB m c := by
  show V m c _ = _; simp only [V, hostOps0]; after_results_simp <;> rfl

/-- The result's buffer starts as a copy of the stack. -/
theorem V_o : (V m c main_v2 : Vec Ideal S4x1024x5632 .bf16) = stack m c := by
  show V m c _ = _; simp only [V, hostOps0]; after_results_simp <;> rfl

/-- The result: the whole sum in layer 0, the stack elsewhere. -/
def res : Vec Ideal S4x1024x5632 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 11)
    ∧ (win0_1.index t (0 : Fin 2) = t.val % 2 ∧ win0_1.index t (1 : Fin 2) = t.val / 2 % 11)
    ∧ (win0_2.index t (0 : Fin 3) = 0 ∧ win0_2.index t (1 : Fin 3) = t.val / 2 / 11 ∧ win0_2.index t (2 : Fin 3) = t.val / 2 % 11) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 512) : EReal := (iblk m c 1 t : Vec Ideal S2048x512 .bf16) (ix2 q l)

theorem x_eq (t : Fin cfg0.N) (r : Fin 512) (q : Fin 2048) (i : Fin 1024) (k : Fin 4096)
    (hi : i.val = t.val / 2 / 11 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 512) (k : Fin 4096) (j : Fin 5632)
    (hk : k.val = t.val % 2 * 2048 + q.val) (hj : j.val = t.val / 2 % 11 * 512 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 512) : EReal := (outsAt0 m c n h).2 (ix2 r l)

/-- The first point of a tile's run leaves its product there. -/
theorem first (t : Fin cfg0.N) (h : t.val % 2 = 0) (r : Fin 512) (l : Fin 512) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 512) (i : S4x1024x5632.Idx)
    (h0 : (i 0).val = 0) (hi : (i 1).val = t.val / 2 / 11 * 512 + r.val) (hj : (i 2).val = t.val / 2 % 11 * 512 + l.val) :
    (outsAt0 m c t.val t.isLt).1 (ix3 o r l) = res m c i := by
  have e := last_tile 2 11 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.FfnInDwRefIdeal.Read.val_main_v7 (F := Ideal) (opA m c) (opB m c) (stack m c) := funext fun i => by
  unfold Cert.FfnInDwRefIdeal.Read.val_main_v7 res
  rw [stacked_at]
  split
  · rw [Cert.FfnInDwRefIdeal.Read.val_main_v5_apply, Cert.FfnInDwRefIdeal.Read.val_main_v4_apply, Cert.FfnInDwRefIdeal.Read.val_main_v2_apply, Cert.FfnInDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.FfnInDwRefIdeal.Read.val_main_v6_apply]
    exact congrArg (stack m c) (idx3 (by show (i 0).val = 1 + ((i 0).val - 1); omega) rfl rfl)

end Cert.FfnInDwIdeal.Hand

end
-- ==== Proof.Mm.FfnOutDx.lean ====
/- FfnOutDx: the gradient of a product's input; the contracted axis in one tile. What is of the generated program: its arguments,
   its blocks and what a point does with them. The sum is that of Tiles.lean. -/
module

public import proofs.«01_k».proof.Proof.Gen.FfnOutDxIdeal.Frame
public import proofs.«01_k».proof.Proof.Gen.FfnOutDxIdeal.Value
public import proofs.«01_k».proof.Proof.Gen.FfnOutDxRefIdeal.Read
public import proofs.«01_k».proof.Proof.Mm.Tiles
public import Idealize.ShloMosaic.Lib.Pointwise
public import Idealize.ShloMosaic.Lib.Pipeline.ValueKit

@[expose] public section

noncomputable section

namespace Cert.FfnOutDxIdeal.Hand

open Cert.FfnOutDxIdeal Cert.FfnOutDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg2)
abbrev opB : Vec Ideal S2816x1024 .f32 := m ((c : Thread nD τ).loc main_arg1)

theorem V_a : (V m c main_arg2 : Vec Ideal S4096x1024 .f32) = opA m c := V_main_arg2 m c

theorem V_b : (V m c main_v0 : Vec Ideal S2816x1024 .bf16) = opB m c := by
  show V m c _ = _; simp only [V, hostOps0]; after_results_simp <;> rfl

/-- The result: the whole sum. -/
def res : Vec Ideal S4096x2816 .f32 := fun i => ∑ k, opA m c (ix2 (i 0) k) * opB m c (ix2 (i 1) k)

/-- Which blocks a point reads and writes. -/
theorem places : ∀ t : Fin cfg0.N, (win0_0.index t (0 : Fin 2) = t.val / 1 / 11 ∧ win0_0.index t (1 : Fin 2) = t.val % 1)
    ∧ (win0_1.index t (0 : Fin 2) = t.val / 1 % 11 ∧ win0_1.index t (1 : Fin 2) = t.val % 1)
    ∧ (win0_2.index t (0 : Fin 2) = t.val / 1 / 11 ∧ win0_2.index t (1 : Fin 2) = t.val / 1 % 11) :=
  (by decide +kernel : ∀ t : Fin grid0.N, _)

/-- A point's blocks of the operands. -/
def x (t : Fin cfg0.N) (r : Fin 1024) (q : Fin 1024) : EReal := (iblk m c 0 t : Vec Ideal S1024x1024 .f32) (ix2 r q)
def y (t : Fin cfg0.N) (q : Fin 1024) (l : Fin 256) : EReal := (iblk m c 1 t : Vec Ideal S256x1024 .bf16) (ix2 l q)

theorem x_eq (t : Fin cfg0.N) (r : Fin 1024) (q : Fin 1024) (i : Fin 4096) (k : Fin 1024)
    (hi : i.val = t.val / 1 / 11 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 256) (k : Fin 1024) (j : Fin 2816)
    (hk : k.val = t.val % 1 * 1024 + q.val) (hj : j.val = t.val / 1 % 11 * 256 + l.val) : y m c t q l = opB m c (ix2 j k) :=
  (congrFun (V_b m c) _).trans (congrArg _ (idx2 (at_tile (places t).2.1.1 hj) (at_tile (places t).2.1.2 hk)))

/-- What a point writes. -/
theorem out (t : Fin cfg0.N) (r : Fin 1024) (l : Fin 256) (i : S4096x2816.Idx)
    (hi : (i 0).val = t.val / 1 / 11 * 1024 + r.val) (hj : (i 1).val = t.val / 1 % 11 * 256 + l.val) :
    out0_2 (iblk m c 0 t) (iblk m c 1 t) (ix2 r l) = res m c i := by
  have e := single_tile 1 11 rfl (fun i k => opA m c (ix2 i k)) (fun k j => opB m c (ix2 j k)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.FfnOutDxRefIdeal.Read.val_main_v3 (F := Ideal) (opB m c) (opA m c) := funext fun i =>
  ((Cert.FfnOutDxRefIdeal.Read.val_main_v3_apply _ _ i).trans (Finset.sum_congr rfl fun k _ =>
    congrArg₂ (fun x y => opA m c x * opB m c y) (eq_ix2 _) (eq_ix2 _))).symm

end Cert.FfnOutDxIdeal.Hand

end
-- ==== Proof.Mm.FfnOutDw.lean ====
/- FfnOutDw: the gradient of a product's weight, put in the stack of the layers' gradients; the contracted axis in two tiles. What is of the generated program: its arguments,
   its blocks and what a point does with them. The sum is that of Tiles.lean. -/
module

public import proofs.«01_k».proof.Proof.Gen.FfnOutDwIdeal.Frame
public import proofs.«01_k».proof.Proof.Gen.FfnOutDwIdeal.Value
public import proofs.«01_k».proof.Proof.Gen.FfnOutDwRefIdeal.Read
public import proofs.«01_k».proof.Proof.Mm.Tiles
public import Idealize.ShloMosaic.Lib.Pointwise
public import Idealize.ShloMosaic.Lib.Pipeline.ValueKit

@[expose] public section

noncomputable section

namespace Cert.FfnOutDwIdeal.Hand

open Cert.FfnOutDwIdeal Cert.FfnOutDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x2816 .f32 := m ((c : Thread nD τ).loc main_arg0)
abbrev opB : Vec Ideal S4096x1024 .f32 := m ((c : Thread nD τ).loc main_arg2)
abbrev stack : Vec Ideal S4x2816x1024 .bf16 := m ((c : Thread nD τ).loc main_arg3)

theorem V_a : (V m c main_v0 : Vec Ideal S4096x2816 .bf16) = opA m c := by
  show V m c _ = _; simp only [V, hostOps0]; after_results_simp <;> rfl

theorem V_b : (V m c main_arg2 : Vec Ideal S4096x1024 .f32) = opB m c := V_main_arg2 m c

/-- The result's buffer starts as a copy of the stack. -/
theorem V_o : (V m c main_v1 : Vec Ideal S4x2816x1024 .bf16) = stack m c := by
  show V m c _ = _; simp only [V, hostOps0]; after_results_simp <;> rfl

/-- The result: the whole sum in layer 0, the stack elsewhere. -/
def res : Vec Ideal S4x2816x1024 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 0 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 256) (q : Fin 2048) : EReal := (iblk m c 0 t : Vec Ideal S2048x256 .bf16) (ix2 q r)
def y (t : Fin cfg0.N) (q : Fin 2048) (l : Fin 1024) : EReal := (iblk m c 1 t : Vec Ideal S2048x1024 .f32) (ix2 q l)

theorem x_eq (t : Fin cfg0.N) (r : Fin 256) (q : Fin 2048) (i : Fin 2816) (k : Fin 4096)
    (hi : i.val = t.val / 2 / 1 * 256 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 256) (l : Fin 1024) : EReal := (outsAt0 m c n h).2 (ix2 r l)

/-- The first point of a tile's run leaves its product there. -/
theorem first (t : Fin cfg0.N) (h : t.val % 2 = 0) (r : Fin 256) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 256) (l : Fin 1024) (i : S4x2816x1024.Idx)
    (h0 : (i 0).val = 0) (hi : (i 1).val = t.val / 2 / 1 * 256 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.FfnOutDwRefIdeal.Read.val_main_v7 (F := Ideal) (opA m c) (opB m c) (stack m c) := funext fun i => by
  unfold Cert.FfnOutDwRefIdeal.Read.val_main_v7 res
  rw [stacked_at]
  split
  · rw [Cert.FfnOutDwRefIdeal.Read.val_main_v5_apply, Cert.FfnOutDwRefIdeal.Read.val_main_v4_apply, Cert.FfnOutDwRefIdeal.Read.val_main_v2_apply, Cert.FfnOutDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.FfnOutDwRefIdeal.Read.val_main_v6_apply]
    exact congrArg (stack m c) (idx3 (by show (i 0).val = 1 + ((i 0).val - 1); omega) rfl rfl)

end Cert.FfnOutDwIdeal.Hand

end
-- ==== Proof.Mm.InDx.lean ====
/- InDx: the gradient of a product's input; the contracted axis in six tiles. What is of the generated program: its arguments,
   its blocks and what a point does with them. The sum is that of Tiles.lean. -/
module

public import proofs.«01_k».proof.Proof.Gen.InDxIdeal.Frame
public import proofs.«01_k».proof.Proof.Gen.InDxIdeal.Value
public import proofs.«01_k».proof.Proof.Gen.InDxRefIdeal.Read
public import proofs.«01_k».proof.Proof.Mm.Tiles
public import Idealize.ShloMosaic.Lib.Pointwise
public import Idealize.ShloMosaic.Lib.Pipeline.ValueKit

@[expose] public section

noncomputable section

namespace Cert.InDxIdeal.Hand

open Cert.InDxIdeal Cert.InDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x9216 .f32 := m ((c : Thread nD τ).loc main_arg2)
abbrev opB : Vec Ideal S1024x9216 .f32 := m ((c : Thread nD τ).loc main_arg1)

theorem V_a : (V m c main_v0 : Vec Ideal S4096x9216 .bf16) = opA m c := by
  show V m c _ = _; simp only [V, hostOps0]; after_results_simp <;> rfl

theorem V_b : (V m c main_v1 : Vec Ideal S1024x9216 .bf16) = opB m c := by
  show V m c _ = _; simp only [V, hostOps0]; after_results_simp <;> rfl

/-- The result: the whole sum. -/
def res : Vec Ideal S4096x1024 .f32 := fun i => ∑ k, opA m c (ix2 (i 0) k) * opB m c (ix2 (i 1) k)

/-- Which blocks a point reads and writes. -/
theorem places : ∀ t : Fin cfg0.N, (win0_0.index t (0 : Fin 2) = t.val / 6 / 1 ∧ win0_0.index t (1 : Fin 2) = t.val % 6)
    ∧ (win0_1.index t (0 : Fin 2) = t.val / 6 % 1 ∧ win0_1.index t (1 : Fin 2) = t.val % 6)
    ∧ (win0_2.index t (0 : Fin 2) = t.val / 6 / 1 ∧ win0_2.index t (1 : Fin 2) = t.val / 6 % 1) :=
  (by decide +kernel : ∀ t : Fin grid0.N, _)

/-- A point's blocks of the operands. -/
def x (t : Fin cfg0.N) (r : Fin 1024) (q : Fin 1536) : EReal := (iblk m c 0 t : Vec Ideal S1024x1536 .bf16) (ix2 r q)
def y (t : Fin cfg0.N) (q : Fin 1536) (l : Fin 1024) : EReal := (iblk m c 1 t : Vec Ideal S1024x1536 .bf16) (ix2 l q)

theorem x_eq (t : Fin cfg0.N) (r : Fin 1024) (q : Fin 1536) (i : Fin 4096) (k : Fin 9216)
    (hi : i.val = t.val / 6 / 1 * 1024 + r.val) (hk : k.val = t.val % 6 * 1536 + q.val) : x m c t r q = opA m c (ix2 i k) :=
  (congrFun (V_a m c) _).trans (congrArg _ (idx2 (at_tile (places t).1.1 hi) (at_tile (places t).1.2 hk)))

theorem y_eq (t : Fin cfg0.N) (q : Fin 1536) (l : Fin 1024) (k : Fin 9216) (j : Fin 1024)
    (hk : k.val = t.val % 6 * 1536 + q.val) (hj : j.val = t.val / 6 % 1 * 1024 + l.val) : y m c t q l = opB m c (ix2 j k) :=
  (congrFun (V_b m c) _).trans (congrArg _ (idx2 (at_tile (places t).2.1.1 hj) (at_tile (places t).2.1.2 hk)))

/-- What the scratch holds after a point. -/
def acc (n : ℕ) (h : n < cfg0.N) (r : Fin 1024) (l : Fin 1024) : EReal := (outsAt0 m c n h).2 (ix2 r l)

/-- The first point of a tile's run leaves its product there. -/
theorem first (t : Fin cfg0.N) (h : t.val % 6 = 0) (r : Fin 1024) (l : Fin 1024) : acc m c t.val t.isLt r l = ∑ q, x m c t r q * y m c t q l := by
  unfold acc
  rw [outsAt0_A m c t (by omega) (by omega) (by omega)]
  frame_out
  pointwise [k0_pay2, k0_pay1]
  rfl

/-- A later one adds its product. -/
theorem next (t : Fin cfg0.N) (h0 : ¬t.val % 6 = 0) (h1 : ¬t.val % 6 = 6 - 1) (r : Fin 1024) (l : Fin 1024) :
    acc m c t.val t.isLt r l = acc m c (t.val - 1) (pred_lt t) r l + ∑ q, x m c t r q * y m c t q l := by
  unfold acc
  rw [outsAt0_B m c t (by omega) (by omega) (by omega)]
  frame_out
  rw [(Memref.isWhole_whole _).read_unread]
  pointwise [k0_pay3, k0_pay1]
  rfl

/-- The last one writes the sum out. -/
theorem out (t : Fin cfg0.N) (h : t.val % 6 = 5) (r : Fin 1024) (l : Fin 1024) (i : S4096x1024.Idx)
    (hi : (i 0).val = t.val / 6 / 1 * 1024 + r.val) (hj : (i 1).val = t.val / 6 % 1 * 1024 + l.val) :
    (outsAt0 m c t.val t.isLt).1 (ix2 r l) = res m c i := by
  have e := last_tile 6 1 rfl (fun i k => opA m c (ix2 i k)) (fun k j => opB m c (ix2 j k)) (x m c) (y m c) (x_eq m c) (y_eq m c)
    (acc m c) (first m c) (next m c) t (by omega) h r l (i 0) (i 1) hi hj
  rw [outsAt0_C m c t (by omega) (by omega) (by omega)]
  frame_out
  rw [(Memref.isWhole_whole _).read_unread]
  refine Eq.trans ?_ e
  pointwise [k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix2 (j 0) (j 1)) :=
    congrArg (outsAt0 m c t.val t.isLt).1 (eq_ix2 j)
  have e' := out m c t ((flush0_2 t).mp hf) (j 0) (j 1) ((win0_2.blk t).view.emb j)
    (of_tile (places t).2.2.1) (of_tile (places t).2.2.2)
  rw [View.read_apply]
  exact (e.trans e').trans (cast_eq rfl _).symm

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.InDxRefIdeal.Read.val_main_v3 (F := Ideal) (opB m c) (opA m c) := funext fun i =>
  ((Cert.InDxRefIdeal.Read.val_main_v3_apply _ _ i).trans (Finset.sum_congr rfl fun k _ =>
    congrArg₂ (fun x y => opA m c x * opB m c y) (eq_ix2 _) (eq_ix2 _))).symm

end Cert.InDxIdeal.Hand

end
-- ==== Proof.Mm.InDw.lean ====
/- InDw: the gradient of a product's weight, put in the stack of the layers' gradients; the contracted axis in two tiles. What is of the generated program: its arguments,
   its blocks and what a point does with them. The sum is that of Tiles.lean. -/
module

public import proofs.«01_k».proof.Proof.Gen.InDwIdeal.Frame
public import proofs.«01_k».proof.Proof.Gen.InDwIdeal.Value
public import proofs.«01_k».proof.Proof.Gen.InDwRefIdeal.Read
public import proofs.«01_k».proof.Proof.Mm.Tiles
public import Idealize.ShloMosaic.Lib.Pointwise
public import Idealize.ShloMosaic.Lib.Pipeline.ValueKit

@[expose] public section

noncomputable section

namespace Cert.InDwIdeal.Hand

open Cert.InDwIdeal Cert.InDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x9216 .f32 := m ((c : Thread nD τ).loc main_arg2)
abbrev stack : Vec Ideal S4x1024x9216 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x9216 .bf16) = opB m c := by
  show V m c _ = _; simp only [V, hostOps0]; after_results_simp <;> rfl

/-- The result's buffer starts as a copy of the stack. -/
theorem V_o : (V m c main_v2 : Vec Ideal S4x1024x9216 .bf16) = stack m c := by
  show V m c _ = _; simp only [V, hostOps0]; after_results_simp <;> rfl

/-- The result: the whole sum in layer 0, the stack elsewhere. -/
def res : Vec Ideal S4x1024x9216 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 9)
    ∧ (win0_1.index t (0 : Fin 2) = t.val % 2 ∧ win0_1.index t (1 : Fin 2) = t.val / 2 % 9)
    ∧ (win0_2.index t (0 : Fin 3) = 0 ∧ win0_2.index t (1 : Fin 3) = t.val / 2 / 9 ∧ win0_2.index t (2 : Fin 3) = t.val / 2 % 9) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 1024) : EReal := (iblk m c 1 t : Vec Ideal S2048x1024 .bf16) (ix2 q l)

theorem x_eq (t : Fin cfg0.N) (r : Fin 512) (q : Fin 2048) (i : Fin 1024) (k : Fin 4096)
    (hi : i.val = t.val / 2 / 9 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 9216)
    (hk : k.val = t.val % 2 * 2048 + q.val) (hj : j.val = t.val / 2 % 9 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x9216.Idx)
    (h0 : (i 0).val = 0) (hi : (i 1).val = t.val / 2 / 9 * 512 + r.val) (hj : (i 2).val = t.val / 2 % 9 * 1024 + l.val) :
    (outsAt0 m c t.val t.isLt).1 (ix3 o r l) = res m c i := by
  have e := last_tile 2 9 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.InDwRefIdeal.Read.val_main_v7 (F := Ideal) (opA m c) (opB m c) (stack m c) := funext fun i => by
  unfold Cert.InDwRefIdeal.Read.val_main_v7 res
  rw [stacked_at]
  split
  · rw [Cert.InDwRefIdeal.Read.val_main_v5_apply, Cert.InDwRefIdeal.Read.val_main_v4_apply, Cert.InDwRefIdeal.Read.val_main_v2_apply, Cert.InDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.InDwRefIdeal.Read.val_main_v6_apply]
    exact congrArg (stack m c) (idx3 (by show (i 0).val = 1 + ((i 0).val - 1); omega) rfl rfl)

end Cert.InDwIdeal.Hand

end
-- ==== Proof.Mm.FfnIn.lean ====
/- FfnIn: a product with a weight; the contracted axis in one tile. What is of the generated program: its arguments,
   its blocks and what a point does with them. The sum is that of Tiles.lean. -/
module

public import proofs.«01_k».proof.Proof.Gen.FfnInIdeal.Frame
public import proofs.«01_k».proof.Proof.Gen.FfnInIdeal.Value
public import proofs.«01_k».proof.Proof.Gen.FfnInRefIdeal.Read
public import proofs.«01_k».proof.Proof.Mm.Tiles
public import Idealize.ShloMosaic.Lib.Pointwise
public import Idealize.ShloMosaic.Lib.Pipeline.ValueKit

@[expose] public section

noncomputable section

namespace Cert.FfnInIdeal.Hand

open Cert.FfnInIdeal Cert.FfnInIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x5632 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x5632 .bf16) = opB m c := by
  show V m c _ = _; simp only [V, hostOps0]; after_results_simp <;> rfl

/-- The result: the whole sum. -/
def res : Vec Ideal S4096x5632 .f32 := fun i => ∑ k, opA m c (ix2 (i 0) k) * opB m c (ix2 k (i 1))

/-- Which blocks a point reads and writes. -/
theorem places : ∀ t : Fin cfg0.N, (win0_0.index t (0 : Fin 2) = t.val / 1 / 11 ∧ win0_0.index t (1 : Fin 2) = t.val % 1)
    ∧ (win0_1.index t (0 : Fin 2) = t.val % 1 ∧ win0_1.index t (1 : Fin 2) = t.val / 1 % 11)
    ∧ (win0_2.index t (0 : Fin 2) = t.val / 1 / 11 ∧ win0_2.index t (1 : Fin 2) = t.val / 1 % 11) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 512) : EReal := (iblk m c 1 t : Vec Ideal S1024x512 .bf16) (ix2 q l)

theorem x_eq (t : Fin cfg0.N) (r : Fin 1024) (q : Fin 1024) (i : Fin 4096) (k : Fin 1024)
    (hi : i.val = t.val / 1 / 11 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 512) (k : Fin 1024) (j : Fin 5632)
    (hk : k.val = t.val % 1 * 1024 + q.val) (hj : j.val = t.val / 1 % 11 * 512 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 512) (i : S4096x5632.Idx)
    (hi : (i 0).val = t.val / 1 / 11 * 1024 + r.val) (hj : (i 1).val = t.val / 1 % 11 * 512 + l.val) :
    out0_2 (iblk m c 0 t) (iblk m c 1 t) (ix2 r l) = res m c i := by
  have e := single_tile 1 11 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.FfnInRefIdeal.Read.val_main_v0 (F := Ideal) (opA m c) (opB m c) := funext fun i =>
  ((Cert.FfnInRefIdeal.Read.val_main_v0_apply _ _ i).trans (Finset.sum_congr rfl fun k _ =>
    congrArg₂ (fun x y => opA m c x * opB m c y) (eq_ix2 _) (eq_ix2 _))).symm

end Cert.FfnInIdeal.Hand

end
-- ==== Proof.Mm.FfnOut.lean ====
/- FfnOut: a product with a weight, and an array added to it; the contracted axis in two tiles. What is of the generated program: its arguments,
   its blocks and what a point does with them. The sum is that of Tiles.lean. -/
module

public import proofs.«01_k».proof.Proof.Gen.FfnOutIdeal.Frame
public import proofs.«01_k».proof.Proof.Gen.FfnOutIdeal.Value
public import proofs.«01_k».proof.Proof.Gen.FfnOutRefIdeal.Read
public import proofs.«01_k».proof.Proof.Mm.Tiles
public import Idealize.ShloMosaic.Lib.Pointwise
public import Idealize.ShloMosaic.Lib.Pipeline.ValueKit

@[expose] public section

noncomputable section

namespace Cert.FfnOutIdeal.Hand

open Cert.FfnOutIdeal Cert.FfnOutIdeal.Gen Cert.Mm
open Idealize.ShloMosaic Idealize.ShloMosaic.TcCoe Idealize.SL.Sem

variable (m : (ℓ : Loc nD τ sig) → Buf (Elt Ideal) ℓ) (c : Dev nD)

/-- The arguments: the two operands, and what is added to their product. -/
abbrev opA : Vec Ideal S4096x2816 .f32 := m ((c : Thread nD τ).loc main_arg0)
abbrev opB : Vec Ideal S2816x1024 .f32 := m ((c : Thread nD τ).loc main_arg1)
abbrev opX : Vec Ideal S4096x1024 .f32 := m ((c : Thread nD τ).loc main_arg2)

theorem V_a : (V m c main_v0 : Vec Ideal S4096x2816 .bf16) = opA m c := by
  show V m c _ = _; simp only [V, hostOps0]; after_results_simp <;> rfl

theorem V_b : (V m c main_v1 : Vec Ideal S2816x1024 .bf16) = opB m c := by
  show V m c _ = _; simp only [V, hostOps0]; after_results_simp <;> rfl

/-- The result: the whole sum, and what is added to it. -/
def res : Vec Ideal S4096x1024 .f32 := fun i => (∑ k, opA m c (ix2 (i 0) k) * opB m c (ix2 k (i 1))) + opX m c i

/-- Which blocks a point reads and writes. -/
theorem places : ∀ t : Fin cfg0.N, (win0_0.index t (0 : Fin 2) = t.val / 2 / 1 ∧ win0_0.index t (1 : Fin 2) = t.val % 2)
    ∧ (win0_1.index t (0 : Fin 2) = t.val % 2 ∧ win0_1.index t (1 : Fin 2) = t.val / 2 % 1)
    ∧ (win0_2.index t (0 : Fin 2) = t.val / 2 / 1 ∧ win0_2.index t (1 : Fin 2) = t.val / 2 % 1)
    ∧ (win0_3.index t (0 : Fin 2) = t.val / 2 / 1 ∧ win0_3.index t (1 : Fin 2) = t.val / 2 % 1) :=
  (by decide +kernel : ∀ t : Fin grid0.N, _)

/-- A point's blocks of the operands. -/
def x (t : Fin cfg0.N) (r : Fin 1024) (q : Fin 1408) : EReal := (iblk m c 0 t : Vec Ideal S1024x1408 .bf16) (ix2 r q)
def y (t : Fin cfg0.N) (q : Fin 1408) (l : Fin 1024) : EReal := (iblk m c 1 t : Vec Ideal S1408x1024 .bf16) (ix2 q l)

theorem x_eq (t : Fin cfg0.N) (r : Fin 1024) (q : Fin 1408) (i : Fin 4096) (k : Fin 2816)
    (hi : i.val = t.val / 2 / 1 * 1024 + r.val) (hk : k.val = t.val % 2 * 1408 + q.val) : x m c t r q = opA m c (ix2 i k) :=
  (congrFun (V_a m c) _).trans (congrArg _ (idx2 (at_tile (places t).1.1 hi) (at_tile (places t).1.2 hk)))

theorem y_eq (t : Fin cfg0.N) (q : Fin 1408) (l : Fin 1024) (k : Fin 2816) (j : Fin 1024)
    (hk : k.val = t.val % 2 * 1408 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 1024) (l : Fin 1024) : EReal := (outsAt0 m c n h).2 (ix2 r l)

/-- The first point of a tile's run leaves its product there. -/
theorem first (t : Fin cfg0.N) (h : t.val % 2 = 0) (r : Fin 1024) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (r : Fin 1024) (l : Fin 1024) (i : S4096x1024.Idx)
    (hi : (i 0).val = t.val / 2 / 1 * 1024 + r.val) (hj : (i 1).val = t.val / 2 % 1 * 1024 + l.val) :
    (outsAt0 m c t.val t.isLt).1 (ix2 r l) = res m c i := by
  have e := last_tile 2 1 rfl (fun i k => opA m c (ix2 i k)) (fun k j => opB m c (ix2 k j)) (x m c) (y m c) (x_eq m c) (y_eq m c)
    (acc m c) (first m c) (fun t h0 h1 => by omega) t (by omega) h r l (i 0) (i 1) hi hj
  have ex : (iblk m c 2 t : Vec Ideal S1024x1024 .f32) (ix2 r l) = opX m c i := (congrFun (V_main_arg2 m c) _).trans (congrArg _
    ((idx2 (a := i 0) (b := i 1) (at_tile (places t).2.2.1.1 hi) (at_tile (places t).2.2.1.2 hj)).trans (eq_ix2 i).symm))
  rw [outsAt0_B m c t (by omega) (by omega) (by omega)]
  frame_out
  rw [(Memref.isWhole_whole _).read_unread]
  refine Eq.trans ?_ (congrArg₂ (· + ·) e ex)
  pointwise [k0_pay4, k0_pay3, k0_pay1]
  rfl

/-- What is written back is the result's block. -/
theorem flushed (t : Fin cfg0.N) (hf : (cfg0.win 3).flush t = true) :
    (dats m 0 c).flushed 3 t = ((cfg0.win 3).blk t).view.read (Elt Ideal) (res m c) := by
  rw [Value.flushed3]
  funext j
  have e : (cfg0.win 3).cut (grid0.coords t) (outsAt0 m c t.val t.isLt).1 j = (outsAt0 m c t.val t.isLt).1 (ix2 (j 0) (j 1)) :=
    congrArg (outsAt0 m c t.val t.isLt).1 (eq_ix2 j)
  have e' := out m c t ((flush0_3 t).mp hf) (j 0) (j 1) ((win0_3.blk t).view.emb j)
    (of_tile (places t).2.2.2.1) (of_tile (places t).2.2.2.2)
  rw [View.read_apply]
  exact (e.trans e').trans (cast_eq rfl _).symm

/-- So the result ends holding the whole sums. -/
theorem final : (dats m 0 c).arrAt 3 cfg0.N = res m c :=
  have hw : (cfg0.win 3).CoversWhere fun _ => True := by decide +kernel
  (dats m 0 c).arrAt_eq_of_cover 3 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.FfnOutRefIdeal.Read.val_main_v1 (F := Ideal) (opA m c) (opB m c) (opX m c) := funext fun i =>
  ((Cert.FfnOutRefIdeal.Read.val_main_v1_apply _ _ _ i).trans ((add_comm (opX m c i) _).trans (congrArg (· + opX m c i)
    ((Cert.FfnOutRefIdeal.Read.val_main_v0_apply _ _ i).trans (Finset.sum_congr rfl fun k _ =>
      congrArg₂ (fun x y => opA m c x * opB m c y) (eq_ix2 _) (eq_ix2 _)))))).symm

end Cert.FfnOutIdeal.Hand

end
-- ==== Proof.Mm.InWide.lean ====
/- InWide: a product with a weight; the contracted axis in one tile. What is of the generated program: its arguments,
   its blocks and what a point does with them. The sum is that of Tiles.lean. -/
module

public import proofs.«01_k».proof.Proof.Gen.InWideIdeal.Frame
public import proofs.«01_k».proof.Proof.Gen.InWideIdeal.Value
public import proofs.«01_k».proof.Proof.Gen.InWideRefIdeal.Read
public import proofs.«01_k».proof.Proof.Mm.Tiles
public import Idealize.ShloMosaic.Lib.Pointwise
public import Idealize.ShloMosaic.Lib.Pipeline.ValueKit

@[expose] public section

noncomputable section

namespace Cert.InWideIdeal.Hand

open Cert.InWideIdeal Cert.InWideIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x2048 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x2048 .bf16) = opB m c := by
  show V m c _ = _; simp only [V, hostOps0]; after_results_simp <;> rfl

/-- The result: the whole sum. -/
def res : Vec Ideal S4096x2048 .f32 := fun i => ∑ k, opA m c (ix2 (i 0) k) * opB m c (ix2 k (i 1))

/-- Which blocks a point reads and writes. -/
theorem places : ∀ t : Fin cfg0.N, (win0_0.index t (0 : Fin 2) = t.val / 1 / 2 ∧ win0_0.index t (1 : Fin 2) = t.val % 1)
    ∧ (win0_1.index t (0 : Fin 2) = t.val % 1 ∧ win0_1.index t (1 : Fin 2) = t.val / 1 % 2)
    ∧ (win0_2.index t (0 : Fin 2) = t.val / 1 / 2 ∧ win0_2.index t (1 : Fin 2) = t.val / 1 % 2) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 1024) : EReal := (iblk m c 1 t : Vec Ideal S1024x1024 .bf16) (ix2 q l)

theorem x_eq (t : Fin cfg0.N) (r : Fin 1024) (q : Fin 1024) (i : Fin 4096) (k : Fin 1024)
    (hi : i.val = t.val / 1 / 2 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 2048)
    (hk : k.val = t.val % 1 * 1024 + q.val) (hj : j.val = t.val / 1 % 2 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x2048.Idx)
    (hi : (i 0).val = t.val / 1 / 2 * 1024 + r.val) (hj : (i 1).val = t.val / 1 % 2 * 1024 + l.val) :
    out0_2 (iblk m c 0 t) (iblk m c 1 t) (ix2 r l) = res m c i := by
  have e := single_tile 1 2 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.InWideRefIdeal.Read.val_main_v0 (F := Ideal) (opA m c) (opB m c) := funext fun i =>
  ((Cert.InWideRefIdeal.Read.val_main_v0_apply _ _ i).trans (Finset.sum_congr rfl fun k _ =>
    congrArg₂ (fun x y => opA m c x * opB m c y) (eq_ix2 _) (eq_ix2 _))).symm

end Cert.InWideIdeal.Hand

end
-- ==== Proof.Mm.InGate.lean ====
/- InGate: a product with a weight; the contracted axis in one tile. What is of the generated program: its arguments,
   its blocks and what a point does with them. The sum is that of Tiles.lean. -/
module

public import proofs.«01_k».proof.Proof.Gen.InGateIdeal.Frame
public import proofs.«01_k».proof.Proof.Gen.InGateIdeal.Value
public import proofs.«01_k».proof.Proof.Gen.InGateRefIdeal.Read
public import proofs.«01_k».proof.Proof.Mm.Tiles
public import Idealize.ShloMosaic.Lib.Pointwise
public import Idealize.ShloMosaic.Lib.Pipeline.ValueKit

@[expose] public section

noncomputable section

namespace Cert.InGateIdeal.Hand

open Cert.InGateIdeal Cert.InGateIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x3072 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x3072 .bf16) = opB m c := by
  show V m c _ = _; simp only [V, hostOps0]; after_results_simp <;> rfl

/-- The result: the whole sum. -/
def res : Vec Ideal S4096x3072 .f32 := fun i => ∑ k, opA m c (ix2 (i 0) k) * opB m c (ix2 k (i 1))

/-- Which blocks a point reads and writes. -/
theorem places : ∀ t : Fin cfg0.N, (win0_0.index t (0 : Fin 2) = t.val / 1 / 3 ∧ win0_0.index t (1 : Fin 2) = t.val % 1)
    ∧ (win0_1.index t (0 : Fin 2) = t.val % 1 ∧ win0_1.index t (1 : Fin 2) = t.val / 1 % 3)
    ∧ (win0_2.index t (0 : Fin 2) = t.val / 1 / 3 ∧ win0_2.index t (1 : Fin 2) = t.val / 1 % 3) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 1024) : EReal := (iblk m c 1 t : Vec Ideal S1024x1024 .bf16) (ix2 q l)

theorem x_eq (t : Fin cfg0.N) (r : Fin 1024) (q : Fin 1024) (i : Fin 4096) (k : Fin 1024)
    (hi : i.val = t.val / 1 / 3 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 3072)
    (hk : k.val = t.val % 1 * 1024 + q.val) (hj : j.val = t.val / 1 % 3 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x3072.Idx)
    (hi : (i 0).val = t.val / 1 / 3 * 1024 + r.val) (hj : (i 1).val = t.val / 1 % 3 * 1024 + l.val) :
    out0_2 (iblk m c 0 t) (iblk m c 1 t) (ix2 r l) = res m c i := by
  have e := single_tile 1 3 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.InGateRefIdeal.Read.val_main_v0 (F := Ideal) (opA m c) (opB m c) := funext fun i =>
  ((Cert.InGateRefIdeal.Read.val_main_v0_apply _ _ i).trans (Finset.sum_congr rfl fun k _ =>
    congrArg₂ (fun x y => opA m c x * opB m c y) (eq_ix2 _) (eq_ix2 _))).symm

end Cert.InGateIdeal.Hand

end
-- ==== Proof.Mm.SquareDx.lean ====
/- SquareDx: the gradient of a product's input; the contracted axis in one tile. What is of the generated program: its arguments,
   its blocks and what a point does with them. The sum is that of Tiles.lean. -/
module

public import proofs.«01_k».proof.Proof.Gen.SquareDxIdeal.Frame
public import proofs.«01_k».proof.Proof.Gen.SquareDxIdeal.Value
public import proofs.«01_k».proof.Proof.Gen.SquareDxRefIdeal.Read
public import proofs.«01_k».proof.Proof.Mm.Tiles
public import Idealize.ShloMosaic.Lib.Pointwise
public import Idealize.ShloMosaic.Lib.Pipeline.ValueKit

@[expose] public section

noncomputable section

namespace Cert.SquareDxIdeal.Hand

open Cert.SquareDxIdeal Cert.SquareDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg2)
abbrev opB : Vec Ideal S1024x1024 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x1024 .bf16) = opB m c := by
  show V m c _ = _; simp only [V, hostOps0]; after_results_simp <;> rfl

/-- The result: the whole sum. -/
def res : Vec Ideal S4096x1024 .f32 := fun i => ∑ k, opA m c (ix2 (i 0) k) * opB m c (ix2 (i 1) k)

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val / 1 % 1 ∧ win0_1.index t (1 : Fin 2) = t.val % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 1024) : EReal := (iblk m c 1 t : Vec Ideal S1024x1024 .bf16) (ix2 l q)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 1024)
    (hk : k.val = t.val % 1 * 1024 + q.val) (hj : j.val = t.val / 1 % 1 * 1024 + l.val) : y m c t q l = opB m c (ix2 j k) :=
  (congrFun (V_b m c) _).trans (congrArg _ (idx2 (at_tile (places t).2.1.1 hj) (at_tile (places t).2.1.2 hk)))

/-- What a point writes. -/
theorem out (t : Fin cfg0.N) (r : Fin 1024) (l : Fin 1024) (i : S4096x1024.Idx)
    (hi : (i 0).val = t.val / 1 / 1 * 1024 + r.val) (hj : (i 1).val = t.val / 1 % 1 * 1024 + l.val) :
    out0_2 (iblk m c 0 t) (iblk m c 1 t) (ix2 r l) = res m c i := by
  have e := single_tile 1 1 rfl (fun i k => opA m c (ix2 i k)) (fun k j => opB m c (ix2 j k)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.SquareDxRefIdeal.Read.val_main_v3 (F := Ideal) (opB m c) (opA m c) := funext fun i =>
  ((Cert.SquareDxRefIdeal.Read.val_main_v3_apply _ _ i).trans (Finset.sum_congr rfl fun k _ =>
    congrArg₂ (fun x y => opA m c x * opB m c y) (eq_ix2 _) (eq_ix2 _))).symm

end Cert.SquareDxIdeal.Hand

end
-- ==== Proof.Mm.SquareDw.lean ====
/- SquareDw: the gradient of a product's weight, put in the stack of the layers' gradients; the contracted axis in two tiles. What is of the generated program: its arguments,
   its blocks and what a point does with them. The sum is that of Tiles.lean. -/
module

public import proofs.«01_k».proof.Proof.Gen.SquareDwIdeal.Frame
public import proofs.«01_k».proof.Proof.Gen.SquareDwIdeal.Value
public import proofs.«01_k».proof.Proof.Gen.SquareDwRefIdeal.Read
public import proofs.«01_k».proof.Proof.Mm.Tiles
public import Idealize.ShloMosaic.Lib.Pointwise
public import Idealize.ShloMosaic.Lib.Pipeline.ValueKit

@[expose] public section

noncomputable section

namespace Cert.SquareDwIdeal.Hand

open Cert.SquareDwIdeal Cert.SquareDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x1024 .f32 := m ((c : Thread nD τ).loc main_arg2)
abbrev stack : Vec Ideal S4x1024x1024 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x1024 .bf16) = opB m c := by
  show V m c _ = _; simp only [V, hostOps0]; after_results_simp <;> rfl

/-- The result's buffer starts as a copy of the stack. -/
theorem V_o : (V m c main_v2 : Vec Ideal S4x1024x1024 .bf16) = stack m c := by
  show V m c _ = _; simp only [V, hostOps0]; after_results_simp <;> rfl

/-- The result: the whole sum in layer 0, the stack elsewhere. -/
def res : Vec Ideal S4x1024x1024 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 0 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 1024) : EReal := (iblk m c 1 t : Vec Ideal S2048x1024 .bf16) (ix2 q l)

theorem x_eq (t : Fin cfg0.N) (r : Fin 512) (q : Fin 2048) (i : Fin 1024) (k : Fin 4096)
    (hi : i.val = t.val / 2 / 1 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x1024.Idx)
    (h0 : (i 0).val = 0) (hi : (i 1).val = t.val / 2 / 1 * 512 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.SquareDwRefIdeal.Read.val_main_v7 (F := Ideal) (opA m c) (opB m c) (stack m c) := funext fun i => by
  unfold Cert.SquareDwRefIdeal.Read.val_main_v7 res
  rw [stacked_at]
  split
  · rw [Cert.SquareDwRefIdeal.Read.val_main_v5_apply, Cert.SquareDwRefIdeal.Read.val_main_v4_apply, Cert.SquareDwRefIdeal.Read.val_main_v2_apply, Cert.SquareDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.SquareDwRefIdeal.Read.val_main_v6_apply]
    exact congrArg (stack m c) (idx3 (by show (i 0).val = 1 + ((i 0).val - 1); omega) rfl rfl)

end Cert.SquareDwIdeal.Hand

end
-- ==== Proof.Mm.ResidualDx.lean ====
/- ResidualDx: the gradient of a product's input; the contracted axis in one tile. What is of the generated program: its arguments,
   its blocks and what a point does with them. The sum is that of Tiles.lean. -/
module

public import proofs.«01_k».proof.Proof.Gen.ResidualDxIdeal.Frame
public import proofs.«01_k».proof.Proof.Gen.ResidualDxIdeal.Value
public import proofs.«01_k».proof.Proof.Gen.ResidualDxRefIdeal.Read
public import proofs.«01_k».proof.Proof.Mm.Tiles
public import Idealize.ShloMosaic.Lib.Pointwise
public import Idealize.ShloMosaic.Lib.Pipeline.ValueKit

@[expose] public section

noncomputable section

namespace Cert.ResidualDxIdeal.Hand

open Cert.ResidualDxIdeal Cert.ResidualDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg2)
abbrev opB : Vec Ideal S1024x1024 .f32 := m ((c : Thread nD τ).loc main_arg1)

theorem V_a : (V m c main_arg2 : Vec Ideal S4096x1024 .f32) = opA m c := V_main_arg2 m c

theorem V_b : (V m c main_v0 : Vec Ideal S1024x1024 .bf16) = opB m c := by
  show V m c _ = _; simp only [V, hostOps0]; after_results_simp <;> rfl

/-- The result: the whole sum. -/
def res : Vec Ideal S4096x1024 .f32 := fun i => ∑ k, opA m c (ix2 (i 0) k) * opB m c (ix2 (i 1) k)

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val / 1 % 1 ∧ win0_1.index t (1 : Fin 2) = t.val % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .f32) (ix2 r q)
def y (t : Fin cfg0.N) (q : Fin 1024) (l : Fin 1024) : EReal := (iblk m c 1 t : Vec Ideal S1024x1024 .bf16) (ix2 l q)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 1024)
    (hk : k.val = t.val % 1 * 1024 + q.val) (hj : j.val = t.val / 1 % 1 * 1024 + l.val) : y m c t q l = opB m c (ix2 j k) :=
  (congrFun (V_b m c) _).trans (congrArg _ (idx2 (at_tile (places t).2.1.1 hj) (at_tile (places t).2.1.2 hk)))

/-- What a point writes. -/
theorem out (t : Fin cfg0.N) (r : Fin 1024) (l : Fin 1024) (i : S4096x1024.Idx)
    (hi : (i 0).val = t.val / 1 / 1 * 1024 + r.val) (hj : (i 1).val = t.val / 1 % 1 * 1024 + l.val) :
    out0_2 (iblk m c 0 t) (iblk m c 1 t) (ix2 r l) = res m c i := by
  have e := single_tile 1 1 rfl (fun i k => opA m c (ix2 i k)) (fun k j => opB m c (ix2 j k)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.ResidualDxRefIdeal.Read.val_main_v3 (F := Ideal) (opB m c) (opA m c) := funext fun i =>
  ((Cert.ResidualDxRefIdeal.Read.val_main_v3_apply _ _ i).trans (Finset.sum_congr rfl fun k _ =>
    congrArg₂ (fun x y => opA m c x * opB m c y) (eq_ix2 _) (eq_ix2 _))).symm

end Cert.ResidualDxIdeal.Hand

end
-- ==== Proof.Mm.ResidualDw.lean ====
/- ResidualDw: the gradient of a product's weight, put in the stack of the layers' gradients; the contracted axis in two tiles. What is of the generated program: its arguments,
   its blocks and what a point does with them. The sum is that of Tiles.lean. -/
module

public import proofs.«01_k».proof.Proof.Gen.ResidualDwIdeal.Frame
public import proofs.«01_k».proof.Proof.Gen.ResidualDwIdeal.Value
public import proofs.«01_k».proof.Proof.Gen.ResidualDwRefIdeal.Read
public import proofs.«01_k».proof.Proof.Mm.Tiles
public import Idealize.ShloMosaic.Lib.Pointwise
public import Idealize.ShloMosaic.Lib.Pipeline.ValueKit

@[expose] public section

noncomputable section

namespace Cert.ResidualDwIdeal.Hand

open Cert.ResidualDwIdeal Cert.ResidualDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x1024 .f32 := m ((c : Thread nD τ).loc main_arg2)
abbrev stack : Vec Ideal S4x1024x1024 .bf16 := m ((c : Thread nD τ).loc main_arg3)

theorem V_a : (V m c main_v0 : Vec Ideal S4096x1024 .bf16) = opA m c := by
  show V m c _ = _; simp only [V, hostOps0]; after_results_simp <;> rfl

theorem V_b : (V m c main_arg2 : Vec Ideal S4096x1024 .f32) = opB m c := V_main_arg2 m c

/-- The result's buffer starts as a copy of the stack. -/
theorem V_o : (V m c main_v1 : Vec Ideal S4x1024x1024 .bf16) = stack m c := by
  show V m c _ = _; simp only [V, hostOps0]; after_results_simp <;> rfl

/-- The result: the whole sum in layer 0, the stack elsewhere. -/
def res : Vec Ideal S4x1024x1024 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 0 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 1024) : EReal := (iblk m c 1 t : Vec Ideal S2048x1024 .f32) (ix2 q l)

theorem x_eq (t : Fin cfg0.N) (r : Fin 512) (q : Fin 2048) (i : Fin 1024) (k : Fin 4096)
    (hi : i.val = t.val / 2 / 1 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x1024.Idx)
    (h0 : (i 0).val = 0) (hi : (i 1).val = t.val / 2 / 1 * 512 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.ResidualDwRefIdeal.Read.val_main_v7 (F := Ideal) (opA m c) (opB m c) (stack m c) := funext fun i => by
  unfold Cert.ResidualDwRefIdeal.Read.val_main_v7 res
  rw [stacked_at]
  split
  · rw [Cert.ResidualDwRefIdeal.Read.val_main_v5_apply, Cert.ResidualDwRefIdeal.Read.val_main_v4_apply, Cert.ResidualDwRefIdeal.Read.val_main_v2_apply, Cert.ResidualDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.ResidualDwRefIdeal.Read.val_main_v6_apply]
    exact congrArg (stack m c) (idx3 (by show (i 0).val = 1 + ((i 0).val - 1); omega) rfl rfl)

end Cert.ResidualDwIdeal.Hand

end
-- ==== Proof.Mm.Square.lean ====
/- Square: a product with a weight; the contracted axis in one tile. What is of the generated program: its arguments,
   its blocks and what a point does with them. The sum is that of Tiles.lean. -/
module

public import proofs.«01_k».proof.Proof.Gen.SquareIdeal.Frame
public import proofs.«01_k».proof.Proof.Gen.SquareIdeal.Value
public import proofs.«01_k».proof.Proof.Gen.SquareRefIdeal.Read
public import proofs.«01_k».proof.Proof.Mm.Tiles
public import Idealize.ShloMosaic.Lib.Pointwise
public import Idealize.ShloMosaic.Lib.Pipeline.ValueKit

@[expose] public section

noncomputable section

namespace Cert.SquareIdeal.Hand

open Cert.SquareIdeal Cert.SquareIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x1024 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x1024 .bf16) = opB m c := by
  show V m c _ = _; simp only [V, hostOps0]; after_results_simp <;> rfl

/-- The result: the whole sum. -/
def res : Vec Ideal S4096x1024 .f32 := fun i => ∑ k, opA m c (ix2 (i 0) k) * opB m c (ix2 k (i 1))

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 1024) : EReal := (iblk m c 1 t : Vec Ideal S1024x1024 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 1024)
    (hk : k.val = t.val % 1 * 1024 + q.val) (hj : j.val = t.val / 1 % 1 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x1024.Idx)
    (hi : (i 0).val = t.val / 1 / 1 * 1024 + r.val) (hj : (i 1).val = t.val / 1 % 1 * 1024 + l.val) :
    out0_2 (iblk m c 0 t) (iblk m c 1 t) (ix2 r l) = res m c i := by
  have e := single_tile 1 1 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.SquareRefIdeal.Read.val_main_v0 (F := Ideal) (opA m c) (opB m c) := funext fun i =>
  ((Cert.SquareRefIdeal.Read.val_main_v0_apply _ _ i).trans (Finset.sum_congr rfl fun k _ =>
    congrArg₂ (fun x y => opA m c x * opB m c y) (eq_ix2 _) (eq_ix2 _))).symm

end Cert.SquareIdeal.Hand

end
-- ==== Proof.Mm.Residual.lean ====
/- Residual: a product with a weight, and an array added to it; the contracted axis in one tile. What is of the generated program: its arguments,
   its blocks and what a point does with them. The sum is that of Tiles.lean. -/
module

public import proofs.«01_k».proof.Proof.Gen.ResidualIdeal.Frame
public import proofs.«01_k».proof.Proof.Gen.ResidualIdeal.Value
public import proofs.«01_k».proof.Proof.Gen.ResidualRefIdeal.Read
public import proofs.«01_k».proof.Proof.Mm.Tiles
public import Idealize.ShloMosaic.Lib.Pointwise
public import Idealize.ShloMosaic.Lib.Pipeline.ValueKit

@[expose] public section

noncomputable section

namespace Cert.ResidualIdeal.Hand

open Cert.ResidualIdeal Cert.ResidualIdeal.Gen Cert.Mm
open Idealize.ShloMosaic Idealize.ShloMosaic.TcCoe Idealize.SL.Sem

variable (m : (ℓ : Loc nD τ sig) → Buf (Elt Ideal) ℓ) (c : Dev nD)

/-- The arguments: the two operands, and what is added to their product. -/
abbrev opA : Vec Ideal S4096x1024 .f32 := m ((c : Thread nD τ).loc main_arg0)
abbrev opB : Vec Ideal S1024x1024 .f32 := m ((c : Thread nD τ).loc main_arg1)
abbrev opX : Vec Ideal S4096x1024 .f32 := m ((c : Thread nD τ).loc main_arg2)

theorem V_a : (V m c main_v0 : Vec Ideal S4096x1024 .bf16) = opA m c := by
  show V m c _ = _; simp only [V, hostOps0]; after_results_simp <;> rfl

theorem V_b : (V m c main_v1 : Vec Ideal S1024x1024 .bf16) = opB m c := by
  show V m c _ = _; simp only [V, hostOps0]; after_results_simp <;> rfl

/-- The result: the whole sum, and what is added to it. -/
def res : Vec Ideal S4096x1024 .f32 := fun i => (∑ k, opA m c (ix2 (i 0) k) * opB m c (ix2 k (i 1))) + opX m c i

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1)
    ∧ (win0_3.index t (0 : Fin 2) = t.val / 1 / 1 ∧ win0_3.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 1024) : EReal := (iblk m c 1 t : Vec Ideal S1024x1024 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 1024)
    (hk : k.val = t.val % 1 * 1024 + q.val) (hj : j.val = t.val / 1 % 1 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x1024.Idx)
    (hi : (i 0).val = t.val / 1 / 1 * 1024 + r.val) (hj : (i 1).val = t.val / 1 % 1 * 1024 + l.val) :
    out0_3 (iblk m c 0 t) (iblk m c 1 t) (iblk m c 2 t) (ix2 r l) = res m c i := by
  have e := single_tile 1 1 rfl (fun i k => opA m c (ix2 i k)) (fun k j => opB m c (ix2 k j)) (x m c) (y m c) (x_eq m c) (y_eq m c)
    t rfl r l (i 0) (i 1) hi hj
  have ex : (iblk m c 2 t : Vec Ideal S1024x1024 .f32) (ix2 r l) = opX m c i := (congrFun (V_main_arg2 m c) _).trans (congrArg _
    ((idx2 (a := i 0) (b := i 1) (at_tile (places t).2.2.1.1 hi) (at_tile (places t).2.2.1.2 hj)).trans (eq_ix2 i).symm))
  frame_out
  refine Eq.trans ?_ (congrArg₂ (· + ·) e ex)
  pointwise [k0_pay1]
  rfl

/-- What is written back is the result's block. -/
theorem flushed (t : Fin cfg0.N) (_ : (cfg0.win 3).flush t = true) :
    (dats m 0 c).flushed 3 t = ((cfg0.win 3).blk t).view.read (Elt Ideal) (res m c) := by
  rw [Value.flushed3]
  funext j
  exact (congrArg _ (eq_ix2 j)).trans (out m c t (j 0) (j 1) ((win0_3.blk t).view.emb j) (of_tile (places t).2.2.2.1) (of_tile (places t).2.2.2.2))

/-- So the result ends holding the whole sums. -/
theorem final : (dats m 0 c).arrAt 3 cfg0.N = res m c :=
  have hw : (cfg0.win 3).CoversWhere fun _ => True := by decide +kernel
  (dats m 0 c).arrAt_eq_of_cover 3 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.ResidualRefIdeal.Read.val_main_v1 (F := Ideal) (opA m c) (opB m c) (opX m c) := funext fun i =>
  ((Cert.ResidualRefIdeal.Read.val_main_v1_apply _ _ _ i).trans ((add_comm (opX m c i) _).trans (congrArg (· + opX m c i)
    ((Cert.ResidualRefIdeal.Read.val_main_v0_apply _ _ i).trans (Finset.sum_congr rfl fun k _ =>
      congrArg₂ (fun x y => opA m c x * opB m c y) (eq_ix2 _) (eq_ix2 _)))))).symm

end Cert.ResidualIdeal.Hand

end
-- ==== Proof.Mm.MlaOutDw.lean ====
/- MlaOutDw: the gradient of a product's weight, put in the stack of the layers' gradients; the contracted axis in two tiles. What is of the generated program: its arguments,
   its blocks and what a point does with them. The sum is that of Tiles.lean. -/
module

public import proofs.«01_k».proof.Proof.Gen.MlaOutDwIdeal.Frame
public import proofs.«01_k».proof.Proof.Gen.MlaOutDwIdeal.Value
public import proofs.«01_k».proof.Proof.Gen.MlaOutDwRefIdeal.Read
public import proofs.«01_k».proof.Proof.Mm.Tiles
public import Idealize.ShloMosaic.Lib.Pointwise
public import Idealize.ShloMosaic.Lib.Pipeline.ValueKit

@[expose] public section

noncomputable section

namespace Cert.MlaOutDwIdeal.Hand

open Cert.MlaOutDwIdeal Cert.MlaOutDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x1024 .f32 := m ((c : Thread nD τ).loc main_arg2)
abbrev stack : Vec Ideal S4x1024x1024 .bf16 := m ((c : Thread nD τ).loc main_arg3)

theorem V_a : (V m c main_arg0 : Vec Ideal S4096x1024 .f32) = opA m c := V_main_arg0 m c

theorem V_b : (V m c main_v0 : Vec Ideal S4096x1024 .bf16) = opB m c := by
  show V m c _ = _; simp only [V, hostOps0]; after_results_simp <;> rfl

/-- The result's buffer starts as a copy of the stack. -/
theorem V_o : (V m c main_v1 : Vec Ideal S4x1024x1024 .bf16) = stack m c := by
  show V m c _ = _; simp only [V, hostOps0]; after_results_simp <;> rfl

/-- The result: the whole sum in layer 0, the stack elsewhere. -/
def res : Vec Ideal S4x1024x1024 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 0 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 512) (q : Fin 2048) : EReal := (iblk m c 0 t : Vec Ideal S2048x512 .f32) (ix2 q r)
def y (t : Fin cfg0.N) (q : Fin 2048) (l : Fin 1024) : EReal := (iblk m c 1 t : Vec Ideal S2048x1024 .bf16) (ix2 q l)

theorem x_eq (t : Fin cfg0.N) (r : Fin 512) (q : Fin 2048) (i : Fin 1024) (k : Fin 4096)
    (hi : i.val = t.val / 2 / 1 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x1024.Idx)
    (h0 : (i 0).val = 0) (hi : (i 1).val = t.val / 2 / 1 * 512 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.MlaOutDwRefIdeal.Read.val_main_v7 (F := Ideal) (opA m c) (opB m c) (stack m c) := funext fun i => by
  unfold Cert.MlaOutDwRefIdeal.Read.val_main_v7 res
  rw [stacked_at]
  split
  · rw [Cert.MlaOutDwRefIdeal.Read.val_main_v5_apply, Cert.MlaOutDwRefIdeal.Read.val_main_v4_apply, Cert.MlaOutDwRefIdeal.Read.val_main_v2_apply, Cert.MlaOutDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.MlaOutDwRefIdeal.Read.val_main_v6_apply]
    exact congrArg (stack m c) (idx3 (by show (i 0).val = 1 + ((i 0).val - 1); omega) rfl rfl)

end Cert.MlaOutDwIdeal.Hand

end
-- ==== Proof.Mm.MlaOut.lean ====
/- MlaOut: a product with a weight; the contracted axis in one tile. What is of the generated program: its arguments,
   its blocks and what a point does with them. The sum is that of Tiles.lean. -/
module

public import proofs.«01_k».proof.Proof.Gen.MlaOutIdeal.Frame
public import proofs.«01_k».proof.Proof.Gen.MlaOutIdeal.Value
public import proofs.«01_k».proof.Proof.Gen.MlaOutRefIdeal.Read
public import proofs.«01_k».proof.Proof.Mm.Tiles
public import Idealize.ShloMosaic.Lib.Pointwise
public import Idealize.ShloMosaic.Lib.Pipeline.ValueKit

@[expose] public section

noncomputable section

namespace Cert.MlaOutIdeal.Hand

open Cert.MlaOutIdeal Cert.MlaOutIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x1024 .f32 := m ((c : Thread nD τ).loc main_arg1)

theorem V_a : (V m c main_arg0 : Vec Ideal S4096x1024 .f32) = opA m c := V_main_arg0 m c

theorem V_b : (V m c main_v0 : Vec Ideal S1024x1024 .bf16) = opB m c := by
  show V m c _ = _; simp only [V, hostOps0]; after_results_simp <;> rfl

/-- The result: the whole sum. -/
def res : Vec Ideal S4096x1024 .f32 := fun i => ∑ k, opA m c (ix2 (i 0) k) * opB m c (ix2 k (i 1))

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .f32) (ix2 r q)
def y (t : Fin cfg0.N) (q : Fin 1024) (l : Fin 1024) : EReal := (iblk m c 1 t : Vec Ideal S1024x1024 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 1024)
    (hk : k.val = t.val % 1 * 1024 + q.val) (hj : j.val = t.val / 1 % 1 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x1024.Idx)
    (hi : (i 0).val = t.val / 1 / 1 * 1024 + r.val) (hj : (i 1).val = t.val / 1 % 1 * 1024 + l.val) :
    out0_2 (iblk m c 0 t) (iblk m c 1 t) (ix2 r l) = res m c i := by
  have e := single_tile 1 1 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.MlaOutRefIdeal.Read.val_main_v0 (F := Ideal) (opA m c) (opB m c) := funext fun i =>
  ((Cert.MlaOutRefIdeal.Read.val_main_v0_apply _ _ i).trans (Finset.sum_congr rfl fun k _ =>
    congrArg₂ (fun x y => opA m c x * opB m c y) (eq_ix2 _) (eq_ix2 _))).symm

end Cert.MlaOutIdeal.Hand

end
-- ==== Proof.Mm.QbDx.lean ====
/- QbDx: the gradient of a product's input; the contracted axis in one tile. What is of the generated program: its arguments,
   its blocks and what a point does with them. The sum is that of Tiles.lean. -/
module

public import proofs.«01_k».proof.Proof.Gen.QbDxIdeal.Frame
public import proofs.«01_k».proof.Proof.Gen.QbDxIdeal.Value
public import proofs.«01_k».proof.Proof.Gen.QbDxRefIdeal.Read
public import proofs.«01_k».proof.Proof.Mm.Tiles
public import Idealize.ShloMosaic.Lib.Pointwise
public import Idealize.ShloMosaic.Lib.Pipeline.ValueKit

@[expose] public section

noncomputable section

namespace Cert.QbDxIdeal.Hand

open Cert.QbDxIdeal Cert.QbDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x2048 .f32 := m ((c : Thread nD τ).loc main_arg2)
abbrev opB : Vec Ideal S384x2048 .f32 := m ((c : Thread nD τ).loc main_arg1)

theorem V_a : (V m c main_v0 : Vec Ideal S4096x2048 .bf16) = opA m c := by
  show V m c _ = _; simp only [V, hostOps0]; after_results_simp <;> rfl

theorem V_b : (V m c main_v1 : Vec Ideal S384x2048 .bf16) = opB m c := by
  show V m c _ = _; simp only [V, hostOps0]; after_results_simp <;> rfl

/-- The result: the whole sum. -/
def res : Vec Ideal S4096x384 .f32 := fun i => ∑ k, opA m c (ix2 (i 0) k) * opB m c (ix2 (i 1) k)

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val / 1 % 1 ∧ win0_1.index t (1 : Fin 2) = t.val % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 2048) : EReal := (iblk m c 0 t : Vec Ideal S1024x2048 .bf16) (ix2 r q)
def y (t : Fin cfg0.N) (q : Fin 2048) (l : Fin 384) : EReal := (iblk m c 1 t : Vec Ideal S384x2048 .bf16) (ix2 l q)

theorem x_eq (t : Fin cfg0.N) (r : Fin 1024) (q : Fin 2048) (i : Fin 4096) (k : Fin 2048)
    (hi : i.val = t.val / 1 / 1 * 1024 + r.val) (hk : k.val = t.val % 1 * 2048 + q.val) : x m c t r q = opA m c (ix2 i k) :=
  (congrFun (V_a m c) _).trans (congrArg _ (idx2 (at_tile (places t).1.1 hi) (at_tile (places t).1.2 hk)))

theorem y_eq (t : Fin cfg0.N) (q : Fin 2048) (l : Fin 384) (k : Fin 2048) (j : Fin 384)
    (hk : k.val = t.val % 1 * 2048 + q.val) (hj : j.val = t.val / 1 % 1 * 384 + l.val) : y m c t q l = opB m c (ix2 j k) :=
  (congrFun (V_b m c) _).trans (congrArg _ (idx2 (at_tile (places t).2.1.1 hj) (at_tile (places t).2.1.2 hk)))

/-- What a point writes. -/
theorem out (t : Fin cfg0.N) (r : Fin 1024) (l : Fin 384) (i : S4096x384.Idx)
    (hi : (i 0).val = t.val / 1 / 1 * 1024 + r.val) (hj : (i 1).val = t.val / 1 % 1 * 384 + l.val) :
    out0_2 (iblk m c 0 t) (iblk m c 1 t) (ix2 r l) = res m c i := by
  have e := single_tile 1 1 rfl (fun i k => opA m c (ix2 i k)) (fun k j => opB m c (ix2 j k)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.QbDxRefIdeal.Read.val_main_v3 (F := Ideal) (opB m c) (opA m c) := funext fun i =>
  ((Cert.QbDxRefIdeal.Read.val_main_v3_apply _ _ i).trans (Finset.sum_congr rfl fun k _ =>
    congrArg₂ (fun x y => opA m c x * opB m c y) (eq_ix2 _) (eq_ix2 _))).symm

end Cert.QbDxIdeal.Hand

end
-- ==== Proof.Mm.QbDw.lean ====
/- QbDw: the gradient of a product's weight, put in the stack of the layers' gradients; the contracted axis in two tiles. What is of the generated program: its arguments,
   its blocks and what a point does with them. The sum is that of Tiles.lean. -/
module

public import proofs.«01_k».proof.Proof.Gen.QbDwIdeal.Frame
public import proofs.«01_k».proof.Proof.Gen.QbDwIdeal.Value
public import proofs.«01_k».proof.Proof.Gen.QbDwRefIdeal.Read
public import proofs.«01_k».proof.Proof.Mm.Tiles
public import Idealize.ShloMosaic.Lib.Pointwise
public import Idealize.ShloMosaic.Lib.Pipeline.ValueKit

@[expose] public section

noncomputable section

namespace Cert.QbDwIdeal.Hand

open Cert.QbDwIdeal Cert.QbDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x384 .f32 := m ((c : Thread nD τ).loc main_arg0)
abbrev opB : Vec Ideal S4096x2048 .f32 := m ((c : Thread nD τ).loc main_arg2)
abbrev stack : Vec Ideal S4x384x2048 .bf16 := m ((c : Thread nD τ).loc main_arg3)

theorem V_a : (V m c main_v0 : Vec Ideal S4096x384 .bf16) = opA m c := by
  show V m c _ = _; simp only [V, hostOps0]; after_results_simp <;> rfl

theorem V_b : (V m c main_v1 : Vec Ideal S4096x2048 .bf16) = opB m c := by
  show V m c _ = _; simp only [V, hostOps0]; after_results_simp <;> rfl

/-- The result's buffer starts as a copy of the stack. -/
theorem V_o : (V m c main_v2 : Vec Ideal S4x384x2048 .bf16) = stack m c := by
  show V m c _ = _; simp only [V, hostOps0]; after_results_simp <;> rfl

/-- The result: the whole sum in layer 0, the stack elsewhere. -/
def res : Vec Ideal S4x384x2048 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 2)
    ∧ (win0_1.index t (0 : Fin 2) = t.val % 2 ∧ win0_1.index t (1 : Fin 2) = t.val / 2 % 2)
    ∧ (win0_2.index t (0 : Fin 3) = 0 ∧ win0_2.index t (1 : Fin 3) = t.val / 2 / 2 ∧ win0_2.index t (2 : Fin 3) = t.val / 2 % 2) :=
  (by decide +kernel : ∀ t : Fin grid0.N, _)

/-- A point's blocks of the operands. -/
def x (t : Fin cfg0.N) (r : Fin 384) (q : Fin 2048) : EReal := (iblk m c 0 t : Vec Ideal S2048x384 .bf16) (ix2 q r)
def y (t : Fin cfg0.N) (q : Fin 2048) (l : Fin 1024) : EReal := (iblk m c 1 t : Vec Ideal S2048x1024 .bf16) (ix2 q l)

theorem x_eq (t : Fin cfg0.N) (r : Fin 384) (q : Fin 2048) (i : Fin 384) (k : Fin 4096)
    (hi : i.val = t.val / 2 / 2 * 384 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 2048)
    (hk : k.val = t.val % 2 * 2048 + q.val) (hj : j.val = t.val / 2 % 2 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 384) (l : Fin 1024) : EReal := (outsAt0 m c n h).2 (ix2 r l)

/-- The first point of a tile's run leaves its product there. -/
theorem first (t : Fin cfg0.N) (h : t.val % 2 = 0) (r : Fin 384) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 384) (l : Fin 1024) (i : S4x384x2048.Idx)
    (h0 : (i 0).val = 0) (hi : (i 1).val = t.val / 2 / 2 * 384 + r.val) (hj : (i 2).val = t.val / 2 % 2 * 1024 + l.val) :
    (outsAt0 m c t.val t.isLt).1 (ix3 o r l) = res m c i := by
  have e := last_tile 2 2 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.QbDwRefIdeal.Read.val_main_v7 (F := Ideal) (opA m c) (opB m c) (stack m c) := funext fun i => by
  unfold Cert.QbDwRefIdeal.Read.val_main_v7 res
  rw [stacked_at]
  split
  · rw [Cert.QbDwRefIdeal.Read.val_main_v5_apply, Cert.QbDwRefIdeal.Read.val_main_v4_apply, Cert.QbDwRefIdeal.Read.val_main_v2_apply, Cert.QbDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.QbDwRefIdeal.Read.val_main_v6_apply]
    exact congrArg (stack m c) (idx3 (by show (i 0).val = 1 + ((i 0).val - 1); omega) rfl rfl)

end Cert.QbDwIdeal.Hand

end
-- ==== Proof.Mm.KvbDx.lean ====
/- KvbDx: the gradient of a product's input; the contracted axis in one tile. What is of the generated program: its arguments,
   its blocks and what a point does with them. The sum is that of Tiles.lean. -/
module

public import proofs.«01_k».proof.Proof.Gen.KvbDxIdeal.Frame
public import proofs.«01_k».proof.Proof.Gen.KvbDxIdeal.Value
public import proofs.«01_k».proof.Proof.Gen.KvbDxRefIdeal.Read
public import proofs.«01_k».proof.Proof.Mm.Tiles
public import Idealize.ShloMosaic.Lib.Pointwise
public import Idealize.ShloMosaic.Lib.Pipeline.ValueKit

@[expose] public section

noncomputable section

namespace Cert.KvbDxIdeal.Hand

open Cert.KvbDxIdeal Cert.KvbDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x2048 .f32 := m ((c : Thread nD τ).loc main_arg2)
abbrev opB : Vec Ideal S256x2048 .f32 := m ((c : Thread nD τ).loc main_arg1)

theorem V_a : (V m c main_v0 : Vec Ideal S4096x2048 .bf16) = opA m c := by
  show V m c _ = _; simp only [V, hostOps0]; after_results_simp <;> rfl

theorem V_b : (V m c main_v1 : Vec Ideal S256x2048 .bf16) = opB m c := by
  show V m c _ = _; simp only [V, hostOps0]; after_results_simp <;> rfl

/-- The result: the whole sum. -/
def res : Vec Ideal S4096x256 .f32 := fun i => ∑ k, opA m c (ix2 (i 0) k) * opB m c (ix2 (i 1) k)

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val / 1 % 1 ∧ win0_1.index t (1 : Fin 2) = t.val % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 2048) : EReal := (iblk m c 0 t : Vec Ideal S1024x2048 .bf16) (ix2 r q)
def y (t : Fin cfg0.N) (q : Fin 2048) (l : Fin 256) : EReal := (iblk m c 1 t : Vec Ideal S256x2048 .bf16) (ix2 l q)

theorem x_eq (t : Fin cfg0.N) (r : Fin 1024) (q : Fin 2048) (i : Fin 4096) (k : Fin 2048)
    (hi : i.val = t.val / 1 / 1 * 1024 + r.val) (hk : k.val = t.val % 1 * 2048 + q.val) : x m c t r q = opA m c (ix2 i k) :=
  (congrFun (V_a m c) _).trans (congrArg _ (idx2 (at_tile (places t).1.1 hi) (at_tile (places t).1.2 hk)))

theorem y_eq (t : Fin cfg0.N) (q : Fin 2048) (l : Fin 256) (k : Fin 2048) (j : Fin 256)
    (hk : k.val = t.val % 1 * 2048 + q.val) (hj : j.val = t.val / 1 % 1 * 256 + l.val) : y m c t q l = opB m c (ix2 j k) :=
  (congrFun (V_b m c) _).trans (congrArg _ (idx2 (at_tile (places t).2.1.1 hj) (at_tile (places t).2.1.2 hk)))

/-- What a point writes. -/
theorem out (t : Fin cfg0.N) (r : Fin 1024) (l : Fin 256) (i : S4096x256.Idx)
    (hi : (i 0).val = t.val / 1 / 1 * 1024 + r.val) (hj : (i 1).val = t.val / 1 % 1 * 256 + l.val) :
    out0_2 (iblk m c 0 t) (iblk m c 1 t) (ix2 r l) = res m c i := by
  have e := single_tile 1 1 rfl (fun i k => opA m c (ix2 i k)) (fun k j => opB m c (ix2 j k)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.KvbDxRefIdeal.Read.val_main_v3 (F := Ideal) (opB m c) (opA m c) := funext fun i =>
  ((Cert.KvbDxRefIdeal.Read.val_main_v3_apply _ _ i).trans (Finset.sum_congr rfl fun k _ =>
    congrArg₂ (fun x y => opA m c x * opB m c y) (eq_ix2 _) (eq_ix2 _))).symm

end Cert.KvbDxIdeal.Hand

end
-- ==== Proof.Mm.KvbDw.lean ====
/- KvbDw: the gradient of a product's weight, put in the stack of the layers' gradients; the contracted axis in two tiles. What is of the generated program: its arguments,
   its blocks and what a point does with them. The sum is that of Tiles.lean. -/
module

public import proofs.«01_k».proof.Proof.Gen.KvbDwIdeal.Frame
public import proofs.«01_k».proof.Proof.Gen.KvbDwIdeal.Value
public import proofs.«01_k».proof.Proof.Gen.KvbDwRefIdeal.Read
public import proofs.«01_k».proof.Proof.Mm.Tiles
public import Idealize.ShloMosaic.Lib.Pointwise
public import Idealize.ShloMosaic.Lib.Pipeline.ValueKit

@[expose] public section

noncomputable section

namespace Cert.KvbDwIdeal.Hand

open Cert.KvbDwIdeal Cert.KvbDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x256 .f32 := m ((c : Thread nD τ).loc main_arg0)
abbrev opB : Vec Ideal S4096x2048 .f32 := m ((c : Thread nD τ).loc main_arg2)
abbrev stack : Vec Ideal S4x256x2048 .bf16 := m ((c : Thread nD τ).loc main_arg3)

theorem V_a : (V m c main_v0 : Vec Ideal S4096x256 .bf16) = opA m c := by
  show V m c _ = _; simp only [V, hostOps0]; after_results_simp <;> rfl

theorem V_b : (V m c main_v1 : Vec Ideal S4096x2048 .bf16) = opB m c := by
  show V m c _ = _; simp only [V, hostOps0]; after_results_simp <;> rfl

/-- The result's buffer starts as a copy of the stack. -/
theorem V_o : (V m c main_v2 : Vec Ideal S4x256x2048 .bf16) = stack m c := by
  show V m c _ = _; simp only [V, hostOps0]; after_results_simp <;> rfl

/-- The result: the whole sum in layer 0, the stack elsewhere. -/
def res : Vec Ideal S4x256x2048 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 2)
    ∧ (win0_1.index t (0 : Fin 2) = t.val % 2 ∧ win0_1.index t (1 : Fin 2) = t.val / 2 % 2)
    ∧ (win0_2.index t (0 : Fin 3) = 0 ∧ win0_2.index t (1 : Fin 3) = t.val / 2 / 2 ∧ win0_2.index t (2 : Fin 3) = t.val / 2 % 2) :=
  (by decide +kernel : ∀ t : Fin grid0.N, _)

/-- A point's blocks of the operands. -/
def x (t : Fin cfg0.N) (r : Fin 256) (q : Fin 2048) : EReal := (iblk m c 0 t : Vec Ideal S2048x256 .bf16) (ix2 q r)
def y (t : Fin cfg0.N) (q : Fin 2048) (l : Fin 1024) : EReal := (iblk m c 1 t : Vec Ideal S2048x1024 .bf16) (ix2 q l)

theorem x_eq (t : Fin cfg0.N) (r : Fin 256) (q : Fin 2048) (i : Fin 256) (k : Fin 4096)
    (hi : i.val = t.val / 2 / 2 * 256 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 2048)
    (hk : k.val = t.val % 2 * 2048 + q.val) (hj : j.val = t.val / 2 % 2 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 256) (l : Fin 1024) : EReal := (outsAt0 m c n h).2 (ix2 r l)

/-- The first point of a tile's run leaves its product there. -/
theorem first (t : Fin cfg0.N) (h : t.val % 2 = 0) (r : Fin 256) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 256) (l : Fin 1024) (i : S4x256x2048.Idx)
    (h0 : (i 0).val = 0) (hi : (i 1).val = t.val / 2 / 2 * 256 + r.val) (hj : (i 2).val = t.val / 2 % 2 * 1024 + l.val) :
    (outsAt0 m c t.val t.isLt).1 (ix3 o r l) = res m c i := by
  have e := last_tile 2 2 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.KvbDwRefIdeal.Read.val_main_v7 (F := Ideal) (opA m c) (opB m c) (stack m c) := funext fun i => by
  unfold Cert.KvbDwRefIdeal.Read.val_main_v7 res
  rw [stacked_at]
  split
  · rw [Cert.KvbDwRefIdeal.Read.val_main_v5_apply, Cert.KvbDwRefIdeal.Read.val_main_v4_apply, Cert.KvbDwRefIdeal.Read.val_main_v2_apply, Cert.KvbDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.KvbDwRefIdeal.Read.val_main_v6_apply]
    exact congrArg (stack m c) (idx3 (by show (i 0).val = 1 + ((i 0).val - 1); omega) rfl rfl)

end Cert.KvbDwIdeal.Hand

end
-- ==== Proof.Mm.CrossDx.lean ====
/- CrossDx: the gradient of a product's input; the contracted axis in one tile. What is of the generated program: its arguments,
   its blocks and what a point does with them. The sum is that of Tiles.lean. -/
module

public import proofs.«01_k».proof.Proof.Gen.CrossDxIdeal.Frame
public import proofs.«01_k».proof.Proof.Gen.CrossDxIdeal.Value
public import proofs.«01_k».proof.Proof.Gen.CrossDxRefIdeal.Read
public import proofs.«01_k».proof.Proof.Mm.Tiles
public import Idealize.ShloMosaic.Lib.Pointwise
public import Idealize.ShloMosaic.Lib.Pipeline.ValueKit

@[expose] public section

noncomputable section

namespace Cert.CrossDxIdeal.Hand

open Cert.CrossDxIdeal Cert.CrossDxIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S256x2048 .f32 := m ((c : Thread nD τ).loc main_arg2)
abbrev opB : Vec Ideal S1024x2048 .f32 := m ((c : Thread nD τ).loc main_arg1)

theorem V_a : (V m c main_v0 : Vec Ideal S256x2048 .bf16) = opA m c := by
  show V m c _ = _; simp only [V, hostOps0]; after_results_simp <;> rfl

theorem V_b : (V m c main_v1 : Vec Ideal S1024x2048 .bf16) = opB m c := by
  show V m c _ = _; simp only [V, hostOps0]; after_results_simp <;> rfl

/-- The result: the whole sum. -/
def res : Vec Ideal S256x1024 .f32 := fun i => ∑ k, opA m c (ix2 (i 0) k) * opB m c (ix2 (i 1) k)

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val / 1 % 1 ∧ win0_1.index t (1 : Fin 2) = t.val % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 256) (q : Fin 2048) : EReal := (iblk m c 0 t : Vec Ideal S256x2048 .bf16) (ix2 r q)
def y (t : Fin cfg0.N) (q : Fin 2048) (l : Fin 1024) : EReal := (iblk m c 1 t : Vec Ideal S1024x2048 .bf16) (ix2 l q)

theorem x_eq (t : Fin cfg0.N) (r : Fin 256) (q : Fin 2048) (i : Fin 256) (k : Fin 2048)
    (hi : i.val = t.val / 1 / 1 * 256 + r.val) (hk : k.val = t.val % 1 * 2048 + q.val) : x m c t r q = opA m c (ix2 i k) :=
  (congrFun (V_a m c) _).trans (congrArg _ (idx2 (at_tile (places t).1.1 hi) (at_tile (places t).1.2 hk)))

theorem y_eq (t : Fin cfg0.N) (q : Fin 2048) (l : Fin 1024) (k : Fin 2048) (j : Fin 1024)
    (hk : k.val = t.val % 1 * 2048 + q.val) (hj : j.val = t.val / 1 % 1 * 1024 + l.val) : y m c t q l = opB m c (ix2 j k) :=
  (congrFun (V_b m c) _).trans (congrArg _ (idx2 (at_tile (places t).2.1.1 hj) (at_tile (places t).2.1.2 hk)))

/-- What a point writes. -/
theorem out (t : Fin cfg0.N) (r : Fin 256) (l : Fin 1024) (i : S256x1024.Idx)
    (hi : (i 0).val = t.val / 1 / 1 * 256 + r.val) (hj : (i 1).val = t.val / 1 % 1 * 1024 + l.val) :
    out0_2 (iblk m c 0 t) (iblk m c 1 t) (ix2 r l) = res m c i := by
  have e := single_tile 1 1 rfl (fun i k => opA m c (ix2 i k)) (fun k j => opB m c (ix2 j k)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.CrossDxRefIdeal.Read.val_main_v3 (F := Ideal) (opB m c) (opA m c) := funext fun i =>
  ((Cert.CrossDxRefIdeal.Read.val_main_v3_apply _ _ i).trans (Finset.sum_congr rfl fun k _ =>
    congrArg₂ (fun x y => opA m c x * opB m c y) (eq_ix2 _) (eq_ix2 _))).symm

end Cert.CrossDxIdeal.Hand

end
-- ==== Proof.Mm.CrossDw.lean ====
/- CrossDw: the gradient of a product's weight, put in the stack of the layers' gradients; the contracted axis in one tile. What is of the generated program: its arguments,
   its blocks and what a point does with them. The sum is that of Tiles.lean. -/
module

public import proofs.«01_k».proof.Proof.Gen.CrossDwIdeal.Frame
public import proofs.«01_k».proof.Proof.Gen.CrossDwIdeal.Value
public import proofs.«01_k».proof.Proof.Gen.CrossDwRefIdeal.Read
public import proofs.«01_k».proof.Proof.Mm.Tiles
public import Idealize.ShloMosaic.Lib.Pointwise
public import Idealize.ShloMosaic.Lib.Pipeline.ValueKit

@[expose] public section

noncomputable section

namespace Cert.CrossDwIdeal.Hand

open Cert.CrossDwIdeal Cert.CrossDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S256x1024 .f32 := m ((c : Thread nD τ).loc main_arg0)
abbrev opB : Vec Ideal S256x2048 .f32 := m ((c : Thread nD τ).loc main_arg2)
abbrev stack : Vec Ideal S4x1024x2048 .bf16 := m ((c : Thread nD τ).loc main_arg3)

theorem V_a : (V m c main_v0 : Vec Ideal S256x1024 .bf16) = opA m c := by
  show V m c _ = _; simp only [V, hostOps0]; after_results_simp <;> rfl

theorem V_b : (V m c main_v1 : Vec Ideal S256x2048 .bf16) = opB m c := by
  show V m c _ = _; simp only [V, hostOps0]; after_results_simp <;> rfl

/-- The result's buffer starts as a copy of the stack. -/
theorem V_o : (V m c main_v2 : Vec Ideal S4x1024x2048 .bf16) = stack m c := by
  show V m c _ = _; simp only [V, hostOps0]; after_results_simp <;> rfl

/-- The result: the whole sum in layer 0, the stack elsewhere. -/
def res : Vec Ideal S4x1024x2048 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 1 ∧ win0_0.index t (1 : Fin 2) = t.val / 1 / 2)
    ∧ (win0_1.index t (0 : Fin 2) = t.val % 1 ∧ win0_1.index t (1 : Fin 2) = t.val / 1 % 2)
    ∧ (win0_2.index t (0 : Fin 3) = 0 ∧ win0_2.index t (1 : Fin 3) = t.val / 1 / 2 ∧ win0_2.index t (2 : Fin 3) = t.val / 1 % 2) :=
  (by decide +kernel : ∀ t : Fin grid0.N, _)

/-- A point's blocks of the operands. -/
def x (t : Fin cfg0.N) (r : Fin 512) (q : Fin 256) : EReal := (iblk m c 0 t : Vec Ideal S256x512 .bf16) (ix2 q r)
def y (t : Fin cfg0.N) (q : Fin 256) (l : Fin 1024) : EReal := (iblk m c 1 t : Vec Ideal S256x1024 .bf16) (ix2 q l)

theorem x_eq (t : Fin cfg0.N) (r : Fin 512) (q : Fin 256) (i : Fin 1024) (k : Fin 256)
    (hi : i.val = t.val / 1 / 2 * 512 + r.val) (hk : k.val = t.val % 1 * 256 + q.val) : x m c t r q = opA m c (ix2 k i) :=
  (congrFun (V_a m c) _).trans (congrArg _ (idx2 (at_tile (places t).1.1 hk) (at_tile (places t).1.2 hi)))

theorem y_eq (t : Fin cfg0.N) (q : Fin 256) (l : Fin 1024) (k : Fin 256) (j : Fin 2048)
    (hk : k.val = t.val % 1 * 256 + q.val) (hj : j.val = t.val / 1 % 2 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (o : Fin 1) (r : Fin 512) (l : Fin 1024) (i : S4x1024x2048.Idx)
    (h0 : (i 0).val = 0) (hi : (i 1).val = t.val / 1 / 2 * 512 + r.val) (hj : (i 2).val = t.val / 1 % 2 * 1024 + l.val) :
    outsAt0 m c t (ix3 o r l) = res m c i := by
  have e := single_tile 1 2 rfl (fun i k => opA m c (ix2 k i)) (fun k j => opB m c (ix2 k j)) (x m c) (y m c) (x_eq m c) (y_eq m c)
    t rfl r l (i 1) (i 2) hi hj
  unfold outsAt0
  frame_out
  refine Eq.trans ?_ (e.trans (if_pos h0).symm)
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t) j = outsAt0 m c t (ix3 (j 0) (j 1) (j 2)) :=
    congrArg (outsAt0 m c t) (eq_ix3 j)
  have e' := out m c t (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.CrossDwRefIdeal.Read.val_main_v7 (F := Ideal) (opA m c) (opB m c) (stack m c) := funext fun i => by
  unfold Cert.CrossDwRefIdeal.Read.val_main_v7 res
  rw [stacked_at]
  split
  · rw [Cert.CrossDwRefIdeal.Read.val_main_v5_apply, Cert.CrossDwRefIdeal.Read.val_main_v4_apply, Cert.CrossDwRefIdeal.Read.val_main_v2_apply, Cert.CrossDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.CrossDwRefIdeal.Read.val_main_v6_apply]
    exact congrArg (stack m c) (idx3 (by show (i 0).val = 1 + ((i 0).val - 1); omega) rfl rfl)

end Cert.CrossDwIdeal.Hand

end
-- ==== Proof.Mm.Qb.lean ====
/- Qb: a product with a weight; the contracted axis in one tile. What is of the generated program: its arguments,
   its blocks and what a point does with them. The sum is that of Tiles.lean. -/
module

public import proofs.«01_k».proof.Proof.Gen.QbIdeal.Frame
public import proofs.«01_k».proof.Proof.Gen.QbIdeal.Value
public import proofs.«01_k».proof.Proof.Gen.QbRefIdeal.Read
public import proofs.«01_k».proof.Proof.Mm.Tiles
public import Idealize.ShloMosaic.Lib.Pointwise
public import Idealize.ShloMosaic.Lib.Pipeline.ValueKit

@[expose] public section

noncomputable section

namespace Cert.QbIdeal.Hand

open Cert.QbIdeal Cert.QbIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x384 .f32 := m ((c : Thread nD τ).loc main_arg0)
abbrev opB : Vec Ideal S384x2048 .f32 := m ((c : Thread nD τ).loc main_arg1)

theorem V_a : (V m c main_v0 : Vec Ideal S4096x384 .bf16) = opA m c := by
  show V m c _ = _; simp only [V, hostOps0]; after_results_simp <;> rfl

theorem V_b : (V m c main_v1 : Vec Ideal S384x2048 .bf16) = opB m c := by
  show V m c _ = _; simp only [V, hostOps0]; after_results_simp <;> rfl

/-- The result: the whole sum. -/
def res : Vec Ideal S4096x2048 .f32 := fun i => ∑ k, opA m c (ix2 (i 0) k) * opB m c (ix2 k (i 1))

/-- Which blocks a point reads and writes. -/
theorem places : ∀ t : Fin cfg0.N, (win0_0.index t (0 : Fin 2) = t.val / 1 / 2 ∧ win0_0.index t (1 : Fin 2) = t.val % 1)
    ∧ (win0_1.index t (0 : Fin 2) = t.val % 1 ∧ win0_1.index t (1 : Fin 2) = t.val / 1 % 2)
    ∧ (win0_2.index t (0 : Fin 2) = t.val / 1 / 2 ∧ win0_2.index t (1 : Fin 2) = t.val / 1 % 2) :=
  (by decide +kernel : ∀ t : Fin grid0.N, _)

/-- A point's blocks of the operands. -/
def x (t : Fin cfg0.N) (r : Fin 1024) (q : Fin 384) : EReal := (iblk m c 0 t : Vec Ideal S1024x384 .bf16) (ix2 r q)
def y (t : Fin cfg0.N) (q : Fin 384) (l : Fin 1024) : EReal := (iblk m c 1 t : Vec Ideal S384x1024 .bf16) (ix2 q l)

theorem x_eq (t : Fin cfg0.N) (r : Fin 1024) (q : Fin 384) (i : Fin 4096) (k : Fin 384)
    (hi : i.val = t.val / 1 / 2 * 1024 + r.val) (hk : k.val = t.val % 1 * 384 + q.val) : x m c t r q = opA m c (ix2 i k) :=
  (congrFun (V_a m c) _).trans (congrArg _ (idx2 (at_tile (places t).1.1 hi) (at_tile (places t).1.2 hk)))

theorem y_eq (t : Fin cfg0.N) (q : Fin 384) (l : Fin 1024) (k : Fin 384) (j : Fin 2048)
    (hk : k.val = t.val % 1 * 384 + q.val) (hj : j.val = t.val / 1 % 2 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x2048.Idx)
    (hi : (i 0).val = t.val / 1 / 2 * 1024 + r.val) (hj : (i 1).val = t.val / 1 % 2 * 1024 + l.val) :
    out0_2 (iblk m c 0 t) (iblk m c 1 t) (ix2 r l) = res m c i := by
  have e := single_tile 1 2 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.QbRefIdeal.Read.val_main_v0 (F := Ideal) (opA m c) (opB m c) := funext fun i =>
  ((Cert.QbRefIdeal.Read.val_main_v0_apply _ _ i).trans (Finset.sum_congr rfl fun k _ =>
    congrArg₂ (fun x y => opA m c x * opB m c y) (eq_ix2 _) (eq_ix2 _))).symm

end Cert.QbIdeal.Hand

end
-- ==== Proof.Mm.Kvb.lean ====
/- Kvb: a product with a weight; the contracted axis in one tile. What is of the generated program: its arguments,
   its blocks and what a point does with them. The sum is that of Tiles.lean. -/
module

public import proofs.«01_k».proof.Proof.Gen.KvbIdeal.Frame
public import proofs.«01_k».proof.Proof.Gen.KvbIdeal.Value
public import proofs.«01_k».proof.Proof.Gen.KvbRefIdeal.Read
public import proofs.«01_k».proof.Proof.Mm.Tiles
public import Idealize.ShloMosaic.Lib.Pointwise
public import Idealize.ShloMosaic.Lib.Pipeline.ValueKit

@[expose] public section

noncomputable section

namespace Cert.KvbIdeal.Hand

open Cert.KvbIdeal Cert.KvbIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x256 .f32 := m ((c : Thread nD τ).loc main_arg0)
abbrev opB : Vec Ideal S256x2048 .f32 := m ((c : Thread nD τ).loc main_arg1)

theorem V_a : (V m c main_v0 : Vec Ideal S4096x256 .bf16) = opA m c := by
  show V m c _ = _; simp only [V, hostOps0]; after_results_simp <;> rfl

theorem V_b : (V m c main_v1 : Vec Ideal S256x2048 .bf16) = opB m c := by
  show V m c _ = _; simp only [V, hostOps0]; after_results_simp <;> rfl

/-- The result: the whole sum. -/
def res : Vec Ideal S4096x2048 .f32 := fun i => ∑ k, opA m c (ix2 (i 0) k) * opB m c (ix2 k (i 1))

/-- Which blocks a point reads and writes. -/
theorem places : ∀ t : Fin cfg0.N, (win0_0.index t (0 : Fin 2) = t.val / 1 / 2 ∧ win0_0.index t (1 : Fin 2) = t.val % 1)
    ∧ (win0_1.index t (0 : Fin 2) = t.val % 1 ∧ win0_1.index t (1 : Fin 2) = t.val / 1 % 2)
    ∧ (win0_2.index t (0 : Fin 2) = t.val / 1 / 2 ∧ win0_2.index t (1 : Fin 2) = t.val / 1 % 2) :=
  (by decide +kernel : ∀ t : Fin grid0.N, _)

/-- A point's blocks of the operands. -/
def x (t : Fin cfg0.N) (r : Fin 1024) (q : Fin 256) : EReal := (iblk m c 0 t : Vec Ideal S1024x256 .bf16) (ix2 r q)
def y (t : Fin cfg0.N) (q : Fin 256) (l : Fin 1024) : EReal := (iblk m c 1 t : Vec Ideal S256x1024 .bf16) (ix2 q l)

theorem x_eq (t : Fin cfg0.N) (r : Fin 1024) (q : Fin 256) (i : Fin 4096) (k : Fin 256)
    (hi : i.val = t.val / 1 / 2 * 1024 + r.val) (hk : k.val = t.val % 1 * 256 + q.val) : x m c t r q = opA m c (ix2 i k) :=
  (congrFun (V_a m c) _).trans (congrArg _ (idx2 (at_tile (places t).1.1 hi) (at_tile (places t).1.2 hk)))

theorem y_eq (t : Fin cfg0.N) (q : Fin 256) (l : Fin 1024) (k : Fin 256) (j : Fin 2048)
    (hk : k.val = t.val % 1 * 256 + q.val) (hj : j.val = t.val / 1 % 2 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x2048.Idx)
    (hi : (i 0).val = t.val / 1 / 2 * 1024 + r.val) (hj : (i 1).val = t.val / 1 % 2 * 1024 + l.val) :
    out0_2 (iblk m c 0 t) (iblk m c 1 t) (ix2 r l) = res m c i := by
  have e := single_tile 1 2 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.KvbRefIdeal.Read.val_main_v0 (F := Ideal) (opA m c) (opB m c) := funext fun i =>
  ((Cert.KvbRefIdeal.Read.val_main_v0_apply _ _ i).trans (Finset.sum_congr rfl fun k _ =>
    congrArg₂ (fun x y => opA m c x * opB m c y) (eq_ix2 _) (eq_ix2 _))).symm

end Cert.KvbIdeal.Hand

end
-- ==== Proof.Mm.Cross.lean ====
/- Cross: a product with a weight; the contracted axis in one tile. What is of the generated program: its arguments,
   its blocks and what a point does with them. The sum is that of Tiles.lean. -/
module

public import proofs.«01_k».proof.Proof.Gen.CrossIdeal.Frame
public import proofs.«01_k».proof.Proof.Gen.CrossIdeal.Value
public import proofs.«01_k».proof.Proof.Gen.CrossRefIdeal.Read
public import proofs.«01_k».proof.Proof.Mm.Tiles
public import Idealize.ShloMosaic.Lib.Pointwise
public import Idealize.ShloMosaic.Lib.Pipeline.ValueKit

@[expose] public section

noncomputable section

namespace Cert.CrossIdeal.Hand

open Cert.CrossIdeal Cert.CrossIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S256x1024 .f32 := m ((c : Thread nD τ).loc main_arg0)
abbrev opB : Vec Ideal S1024x2048 .f32 := m ((c : Thread nD τ).loc main_arg1)

theorem V_a : (V m c main_v0 : Vec Ideal S256x1024 .bf16) = opA m c := by
  show V m c _ = _; simp only [V, hostOps0]; after_results_simp <;> rfl

theorem V_b : (V m c main_v1 : Vec Ideal S1024x2048 .bf16) = opB m c := by
  show V m c _ = _; simp only [V, hostOps0]; after_results_simp <;> rfl

/-- The result: the whole sum. -/
def res : Vec Ideal S256x2048 .f32 := fun i => ∑ k, opA m c (ix2 (i 0) k) * opB m c (ix2 k (i 1))

/-- Which blocks a point reads and writes. -/
theorem places : ∀ t : Fin cfg0.N, (win0_0.index t (0 : Fin 2) = t.val / 1 / 2 ∧ win0_0.index t (1 : Fin 2) = t.val % 1)
    ∧ (win0_1.index t (0 : Fin 2) = t.val % 1 ∧ win0_1.index t (1 : Fin 2) = t.val / 1 % 2)
    ∧ (win0_2.index t (0 : Fin 2) = t.val / 1 / 2 ∧ win0_2.index t (1 : Fin 2) = t.val / 1 % 2) :=
  (by decide +kernel : ∀ t : Fin grid0.N, _)

/-- A point's blocks of the operands. -/
def x (t : Fin cfg0.N) (r : Fin 256) (q : Fin 1024) : EReal := (iblk m c 0 t : Vec Ideal S256x1024 .bf16) (ix2 r q)
def y (t : Fin cfg0.N) (q : Fin 1024) (l : Fin 1024) : EReal := (iblk m c 1 t : Vec Ideal S1024x1024 .bf16) (ix2 q l)

theorem x_eq (t : Fin cfg0.N) (r : Fin 256) (q : Fin 1024) (i : Fin 256) (k : Fin 1024)
    (hi : i.val = t.val / 1 / 2 * 256 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 2048)
    (hk : k.val = t.val % 1 * 1024 + q.val) (hj : j.val = t.val / 1 % 2 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 256) (l : Fin 1024) (i : S256x2048.Idx)
    (hi : (i 0).val = t.val / 1 / 2 * 256 + r.val) (hj : (i 1).val = t.val / 1 % 2 * 1024 + l.val) :
    out0_2 (iblk m c 0 t) (iblk m c 1 t) (ix2 r l) = res m c i := by
  have e := single_tile 1 2 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.CrossRefIdeal.Read.val_main_v0 (F := Ideal) (opA m c) (opB m c) := funext fun i =>
  ((Cert.CrossRefIdeal.Read.val_main_v0_apply _ _ i).trans (Finset.sum_congr rfl fun k _ =>
    congrArg₂ (fun x y => opA m c x * opB m c y) (eq_ix2 _) (eq_ix2 _))).symm

end Cert.CrossIdeal.Hand

end
-- ==== Proof.Mm.InLatent.lean ====
/- InLatent: a product with a weight; the contracted axis in one tile. What is of the generated program: its arguments,
   its blocks and what a point does with them. The sum is that of Tiles.lean. -/
module

public import proofs.«01_k».proof.Proof.Gen.InLatentIdeal.Frame
public import proofs.«01_k».proof.Proof.Gen.InLatentIdeal.Value
public import proofs.«01_k».proof.Proof.Gen.InLatentRefIdeal.Read
public import proofs.«01_k».proof.Proof.Mm.Tiles
public import Idealize.ShloMosaic.Lib.Pointwise
public import Idealize.ShloMosaic.Lib.Pipeline.ValueKit

@[expose] public section

noncomputable section

namespace Cert.InLatentIdeal.Hand

open Cert.InLatentIdeal Cert.InLatentIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x384 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x384 .bf16) = opB m c := by
  show V m c _ = _; simp only [V, hostOps0]; after_results_simp <;> rfl

/-- The result: the whole sum. -/
def res : Vec Ideal S4096x384 .f32 := fun i => ∑ k, opA m c (ix2 (i 0) k) * opB m c (ix2 k (i 1))

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 384) : EReal := (iblk m c 1 t : Vec Ideal S1024x384 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 384) (k : Fin 1024) (j : Fin 384)
    (hk : k.val = t.val % 1 * 1024 + q.val) (hj : j.val = t.val / 1 % 1 * 384 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 384) (i : S4096x384.Idx)
    (hi : (i 0).val = t.val / 1 / 1 * 1024 + r.val) (hj : (i 1).val = t.val / 1 % 1 * 384 + l.val) :
    out0_2 (iblk m c 0 t) (iblk m c 1 t) (ix2 r l) = res m c i := by
  have e := single_tile 1 1 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.InLatentRefIdeal.Read.val_main_v0 (F := Ideal) (opA m c) (opB m c) := funext fun i =>
  ((Cert.InLatentRefIdeal.Read.val_main_v0_apply _ _ i).trans (Finset.sum_congr rfl fun k _ =>
    congrArg₂ (fun x y => opA m c x * opB m c y) (eq_ix2 _) (eq_ix2 _))).symm

end Cert.InLatentIdeal.Hand

end
-- ==== Proof.Mm.InKv.lean ====
/- InKv: a product with a weight; the contracted axis in one tile. What is of the generated program: its arguments,
   its blocks and what a point does with them. The sum is that of Tiles.lean. -/
module

public import proofs.«01_k».proof.Proof.Gen.InKvIdeal.Frame
public import proofs.«01_k».proof.Proof.Gen.InKvIdeal.Value
public import proofs.«01_k».proof.Proof.Gen.InKvRefIdeal.Read
public import proofs.«01_k».proof.Proof.Mm.Tiles
public import Idealize.ShloMosaic.Lib.Pointwise
public import Idealize.ShloMosaic.Lib.Pipeline.ValueKit

@[expose] public section

noncomputable section

namespace Cert.InKvIdeal.Hand

open Cert.InKvIdeal Cert.InKvIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x256 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x256 .bf16) = opB m c := by
  show V m c _ = _; simp only [V, hostOps0]; after_results_simp <;> rfl

/-- The result: the whole sum. -/
def res : Vec Ideal S4096x256 .f32 := fun i => ∑ k, opA m c (ix2 (i 0) k) * opB m c (ix2 k (i 1))

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 256) : EReal := (iblk m c 1 t : Vec Ideal S1024x256 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 256) (k : Fin 1024) (j : Fin 256)
    (hk : k.val = t.val % 1 * 1024 + q.val) (hj : j.val = t.val / 1 % 1 * 256 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 256) (i : S4096x256.Idx)
    (hi : (i 0).val = t.val / 1 / 1 * 1024 + r.val) (hj : (i 1).val = t.val / 1 % 1 * 256 + l.val) :
    out0_2 (iblk m c 0 t) (iblk m c 1 t) (ix2 r l) = res m c i := by
  have e := single_tile 1 1 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.InKvRefIdeal.Read.val_main_v0 (F := Ideal) (opA m c) (opB m c) := funext fun i =>
  ((Cert.InKvRefIdeal.Read.val_main_v0_apply _ _ i).trans (Finset.sum_congr rfl fun k _ =>
    congrArg₂ (fun x y => opA m c x * opB m c y) (eq_ix2 _) (eq_ix2 _))).symm

end Cert.InKvIdeal.Hand

end
-- ==== Proof.Mm.InNarrow.lean ====
/- InNarrow: a product with a weight; the contracted axis in one tile. What is of the generated program: its arguments,
   its blocks and what a point does with them. The sum is that of Tiles.lean. -/
module

public import proofs.«01_k».proof.Proof.Gen.InNarrowIdeal.Frame
public import proofs.«01_k».proof.Proof.Gen.InNarrowIdeal.Value
public import proofs.«01_k».proof.Proof.Gen.InNarrowRefIdeal.Read
public import proofs.«01_k».proof.Proof.Mm.Tiles
public import Idealize.ShloMosaic.Lib.Pointwise
public import Idealize.ShloMosaic.Lib.Pipeline.ValueKit

@[expose] public section

noncomputable section

namespace Cert.InNarrowIdeal.Hand

open Cert.InNarrowIdeal Cert.InNarrowIdeal.Gen Cert.Mm
open Idealize.ShloMosaic Idealize.ShloMosaic.TcCoe Idealize.SL.Sem

variable (m : (ℓ : Loc nD τ sig) → Buf (Elt Ideal) ℓ) (c : Dev nD)

/-- The arguments: the two operands. -/
abbrev opA : Vec Ideal S4096x1024 .f32 := m ((c : Thread nD τ).loc main_arg0)
abbrev opB : Vec Ideal S1024x128 .f32 := m ((c : Thread nD τ).loc main_arg1)

theorem V_a : (V m c main_v0 : Vec Ideal S4096x1024 .bf16) = opA m c := by
  show V m c _ = _; simp only [V, hostOps0]; after_results_simp <;> rfl

theorem V_b : (V m c main_v1 : Vec Ideal S1024x128 .bf16) = opB m c := by
  show V m c _ = _; simp only [V, hostOps0]; after_results_simp <;> rfl

/-- The result: the whole sum. -/
def res : Vec Ideal S4096x128 .f32 := fun i => ∑ k, opA m c (ix2 (i 0) k) * opB m c (ix2 k (i 1))

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .bf16) (ix2 r q)
def y (t : Fin cfg0.N) (q : Fin 1024) (l : Fin 128) : EReal := (iblk m c 1 t : Vec Ideal S1024x128 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 128) (k : Fin 1024) (j : Fin 128)
    (hk : k.val = t.val % 1 * 1024 + q.val) (hj : j.val = t.val / 1 % 1 * 128 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 128) (i : S4096x128.Idx)
    (hi : (i 0).val = t.val / 1 / 1 * 1024 + r.val) (hj : (i 1).val = t.val / 1 % 1 * 128 + l.val) :
    out0_2 (iblk m c 0 t) (iblk m c 1 t) (ix2 r l) = res m c i := by
  have e := single_tile 1 1 rfl (fun i k => opA m c (ix2 i k)) (fun k j => opB m c (ix2 k j)) (x m c) (y m c) (x_eq m c) (y_eq m c)
    t rfl r l (i 0) (i 1) hi hj
  frame_out
  refine Eq.trans ?_ e
  pointwise [k0_pay1]
  rfl

/-- What is written back is the result's block. -/
theorem flushed (t : Fin cfg0.N) (_ : (cfg0.win 2).flush t = true) :
    (dats m 0 c).flushed 2 t = ((cfg0.win 2).blk t).view.read (Elt Ideal) (res m c) := by
  rw [Value.flushed2]
  funext j
  exact (congrArg _ (eq_ix2 j)).trans (out m c t (j 0) (j 1) ((win0_2.blk t).view.emb j) (of_tile (places t).2.2.1) (of_tile (places t).2.2.2))

/-- So the result ends holding the whole sums. -/
theorem final : (dats m 0 c).arrAt 2 cfg0.N = res m c :=
  have hw : (cfg0.win 2).CoversWhere fun _ => True := by decide +kernel
  (dats m 0 c).arrAt_eq_of_cover 2 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same. -/
theorem res_eq : res m c = Cert.InNarrowRefIdeal.Read.val_main_v0 (F := Ideal) (opA m c) (opB m c) := funext fun i =>
  ((Cert.InNarrowRefIdeal.Read.val_main_v0_apply _ _ i).trans (Finset.sum_congr rfl fun k _ =>
    congrArg₂ (fun x y => opA m c x * opB m c y) (eq_ix2 _) (eq_ix2 _))).symm

end Cert.InNarrowIdeal.Hand

end
-- ==== Proof.Mm.XattnOut.lean ====
/- XattnOut: a product with a weight, and an array added to it; the contracted axis in one tile. What is of the generated program: its arguments,
   its blocks and what a point does with them. The sum is that of Tiles.lean. -/
module

public import proofs.«01_k».proof.Proof.Gen.XattnOutIdeal.Frame
public import proofs.«01_k».proof.Proof.Gen.XattnOutIdeal.Value
public import proofs.«01_k».proof.Proof.Gen.XattnOutRefIdeal.Read
public import proofs.«01_k».proof.Proof.Mm.Tiles
public import Idealize.ShloMosaic.Lib.Pointwise
public import Idealize.ShloMosaic.Lib.Pipeline.ValueKit

@[expose] public section

noncomputable section

namespace Cert.XattnOutIdeal.Hand

open Cert.XattnOutIdeal Cert.XattnOutIdeal.Gen Cert.Mm
open Idealize.ShloMosaic Idealize.ShloMosaic.TcCoe Idealize.SL.Sem

variable (m : (ℓ : Loc nD τ sig) → Buf (Elt Ideal) ℓ) (c : Dev nD)

/-- The arguments: the two operands, and what is added to their product. -/
abbrev opA : Vec Ideal S4096x1024 .f32 := m ((c : Thread nD τ).loc main_arg0)
abbrev opB : Vec Ideal S1024x1024 .f32 := m ((c : Thread nD τ).loc main_arg1)
abbrev opX : Vec Ideal S4096x1024 .f32 := m ((c : Thread nD τ).loc main_arg2)

theorem V_a : (V m c main_arg0 : Vec Ideal S4096x1024 .f32) = opA m c := V_main_arg0 m c

theorem V_b : (V m c main_v0 : Vec Ideal S1024x1024 .bf16) = opB m c := by
  show V m c _ = _; simp only [V, hostOps0]; after_results_simp <;> rfl

/-- The result: the whole sum, and what is added to it. -/
def res : Vec Ideal S4096x1024 .f32 := fun i => (∑ k, opA m c (ix2 (i 0) k) * opB m c (ix2 k (i 1))) + opX m c i

/-- Which blocks a point reads and writes. -/
theorem places : ∀ t : Fin cfg0.N, (win0_0.index t (0 : Fin 2) = t.val / 1 / 1 ∧ win0_0.index t (1 : Fin 2) = t.val % 1)
    ∧ (win0_1.index t (0 : Fin 2) = t.val % 1 ∧ win0_1.index t (1 : Fin 2) = t.val / 1 % 1)
    ∧ (win0_2.index t (0 : Fin 2) = t.val / 1 / 1 ∧ win0_2.index t (1 : Fin 2) = t.val / 1 % 1)
    ∧ (win0_3.index t (0 : Fin 2) = t.val / 1 / 1 ∧ win0_3.index t (1 : Fin 2) = t.val / 1 % 1) :=
  (by decide +kernel : ∀ t : Fin grid0.N, _)

/-- A point's blocks of the operands. -/
def x (t : Fin cfg0.N) (r : Fin 1024) (q : Fin 1024) : EReal := (iblk m c 0 t : Vec Ideal S1024x1024 .f32) (ix2 r q)
def y (t : Fin cfg0.N) (q : Fin 1024) (l : Fin 1024) : EReal := (iblk m c 1 t : Vec Ideal S1024x1024 .bf16) (ix2 q l)

theorem x_eq (t : Fin cfg0.N) (r : Fin 1024) (q : Fin 1024) (i : Fin 4096) (k : Fin 1024)
    (hi : i.val = t.val / 1 / 1 * 1024 + r.val) (hk : k.val = t.val % 1 * 1024 + q.val) : x m c t r q = opA m c (ix2 i k) :=
  (congrFun (V_a m c) _).trans (congrArg _ (idx2 (at_tile (places t).1.1 hi) (at_tile (places t).1.2 hk)))

theorem y_eq (t : Fin cfg0.N) (q : Fin 1024) (l : Fin 1024) (k : Fin 1024) (j : Fin 1024)
    (hk : k.val = t.val % 1 * 1024 + q.val) (hj : j.val = t.val / 1 % 1 * 1024 + l.val) : y m c t q l = opB m c (ix2 k j) :=
  (congrFun (V_b m c) _).trans (congrArg _ (idx2 (at_tile (places t).2.1.1 hk) (at_tile (places t).2.1.2 hj)))

/-- What a point writes. -/
theorem out (t : Fin cfg0.N) (r : Fin 1024) (l : Fin 1024) (i : S4096x1024.Idx)
    (hi : (i 0).val = t.val / 1 / 1 * 1024 + r.val) (hj : (i 1).val = t.val / 1 % 1 * 1024 + l.val) :
    out0_3 (iblk m c 0 t) (iblk m c 1 t) (iblk m c 2 t) (ix2 r l) = res m c i := by
  have e := single_tile 1 1 rfl (fun i k => opA m c (ix2 i k)) (fun k j => opB m c (ix2 k j)) (x m c) (y m c) (x_eq m c) (y_eq m c)
    t rfl r l (i 0) (i 1) hi hj
  have ex : (iblk m c 2 t : Vec Ideal S1024x1024 .f32) (ix2 r l) = opX m c i := (congrFun (V_main_arg2 m c) _).trans (congrArg _
    ((idx2 (a := i 0) (b := i 1) (at_tile (places t).2.2.1.1 hi) (at_tile (places t).2.2.1.2 hj)).trans (eq_ix2 i).symm))
  frame_out
  refine Eq.trans ?_ (congrArg₂ (· + ·) e ex)
  pointwise [k0_pay1]
  rfl

/-- What is written back is the result's block. -/
theorem flushed (t : Fin cfg0.N) (_ : (cfg0.win 3).flush t = true) :
    (dats m 0 c).flushed 3 t = ((cfg0.win 3).blk t).view.read (Elt Ideal) (res m c) := by
  rw [Value.flushed3]
  funext j
  exact (congrArg _ (eq_ix2 j)).trans (out m c t (j 0) (j 1) ((win0_3.blk t).view.emb j) (of_tile (places t).2.2.2.1) (of_tile (places t).2.2.2.2))

/-- So the result ends holding the whole sums. -/
theorem final : (dats m 0 c).arrAt 3 cfg0.N = res m c :=
  have hw : (cfg0.win 3).CoversWhere fun _ => True := by decide +kernel
  (dats m 0 c).arrAt_eq_of_cover 3 (res m c) (flushed m c) fun i => (hw.covered_iff i).2 trivial

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference computes the same. -/
theorem res_eq : res m c = Cert.XattnOutRefIdeal.Read.val_main_v1 (F := Ideal) (opA m c) (opB m c) (opX m c) := funext fun i =>
  ((Cert.XattnOutRefIdeal.Read.val_main_v1_apply _ _ _ i).trans ((add_comm (opX m c i) _).trans (congrArg (· + opX m c i)
    ((Cert.XattnOutRefIdeal.Read.val_main_v0_apply _ _ i).trans (Finset.sum_congr rfl fun k _ =>
      congrArg₂ (fun x y => opA m c x * opB m c y) (eq_ix2 _) (eq_ix2 _)))))).symm

end Cert.XattnOutIdeal.Hand

end
-- ==== Proof.Mm.XattnOutDw.lean ====
/- XattnOutDw: the gradient of a product's weight, put in the stack of the layers' gradients; the contracted axis in two tiles. What is of the generated program: its arguments,
   its blocks and what a point does with them. The sum is that of Tiles.lean. -/
module

public import proofs.«01_k».proof.Proof.Gen.XattnOutDwIdeal.Frame
public import proofs.«01_k».proof.Proof.Gen.XattnOutDwIdeal.Value
public import proofs.«01_k».proof.Proof.Gen.XattnOutDwRefIdeal.Read
public import proofs.«01_k».proof.Proof.Mm.Tiles
public import Idealize.ShloMosaic.Lib.Pointwise
public import Idealize.ShloMosaic.Lib.Pipeline.ValueKit

@[expose] public section

noncomputable section

namespace Cert.XattnOutDwIdeal.Hand

open Cert.XattnOutDwIdeal Cert.XattnOutDwIdeal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x1024 .f32 := m ((c : Thread nD τ).loc main_arg2)
abbrev stack : Vec Ideal S4x1024x1024 .bf16 := m ((c : Thread nD τ).loc main_arg3)

theorem V_a : (V m c main_arg0 : Vec Ideal S4096x1024 .f32) = opA m c := V_main_arg0 m c

theorem V_b : (V m c main_arg2 : Vec Ideal S4096x1024 .f32) = opB m c := V_main_arg2 m c

/-- The result's buffer starts as a copy of the stack. -/
theorem V_o : (V m c main_v0 : Vec Ideal S4x1024x1024 .bf16) = stack m c := by
  show V m c _ = _; simp only [V, hostOps0]; after_results_simp <;> rfl

/-- The result: the whole sum in layer 0, the stack elsewhere. -/
def res : Vec Ideal S4x1024x1024 .bf16 := fun i => if (i 0).val = 0 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 0 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 512) (q : Fin 2048) : EReal := (iblk m c 0 t : Vec Ideal S2048x512 .f32) (ix2 q r)
def y (t : Fin cfg0.N) (q : Fin 2048) (l : Fin 1024) : EReal := (iblk m c 1 t : Vec Ideal S2048x1024 .f32) (ix2 q l)

theorem x_eq (t : Fin cfg0.N) (r : Fin 512) (q : Fin 2048) (i : Fin 1024) (k : Fin 4096)
    (hi : i.val = t.val / 2 / 1 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x1024.Idx)
    (h0 : (i 0).val = 0) (hi : (i 1).val = t.val / 2 / 1 * 512 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 0, and the stack elsewhere. -/
theorem final : (dats m 0 c).arrAt 2 cfg0.N = res m c := by
  have hw : (cfg0.win 2).CoversWhere fun b => b (0 : Fin 3) = 0 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 0 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.XattnOutDwRefIdeal.Read.val_main_v7 (F := Ideal) (opA m c) (opB m c) (stack m c) := funext fun i => by
  unfold Cert.XattnOutDwRefIdeal.Read.val_main_v7 res
  rw [stacked_at]
  split
  · rw [Cert.XattnOutDwRefIdeal.Read.val_main_v5_apply, Cert.XattnOutDwRefIdeal.Read.val_main_v4_apply, Cert.XattnOutDwRefIdeal.Read.val_main_v2_apply, Cert.XattnOutDwRefIdeal.Read.val_main_v1_apply]
    exact (Finset.sum_congr rfl fun k _ => Eq.trans (congrArg₂ (fun x y => opB m c x * opA m c y) (eq_ix2 _) (eq_ix2 _))
      (mul_comm (opB m c (ix2 k (i 2))) (opA m c (ix2 k (i 1))))).symm
  · rename_i h0
    rw [Cert.XattnOutDwRefIdeal.Read.val_main_v6_apply]
    exact congrArg (stack m c) (idx3 (by show (i 0).val = 1 + ((i 0).val - 1); omega) rfl rfl)

end Cert.XattnOutDwIdeal.Hand

end
-- ==== Proof.Mm.InDwLayer1.lean ====
/- InDwLayer1: the gradient of a product's weight, put in the stack of the layers' gradients; the contracted axis in two tiles. What is of the generated program: its arguments,
   its blocks and what a point does with them. The sum is that of Tiles.lean. -/
module

public import proofs.«01_k».proof.Proof.Gen.InDwLayer1Ideal.Frame
public import proofs.«01_k».proof.Proof.Gen.InDwLayer1Ideal.Value
public import proofs.«01_k».proof.Proof.Gen.InDwLayer1RefIdeal.Read
public import proofs.«01_k».proof.Proof.Mm.Tiles
public import Idealize.ShloMosaic.Lib.Pointwise
public import Idealize.ShloMosaic.Lib.Pipeline.ValueKit

@[expose] public section

noncomputable section

namespace Cert.InDwLayer1Ideal.Hand

open Cert.InDwLayer1Ideal Cert.InDwLayer1Ideal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x9216 .f32 := m ((c : Thread nD τ).loc main_arg2)
abbrev stack : Vec Ideal S4x1024x9216 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x9216 .bf16) = opB m c := by
  show V m c _ = _; simp only [V, hostOps0]; after_results_simp <;> rfl

/-- The result's buffer starts as a copy of the stack. -/
theorem V_o : (V m c main_v2 : Vec Ideal S4x1024x9216 .bf16) = stack m c := by
  show V m c _ = _; simp only [V, hostOps0]; after_results_simp <;> rfl

/-- The result: the whole sum in layer 1, the stack elsewhere. -/
def res : Vec Ideal S4x1024x9216 .bf16 := fun i => if (i 0).val = 1 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 9)
    ∧ (win0_1.index t (0 : Fin 2) = t.val % 2 ∧ win0_1.index t (1 : Fin 2) = t.val / 2 % 9)
    ∧ (win0_2.index t (0 : Fin 3) = 1 ∧ win0_2.index t (1 : Fin 3) = t.val / 2 / 9 ∧ win0_2.index t (2 : Fin 3) = t.val / 2 % 9) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 1024) : EReal := (iblk m c 1 t : Vec Ideal S2048x1024 .bf16) (ix2 q l)

theorem x_eq (t : Fin cfg0.N) (r : Fin 512) (q : Fin 2048) (i : Fin 1024) (k : Fin 4096)
    (hi : i.val = t.val / 2 / 9 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 9216)
    (hk : k.val = t.val % 2 * 2048 + q.val) (hj : j.val = t.val / 2 % 9 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x9216.Idx)
    (h0 : (i 0).val = 1) (hi : (i 1).val = t.val / 2 / 9 * 512 + r.val) (hj : (i 2).val = t.val / 2 % 9 * 1024 + l.val) :
    (outsAt0 m c t.val t.isLt).1 (ix3 o r l) = res m c i := by
  have e := last_tile 2 9 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 1, and the stack elsewhere. -/
theorem final : (dats m 0 c).arrAt 2 cfg0.N = res m c := by
  have hw : (cfg0.win 2).CoversWhere fun b => b (0 : Fin 3) = 1 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 1 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.InDwLayer1RefIdeal.Read.val_main_v9 (F := Ideal) (opA m c) (opB m c) (stack m c) := funext fun i => by
  rw [Cert.InDwLayer1RefIdeal.Read.val_main_v9_apply, Cert.InDwLayer1RefIdeal.Read.val_main_call0_v0_apply, Cert.InDwLayer1RefIdeal.Read.val_main_v7_apply, Cert.InDwLayer1RefIdeal.Read.val_main_v6_apply, Cert.InDwLayer1RefIdeal.Read.val_main_v4_apply, Cert.InDwLayer1RefIdeal.Read.val_main_v5_apply,
    Cert.InDwLayer1RefIdeal.Read.val_main_c_apply, Cert.InDwLayer1RefIdeal.Read.val_main_call0_v1_apply, Cert.InDwLayer1RefIdeal.Read.val_main_v8_apply, Cert.InDwLayer1RefIdeal.Read.val_main_v2_apply, Cert.InDwLayer1RefIdeal.Read.val_main_v1_apply]
  refine Eq.trans ?_ (picked (i 0).val 1 (i 0).isLt (by decide) _ _).symm
  exact if_congr Iff.rfl (Finset.sum_congr rfl fun k _ => Eq.trans (congrArg₂ (fun x y => opB m c x * opA m c y) (eq_ix2 _) (eq_ix2 _))
    (mul_comm (opB m c (ix2 k (i 2))) (opA m c (ix2 k (i 1))))).symm rfl

end Cert.InDwLayer1Ideal.Hand

end
-- ==== Proof.Mm.FfnInDwLayer1.lean ====
/- FfnInDwLayer1: the gradient of a product's weight, put in the stack of the layers' gradients; the contracted axis in two tiles. What is of the generated program: its arguments,
   its blocks and what a point does with them. The sum is that of Tiles.lean. -/
module

public import proofs.«01_k».proof.Proof.Gen.FfnInDwLayer1Ideal.Frame
public import proofs.«01_k».proof.Proof.Gen.FfnInDwLayer1Ideal.Value
public import proofs.«01_k».proof.Proof.Gen.FfnInDwLayer1RefIdeal.Read
public import proofs.«01_k».proof.Proof.Mm.Tiles
public import Idealize.ShloMosaic.Lib.Pointwise
public import Idealize.ShloMosaic.Lib.Pipeline.ValueKit

@[expose] public section

noncomputable section

namespace Cert.FfnInDwLayer1Ideal.Hand

open Cert.FfnInDwLayer1Ideal Cert.FfnInDwLayer1Ideal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x5632 .f32 := m ((c : Thread nD τ).loc main_arg2)
abbrev stack : Vec Ideal S4x1024x5632 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x5632 .bf16) = opB m c := by
  show V m c _ = _; simp only [V, hostOps0]; after_results_simp <;> rfl

/-- The result's buffer starts as a copy of the stack. -/
theorem V_o : (V m c main_v2 : Vec Ideal S4x1024x5632 .bf16) = stack m c := by
  show V m c _ = _; simp only [V, hostOps0]; after_results_simp <;> rfl

/-- The result: the whole sum in layer 1, the stack elsewhere. -/
def res : Vec Ideal S4x1024x5632 .bf16 := fun i => if (i 0).val = 1 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 11)
    ∧ (win0_1.index t (0 : Fin 2) = t.val % 2 ∧ win0_1.index t (1 : Fin 2) = t.val / 2 % 11)
    ∧ (win0_2.index t (0 : Fin 3) = 1 ∧ win0_2.index t (1 : Fin 3) = t.val / 2 / 11 ∧ win0_2.index t (2 : Fin 3) = t.val / 2 % 11) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 512) : EReal := (iblk m c 1 t : Vec Ideal S2048x512 .bf16) (ix2 q l)

theorem x_eq (t : Fin cfg0.N) (r : Fin 512) (q : Fin 2048) (i : Fin 1024) (k : Fin 4096)
    (hi : i.val = t.val / 2 / 11 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 512) (k : Fin 4096) (j : Fin 5632)
    (hk : k.val = t.val % 2 * 2048 + q.val) (hj : j.val = t.val / 2 % 11 * 512 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 512) : EReal := (outsAt0 m c n h).2 (ix2 r l)

/-- The first point of a tile's run leaves its product there. -/
theorem first (t : Fin cfg0.N) (h : t.val % 2 = 0) (r : Fin 512) (l : Fin 512) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 512) (i : S4x1024x5632.Idx)
    (h0 : (i 0).val = 1) (hi : (i 1).val = t.val / 2 / 11 * 512 + r.val) (hj : (i 2).val = t.val / 2 % 11 * 512 + l.val) :
    (outsAt0 m c t.val t.isLt).1 (ix3 o r l) = res m c i := by
  have e := last_tile 2 11 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 1, and the stack elsewhere. -/
theorem final : (dats m 0 c).arrAt 2 cfg0.N = res m c := by
  have hw : (cfg0.win 2).CoversWhere fun b => b (0 : Fin 3) = 1 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 1 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.FfnInDwLayer1RefIdeal.Read.val_main_v9 (F := Ideal) (opA m c) (opB m c) (stack m c) := funext fun i => by
  rw [Cert.FfnInDwLayer1RefIdeal.Read.val_main_v9_apply, Cert.FfnInDwLayer1RefIdeal.Read.val_main_call0_v0_apply, Cert.FfnInDwLayer1RefIdeal.Read.val_main_v7_apply, Cert.FfnInDwLayer1RefIdeal.Read.val_main_v6_apply, Cert.FfnInDwLayer1RefIdeal.Read.val_main_v4_apply, Cert.FfnInDwLayer1RefIdeal.Read.val_main_v5_apply,
    Cert.FfnInDwLayer1RefIdeal.Read.val_main_c_apply, Cert.FfnInDwLayer1RefIdeal.Read.val_main_call0_v1_apply, Cert.FfnInDwLayer1RefIdeal.Read.val_main_v8_apply, Cert.FfnInDwLayer1RefIdeal.Read.val_main_v2_apply, Cert.FfnInDwLayer1RefIdeal.Read.val_main_v1_apply]
  refine Eq.trans ?_ (picked (i 0).val 1 (i 0).isLt (by decide) _ _).symm
  exact if_congr Iff.rfl (Finset.sum_congr rfl fun k _ => Eq.trans (congrArg₂ (fun x y => opB m c x * opA m c y) (eq_ix2 _) (eq_ix2 _))
    (mul_comm (opB m c (ix2 k (i 2))) (opA m c (ix2 k (i 1))))).symm rfl

end Cert.FfnInDwLayer1Ideal.Hand

end
-- ==== Proof.Mm.FfnOutDwLayer1.lean ====
/- FfnOutDwLayer1: the gradient of a product's weight, put in the stack of the layers' gradients; the contracted axis in two tiles. What is of the generated program: its arguments,
   its blocks and what a point does with them. The sum is that of Tiles.lean. -/
module

public import proofs.«01_k».proof.Proof.Gen.FfnOutDwLayer1Ideal.Frame
public import proofs.«01_k».proof.Proof.Gen.FfnOutDwLayer1Ideal.Value
public import proofs.«01_k».proof.Proof.Gen.FfnOutDwLayer1RefIdeal.Read
public import proofs.«01_k».proof.Proof.Mm.Tiles
public import Idealize.ShloMosaic.Lib.Pointwise
public import Idealize.ShloMosaic.Lib.Pipeline.ValueKit

@[expose] public section

noncomputable section

namespace Cert.FfnOutDwLayer1Ideal.Hand

open Cert.FfnOutDwLayer1Ideal Cert.FfnOutDwLayer1Ideal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x2816 .f32 := m ((c : Thread nD τ).loc main_arg0)
abbrev opB : Vec Ideal S4096x1024 .f32 := m ((c : Thread nD τ).loc main_arg2)
abbrev stack : Vec Ideal S4x2816x1024 .bf16 := m ((c : Thread nD τ).loc main_arg3)

theorem V_a : (V m c main_v0 : Vec Ideal S4096x2816 .bf16) = opA m c := by
  show V m c _ = _; simp only [V, hostOps0]; after_results_simp <;> rfl

theorem V_b : (V m c main_arg2 : Vec Ideal S4096x1024 .f32) = opB m c := V_main_arg2 m c

/-- The result's buffer starts as a copy of the stack. -/
theorem V_o : (V m c main_v1 : Vec Ideal S4x2816x1024 .bf16) = stack m c := by
  show V m c _ = _; simp only [V, hostOps0]; after_results_simp <;> rfl

/-- The result: the whole sum in layer 1, the stack elsewhere. -/
def res : Vec Ideal S4x2816x1024 .bf16 := fun i => if (i 0).val = 1 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 1 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 256) (q : Fin 2048) : EReal := (iblk m c 0 t : Vec Ideal S2048x256 .bf16) (ix2 q r)
def y (t : Fin cfg0.N) (q : Fin 2048) (l : Fin 1024) : EReal := (iblk m c 1 t : Vec Ideal S2048x1024 .f32) (ix2 q l)

theorem x_eq (t : Fin cfg0.N) (r : Fin 256) (q : Fin 2048) (i : Fin 2816) (k : Fin 4096)
    (hi : i.val = t.val / 2 / 1 * 256 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 256) (l : Fin 1024) : EReal := (outsAt0 m c n h).2 (ix2 r l)

/-- The first point of a tile's run leaves its product there. -/
theorem first (t : Fin cfg0.N) (h : t.val % 2 = 0) (r : Fin 256) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 256) (l : Fin 1024) (i : S4x2816x1024.Idx)
    (h0 : (i 0).val = 1) (hi : (i 1).val = t.val / 2 / 1 * 256 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 1, and the stack elsewhere. -/
theorem final : (dats m 0 c).arrAt 2 cfg0.N = res m c := by
  have hw : (cfg0.win 2).CoversWhere fun b => b (0 : Fin 3) = 1 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 1 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.FfnOutDwLayer1RefIdeal.Read.val_main_v9 (F := Ideal) (opA m c) (opB m c) (stack m c) := funext fun i => by
  rw [Cert.FfnOutDwLayer1RefIdeal.Read.val_main_v9_apply, Cert.FfnOutDwLayer1RefIdeal.Read.val_main_call0_v0_apply, Cert.FfnOutDwLayer1RefIdeal.Read.val_main_v7_apply, Cert.FfnOutDwLayer1RefIdeal.Read.val_main_v6_apply, Cert.FfnOutDwLayer1RefIdeal.Read.val_main_v4_apply, Cert.FfnOutDwLayer1RefIdeal.Read.val_main_v5_apply,
    Cert.FfnOutDwLayer1RefIdeal.Read.val_main_c_apply, Cert.FfnOutDwLayer1RefIdeal.Read.val_main_call0_v1_apply, Cert.FfnOutDwLayer1RefIdeal.Read.val_main_v8_apply, Cert.FfnOutDwLayer1RefIdeal.Read.val_main_v2_apply, Cert.FfnOutDwLayer1RefIdeal.Read.val_main_v1_apply]
  refine Eq.trans ?_ (picked (i 0).val 1 (i 0).isLt (by decide) _ _).symm
  exact if_congr Iff.rfl (Finset.sum_congr rfl fun k _ => Eq.trans (congrArg₂ (fun x y => opB m c x * opA m c y) (eq_ix2 _) (eq_ix2 _))
    (mul_comm (opB m c (ix2 k (i 2))) (opA m c (ix2 k (i 1))))).symm rfl

end Cert.FfnOutDwLayer1Ideal.Hand

end
-- ==== Proof.Mm.InDwLayer2.lean ====
/- InDwLayer2: the gradient of a product's weight, put in the stack of the layers' gradients; the contracted axis in two tiles. What is of the generated program: its arguments,
   its blocks and what a point does with them. The sum is that of Tiles.lean. -/
module

public import proofs.«01_k».proof.Proof.Gen.InDwLayer2Ideal.Frame
public import proofs.«01_k».proof.Proof.Gen.InDwLayer2Ideal.Value
public import proofs.«01_k».proof.Proof.Gen.InDwLayer2RefIdeal.Read
public import proofs.«01_k».proof.Proof.Mm.Tiles
public import Idealize.ShloMosaic.Lib.Pointwise
public import Idealize.ShloMosaic.Lib.Pipeline.ValueKit

@[expose] public section

noncomputable section

namespace Cert.InDwLayer2Ideal.Hand

open Cert.InDwLayer2Ideal Cert.InDwLayer2Ideal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x9216 .f32 := m ((c : Thread nD τ).loc main_arg2)
abbrev stack : Vec Ideal S4x1024x9216 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x9216 .bf16) = opB m c := by
  show V m c _ = _; simp only [V, hostOps0]; after_results_simp <;> rfl

/-- The result's buffer starts as a copy of the stack. -/
theorem V_o : (V m c main_v2 : Vec Ideal S4x1024x9216 .bf16) = stack m c := by
  show V m c _ = _; simp only [V, hostOps0]; after_results_simp <;> rfl

/-- The result: the whole sum in layer 2, the stack elsewhere. -/
def res : Vec Ideal S4x1024x9216 .bf16 := fun i => if (i 0).val = 2 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 9)
    ∧ (win0_1.index t (0 : Fin 2) = t.val % 2 ∧ win0_1.index t (1 : Fin 2) = t.val / 2 % 9)
    ∧ (win0_2.index t (0 : Fin 3) = 2 ∧ win0_2.index t (1 : Fin 3) = t.val / 2 / 9 ∧ win0_2.index t (2 : Fin 3) = t.val / 2 % 9) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 1024) : EReal := (iblk m c 1 t : Vec Ideal S2048x1024 .bf16) (ix2 q l)

theorem x_eq (t : Fin cfg0.N) (r : Fin 512) (q : Fin 2048) (i : Fin 1024) (k : Fin 4096)
    (hi : i.val = t.val / 2 / 9 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 9216)
    (hk : k.val = t.val % 2 * 2048 + q.val) (hj : j.val = t.val / 2 % 9 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 1024) : EReal := (outsAt0 m c n h).2 (ix2 r l)

/-- The first point of a tile's run leaves its product there. -/
theorem first (t : Fin cfg0.N) (h : t.val % 2 = 0) (r : Fin 512) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 1024) (i : S4x1024x9216.Idx)
    (h0 : (i 0).val = 2) (hi : (i 1).val = t.val / 2 / 9 * 512 + r.val) (hj : (i 2).val = t.val / 2 % 9 * 1024 + l.val) :
    (outsAt0 m c t.val t.isLt).1 (ix3 o r l) = res m c i := by
  have e := last_tile 2 9 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 2, and the stack elsewhere. -/
theorem final : (dats m 0 c).arrAt 2 cfg0.N = res m c := by
  have hw : (cfg0.win 2).CoversWhere fun b => b (0 : Fin 3) = 2 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 2 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.InDwLayer2RefIdeal.Read.val_main_v9 (F := Ideal) (opA m c) (opB m c) (stack m c) := funext fun i => by
  rw [Cert.InDwLayer2RefIdeal.Read.val_main_v9_apply, Cert.InDwLayer2RefIdeal.Read.val_main_call0_v0_apply, Cert.InDwLayer2RefIdeal.Read.val_main_v7_apply, Cert.InDwLayer2RefIdeal.Read.val_main_v6_apply, Cert.InDwLayer2RefIdeal.Read.val_main_v4_apply, Cert.InDwLayer2RefIdeal.Read.val_main_v5_apply,
    Cert.InDwLayer2RefIdeal.Read.val_main_c_apply, Cert.InDwLayer2RefIdeal.Read.val_main_call0_v1_apply, Cert.InDwLayer2RefIdeal.Read.val_main_v8_apply, Cert.InDwLayer2RefIdeal.Read.val_main_v2_apply, Cert.InDwLayer2RefIdeal.Read.val_main_v1_apply]
  refine Eq.trans ?_ (picked (i 0).val 2 (i 0).isLt (by decide) _ _).symm
  exact if_congr Iff.rfl (Finset.sum_congr rfl fun k _ => Eq.trans (congrArg₂ (fun x y => opB m c x * opA m c y) (eq_ix2 _) (eq_ix2 _))
    (mul_comm (opB m c (ix2 k (i 2))) (opA m c (ix2 k (i 1))))).symm rfl

end Cert.InDwLayer2Ideal.Hand

end
-- ==== Proof.Mm.FfnInDwLayer2.lean ====
/- FfnInDwLayer2: the gradient of a product's weight, put in the stack of the layers' gradients; the contracted axis in two tiles. What is of the generated program: its arguments,
   its blocks and what a point does with them. The sum is that of Tiles.lean. -/
module

public import proofs.«01_k».proof.Proof.Gen.FfnInDwLayer2Ideal.Frame
public import proofs.«01_k».proof.Proof.Gen.FfnInDwLayer2Ideal.Value
public import proofs.«01_k».proof.Proof.Gen.FfnInDwLayer2RefIdeal.Read
public import proofs.«01_k».proof.Proof.Mm.Tiles
public import Idealize.ShloMosaic.Lib.Pointwise
public import Idealize.ShloMosaic.Lib.Pipeline.ValueKit

@[expose] public section

noncomputable section

namespace Cert.FfnInDwLayer2Ideal.Hand

open Cert.FfnInDwLayer2Ideal Cert.FfnInDwLayer2Ideal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x1024 .f32 := m ((c : Thread nD τ).loc main_arg0)
abbrev opB : Vec Ideal S4096x5632 .f32 := m ((c : Thread nD τ).loc main_arg2)
abbrev stack : Vec Ideal S4x1024x5632 .bf16 := m ((c : Thread nD τ).loc main_arg3)

theorem V_a : (V m c main_v0 : Vec Ideal S4096x1024 .bf16) = opA m c := by
  show V m c _ = _; simp only [V, hostOps0]; after_results_simp <;> rfl

theorem V_b : (V m c main_v1 : Vec Ideal S4096x5632 .bf16) = opB m c := by
  show V m c _ = _; simp only [V, hostOps0]; after_results_simp <;> rfl

/-- The result's buffer starts as a copy of the stack. -/
theorem V_o : (V m c main_v2 : Vec Ideal S4x1024x5632 .bf16) = stack m c := by
  show V m c _ = _; simp only [V, hostOps0]; after_results_simp <;> rfl

/-- The result: the whole sum in layer 2, the stack elsewhere. -/
def res : Vec Ideal S4x1024x5632 .bf16 := fun i => if (i 0).val = 2 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 11)
    ∧ (win0_1.index t (0 : Fin 2) = t.val % 2 ∧ win0_1.index t (1 : Fin 2) = t.val / 2 % 11)
    ∧ (win0_2.index t (0 : Fin 3) = 2 ∧ win0_2.index t (1 : Fin 3) = t.val / 2 / 11 ∧ win0_2.index t (2 : Fin 3) = t.val / 2 % 11) :=
  (by decide +kernel : ∀ t : Fin grid0.N, _)

/-- A point's blocks of the operands. -/
def x (t : Fin cfg0.N) (r : Fin 512) (q : Fin 2048) : EReal := (iblk m c 0 t : Vec Ideal S2048x512 .bf16) (ix2 q r)
def y (t : Fin cfg0.N) (q : Fin 2048) (l : Fin 512) : EReal := (iblk m c 1 t : Vec Ideal S2048x512 .bf16) (ix2 q l)

theorem x_eq (t : Fin cfg0.N) (r : Fin 512) (q : Fin 2048) (i : Fin 1024) (k : Fin 4096)
    (hi : i.val = t.val / 2 / 11 * 512 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 512) (k : Fin 4096) (j : Fin 5632)
    (hk : k.val = t.val % 2 * 2048 + q.val) (hj : j.val = t.val / 2 % 11 * 512 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 512) (l : Fin 512) : EReal := (outsAt0 m c n h).2 (ix2 r l)

/-- The first point of a tile's run leaves its product there. -/
theorem first (t : Fin cfg0.N) (h : t.val % 2 = 0) (r : Fin 512) (l : Fin 512) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 512) (l : Fin 512) (i : S4x1024x5632.Idx)
    (h0 : (i 0).val = 2) (hi : (i 1).val = t.val / 2 / 11 * 512 + r.val) (hj : (i 2).val = t.val / 2 % 11 * 512 + l.val) :
    (outsAt0 m c t.val t.isLt).1 (ix3 o r l) = res m c i := by
  have e := last_tile 2 11 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 2, and the stack elsewhere. -/
theorem final : (dats m 0 c).arrAt 2 cfg0.N = res m c := by
  have hw : (cfg0.win 2).CoversWhere fun b => b (0 : Fin 3) = 2 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 2 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.FfnInDwLayer2RefIdeal.Read.val_main_v9 (F := Ideal) (opA m c) (opB m c) (stack m c) := funext fun i => by
  rw [Cert.FfnInDwLayer2RefIdeal.Read.val_main_v9_apply, Cert.FfnInDwLayer2RefIdeal.Read.val_main_call0_v0_apply, Cert.FfnInDwLayer2RefIdeal.Read.val_main_v7_apply, Cert.FfnInDwLayer2RefIdeal.Read.val_main_v6_apply, Cert.FfnInDwLayer2RefIdeal.Read.val_main_v4_apply, Cert.FfnInDwLayer2RefIdeal.Read.val_main_v5_apply,
    Cert.FfnInDwLayer2RefIdeal.Read.val_main_c_apply, Cert.FfnInDwLayer2RefIdeal.Read.val_main_call0_v1_apply, Cert.FfnInDwLayer2RefIdeal.Read.val_main_v8_apply, Cert.FfnInDwLayer2RefIdeal.Read.val_main_v2_apply, Cert.FfnInDwLayer2RefIdeal.Read.val_main_v1_apply]
  refine Eq.trans ?_ (picked (i 0).val 2 (i 0).isLt (by decide) _ _).symm
  exact if_congr Iff.rfl (Finset.sum_congr rfl fun k _ => Eq.trans (congrArg₂ (fun x y => opB m c x * opA m c y) (eq_ix2 _) (eq_ix2 _))
    (mul_comm (opB m c (ix2 k (i 2))) (opA m c (ix2 k (i 1))))).symm rfl

end Cert.FfnInDwLayer2Ideal.Hand

end
-- ==== Proof.Mm.FfnOutDwLayer2.lean ====
/- FfnOutDwLayer2: the gradient of a product's weight, put in the stack of the layers' gradients; the contracted axis in two tiles. What is of the generated program: its arguments,
   its blocks and what a point does with them. The sum is that of Tiles.lean. -/
module

public import proofs.«01_k».proof.Proof.Gen.FfnOutDwLayer2Ideal.Frame
public import proofs.«01_k».proof.Proof.Gen.FfnOutDwLayer2Ideal.Value
public import proofs.«01_k».proof.Proof.Gen.FfnOutDwLayer2RefIdeal.Read
public import proofs.«01_k».proof.Proof.Mm.Tiles
public import Idealize.ShloMosaic.Lib.Pointwise
public import Idealize.ShloMosaic.Lib.Pipeline.ValueKit

@[expose] public section

noncomputable section

namespace Cert.FfnOutDwLayer2Ideal.Hand

open Cert.FfnOutDwLayer2Ideal Cert.FfnOutDwLayer2Ideal.Gen Cert.Mm
open Idealize.ShloMosaic Idealize.ShloMosaic.TcCoe Idealize.SL.Sem

variable (m : (ℓ : Loc nD τ sig) → Buf (Elt Ideal) ℓ) (c : Dev nD)

/-- The arguments: the two operands, and the stack. -/
abbrev opA : Vec Ideal S4096x2816 .f32 := m ((c : Thread nD τ).loc main_arg0)
abbrev opB : Vec Ideal S4096x1024 .f32 := m ((c : Thread nD τ).loc main_arg2)
abbrev stack : Vec Ideal S4x2816x1024 .bf16 := m ((c : Thread nD τ).loc main_arg3)

theorem V_a : (V m c main_v0 : Vec Ideal S4096x2816 .bf16) = opA m c := by
  show V m c _ = _; simp only [V, hostOps0]; after_results_simp <;> rfl

theorem V_b : (V m c main_arg2 : Vec Ideal S4096x1024 .f32) = opB m c := V_main_arg2 m c

/-- The result's buffer starts as a copy of the stack. -/
theorem V_o : (V m c main_v1 : Vec Ideal S4x2816x1024 .bf16) = stack m c := by
  show V m c _ = _; simp only [V, hostOps0]; after_results_simp <;> rfl

/-- The result: the whole sum in layer 2, the stack elsewhere. -/
def res : Vec Ideal S4x2816x1024 .bf16 := fun i => if (i 0).val = 2 then ∑ k, opA m c (ix2 k (i 1)) * opB m c (ix2 k (i 2)) else stack m c i

/-- Which blocks a point reads and writes. -/
theorem places : ∀ t : Fin cfg0.N, (win0_0.index t (0 : Fin 2) = t.val % 2 ∧ win0_0.index t (1 : Fin 2) = t.val / 2 / 1)
    ∧ (win0_1.index t (0 : Fin 2) = t.val % 2 ∧ win0_1.index t (1 : Fin 2) = t.val / 2 % 1)
    ∧ (win0_2.index t (0 : Fin 3) = 2 ∧ win0_2.index t (1 : Fin 3) = t.val / 2 / 1 ∧ win0_2.index t (2 : Fin 3) = t.val / 2 % 1) :=
  (by decide +kernel : ∀ t : Fin grid0.N, _)

/-- A point's blocks of the operands. -/
def x (t : Fin cfg0.N) (r : Fin 256) (q : Fin 2048) : EReal := (iblk m c 0 t : Vec Ideal S2048x256 .bf16) (ix2 q r)
def y (t : Fin cfg0.N) (q : Fin 2048) (l : Fin 1024) : EReal := (iblk m c 1 t : Vec Ideal S2048x1024 .f32) (ix2 q l)

theorem x_eq (t : Fin cfg0.N) (r : Fin 256) (q : Fin 2048) (i : Fin 2816) (k : Fin 4096)
    (hi : i.val = t.val / 2 / 1 * 256 + r.val) (hk : k.val = t.val % 2 * 2048 + q.val) : x m c t r q = opA m c (ix2 k i) :=
  (congrFun (V_a m c) _).trans (congrArg _ (idx2 (at_tile (places t).1.1 hk) (at_tile (places t).1.2 hi)))

theorem y_eq (t : Fin cfg0.N) (q : Fin 2048) (l : Fin 1024) (k : Fin 4096) (j : Fin 1024)
    (hk : k.val = t.val % 2 * 2048 + q.val) (hj : j.val = t.val / 2 % 1 * 1024 + l.val) : y m c t q l = opB m c (ix2 k j) :=
  (congrFun (V_b m c) _).trans (congrArg _ (idx2 (at_tile (places t).2.1.1 hk) (at_tile (places t).2.1.2 hj)))

/-- What the scratch holds after a point. -/
def acc (n : ℕ) (h : n < cfg0.N) (r : Fin 256) (l : Fin 1024) : EReal := (outsAt0 m c n h).2 (ix2 r l)

/-- The first point of a tile's run leaves its product there. -/
theorem first (t : Fin cfg0.N) (h : t.val % 2 = 0) (r : Fin 256) (l : Fin 1024) : acc m c t.val t.isLt r l = ∑ q, x m c t r q * y m c t q l := by
  unfold acc
  rw [outsAt0_A m c t (by omega) (by omega) (by omega)]
  frame_out
  pointwise [k0_pay2, k0_pay1]
  rfl

/-- The last one writes the sum out. -/
theorem out (t : Fin cfg0.N) (h : t.val % 2 = 1) (o : Fin 1) (r : Fin 256) (l : Fin 1024) (i : S4x2816x1024.Idx)
    (h0 : (i 0).val = 2) (hi : (i 1).val = t.val / 2 / 1 * 256 + r.val) (hj : (i 2).val = t.val / 2 % 1 * 1024 + l.val) :
    (outsAt0 m c t.val t.isLt).1 (ix3 o r l) = res m c i := by
  have e := last_tile 2 1 rfl (fun i k => opA m c (ix2 k i)) (fun k j => opB m c (ix2 k j)) (x m c) (y m c) (x_eq m c) (y_eq m c)
    (acc m c) (first m c) (fun t h0 h1 => by omega) t (by omega) h r l (i 1) (i 2) hi hj
  rw [outsAt0_B m c t (by omega) (by omega) (by omega)]
  frame_out
  rw [(Memref.isWhole_whole _).read_unread]
  refine Eq.trans ?_ (e.trans (if_pos h0).symm)
  pointwise [k0_pay4, k0_pay3, k0_pay1]
  rfl

/-- What is written back is the result's block. -/
theorem flushed (t : Fin cfg0.N) (hf : (cfg0.win 2).flush t = true) :
    (dats m 0 c).flushed 2 t = ((cfg0.win 2).blk t).view.read (Elt Ideal) (res m c) := by
  rw [Value.flushed2]
  funext j
  have e : (cfg0.win 2).cut (grid0.coords t) (outsAt0 m c t.val t.isLt).1 j = (outsAt0 m c t.val t.isLt).1 (ix3 (j 0) (j 1) (j 2)) :=
    congrArg (outsAt0 m c t.val t.isLt).1 (eq_ix3 j)
  have e' := out m c t ((flush0_2 t).mp hf) (j 0) (j 1) (j 2) ((win0_2.blk t).view.emb j)
    (in_layer (places t).2.2.1 (j 0).isLt) (of_tile (places t).2.2.2.1) (of_tile (places t).2.2.2.2)
  rw [View.read_apply]
  exact (e.trans e').trans (cast_eq rfl _).symm

/-- So the result ends holding the whole sums in layer 2, and the stack elsewhere. -/
theorem final : (dats m 0 c).arrAt 2 cfg0.N = res m c := by
  have hw : (cfg0.win 2).CoversWhere fun b => b (0 : Fin 3) = 2 := by decide +kernel
  funext i
  rw [(dats m 0 c).arrAt_eq_piecewise 2 (res m c) (flushed m c) i]
  split
  · rfl
  · rename_i h
    exact ((congrFun (A_eq m c 2) i).trans (congrFun (V_o m c) i)).trans
      (if_neg fun h0 => h ((hw.covered_iff i).2 (show (i 0).val / 1 = 2 by omega))).symm

/-- The call's run, with its result. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The reference computes the same. -/
theorem res_eq : res m c = Cert.FfnOutDwLayer2RefIdeal.Read.val_main_v9 (F := Ideal) (opA m c) (opB m c) (stack m c) := funext fun i => by
  rw [Cert.FfnOutDwLayer2RefIdeal.Read.val_main_v9_apply, Cert.FfnOutDwLayer2RefIdeal.Read.val_main_call0_v0_apply, Cert.FfnOutDwLayer2RefIdeal.Read.val_main_v7_apply, Cert.FfnOutDwLayer2RefIdeal.Read.val_main_v6_apply, Cert.FfnOutDwLayer2RefIdeal.Read.val_main_v4_apply, Cert.FfnOutDwLayer2RefIdeal.Read.val_main_v5_apply,
    Cert.FfnOutDwLayer2RefIdeal.Read.val_main_c_apply, Cert.FfnOutDwLayer2RefIdeal.Read.val_main_call0_v1_apply, Cert.FfnOutDwLayer2RefIdeal.Read.val_main_v8_apply, Cert.FfnOutDwLayer2RefIdeal.Read.val_main_v2_apply, Cert.FfnOutDwLayer2RefIdeal.Read.val_main_v1_apply]
  refine Eq.trans ?_ (picked (i 0).val 2 (i 0).isLt (by decide) _ _).symm
  exact if_congr Iff.rfl (Finset.sum_congr rfl fun k _ => Eq.trans (congrArg₂ (fun x y => opB m c x * opA m c y) (eq_ix2 _) (eq_ix2 _))
    (mul_comm (opB m c (ix2 k (i 2))) (opA m c (ix2 k (i 1))))).symm rfl

end Cert.FfnOutDwLayer2Ideal.Hand

end
-- ==== Proof.Mm.Claims.lean ====
/- The claims about the products with the weights, each from its module: the calls run and leave their arguments alone,
   over machine words and over extended reals; the references do; and the two end with equal results. -/
module

public import proofs.«01_k».proof.Defs
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxRefIdeal
public import proofs.«01_k».proof.Proof.Gen.FfnInDxRefIdeal.Run
public import proofs.«01_k».proof.Proof.Gen.FfnInDxRefIdeal.Read
public import proofs.«01_k».proof.Proof.Mm.FfnInDx
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Frame
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Mm.FfnInDw
public import proofs.«01_k».proof.Proof.Gen.FfnOutDx
public import proofs.«01_k».proof.Proof.Gen.FfnOutDx.Frame
public import proofs.«01_k».proof.Proof.Gen.FfnOutDxIdeal
public import proofs.«01_k».proof.Proof.Gen.FfnOutDxIdeal.Frame
public import proofs.«01_k».proof.Proof.Gen.FfnOutDxRefIdeal
public import proofs.«01_k».proof.Proof.Gen.FfnOutDxRefIdeal.Run
public import proofs.«01_k».proof.Proof.Gen.FfnOutDxRefIdeal.Read
public import proofs.«01_k».proof.Proof.Mm.FfnOutDx
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Frame
public import proofs.«01_k».proof.Proof.Gen.FfnOutDwRefIdeal
public import proofs.«01_k».proof.Proof.Gen.FfnOutDwRefIdeal.Run
public import proofs.«01_k».proof.Proof.Gen.FfnOutDwRefIdeal.Read
public import proofs.«01_k».proof.Proof.Mm.FfnOutDw
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxRefIdeal
public import proofs.«01_k».proof.Proof.Gen.InDxRefIdeal.Run
public import proofs.«01_k».proof.Proof.Gen.InDxRefIdeal.Read
public import proofs.«01_k».proof.Proof.Mm.InDx
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwRefIdeal
public import proofs.«01_k».proof.Proof.Gen.InDwRefIdeal.Run
public import proofs.«01_k».proof.Proof.Gen.InDwRefIdeal.Read
public import proofs.«01_k».proof.Proof.Mm.InDw
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Mm.FfnIn
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Mm.FfnOut
public import proofs.«01_k».proof.Proof.Gen.InWide
public import proofs.«01_k».proof.Proof.Gen.InWide.Frame
public import proofs.«01_k».proof.Proof.Gen.InWideIdeal
public import proofs.«01_k».proof.Proof.Gen.InWideIdeal.Frame
public import proofs.«01_k».proof.Proof.Gen.InWideRefIdeal
public import proofs.«01_k».proof.Proof.Gen.InWideRefIdeal.Run
public import proofs.«01_k».proof.Proof.Gen.InWideRefIdeal.Read
public import proofs.«01_k».proof.Proof.Mm.InWide
public import proofs.«01_k».proof.Proof.Gen.InGate
public import proofs.«01_k».proof.Proof.Gen.InGate.Frame
public import proofs.«01_k».proof.Proof.Gen.InGateIdeal
public import proofs.«01_k».proof.Proof.Gen.InGateIdeal.Frame
public import proofs.«01_k».proof.Proof.Gen.InGateRefIdeal
public import proofs.«01_k».proof.Proof.Gen.InGateRefIdeal.Run
public import proofs.«01_k».proof.Proof.Gen.InGateRefIdeal.Read
public import proofs.«01_k».proof.Proof.Mm.InGate
public import proofs.«01_k».proof.Proof.Gen.SquareDx
public import proofs.«01_k».proof.Proof.Gen.SquareDx.Frame
public import proofs.«01_k».proof.Proof.Gen.SquareDxIdeal
public import proofs.«01_k».proof.Proof.Gen.SquareDxIdeal.Frame
public import proofs.«01_k».proof.Proof.Gen.SquareDxRefIdeal
public import proofs.«01_k».proof.Proof.Gen.SquareDxRefIdeal.Run
public import proofs.«01_k».proof.Proof.Gen.SquareDxRefIdeal.Read
public import proofs.«01_k».proof.Proof.Mm.SquareDx
public import proofs.«01_k».proof.Proof.Gen.SquareDw
public import proofs.«01_k».proof.Proof.Gen.SquareDw.Frame
public import proofs.«01_k».proof.Proof.Gen.SquareDwIdeal
public import proofs.«01_k».proof.Proof.Gen.SquareDwIdeal.Frame
public import proofs.«01_k».proof.Proof.Gen.SquareDwRefIdeal
public import proofs.«01_k».proof.Proof.Gen.SquareDwRefIdeal.Run
public import proofs.«01_k».proof.Proof.Gen.SquareDwRefIdeal.Read
public import proofs.«01_k».proof.Proof.Mm.SquareDw
public import proofs.«01_k».proof.Proof.Gen.ResidualDx
public import proofs.«01_k».proof.Proof.Gen.ResidualDx.Frame
public import proofs.«01_k».proof.Proof.Gen.ResidualDxIdeal
public import proofs.«01_k».proof.Proof.Gen.ResidualDxIdeal.Frame
public import proofs.«01_k».proof.Proof.Gen.ResidualDxRefIdeal
public import proofs.«01_k».proof.Proof.Gen.ResidualDxRefIdeal.Run
public import proofs.«01_k».proof.Proof.Gen.ResidualDxRefIdeal.Read
public import proofs.«01_k».proof.Proof.Mm.ResidualDx
public import proofs.«01_k».proof.Proof.Gen.ResidualDw
public import proofs.«01_k».proof.Proof.Gen.ResidualDw.Frame
public import proofs.«01_k».proof.Proof.Gen.ResidualDwIdeal
public import proofs.«01_k».proof.Proof.Gen.ResidualDwIdeal.Frame
public import proofs.«01_k».proof.Proof.Gen.ResidualDwRefIdeal
public import proofs.«01_k».proof.Proof.Gen.ResidualDwRefIdeal.Run
public import proofs.«01_k».proof.Proof.Gen.ResidualDwRefIdeal.Read
public import proofs.«01_k».proof.Proof.Mm.ResidualDw
public import proofs.«01_k».proof.Proof.Gen.Square
public import proofs.«01_k».proof.Proof.Gen.Square.Frame
public import proofs.«01_k».proof.Proof.Gen.SquareIdeal
public import proofs.«01_k».proof.Proof.Gen.SquareIdeal.Frame
public import proofs.«01_k».proof.Proof.Gen.SquareRefIdeal
public import proofs.«01_k».proof.Proof.Gen.SquareRefIdeal.Run
public import proofs.«01_k».proof.Proof.Gen.SquareRefIdeal.Read
public import proofs.«01_k».proof.Proof.Mm.Square
public import proofs.«01_k».proof.Proof.Gen.Residual
public import proofs.«01_k».proof.Proof.Gen.Residual.Frame
public import proofs.«01_k».proof.Proof.Gen.ResidualIdeal
public import proofs.«01_k».proof.Proof.Gen.ResidualIdeal.Frame
public import proofs.«01_k».proof.Proof.Gen.ResidualRefIdeal
public import proofs.«01_k».proof.Proof.Gen.ResidualRefIdeal.Run
public import proofs.«01_k».proof.Proof.Gen.ResidualRefIdeal.Read
public import proofs.«01_k».proof.Proof.Mm.Residual
public import proofs.«01_k».proof.Proof.Gen.MlaOutDw
public import proofs.«01_k».proof.Proof.Gen.MlaOutDw.Frame
public import proofs.«01_k».proof.Proof.Gen.MlaOutDwIdeal
public import proofs.«01_k».proof.Proof.Gen.MlaOutDwIdeal.Frame
public import proofs.«01_k».proof.Proof.Gen.MlaOutDwRefIdeal
public import proofs.«01_k».proof.Proof.Gen.MlaOutDwRefIdeal.Run
public import proofs.«01_k».proof.Proof.Gen.MlaOutDwRefIdeal.Read
public import proofs.«01_k».proof.Proof.Mm.MlaOutDw
public import proofs.«01_k».proof.Proof.Gen.MlaOut
public import proofs.«01_k».proof.Proof.Gen.MlaOut.Frame
public import proofs.«01_k».proof.Proof.Gen.MlaOutIdeal
public import proofs.«01_k».proof.Proof.Gen.MlaOutIdeal.Frame
public import proofs.«01_k».proof.Proof.Gen.MlaOutRefIdeal
public import proofs.«01_k».proof.Proof.Gen.MlaOutRefIdeal.Run
public import proofs.«01_k».proof.Proof.Gen.MlaOutRefIdeal.Read
public import proofs.«01_k».proof.Proof.Mm.MlaOut
public import proofs.«01_k».proof.Proof.Gen.QbDx
public import proofs.«01_k».proof.Proof.Gen.QbDx.Frame
public import proofs.«01_k».proof.Proof.Gen.QbDxIdeal
public import proofs.«01_k».proof.Proof.Gen.QbDxIdeal.Frame
public import proofs.«01_k».proof.Proof.Gen.QbDxRefIdeal
public import proofs.«01_k».proof.Proof.Gen.QbDxRefIdeal.Run
public import proofs.«01_k».proof.Proof.Gen.QbDxRefIdeal.Read
public import proofs.«01_k».proof.Proof.Mm.QbDx
public import proofs.«01_k».proof.Proof.Gen.QbDw
public import proofs.«01_k».proof.Proof.Gen.QbDw.Frame
public import proofs.«01_k».proof.Proof.Gen.QbDwIdeal
public import proofs.«01_k».proof.Proof.Gen.QbDwIdeal.Frame
public import proofs.«01_k».proof.Proof.Gen.QbDwRefIdeal
public import proofs.«01_k».proof.Proof.Gen.QbDwRefIdeal.Run
public import proofs.«01_k».proof.Proof.Gen.QbDwRefIdeal.Read
public import proofs.«01_k».proof.Proof.Mm.QbDw
public import proofs.«01_k».proof.Proof.Gen.KvbDx
public import proofs.«01_k».proof.Proof.Gen.KvbDx.Frame
public import proofs.«01_k».proof.Proof.Gen.KvbDxIdeal
public import proofs.«01_k».proof.Proof.Gen.KvbDxIdeal.Frame
public import proofs.«01_k».proof.Proof.Gen.KvbDxRefIdeal
public import proofs.«01_k».proof.Proof.Gen.KvbDxRefIdeal.Run
public import proofs.«01_k».proof.Proof.Gen.KvbDxRefIdeal.Read
public import proofs.«01_k».proof.Proof.Mm.KvbDx
public import proofs.«01_k».proof.Proof.Gen.KvbDw
public import proofs.«01_k».proof.Proof.Gen.KvbDw.Frame
public import proofs.«01_k».proof.Proof.Gen.KvbDwIdeal
public import proofs.«01_k».proof.Proof.Gen.KvbDwIdeal.Frame
public import proofs.«01_k».proof.Proof.Gen.KvbDwRefIdeal
public import proofs.«01_k».proof.Proof.Gen.KvbDwRefIdeal.Run
public import proofs.«01_k».proof.Proof.Gen.KvbDwRefIdeal.Read
public import proofs.«01_k».proof.Proof.Mm.KvbDw
public import proofs.«01_k».proof.Proof.Gen.CrossDx
public import proofs.«01_k».proof.Proof.Gen.CrossDx.Frame
public import proofs.«01_k».proof.Proof.Gen.CrossDxIdeal
public import proofs.«01_k».proof.Proof.Gen.CrossDxIdeal.Frame
public import proofs.«01_k».proof.Proof.Gen.CrossDxRefIdeal
public import proofs.«01_k».proof.Proof.Gen.CrossDxRefIdeal.Run
public import proofs.«01_k».proof.Proof.Gen.CrossDxRefIdeal.Read
public import proofs.«01_k».proof.Proof.Mm.CrossDx
public import proofs.«01_k».proof.Proof.Gen.CrossDw
public import proofs.«01_k».proof.Proof.Gen.CrossDw.Frame
public import proofs.«01_k».proof.Proof.Gen.CrossDwIdeal
public import proofs.«01_k».proof.Proof.Gen.CrossDwIdeal.Frame
public import proofs.«01_k».proof.Proof.Gen.CrossDwRefIdeal
public import proofs.«01_k».proof.Proof.Gen.CrossDwRefIdeal.Run
public import proofs.«01_k».proof.Proof.Gen.CrossDwRefIdeal.Read
public import proofs.«01_k».proof.Proof.Mm.CrossDw
public import proofs.«01_k».proof.Proof.Gen.Qb
public import proofs.«01_k».proof.Proof.Gen.Qb.Frame
public import proofs.«01_k».proof.Proof.Gen.QbIdeal
public import proofs.«01_k».proof.Proof.Gen.QbIdeal.Frame
public import proofs.«01_k».proof.Proof.Gen.QbRefIdeal
public import proofs.«01_k».proof.Proof.Gen.QbRefIdeal.Run
public import proofs.«01_k».proof.Proof.Gen.QbRefIdeal.Read
public import proofs.«01_k».proof.Proof.Mm.Qb
public import proofs.«01_k».proof.Proof.Gen.Kvb
public import proofs.«01_k».proof.Proof.Gen.Kvb.Frame
public import proofs.«01_k».proof.Proof.Gen.KvbIdeal
public import proofs.«01_k».proof.Proof.Gen.KvbIdeal.Frame
public import proofs.«01_k».proof.Proof.Gen.KvbRefIdeal
public import proofs.«01_k».proof.Proof.Gen.KvbRefIdeal.Run
public import proofs.«01_k».proof.Proof.Gen.KvbRefIdeal.Read
public import proofs.«01_k».proof.Proof.Mm.Kvb
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossRefIdeal
public import proofs.«01_k».proof.Proof.Gen.CrossRefIdeal.Run
public import proofs.«01_k».proof.Proof.Gen.CrossRefIdeal.Read
public import proofs.«01_k».proof.Proof.Mm.Cross
public import proofs.«01_k».proof.Proof.Gen.InLatent
public import proofs.«01_k».proof.Proof.Gen.InLatent.Frame
public import proofs.«01_k».proof.Proof.Gen.InLatentIdeal
public import proofs.«01_k».proof.Proof.Gen.InLatentIdeal.Frame
public import proofs.«01_k».proof.Proof.Gen.InLatentRefIdeal
public import proofs.«01_k».proof.Proof.Gen.InLatentRefIdeal.Run
public import proofs.«01_k».proof.Proof.Gen.InLatentRefIdeal.Read
public import proofs.«01_k».proof.Proof.Mm.InLatent
public import proofs.«01_k».proof.Proof.Gen.InKv
public import proofs.«01_k».proof.Proof.Gen.InKv.Frame
public import proofs.«01_k».proof.Proof.Gen.InKvIdeal
public import proofs.«01_k».proof.Proof.Gen.InKvIdeal.Frame
public import proofs.«01_k».proof.Proof.Gen.InKvRefIdeal
public import proofs.«01_k».proof.Proof.Gen.InKvRefIdeal.Run
public import proofs.«01_k».proof.Proof.Gen.InKvRefIdeal.Read
public import proofs.«01_k».proof.Proof.Mm.InKv
public import proofs.«01_k».proof.Proof.Gen.InNarrow
public import proofs.«01_k».proof.Proof.Gen.InNarrow.Frame
public import proofs.«01_k».proof.Proof.Gen.InNarrowIdeal
public import proofs.«01_k».proof.Proof.Gen.InNarrowIdeal.Frame
public import proofs.«01_k».proof.Proof.Gen.InNarrowRefIdeal
public import proofs.«01_k».proof.Proof.Gen.InNarrowRefIdeal.Run
public import proofs.«01_k».proof.Proof.Gen.InNarrowRefIdeal.Read
public import proofs.«01_k».proof.Proof.Mm.InNarrow
public import proofs.«01_k».proof.Proof.Gen.XattnOut
public import proofs.«01_k».proof.Proof.Gen.XattnOut.Frame
public import proofs.«01_k».proof.Proof.Gen.XattnOutIdeal
public import proofs.«01_k».proof.Proof.Gen.XattnOutIdeal.Frame
public import proofs.«01_k».proof.Proof.Gen.XattnOutRefIdeal
public import proofs.«01_k».proof.Proof.Gen.XattnOutRefIdeal.Run
public import proofs.«01_k».proof.Proof.Gen.XattnOutRefIdeal.Read
public import proofs.«01_k».proof.Proof.Mm.XattnOut
public import proofs.«01_k».proof.Proof.Gen.XattnOutDw
public import proofs.«01_k».proof.Proof.Gen.XattnOutDw.Frame
public import proofs.«01_k».proof.Proof.Gen.XattnOutDwIdeal
public import proofs.«01_k».proof.Proof.Gen.XattnOutDwIdeal.Frame
public import proofs.«01_k».proof.Proof.Gen.XattnOutDwRefIdeal
public import proofs.«01_k».proof.Proof.Gen.XattnOutDwRefIdeal.Run
public import proofs.«01_k».proof.Proof.Gen.XattnOutDwRefIdeal.Read
public import proofs.«01_k».proof.Proof.Mm.XattnOutDw
public import proofs.«01_k».proof.Proof.Gen.InDwLayer1
public import proofs.«01_k».proof.Proof.Gen.InDwLayer1.Frame
public import proofs.«01_k».proof.Proof.Gen.InDwLayer1Ideal
public import proofs.«01_k».proof.Proof.Gen.InDwLayer1Ideal.Frame
public import proofs.«01_k».proof.Proof.Gen.InDwLayer1RefIdeal
public import proofs.«01_k».proof.Proof.Gen.InDwLayer1RefIdeal.Run
public import proofs.«01_k».proof.Proof.Gen.InDwLayer1RefIdeal.Read
public import proofs.«01_k».proof.Proof.Mm.InDwLayer1
public import proofs.«01_k».proof.Proof.Gen.FfnInDwLayer1
public import proofs.«01_k».proof.Proof.Gen.FfnInDwLayer1.Frame
public import proofs.«01_k».proof.Proof.Gen.FfnInDwLayer1Ideal
public import proofs.«01_k».proof.Proof.Gen.FfnInDwLayer1Ideal.Frame
public import proofs.«01_k».proof.Proof.Gen.FfnInDwLayer1RefIdeal
public import proofs.«01_k».proof.Proof.Gen.FfnInDwLayer1RefIdeal.Run
public import proofs.«01_k».proof.Proof.Gen.FfnInDwLayer1RefIdeal.Read
public import proofs.«01_k».proof.Proof.Mm.FfnInDwLayer1
public import proofs.«01_k».proof.Proof.Gen.FfnOutDwLayer1
public import proofs.«01_k».proof.Proof.Gen.FfnOutDwLayer1.Frame
public import proofs.«01_k».proof.Proof.Gen.FfnOutDwLayer1Ideal
public import proofs.«01_k».proof.Proof.Gen.FfnOutDwLayer1Ideal.Frame
public import proofs.«01_k».proof.Proof.Gen.FfnOutDwLayer1RefIdeal
public import proofs.«01_k».proof.Proof.Gen.FfnOutDwLayer1RefIdeal.Run
public import proofs.«01_k».proof.Proof.Gen.FfnOutDwLayer1RefIdeal.Read
public import proofs.«01_k».proof.Proof.Mm.FfnOutDwLayer1
public import proofs.«01_k».proof.Proof.Gen.InDwLayer2
public import proofs.«01_k».proof.Proof.Gen.InDwLayer2.Frame
public import proofs.«01_k».proof.Proof.Gen.InDwLayer2Ideal
public import proofs.«01_k».proof.Proof.Gen.InDwLayer2Ideal.Frame
public import proofs.«01_k».proof.Proof.Gen.InDwLayer2RefIdeal
public import proofs.«01_k».proof.Proof.Gen.InDwLayer2RefIdeal.Run
public import proofs.«01_k».proof.Proof.Gen.InDwLayer2RefIdeal.Read
public import proofs.«01_k».proof.Proof.Mm.InDwLayer2
public import proofs.«01_k».proof.Proof.Gen.FfnInDwLayer2
public import proofs.«01_k».proof.Proof.Gen.FfnInDwLayer2.Frame
public import proofs.«01_k».proof.Proof.Gen.FfnInDwLayer2Ideal
public import proofs.«01_k».proof.Proof.Gen.FfnInDwLayer2Ideal.Frame
public import proofs.«01_k».proof.Proof.Gen.FfnInDwLayer2RefIdeal
public import proofs.«01_k».proof.Proof.Gen.FfnInDwLayer2RefIdeal.Run
public import proofs.«01_k».proof.Proof.Gen.FfnInDwLayer2RefIdeal.Read
public import proofs.«01_k».proof.Proof.Mm.FfnInDwLayer2
public import proofs.«01_k».proof.Proof.Gen.FfnOutDwLayer2
public import proofs.«01_k».proof.Proof.Gen.FfnOutDwLayer2.Frame
public import proofs.«01_k».proof.Proof.Gen.FfnOutDwLayer2Ideal
public import proofs.«01_k».proof.Proof.Gen.FfnOutDwLayer2Ideal.Frame
public import proofs.«01_k».proof.Proof.Gen.FfnOutDwLayer2RefIdeal
public import proofs.«01_k».proof.Proof.Gen.FfnOutDwLayer2RefIdeal.Run
public import proofs.«01_k».proof.Proof.Gen.FfnOutDwLayer2RefIdeal.Read
public import proofs.«01_k».proof.Proof.Mm.FfnOutDwLayer2
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

theorem quiescent_ffnInDx : quiescent_FfnInDx (hFfnInDx := Cert.FfnInDx.Gen.facts) := fun m ρ _ => Cert.FfnInDx.Gen.frame m ρ

theorem quiescent_ffnInDx_ideal : quiescent_FfnInDxIdeal (hFfnInDxIdeal := Cert.FfnInDxIdeal.Gen.facts) := fun m ρ _ => Cert.FfnInDxIdeal.Gen.frame m ρ

theorem quiescent_ffnInDx_reference : quiescent_FfnInDxRefIdeal (hFfnInDxRefIdeal := Cert.FfnInDxRefIdeal.Gen.facts) := fun m ρ _ =>
  (θ_run _ _ _).mono (fun r h => ⟨fun c => (h c).2, sem_eq_zero_of_no_sems rfl r.2⟩) (Cert.FfnInDxRefIdeal.Value.run (F := Ideal) m ρ)

theorem algebraic_ffnInDx : algebraic_FfnInDxIdeal_FfnInDxRefIdeal (hFfnInDxIdeal := Cert.FfnInDxIdeal.Gen.facts)
    (hFfnInDxRefIdeal := Cert.FfnInDxRefIdeal.Gen.facts) := by
  intro m ρ m' ρ' _ hargs
  refine ⟨Cert.FfnInDxIdeal.Hand.res m, Cert.FfnInDxIdeal.Hand.run m ρ,
    (θ_run _ _ _).mono (fun r h c => ⟨(h c).1.trans ?_, (h c).2⟩) (Cert.FfnInDxRefIdeal.Value.run (F := Ideal) m' ρ')⟩
  obtain ⟨-, h1, h2⟩ := hargs c
  rw [Cert.FfnInDxIdeal.Hand.res_eq m c, Cert.FfnInDxRefIdeal.Read.val_main_v3_eq, h1, h2]

theorem quiescent_ffnInDw : quiescent_FfnInDw (hFfnInDw := Cert.FfnInDw.Gen.facts) := fun m ρ _ => Cert.FfnInDw.Gen.frame m ρ

theorem quiescent_ffnInDw_ideal : quiescent_FfnInDwIdeal (hFfnInDwIdeal := Cert.FfnInDwIdeal.Gen.facts) := fun m ρ _ => Cert.FfnInDwIdeal.Gen.frame m ρ

theorem quiescent_ffnInDw_reference : quiescent_FfnInDwRefIdeal (hFfnInDwRefIdeal := Cert.FfnInDwRefIdeal.Gen.facts) := fun m ρ _ =>
  (θ_run _ _ _).mono (fun r h => ⟨fun c => (h c).2, sem_eq_zero_of_no_sems rfl r.2⟩) (Cert.FfnInDwRefIdeal.Value.run (F := Ideal) m ρ)

theorem algebraic_ffnInDw : algebraic_FfnInDwIdeal_FfnInDwRefIdeal (hFfnInDwIdeal := Cert.FfnInDwIdeal.Gen.facts)
    (hFfnInDwRefIdeal := Cert.FfnInDwRefIdeal.Gen.facts) := by
  intro m ρ m' ρ' _ hargs
  refine ⟨Cert.FfnInDwIdeal.Hand.res m, Cert.FfnInDwIdeal.Hand.run m ρ,
    (θ_run _ _ _).mono (fun r h c => ⟨(h c).1.trans ?_, (h c).2⟩) (Cert.FfnInDwRefIdeal.Value.run (F := Ideal) m' ρ')⟩
  obtain ⟨h0, -, h2, h3⟩ := hargs c
  rw [Cert.FfnInDwIdeal.Hand.res_eq m c, Cert.FfnInDwRefIdeal.Read.val_main_v7_eq, h0, h2, h3]

theorem quiescent_ffnOutDx : quiescent_FfnOutDx (hFfnOutDx := Cert.FfnOutDx.Gen.facts) := fun m ρ _ => Cert.FfnOutDx.Gen.frame m ρ

theorem quiescent_ffnOutDx_ideal : quiescent_FfnOutDxIdeal (hFfnOutDxIdeal := Cert.FfnOutDxIdeal.Gen.facts) := fun m ρ _ => Cert.FfnOutDxIdeal.Gen.frame m ρ

theorem quiescent_ffnOutDx_reference : quiescent_FfnOutDxRefIdeal (hFfnOutDxRefIdeal := Cert.FfnOutDxRefIdeal.Gen.facts) := fun m ρ _ =>
  (θ_run _ _ _).mono (fun r h => ⟨fun c => (h c).2, sem_eq_zero_of_no_sems rfl r.2⟩) (Cert.FfnOutDxRefIdeal.Value.run (F := Ideal) m ρ)

theorem algebraic_ffnOutDx : algebraic_FfnOutDxIdeal_FfnOutDxRefIdeal (hFfnOutDxIdeal := Cert.FfnOutDxIdeal.Gen.facts)
    (hFfnOutDxRefIdeal := Cert.FfnOutDxRefIdeal.Gen.facts) := by
  intro m ρ m' ρ' _ hargs
  refine ⟨Cert.FfnOutDxIdeal.Hand.res m, Cert.FfnOutDxIdeal.Hand.run m ρ,
    (θ_run _ _ _).mono (fun r h c => ⟨(h c).1.trans ?_, (h c).2⟩) (Cert.FfnOutDxRefIdeal.Value.run (F := Ideal) m' ρ')⟩
  obtain ⟨-, h1, h2⟩ := hargs c
  rw [Cert.FfnOutDxIdeal.Hand.res_eq m c, Cert.FfnOutDxRefIdeal.Read.val_main_v3_eq, h1, h2]

theorem quiescent_ffnOutDw : quiescent_FfnOutDw (hFfnOutDw := Cert.FfnOutDw.Gen.facts) := fun m ρ _ => Cert.FfnOutDw.Gen.frame m ρ

theorem quiescent_ffnOutDw_ideal : quiescent_FfnOutDwIdeal (hFfnOutDwIdeal := Cert.FfnOutDwIdeal.Gen.facts) := fun m ρ _ => Cert.FfnOutDwIdeal.Gen.frame m ρ

theorem quiescent_ffnOutDw_reference : quiescent_FfnOutDwRefIdeal (hFfnOutDwRefIdeal := Cert.FfnOutDwRefIdeal.Gen.facts) := fun m ρ _ =>
  (θ_run _ _ _).mono (fun r h => ⟨fun c => (h c).2, sem_eq_zero_of_no_sems rfl r.2⟩) (Cert.FfnOutDwRefIdeal.Value.run (F := Ideal) m ρ)

theorem algebraic_ffnOutDw : algebraic_FfnOutDwIdeal_FfnOutDwRefIdeal (hFfnOutDwIdeal := Cert.FfnOutDwIdeal.Gen.facts)
    (hFfnOutDwRefIdeal := Cert.FfnOutDwRefIdeal.Gen.facts) := by
  intro m ρ m' ρ' _ hargs
  refine ⟨Cert.FfnOutDwIdeal.Hand.res m, Cert.FfnOutDwIdeal.Hand.run m ρ,
    (θ_run _ _ _).mono (fun r h c => ⟨(h c).1.trans ?_, (h c).2⟩) (Cert.FfnOutDwRefIdeal.Value.run (F := Ideal) m' ρ')⟩
  obtain ⟨h0, -, h2, h3⟩ := hargs c
  rw [Cert.FfnOutDwIdeal.Hand.res_eq m c, Cert.FfnOutDwRefIdeal.Read.val_main_v7_eq, h0, h2, h3]

theorem quiescent_inDx : quiescent_InDx (hInDx := Cert.InDx.Gen.facts) := fun m ρ _ => Cert.InDx.Gen.frame m ρ

theorem quiescent_inDx_ideal : quiescent_InDxIdeal (hInDxIdeal := Cert.InDxIdeal.Gen.facts) := fun m ρ _ => Cert.InDxIdeal.Gen.frame m ρ

theorem quiescent_inDx_reference : quiescent_InDxRefIdeal (hInDxRefIdeal := Cert.InDxRefIdeal.Gen.facts) := fun m ρ _ =>
  (θ_run _ _ _).mono (fun r h => ⟨fun c => (h c).2, sem_eq_zero_of_no_sems rfl r.2⟩) (Cert.InDxRefIdeal.Value.run (F := Ideal) m ρ)

theorem algebraic_inDx : algebraic_InDxIdeal_InDxRefIdeal (hInDxIdeal := Cert.InDxIdeal.Gen.facts)
    (hInDxRefIdeal := Cert.InDxRefIdeal.Gen.facts) := by
  intro m ρ m' ρ' _ hargs
  refine ⟨Cert.InDxIdeal.Hand.res m, Cert.InDxIdeal.Hand.run m ρ,
    (θ_run _ _ _).mono (fun r h c => ⟨(h c).1.trans ?_, (h c).2⟩) (Cert.InDxRefIdeal.Value.run (F := Ideal) m' ρ')⟩
  obtain ⟨-, h1, h2⟩ := hargs c
  rw [Cert.InDxIdeal.Hand.res_eq m c, Cert.InDxRefIdeal.Read.val_main_v3_eq, h1, h2]

theorem quiescent_inDw : quiescent_InDw (hInDw := Cert.InDw.Gen.facts) := fun m ρ _ => Cert.InDw.Gen.frame m ρ

theorem quiescent_inDw_ideal : quiescent_InDwIdeal (hInDwIdeal := Cert.InDwIdeal.Gen.facts) := fun m ρ _ => Cert.InDwIdeal.Gen.frame m ρ

theorem quiescent_inDw_reference : quiescent_InDwRefIdeal (hInDwRefIdeal := Cert.InDwRefIdeal.Gen.facts) := fun m ρ _ =>
  (θ_run _ _ _).mono (fun r h => ⟨fun c => (h c).2, sem_eq_zero_of_no_sems rfl r.2⟩) (Cert.InDwRefIdeal.Value.run (F := Ideal) m ρ)

theorem algebraic_inDw : algebraic_InDwIdeal_InDwRefIdeal (hInDwIdeal := Cert.InDwIdeal.Gen.facts)
    (hInDwRefIdeal := Cert.InDwRefIdeal.Gen.facts) := by
  intro m ρ m' ρ' _ hargs
  refine ⟨Cert.InDwIdeal.Hand.res m, Cert.InDwIdeal.Hand.run m ρ,
    (θ_run _ _ _).mono (fun r h c => ⟨(h c).1.trans ?_, (h c).2⟩) (Cert.InDwRefIdeal.Value.run (F := Ideal) m' ρ')⟩
  obtain ⟨h0, -, h2, h3⟩ := hargs c
  rw [Cert.InDwIdeal.Hand.res_eq m c, Cert.InDwRefIdeal.Read.val_main_v7_eq, h0, h2, h3]

theorem quiescent_ffnIn : quiescent_FfnIn (hFfnIn := Cert.FfnIn.Gen.facts) := fun m ρ _ => Cert.FfnIn.Gen.frame m ρ

theorem quiescent_ffnIn_ideal : quiescent_FfnInIdeal (hFfnInIdeal := Cert.FfnInIdeal.Gen.facts) := fun m ρ _ => Cert.FfnInIdeal.Gen.frame m ρ

theorem quiescent_ffnIn_reference : quiescent_FfnInRefIdeal (hFfnInRefIdeal := Cert.FfnInRefIdeal.Gen.facts) := fun m ρ _ =>
  (θ_run _ _ _).mono (fun r h => ⟨fun c => (h c).2, sem_eq_zero_of_no_sems rfl r.2⟩) (Cert.FfnInRefIdeal.Value.run (F := Ideal) m ρ)

theorem algebraic_ffnIn : algebraic_FfnInIdeal_FfnInRefIdeal (hFfnInIdeal := Cert.FfnInIdeal.Gen.facts)
    (hFfnInRefIdeal := Cert.FfnInRefIdeal.Gen.facts) := by
  intro m ρ m' ρ' _ hargs
  refine ⟨Cert.FfnInIdeal.Hand.res m, Cert.FfnInIdeal.Hand.run m ρ,
    (θ_run _ _ _).mono (fun r h c => ⟨(h c).1.trans ?_, (h c).2⟩) (Cert.FfnInRefIdeal.Value.run (F := Ideal) m' ρ')⟩
  obtain ⟨h0, h1⟩ := hargs c
  rw [Cert.FfnInIdeal.Hand.res_eq m c, Cert.FfnInRefIdeal.Read.val_main_v0_eq, h0, h1]

theorem quiescent_ffnOut : quiescent_FfnOut (hFfnOut := Cert.FfnOut.Gen.facts) := fun m ρ _ => Cert.FfnOut.Gen.frame m ρ

theorem quiescent_ffnOut_ideal : quiescent_FfnOutIdeal (hFfnOutIdeal := Cert.FfnOutIdeal.Gen.facts) := fun m ρ _ => Cert.FfnOutIdeal.Gen.frame m ρ

theorem quiescent_ffnOut_reference : quiescent_FfnOutRefIdeal (hFfnOutRefIdeal := Cert.FfnOutRefIdeal.Gen.facts) := fun m ρ _ =>
  (θ_run _ _ _).mono (fun r h => ⟨fun c => (h c).2, sem_eq_zero_of_no_sems rfl r.2⟩) (Cert.FfnOutRefIdeal.Value.run (F := Ideal) m ρ)

theorem algebraic_ffnOut : algebraic_FfnOutIdeal_FfnOutRefIdeal (hFfnOutIdeal := Cert.FfnOutIdeal.Gen.facts)
    (hFfnOutRefIdeal := Cert.FfnOutRefIdeal.Gen.facts) := by
  intro m ρ m' ρ' _ hargs
  refine ⟨Cert.FfnOutIdeal.Hand.res m, Cert.FfnOutIdeal.Hand.run m ρ,
    (θ_run _ _ _).mono (fun r h c => ⟨(h c).1.trans ?_, (h c).2⟩) (Cert.FfnOutRefIdeal.Value.run (F := Ideal) m' ρ')⟩
  obtain ⟨h0, h1, h2⟩ := hargs c
  rw [Cert.FfnOutIdeal.Hand.res_eq m c, Cert.FfnOutRefIdeal.Read.val_main_v1_eq, h0, h1, h2]

theorem quiescent_inWide : quiescent_InWide (hInWide := Cert.InWide.Gen.facts) := fun m ρ _ => Cert.InWide.Gen.frame m ρ

theorem quiescent_inWide_ideal : quiescent_InWideIdeal (hInWideIdeal := Cert.InWideIdeal.Gen.facts) := fun m ρ _ => Cert.InWideIdeal.Gen.frame m ρ

theorem quiescent_inWide_reference : quiescent_InWideRefIdeal (hInWideRefIdeal := Cert.InWideRefIdeal.Gen.facts) := fun m ρ _ =>
  (θ_run _ _ _).mono (fun r h => ⟨fun c => (h c).2, sem_eq_zero_of_no_sems rfl r.2⟩) (Cert.InWideRefIdeal.Value.run (F := Ideal) m ρ)

theorem algebraic_inWide : algebraic_InWideIdeal_InWideRefIdeal (hInWideIdeal := Cert.InWideIdeal.Gen.facts)
    (hInWideRefIdeal := Cert.InWideRefIdeal.Gen.facts) := by
  intro m ρ m' ρ' _ hargs
  refine ⟨Cert.InWideIdeal.Hand.res m, Cert.InWideIdeal.Hand.run m ρ,
    (θ_run _ _ _).mono (fun r h c => ⟨(h c).1.trans ?_, (h c).2⟩) (Cert.InWideRefIdeal.Value.run (F := Ideal) m' ρ')⟩
  obtain ⟨h0, h1⟩ := hargs c
  rw [Cert.InWideIdeal.Hand.res_eq m c, Cert.InWideRefIdeal.Read.val_main_v0_eq, h0, h1]

theorem quiescent_inGate : quiescent_InGate (hInGate := Cert.InGate.Gen.facts) := fun m ρ _ => Cert.InGate.Gen.frame m ρ

theorem quiescent_inGate_ideal : quiescent_InGateIdeal (hInGateIdeal := Cert.InGateIdeal.Gen.facts) := fun m ρ _ => Cert.InGateIdeal.Gen.frame m ρ

theorem quiescent_inGate_reference : quiescent_InGateRefIdeal (hInGateRefIdeal := Cert.InGateRefIdeal.Gen.facts) := fun m ρ _ =>
  (θ_run _ _ _).mono (fun r h => ⟨fun c => (h c).2, sem_eq_zero_of_no_sems rfl r.2⟩) (Cert.InGateRefIdeal.Value.run (F := Ideal) m ρ)

theorem algebraic_inGate : algebraic_InGateIdeal_InGateRefIdeal (hInGateIdeal := Cert.InGateIdeal.Gen.facts)
    (hInGateRefIdeal := Cert.InGateRefIdeal.Gen.facts) := by
  intro m ρ m' ρ' _ hargs
  refine ⟨Cert.InGateIdeal.Hand.res m, Cert.InGateIdeal.Hand.run m ρ,
    (θ_run _ _ _).mono (fun r h c => ⟨(h c).1.trans ?_, (h c).2⟩) (Cert.InGateRefIdeal.Value.run (F := Ideal) m' ρ')⟩
  obtain ⟨h0, h1⟩ := hargs c
  rw [Cert.InGateIdeal.Hand.res_eq m c, Cert.InGateRefIdeal.Read.val_main_v0_eq, h0, h1]

theorem quiescent_squareDx : quiescent_SquareDx (hSquareDx := Cert.SquareDx.Gen.facts) := fun m ρ _ => Cert.SquareDx.Gen.frame m ρ

theorem quiescent_squareDx_ideal : quiescent_SquareDxIdeal (hSquareDxIdeal := Cert.SquareDxIdeal.Gen.facts) := fun m ρ _ => Cert.SquareDxIdeal.Gen.frame m ρ

theorem quiescent_squareDx_reference : quiescent_SquareDxRefIdeal (hSquareDxRefIdeal := Cert.SquareDxRefIdeal.Gen.facts) := fun m ρ _ =>
  (θ_run _ _ _).mono (fun r h => ⟨fun c => (h c).2, sem_eq_zero_of_no_sems rfl r.2⟩) (Cert.SquareDxRefIdeal.Value.run (F := Ideal) m ρ)

theorem algebraic_squareDx : algebraic_SquareDxIdeal_SquareDxRefIdeal (hSquareDxIdeal := Cert.SquareDxIdeal.Gen.facts)
    (hSquareDxRefIdeal := Cert.SquareDxRefIdeal.Gen.facts) := by
  intro m ρ m' ρ' _ hargs
  refine ⟨Cert.SquareDxIdeal.Hand.res m, Cert.SquareDxIdeal.Hand.run m ρ,
    (θ_run _ _ _).mono (fun r h c => ⟨(h c).1.trans ?_, (h c).2⟩) (Cert.SquareDxRefIdeal.Value.run (F := Ideal) m' ρ')⟩
  obtain ⟨-, h1, h2⟩ := hargs c
  rw [Cert.SquareDxIdeal.Hand.res_eq m c, Cert.SquareDxRefIdeal.Read.val_main_v3_eq, h1, h2]

theorem quiescent_squareDw : quiescent_SquareDw (hSquareDw := Cert.SquareDw.Gen.facts) := fun m ρ _ => Cert.SquareDw.Gen.frame m ρ

theorem quiescent_squareDw_ideal : quiescent_SquareDwIdeal (hSquareDwIdeal := Cert.SquareDwIdeal.Gen.facts) := fun m ρ _ => Cert.SquareDwIdeal.Gen.frame m ρ

theorem quiescent_squareDw_reference : quiescent_SquareDwRefIdeal (hSquareDwRefIdeal := Cert.SquareDwRefIdeal.Gen.facts) := fun m ρ _ =>
  (θ_run _ _ _).mono (fun r h => ⟨fun c => (h c).2, sem_eq_zero_of_no_sems rfl r.2⟩) (Cert.SquareDwRefIdeal.Value.run (F := Ideal) m ρ)

theorem algebraic_squareDw : algebraic_SquareDwIdeal_SquareDwRefIdeal (hSquareDwIdeal := Cert.SquareDwIdeal.Gen.facts)
    (hSquareDwRefIdeal := Cert.SquareDwRefIdeal.Gen.facts) := by
  intro m ρ m' ρ' _ hargs
  refine ⟨Cert.SquareDwIdeal.Hand.res m, Cert.SquareDwIdeal.Hand.run m ρ,
    (θ_run _ _ _).mono (fun r h c => ⟨(h c).1.trans ?_, (h c).2⟩) (Cert.SquareDwRefIdeal.Value.run (F := Ideal) m' ρ')⟩
  obtain ⟨h0, -, h2, h3⟩ := hargs c
  rw [Cert.SquareDwIdeal.Hand.res_eq m c, Cert.SquareDwRefIdeal.Read.val_main_v7_eq, h0, h2, h3]

theorem quiescent_residualDx : quiescent_ResidualDx (hResidualDx := Cert.ResidualDx.Gen.facts) := fun m ρ _ => Cert.ResidualDx.Gen.frame m ρ

theorem quiescent_residualDx_ideal : quiescent_ResidualDxIdeal (hResidualDxIdeal := Cert.ResidualDxIdeal.Gen.facts) := fun m ρ _ => Cert.ResidualDxIdeal.Gen.frame m ρ

theorem quiescent_residualDx_reference : quiescent_ResidualDxRefIdeal (hResidualDxRefIdeal := Cert.ResidualDxRefIdeal.Gen.facts) := fun m ρ _ =>
  (θ_run _ _ _).mono (fun r h => ⟨fun c => (h c).2, sem_eq_zero_of_no_sems rfl r.2⟩) (Cert.ResidualDxRefIdeal.Value.run (F := Ideal) m ρ)

theorem algebraic_residualDx : algebraic_ResidualDxIdeal_ResidualDxRefIdeal (hResidualDxIdeal := Cert.ResidualDxIdeal.Gen.facts)
    (hResidualDxRefIdeal := Cert.ResidualDxRefIdeal.Gen.facts) := by
  intro m ρ m' ρ' _ hargs
  refine ⟨Cert.ResidualDxIdeal.Hand.res m, Cert.ResidualDxIdeal.Hand.run m ρ,
    (θ_run _ _ _).mono (fun r h c => ⟨(h c).1.trans ?_, (h c).2⟩) (Cert.ResidualDxRefIdeal.Value.run (F := Ideal) m' ρ')⟩
  obtain ⟨-, h1, h2⟩ := hargs c
  rw [Cert.ResidualDxIdeal.Hand.res_eq m c, Cert.ResidualDxRefIdeal.Read.val_main_v3_eq, h1, h2]

theorem quiescent_residualDw : quiescent_ResidualDw (hResidualDw := Cert.ResidualDw.Gen.facts) := fun m ρ _ => Cert.ResidualDw.Gen.frame m ρ

theorem quiescent_residualDw_ideal : quiescent_ResidualDwIdeal (hResidualDwIdeal := Cert.ResidualDwIdeal.Gen.facts) := fun m ρ _ => Cert.ResidualDwIdeal.Gen.frame m ρ

theorem quiescent_residualDw_reference : quiescent_ResidualDwRefIdeal (hResidualDwRefIdeal := Cert.ResidualDwRefIdeal.Gen.facts) := fun m ρ _ =>
  (θ_run _ _ _).mono (fun r h => ⟨fun c => (h c).2, sem_eq_zero_of_no_sems rfl r.2⟩) (Cert.ResidualDwRefIdeal.Value.run (F := Ideal) m ρ)

theorem algebraic_residualDw : algebraic_ResidualDwIdeal_ResidualDwRefIdeal (hResidualDwIdeal := Cert.ResidualDwIdeal.Gen.facts)
    (hResidualDwRefIdeal := Cert.ResidualDwRefIdeal.Gen.facts) := by
  intro m ρ m' ρ' _ hargs
  refine ⟨Cert.ResidualDwIdeal.Hand.res m, Cert.ResidualDwIdeal.Hand.run m ρ,
    (θ_run _ _ _).mono (fun r h c => ⟨(h c).1.trans ?_, (h c).2⟩) (Cert.ResidualDwRefIdeal.Value.run (F := Ideal) m' ρ')⟩
  obtain ⟨h0, -, h2, h3⟩ := hargs c
  rw [Cert.ResidualDwIdeal.Hand.res_eq m c, Cert.ResidualDwRefIdeal.Read.val_main_v7_eq, h0, h2, h3]

theorem quiescent_square : quiescent_Square (hSquare := Cert.Square.Gen.facts) := fun m ρ _ => Cert.Square.Gen.frame m ρ

theorem quiescent_square_ideal : quiescent_SquareIdeal (hSquareIdeal := Cert.SquareIdeal.Gen.facts) := fun m ρ _ => Cert.SquareIdeal.Gen.frame m ρ

theorem quiescent_square_reference : quiescent_SquareRefIdeal (hSquareRefIdeal := Cert.SquareRefIdeal.Gen.facts) := fun m ρ _ =>
  (θ_run _ _ _).mono (fun r h => ⟨fun c => (h c).2, sem_eq_zero_of_no_sems rfl r.2⟩) (Cert.SquareRefIdeal.Value.run (F := Ideal) m ρ)

theorem algebraic_square : algebraic_SquareIdeal_SquareRefIdeal (hSquareIdeal := Cert.SquareIdeal.Gen.facts)
    (hSquareRefIdeal := Cert.SquareRefIdeal.Gen.facts) := by
  intro m ρ m' ρ' _ hargs
  refine ⟨Cert.SquareIdeal.Hand.res m, Cert.SquareIdeal.Hand.run m ρ,
    (θ_run _ _ _).mono (fun r h c => ⟨(h c).1.trans ?_, (h c).2⟩) (Cert.SquareRefIdeal.Value.run (F := Ideal) m' ρ')⟩
  obtain ⟨h0, h1⟩ := hargs c
  rw [Cert.SquareIdeal.Hand.res_eq m c, Cert.SquareRefIdeal.Read.val_main_v0_eq, h0, h1]

theorem quiescent_residual : quiescent_Residual (hResidual := Cert.Residual.Gen.facts) := fun m ρ _ => Cert.Residual.Gen.frame m ρ

theorem quiescent_residual_ideal : quiescent_ResidualIdeal (hResidualIdeal := Cert.ResidualIdeal.Gen.facts) := fun m ρ _ => Cert.ResidualIdeal.Gen.frame m ρ

theorem quiescent_residual_reference : quiescent_ResidualRefIdeal (hResidualRefIdeal := Cert.ResidualRefIdeal.Gen.facts) := fun m ρ _ =>
  (θ_run _ _ _).mono (fun r h => ⟨fun c => (h c).2, sem_eq_zero_of_no_sems rfl r.2⟩) (Cert.ResidualRefIdeal.Value.run (F := Ideal) m ρ)

theorem algebraic_residual : algebraic_ResidualIdeal_ResidualRefIdeal (hResidualIdeal := Cert.ResidualIdeal.Gen.facts)
    (hResidualRefIdeal := Cert.ResidualRefIdeal.Gen.facts) := by
  intro m ρ m' ρ' _ hargs
  refine ⟨Cert.ResidualIdeal.Hand.res m, Cert.ResidualIdeal.Hand.run m ρ,
    (θ_run _ _ _).mono (fun r h c => ⟨(h c).1.trans ?_, (h c).2⟩) (Cert.ResidualRefIdeal.Value.run (F := Ideal) m' ρ')⟩
  obtain ⟨h0, h1, h2⟩ := hargs c
  rw [Cert.ResidualIdeal.Hand.res_eq m c, Cert.ResidualRefIdeal.Read.val_main_v1_eq, h0, h1, h2]

theorem quiescent_mlaOutDw : quiescent_MlaOutDw (hMlaOutDw := Cert.MlaOutDw.Gen.facts) := fun m ρ _ => Cert.MlaOutDw.Gen.frame m ρ

theorem quiescent_mlaOutDw_ideal : quiescent_MlaOutDwIdeal (hMlaOutDwIdeal := Cert.MlaOutDwIdeal.Gen.facts) := fun m ρ _ => Cert.MlaOutDwIdeal.Gen.frame m ρ

theorem quiescent_mlaOutDw_reference : quiescent_MlaOutDwRefIdeal (hMlaOutDwRefIdeal := Cert.MlaOutDwRefIdeal.Gen.facts) := fun m ρ _ =>
  (θ_run _ _ _).mono (fun r h => ⟨fun c => (h c).2, sem_eq_zero_of_no_sems rfl r.2⟩) (Cert.MlaOutDwRefIdeal.Value.run (F := Ideal) m ρ)

theorem algebraic_mlaOutDw : algebraic_MlaOutDwIdeal_MlaOutDwRefIdeal (hMlaOutDwIdeal := Cert.MlaOutDwIdeal.Gen.facts)
    (hMlaOutDwRefIdeal := Cert.MlaOutDwRefIdeal.Gen.facts) := by
  intro m ρ m' ρ' _ hargs
  refine ⟨Cert.MlaOutDwIdeal.Hand.res m, Cert.MlaOutDwIdeal.Hand.run m ρ,
    (θ_run _ _ _).mono (fun r h c => ⟨(h c).1.trans ?_, (h c).2⟩) (Cert.MlaOutDwRefIdeal.Value.run (F := Ideal) m' ρ')⟩
  obtain ⟨h0, -, h2, h3⟩ := hargs c
  rw [Cert.MlaOutDwIdeal.Hand.res_eq m c, Cert.MlaOutDwRefIdeal.Read.val_main_v7_eq, h0, h2, h3]

theorem quiescent_mlaOut : quiescent_MlaOut (hMlaOut := Cert.MlaOut.Gen.facts) := fun m ρ _ => Cert.MlaOut.Gen.frame m ρ

theorem quiescent_mlaOut_ideal : quiescent_MlaOutIdeal (hMlaOutIdeal := Cert.MlaOutIdeal.Gen.facts) := fun m ρ _ => Cert.MlaOutIdeal.Gen.frame m ρ

theorem quiescent_mlaOut_reference : quiescent_MlaOutRefIdeal (hMlaOutRefIdeal := Cert.MlaOutRefIdeal.Gen.facts) := fun m ρ _ =>
  (θ_run _ _ _).mono (fun r h => ⟨fun c => (h c).2, sem_eq_zero_of_no_sems rfl r.2⟩) (Cert.MlaOutRefIdeal.Value.run (F := Ideal) m ρ)

theorem algebraic_mlaOut : algebraic_MlaOutIdeal_MlaOutRefIdeal (hMlaOutIdeal := Cert.MlaOutIdeal.Gen.facts)
    (hMlaOutRefIdeal := Cert.MlaOutRefIdeal.Gen.facts) := by
  intro m ρ m' ρ' _ hargs
  refine ⟨Cert.MlaOutIdeal.Hand.res m, Cert.MlaOutIdeal.Hand.run m ρ,
    (θ_run _ _ _).mono (fun r h c => ⟨(h c).1.trans ?_, (h c).2⟩) (Cert.MlaOutRefIdeal.Value.run (F := Ideal) m' ρ')⟩
  obtain ⟨h0, h1⟩ := hargs c
  rw [Cert.MlaOutIdeal.Hand.res_eq m c, Cert.MlaOutRefIdeal.Read.val_main_v0_eq, h0, h1]

theorem quiescent_qbDx : quiescent_QbDx (hQbDx := Cert.QbDx.Gen.facts) := fun m ρ _ => Cert.QbDx.Gen.frame m ρ

theorem quiescent_qbDx_ideal : quiescent_QbDxIdeal (hQbDxIdeal := Cert.QbDxIdeal.Gen.facts) := fun m ρ _ => Cert.QbDxIdeal.Gen.frame m ρ

theorem quiescent_qbDx_reference : quiescent_QbDxRefIdeal (hQbDxRefIdeal := Cert.QbDxRefIdeal.Gen.facts) := fun m ρ _ =>
  (θ_run _ _ _).mono (fun r h => ⟨fun c => (h c).2, sem_eq_zero_of_no_sems rfl r.2⟩) (Cert.QbDxRefIdeal.Value.run (F := Ideal) m ρ)

theorem algebraic_qbDx : algebraic_QbDxIdeal_QbDxRefIdeal (hQbDxIdeal := Cert.QbDxIdeal.Gen.facts)
    (hQbDxRefIdeal := Cert.QbDxRefIdeal.Gen.facts) := by
  intro m ρ m' ρ' _ hargs
  refine ⟨Cert.QbDxIdeal.Hand.res m, Cert.QbDxIdeal.Hand.run m ρ,
    (θ_run _ _ _).mono (fun r h c => ⟨(h c).1.trans ?_, (h c).2⟩) (Cert.QbDxRefIdeal.Value.run (F := Ideal) m' ρ')⟩
  obtain ⟨-, h1, h2⟩ := hargs c
  rw [Cert.QbDxIdeal.Hand.res_eq m c, Cert.QbDxRefIdeal.Read.val_main_v3_eq, h1, h2]

theorem quiescent_qbDw : quiescent_QbDw (hQbDw := Cert.QbDw.Gen.facts) := fun m ρ _ => Cert.QbDw.Gen.frame m ρ

theorem quiescent_qbDw_ideal : quiescent_QbDwIdeal (hQbDwIdeal := Cert.QbDwIdeal.Gen.facts) := fun m ρ _ => Cert.QbDwIdeal.Gen.frame m ρ

theorem quiescent_qbDw_reference : quiescent_QbDwRefIdeal (hQbDwRefIdeal := Cert.QbDwRefIdeal.Gen.facts) := fun m ρ _ =>
  (θ_run _ _ _).mono (fun r h => ⟨fun c => (h c).2, sem_eq_zero_of_no_sems rfl r.2⟩) (Cert.QbDwRefIdeal.Value.run (F := Ideal) m ρ)

theorem algebraic_qbDw : algebraic_QbDwIdeal_QbDwRefIdeal (hQbDwIdeal := Cert.QbDwIdeal.Gen.facts)
    (hQbDwRefIdeal := Cert.QbDwRefIdeal.Gen.facts) := by
  intro m ρ m' ρ' _ hargs
  refine ⟨Cert.QbDwIdeal.Hand.res m, Cert.QbDwIdeal.Hand.run m ρ,
    (θ_run _ _ _).mono (fun r h c => ⟨(h c).1.trans ?_, (h c).2⟩) (Cert.QbDwRefIdeal.Value.run (F := Ideal) m' ρ')⟩
  obtain ⟨h0, -, h2, h3⟩ := hargs c
  rw [Cert.QbDwIdeal.Hand.res_eq m c, Cert.QbDwRefIdeal.Read.val_main_v7_eq, h0, h2, h3]

theorem quiescent_kvbDx : quiescent_KvbDx (hKvbDx := Cert.KvbDx.Gen.facts) := fun m ρ _ => Cert.KvbDx.Gen.frame m ρ

theorem quiescent_kvbDx_ideal : quiescent_KvbDxIdeal (hKvbDxIdeal := Cert.KvbDxIdeal.Gen.facts) := fun m ρ _ => Cert.KvbDxIdeal.Gen.frame m ρ

theorem quiescent_kvbDx_reference : quiescent_KvbDxRefIdeal (hKvbDxRefIdeal := Cert.KvbDxRefIdeal.Gen.facts) := fun m ρ _ =>
  (θ_run _ _ _).mono (fun r h => ⟨fun c => (h c).2, sem_eq_zero_of_no_sems rfl r.2⟩) (Cert.KvbDxRefIdeal.Value.run (F := Ideal) m ρ)

theorem algebraic_kvbDx : algebraic_KvbDxIdeal_KvbDxRefIdeal (hKvbDxIdeal := Cert.KvbDxIdeal.Gen.facts)
    (hKvbDxRefIdeal := Cert.KvbDxRefIdeal.Gen.facts) := by
  intro m ρ m' ρ' _ hargs
  refine ⟨Cert.KvbDxIdeal.Hand.res m, Cert.KvbDxIdeal.Hand.run m ρ,
    (θ_run _ _ _).mono (fun r h c => ⟨(h c).1.trans ?_, (h c).2⟩) (Cert.KvbDxRefIdeal.Value.run (F := Ideal) m' ρ')⟩
  obtain ⟨-, h1, h2⟩ := hargs c
  rw [Cert.KvbDxIdeal.Hand.res_eq m c, Cert.KvbDxRefIdeal.Read.val_main_v3_eq, h1, h2]

theorem quiescent_kvbDw : quiescent_KvbDw (hKvbDw := Cert.KvbDw.Gen.facts) := fun m ρ _ => Cert.KvbDw.Gen.frame m ρ

theorem quiescent_kvbDw_ideal : quiescent_KvbDwIdeal (hKvbDwIdeal := Cert.KvbDwIdeal.Gen.facts) := fun m ρ _ => Cert.KvbDwIdeal.Gen.frame m ρ

theorem quiescent_kvbDw_reference : quiescent_KvbDwRefIdeal (hKvbDwRefIdeal := Cert.KvbDwRefIdeal.Gen.facts) := fun m ρ _ =>
  (θ_run _ _ _).mono (fun r h => ⟨fun c => (h c).2, sem_eq_zero_of_no_sems rfl r.2⟩) (Cert.KvbDwRefIdeal.Value.run (F := Ideal) m ρ)

theorem algebraic_kvbDw : algebraic_KvbDwIdeal_KvbDwRefIdeal (hKvbDwIdeal := Cert.KvbDwIdeal.Gen.facts)
    (hKvbDwRefIdeal := Cert.KvbDwRefIdeal.Gen.facts) := by
  intro m ρ m' ρ' _ hargs
  refine ⟨Cert.KvbDwIdeal.Hand.res m, Cert.KvbDwIdeal.Hand.run m ρ,
    (θ_run _ _ _).mono (fun r h c => ⟨(h c).1.trans ?_, (h c).2⟩) (Cert.KvbDwRefIdeal.Value.run (F := Ideal) m' ρ')⟩
  obtain ⟨h0, -, h2, h3⟩ := hargs c
  rw [Cert.KvbDwIdeal.Hand.res_eq m c, Cert.KvbDwRefIdeal.Read.val_main_v7_eq, h0, h2, h3]

theorem quiescent_crossDx : quiescent_CrossDx (hCrossDx := Cert.CrossDx.Gen.facts) := fun m ρ _ => Cert.CrossDx.Gen.frame m ρ

theorem quiescent_crossDx_ideal : quiescent_CrossDxIdeal (hCrossDxIdeal := Cert.CrossDxIdeal.Gen.facts) := fun m ρ _ => Cert.CrossDxIdeal.Gen.frame m ρ

theorem quiescent_crossDx_reference : quiescent_CrossDxRefIdeal (hCrossDxRefIdeal := Cert.CrossDxRefIdeal.Gen.facts) := fun m ρ _ =>
  (θ_run _ _ _).mono (fun r h => ⟨fun c => (h c).2, sem_eq_zero_of_no_sems rfl r.2⟩) (Cert.CrossDxRefIdeal.Value.run (F := Ideal) m ρ)

theorem algebraic_crossDx : algebraic_CrossDxIdeal_CrossDxRefIdeal (hCrossDxIdeal := Cert.CrossDxIdeal.Gen.facts)
    (hCrossDxRefIdeal := Cert.CrossDxRefIdeal.Gen.facts) := by
  intro m ρ m' ρ' _ hargs
  refine ⟨Cert.CrossDxIdeal.Hand.res m, Cert.CrossDxIdeal.Hand.run m ρ,
    (θ_run _ _ _).mono (fun r h c => ⟨(h c).1.trans ?_, (h c).2⟩) (Cert.CrossDxRefIdeal.Value.run (F := Ideal) m' ρ')⟩
  obtain ⟨-, h1, h2⟩ := hargs c
  rw [Cert.CrossDxIdeal.Hand.res_eq m c, Cert.CrossDxRefIdeal.Read.val_main_v3_eq, h1, h2]

theorem quiescent_crossDw : quiescent_CrossDw (hCrossDw := Cert.CrossDw.Gen.facts) := fun m ρ _ => Cert.CrossDw.Gen.frame m ρ

theorem quiescent_crossDw_ideal : quiescent_CrossDwIdeal (hCrossDwIdeal := Cert.CrossDwIdeal.Gen.facts) := fun m ρ _ => Cert.CrossDwIdeal.Gen.frame m ρ

theorem quiescent_crossDw_reference : quiescent_CrossDwRefIdeal (hCrossDwRefIdeal := Cert.CrossDwRefIdeal.Gen.facts) := fun m ρ _ =>
  (θ_run _ _ _).mono (fun r h => ⟨fun c => (h c).2, sem_eq_zero_of_no_sems rfl r.2⟩) (Cert.CrossDwRefIdeal.Value.run (F := Ideal) m ρ)

theorem algebraic_crossDw : algebraic_CrossDwIdeal_CrossDwRefIdeal (hCrossDwIdeal := Cert.CrossDwIdeal.Gen.facts)
    (hCrossDwRefIdeal := Cert.CrossDwRefIdeal.Gen.facts) := by
  intro m ρ m' ρ' _ hargs
  refine ⟨Cert.CrossDwIdeal.Hand.res m, Cert.CrossDwIdeal.Hand.run m ρ,
    (θ_run _ _ _).mono (fun r h c => ⟨(h c).1.trans ?_, (h c).2⟩) (Cert.CrossDwRefIdeal.Value.run (F := Ideal) m' ρ')⟩
  obtain ⟨h0, -, h2, h3⟩ := hargs c
  rw [Cert.CrossDwIdeal.Hand.res_eq m c, Cert.CrossDwRefIdeal.Read.val_main_v7_eq, h0, h2, h3]

theorem quiescent_qb : quiescent_Qb (hQb := Cert.Qb.Gen.facts) := fun m ρ _ => Cert.Qb.Gen.frame m ρ

theorem quiescent_qb_ideal : quiescent_QbIdeal (hQbIdeal := Cert.QbIdeal.Gen.facts) := fun m ρ _ => Cert.QbIdeal.Gen.frame m ρ

theorem quiescent_qb_reference : quiescent_QbRefIdeal (hQbRefIdeal := Cert.QbRefIdeal.Gen.facts) := fun m ρ _ =>
  (θ_run _ _ _).mono (fun r h => ⟨fun c => (h c).2, sem_eq_zero_of_no_sems rfl r.2⟩) (Cert.QbRefIdeal.Value.run (F := Ideal) m ρ)

theorem algebraic_qb : algebraic_QbIdeal_QbRefIdeal (hQbIdeal := Cert.QbIdeal.Gen.facts)
    (hQbRefIdeal := Cert.QbRefIdeal.Gen.facts) := by
  intro m ρ m' ρ' _ hargs
  refine ⟨Cert.QbIdeal.Hand.res m, Cert.QbIdeal.Hand.run m ρ,
    (θ_run _ _ _).mono (fun r h c => ⟨(h c).1.trans ?_, (h c).2⟩) (Cert.QbRefIdeal.Value.run (F := Ideal) m' ρ')⟩
  obtain ⟨h0, h1⟩ := hargs c
  rw [Cert.QbIdeal.Hand.res_eq m c, Cert.QbRefIdeal.Read.val_main_v0_eq, h0, h1]

theorem quiescent_kvb : quiescent_Kvb (hKvb := Cert.Kvb.Gen.facts) := fun m ρ _ => Cert.Kvb.Gen.frame m ρ

theorem quiescent_kvb_ideal : quiescent_KvbIdeal (hKvbIdeal := Cert.KvbIdeal.Gen.facts) := fun m ρ _ => Cert.KvbIdeal.Gen.frame m ρ

theorem quiescent_kvb_reference : quiescent_KvbRefIdeal (hKvbRefIdeal := Cert.KvbRefIdeal.Gen.facts) := fun m ρ _ =>
  (θ_run _ _ _).mono (fun r h => ⟨fun c => (h c).2, sem_eq_zero_of_no_sems rfl r.2⟩) (Cert.KvbRefIdeal.Value.run (F := Ideal) m ρ)

theorem algebraic_kvb : algebraic_KvbIdeal_KvbRefIdeal (hKvbIdeal := Cert.KvbIdeal.Gen.facts)
    (hKvbRefIdeal := Cert.KvbRefIdeal.Gen.facts) := by
  intro m ρ m' ρ' _ hargs
  refine ⟨Cert.KvbIdeal.Hand.res m, Cert.KvbIdeal.Hand.run m ρ,
    (θ_run _ _ _).mono (fun r h c => ⟨(h c).1.trans ?_, (h c).2⟩) (Cert.KvbRefIdeal.Value.run (F := Ideal) m' ρ')⟩
  obtain ⟨h0, h1⟩ := hargs c
  rw [Cert.KvbIdeal.Hand.res_eq m c, Cert.KvbRefIdeal.Read.val_main_v0_eq, h0, h1]

theorem quiescent_cross : quiescent_Cross (hCross := Cert.Cross.Gen.facts) := fun m ρ _ => Cert.Cross.Gen.frame m ρ

theorem quiescent_cross_ideal : quiescent_CrossIdeal (hCrossIdeal := Cert.CrossIdeal.Gen.facts) := fun m ρ _ => Cert.CrossIdeal.Gen.frame m ρ

theorem quiescent_cross_reference : quiescent_CrossRefIdeal (hCrossRefIdeal := Cert.CrossRefIdeal.Gen.facts) := fun m ρ _ =>
  (θ_run _ _ _).mono (fun r h => ⟨fun c => (h c).2, sem_eq_zero_of_no_sems rfl r.2⟩) (Cert.CrossRefIdeal.Value.run (F := Ideal) m ρ)

theorem algebraic_cross : algebraic_CrossIdeal_CrossRefIdeal (hCrossIdeal := Cert.CrossIdeal.Gen.facts)
    (hCrossRefIdeal := Cert.CrossRefIdeal.Gen.facts) := by
  intro m ρ m' ρ' _ hargs
  refine ⟨Cert.CrossIdeal.Hand.res m, Cert.CrossIdeal.Hand.run m ρ,
    (θ_run _ _ _).mono (fun r h c => ⟨(h c).1.trans ?_, (h c).2⟩) (Cert.CrossRefIdeal.Value.run (F := Ideal) m' ρ')⟩
  obtain ⟨h0, h1⟩ := hargs c
  rw [Cert.CrossIdeal.Hand.res_eq m c, Cert.CrossRefIdeal.Read.val_main_v0_eq, h0, h1]

theorem quiescent_inLatent : quiescent_InLatent (hInLatent := Cert.InLatent.Gen.facts) := fun m ρ _ => Cert.InLatent.Gen.frame m ρ

theorem quiescent_inLatent_ideal : quiescent_InLatentIdeal (hInLatentIdeal := Cert.InLatentIdeal.Gen.facts) := fun m ρ _ => Cert.InLatentIdeal.Gen.frame m ρ

theorem quiescent_inLatent_reference : quiescent_InLatentRefIdeal (hInLatentRefIdeal := Cert.InLatentRefIdeal.Gen.facts) := fun m ρ _ =>
  (θ_run _ _ _).mono (fun r h => ⟨fun c => (h c).2, sem_eq_zero_of_no_sems rfl r.2⟩) (Cert.InLatentRefIdeal.Value.run (F := Ideal) m ρ)

theorem algebraic_inLatent : algebraic_InLatentIdeal_InLatentRefIdeal (hInLatentIdeal := Cert.InLatentIdeal.Gen.facts)
    (hInLatentRefIdeal := Cert.InLatentRefIdeal.Gen.facts) := by
  intro m ρ m' ρ' _ hargs
  refine ⟨Cert.InLatentIdeal.Hand.res m, Cert.InLatentIdeal.Hand.run m ρ,
    (θ_run _ _ _).mono (fun r h c => ⟨(h c).1.trans ?_, (h c).2⟩) (Cert.InLatentRefIdeal.Value.run (F := Ideal) m' ρ')⟩
  obtain ⟨h0, h1⟩ := hargs c
  rw [Cert.InLatentIdeal.Hand.res_eq m c, Cert.InLatentRefIdeal.Read.val_main_v0_eq, h0, h1]

theorem quiescent_inKv : quiescent_InKv (hInKv := Cert.InKv.Gen.facts) := fun m ρ _ => Cert.InKv.Gen.frame m ρ

theorem quiescent_inKv_ideal : quiescent_InKvIdeal (hInKvIdeal := Cert.InKvIdeal.Gen.facts) := fun m ρ _ => Cert.InKvIdeal.Gen.frame m ρ

theorem quiescent_inKv_reference : quiescent_InKvRefIdeal (hInKvRefIdeal := Cert.InKvRefIdeal.Gen.facts) := fun m ρ _ =>
  (θ_run _ _ _).mono (fun r h => ⟨fun c => (h c).2, sem_eq_zero_of_no_sems rfl r.2⟩) (Cert.InKvRefIdeal.Value.run (F := Ideal) m ρ)

theorem algebraic_inKv : algebraic_InKvIdeal_InKvRefIdeal (hInKvIdeal := Cert.InKvIdeal.Gen.facts)
    (hInKvRefIdeal := Cert.InKvRefIdeal.Gen.facts) := by
  intro m ρ m' ρ' _ hargs
  refine ⟨Cert.InKvIdeal.Hand.res m, Cert.InKvIdeal.Hand.run m ρ,
    (θ_run _ _ _).mono (fun r h c => ⟨(h c).1.trans ?_, (h c).2⟩) (Cert.InKvRefIdeal.Value.run (F := Ideal) m' ρ')⟩
  obtain ⟨h0, h1⟩ := hargs c
  rw [Cert.InKvIdeal.Hand.res_eq m c, Cert.InKvRefIdeal.Read.val_main_v0_eq, h0, h1]

theorem quiescent_inNarrow : quiescent_InNarrow (hInNarrow := Cert.InNarrow.Gen.facts) := fun m ρ _ => Cert.InNarrow.Gen.frame m ρ

theorem quiescent_inNarrow_ideal : quiescent_InNarrowIdeal (hInNarrowIdeal := Cert.InNarrowIdeal.Gen.facts) := fun m ρ _ => Cert.InNarrowIdeal.Gen.frame m ρ

theorem quiescent_inNarrow_reference : quiescent_InNarrowRefIdeal (hInNarrowRefIdeal := Cert.InNarrowRefIdeal.Gen.facts) := fun m ρ _ =>
  (θ_run _ _ _).mono (fun r h => ⟨fun c => (h c).2, sem_eq_zero_of_no_sems rfl r.2⟩) (Cert.InNarrowRefIdeal.Value.run (F := Ideal) m ρ)

theorem algebraic_inNarrow : algebraic_InNarrowIdeal_InNarrowRefIdeal (hInNarrowIdeal := Cert.InNarrowIdeal.Gen.facts)
    (hInNarrowRefIdeal := Cert.InNarrowRefIdeal.Gen.facts) := by
  intro m ρ m' ρ' _ hargs
  refine ⟨Cert.InNarrowIdeal.Hand.res m, Cert.InNarrowIdeal.Hand.run m ρ,
    (θ_run _ _ _).mono (fun r h c => ⟨(h c).1.trans ?_, (h c).2⟩) (Cert.InNarrowRefIdeal.Value.run (F := Ideal) m' ρ')⟩
  obtain ⟨h0, h1⟩ := hargs c
  rw [Cert.InNarrowIdeal.Hand.res_eq m c, Cert.InNarrowRefIdeal.Read.val_main_v0_eq, h0, h1]

theorem quiescent_xattnOut : quiescent_XattnOut (hXattnOut := Cert.XattnOut.Gen.facts) := fun m ρ _ => Cert.XattnOut.Gen.frame m ρ

theorem quiescent_xattnOut_ideal : quiescent_XattnOutIdeal (hXattnOutIdeal := Cert.XattnOutIdeal.Gen.facts) := fun m ρ _ => Cert.XattnOutIdeal.Gen.frame m ρ

theorem quiescent_xattnOut_reference : quiescent_XattnOutRefIdeal (hXattnOutRefIdeal := Cert.XattnOutRefIdeal.Gen.facts) := fun m ρ _ =>
  (θ_run _ _ _).mono (fun r h => ⟨fun c => (h c).2, sem_eq_zero_of_no_sems rfl r.2⟩) (Cert.XattnOutRefIdeal.Value.run (F := Ideal) m ρ)

theorem algebraic_xattnOut : algebraic_XattnOutIdeal_XattnOutRefIdeal (hXattnOutIdeal := Cert.XattnOutIdeal.Gen.facts)
    (hXattnOutRefIdeal := Cert.XattnOutRefIdeal.Gen.facts) := by
  intro m ρ m' ρ' _ hargs
  refine ⟨Cert.XattnOutIdeal.Hand.res m, Cert.XattnOutIdeal.Hand.run m ρ,
    (θ_run _ _ _).mono (fun r h c => ⟨(h c).1.trans ?_, (h c).2⟩) (Cert.XattnOutRefIdeal.Value.run (F := Ideal) m' ρ')⟩
  obtain ⟨h0, h1, h2⟩ := hargs c
  rw [Cert.XattnOutIdeal.Hand.res_eq m c, Cert.XattnOutRefIdeal.Read.val_main_v1_eq, h0, h1, h2]

theorem quiescent_xattnOutDw : quiescent_XattnOutDw (hXattnOutDw := Cert.XattnOutDw.Gen.facts) := fun m ρ _ => Cert.XattnOutDw.Gen.frame m ρ

theorem quiescent_xattnOutDw_ideal : quiescent_XattnOutDwIdeal (hXattnOutDwIdeal := Cert.XattnOutDwIdeal.Gen.facts) := fun m ρ _ => Cert.XattnOutDwIdeal.Gen.frame m ρ

theorem quiescent_xattnOutDw_reference : quiescent_XattnOutDwRefIdeal (hXattnOutDwRefIdeal := Cert.XattnOutDwRefIdeal.Gen.facts) := fun m ρ _ =>
  (θ_run _ _ _).mono (fun r h => ⟨fun c => (h c).2, sem_eq_zero_of_no_sems rfl r.2⟩) (Cert.XattnOutDwRefIdeal.Value.run (F := Ideal) m ρ)

theorem algebraic_xattnOutDw : algebraic_XattnOutDwIdeal_XattnOutDwRefIdeal (hXattnOutDwIdeal := Cert.XattnOutDwIdeal.Gen.facts)
    (hXattnOutDwRefIdeal := Cert.XattnOutDwRefIdeal.Gen.facts) := by
  intro m ρ m' ρ' _ hargs
  refine ⟨Cert.XattnOutDwIdeal.Hand.res m, Cert.XattnOutDwIdeal.Hand.run m ρ,
    (θ_run _ _ _).mono (fun r h c => ⟨(h c).1.trans ?_, (h c).2⟩) (Cert.XattnOutDwRefIdeal.Value.run (F := Ideal) m' ρ')⟩
  obtain ⟨h0, -, h2, h3⟩ := hargs c
  rw [Cert.XattnOutDwIdeal.Hand.res_eq m c, Cert.XattnOutDwRefIdeal.Read.val_main_v7_eq, h0, h2, h3]

theorem quiescent_inDwLayer1 : quiescent_InDwLayer1 (hInDwLayer1 := Cert.InDwLayer1.Gen.facts) := fun m ρ _ => Cert.InDwLayer1.Gen.frame m ρ

theorem quiescent_inDwLayer1_ideal : quiescent_InDwLayer1Ideal (hInDwLayer1Ideal := Cert.InDwLayer1Ideal.Gen.facts) := fun m ρ _ => Cert.InDwLayer1Ideal.Gen.frame m ρ

theorem quiescent_inDwLayer1_reference : quiescent_InDwLayer1RefIdeal (hInDwLayer1RefIdeal := Cert.InDwLayer1RefIdeal.Gen.facts) := fun m ρ _ =>
  (θ_run _ _ _).mono (fun r h => ⟨fun c => (h c).2, sem_eq_zero_of_no_sems rfl r.2⟩) (Cert.InDwLayer1RefIdeal.Value.run (F := Ideal) m ρ)

theorem algebraic_inDwLayer1 : algebraic_InDwLayer1Ideal_InDwLayer1RefIdeal (hInDwLayer1Ideal := Cert.InDwLayer1Ideal.Gen.facts)
    (hInDwLayer1RefIdeal := Cert.InDwLayer1RefIdeal.Gen.facts) := by
  intro m ρ m' ρ' _ hargs
  refine ⟨Cert.InDwLayer1Ideal.Hand.res m, Cert.InDwLayer1Ideal.Hand.run m ρ,
    (θ_run _ _ _).mono (fun r h c => ⟨(h c).1.trans ?_, (h c).2⟩) (Cert.InDwLayer1RefIdeal.Value.run (F := Ideal) m' ρ')⟩
  obtain ⟨h0, -, h2, h3⟩ := hargs c
  rw [Cert.InDwLayer1Ideal.Hand.res_eq m c, Cert.InDwLayer1RefIdeal.Read.val_main_v9_eq, h0, h2, h3]

theorem quiescent_ffnInDwLayer1 : quiescent_FfnInDwLayer1 (hFfnInDwLayer1 := Cert.FfnInDwLayer1.Gen.facts) := fun m ρ _ => Cert.FfnInDwLayer1.Gen.frame m ρ

theorem quiescent_ffnInDwLayer1_ideal : quiescent_FfnInDwLayer1Ideal (hFfnInDwLayer1Ideal := Cert.FfnInDwLayer1Ideal.Gen.facts) := fun m ρ _ => Cert.FfnInDwLayer1Ideal.Gen.frame m ρ

theorem quiescent_ffnInDwLayer1_reference : quiescent_FfnInDwLayer1RefIdeal (hFfnInDwLayer1RefIdeal := Cert.FfnInDwLayer1RefIdeal.Gen.facts) := fun m ρ _ =>
  (θ_run _ _ _).mono (fun r h => ⟨fun c => (h c).2, sem_eq_zero_of_no_sems rfl r.2⟩) (Cert.FfnInDwLayer1RefIdeal.Value.run (F := Ideal) m ρ)

theorem algebraic_ffnInDwLayer1 : algebraic_FfnInDwLayer1Ideal_FfnInDwLayer1RefIdeal (hFfnInDwLayer1Ideal := Cert.FfnInDwLayer1Ideal.Gen.facts)
    (hFfnInDwLayer1RefIdeal := Cert.FfnInDwLayer1RefIdeal.Gen.facts) := by
  intro m ρ m' ρ' _ hargs
  refine ⟨Cert.FfnInDwLayer1Ideal.Hand.res m, Cert.FfnInDwLayer1Ideal.Hand.run m ρ,
    (θ_run _ _ _).mono (fun r h c => ⟨(h c).1.trans ?_, (h c).2⟩) (Cert.FfnInDwLayer1RefIdeal.Value.run (F := Ideal) m' ρ')⟩
  obtain ⟨h0, -, h2, h3⟩ := hargs c
  rw [Cert.FfnInDwLayer1Ideal.Hand.res_eq m c, Cert.FfnInDwLayer1RefIdeal.Read.val_main_v9_eq, h0, h2, h3]

theorem quiescent_ffnOutDwLayer1 : quiescent_FfnOutDwLayer1 (hFfnOutDwLayer1 := Cert.FfnOutDwLayer1.Gen.facts) := fun m ρ _ => Cert.FfnOutDwLayer1.Gen.frame m ρ

theorem quiescent_ffnOutDwLayer1_ideal : quiescent_FfnOutDwLayer1Ideal (hFfnOutDwLayer1Ideal := Cert.FfnOutDwLayer1Ideal.Gen.facts) := fun m ρ _ => Cert.FfnOutDwLayer1Ideal.Gen.frame m ρ

theorem quiescent_ffnOutDwLayer1_reference : quiescent_FfnOutDwLayer1RefIdeal (hFfnOutDwLayer1RefIdeal := Cert.FfnOutDwLayer1RefIdeal.Gen.facts) := fun m ρ _ =>
  (θ_run _ _ _).mono (fun r h => ⟨fun c => (h c).2, sem_eq_zero_of_no_sems rfl r.2⟩) (Cert.FfnOutDwLayer1RefIdeal.Value.run (F := Ideal) m ρ)

theorem algebraic_ffnOutDwLayer1 : algebraic_FfnOutDwLayer1Ideal_FfnOutDwLayer1RefIdeal (hFfnOutDwLayer1Ideal := Cert.FfnOutDwLayer1Ideal.Gen.facts)
    (hFfnOutDwLayer1RefIdeal := Cert.FfnOutDwLayer1RefIdeal.Gen.facts) := by
  intro m ρ m' ρ' _ hargs
  refine ⟨Cert.FfnOutDwLayer1Ideal.Hand.res m, Cert.FfnOutDwLayer1Ideal.Hand.run m ρ,
    (θ_run _ _ _).mono (fun r h c => ⟨(h c).1.trans ?_, (h c).2⟩) (Cert.FfnOutDwLayer1RefIdeal.Value.run (F := Ideal) m' ρ')⟩
  obtain ⟨h0, -, h2, h3⟩ := hargs c
  rw [Cert.FfnOutDwLayer1Ideal.Hand.res_eq m c, Cert.FfnOutDwLayer1RefIdeal.Read.val_main_v9_eq, h0, h2, h3]

theorem quiescent_inDwLayer2 : quiescent_InDwLayer2 (hInDwLayer2 := Cert.InDwLayer2.Gen.facts) := fun m ρ _ => Cert.InDwLayer2.Gen.frame m ρ

theorem quiescent_inDwLayer2_ideal : quiescent_InDwLayer2Ideal (hInDwLayer2Ideal := Cert.InDwLayer2Ideal.Gen.facts) := fun m ρ _ => Cert.InDwLayer2Ideal.Gen.frame m ρ

theorem quiescent_inDwLayer2_reference : quiescent_InDwLayer2RefIdeal (hInDwLayer2RefIdeal := Cert.InDwLayer2RefIdeal.Gen.facts) := fun m ρ _ =>
  (θ_run _ _ _).mono (fun r h => ⟨fun c => (h c).2, sem_eq_zero_of_no_sems rfl r.2⟩) (Cert.InDwLayer2RefIdeal.Value.run (F := Ideal) m ρ)

theorem algebraic_inDwLayer2 : algebraic_InDwLayer2Ideal_InDwLayer2RefIdeal (hInDwLayer2Ideal := Cert.InDwLayer2Ideal.Gen.facts)
    (hInDwLayer2RefIdeal := Cert.InDwLayer2RefIdeal.Gen.facts) := by
  intro m ρ m' ρ' _ hargs
  refine ⟨Cert.InDwLayer2Ideal.Hand.res m, Cert.InDwLayer2Ideal.Hand.run m ρ,
    (θ_run _ _ _).mono (fun r h c => ⟨(h c).1.trans ?_, (h c).2⟩) (Cert.InDwLayer2RefIdeal.Value.run (F := Ideal) m' ρ')⟩
  obtain ⟨h0, -, h2, h3⟩ := hargs c
  rw [Cert.InDwLayer2Ideal.Hand.res_eq m c, Cert.InDwLayer2RefIdeal.Read.val_main_v9_eq, h0, h2, h3]

theorem quiescent_ffnInDwLayer2 : quiescent_FfnInDwLayer2 (hFfnInDwLayer2 := Cert.FfnInDwLayer2.Gen.facts) := fun m ρ _ => Cert.FfnInDwLayer2.Gen.frame m ρ

theorem quiescent_ffnInDwLayer2_ideal : quiescent_FfnInDwLayer2Ideal (hFfnInDwLayer2Ideal := Cert.FfnInDwLayer2Ideal.Gen.facts) := fun m ρ _ => Cert.FfnInDwLayer2Ideal.Gen.frame m ρ

theorem quiescent_ffnInDwLayer2_reference : quiescent_FfnInDwLayer2RefIdeal (hFfnInDwLayer2RefIdeal := Cert.FfnInDwLayer2RefIdeal.Gen.facts) := fun m ρ _ =>
  (θ_run _ _ _).mono (fun r h => ⟨fun c => (h c).2, sem_eq_zero_of_no_sems rfl r.2⟩) (Cert.FfnInDwLayer2RefIdeal.Value.run (F := Ideal) m ρ)

theorem algebraic_ffnInDwLayer2 : algebraic_FfnInDwLayer2Ideal_FfnInDwLayer2RefIdeal (hFfnInDwLayer2Ideal := Cert.FfnInDwLayer2Ideal.Gen.facts)
    (hFfnInDwLayer2RefIdeal := Cert.FfnInDwLayer2RefIdeal.Gen.facts) := by
  intro m ρ m' ρ' _ hargs
  refine ⟨Cert.FfnInDwLayer2Ideal.Hand.res m, Cert.FfnInDwLayer2Ideal.Hand.run m ρ,
    (θ_run _ _ _).mono (fun r h c => ⟨(h c).1.trans ?_, (h c).2⟩) (Cert.FfnInDwLayer2RefIdeal.Value.run (F := Ideal) m' ρ')⟩
  obtain ⟨h0, -, h2, h3⟩ := hargs c
  rw [Cert.FfnInDwLayer2Ideal.Hand.res_eq m c, Cert.FfnInDwLayer2RefIdeal.Read.val_main_v9_eq, h0, h2, h3]

theorem quiescent_ffnOutDwLayer2 : quiescent_FfnOutDwLayer2 (hFfnOutDwLayer2 := Cert.FfnOutDwLayer2.Gen.facts) := fun m ρ _ => Cert.FfnOutDwLayer2.Gen.frame m ρ

theorem quiescent_ffnOutDwLayer2_ideal : quiescent_FfnOutDwLayer2Ideal (hFfnOutDwLayer2Ideal := Cert.FfnOutDwLayer2Ideal.Gen.facts) := fun m ρ _ => Cert.FfnOutDwLayer2Ideal.Gen.frame m ρ

theorem quiescent_ffnOutDwLayer2_reference : quiescent_FfnOutDwLayer2RefIdeal (hFfnOutDwLayer2RefIdeal := Cert.FfnOutDwLayer2RefIdeal.Gen.facts) := fun m ρ _ =>
  (θ_run _ _ _).mono (fun r h => ⟨fun c => (h c).2, sem_eq_zero_of_no_sems rfl r.2⟩) (Cert.FfnOutDwLayer2RefIdeal.Value.run (F := Ideal) m ρ)

theorem algebraic_ffnOutDwLayer2 : algebraic_FfnOutDwLayer2Ideal_FfnOutDwLayer2RefIdeal (hFfnOutDwLayer2Ideal := Cert.FfnOutDwLayer2Ideal.Gen.facts)
    (hFfnOutDwLayer2RefIdeal := Cert.FfnOutDwLayer2RefIdeal.Gen.facts) := by
  intro m ρ m' ρ' _ hargs
  refine ⟨Cert.FfnOutDwLayer2Ideal.Hand.res m, Cert.FfnOutDwLayer2Ideal.Hand.run m ρ,
    (θ_run _ _ _).mono (fun r h c => ⟨(h c).1.trans ?_, (h c).2⟩) (Cert.FfnOutDwLayer2RefIdeal.Value.run (F := Ideal) m' ρ')⟩
  obtain ⟨h0, -, h2, h3⟩ := hargs c
  rw [Cert.FfnOutDwLayer2Ideal.Hand.res_eq m c, Cert.FfnOutDwLayer2RefIdeal.Read.val_main_v9_eq, h0, h2, h3]

end Cert.Proof

end
-- ==== Proof.Adam.Update.lean ====
/- One AdamW step over the extended reals, for arrays of any shape: what the step makes of a weight, its gradient and the
   two moments at an index, and that the reference's whole-array operations make the same. -/
module

public import Idealize.ShloMosaic.Lib.Pointwise
public import Idealize.ShloMosaic.Lib.Pipeline.Value

@[expose] public section

noncomputable section

namespace Cert.Adam

open Idealize.ShloMosaic Idealize.ShloMosaic.StableHlo

/-- A literal of the step, as an extended real. -/
abbrev lit (b : BitVec 32) : Ideal .f32 := FloatOps.ofBits .f32 b

/-- The new first moment, of the gradient and the old moment. -/
abbrev first (g m : Ideal .f32) : Ideal .f32 :=
  FloatOps.addf (FloatOps.mulf (lit 0x3F666666#32) m) (FloatOps.mulf (lit 0x3DCCCCCD#32) g)

/-- The new second moment. -/
abbrev second (g v : Ideal .f32) : Ideal .f32 :=
  FloatOps.addf (FloatOps.mulf (lit 0x3F7FBE77#32) v) (FloatOps.mulf (lit 0x3A83126F#32) (FloatOps.mulf g g))

/-- The weight's change: minus the rate times the sum of the corrected moments' quotient and the decayed weight. -/
abbrev change (w g m v : Ideal .f32) : Ideal .f32 :=
  FloatOps.mulf (lit 0xBA83126F#32) (FloatOps.addf
    (FloatOps.divf (FloatOps.divf (first g m) (lit 0x3F26BD02#32))
      (FloatOps.addf (FloatOps.sqrt (FloatOps.divf (second g v) (lit 0x3C231ACC#32))) (lit 0x322BCC77#32)))
    (FloatOps.mulf (lit 0x3C23D70A#32) w))

variable {S T : Shape} {d : Fin T.rank → Fin S.rank} (hb : T.BroadcastsInDim S d) (w g m v : FVec Ideal S .f32)

/-- A literal spread over an array. -/
abbrev fill (b : BitVec 32) : FVec Ideal S .f32 := broadcastInDim S d hb (constant (F := Ideal) T .f32 b)

/-- It is the literal at every index. -/
theorem fill_at (b : BitVec 32) (i : S.Idx) : fill hb b i = lit b := rfl

/-- The reference's new first moment as a whole array. -/
abbrev firsts : FVec Ideal S .f32 := addf (mulf (fill hb 0x3F666666#32) m) (mulf (fill hb 0x3DCCCCCD#32) g)

/-- The reference's new second moment. -/
abbrev seconds : FVec Ideal S .f32 :=
  addf (mulf (fill hb 0x3F7FBE77#32) v) (mulf (fill hb 0x3A83126F#32) (mulf g g))

/-- The reference's change of the weight, which it computes with the host's division and square root. -/
abbrev changes : FVec Ideal S .f32 :=
  mulf (fill hb 0xBA83126F#32) (addf
    (Host.divf (Host.divf (firsts hb g m) (fill hb 0x3F26BD02#32))
      (addf (Host.sqrt (Host.divf (seconds hb g v) (fill hb 0x3C231ACC#32))) (fill hb 0x322BCC77#32)))
    (mulf (fill hb 0x3C23D70A#32) w))

theorem firsts_eq : firsts hb g m = fun i => first (g i) (m i) := rfl

theorem seconds_eq : seconds hb g v = fun i => second (g i) (v i) := rfl

/-- Over the extended reals the host's division and square root are the call's. -/
theorem changes_eq : changes hb w g m v = fun i => change (w i) (g i) (m i) (v i) := by
  funext i
  show FloatOps.mulf _ (FloatOps.addf (FloatOps.hostDivf (FloatOps.hostDivf (firsts hb g m i) _)
    (FloatOps.addf (FloatOps.hostUnary .sqrt (FloatOps.hostDivf (seconds hb g v i) _)) _)) _) = _
  rw [firsts_eq, seconds_eq]
  rfl

end Cert.Adam

end
-- ==== Proof.Adam.Claims.lean ====
/- The claims about the optimiser's calls, one for each shape of array it is given: the calls run and leave their arguments
   alone, over machine words and over extended reals; the reference does; and the two end with equal results. What a step
   makes of one element is in Update.lean. -/
module

public import proofs.«01_k».proof.Defs
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamQ
public import proofs.«01_k».proof.Proof.Gen.AdamQ.Frame
public import proofs.«01_k».proof.Proof.Gen.AdamQIdeal
public import proofs.«01_k».proof.Proof.Gen.AdamQIdeal.Frame
public import proofs.«01_k».proof.Proof.Gen.AdamQIdeal.Value
public import proofs.«01_k».proof.Proof.Gen.AdamQRefIdeal
public import proofs.«01_k».proof.Proof.Gen.AdamQRefIdeal.Run
public import proofs.«01_k».proof.Proof.Gen.AdamKv
public import proofs.«01_k».proof.Proof.Gen.AdamKv.Frame
public import proofs.«01_k».proof.Proof.Gen.AdamKvIdeal
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamCross
public import proofs.«01_k».proof.Proof.Gen.AdamCross.Frame
public import proofs.«01_k».proof.Proof.Gen.AdamCrossIdeal
public import proofs.«01_k».proof.Proof.Gen.AdamCrossIdeal.Frame
public import proofs.«01_k».proof.Proof.Gen.AdamCrossIdeal.Value
public import proofs.«01_k».proof.Proof.Gen.AdamCrossRefIdeal
public import proofs.«01_k».proof.Proof.Gen.AdamCrossRefIdeal.Run
public import proofs.«01_k».proof.Proof.Gen.AdamFfnIn
public import proofs.«01_k».proof.Proof.Gen.AdamFfnIn.Frame
public import proofs.«01_k».proof.Proof.Gen.AdamFfnInIdeal
public import proofs.«01_k».proof.Proof.Gen.AdamFfnInIdeal.Frame
public import proofs.«01_k».proof.Proof.Gen.AdamFfnInIdeal.Value
public import proofs.«01_k».proof.Proof.Gen.AdamFfnInRefIdeal
public import proofs.«01_k».proof.Proof.Gen.AdamFfnInRefIdeal.Run
public import proofs.«01_k».proof.Proof.Gen.AdamSquare
public import proofs.«01_k».proof.Proof.Gen.AdamSquare.Frame
public import proofs.«01_k».proof.Proof.Gen.AdamSquareIdeal
public import proofs.«01_k».proof.Proof.Gen.AdamSquareIdeal.Frame
public import proofs.«01_k».proof.Proof.Gen.AdamSquareIdeal.Value
public import proofs.«01_k».proof.Proof.Gen.AdamSquareRefIdeal
public import proofs.«01_k».proof.Proof.Gen.AdamSquareRefIdeal.Run
public import proofs.«01_k».proof.Proof.Gen.AdamFfnOut
public import proofs.«01_k».proof.Proof.Gen.AdamFfnOut.Frame
public import proofs.«01_k».proof.Proof.Gen.AdamFfnOutIdeal
public import proofs.«01_k».proof.Proof.Gen.AdamFfnOutIdeal.Frame
public import proofs.«01_k».proof.Proof.Gen.AdamFfnOutIdeal.Value
public import proofs.«01_k».proof.Proof.Gen.AdamFfnOutRefIdeal
public import proofs.«01_k».proof.Proof.Gen.AdamFfnOutRefIdeal.Run
public import proofs.«01_k».proof.Proof.Gen.AdamSsdConv
public import proofs.«01_k».proof.Proof.Gen.AdamSsdConv.Frame
public import proofs.«01_k».proof.Proof.Gen.AdamSsdConvIdeal
public import proofs.«01_k».proof.Proof.Gen.AdamSsdConvIdeal.Frame
public import proofs.«01_k».proof.Proof.Gen.AdamSsdConvIdeal.Value
public import proofs.«01_k».proof.Proof.Gen.AdamSsdConvRefIdeal
public import proofs.«01_k».proof.Proof.Gen.AdamSsdConvRefIdeal.Run
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamVectors
public import proofs.«01_k».proof.Proof.Gen.AdamVectors.Frame
public import proofs.«01_k».proof.Proof.Gen.AdamVectorsIdeal
public import proofs.«01_k».proof.Proof.Gen.AdamVectorsIdeal.Frame
public import proofs.«01_k».proof.Proof.Gen.AdamVectorsIdeal.Value
public import proofs.«01_k».proof.Proof.Gen.AdamVectorsRefIdeal
public import proofs.«01_k».proof.Proof.Gen.AdamVectorsRefIdeal.Run
public import proofs.«01_k».proof.Proof.Adam.Update
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Adam

theorem quiescent_adamIn : quiescent_AdamIn (hAdamIn := Cert.AdamIn.Gen.facts) := fun m ρ _ => Cert.AdamIn.Gen.frame m ρ

theorem quiescent_adamIn_ideal : quiescent_AdamInIdeal (hAdamInIdeal := Cert.AdamInIdeal.Gen.facts) := fun m ρ _ => Cert.AdamInIdeal.Gen.frame m ρ

theorem quiescent_adamIn_reference : quiescent_AdamInRefIdeal (hAdamInRefIdeal := Cert.AdamInRefIdeal.Gen.facts) := fun m ρ _ =>
  (θ_run _ _ _).mono (fun r h => ⟨fun c => (h c).2.2.2, sem_eq_zero_of_no_sems rfl r.2⟩) (Cert.AdamInRefIdeal.Value.run (F := Ideal) m ρ)

theorem algebraic_adamIn : algebraic_AdamInIdeal_AdamInRefIdeal (hAdamInIdeal := Cert.AdamInIdeal.Gen.facts)
    (hAdamInRefIdeal := Cert.AdamInRefIdeal.Gen.facts) := by
  intro m ρ m' ρ' _ hargs
  refine ⟨_, _, _, Cert.AdamInIdeal.Value.run (F := Ideal) m ρ,
    (θ_run _ _ _).mono (fun r h c => ?_) (Cert.AdamInRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamQ : quiescent_AdamQ (hAdamQ := Cert.AdamQ.Gen.facts) := fun m ρ _ => Cert.AdamQ.Gen.frame m ρ

theorem quiescent_adamQ_ideal : quiescent_AdamQIdeal (hAdamQIdeal := Cert.AdamQIdeal.Gen.facts) := fun m ρ _ => Cert.AdamQIdeal.Gen.frame m ρ

theorem quiescent_adamQ_reference : quiescent_AdamQRefIdeal (hAdamQRefIdeal := Cert.AdamQRefIdeal.Gen.facts) := fun m ρ _ =>
  (θ_run _ _ _).mono (fun r h => ⟨fun c => (h c).2.2.2, sem_eq_zero_of_no_sems rfl r.2⟩) (Cert.AdamQRefIdeal.Value.run (F := Ideal) m ρ)

theorem algebraic_adamQ : algebraic_AdamQIdeal_AdamQRefIdeal (hAdamQIdeal := Cert.AdamQIdeal.Gen.facts)
    (hAdamQRefIdeal := Cert.AdamQRefIdeal.Gen.facts) := by
  intro m ρ m' ρ' _ hargs
  refine ⟨_, _, _, Cert.AdamQIdeal.Value.run (F := Ideal) m ρ,
    (θ_run _ _ _).mono (fun r h c => ?_) (Cert.AdamQRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamKv : quiescent_AdamKv (hAdamKv := Cert.AdamKv.Gen.facts) := fun m ρ _ => Cert.AdamKv.Gen.frame m ρ

theorem quiescent_adamKv_ideal : quiescent_AdamKvIdeal (hAdamKvIdeal := Cert.AdamKvIdeal.Gen.facts) := fun m ρ _ => Cert.AdamKvIdeal.Gen.frame m ρ

theorem quiescent_adamKv_reference : quiescent_AdamKvRefIdeal (hAdamKvRefIdeal := Cert.AdamKvRefIdeal.Gen.facts) := fun m ρ _ =>
  (θ_run _ _ _).mono (fun r h => ⟨fun c => (h c).2.2.2, sem_eq_zero_of_no_sems rfl r.2⟩) (Cert.AdamKvRefIdeal.Value.run (F := Ideal) m ρ)

theorem algebraic_adamKv : algebraic_AdamKvIdeal_AdamKvRefIdeal (hAdamKvIdeal := Cert.AdamKvIdeal.Gen.facts)
    (hAdamKvRefIdeal := Cert.AdamKvRefIdeal.Gen.facts) := by
  intro m ρ m' ρ' _ hargs
  refine ⟨_, _, _, Cert.AdamKvIdeal.Value.run (F := Ideal) m ρ,
    (θ_run _ _ _).mono (fun r h c => ?_) (Cert.AdamKvRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamCross : quiescent_AdamCross (hAdamCross := Cert.AdamCross.Gen.facts) := fun m ρ _ => Cert.AdamCross.Gen.frame m ρ

theorem quiescent_adamCross_ideal : quiescent_AdamCrossIdeal (hAdamCrossIdeal := Cert.AdamCrossIdeal.Gen.facts) := fun m ρ _ => Cert.AdamCrossIdeal.Gen.frame m ρ

theorem quiescent_adamCross_reference : quiescent_AdamCrossRefIdeal (hAdamCrossRefIdeal := Cert.AdamCrossRefIdeal.Gen.facts) := fun m ρ _ =>
  (θ_run _ _ _).mono (fun r h => ⟨fun c => (h c).2.2.2, sem_eq_zero_of_no_sems rfl r.2⟩) (Cert.AdamCrossRefIdeal.Value.run (F := Ideal) m ρ)

theorem algebraic_adamCross : algebraic_AdamCrossIdeal_AdamCrossRefIdeal (hAdamCrossIdeal := Cert.AdamCrossIdeal.Gen.facts)
    (hAdamCrossRefIdeal := Cert.AdamCrossRefIdeal.Gen.facts) := by
  intro m ρ m' ρ' _ hargs
  refine ⟨_, _, _, Cert.AdamCrossIdeal.Value.run (F := Ideal) m ρ,
    (θ_run _ _ _).mono (fun r h c => ?_) (Cert.AdamCrossRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamFfnIn : quiescent_AdamFfnIn (hAdamFfnIn := Cert.AdamFfnIn.Gen.facts) := fun m ρ _ => Cert.AdamFfnIn.Gen.frame m ρ

theorem quiescent_adamFfnIn_ideal : quiescent_AdamFfnInIdeal (hAdamFfnInIdeal := Cert.AdamFfnInIdeal.Gen.facts) := fun m ρ _ => Cert.AdamFfnInIdeal.Gen.frame m ρ

theorem quiescent_adamFfnIn_reference : quiescent_AdamFfnInRefIdeal (hAdamFfnInRefIdeal := Cert.AdamFfnInRefIdeal.Gen.facts) := fun m ρ _ =>
  (θ_run _ _ _).mono (fun r h => ⟨fun c => (h c).2.2.2, sem_eq_zero_of_no_sems rfl r.2⟩) (Cert.AdamFfnInRefIdeal.Value.run (F := Ideal) m ρ)

theorem algebraic_adamFfnIn : algebraic_AdamFfnInIdeal_AdamFfnInRefIdeal (hAdamFfnInIdeal := Cert.AdamFfnInIdeal.Gen.facts)
    (hAdamFfnInRefIdeal := Cert.AdamFfnInRefIdeal.Gen.facts) := by
  intro m ρ m' ρ' _ hargs
  refine ⟨_, _, _, Cert.AdamFfnInIdeal.Value.run (F := Ideal) m ρ,
    (θ_run _ _ _).mono (fun r h c => ?_) (Cert.AdamFfnInRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamSquare : quiescent_AdamSquare (hAdamSquare := Cert.AdamSquare.Gen.facts) := fun m ρ _ => Cert.AdamSquare.Gen.frame m ρ

theorem quiescent_adamSquare_ideal : quiescent_AdamSquareIdeal (hAdamSquareIdeal := Cert.AdamSquareIdeal.Gen.facts) := fun m ρ _ => Cert.AdamSquareIdeal.Gen.frame m ρ

theorem quiescent_adamSquare_reference : quiescent_AdamSquareRefIdeal (hAdamSquareRefIdeal := Cert.AdamSquareRefIdeal.Gen.facts) := fun m ρ _ =>
  (θ_run _ _ _).mono (fun r h => ⟨fun c => (h c).2.2.2, sem_eq_zero_of_no_sems rfl r.2⟩) (Cert.AdamSquareRefIdeal.Value.run (F := Ideal) m ρ)

theorem algebraic_adamSquare : algebraic_AdamSquareIdeal_AdamSquareRefIdeal (hAdamSquareIdeal := Cert.AdamSquareIdeal.Gen.facts)
    (hAdamSquareRefIdeal := Cert.AdamSquareRefIdeal.Gen.facts) := by
  intro m ρ m' ρ' _ hargs
  refine ⟨_, _, _, Cert.AdamSquareIdeal.Value.run (F := Ideal) m ρ,
    (θ_run _ _ _).mono (fun r h c => ?_) (Cert.AdamSquareRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamFfnOut : quiescent_AdamFfnOut (hAdamFfnOut := Cert.AdamFfnOut.Gen.facts) := fun m ρ _ => Cert.AdamFfnOut.Gen.frame m ρ

theorem quiescent_adamFfnOut_ideal : quiescent_AdamFfnOutIdeal (hAdamFfnOutIdeal := Cert.AdamFfnOutIdeal.Gen.facts) := fun m ρ _ => Cert.AdamFfnOutIdeal.Gen.frame m ρ

theorem quiescent_adamFfnOut_reference : quiescent_AdamFfnOutRefIdeal (hAdamFfnOutRefIdeal := Cert.AdamFfnOutRefIdeal.Gen.facts) := fun m ρ _ =>
  (θ_run _ _ _).mono (fun r h => ⟨fun c => (h c).2.2.2, sem_eq_zero_of_no_sems rfl r.2⟩) (Cert.AdamFfnOutRefIdeal.Value.run (F := Ideal) m ρ)

theorem algebraic_adamFfnOut : algebraic_AdamFfnOutIdeal_AdamFfnOutRefIdeal (hAdamFfnOutIdeal := Cert.AdamFfnOutIdeal.Gen.facts)
    (hAdamFfnOutRefIdeal := Cert.AdamFfnOutRefIdeal.Gen.facts) := by
  intro m ρ m' ρ' _ hargs
  refine ⟨_, _, _, Cert.AdamFfnOutIdeal.Value.run (F := Ideal) m ρ,
    (θ_run _ _ _).mono (fun r h c => ?_) (Cert.AdamFfnOutRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamSsdConv : quiescent_AdamSsdConv (hAdamSsdConv := Cert.AdamSsdConv.Gen.facts) := fun m ρ _ => Cert.AdamSsdConv.Gen.frame m ρ

theorem quiescent_adamSsdConv_ideal : quiescent_AdamSsdConvIdeal (hAdamSsdConvIdeal := Cert.AdamSsdConvIdeal.Gen.facts) := fun m ρ _ => Cert.AdamSsdConvIdeal.Gen.frame m ρ

theorem quiescent_adamSsdConv_reference : quiescent_AdamSsdConvRefIdeal (hAdamSsdConvRefIdeal := Cert.AdamSsdConvRefIdeal.Gen.facts) := fun m ρ _ =>
  (θ_run _ _ _).mono (fun r h => ⟨fun c => (h c).2.2.2, sem_eq_zero_of_no_sems rfl r.2⟩) (Cert.AdamSsdConvRefIdeal.Value.run (F := Ideal) m ρ)

theorem algebraic_adamSsdConv : algebraic_AdamSsdConvIdeal_AdamSsdConvRefIdeal (hAdamSsdConvIdeal := Cert.AdamSsdConvIdeal.Gen.facts)
    (hAdamSsdConvRefIdeal := Cert.AdamSsdConvRefIdeal.Gen.facts) := by
  intro m ρ m' ρ' _ hargs
  refine ⟨_, _, _, Cert.AdamSsdConvIdeal.Value.run (F := Ideal) m ρ,
    (θ_run _ _ _).mono (fun r h c => ?_) (Cert.AdamSsdConvRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamConv : quiescent_AdamConv (hAdamConv := Cert.AdamConv.Gen.facts) := fun m ρ _ => Cert.AdamConv.Gen.frame m ρ

theorem quiescent_adamConv_ideal : quiescent_AdamConvIdeal (hAdamConvIdeal := Cert.AdamConvIdeal.Gen.facts) := fun m ρ _ => Cert.AdamConvIdeal.Gen.frame m ρ

theorem quiescent_adamConv_reference : quiescent_AdamConvRefIdeal (hAdamConvRefIdeal := Cert.AdamConvRefIdeal.Gen.facts) := fun m ρ _ =>
  (θ_run _ _ _).mono (fun r h => ⟨fun c => (h c).2.2.2, sem_eq_zero_of_no_sems rfl r.2⟩) (Cert.AdamConvRefIdeal.Value.run (F := Ideal) m ρ)

theorem algebraic_adamConv : algebraic_AdamConvIdeal_AdamConvRefIdeal (hAdamConvIdeal := Cert.AdamConvIdeal.Gen.facts)
    (hAdamConvRefIdeal := Cert.AdamConvRefIdeal.Gen.facts) := by
  intro m ρ m' ρ' _ hargs
  refine ⟨_, _, _, Cert.AdamConvIdeal.Value.run (F := Ideal) m ρ,
    (θ_run _ _ _).mono (fun r h c => ?_) (Cert.AdamConvRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamGate : quiescent_AdamGate (hAdamGate := Cert.AdamGate.Gen.facts) := fun m ρ _ => Cert.AdamGate.Gen.frame m ρ

theorem quiescent_adamGate_ideal : quiescent_AdamGateIdeal (hAdamGateIdeal := Cert.AdamGateIdeal.Gen.facts) := fun m ρ _ => Cert.AdamGateIdeal.Gen.frame m ρ

theorem quiescent_adamGate_reference : quiescent_AdamGateRefIdeal (hAdamGateRefIdeal := Cert.AdamGateRefIdeal.Gen.facts) := fun m ρ _ =>
  (θ_run _ _ _).mono (fun r h => ⟨fun c => (h c).2.2.2, sem_eq_zero_of_no_sems rfl r.2⟩) (Cert.AdamGateRefIdeal.Value.run (F := Ideal) m ρ)

theorem algebraic_adamGate : algebraic_AdamGateIdeal_AdamGateRefIdeal (hAdamGateIdeal := Cert.AdamGateIdeal.Gen.facts)
    (hAdamGateRefIdeal := Cert.AdamGateRefIdeal.Gen.facts) := by
  intro m ρ m' ρ' _ hargs
  refine ⟨_, _, _, Cert.AdamGateIdeal.Value.run (F := Ideal) m ρ,
    (θ_run _ _ _).mono (fun r h c => ?_) (Cert.AdamGateRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

theorem quiescent_adamVectors : quiescent_AdamVectors (hAdamVectors := Cert.AdamVectors.Gen.facts) := fun m ρ _ => Cert.AdamVectors.Gen.frame m ρ

theorem quiescent_adamVectors_ideal : quiescent_AdamVectorsIdeal (hAdamVectorsIdeal := Cert.AdamVectorsIdeal.Gen.facts) := fun m ρ _ => Cert.AdamVectorsIdeal.Gen.frame m ρ

theorem quiescent_adamVectors_reference : quiescent_AdamVectorsRefIdeal (hAdamVectorsRefIdeal := Cert.AdamVectorsRefIdeal.Gen.facts) := fun m ρ _ =>
  (θ_run _ _ _).mono (fun r h => ⟨fun c => (h c).2.2.2, sem_eq_zero_of_no_sems rfl r.2⟩) (Cert.AdamVectorsRefIdeal.Value.run (F := Ideal) m ρ)

theorem algebraic_adamVectors : algebraic_AdamVectorsIdeal_AdamVectorsRefIdeal (hAdamVectorsIdeal := Cert.AdamVectorsIdeal.Gen.facts)
    (hAdamVectorsRefIdeal := Cert.AdamVectorsRefIdeal.Gen.facts) := by
  intro m ρ m' ρ' _ hargs
  refine ⟨_, _, _, Cert.AdamVectorsIdeal.Value.run (F := Ideal) m ρ,
    (θ_run _ _ _).mono (fun r h c => ?_) (Cert.AdamVectorsRefIdeal.Value.run (F := Ideal) m' ρ')⟩
  obtain ⟨h0, h1, h2, h3⟩ := hargs c
  refine ⟨(h c).1.trans ?_, (h c).2.1.trans ?_, (h c).2.2.1.trans ?_, (h c).2.2.2⟩
  · rw [h0, h1, h2, h3]; exact changes_eq _ _ _ _ _
  · rw [h1, h2]; exact firsts_eq _ _ _
  · rw [h1, h3]; exact seconds_eq _ _ _

end Cert.Proof

end
-- ==== Proof.Gate.Sigmoid.lean ====
/- The gated unit gate * sigmoid(gate) * up over the extended reals: the logistic function as the call and as the reference
   write it, and the derivative with respect to the gate, which the two arrange differently. -/
module

public import Idealize.ShloMosaic.Lib.Pointwise

@[expose] public section

noncomputable section

namespace Cert.Gate

open Idealize.ShloMosaic

/-- A literal as an extended real. -/
abbrev lit (b : BitVec 32) : EReal := (FloatOps.ofBits .f32 b : Ideal .f32)

theorem lit_zero : lit 0x00000000#32 = 0 := by
  simp [lit, Ideal.ofBits_def, Ideal.ofBits, Ideal.ieee]

theorem lit_one : lit 0x3F800000#32 = 1 := by
  simp [lit, Ideal.ofBits_def, Ideal.ofBits, Ideal.ieee, -EReal.coe_mul]
  norm_num

/-- The logistic function as the call writes it. -/
abbrev sig (x : EReal) : EReal := Ideal.div (lit 0x3F800000#32) (lit 0x3F800000#32 + Ideal.exp (lit 0x00000000#32 - x))

/-- The reference negates where the call subtracts from zero. -/
theorem sig_neg (x : EReal) : Ideal.div (lit 0x3F800000#32) (lit 0x3F800000#32 + Ideal.exp (-x)) = sig x := by
  rw [sig, lit_zero, zero_sub]

theorem sig_coe (x : ℝ) : sig (x : EReal) = ((1 / (1 + Real.exp (-x)) : ℝ) : EReal) := by
  have h : (1 + Real.exp (-x) : ℝ) ≠ 0 := by positivity
  rw [← sig_neg, lit_one, ← EReal.coe_neg, Ideal.exp_coe, ← EReal.coe_one, ← EReal.coe_add, Ideal.div_coe h, ← EReal.coe_mul, one_mul]

theorem sig_top : sig ⊤ = 1 := by
  rw [← sig_neg, lit_one, EReal.neg_top, Ideal.exp_bot, add_zero, ← EReal.coe_one, Ideal.div_coe one_ne_zero]
  simp

theorem sig_bot : sig ⊥ = 0 := by
  rw [← sig_neg, lit_one, EReal.neg_bot, Ideal.exp_top, show (1 : EReal) + ⊤ = ⊤ from EReal.coe_add_top 1]
  simp [Ideal.div]

theorem one_sub_one : (1 : EReal) - 1 = 0 := by
  rw [← EReal.coe_one, ← EReal.coe_sub, sub_self, EReal.coe_zero]

/-- The derivative with respect to the gate, for a finite incoming gradient times up: the call multiplies by
    s * (1 + x * (1 - s)), the reference adds the derivatives of the two factors. -/
theorem gate_gradient (x : EReal) (p : ℝ) :
    (p : EReal) * (sig x * (lit 0x3F800000#32 + x * (lit 0x3F800000#32 - sig x)))
      = (p : EReal) * sig x + x * (p : EReal) * (sig x * (lit 0x3F800000#32 - sig x)) := by
  rw [lit_one]
  induction x using EReal.rec with
  | bot => simp [sig_bot]
  | top => simp [sig_top, one_sub_one]
  | coe x =>
    rw [sig_coe]
    generalize 1 / (1 + Real.exp (-x)) = s
    norm_cast
    ring

end Cert.Gate

end
-- ==== Proof.Gate.Glu.lean ====
/- The feed-forward's gated unit and its gradient: what the calls leave is what the reference's arrays hold, index by
   index. -/
module

public import proofs.«01_k».proof.Proof.Gen.GluIdeal.Value
public import proofs.«01_k».proof.Proof.Gen.GluRefIdeal.Read
public import proofs.«01_k».proof.Proof.Gen.GluDxIdeal.Value
public import proofs.«01_k».proof.Proof.Gen.GluDxRefIdeal.Read
public import proofs.«01_k».proof.Proof.Gate.Sigmoid

@[expose] public section

noncomputable section

namespace Cert.Gate

open Idealize.ShloMosaic

/-- Rows of gates and ups, and rows of one half. -/
abbrev Both : Shape := ⟨2, ![4096, 5632]⟩
abbrev Half : Shape := ⟨2, ![4096, 2816]⟩

/-- Where the gate of an entry stands, and where its up. -/
abbrev gateAt (i : Half.Idx) : Both.Idx := fun a => match a with
  | ⟨0, _⟩ => i 0
  | ⟨1, _⟩ => ⟨(i 1).val, by have h : (i 1).val < 2816 := (i 1).isLt; show (i 1).val < 5632; omega⟩
abbrev upAt (i : Half.Idx) : Both.Idx := fun a => match a with
  | ⟨0, _⟩ => i 0
  | ⟨1, _⟩ => ⟨(i 1).val + 2816, by have h : (i 1).val < 2816 := (i 1).isLt; show (i 1).val + 2816 < 5632; omega⟩

theorem gateAt_eq (i : Half.Idx) : Cert.GluRefIdeal.Read.idx_main_v0 i = gateAt i :=
  funext fun a => match a with | ⟨0, _⟩ => rfl | ⟨1, _⟩ => rfl
theorem upAt_eq (i : Half.Idx) : Cert.GluRefIdeal.Read.idx_main_v1 i = upAt i :=
  funext fun a => match a with | ⟨0, _⟩ => rfl | ⟨1, _⟩ => Fin.ext (Nat.add_comm _ _)

variable (h : Both.Idx → EReal) (d : Half.Idx → EReal)

theorem glu_eq : Cert.GluIdeal.Value.G2 (F := Ideal) h h = Cert.GluRefIdeal.Read.val_main_v4 (F := Ideal) h := funext fun i => by
  have e : Cert.GluRefIdeal.Read.val_main_v4 (F := Ideal) h i
      = h (Cert.GluRefIdeal.Read.idx_main_v0 i) * Ideal.div (lit 0x3F800000#32) (lit 0x3F800000#32 + Ideal.exp (-h (Cert.GluRefIdeal.Read.idx_main_v0 i)))
        * h (Cert.GluRefIdeal.Read.idx_main_v1 i) := by
    simp only [Cert.GluRefIdeal.Read.val_main_v4_apply, Cert.GluRefIdeal.Read.val_main_v3_apply, Cert.GluRefIdeal.Read.val_main_v2_apply, Cert.GluRefIdeal.Read.val_main_call0_v5_apply, Cert.GluRefIdeal.Read.val_main_call0_v4_apply, Cert.GluRefIdeal.Read.val_main_call0_v3_apply, Cert.GluRefIdeal.Read.val_main_call0_v2_apply, Cert.GluRefIdeal.Read.val_main_call0_v1_apply, Cert.GluRefIdeal.Read.val_main_call0_v0_apply, Cert.GluRefIdeal.Read.val_main_v0_apply, Cert.GluRefIdeal.Read.val_main_v1_apply]
    rfl
  rw [e, sig_neg, gateAt_eq, upAt_eq]
  rfl

/-- The gradient of up. -/
theorem up_eq : Cert.GluDxIdeal.Value.G4 (F := Ideal) h d = Cert.GluDxRefIdeal.Read.val_main_v8 (F := Ideal) h d := funext fun i => by
  have e : Cert.GluDxRefIdeal.Read.val_main_v8 (F := Ideal) h d i
      = h (Cert.GluRefIdeal.Read.idx_main_v0 i) * Ideal.div (lit 0x3F800000#32) (lit 0x3F800000#32 + Ideal.exp (-h (Cert.GluRefIdeal.Read.idx_main_v0 i))) * d i := by
    simp only [Cert.GluDxRefIdeal.Read.val_main_v8_apply, Cert.GluDxRefIdeal.Read.val_main_v4_apply, Cert.GluDxRefIdeal.Read.val_main_v2_0_apply, Cert.GluDxRefIdeal.Read.val_main_v2_2_apply, Cert.GluDxRefIdeal.Read.val_main_call0_v4_apply, Cert.GluDxRefIdeal.Read.val_main_call0_v3_apply, Cert.GluDxRefIdeal.Read.val_main_call0_v2_apply, Cert.GluDxRefIdeal.Read.val_main_call0_v1_apply, Cert.GluDxRefIdeal.Read.val_main_call0_v0_apply, Cert.GluDxRefIdeal.Read.val_main_v0_apply]
    rfl
  rw [e, sig_neg, gateAt_eq, mul_comm]
  rfl

/-- The gradient of the gate, where up and the incoming gradient are finite. -/
theorem gate_eq (hu : ∀ i, (((h (upAt i)).toReal : ℝ) : EReal) = h (upAt i)) (hd : ∀ i, (((d i).toReal : ℝ) : EReal) = d i) :
    Cert.GluDxIdeal.Value.G3 (F := Ideal) h d h = Cert.GluDxRefIdeal.Read.val_main_v7 (F := Ideal) h d := funext fun i => by
  have e : Cert.GluDxRefIdeal.Read.val_main_v7 (F := Ideal) h d i
      = d i * h (Cert.GluRefIdeal.Read.idx_main_v1 i)
          * Ideal.div (lit 0x3F800000#32) (lit 0x3F800000#32 + Ideal.exp (-h (Cert.GluRefIdeal.Read.idx_main_v0 i)))
        + h (Cert.GluRefIdeal.Read.idx_main_v0 i) * (d i * h (Cert.GluRefIdeal.Read.idx_main_v1 i))
          * (Ideal.div (lit 0x3F800000#32) (lit 0x3F800000#32 + Ideal.exp (-h (Cert.GluRefIdeal.Read.idx_main_v0 i)))
            * (lit 0x3F800000#32
              - Ideal.div (lit 0x3F800000#32) (lit 0x3F800000#32 + Ideal.exp (-h (Cert.GluRefIdeal.Read.idx_main_v0 i))))) := by
    simp only [Cert.GluDxRefIdeal.Read.val_main_v7_apply, Cert.GluDxRefIdeal.Read.val_main_v6_apply, Cert.GluDxRefIdeal.Read.val_main_call1_v2_apply, Cert.GluDxRefIdeal.Read.val_main_call1_v1_apply, Cert.GluDxRefIdeal.Read.val_main_call1_v0_apply, Cert.GluDxRefIdeal.Read.val_main_v5_apply, Cert.GluDxRefIdeal.Read.val_main_v2_1_apply, Cert.GluDxRefIdeal.Read.val_main_call0_v7_apply, Cert.GluDxRefIdeal.Read.val_main_v2_2_apply, Cert.GluDxRefIdeal.Read.val_main_call0_v4_apply, Cert.GluDxRefIdeal.Read.val_main_call0_v3_apply, Cert.GluDxRefIdeal.Read.val_main_call0_v2_apply, Cert.GluDxRefIdeal.Read.val_main_call0_v1_apply, Cert.GluDxRefIdeal.Read.val_main_call0_v0_apply, Cert.GluDxRefIdeal.Read.val_main_v0_apply, Cert.GluDxRefIdeal.Read.val_main_v1_apply]
    rfl
  rw [e, sig_neg, gateAt_eq, upAt_eq, ← hd i, ← hu i, ← EReal.coe_mul, ← gate_gradient, EReal.coe_mul, hd i, hu i]
  rfl

end Cert.Gate

end
-- ==== Proof.Gate.Loss.lean ====
/- The loss: half the sum over the rows of a row's mean square error, and its gradient. The call goes over the rows in
   eight tiles and adds a tile's part to what the tiles before it left. -/
module

public import proofs.«01_k».proof.Proof.Gen.LossIdeal.Frame
public import proofs.«01_k».proof.Proof.Gen.LossIdeal.Value
public import proofs.«01_k».proof.Proof.Gen.LossRefIdeal.Read
public import proofs.«01_k».proof.Proof.Mm.Tiles
public import proofs.«01_k».proof.Proof.Gate.Sigmoid
public import Idealize.ShloMosaic.Lib.Pointwise
public import Idealize.ShloMosaic.Lib.Pipeline.ValueKit

@[expose] public section

noncomputable section

namespace Cert.LossIdeal.Hand

open Cert.LossIdeal Cert.LossIdeal.Gen Cert.Mm Cert.Gate
open Idealize.ShloMosaic Idealize.ShloMosaic.TcCoe Idealize.SL.Sem

theorem lit_half : lit 0x3F000000#32 = ((1 / 2 : ℝ) : EReal) := by
  simp [lit, Ideal.ofBits_def, Ideal.ofBits, Ideal.ieee, -EReal.coe_mul]
  try norm_num

/-- Half of a sum is the sum of the halves, infinite ones too. -/
theorem half_sum {n : ℕ} (f : Fin n → EReal) : lit 0x3F000000#32 * ∑ i, f i = ∑ i, lit 0x3F000000#32 * f i := by
  rw [lit_half]
  have h0 : (0 : EReal) ≤ ((1 / 2 : ℝ) : EReal) := by rw [← EReal.coe_zero, EReal.coe_le_coe_iff]; norm_num
  induction n with
  | zero => simp
  | succ n ih => rw [Fin.sum_univ_castSucc, Fin.sum_univ_castSucc, EReal.left_distrib_of_nonneg_of_ne_top h0 (EReal.coe_ne_top _), ih]

/-- The gradient of an entry: the reference multiplies twice the error by a half of a row's share. -/
theorem share (e : EReal) :
    Ideal.div (lit 0x3F000000#32 * lit 0x3F800000#32) (lit 0x44800000#32) * (lit 0x40000000#32 * e) = e * lit 0x3A800000#32 := by
  have h2 : lit 0x40000000#32 = ((2 : ℝ) : EReal) := by
    simp [lit, Ideal.ofBits_def, Ideal.ofBits, Ideal.ieee, -EReal.coe_mul]
    try norm_num
  have h3 : lit 0x44800000#32 = ((1024 : ℝ) : EReal) := by
    simp [lit, Ideal.ofBits_def, Ideal.ofBits, Ideal.ieee, -EReal.coe_mul]
    try norm_num
  have h4 : lit 0x3A800000#32 = ((1 / 1024 : ℝ) : EReal) := by
    simp [lit, Ideal.ofBits_def, Ideal.ofBits, Ideal.ieee, -EReal.coe_mul]
    try norm_num
  rw [h2, h3, h4, lit_half, lit_one, mul_one, Ideal.div_coe (by norm_num), ← mul_assoc, ← EReal.coe_mul, ← EReal.coe_mul, mul_comm]
  norm_num

variable (m : (ℓ : Loc nD τ sig) → Buf (Elt Ideal) ℓ) (c : Dev nD)

/-- The arguments: the output and the target. -/
abbrev opY : Vec Ideal S4096x1024 .f32 := m ((c : Thread nD τ).loc main_arg0)
abbrev opT : Vec Ideal S4096x1024 .f32 := m ((c : Thread nD τ).loc main_arg1)

/-- A row's mean square error. -/
def row (i : Fin 4096) : EReal :=
  Ideal.div (∑ k : Fin 1024, (opY m c (ix2 i k) - opT m c (ix2 i k)) * (opY m c (ix2 i k) - opT m c (ix2 i k))) (lit 0x44800000#32)

/-- The results: the gradient, and the loss in every entry of a tile. -/
def grad : Vec Ideal S4096x1024 .f32 := fun i => (opY m c i - opT m c i) * lit 0x3A800000#32
def value : Vec Ideal S8x128 .f32 := fun _ => lit 0x3F000000#32 * ∑ i, row m c i

/-- Which blocks a point reads and writes. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- A point's blocks of the two arrays. -/
def y (t : Fin cfg0.N) : Vec Ideal S512x1024 .f32 := iblk m c 0 t
def z (t : Fin cfg0.N) : Vec Ideal S512x1024 .f32 := iblk m c 1 t

theorem y_eq (t : Fin cfg0.N) (r : Fin 512) (k : Fin 1024) (i : Fin 4096) (j : Fin 1024) (hi : i.val = t.val * 512 + r.val)
    (hj : j.val = 0 * 1024 + k.val) : y m c t (ix2 r k) = opY m c (ix2 i j) :=
  (congrFun (V_main_arg0 m c) _).trans (congrArg _ (idx2 (at_tile (places t).1.1 hi) (at_tile (places t).1.2 hj)))

theorem z_eq (t : Fin cfg0.N) (r : Fin 512) (k : Fin 1024) (i : Fin 4096) (j : Fin 1024) (hi : i.val = t.val * 512 + r.val)
    (hj : j.val = 0 * 1024 + k.val) : z m c t (ix2 r k) = opT m c (ix2 i j) :=
  (congrFun (V_main_arg1 m c) _).trans (congrArg _ (idx2 (at_tile (places t).2.1.1 hi) (at_tile (places t).2.1.2 hj)))

/-- The mean square error of a row of a point's tile. -/
def part (t : Fin cfg0.N) (r : Fin 512) : EReal :=
  Ideal.div (∑ k : Fin 1024, (y m c t (ix2 r k) - z m c t (ix2 r k)) * (y m c t (ix2 r k) - z m c t (ix2 r k))) (lit 0x44800000#32)

theorem part_eq (t : Fin cfg0.N) (r : Fin 512) (i : Fin 4096) (hi : i.val = t.val * 512 + r.val) : part m c t r = row m c i := by
  unfold part row
  refine congrArg (Ideal.div · _) (Finset.sum_congr rfl fun k _ => ?_)
  rw [y_eq m c t r k i k hi (by omega), z_eq m c t r k i k hi (by omega)]

/-- What a point adds to every entry of the loss's tile: half the sum of its rows' errors. -/
theorem pay (u v : Vec Ideal S512x1024 .f32) (a : Fin 8) (b : Fin 128) :
    (k0_pay3 u v (ix2 a b) : EReal) = ∑ r : Fin 512, lit 0x3F000000#32 *
      Ideal.div (∑ k : Fin 1024, (u (ix2 r k) - v (ix2 r k)) * (u (ix2 r k) - v (ix2 r k))) (lit 0x44800000#32) := by
  rw [← half_sum]
  pointwise [k0_pay3, k0_pay1]
  simp only [Finset.univ_unique, Finset.sum_singleton]

/-- What the tile of the loss holds after a point. -/
def acc (n : ℕ) (h : n < cfg0.N) (a : Fin 8) (b : Fin 128) : EReal := (outsAt0 m c n h).2 (ix2 a b)

theorem first (t : Fin cfg0.N) (h : t.val % 8 = 0) (a : Fin 8) (b : Fin 128) :
    acc m c t.val t.isLt a b = ∑ r, lit 0x3F000000#32 * part m c t r := by
  unfold acc
  have hN : t.val < 8 := t.isLt
  rw [outsAt0_A m c t h (by omega)]
  frame_out
  exact pay (y m c t) (z m c t) a b

theorem next (t : Fin cfg0.N) (h : ¬t.val % 8 = 0) (a : Fin 8) (b : Fin 128) :
    acc m c t.val t.isLt a b = acc m c (t.val - 1) (pred_lt t) a b + ∑ r, lit 0x3F000000#32 * part m c t r := by
  unfold acc
  rw [outsAt0_B m c t h (by omega)]
  frame_out
  have e : ∀ w : Vec Ideal S8x128 .f32, (k0_pay4 (y m c t) (z m c t) w (ix2 a b) : EReal) = w (ix2 a b) + k0_pay3 (y m c t) (z m c t) (ix2 a b) := by
    intro w
    pointwise [k0_pay4]
  exact (e _).trans (congrArg _ (pay (y m c t) (z m c t) a b))

/-- After the last point it holds the loss: the sum over the tiles of Tiles.lean, of a row of halves and a column of errors. -/
theorem last (t : Fin cfg0.N) (h : t.val % 8 = 7) (a : Fin 8) (b : Fin 128) : acc m c t.val t.isLt a b = value m c (ix2 a b) := by
  have hN : ∀ t : Fin cfg0.N, t.val < 8 := fun t => t.isLt
  rw [next m c t (by omega)]
  unfold value
  rw [half_sum]
  exact last_tile (M := 8) (N := 128) (tm := 8) (tn := 128) 8 1 (by decide : 4096 = 8 * 512) (fun _ _ => lit 0x3F000000#32) (fun k _ => row m c k)
    (fun _ _ _ => lit 0x3F000000#32) (fun t q _ => part m c t q) (fun _ _ _ _ _ _ _ => rfl)
    (fun t q _ k _ hk _ => part_eq m c t q k (by have := hN t; omega)) (acc m c) (first m c) (fun t h _ => next m c t h) t (by omega) h a b a b
    (by have := hN t; omega) (by have := hN t; omega)

/-- What a point writes of the gradient. -/
theorem step (t : Fin cfg0.N) (r : Fin 512) (k : Fin 1024) : (outsAt0 m c t.val t.isLt).1 (ix2 r k)
    = (y m c t (ix2 r k) - z m c t (ix2 r k)) * lit 0x3A800000#32 := by
  have hN : t.val < 8 := t.isLt
  have e : (k0_pay2 (y m c t) (z m c t) (ix2 r k) : EReal) = (y m c t (ix2 r k) - z m c t (ix2 r k)) * lit 0x3A800000#32 := by
    pointwise [k0_pay2, k0_pay1]
  by_cases h : t.val % 8 = 0
  · rw [outsAt0_A m c t h (by omega)]
    frame_out
    exact e
  · rw [outsAt0_B m c t h (by omega)]
    frame_out
    exact e

theorem flushed2 (t : Fin cfg0.N) (_ : (cfg0.win 2).flush t = true) :
    (dats m 0 c).flushed 2 t = ((cfg0.win 2).blk t).view.read (Elt Ideal) (grad m c) := by
  rw [Value.flushed2]
  funext j
  have e : (cfg0.win 2).cut (grid0.coords t) (outsAt0 m c t.val t.isLt).1 j = (outsAt0 m c t.val t.isLt).1 (ix2 (j 0) (j 1)) :=
    congrArg (outsAt0 m c t.val t.isLt).1 (eq_ix2 j)
  have h0 : (((win0_2.blk t).view.emb j) 0).val = t.val * 512 + (j 0).val := of_tile (places t).2.2.1
  have h1 : (((win0_2.blk t).view.emb j) 1).val = 0 * 1024 + (j 1).val := of_tile (places t).2.2.2
  have e' : (outsAt0 m c t.val t.isLt).1 (ix2 (j 0) (j 1)) = grad m c ((win0_2.blk t).view.emb j) := by
    refine (step m c t (j 0) (j 1)).trans ?_
    rw [y_eq m c t (j 0) (j 1) _ _ h0 h1, z_eq m c t (j 0) (j 1) _ _ h0 h1, ← eq_ix2]
    rfl
  rw [View.read_apply]
  exact (e.trans e').trans (cast_eq rfl _).symm

theorem flushed3 (t : Fin cfg0.N) (hf : (cfg0.win 3).flush t = true) :
    (dats m 0 c).flushed 3 t = ((cfg0.win 3).blk t).view.read (Elt Ideal) (value m c) := by
  rw [Value.flushed3]
  funext j
  have e : (cfg0.win 3).cut (grid0.coords t) (outsAt0 m c t.val t.isLt).2 j = (outsAt0 m c t.val t.isLt).2 (ix2 (j 0) (j 1)) :=
    congrArg (outsAt0 m c t.val t.isLt).2 (eq_ix2 j)
  rw [View.read_apply]
  exact (e.trans (last m c t ((flush0_3 t).mp hf) (j 0) (j 1))).trans (cast_eq rfl _).symm

/-- So the results end holding the gradient and the loss. -/
theorem final2 : (dats m 0 c).arrAt 2 cfg0.N = grad m c :=
  have hw : (cfg0.win 2).CoversWhere fun _ => True := by decide +kernel
  (dats m 0 c).arrAt_eq_of_cover 2 (grad m c) (flushed2 m c) fun i => (hw.covered_iff i).2 trivial

theorem final3 : (dats m 0 c).arrAt 3 cfg0.N = value m c :=
  have hw : (cfg0.win 3).CoversWhere fun _ => True := by decide +kernel
  (dats m 0 c).arrAt_eq_of_cover 3 (value m c) (flushed3 m c) fun i => (hw.covered_iff i).2 trivial

/-- The call's run, with its results. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

/-- The reference computes the same. -/
theorem grad_eq : grad m c = Cert.LossRefIdeal.Read.val_main_v14 (F := Ideal) (opY m c) (opT m c) := funext fun i =>
  (share (opY m c i - opT m c i)).symm

theorem row_eq (i : Cert.LossRefIdeal.S4096.Idx) : Cert.LossRefIdeal.Read.val_main_v6 (F := Ideal) (opY m c) (opT m c) i = row m c (i 0) := by
  rw [Cert.LossRefIdeal.Read.val_main_v6_apply, Cert.LossRefIdeal.Read.val_main_v4_apply, Cert.LossRefIdeal.Read.val_main_cst_0_apply,
    show (FloatOps.ofBits .f32 0x00000000#32 : Ideal .f32) = (0 : EReal) from lit_zero, zero_add]
  refine congrArg₂ Ideal.div (Finset.sum_congr rfl fun k _ => ?_) rfl
  exact congrArg (fun j => (opY m c j - opT m c j) * (opY m c j - opT m c j)) (eq_ix2 _)

theorem value_eq : value m c = Cert.LossRefIdeal.Read.val_main_v15 (F := Ideal) (opY m c) (opT m c) := funext fun i => by
  rw [Cert.LossRefIdeal.Read.val_main_v15_apply, Cert.LossRefIdeal.Read.val_main_v8_apply, Cert.LossRefIdeal.Read.val_main_v7_apply,
    Cert.LossRefIdeal.Read.val_main_cst_2_apply, show (FloatOps.ofBits .f32 0x00000000#32 : Ideal .f32) = (0 : EReal) from lit_zero, zero_add]
  refine congrArg (lit 0x3F000000#32 * ·) ?_
  refine Eq.trans ?_ (Finset.sum_congr rfl fun j _ => (row_eq m c j).symm)
  exact (sum_idx1 fun j : Cert.LossRefIdeal.S4096.Idx => row m c (j 0)).symm

end Cert.LossIdeal.Hand

end
-- ==== Proof.Gate.Claims.lean ====
/- The claims about the feed-forward's gated unit and its gradient, and about the loss. -/
module

public import proofs.«01_k».proof.Defs
public import proofs.«01_k».proof.Proof.Gen.GluDx
public import proofs.«01_k».proof.Proof.Gen.GluDx.Frame
public import proofs.«01_k».proof.Proof.Gen.GluDxIdeal
public import proofs.«01_k».proof.Proof.Gen.GluDxIdeal.Frame
public import proofs.«01_k».proof.Proof.Gen.GluDxIdeal.Value
public import proofs.«01_k».proof.Proof.Gen.GluDxRefIdeal
public import proofs.«01_k».proof.Proof.Gen.GluDxRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Pre_finite_gate
public import proofs.«01_k».proof.Proof.Gate.Glu
public import proofs.«01_k».proof.Proof.Gate.Loss
public import proofs.«01_k».proof.Proof.Equal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Gate

theorem quiescent_gluDx : quiescent_GluDx (hGluDx := Cert.GluDx.Gen.facts) := fun m ρ _ => Cert.GluDx.Gen.frame m ρ

theorem quiescent_gluDx_ideal : quiescent_GluDxIdeal (hGluDxIdeal := Cert.GluDxIdeal.Gen.facts) := fun m ρ _ => Cert.GluDxIdeal.Gen.frame m ρ

theorem quiescent_gluDx_reference : quiescent_GluDxRefIdeal (hGluDxRefIdeal := Cert.GluDxRefIdeal.Gen.facts) := fun m ρ _ =>
  (θ_run _ _ _).mono (fun r h => ⟨fun c => (h c).2.2, sem_eq_zero_of_no_sems rfl r.2⟩) (Cert.GluDxRefIdeal.Value.run (F := Ideal) m ρ)

theorem quiescent_glu : quiescent_Glu (hGlu := Cert.Glu.Gen.facts) := fun m ρ _ => Cert.Glu.Gen.frame m ρ

theorem quiescent_glu_ideal : quiescent_GluIdeal (hGluIdeal := Cert.GluIdeal.Gen.facts) := fun m ρ _ => Cert.GluIdeal.Gen.frame m ρ

theorem quiescent_glu_reference : quiescent_GluRefIdeal (hGluRefIdeal := Cert.GluRefIdeal.Gen.facts) := fun m ρ _ =>
  (θ_run _ _ _).mono (fun r h => ⟨fun c => (h c).2, sem_eq_zero_of_no_sems rfl r.2⟩) (Cert.GluRefIdeal.Value.run (F := Ideal) m ρ)

theorem quiescent_loss : quiescent_Loss (hLoss := Cert.Loss.Gen.facts) := fun m ρ _ => Cert.Loss.Gen.frame m ρ

theorem quiescent_loss_ideal : quiescent_LossIdeal (hLossIdeal := Cert.LossIdeal.Gen.facts) := fun m ρ _ => Cert.LossIdeal.Gen.frame m ρ

theorem quiescent_loss_reference : quiescent_LossRefIdeal (hLossRefIdeal := Cert.LossRefIdeal.Gen.facts) := fun m ρ _ =>
  (θ_run _ _ _).mono (fun r h => ⟨fun c => (h c).2.2, sem_eq_zero_of_no_sems rfl r.2⟩) (Cert.LossRefIdeal.Value.run (F := Ideal) m ρ)

/-- Finite ups and a finite incoming gradient are real ones. -/
theorem gate_reals (a : Both.Idx → EReal) (d : Half.Idx → EReal)
    (h : (Cert.Pre_finite_gate.fn (F := Ideal) a d).1 = (fun _ => 1#1) ∧ (Cert.Pre_finite_gate.fn (F := Ideal) a d).2 = (fun _ => 1#1)) :
    (∀ i, (((a (upAt i)).toReal : ℝ) : EReal) = a (upAt i)) ∧ ∀ i, (((d i).toReal : ℝ) : EReal) = d i :=
  ⟨fun i => by
    have e := Cert.KernelIdeal.Hand.real_of_lt (congrFun h.1 i)
    have e' : Cert.GluDxRefIdeal.Read.val_main_v1 (F := Ideal) a i = a (upAt i) :=
      (Cert.GluDxRefIdeal.Read.val_main_v1_apply (F := Ideal) a i).trans (congrArg a (upAt_eq i))
    rw [← e']
    exact e,
  fun i => Cert.KernelIdeal.Hand.real_of_lt (congrFun h.2 i)⟩

/-- The gradients of the two halves. -/
theorem algebraic_gluDx : algebraic_GluDxIdeal_GluDxRefIdeal_pre_finite_gate (hGluDxIdeal := Cert.GluDxIdeal.Gen.facts)
    (hGluDxRefIdeal := Cert.GluDxRefIdeal.Gen.facts) (hPre_finite_gate := Cert.Pre_finite_gate.Gen.facts) := by
  intro m ρ m' ρ' hpre hargs
  refine ⟨_, _, Cert.GluDxIdeal.Value.run (F := Ideal) m ρ,
    (θ_run _ _ _).mono (fun r h c => ?_) (Cert.GluDxRefIdeal.Value.run (F := Ideal) m' ρ')⟩
  obtain ⟨h0, h1⟩ := hargs c
  obtain ⟨hu, hd⟩ := gate_reals _ _ (hpre c)
  refine ⟨(h c).1.trans ?_, (h c).2.1.trans ?_, (h c).2.2⟩
  · rw [h0, h1]; exact (gate_eq _ _ hu hd).symm
  · rw [h0, h1]; exact (up_eq _ _).symm

/-- The gated unit. -/
theorem algebraic_glu : algebraic_GluIdeal_GluRefIdeal (hGluIdeal := Cert.GluIdeal.Gen.facts)
    (hGluRefIdeal := Cert.GluRefIdeal.Gen.facts) := by
  intro m ρ m' ρ' _ hargs
  refine ⟨_, Cert.GluIdeal.Value.run (F := Ideal) m ρ,
    (θ_run _ _ _).mono (fun r h c => ?_) (Cert.GluRefIdeal.Value.run (F := Ideal) m' ρ')⟩
  have h0 := hargs c
  refine ⟨(h c).1.trans ?_, (h c).2⟩
  rw [h0]; exact (glu_eq _).symm

/-- The loss and its gradient. -/
theorem algebraic_loss : algebraic_LossIdeal_LossRefIdeal (hLossIdeal := Cert.LossIdeal.Gen.facts)
    (hLossRefIdeal := Cert.LossRefIdeal.Gen.facts) := by
  intro m ρ m' ρ' _ hargs
  refine ⟨_, _, Cert.LossIdeal.Hand.run m ρ,
    (θ_run _ _ _).mono (fun r h c => ?_) (Cert.LossRefIdeal.Value.run (F := Ideal) m' ρ')⟩
  obtain ⟨h0, h1⟩ := hargs c
  refine ⟨(h c).1.trans ?_, (h c).2.1.trans ?_, (h c).2.2⟩
  · rw [h0, h1]; exact (Cert.LossIdeal.Hand.grad_eq m c).symm
  · rw [h0, h1]; exact (Cert.LossIdeal.Hand.value_eq m c).symm

end Cert.Proof

end
-- ==== Proof.lean ====
/- The claims of Defs.lean, each from its module: the kernel runs and leaves its arguments alone, over machine words
   (Proof/K/) and over extended reals (Proof/Body.lean); the reference does; the named literal is the one it stands for; and on
   finite arguments the two programs end with equal results (Proof/Equal.lean). Those about the products with the weights
   come from Proof/Mm/, those about the optimiser's calls from Proof/Adam/, those about the gated unit and the loss from
   Proof/Gate/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.K.Frame
public import proofs.«01_k».proof.Proof.Final
public import proofs.«01_k».proof.Proof.Equal
public import proofs.«01_k».proof.Proof.Mm.Claims
public import proofs.«01_k».proof.Proof.Adam.Claims
public import proofs.«01_k».proof.Proof.Gate.Claims
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel over machine words. -/
theorem quiescent_kernel : quiescent_Kernel (hKernel := Cert.Kernel.Gen.facts) := fun m ρ _ => Cert.Kernel.Hand.run_args m ρ

/-- The kernel over extended reals. -/
theorem quiescent_ideal : quiescent_KernelIdeal (hKernelIdeal := Cert.KernelIdeal.Gen.facts) := fun m ρ _ =>
  (θ_run _ _ _).mono (fun _ h => ⟨fun c => (h.1 c).2.2.2, h.2⟩) (Cert.KernelIdeal.Hand.run_results m ρ)

/-- The reference, which has no semaphore. -/
theorem quiescent_reference : quiescent_ReferenceIdeal (hReferenceIdeal := Cert.ReferenceIdeal.Gen.facts) := fun m ρ _ =>
  (θ_run _ _ _).mono (fun r h => ⟨fun c => (h c).2.2.2, sem_eq_zero_of_no_sems rfl r.2⟩) (Cert.ReferenceIdeal.Value.run (F := Ideal) m ρ)

/-- The literal named "mask" stands for −∞. -/
theorem preserves : preserves_Kernel_KernelIdeal := IdealRules.named_const.statement Cert.KernelIdeal.κ "mask" .f32 0xF149F2CA#32 ⊥ rfl

/-- On finite arguments the two programs end with equal results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨Cert.KernelIdeal.Hand.resQ m, Cert.KernelIdeal.Hand.resK m, Cert.KernelIdeal.Hand.resV m,
    (θ_run _ _ _).mono (fun _ h => h.1) (Cert.KernelIdeal.Hand.run_results m ρ),
    (θ_run _ _ _).mono (fun r h c => ?_) (Cert.ReferenceIdeal.Value.run (F := Ideal) m' ρ')⟩
  obtain ⟨q, k, v, g, hq, hk, hv, hg⟩ := Cert.KernelIdeal.Hand.reals _ _ _ _ (hpre c)
  obtain ⟨h0, h1, h2, h3⟩ := hargs c
  refine ⟨(h c).1.trans ?_, (h c).2.1.trans ?_, (h c).2.2.1.trans ?_, (h c).2.2.2⟩
  · rw [Cert.KernelIdeal.Hand.resQ_eq m c q k v g hq hk hv hg, Cert.ReferenceIdeal.Read.val_main_v67_eq]
    rw [h0, h1, h2, h3, hq, hk, hv, hg]
  · rw [Cert.KernelIdeal.Hand.resK_eq m c q k v g hq hk hv hg, Cert.ReferenceIdeal.Read.val_main_v70_eq]
    rw [h0, h1, h2, h3, hq, hk, hv, hg]
  · rw [Cert.KernelIdeal.Hand.resV_eq m c q k g hq hk hg, Cert.ReferenceIdeal.Read.val_main_v72_eq]
    rw [h0, h1, h3, hq, hk, hg]

theorem claim : Cert.Claim := ⟨Cert.Kernel.Gen.facts, Cert.KernelIdeal.Gen.facts, Cert.ReferenceIdeal.Gen.facts,
  Cert.FfnInDx.Gen.facts, Cert.FfnInDxIdeal.Gen.facts, Cert.FfnInDxRefIdeal.Gen.facts,
  Cert.FfnInDw.Gen.facts, Cert.FfnInDwIdeal.Gen.facts, Cert.FfnInDwRefIdeal.Gen.facts,
  Cert.FfnOutDx.Gen.facts, Cert.FfnOutDxIdeal.Gen.facts, Cert.FfnOutDxRefIdeal.Gen.facts,
  Cert.FfnOutDw.Gen.facts, Cert.FfnOutDwIdeal.Gen.facts, Cert.FfnOutDwRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.InWide.Gen.facts, Cert.InWideIdeal.Gen.facts, Cert.InWideRefIdeal.Gen.facts,
  Cert.InGate.Gen.facts, Cert.InGateIdeal.Gen.facts, Cert.InGateRefIdeal.Gen.facts,
  Cert.SquareDx.Gen.facts, Cert.SquareDxIdeal.Gen.facts, Cert.SquareDxRefIdeal.Gen.facts,
  Cert.SquareDw.Gen.facts, Cert.SquareDwIdeal.Gen.facts, Cert.SquareDwRefIdeal.Gen.facts,
  Cert.ResidualDx.Gen.facts, Cert.ResidualDxIdeal.Gen.facts, Cert.ResidualDxRefIdeal.Gen.facts,
  Cert.ResidualDw.Gen.facts, Cert.ResidualDwIdeal.Gen.facts, Cert.ResidualDwRefIdeal.Gen.facts,
  Cert.Square.Gen.facts, Cert.SquareIdeal.Gen.facts, Cert.SquareRefIdeal.Gen.facts,
  Cert.Residual.Gen.facts, Cert.ResidualIdeal.Gen.facts, Cert.ResidualRefIdeal.Gen.facts,
  Cert.MlaOutDw.Gen.facts, Cert.MlaOutDwIdeal.Gen.facts, Cert.MlaOutDwRefIdeal.Gen.facts,
  Cert.MlaOut.Gen.facts, Cert.MlaOutIdeal.Gen.facts, Cert.MlaOutRefIdeal.Gen.facts,
  Cert.QbDx.Gen.facts, Cert.QbDxIdeal.Gen.facts, Cert.QbDxRefIdeal.Gen.facts,
  Cert.QbDw.Gen.facts, Cert.QbDwIdeal.Gen.facts, Cert.QbDwRefIdeal.Gen.facts,
  Cert.KvbDx.Gen.facts, Cert.KvbDxIdeal.Gen.facts, Cert.KvbDxRefIdeal.Gen.facts,
  Cert.KvbDw.Gen.facts, Cert.KvbDwIdeal.Gen.facts, Cert.KvbDwRefIdeal.Gen.facts,
  Cert.CrossDx.Gen.facts, Cert.CrossDxIdeal.Gen.facts, Cert.CrossDxRefIdeal.Gen.facts,
  Cert.CrossDw.Gen.facts, Cert.CrossDwIdeal.Gen.facts, Cert.CrossDwRefIdeal.Gen.facts,
  Cert.Qb.Gen.facts, Cert.QbIdeal.Gen.facts, Cert.QbRefIdeal.Gen.facts,
  Cert.Kvb.Gen.facts, Cert.KvbIdeal.Gen.facts, Cert.KvbRefIdeal.Gen.facts,
  Cert.Cross.Gen.facts, Cert.CrossIdeal.Gen.facts, Cert.CrossRefIdeal.Gen.facts,
  Cert.InLatent.Gen.facts, Cert.InLatentIdeal.Gen.facts, Cert.InLatentRefIdeal.Gen.facts,
  Cert.InKv.Gen.facts, Cert.InKvIdeal.Gen.facts, Cert.InKvRefIdeal.Gen.facts,
  Cert.InNarrow.Gen.facts, Cert.InNarrowIdeal.Gen.facts, Cert.InNarrowRefIdeal.Gen.facts,
  Cert.XattnOut.Gen.facts, Cert.XattnOutIdeal.Gen.facts, Cert.XattnOutRefIdeal.Gen.facts,
  Cert.XattnOutDw.Gen.facts, Cert.XattnOutDwIdeal.Gen.facts, Cert.XattnOutDwRefIdeal.Gen.facts,
  Cert.InDwLayer1.Gen.facts, Cert.InDwLayer1Ideal.Gen.facts, Cert.InDwLayer1RefIdeal.Gen.facts,
  Cert.FfnInDwLayer1.Gen.facts, Cert.FfnInDwLayer1Ideal.Gen.facts, Cert.FfnInDwLayer1RefIdeal.Gen.facts,
  Cert.FfnOutDwLayer1.Gen.facts, Cert.FfnOutDwLayer1Ideal.Gen.facts, Cert.FfnOutDwLayer1RefIdeal.Gen.facts,
  Cert.InDwLayer2.Gen.facts, Cert.InDwLayer2Ideal.Gen.facts, Cert.InDwLayer2RefIdeal.Gen.facts,
  Cert.FfnInDwLayer2.Gen.facts, Cert.FfnInDwLayer2Ideal.Gen.facts, Cert.FfnInDwLayer2RefIdeal.Gen.facts,
  Cert.FfnOutDwLayer2.Gen.facts, Cert.FfnOutDwLayer2Ideal.Gen.facts, Cert.FfnOutDwLayer2RefIdeal.Gen.facts,
  Cert.AdamIn.Gen.facts, Cert.AdamInIdeal.Gen.facts, Cert.AdamInRefIdeal.Gen.facts,
  Cert.AdamQ.Gen.facts, Cert.AdamQIdeal.Gen.facts, Cert.AdamQRefIdeal.Gen.facts,
  Cert.AdamKv.Gen.facts, Cert.AdamKvIdeal.Gen.facts, Cert.AdamKvRefIdeal.Gen.facts,
  Cert.AdamCross.Gen.facts, Cert.AdamCrossIdeal.Gen.facts, Cert.AdamCrossRefIdeal.Gen.facts,
  Cert.AdamFfnIn.Gen.facts, Cert.AdamFfnInIdeal.Gen.facts, Cert.AdamFfnInRefIdeal.Gen.facts,
  Cert.AdamSquare.Gen.facts, Cert.AdamSquareIdeal.Gen.facts, Cert.AdamSquareRefIdeal.Gen.facts,
  Cert.AdamFfnOut.Gen.facts, Cert.AdamFfnOutIdeal.Gen.facts, Cert.AdamFfnOutRefIdeal.Gen.facts,
  Cert.AdamSsdConv.Gen.facts, Cert.AdamSsdConvIdeal.Gen.facts, Cert.AdamSsdConvRefIdeal.Gen.facts,
  Cert.AdamConv.Gen.facts, Cert.AdamConvIdeal.Gen.facts, Cert.AdamConvRefIdeal.Gen.facts,
  Cert.AdamGate.Gen.facts, Cert.AdamGateIdeal.Gen.facts, Cert.AdamGateRefIdeal.Gen.facts,
  Cert.AdamVectors.Gen.facts, Cert.AdamVectorsIdeal.Gen.facts, Cert.AdamVectorsRefIdeal.Gen.facts,
  Cert.GluDx.Gen.facts, Cert.GluDxIdeal.Gen.facts, Cert.GluDxRefIdeal.Gen.facts,
  Cert.Glu.Gen.facts, Cert.GluIdeal.Gen.facts, Cert.GluRefIdeal.Gen.facts,
  Cert.Loss.Gen.facts, Cert.LossIdeal.Gen.facts, Cert.LossRefIdeal.Gen.facts,
  Cert.Pre_finite.Gen.facts, Cert.Pre_finite_gate.Gen.facts,
  quiescent_kernel, quiescent_ideal, fun m ρ _ => quiescent_ideal m ρ trivial, quiescent_reference,
  fun m ρ _ => quiescent_reference m ρ trivial,
  quiescent_ffnInDx, quiescent_ffnInDx_ideal, quiescent_ffnInDx_reference,
  quiescent_ffnInDw, quiescent_ffnInDw_ideal, quiescent_ffnInDw_reference,
  quiescent_ffnOutDx, quiescent_ffnOutDx_ideal, quiescent_ffnOutDx_reference,
  quiescent_ffnOutDw, quiescent_ffnOutDw_ideal, quiescent_ffnOutDw_reference,
  quiescent_inDx, quiescent_inDx_ideal, quiescent_inDx_reference,
  quiescent_inDw, quiescent_inDw_ideal, quiescent_inDw_reference,
  quiescent_ffnIn, quiescent_ffnIn_ideal, quiescent_ffnIn_reference,
  quiescent_ffnOut, quiescent_ffnOut_ideal, quiescent_ffnOut_reference,
  quiescent_inWide, quiescent_inWide_ideal, quiescent_inWide_reference,
  quiescent_inGate, quiescent_inGate_ideal, quiescent_inGate_reference,
  quiescent_squareDx, quiescent_squareDx_ideal, quiescent_squareDx_reference,
  quiescent_squareDw, quiescent_squareDw_ideal, quiescent_squareDw_reference,
  quiescent_residualDx, quiescent_residualDx_ideal, quiescent_residualDx_reference,
  quiescent_residualDw, quiescent_residualDw_ideal, quiescent_residualDw_reference,
  quiescent_square, quiescent_square_ideal, quiescent_square_reference,
  quiescent_residual, quiescent_residual_ideal, quiescent_residual_reference,
  quiescent_mlaOutDw, quiescent_mlaOutDw_ideal, quiescent_mlaOutDw_reference,
  quiescent_mlaOut, quiescent_mlaOut_ideal, quiescent_mlaOut_reference,
  quiescent_qbDx, quiescent_qbDx_ideal, quiescent_qbDx_reference,
  quiescent_qbDw, quiescent_qbDw_ideal, quiescent_qbDw_reference,
  quiescent_kvbDx, quiescent_kvbDx_ideal, quiescent_kvbDx_reference,
  quiescent_kvbDw, quiescent_kvbDw_ideal, quiescent_kvbDw_reference,
  quiescent_crossDx, quiescent_crossDx_ideal, quiescent_crossDx_reference,
  quiescent_crossDw, quiescent_crossDw_ideal, quiescent_crossDw_reference,
  quiescent_qb, quiescent_qb_ideal, quiescent_qb_reference,
  quiescent_kvb, quiescent_kvb_ideal, quiescent_kvb_reference,
  quiescent_cross, quiescent_cross_ideal, quiescent_cross_reference,
  quiescent_inLatent, quiescent_inLatent_ideal, quiescent_inLatent_reference,
  quiescent_inKv, quiescent_inKv_ideal, quiescent_inKv_reference,
  quiescent_inNarrow, quiescent_inNarrow_ideal, quiescent_inNarrow_reference,
  quiescent_xattnOut, quiescent_xattnOut_ideal, quiescent_xattnOut_reference,
  quiescent_xattnOutDw, quiescent_xattnOutDw_ideal, quiescent_xattnOutDw_reference,
  quiescent_inDwLayer1, quiescent_inDwLayer1_ideal, quiescent_inDwLayer1_reference,
  quiescent_ffnInDwLayer1, quiescent_ffnInDwLayer1_ideal, quiescent_ffnInDwLayer1_reference,
  quiescent_ffnOutDwLayer1, quiescent_ffnOutDwLayer1_ideal, quiescent_ffnOutDwLayer1_reference,
  quiescent_inDwLayer2, quiescent_inDwLayer2_ideal, quiescent_inDwLayer2_reference,
  quiescent_ffnInDwLayer2, quiescent_ffnInDwLayer2_ideal, quiescent_ffnInDwLayer2_reference,
  quiescent_ffnOutDwLayer2, quiescent_ffnOutDwLayer2_ideal, quiescent_ffnOutDwLayer2_reference,
  quiescent_adamIn, quiescent_adamIn_ideal, quiescent_adamIn_reference,
  quiescent_adamQ, quiescent_adamQ_ideal, quiescent_adamQ_reference,
  quiescent_adamKv, quiescent_adamKv_ideal, quiescent_adamKv_reference,
  quiescent_adamCross, quiescent_adamCross_ideal, quiescent_adamCross_reference,
  quiescent_adamFfnIn, quiescent_adamFfnIn_ideal, quiescent_adamFfnIn_reference,
  quiescent_adamSquare, quiescent_adamSquare_ideal, quiescent_adamSquare_reference,
  quiescent_adamFfnOut, quiescent_adamFfnOut_ideal, quiescent_adamFfnOut_reference,
  quiescent_adamSsdConv, quiescent_adamSsdConv_ideal, quiescent_adamSsdConv_reference,
  quiescent_adamConv, quiescent_adamConv_ideal, quiescent_adamConv_reference,
  quiescent_adamGate, quiescent_adamGate_ideal, quiescent_adamGate_reference,
  quiescent_adamVectors, quiescent_adamVectors_ideal, quiescent_adamVectors_reference,
  quiescent_gluDx, quiescent_gluDx_ideal, fun m ρ _ => quiescent_gluDx_ideal m ρ trivial,
  quiescent_gluDx_reference, fun m ρ _ => quiescent_gluDx_reference m ρ trivial,
  quiescent_glu, quiescent_glu_ideal, quiescent_glu_reference,
  quiescent_loss, quiescent_loss_ideal, quiescent_loss_reference,
  preserves, algebraic,
  trivial, algebraic_ffnInDx,
  trivial, algebraic_ffnInDw,
  trivial, algebraic_ffnOutDx,
  trivial, algebraic_ffnOutDw,
  trivial, algebraic_inDx,
  trivial, algebraic_inDw,
  trivial, algebraic_ffnIn,
  trivial, algebraic_ffnOut,
  trivial, algebraic_inWide,
  trivial, algebraic_inGate,
  trivial, algebraic_squareDx,
  trivial, algebraic_squareDw,
  trivial, algebraic_residualDx,
  trivial, algebraic_residualDw,
  trivial, algebraic_square,
  trivial, algebraic_residual,
  trivial, algebraic_mlaOutDw,
  trivial, algebraic_mlaOut,
  trivial, algebraic_qbDx,
  trivial, algebraic_qbDw,
  trivial, algebraic_kvbDx,
  trivial, algebraic_kvbDw,
  trivial, algebraic_crossDx,
  trivial, algebraic_crossDw,
  trivial, algebraic_qb,
  trivial, algebraic_kvb,
  trivial, algebraic_cross,
  trivial, algebraic_inLatent,
  trivial, algebraic_inKv,
  trivial, algebraic_inNarrow,
  trivial, algebraic_xattnOut,
  trivial, algebraic_xattnOutDw,
  trivial, algebraic_inDwLayer1,
  trivial, algebraic_ffnInDwLayer1,
  trivial, algebraic_ffnOutDwLayer1,
  trivial, algebraic_inDwLayer2,
  trivial, algebraic_ffnInDwLayer2,
  trivial, algebraic_ffnOutDwLayer2,
  trivial, algebraic_adamIn,
  trivial, algebraic_adamQ,
  trivial, algebraic_adamKv,
  trivial, algebraic_adamCross,
  trivial, algebraic_adamFfnIn,
  trivial, algebraic_adamSquare,
  trivial, algebraic_adamFfnOut,
  trivial, algebraic_adamSsdConv,
  trivial, algebraic_adamConv,
  trivial, algebraic_adamGate,
  trivial, algebraic_adamVectors,
  trivial, algebraic_gluDx,
  trivial, algebraic_glu,
  trivial, algebraic_loss⟩

end Cert.Proof

end
